-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attn_finite [hPre_attn_finite : Cert.Pre_attn_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attn_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attn_finite [hPre_attn_finite : Cert.Pre_attn_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attn_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_attn_finite [hKernel2Ideal : Cert.Kernel2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attn_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_attn_finite [hReference2Ideal : Cert.Reference2Ideal.Facts] [hPre_attn_finite : Cert.Pre_attn_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attn_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11)
      ∧ r.2.mem ((c.tc : Thread Cert.Kernel4.nD Cert.Kernel4.τ).loc Cert.Kernel4.main_arg12) = m ((c.tc : Thread Cert.Kernel4.nD Cert.Kernel4.τ).loc Cert.Kernel4.main_arg12)
      ∧ r.2.mem ((c.tc : Thread Cert.Kernel4.nD Cert.Kernel4.τ).loc Cert.Kernel4.main_arg13) = m ((c.tc : Thread Cert.Kernel4.nD Cert.Kernel4.τ).loc Cert.Kernel4.main_arg13))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11)
      ∧ r.2.mem ((c.tc : Thread Cert.Kernel4Ideal.nD Cert.Kernel4Ideal.τ).loc Cert.Kernel4Ideal.main_arg12) = m ((c.tc : Thread Cert.Kernel4Ideal.nD Cert.Kernel4Ideal.τ).loc Cert.Kernel4Ideal.main_arg12)
      ∧ r.2.mem ((c.tc : Thread Cert.Kernel4Ideal.nD Cert.Kernel4Ideal.τ).loc Cert.Kernel4Ideal.main_arg13) = m ((c.tc : Thread Cert.Kernel4Ideal.nD Cert.Kernel4Ideal.τ).loc Cert.Kernel4Ideal.main_arg13))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11)
      ∧ r.2.mem ((c.tc : Thread Cert.Reference4Ideal.nD Cert.Reference4Ideal.τ).loc Cert.Reference4Ideal.main_arg12) = m ((c.tc : Thread Cert.Reference4Ideal.nD Cert.Reference4Ideal.τ).loc Cert.Reference4Ideal.main_arg12)
      ∧ r.2.mem ((c.tc : Thread Cert.Reference4Ideal.nD Cert.Reference4Ideal.τ).loc Cert.Reference4Ideal.main_arg13) = m ((c.tc : Thread Cert.Reference4Ideal.nD Cert.Reference4Ideal.τ).loc Cert.Reference4Ideal.main_arg13))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v102)) (v1 : (c : Dev Cert.KernelIdeal.nD) → Buf (Elt Ideal) ((c.tc : Thread Cert.KernelIdeal.nD Cert.KernelIdeal.τ).loc Cert.KernelIdeal.main_v91)) (v2 : (c : Dev Cert.KernelIdeal.nD) → Buf (Elt Ideal) ((c.tc : Thread Cert.KernelIdeal.nD Cert.KernelIdeal.τ).loc Cert.KernelIdeal.main_v104)) (v3 : (c : Dev Cert.KernelIdeal.nD) → Buf (Elt Ideal) ((c.tc : Thread Cert.KernelIdeal.nD Cert.KernelIdeal.τ).loc Cert.KernelIdeal.main_v94)) (v4 : (c : Dev Cert.KernelIdeal.nD) → Buf (Elt Ideal) ((c.tc : Thread Cert.KernelIdeal.nD Cert.KernelIdeal.τ).loc Cert.KernelIdeal.main_v106)) (v5 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v102) = v0 c
          ∧ r.2.mem ((c.tc : Thread Cert.KernelIdeal.nD Cert.KernelIdeal.τ).loc Cert.KernelIdeal.main_v91) = v1 c
          ∧ r.2.mem ((c.tc : Thread Cert.KernelIdeal.nD Cert.KernelIdeal.τ).loc Cert.KernelIdeal.main_v104) = v2 c
          ∧ r.2.mem ((c.tc : Thread Cert.KernelIdeal.nD Cert.KernelIdeal.τ).loc Cert.KernelIdeal.main_v94) = v3 c
          ∧ r.2.mem ((c.tc : Thread Cert.KernelIdeal.nD Cert.KernelIdeal.τ).loc Cert.KernelIdeal.main_v106) = v4 c
          ∧ r.2.mem ((c.tc : Thread Cert.KernelIdeal.nD Cert.KernelIdeal.τ).loc Cert.KernelIdeal.main_v101) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v154) = v0 c
          ∧ r.2.mem ((c.tc : Thread Cert.ReferenceIdeal.nD Cert.ReferenceIdeal.τ).loc Cert.ReferenceIdeal.main_v152) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v127) = v3 c
          ∧ r.2.mem ((c.tc : Thread Cert.ReferenceIdeal.nD Cert.ReferenceIdeal.τ).loc Cert.ReferenceIdeal.main_v109) = v4 c
          ∧ r.2.mem ((c.tc : Thread Cert.ReferenceIdeal.nD Cert.ReferenceIdeal.τ).loc Cert.ReferenceIdeal.main_v102) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def preserves_Kernel2_Kernel2Ideal : Prop :=
  IdealRules.named_const.Statement Cert.Kernel2Ideal.κ "unscale" .f32 0x3F317218#32 ((Real.log 2 : ℝ) : EReal)

def algebraic_Kernel2Ideal_Reference2Ideal_pre_attn_finite [hKernel2Ideal : Cert.Kernel2Ideal.Facts] [hReference2Ideal : Cert.Reference2Ideal.Facts] [hPre_attn_finite : Cert.Pre_attn_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attn_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v120)) (v1 : (c : Dev Cert.Kernel2Ideal.nD) → Buf (Elt Ideal) ((c.tc : Thread Cert.Kernel2Ideal.nD Cert.Kernel2Ideal.τ).loc Cert.Kernel2Ideal.main_v123)) (v2 : (c : Dev Cert.Kernel2Ideal.nD) → Buf (Elt Ideal) ((c.tc : Thread Cert.Kernel2Ideal.nD Cert.Kernel2Ideal.τ).loc Cert.Kernel2Ideal.main_v125)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v120) = v0 c
          ∧ r.2.mem ((c.tc : Thread Cert.Kernel2Ideal.nD Cert.Kernel2Ideal.τ).loc Cert.Kernel2Ideal.main_v123) = v1 c
          ∧ r.2.mem ((c.tc : Thread Cert.Kernel2Ideal.nD Cert.Kernel2Ideal.τ).loc Cert.Kernel2Ideal.main_v125) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v121) = v0 c
          ∧ r.2.mem ((c.tc : Thread Cert.Reference2Ideal.nD Cert.Reference2Ideal.τ).loc Cert.Reference2Ideal.main_v98) = v1 c
          ∧ r.2.mem ((c.tc : Thread Cert.Reference2Ideal.nD Cert.Reference2Ideal.τ).loc Cert.Reference2Ideal.main_v80) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v56_0)) (v1 : (c : Dev Cert.Kernel3Ideal.nD) → Buf (Elt Ideal) ((c.tc : Thread Cert.Kernel3Ideal.nD Cert.Kernel3Ideal.τ).loc Cert.Kernel3Ideal.main_v56_1)) (v2 : (c : Dev Cert.Kernel3Ideal.nD) → Buf (Elt Ideal) ((c.tc : Thread Cert.Kernel3Ideal.nD Cert.Kernel3Ideal.τ).loc Cert.Kernel3Ideal.main_v56_2)) (v3 : (c : Dev Cert.Kernel3Ideal.nD) → Buf (Elt Ideal) ((c.tc : Thread Cert.Kernel3Ideal.nD Cert.Kernel3Ideal.τ).loc Cert.Kernel3Ideal.main_v56_3)) (v4 : (c : Dev Cert.Kernel3Ideal.nD) → Buf (Elt Ideal) ((c.tc : Thread Cert.Kernel3Ideal.nD Cert.Kernel3Ideal.τ).loc Cert.Kernel3Ideal.main_v56_4)) (v5 : (c : Dev Cert.Kernel3Ideal.nD) → Buf (Elt Ideal) ((c.tc : Thread Cert.Kernel3Ideal.nD Cert.Kernel3Ideal.τ).loc Cert.Kernel3Ideal.main_v56_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v56_0) = v0 c
          ∧ r.2.mem ((c.tc : Thread Cert.Kernel3Ideal.nD Cert.Kernel3Ideal.τ).loc Cert.Kernel3Ideal.main_v56_1) = v1 c
          ∧ r.2.mem ((c.tc : Thread Cert.Kernel3Ideal.nD Cert.Kernel3Ideal.τ).loc Cert.Kernel3Ideal.main_v56_2) = v2 c
          ∧ r.2.mem ((c.tc : Thread Cert.Kernel3Ideal.nD Cert.Kernel3Ideal.τ).loc Cert.Kernel3Ideal.main_v56_3) = v3 c
          ∧ r.2.mem ((c.tc : Thread Cert.Kernel3Ideal.nD Cert.Kernel3Ideal.τ).loc Cert.Kernel3Ideal.main_v56_4) = v4 c
          ∧ r.2.mem ((c.tc : Thread Cert.Kernel3Ideal.nD Cert.Kernel3Ideal.τ).loc Cert.Kernel3Ideal.main_v56_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v103) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v106) = v2 c
          ∧ r.2.mem ((c.tc : Thread Cert.Reference3Ideal.nD Cert.Reference3Ideal.τ).loc Cert.Reference3Ideal.main_v111) = v3 c
          ∧ r.2.mem ((c.tc : Thread Cert.Reference3Ideal.nD Cert.Reference3Ideal.τ).loc Cert.Reference3Ideal.main_v114) = v4 c
          ∧ r.2.mem ((c.tc : Thread Cert.Reference3Ideal.nD Cert.Reference3Ideal.τ).loc Cert.Reference3Ideal.main_v116) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def preserves_Kernel5_Kernel5Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_attn_finite : Cert.Pre_attn_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_attn_finite (hKernel2Ideal := hKernel2Ideal) (hPre_attn_finite := hPre_attn_finite)
    ∧ quiescent_Reference2Ideal (hReference2Ideal := hReference2Ideal)
    ∧ quiescent_Reference2Ideal_pre_attn_finite (hReference2Ideal := hReference2Ideal) (hPre_attn_finite := hPre_attn_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_attn_finite (hKernel2Ideal := hKernel2Ideal) (hReference2Ideal := hReference2Ideal) (hPre_attn_finite := hPre_attn_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
-- ==== Pre_attn_finite.lean ====
abbrev S1x8192x8x96 : Shape := ⟨4, ![1, 8192, 8, 96]⟩
abbrev S1x8192x8x64 : Shape := ⟨4, ![1, 8192, 8, 64]⟩
abbrev S1x8192 : Shape := ⟨2, ![1, 8192]⟩
abbrev S1x8192x512 : Shape := ⟨3, ![1, 8192, 512]⟩
abbrev S_ : Shape := ⟨0, ![]⟩

class Facts : Prop where
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  h_S_ : 0 < S_.numel
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_
  bcast_S_S1x8192x512 : S_.BroadcastsInDim S1x8192x512 (![] : Fin 0 → Fin S1x8192x512.rank)
  reducesTo_S1x8192x512_S_d0_1_2 : S1x8192x512.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S1x8192x8x96 .f32) (main_arg1 : FVec F S1x8192x8x96 .f32) (main_arg2 : FVec F S1x8192x8x64 .f32) (main_arg3 : IVec S1x8192 32) (main_arg4 : FVec F S1x8192x512 .f32) : IVec S_ 1 :=
  let main_v0 : FVec F S1x8192x8x96 .f32 := Host.absf main_arg0
  let main_cst : FVec F S_ .f32 := constant S_ .f32 0x7F800000#32
  let main_v1 : FVec F S1x8192x8x96 .f32 := broadcastInDim S1x8192x8x96 ![] bcast_S_S1x8192x8x96 main_cst
  let main_v2 : IVec S1x8192x8x96 1 := cmpf .olt main_v0 main_v1
  let main_c : IVec S_ 1 := constantI S_ 1 1#1
  let main_v3 : IVec S_ 1 := (fun x v => Host.reduce IntOp.andi x v reducesTo_S1x8192x8x96_S_d0_1_2_3 h_S_) main_v2 main_c
  let main_v4 : FVec F S1x8192x8x96 .f32 := Host.absf main_arg1
  let main_cst_0 : FVec F S_ .f32 := constant S_ .f32 0x7F800000#32
  let main_v5 : FVec F S1x8192x8x96 .f32 := broadcastInDim S1x8192x8x96 ![] bcast_S_S1x8192x8x96 main_cst_0
  let main_v6 : IVec S1x8192x8x96 1 := cmpf .olt main_v4 main_v5
  let main_c_1 : IVec S_ 1 := constantI S_ 1 1#1
  let main_v7 : IVec S_ 1 := (fun x v => Host.reduce IntOp.andi x v reducesTo_S1x8192x8x96_S_d0_1_2_3 h_S_) main_v6 main_c_1
  let main_v8 : FVec F S1x8192x8x64 .f32 := Host.absf main_arg2
  let main_cst_2 : FVec F S_ .f32 := constant S_ .f32 0x7F800000#32
  let main_v9 : FVec F S1x8192x8x64 .f32 := broadcastInDim S1x8192x8x64 ![] bcast_S_S1x8192x8x64 main_cst_2
  let main_v10 : IVec S1x8192x8x64 1 := cmpf .olt main_v8 main_v9
  let main_c_3 : IVec S_ 1 := constantI S_ 1 1#1
  let main_v11 : IVec S_ 1 := (fun x v => Host.reduce IntOp.andi x v reducesTo_S1x8192x8x64_S_d0_1_2_3 h_S_) main_v10 main_c_3
  let main_v12 : FVec F S1x8192x512 .f32 := Host.absf main_arg4
  let main_cst_4 : FVec F S_ .f32 := constant S_ .f32 0x7F800000#32
  let main_v13 : FVec F S1x8192x512 .f32 := broadcastInDim S1x8192x512 ![] bcast_S_S1x8192x512 main_cst_4
  let main_v14 : IVec S1x8192x512 1 := cmpf .olt main_v12 main_v13
  let main_c_5 : IVec S_ 1 := constantI S_ 1 1#1
  let main_v15 : IVec S_ 1 := (fun x v => Host.reduce IntOp.andi x v reducesTo_S1x8192x512_S_d0_1_2 h_S_) main_v14 main_c_5
  fn_part1 (F := F) main_v3 main_v7 main_v11 main_v15
-- ==== Pre_finite.lean ====
abbrev S1x8192x1024 : Shape := ⟨3, ![1, 8192, 1024]⟩
abbrev S1x8192 : Shape := ⟨2, ![1, 8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S_ : Shape := ⟨0, ![]⟩

class Facts : Prop where
  bcast_S_S1x8192x1024 : S_.BroadcastsInDim S1x8192x1024 (![] : Fin 0 → Fin S1x8192x1024.rank)
  reducesTo_S1x8192x1024_S_d0_1_2 : S1x8192x1024.ReducesTo [0, 1, 2] S_
  h_S_ : 0 < S_.numel
  bcast_S_S1024x2464 : S_.BroadcastsInDim S1024x2464 (![] : Fin 0 → Fin S1024x2464.rank)
  reducesTo_S1024x2464_S_d0_1 : S1024x2464.ReducesTo [0, 1] S_
  bcast_S_S256 : S_.BroadcastsInDim S256 (![] : Fin 0 → Fin S256.rank)
  reducesTo_S256_S_d0 : S256.ReducesTo [0] S_
  bcast_S_S256x768 : S_.BroadcastsInDim S256x768 (![] : Fin 0 → Fin S256x768.rank)
  reducesTo_S256x768_S_d0_1 : S256x768.ReducesTo [0, 1] S_
  bcast_S_S128 : S_.BroadcastsInDim S128 (![] : Fin 0 → Fin S128.rank)
  reducesTo_S128_S_d0 : S128.ReducesTo [0] S_
  bcast_S_S128x1024 : S_.BroadcastsInDim S128x1024 (![] : Fin 0 → Fin S128x1024.rank)
  reducesTo_S128x1024_S_d0_1 : S128x1024.ReducesTo [0, 1] S_
  bcast_S_S1x8192x8x96 : S_.BroadcastsInDim S1x8192x8x96 (![] : Fin 0 → Fin S1x8192x8x96.rank)
  reducesTo_S1x8192x8x96_S_d0_1_2_3 : S1x8192x8x96.ReducesTo [0, 1, 2, 3] S_
  bcast_S_S1x8192x8x64 : S_.BroadcastsInDim S1x8192x8x64 (![] : Fin 0 → Fin S1x8192x8x64.rank)
  reducesTo_S1x8192x8x64_S_d0_1_2_3 : S1x8192x8x64.ReducesTo [0, 1, 2, 3] S_

variable [Facts]

def fn_part2 {F : FTy → Type} [FloatOps F] (main_arg10 : FVec F S1x8192x8x64 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x8192x8x64 .f32 := Host.absf main_arg10
  let main_cst_14 : FVec F S_ .f32 := constant S_ .f32 0x7F800000#32
  let main_v33 : FVec F S1x8192x8x64 .f32 := broadcastInDim S1x8192x8x64 ![] bcast_S_S1x8192x8x64 main_cst_14
  let main_v34 : IVec S1x8192x8x64 1 := cmpf .olt main_v32 main_v33
  let main_c_15 : IVec S_ 1 := constantI S_ 1 1#1
  let main_v35 : IVec S_ 1 := (fun x v => Host.reduce IntOp.andi x v reducesTo_S1x8192x8x64_S_d0_1_2_3 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg5 : FVec F S128 .f32) (main_arg6 : FVec F S128x1024 .f32) (main_arg8 : FVec F S1x8192x8x96 .f32) (main_arg9 : FVec F S1x8192x8x96 .f32) (main_arg10 : FVec F S1x8192x8x64 .f32) (main_v3 : IVec S_ 1) (main_v7 : IVec S_ 1) (main_v11 : IVec S_ 1) (main_v15 : IVec S_ 1) : IVec S_ 1 :=
  let main_v16 : FVec F S128 .f32 := Host.absf main_arg5
  let main_cst_6 : FVec F S_ .f32 := constant S_ .f32 0x7F800000#32
  let main_v17 : FVec F S128 .f32 := broadcastInDim S128 ![] bcast_S_S128 main_cst_6
  let main_v18 : IVec S128 1 := cmpf .olt main_v16 main_v17
  let main_c_7 : IVec S_ 1 := constantI S_ 1 1#1
  let main_v19 : IVec S_ 1 := (fun x v => Host.reduce IntOp.andi x v reducesTo_S128_S_d0 h_S_) main_v18 main_c_7
  let main_v20 : FVec F S128x1024 .f32 := Host.absf main_arg6
  let main_cst_8 : FVec F S_ .f32 := constant S_ .f32 0x7F800000#32
  let main_v21 : FVec F S128x1024 .f32 := broadcastInDim S128x1024 ![] bcast_S_S128x1024 main_cst_8
  let main_v22 : IVec S128x1024 1 := cmpf .olt main_v20 main_v21
  let main_c_9 : IVec S_ 1 := constantI S_ 1 1#1
  let main_v23 : IVec S_ 1 := (fun x v => Host.reduce IntOp.andi x v reducesTo_S128x1024_S_d0_1 h_S_) main_v22 main_c_9
  let main_v24 : FVec F S1x8192x8x96 .f32 := Host.absf main_arg8
  let main_cst_10 : FVec F S_ .f32 := constant S_ .f32 0x7F800000#32
  let main_v25 : FVec F S1x8192x8x96 .f32 := broadcastInDim S1x8192x8x96 ![] bcast_S_S1x8192x8x96 main_cst_10
  let main_v26 : IVec S1x8192x8x96 1 := cmpf .olt main_v24 main_v25
  let main_c_11 : IVec S_ 1 := constantI S_ 1 1#1
  let main_v27 : IVec S_ 1 := (fun x v => Host.reduce IntOp.andi x v reducesTo_S1x8192x8x96_S_d0_1_2_3 h_S_) main_v26 main_c_11
  let main_v28 : FVec F S1x8192x8x96 .f32 := Host.absf main_arg9
  let main_cst_12 : FVec F S_ .f32 := constant S_ .f32 0x7F800000#32
  let main_v29 : FVec F S1x8192x8x96 .f32 := broadcastInDim S1x8192x8x96 ![] bcast_S_S1x8192x8x96 main_cst_12
  let main_v30 : IVec S1x8192x8x96 1 := cmpf .olt main_v28 main_v29
  let main_c_13 : IVec S_ 1 := constantI S_ 1 1#1
  let main_v31 : IVec S_ 1 := (fun x v => Host.reduce IntOp.andi x v reducesTo_S1x8192x8x96_S_d0_1_2_3 h_S_) main_v30 main_c_13
  fn_part2 (F := F) main_arg10 main_v3 main_v7 main_v11 main_v15 main_v19 main_v23 main_v27 main_v31

def fn {F : FTy → Type} [FloatOps F] (main_arg0 : FVec F S1x8192x1024 .f32) (main_arg1 : IVec S1x8192 32) (main_arg2 : FVec F S1024x2464 .f32) (main_arg3 : FVec F S256 .f32) (main_arg4 : FVec F S256x768 .f32) (main_arg5 : FVec F S128 .f32) (main_arg6 : FVec F S128x1024 .f32) (main_arg7 : FVec F S1x8192x1024 .f32) (main_arg8 : FVec F S1x8192x8x96 .f32) (main_arg9 : FVec F S1x8192x8x96 .f32) (main_arg10 : FVec F S1x8192x8x64 .f32) (main_arg11 : FVec F S1x8192x512 .f32) (main_arg12 : FVec F S1x8192x512 .f32) (main_arg13 : FVec F S1x8192x512 .f32) (main_arg14 : FVec F S1x8192x512 .f32) : IVec S_ 1 :=
  let main_v0 : FVec F S1x8192x1024 .f32 := Host.absf main_arg0
  let main_cst : FVec F S_ .f32 := constant S_ .f32 0x7F800000#32
  let main_v1 : FVec F S1x8192x1024 .f32 := broadcastInDim S1x8192x1024 ![] bcast_S_S1x8192x1024 main_cst
  let main_v2 : IVec S1x8192x1024 1 := cmpf .olt main_v0 main_v1
  let main_c : IVec S_ 1 := constantI S_ 1 1#1
  let main_v3 : IVec S_ 1 := (fun x v => Host.reduce IntOp.andi x v reducesTo_S1x8192x1024_S_d0_1_2 h_S_) main_v2 main_c
  let main_v4 : FVec F S1024x2464 .f32 := Host.absf main_arg2
  let main_cst_0 : FVec F S_ .f32 := constant S_ .f32 0x7F800000#32
  let main_v5 : FVec F S1024x2464 .f32 := broadcastInDim S1024x2464 ![] bcast_S_S1024x2464 main_cst_0
  let main_v6 : IVec S1024x2464 1 := cmpf .olt main_v4 main_v5
  let main_c_1 : IVec S_ 1 := constantI S_ 1 1#1
  let main_v7 : IVec S_ 1 := (fun x v => Host.reduce IntOp.andi x v reducesTo_S1024x2464_S_d0_1 h_S_) main_v6 main_c_1
  let main_v8 : FVec F S256 .f32 := Host.absf main_arg3
  let main_cst_2 : FVec F S_ .f32 := constant S_ .f32 0x7F800000#32
  let main_v9 : FVec F S256 .f32 := broadcastInDim S256 ![] bcast_S_S256 main_cst_2
  let main_v10 : IVec S256 1 := cmpf .olt main_v8 main_v9
  let main_c_3 : IVec S_ 1 := constantI S_ 1 1#1
  let main_v11 : IVec S_ 1 := (fun x v => Host.reduce IntOp.andi x v reducesTo_S256_S_d0 h_S_) main_v10 main_c_3
  let main_v12 : FVec F S256x768 .f32 := Host.absf main_arg4
  let main_cst_4 : FVec F S_ .f32 := constant S_ .f32 0x7F800000#32
  let main_v13 : FVec F S256x768 .f32 := broadcastInDim S256x768 ![] bcast_S_S256x768 main_cst_4
  let main_v14 : IVec S256x768 1 := cmpf .olt main_v12 main_v13
  let main_c_5 : IVec S_ 1 := constantI S_ 1 1#1
  let main_v15 : IVec S_ 1 := (fun x v => Host.reduce IntOp.andi x v reducesTo_S256x768_S_d0_1 h_S_) main_v14 main_c_5
  fn_part1 (F := F) main_arg5 main_arg6 main_arg8 main_arg9 main_arg10 main_v3 main_v7 main_v11 main_v15
-- ==== Kernel.lean ====
abbrev S1x8192x1024 : Shape := ⟨3, ![1, 8192, 1024]⟩
abbrev S1x8192 : Shape := ⟨2, ![1, 8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S8192x1024 : Shape := ⟨2, ![8192, 1024]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x2048 : Shape := ⟨2, ![1024, 2048]⟩
abbrev S1024x2560 : Shape := ⟨2, ![1024, 2560]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S16 : Shape := ⟨1, ![16]⟩
abbrev S64 : Shape := ⟨1, ![64]⟩
abbrev S32 : Shape := ⟨1, ![32]⟩
abbrev S8192x1 : Shape := ⟨2, ![8192, 1]⟩
abbrev S1x128 : Shape := ⟨2, ![1, 128]⟩
abbrev S8192x128 : Shape := ⟨2, ![8192, 128]⟩
abbrev S1024 : Shape := ⟨1, ![1024]⟩
abbrev S1x1024 : Shape := ⟨2, ![1, 1024]⟩
abbrev S8192x256 : Shape := ⟨2, ![8192, 256]⟩
abbrev S1x256 : Shape := ⟨2, ![1, 256]⟩
abbrev S16x1024 : Shape := ⟨2, ![16, 1024]⟩
abbrev S8192x384 : Shape := ⟨2, ![8192, 384]⟩
abbrev S8192x768 : Shape := ⟨2, ![8192, 768]⟩
abbrev S8192x8x96 : Shape := ⟨3, ![8192, 8, 96]⟩
abbrev S8192x8x128 : Shape := ⟨3, ![8192, 8, 128]⟩
abbrev S8192x512 : Shape := ⟨2, ![8192, 512]⟩
abbrev S8192x2048 : Shape := ⟨2, ![8192, 2048]⟩
abbrev S512x1024 : Shape := ⟨2, ![512, 1024]⟩
abbrev S512x256 : Shape := ⟨2, ![512, 256]⟩
abbrev S512x128 : Shape := ⟨2, ![512, 128]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩
abbrev S512x1536 : Shape := ⟨2, ![512, 1536]⟩
abbrev S1024x512 : Shape := ⟨2, ![1024, 512]⟩

abbrev nBuf : Space → Nat
  | .hbm => 159
  | .vmem => 29
  | .smem => 0
  | _ => 0

abbrev hbmTy0_0 (i : Nat) : BufTy := match i % 128 with
  | 0 => ⟨S1x8192x1024, .f32⟩
  | 1 => ⟨S1x8192, .i32⟩
  | 2 => ⟨S1024x2464, .f32⟩
  | 3 => ⟨S256, .f32⟩
  | 4 => ⟨S256x768, .f32⟩
  | 5 => ⟨S128, .f32⟩
  | 6 => ⟨S128x1024, .f32⟩
  | 7 => ⟨S1x8192x1024, .f32⟩
  | 8 => ⟨S1x8192x8x96, .f32⟩
  | 9 => ⟨S1x8192x8x96, .f32⟩
  | 10 => ⟨S1x8192x8x64, .f32⟩
  | 11 => ⟨S1x8192x512, .f32⟩
  | 12 => ⟨S1x8192x512, .f32⟩
  | 13 => ⟨S1x8192x512, .f32⟩
  | 14 => ⟨S1x8192x512, .f32⟩
  | 15 => ⟨S8192x1024, .f32⟩
  | 16 => ⟨S1024x2464, .bf16⟩
  | 17 => ⟨S1024x384, .bf16⟩
  | 18 => ⟨S_, .bf16⟩
  | 19 => ⟨S1024x64, .bf16⟩
  | 20 => ⟨S1024x32, .bf16⟩
  | 21 => ⟨S_, .bf16⟩
  | 22 => ⟨S1024x32, .bf16⟩
  | 23 => ⟨S1024x2048, .bf16⟩
  | 24 => ⟨S1024x2560, .bf16⟩
  | 25 => ⟨S256x768, .bf16⟩
  | 26 => ⟨S256x8x96, .bf16⟩
  | 27 => ⟨S_, .i32⟩
  | 28 => ⟨S_, .bf16⟩
  | 29 => ⟨S256x8x128, .bf16⟩
  | 30 => ⟨S256x1024, .bf16⟩
  | 31 => ⟨S128x1024, .bf16⟩
  | 32 => ⟨S128x8x128, .bf16⟩
  | 33 => ⟨S128x8x64, .bf16⟩
  | 34 => ⟨S128x512, .bf16⟩
  | 35 => ⟨S128x8x64, .bf16⟩
  | 36 => ⟨S_, .i32⟩
  | 37 => ⟨S_, .bf16⟩
  | 38 => ⟨S128x8x128, .bf16⟩
  | 39 => ⟨S128x1024, .bf16⟩
  | 40 => ⟨S128x8x64, .bf16⟩
  | 41 => ⟨S128x512, .bf16⟩
  | 42 => ⟨S128x1536, .bf16⟩
  | 43 => ⟨S16, .f32⟩
  | 44 => ⟨S_, .f32⟩
  | 45 => ⟨S16, .f32⟩
  | 46 => ⟨S16, .f32⟩
  | 47 => ⟨S_, .f32⟩
  | 48 => ⟨S16, .f32⟩
  | 49 => ⟨S16, .f32⟩
  | 50 => ⟨S_, .f32⟩
  | 51 => ⟨S16, .f32⟩
  | 52 => ⟨S16, .f32⟩
  | 53 => ⟨S_, .f32⟩
  | 54 => ⟨S64, .f32⟩
  | 55 => ⟨S_, .f32⟩
  | 56 => ⟨S32, .f32⟩
  | 57 => ⟨S128, .f32⟩
  | 58 => ⟨S8192x1, .i32⟩
  | 59 => ⟨S8192x1, .f32⟩
  | 60 => ⟨S1x128, .f32⟩
  | 61 => ⟨S8192x128, .f32⟩
  | 62 => ⟨S8192x128, .f32⟩
  | 63 => ⟨S8192x128, .f32⟩
  | 64 => ⟨S1024, .i32⟩
  | 65 => ⟨S1x1024, .i32⟩
  | 66 => ⟨S_, .i32⟩
  | 67 => ⟨S1x1024, .i32⟩
  | 68 => ⟨S1x1024, .i1⟩
  | 69 => ⟨S_, .i32⟩
  | 70 => ⟨S1x1024, .i32⟩
  | 71 => ⟨S1x1024, .i1⟩
  | 72 => ⟨S1x1024, .i1⟩
  | 73 => ⟨S_, .f32⟩
  | 74 => ⟨S_, .f32⟩
  | 75 => ⟨S1x1024, .f32⟩
  | 76 => ⟨S1x1024, .f32⟩
  | 77 => ⟨S1x1024, .f32⟩
  | 78 => ⟨S1x1024, .f32⟩
  | 79 => ⟨S_, .i32⟩
  | 80 => ⟨S1x1024, .i32⟩
  | 81 => ⟨S1x1024, .i1⟩
  | 82 => ⟨S_, .i32⟩
  | 83 => ⟨S1x1024, .i32⟩
  | 84 => ⟨S1x1024, .i1⟩
  | 85 => ⟨S1x1024, .i1⟩
  | 86 => ⟨S_, .f32⟩
  | 87 => ⟨S_, .f32⟩
  | 88 => ⟨S1x1024, .f32⟩
  | 89 => ⟨S1x1024, .f32⟩
  | 90 => ⟨S1x1024, .f32⟩
  | 91 => ⟨S1x1024, .f32⟩
  | 92 => ⟨S8192x128, .f32⟩
  | 93 => ⟨S8192x128, .f32⟩
  | 94 => ⟨S8192x256, .f32⟩
  | 95 => ⟨S_, .f32⟩
  | 96 => ⟨S1x1024, .f32⟩
  | 97 => ⟨S1x256, .f32⟩
  | 98 => ⟨S_, .i32⟩
  | 99 => ⟨S_, .f32⟩
  | 100 => ⟨S1x1024, .f32⟩
  | 101 => ⟨S1x128, .f32⟩
  | 102 => ⟨S_, .i32⟩
  | 103 => ⟨S_, .f32⟩
  | 104 => ⟨S1x1024, .f32⟩
  | 105 => ⟨S16x1024, .f32⟩
  | 106 => ⟨S1024x384, .f32⟩
  | 107 => ⟨S8192x384, .f32⟩
  | 108 => ⟨S8192x256, .f32⟩
  | 109 => ⟨S8192x128, .f32⟩
  | 110 => ⟨S8192x768, .f32⟩
  | 111 => ⟨S8192x768, .bf16⟩
  | 112 => ⟨S8192x8x96, .bf16⟩
  | 113 => ⟨S_, .i32⟩
  | 114 => ⟨S_, .bf16⟩
  | 115 => ⟨S8192x8x128, .bf16⟩
  | 116 => ⟨S8192x1024, .bf16⟩
  | 117 => ⟨S8192x768, .f32⟩
  | 118 => ⟨S8192x768, .bf16⟩
  | 119 => ⟨S8192x8x96, .bf16⟩
  | 120 => ⟨S_, .i32⟩
  | 121 => ⟨S_, .bf16⟩
  | 122 => ⟨S8192x8x128, .bf16⟩
  | 123 => ⟨S8192x1024, .bf16⟩
  | 124 => ⟨S8192x512, .f32⟩
  | 125 => ⟨S8192x512, .bf16⟩
  | 126 => ⟨S8192x512, .f32⟩
  | 127 => ⟨S8192x512, .f32⟩
  | _ => ⟨S1x8192x1024, .f32⟩

abbrev hbmTy0_1 (i : Nat) : BufTy := match i % 128 with
  | 0 => ⟨S8192x512, .f32⟩
  | 1 => ⟨S8192x512, .f32⟩
  | 2 => ⟨S8192x2048, .f32⟩
  | 3 => ⟨S8192x2048, .bf16⟩
  | 4 => ⟨S_, .f32⟩
  | 5 => ⟨S16x1024, .f32⟩
  | 6 => ⟨S8192x1024, .f32⟩
  | 7 => ⟨S8192x1024, .f32⟩
  | 8 => ⟨S1024x2560, .f32⟩
  | 9 => ⟨S256x1024, .f32⟩
  | 10 => ⟨S128x1536, .f32⟩
  | 11 => ⟨S16x1024, .f32⟩
  | 12 => ⟨S1024x384, .f32⟩
  | 13 => ⟨S1024x32, .f32⟩
  | 14 => ⟨S1024x2048, .f32⟩
  | 15 => ⟨S1024x2464, .f32⟩
  | 16 => ⟨S256x8x128, .f32⟩
  | 17 => ⟨S256x8x96, .f32⟩
  | 18 => ⟨S256x768, .f32⟩
  | 19 => ⟨S128x1024, .f32⟩
  | 20 => ⟨S128x8x128, .f32⟩
  | 21 => ⟨S128x8x64, .f32⟩
  | 22 => ⟨S128x512, .f32⟩
  | 23 => ⟨S128x8x64, .f32⟩
  | 24 => ⟨S128x8x128, .f32⟩
  | 25 => ⟨S128x1024, .f32⟩
  | 26 => ⟨S1x8192x1024, .f32⟩
  | 27 => ⟨S1x256, .f32⟩
  | 28 => ⟨S256, .f32⟩
  | 29 => ⟨S1x128, .f32⟩
  | 30 => ⟨S128, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x512, .bf16⟩
  | .local _ .vmem, ⟨15, _⟩ => ⟨S512x512, .bf16⟩
  | .local _ .vmem, ⟨16, _⟩ => ⟨S512x2048, .bf16⟩
  | .local _ .vmem, ⟨17, _⟩ => ⟨S512x2048, .bf16⟩
  | .local _ .vmem, ⟨18, _⟩ => ⟨S1024x2560, .bf16⟩
  | .local _ .vmem, ⟨19, _⟩ => ⟨S256x1024, .bf16⟩
  | .local _ .vmem, ⟨20, _⟩ => ⟨S128x1536, .bf16⟩
  | .local _ .vmem, ⟨21, _⟩ => ⟨S16x1024, .f32⟩
  | .local _ .vmem, ⟨22, _⟩ => ⟨S16x1024, .f32⟩
  | .local _ .vmem, ⟨23, _⟩ => ⟨S512x1024, .f32⟩
  | .local _ .vmem, ⟨24, _⟩ => ⟨S512x1024, .f32⟩
  | .local _ .vmem, ⟨25, _⟩ => ⟨S1024x2560, .f32⟩
  | .local _ .vmem, ⟨26, _⟩ => ⟨S256x1024, .f32⟩
  | .local _ .vmem, ⟨27, _⟩ => ⟨S128x1536, .f32⟩
  | .local _ .vmem, ⟨28, _⟩ => ⟨S16x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_call0_v0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_1 : Ref sig .tc := ⟨.hbm, 36, rfl⟩
abbrev main_call1_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_cst_6 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_7 : Ref sig .tc := ⟨.hbm, 66, rfl⟩
abbrev main_v40 : Ref sig .tc := ⟨.hbm, 67, rfl⟩
abbrev main_v41 : Ref sig .tc := ⟨.hbm, 68, rfl⟩
abbrev main_c_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_cst_10 : Ref sig .tc := ⟨.hbm, 74, rfl⟩
abbrev main_call2_v0 : Ref sig .tc := ⟨.hbm, 75, rfl⟩
abbrev main_call2_v1 : Ref sig .tc := ⟨.hbm, 76, rfl⟩
abbrev main_v45 : Ref sig .tc := ⟨.hbm, 77, rfl⟩
abbrev main_v46 : Ref sig .tc := ⟨.hbm, 78, rfl⟩
abbrev main_c_11 : Ref sig .tc := ⟨.hbm, 79, rfl⟩
abbrev main_v47 : Ref sig .tc := ⟨.hbm, 80, rfl⟩
abbrev main_v48 : Ref sig .tc := ⟨.hbm, 81, rfl⟩
abbrev main_c_12 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_13 : Ref sig .tc := ⟨.hbm, 86, rfl⟩
abbrev main_cst_14 : Ref sig .tc := ⟨.hbm, 87, rfl⟩
abbrev main_call3_v0 : Ref sig .tc := ⟨.hbm, 88, rfl⟩
abbrev main_call3_v1 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_15 : Ref sig .tc := ⟨.hbm, 95, rfl⟩
abbrev main_v57 : Ref sig .tc := ⟨.hbm, 96, rfl⟩
abbrev main_v58 : Ref sig .tc := ⟨.hbm, 97, rfl⟩
abbrev main_c_16 : Ref sig .tc := ⟨.hbm, 98, rfl⟩
abbrev main_call4_v0 : Ref sig .tc := ⟨.hbm, 99, rfl⟩
abbrev main_v59 : Ref sig .tc := ⟨.hbm, 100, rfl⟩
abbrev main_v60 : Ref sig .tc := ⟨.hbm, 101, rfl⟩
abbrev main_c_17 : Ref sig .tc := ⟨.hbm, 102, rfl⟩
abbrev main_call5_v0 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_c_18 : Ref sig .tc := ⟨.hbm, 113, rfl⟩
abbrev main_call6_v0 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_c_19 : Ref sig .tc := ⟨.hbm, 120, rfl⟩
abbrev main_call7_v0 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_cst_20 : Ref sig .tc := ⟨.hbm, 132, rfl⟩
abbrev main_v85 : Ref sig .tc := ⟨.hbm, 133, rfl⟩
abbrev main_v86 : Ref sig .tc := ⟨.hbm, 134, rfl⟩
abbrev main_v87_0 : Ref sig .tc := ⟨.hbm, 135, rfl⟩
abbrev main_v87_1 : Ref sig .tc := ⟨.hbm, 136, rfl⟩
abbrev main_v87_2 : Ref sig .tc := ⟨.hbm, 137, rfl⟩
abbrev main_v87_3 : Ref sig .tc := ⟨.hbm, 138, rfl⟩
abbrev main_v87_4 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_v103 : Ref sig .tc := ⟨.hbm, 155, rfl⟩
abbrev main_v104 : Ref sig .tc := ⟨.hbm, 156, rfl⟩
abbrev main_v105 : Ref sig .tc := ⟨.hbm, 157, rfl⟩
abbrev main_v106 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_stg17_0 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem14_1 : DmaSem sig := 24
abbrev cc0_sem15_0 : DmaSem sig := 25
abbrev cc0_sem16_0 : DmaSem sig := 26
abbrev cc0_sem17_0 : DmaSem sig := 27
abbrev cc0_sem18_0 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x2560 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1536 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1024x2560 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x1536 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S1x8192x1024 : Shape := ⟨3, ![1, 8192, 1024]⟩
abbrev S1x8192 : Shape := ⟨2, ![1, 8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1x8192x8x96 : Shape := ⟨4, ![1, 8192, 8, 96]⟩
abbrev S1x8192x8x64 : Shape := ⟨4, ![1, 8192, 8, 64]⟩
abbrev S1x8192x512 : Shape := ⟨3, ![1, 8192, 512]⟩
abbrev S1x8192x2464 : Shape := ⟨3, ![1, 8192, 2464]⟩
abbrev S1x8192x256 : Shape := ⟨3, ![1, 8192, 256]⟩
abbrev S1x8192x128 : Shape := ⟨3, ![1, 8192, 128]⟩
abbrev S1x8192x32 : Shape := ⟨3, ![1, 8192, 32]⟩
abbrev S_ : Shape := ⟨0, ![]⟩
abbrev S1x8192x1 : Shape := ⟨3, ![1, 8192, 1]⟩
abbrev S1x1x256 : Shape := ⟨3, ![1, 1, 256]⟩
abbrev S1x8192x768 : Shape := ⟨3, ![1, 8192, 768]⟩
abbrev S1x1x128 : Shape := ⟨3, ![1, 1, 128]⟩
abbrev S1x8192x8x128 : Shape := ⟨4, ![1, 8192, 8, 128]⟩
abbrev S1x8192x1x32 : Shape := ⟨4, ![1, 8192, 1, 32]⟩
abbrev S16 : Shape := ⟨1, ![16]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x8x32 : Shape := ⟨4, ![1, 8192, 8, 32]⟩
abbrev S8192x32 : Shape := ⟨2, ![8192, 32]⟩
abbrev S1024x128 : Shape := ⟨2, ![1024, 128]⟩
abbrev S1x128 : Shape := ⟨2, ![1, 128]⟩
abbrev S8192 : Shape := ⟨1, ![8192]⟩
abbrev S768x256 : Shape := ⟨2, ![768, 256]⟩
abbrev S1x256 : Shape := ⟨2, ![1, 256]⟩
abbrev S2464x1024 : Shape := ⟨2, ![2464, 1024]⟩

abbrev nBuf : Space → Nat
  | .hbm => 199
  | .vmem => 0
  | .smem => 0
  | _ => 0

abbrev hbmTy0_0 (i : Nat) : BufTy := match i % 128 with
  | 0 => ⟨S1x8192x1024, .f32⟩
  | 1 => ⟨S1x8192, .i32⟩
  | 2 => ⟨S1024x2464, .f32⟩
  | 3 => ⟨S256, .f32⟩
  | 4 => ⟨S256x768, .f32⟩
  | 5 => ⟨S128, .f32⟩
  | 6 => ⟨S128x1024, .f32⟩
  | 7 => ⟨S1x8192x1024, .f32⟩
  | 8 => ⟨S1x8192x8x96, .f32⟩
  | 9 => ⟨S1x8192x8x96, .f32⟩
  | 10 => ⟨S1x8192x8x64, .f32⟩
  | 11 => ⟨S1x8192x512, .f32⟩
  | 12 => ⟨S1x8192x512, .f32⟩
  | 13 => ⟨S1x8192x512, .f32⟩
  | 14 => ⟨S1x8192x512, .f32⟩
  | 15 => ⟨S1x8192x2464, .f32⟩
  | 16 => ⟨S1x8192x256, .f32⟩
  | 17 => ⟨S1x8192x128, .f32⟩
  | 18 => ⟨S1x8192x32, .f32⟩
  | 19 => ⟨S1x8192x512, .f32⟩
  | 20 => ⟨S1x8192x512, .f32⟩
  | 21 => ⟨S1x8192x512, .f32⟩
  | 22 => ⟨S1x8192x512, .f32⟩
  | 23 => ⟨S1x8192x256, .f32⟩
  | 24 => ⟨S_, .f32⟩
  | 25 => ⟨S1x8192, .f32⟩
  | 26 => ⟨S1x8192x1, .f32⟩
  | 27 => ⟨S_, .f32⟩
  | 28 => ⟨S1x8192x1, .f32⟩
  | 29 => ⟨S1x8192x1, .f32⟩
  | 30 => ⟨S_, .f32⟩
  | 31 => ⟨S1x8192x1, .f32⟩
  | 32 => ⟨S1x8192x1, .f32⟩
  | 33 => ⟨S1x8192x1, .f32⟩
  | 34 => ⟨S1x8192x1, .f32⟩
  | 35 => ⟨S_, .f32⟩
  | 36 => ⟨S1x8192x1, .f32⟩
  | 37 => ⟨S1x8192x1, .f32⟩
  | 38 => ⟨S1x8192x256, .f32⟩
  | 39 => ⟨S1x8192x256, .f32⟩
  | 40 => ⟨S1x1x256, .f32⟩
  | 41 => ⟨S1x8192x256, .f32⟩
  | 42 => ⟨S1x8192x256, .f32⟩
  | 43 => ⟨S1x8192x768, .f32⟩
  | 44 => ⟨S1x8192x8x96, .f32⟩
  | 45 => ⟨S1x8192x128, .f32⟩
  | 46 => ⟨S_, .f32⟩
  | 47 => ⟨S1x8192, .f32⟩
  | 48 => ⟨S1x8192x1, .f32⟩
  | 49 => ⟨S_, .f32⟩
  | 50 => ⟨S1x8192x1, .f32⟩
  | 51 => ⟨S1x8192x1, .f32⟩
  | 52 => ⟨S_, .f32⟩
  | 53 => ⟨S1x8192x1, .f32⟩
  | 54 => ⟨S1x8192x1, .f32⟩
  | 55 => ⟨S1x8192x1, .f32⟩
  | 56 => ⟨S1x8192x1, .f32⟩
  | 57 => ⟨S_, .f32⟩
  | 58 => ⟨S1x8192x1, .f32⟩
  | 59 => ⟨S1x8192x1, .f32⟩
  | 60 => ⟨S1x8192x128, .f32⟩
  | 61 => ⟨S1x8192x128, .f32⟩
  | 62 => ⟨S1x1x128, .f32⟩
  | 63 => ⟨S1x8192x128, .f32⟩
  | 64 => ⟨S1x8192x128, .f32⟩
  | 65 => ⟨S1x8192x1024, .f32⟩
  | 66 => ⟨S1x8192x8x128, .f32⟩
  | 67 => ⟨S1x8192x8x64, .f32⟩
  | 68 => ⟨S1x8192x8x64, .f32⟩
  | 69 => ⟨S1x8192x1x32, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S1x8192, .f32⟩
  | 81 => ⟨S1x8192x1, .f32⟩
  | 82 => ⟨S1x1x16, .f32⟩
  | 83 => ⟨S1x8192x16, .f32⟩
  | 84 => ⟨S1x8192x16, .f32⟩
  | 85 => ⟨S1x8192x16, .f32⟩
  | 86 => ⟨S1x8192x16, .f32⟩
  | 87 => ⟨S1x8192x1x16, .f32⟩
  | 88 => ⟨S1x8192x16, .f32⟩
  | 89 => ⟨S1x8192x1x16, .f32⟩
  | 90 => ⟨S1x8192x1x16, .f32⟩
  | 91 => ⟨S1x8192x1x16, .f32⟩
  | 92 => ⟨S1x8192x1x16, .f32⟩
  | 93 => ⟨S1x8192x1x16, .f32⟩
  | 94 => ⟨S1x8192x1x16, .f32⟩
  | 95 => ⟨S1x8192x1x16, .f32⟩
  | 96 => ⟨S1x8192x1x16, .f32⟩
  | 97 => ⟨S1x8192x1x16, .f32⟩
  | 98 => ⟨S1x8192x1x32, .f32⟩
  | 99 => ⟨S1x8192x8x32, .f32⟩
  | 100 => ⟨S1x8192x8x96, .f32⟩
  | 101 => ⟨S_, .f32⟩
  | 102 => ⟨S1x8192x1024, .f32⟩
  | 103 => ⟨S1x8192x1024, .f32⟩
  | 104 => ⟨S_, .f32⟩
  | 105 => ⟨S1x8192x1024, .f32⟩
  | 106 => ⟨S1x8192x1024, .f32⟩
  | 107 => ⟨S1x8192x8x64, .f32⟩
  | 108 => ⟨S1x8192x8x32, .f32⟩
  | 109 => ⟨S_, .f32⟩
  | 110 => ⟨S8192x32, .f32⟩
  | 111 => ⟨S1x8192x1x32, .f32⟩
  | 112 => ⟨S1x8192x1x16, .f32⟩
  | 113 => ⟨S1x8192x1x16, .f32⟩
  | 114 => ⟨S1x8192x1x16, .f32⟩
  | 115 => ⟨S1x8192x1x16, .f32⟩
  | 116 => ⟨S1x8192x1x16, .f32⟩
  | 117 => ⟨S1x8192x1x16, .f32⟩
  | 118 => ⟨S1x8192x1x16, .f32⟩
  | 119 => ⟨S1x8192x1x16, .f32⟩
  | 120 => ⟨S1x8192x1x16, .f32⟩
  | 121 => ⟨S_, .f32⟩
  | 122 => ⟨S1x8192x1x32, .f32⟩
  | 123 => ⟨S_, .f32⟩
  | 124 => ⟨S1x8192x1x32, .f32⟩
  | 125 => ⟨S1x8192x1x32, .f32⟩
  | 126 => ⟨S_, .f32⟩
  | 127 => ⟨S8192x32, .f32⟩
  | _ => ⟨S1x8192x1024, .f32⟩

abbrev hbmTy0_1 (i : Nat) : BufTy := match i % 128 with
  | 0 => ⟨S1x8192x32, .f32⟩
  | 1 => ⟨S_, .f32⟩
  | 2 => ⟨S1x8192x8x128, .f32⟩
  | 3 => ⟨S_, .f32⟩
  | 4 => ⟨S1x8192x8x128, .f32⟩
  | 5 => ⟨S1x8192x8x128, .f32⟩
  | 6 => ⟨S1x8192x1024, .f32⟩
  | 7 => ⟨S1024x128, .f32⟩
  | 8 => ⟨S128x1024, .f32⟩
  | 9 => ⟨S1x8192x128, .f32⟩
  | 10 => ⟨S1x8192x128, .f32⟩
  | 11 => ⟨S_, .f32⟩
  | 12 => ⟨S1x128, .f32⟩
  | 13 => ⟨S1x1x128, .f32⟩
  | 14 => ⟨S1x8192x128, .f32⟩
  | 15 => ⟨S1x8192x128, .f32⟩
  | 16 => ⟨S_, .f32⟩
  | 17 => ⟨S128, .f32⟩
  | 18 => ⟨S1x8192x128, .f32⟩
  | 19 => ⟨S_, .f32⟩
  | 20 => ⟨S1x8192, .f32⟩
  | 21 => ⟨S1x8192x1, .f32⟩
  | 22 => ⟨S1x8192x128, .f32⟩
  | 23 => ⟨S1x8192x128, .f32⟩
  | 24 => ⟨S1x8192x1, .f32⟩
  | 25 => ⟨S_, .f32⟩
  | 26 => ⟨S1x8192x1, .f32⟩
  | 27 => ⟨S1x8192x1, .f32⟩
  | 28 => ⟨S_, .f32⟩
  | 29 => ⟨S8192, .f32⟩
  | 30 => ⟨S1x8192, .f32⟩
  | 31 => ⟨S1x8192x128, .f32⟩
  | 32 => ⟨S1x8192x128, .f32⟩
  | 33 => ⟨S1x8192x128, .f32⟩
  | 34 => ⟨S1x8192x128, .f32⟩
  | 35 => ⟨S1x8192x128, .f32⟩
  | 36 => ⟨S1x8192x768, .f32⟩
  | 37 => ⟨S768x256, .f32⟩
  | 38 => ⟨S256x768, .f32⟩
  | 39 => ⟨S1x8192x256, .f32⟩
  | 40 => ⟨S1x8192x256, .f32⟩
  | 41 => ⟨S_, .f32⟩
  | 42 => ⟨S1x256, .f32⟩
  | 43 => ⟨S1x1x256, .f32⟩
  | 44 => ⟨S1x8192x256, .f32⟩
  | 45 => ⟨S1x8192x256, .f32⟩
  | 46 => ⟨S_, .f32⟩
  | 47 => ⟨S256, .f32⟩
  | 48 => ⟨S1x8192x256, .f32⟩
  | 49 => ⟨S_, .f32⟩
  | 50 => ⟨S1x8192, .f32⟩
  | 51 => ⟨S1x8192x1, .f32⟩
  | 52 => ⟨S1x8192x256, .f32⟩
  | 53 => ⟨S1x8192x256, .f32⟩
  | 54 => ⟨S1x8192x1, .f32⟩
  | 55 => ⟨S_, .f32⟩
  | 56 => ⟨S1x8192x1, .f32⟩
  | 57 => ⟨S1x8192x1, .f32⟩
  | 58 => ⟨S_, .f32⟩
  | 59 => ⟨S8192, .f32⟩
  | 60 => ⟨S1x8192, .f32⟩
  | 61 => ⟨S1x8192x256, .f32⟩
  | 62 => ⟨S1x8192x256, .f32⟩
  | 63 => ⟨S1x8192x256, .f32⟩
  | 64 => ⟨S1x8192x256, .f32⟩
  | 65 => ⟨S1x8192x256, .f32⟩
  | 66 => ⟨S1x8192x2464, .f32⟩
  | 67 => ⟨S2464x1024, .f32⟩
  | 68 => ⟨S1024x2464, .f32⟩
  | 69 => ⟨S1x8192x1024, .f32⟩
  | 70 => ⟨S1x8192x1024, .f32⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_cst_0 : Ref sig .tc := ⟨.hbm, 27, rfl⟩
abbrev main_v11 : Ref sig .tc := ⟨.hbm, 28, rfl⟩
abbrev main_v12 : Ref sig .tc := ⟨.hbm, 29, rfl⟩
abbrev main_cst_1 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst_2 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_cst_4 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_7 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_cst_9 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_10 : Ref sig .tc := ⟨.hbm, 101, rfl⟩
abbrev main_v75 : Ref sig .tc := ⟨.hbm, 102, rfl⟩
abbrev main_v76 : Ref sig .tc := ⟨.hbm, 103, rfl⟩
abbrev main_cst_11 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_12 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_13 : Ref sig .tc := ⟨.hbm, 121, rfl⟩
abbrev main_v92 : Ref sig .tc := ⟨.hbm, 122, rfl⟩
abbrev main_cst_14 : Ref sig .tc := ⟨.hbm, 123, rfl⟩
abbrev main_v93 : Ref sig .tc := ⟨.hbm, 124, rfl⟩
abbrev main_v94 : Ref sig .tc := ⟨.hbm, 125, rfl⟩
abbrev main_cst_15 : Ref sig .tc := ⟨.hbm, 126, rfl⟩
abbrev main_v95 : Ref sig .tc := ⟨.hbm, 127, rfl⟩
abbrev main_v96 : Ref sig .tc := ⟨.hbm, 128, rfl⟩
abbrev main_cst_16 : Ref sig .tc := ⟨.hbm, 129, rfl⟩
abbrev main_v97 : Ref sig .tc := ⟨.hbm, 130, rfl⟩
abbrev main_cst_17 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_cst_18 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_19 : Ref sig .tc := ⟨.hbm, 144, rfl⟩
abbrev main_v109 : Ref sig .tc := ⟨.hbm, 145, rfl⟩
abbrev main_v110 : Ref sig .tc := ⟨.hbm, 146, rfl⟩
abbrev main_cst_20 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_21 : Ref sig .tc := ⟨.hbm, 153, rfl⟩
abbrev main_v116 : Ref sig .tc := ⟨.hbm, 154, rfl⟩
abbrev main_v117 : Ref sig .tc := ⟨.hbm, 155, rfl⟩
abbrev main_cst_22 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_cst_23 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_cst_24 : Ref sig .tc := ⟨.hbm, 174, rfl⟩
abbrev main_v134 : Ref sig .tc := ⟨.hbm, 175, rfl⟩
abbrev main_v135 : Ref sig .tc := ⟨.hbm, 176, rfl⟩
abbrev main_cst_25 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_26 : Ref sig .tc := ⟨.hbm, 183, rfl⟩
abbrev main_v141 : Ref sig .tc := ⟨.hbm, 184, rfl⟩
abbrev main_v142 : Ref sig .tc := ⟨.hbm, 185, rfl⟩
abbrev main_cst_27 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩

abbrev nD : Nat := 1
abbrev τ : Topo := Topo.v7x

variable {F : FTy → Type} [FloatOps F]
-- ==== Kernel2.lean ====
abbrev S1x8192x8x96 : Shape := ⟨4, ![1, 8192, 8, 96]⟩
abbrev S1x8192x8x64 : Shape := ⟨4, ![1, 8192, 8, 64]⟩
abbrev S1x8192 : Shape := ⟨2, ![1, 8192]⟩
abbrev S1x8192x512 : Shape := ⟨3, ![1, 8192, 512]⟩
abbrev S16 : Shape := ⟨1, ![16]⟩
abbrev S_ : Shape := ⟨0, ![]⟩
abbrev S64 : Shape := ⟨1, ![64]⟩
abbrev S32 : Shape := ⟨1, ![32]⟩
abbrev S128 : Shape := ⟨1, ![128]⟩
abbrev S8192x1 : Shape := ⟨2, ![8192, 1]⟩
abbrev S1x128 : Shape := ⟨2, ![1, 128]⟩
abbrev S8192x128 : Shape := ⟨2, ![8192, 128]⟩
abbrev S8192x256 : Shape := ⟨2, ![8192, 256]⟩
abbrev S16x1024 : Shape := ⟨2, ![16, 1024]⟩
abbrev S1x8192x8x32 : Shape := ⟨4, ![1, 8192, 8, 32]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x8x16 : Shape := ⟨4, ![1, 8192, 8, 16]⟩
abbrev S1x8x8192x8192 : Shape := ⟨4, ![1, 8, 8192, 8192]⟩
abbrev S8192 : Shape := ⟨1, ![8192]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8192x512 : Shape := ⟨2, ![8192, 512]⟩
abbrev S4x2x16x512 : Shape := ⟨4, ![4, 2, 16, 512]⟩
abbrev S4x16x2x512 : Shape := ⟨4, ![4, 16, 2, 512]⟩
abbrev S1x8192x8x128 : Shape := ⟨4, ![1, 8192, 8, 128]⟩
abbrev S8192x1024 : Shape := ⟨2, ![8192, 1024]⟩
abbrev S512x256 : Shape := ⟨2, ![512, 256]⟩
abbrev S512x128 : Shape := ⟨2, ![512, 128]⟩
abbrev S1x1x2x512 : Shape := ⟨4, ![1, 1, 2, 512]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1x1x1x512 : Shape := ⟨4, ![1, 1, 1, 512]⟩
abbrev S2048x128 : Shape := ⟨2, ![2048, 128]⟩
abbrev S2048x512 : Shape := ⟨2, ![2048, 512]⟩
abbrev S1536x128 : Shape := ⟨2, ![1536, 128]⟩
abbrev S1536x512 : Shape := ⟨2, ![1536, 512]⟩
abbrev S1024x128 : Shape := ⟨2, ![1024, 128]⟩
abbrev S1024x512 : Shape := ⟨2, ![1024, 512]⟩
abbrev S512x512 : Shape := ⟨2, ![512, 512]⟩

abbrev nBuf : Space → Nat
  | .hbm => 166
  | .vmem => 23
  | .smem => 0
  | _ => 0

abbrev hbmTy0_0 (i : Nat) : BufTy := match i % 128 with
  | 0 => ⟨S1x8192x8x96, .f32⟩
  | 1 => ⟨S1x8192x8x96, .f32⟩
  | 2 => ⟨S1x8192x8x64, .f32⟩
  | 3 => ⟨S1x8192, .i32⟩
  | 4 => ⟨S1x8192x512, .f32⟩
  | 5 => ⟨S16, .f32⟩
  | 6 => ⟨S_, .f32⟩
  | 7 => ⟨S16, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S64, .f32⟩
  | 17 => ⟨S_, .f32⟩
  | 18 => ⟨S32, .f32⟩
  | 19 => ⟨S128, .f32⟩
  | 20 => ⟨S8192x1, .i32⟩
  | 21 => ⟨S8192x1, .f32⟩
  | 22 => ⟨S1x128, .f32⟩
  | 23 => ⟨S8192x128, .f32⟩
  | 24 => ⟨S8192x128, .f32⟩
  | 25 => ⟨S8192x128, .f32⟩
  | 26 => ⟨S8192x128, .f32⟩
  | 27 => ⟨S8192x128, .f32⟩
  | 28 => ⟨S8192x256, .f32⟩
  | 29 => ⟨S16x1024, .i32⟩
  | 30 => ⟨S16x1024, .i32⟩
  | 31 => ⟨S_, .i32⟩
  | 32 => ⟨S16x1024, .i32⟩
  | 33 => ⟨S16x1024, .i1⟩
  | 34 => ⟨S_, .i32⟩
  | 35 => ⟨S16x1024, .i32⟩
  | 36 => ⟨S16x1024, .i1⟩
  | 37 => ⟨S16x1024, .i1⟩
  | 38 => ⟨S_, .i32⟩
  | 39 => ⟨S16x1024, .i32⟩
  | 40 => ⟨S16x1024, .i1⟩
  | 41 => ⟨S16x1024, .i1⟩
  | 42 => ⟨S_, .i32⟩
  | 43 => ⟨S16x1024, .i32⟩
  | 44 => ⟨S16x1024, .i1⟩
  | 45 => ⟨S_, .i32⟩
  | 46 => ⟨S16x1024, .i32⟩
  | 47 => ⟨S16x1024, .i1⟩
  | 48 => ⟨S16x1024, .i1⟩
  | 49 => ⟨S_, .i32⟩
  | 50 => ⟨S16x1024, .i32⟩
  | 51 => ⟨S16x1024, .i1⟩
  | 52 => ⟨S16x1024, .i1⟩
  | 53 => ⟨S_, .f32⟩
  | 54 => ⟨S_, .f32⟩
  | 55 => ⟨S16x1024, .f32⟩
  | 56 => ⟨S16x1024, .f32⟩
  | 57 => ⟨S16x1024, .f32⟩
  | 58 => ⟨S_, .f32⟩
  | 59 => ⟨S16x1024, .f32⟩
  | 60 => ⟨S16x1024, .f32⟩
  | 61 => ⟨S16x1024, .f32⟩
  | 62 => ⟨S1x8192x8x64, .f32⟩
  | 63 => ⟨S1x8192x8x32, .f32⟩
  | 64 => ⟨S16, .f32⟩
  | 65 => ⟨S_, .f32⟩
  | 66 => ⟨S16, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S1x8192, .f32⟩
  | 75 => ⟨S1x8192x1, .f32⟩
  | 76 => ⟨S1x1x16, .f32⟩
  | 77 => ⟨S1x8192x16, .f32⟩
  | 78 => ⟨S1x8192x16, .f32⟩
  | 79 => ⟨S1x8192x16, .f32⟩
  | 80 => ⟨S1x8192x16, .f32⟩
  | 81 => ⟨S1x8192x1x16, .f32⟩
  | 82 => ⟨S1x8192x16, .f32⟩
  | 83 => ⟨S1x8192x1x16, .f32⟩
  | 84 => ⟨S1x8192x8x16, .f32⟩
  | 85 => ⟨S1x8192x8x16, .f32⟩
  | 86 => ⟨S1x8192x8x16, .f32⟩
  | 87 => ⟨S1x8192x8x16, .f32⟩
  | 88 => ⟨S1x8192x8x16, .f32⟩
  | 89 => ⟨S1x8192x8x16, .f32⟩
  | 90 => ⟨S1x8192x8x16, .f32⟩
  | 91 => ⟨S1x8192x8x16, .f32⟩
  | 92 => ⟨S1x8192x8x16, .f32⟩
  | 93 => ⟨S1x8192x8x16, .f32⟩
  | 94 => ⟨S1x8192x8x16, .f32⟩
  | 95 => ⟨S1x8192x8x16, .f32⟩
  | 96 => ⟨S1x8192x8x32, .f32⟩
  | 97 => ⟨S1x8192x8x96, .f32⟩
  | 98 => ⟨S1x8x8192x8192, .f32⟩
  | 99 => ⟨S_, .f32⟩
  | 100 => ⟨S1x8x8192x8192, .f32⟩
  | 101 => ⟨S1x8x8192x8192, .f32⟩
  | 102 => ⟨S8192, .i32⟩
  | 103 => ⟨S1x8192, .i32⟩
  | 104 => ⟨S8192, .i32⟩
  | 105 => ⟨S8192x1, .i32⟩
  | 106 => ⟨S8192x8192, .i32⟩
  | 107 => ⟨S8192x8192, .i32⟩
  | 108 => ⟨S8192x8192, .i1⟩
  | 109 => ⟨S1x1x8192x8192, .i1⟩
  | 110 => ⟨S_, .f32⟩
  | 111 => ⟨S_, .f32⟩
  | 112 => ⟨S1x8x8192x8192, .i1⟩
  | 113 => ⟨S1x8x8192x8192, .f32⟩
  | 114 => ⟨S1x8x8192x8192, .f32⟩
  | 115 => ⟨S_, .f32⟩
  | 116 => ⟨S1x8x8192, .f32⟩
  | 117 => ⟨S1x8x8192x1, .f32⟩
  | 118 => ⟨S1x8x8192x8192, .f32⟩
  | 119 => ⟨S1x8x8192x8192, .f32⟩
  | 120 => ⟨S1x8x8192x8192, .f32⟩
  | 121 => ⟨S_, .f32⟩
  | 122 => ⟨S1x8x8192, .f32⟩
  | 123 => ⟨S1x8x8192x1, .f32⟩
  | 124 => ⟨S1x8x8192x8192, .f32⟩
  | 125 => ⟨S1x8x8192x8192, .f32⟩
  | 126 => ⟨S1x8x64x8192, .f32⟩
  | 127 => ⟨S1x8192x8x64, .f32⟩
  | _ => ⟨S1x8192x8x96, .f32⟩

abbrev hbmTy0_1 (i : Nat) : BufTy := match i % 128 with
  | 0 => ⟨S8192x512, .f32⟩
  | 1 => ⟨S_, .f32⟩
  | 2 => ⟨S_, .f32⟩
  | 3 => ⟨S1x8x8192x1, .f32⟩
  | 4 => ⟨S1x8x8192x1, .f32⟩
  | 5 => ⟨S1x8x8192x1, .f32⟩
  | 6 => ⟨S1x8x8192x1, .f32⟩
  | 7 => ⟨S4x2x16x512, .f32⟩
  | 8 => ⟨S4x16x2x512, .f32⟩
  | 9 => ⟨S_, .f32⟩
  | 10 => ⟨S_, .f32⟩
  | 11 => ⟨S1x8192x8x96, .f32⟩
  | 12 => ⟨S1x8192x8x96, .f32⟩
  | 13 => ⟨S_, .i32⟩
  | 14 => ⟨S_, .f32⟩
  | 15 => ⟨S1x8192x8x128, .f32⟩
  | 16 => ⟨S8192x1024, .f32⟩
  | 17 => ⟨S8192x1024, .bf16⟩
  | 18 => ⟨S_, .i32⟩
  | 19 => ⟨S_, .f32⟩
  | 20 => ⟨S1x8192x8x128, .f32⟩
  | 21 => ⟨S8192x1024, .f32⟩
  | 22 => ⟨S8192x1024, .bf16⟩
  | 23 => ⟨S8192x512, .f32⟩
  | 24 => ⟨S8192x512, .bf16⟩
  | 25 => ⟨S8192x512, .f32⟩
  | 26 => ⟨S8192x512, .bf16⟩
  | 27 => ⟨S8192x1024, .bf16⟩
  | 28 => ⟨S8192x1024, .bf16⟩
  | 29 => ⟨S8192x512, .bf16⟩
  | 30 => ⟨S1x8192x8x128, .bf16⟩
  | 31 => ⟨S1x8192x8x96, .bf16⟩
  | 32 => ⟨S1x8192x8x96, .f32⟩
  | 33 => ⟨S1x8192x8x128, .bf16⟩
  | 34 => ⟨S1x8192x8x96, .bf16⟩
  | 35 => ⟨S1x8192x8x96, .f32⟩
  | 36 => ⟨S1x8192x8x64, .bf16⟩
  | 37 => ⟨S1x8192x8x64, .f32⟩
  | _ => ⟨S1x8192x8x96, .f32⟩

abbrev hbmTy (i : Nat) : BufTy := match i / 128 with
  | 0 => hbmTy0_0 i
  | 1 => hbmTy0_1 i
  | _ => ⟨S1x8192x8x96, .f32⟩

abbrev bufTy : (tb : Table) → Fin (tcTables nBuf tb) → BufTy
  | .hbm, ⟨i, _⟩ => hbmTy i
  | .local _ .vmem, ⟨0, _⟩ => ⟨S512x256, .bf16⟩
  | .local _ .vmem, ⟨1, _⟩ => ⟨S512x256, .bf16⟩
  | .local _ .vmem, ⟨2, _⟩ => ⟨S8192x256, .bf16⟩
  | .local _ .vmem, ⟨3, _⟩ => ⟨S8192x256, .bf16⟩
  | .local _ .vmem, ⟨4, _⟩ => ⟨S8192x128, .bf16⟩
  | .local _ .vmem, ⟨5, _⟩ => ⟨S8192x128, .bf16⟩
  | .local _ .vmem, ⟨6, _⟩ => ⟨S512x128, .bf16⟩
  | .local _ .vmem, ⟨7, _⟩ => ⟨S512x128, .bf16⟩
  | .local _ .vmem, ⟨8, _⟩ => ⟨S512x128, .f32⟩
  | .local _ .vmem, ⟨9, _⟩ => ⟨S512x128, .f32⟩
  | .local _ .vmem, ⟨10, _⟩ => ⟨S1x1x2x512, .f32⟩
  | .local _ .vmem, ⟨11, _⟩ => ⟨S1x1x2x512, .f32⟩
  | .local _ .vmem, ⟨12, _⟩ => ⟨S512x256, .f32⟩
  | .local _ .vmem, ⟨13, _⟩ => ⟨S512x256, .f32⟩
  | .local _ .vmem, ⟨14, _⟩ => ⟨S16x1024, .f32⟩
  | .local _ .vmem, ⟨15, _⟩ => ⟨S512x256, .bf16⟩
  | .local _ .vmem, ⟨16, _⟩ => ⟨S512x256, .bf16⟩
  | .local _ .vmem, ⟨17, _⟩ => ⟨S8192x256, .bf16⟩
  | .local _ .vmem, ⟨18, _⟩ => ⟨S8192x256, .bf16⟩
  | .local _ .vmem, ⟨19, _⟩ => ⟨S8192x128, .bf16⟩
  | .local _ .vmem, ⟨20, _⟩ => ⟨S8192x128, .bf16⟩
  | .local _ .vmem, ⟨21, _⟩ => ⟨S8192x256, .f32⟩
  | .local _ .vmem, ⟨22, _⟩ => ⟨S8192x128, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_cst_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_6 : Ref sig .tc := ⟨.hbm, 42, rfl⟩
abbrev main_v29 : Ref sig .tc := ⟨.hbm, 43, rfl⟩
abbrev main_v30 : Ref sig .tc := ⟨.hbm, 44, rfl⟩
abbrev main_c_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_cst_10 : Ref sig .tc := ⟨.hbm, 54, rfl⟩
abbrev main_call0_v0 : Ref sig .tc := ⟨.hbm, 55, rfl⟩
abbrev main_call0_v1 : Ref sig .tc := ⟨.hbm, 56, rfl⟩
abbrev main_v37 : Ref sig .tc := ⟨.hbm, 57, rfl⟩
abbrev main_cst_11 : Ref sig .tc := ⟨.hbm, 58, rfl⟩
abbrev main_call1_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_12 : Ref sig .tc := ⟨.hbm, 65, rfl⟩
abbrev main_v43 : Ref sig .tc := ⟨.hbm, 66, rfl⟩
abbrev main_v44 : Ref sig .tc := ⟨.hbm, 67, rfl⟩
abbrev main_cst_13 : Ref sig .tc := ⟨.hbm, 68, rfl⟩
abbrev main_v45 : Ref sig .tc := ⟨.hbm, 69, rfl⟩
abbrev main_v46 : Ref sig .tc := ⟨.hbm, 70, rfl⟩
abbrev main_cst_14 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_15 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_cst_16 : Ref sig .tc := ⟨.hbm, 110, rfl⟩
abbrev main_call2_v0 : Ref sig .tc := ⟨.hbm, 111, rfl⟩
abbrev main_call2_v1 : Ref sig .tc := ⟨.hbm, 112, rfl⟩
abbrev main_call2_v2 : Ref sig .tc := ⟨.hbm, 113, rfl⟩
abbrev main_v84 : Ref sig .tc := ⟨.hbm, 114, rfl⟩
abbrev main_cst_17 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_18 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_cst_19 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_cst_20 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_c_21 : Ref sig .tc := ⟨.hbm, 141, rfl⟩
abbrev main_call3_v0 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_c_22 : Ref sig .tc := ⟨.hbm, 146, rfl⟩
abbrev main_call4_v0 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117_0 : Ref sig .tc := ⟨.hbm, 155, rfl⟩
abbrev main_v117_1 : Ref sig .tc := ⟨.hbm, 156, rfl⟩
abbrev main_v117_2 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_25 : BitVec 32 := 1#32
  ⟨c0_i32_23, v53, c1_i32_25⟩
def k0_mult1 (i : grid0.Coords) (k0_t1 : Fin (k0_t1_loop i).trips) : BitVec 32 :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  v108
def k0_off1 (i : grid0.Coords) (k0_t1 : Fin (k0_t1_loop i).trips) : Fin 2 → Nat :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  let v109 : BitVec 32 := v108
  let v110 : Index := Scalar.indexCast v109
  let c0_51 : Index := 0#32
  ![v110.toNat, 0]
def k0_off2 (i : grid0.Coords) (k0_t1 : Fin (k0_t1_loop i).trips) : Fin 2 → Nat :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  let v109 : BitVec 32 := v108
  let v113 : Index := Scalar.indexCast v109
  let c0_52 : Index := 0#32
  ![v113.toNat, 0]
def k0_off3 (i : grid0.Coords) (k0_t1 : Fin (k0_t1_loop i).trips) : Fin 2 → Nat :=
  let c4_i32_50 : BitVec 32 := 4#32
  let c0_i32_23 : BitVec 32 := 0#32
  let c1_i32_25 : BitVec 32 := 1#32
  let arg15 : BitVec 32 := Scf.iv c0_i32_23 c1_i32_25 k0_t1
  let v107 : BitVec 32 := Scalar.muli c4_i32_50 arg15
  let c512_i32 : BitVec 32 := 512#32
  let v108 : BitVec 32 := Scalar.muli v107 c512_i32
  let v109 : BitVec 32 := v108
  let v137 : Index := Scalar.indexCast v109
  let c128_60 : Index := 128#32
  ![v137.toNat, 128]
@[reducible] def k0_t2_loop (i : grid0.Coords) : Scf.Loop 32 :=
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let v50 : BitVec 32 := Scalar.addi c0_i32_23 v49
  let c1_i32_26 : BitVec 32 := 1#32
  ⟨v53, v50, c1_i32_26⟩
def k0_mult2 (i : grid0.Coords) (k0_t2 : Fin (k0_t2_loop i).trips) : BitVec 32 :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  v108
def k0_off4 (i : grid0.Coords) (k0_t2 : Fin (k0_t2_loop i).trips) : Fin 2 → Nat :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  let v109 : BitVec 32 := v108
  let v110 : Index := Scalar.indexCast v109
  let c0_51 : Index := 0#32
  ![v110.toNat, 0]
def k0_off5 (i : grid0.Coords) (k0_t2 : Fin (k0_t2_loop i).trips) : Fin 2 → Nat :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  let v109 : BitVec 32 := v108
  let v113 : Index := Scalar.indexCast v109
  let c0_52 : Index := 0#32
  ![v113.toNat, 0]
def k0_off6 (i : grid0.Coords) (k0_t2 : Fin (k0_t2_loop i).trips) : Fin 2 → Nat :=
  let c4_i32_50 : BitVec 32 := 4#32
  let c0_i32_23 : BitVec 32 := 0#32
  let arg1 : BitVec 32 := BitVec.ofNat 32 (i 1).val
  let c0_i32_18 : BitVec 32 := 0#32
  let v33 : BitVec 1 := Scalar.cmpi .sgt arg1 c0_i32_18
  let v34 : BitVec 32 := Scalar.extui v33
  let c0_i32_19 : BitVec 32 := 0#32
  let v35 : BitVec 1 := Scalar.cmpi .slt arg1 c0_i32_19
  let v36 : BitVec 32 := Scalar.extui v35
  let v37 : BitVec 32 := Scalar.subi v34 v36
  let c4_i32 : BitVec 32 := 4#32
  let c0_i32_20 : BitVec 32 := 0#32
  let v38 : BitVec 1 := Scalar.cmpi .sgt c4_i32 c0_i32_20
  let v39 : BitVec 32 := Scalar.extui v38
  let c0_i32_21 : BitVec 32 := 0#32
  let v40 : BitVec 1 := Scalar.cmpi .slt c4_i32 c0_i32_21
  let v41 : BitVec 32 := Scalar.extui v40
  let v42 : BitVec 32 := Scalar.subi v39 v41
  let v43 : BitVec 1 := Scalar.cmpi .ne v37 v42
  let v44 : BitVec 32 := Scalar.remsi arg1 c4_i32
  let c0_i32_22 : BitVec 32 := 0#32
  let v45 : BitVec 1 := Scalar.cmpi .ne v44 c0_i32_22
  let v46 : BitVec 1 := Scalar.andi v43 v45
  let v32 : BitVec 32 := Scalar.divsi arg1 c4_i32
  let c1_i32 : BitVec 32 := 1#32
  let v47 : BitVec 32 := Scalar.subi v32 c1_i32
  let v48 : BitVec 32 := Scalar.select v46 v47 v32
  let v49 : BitVec 32 := Scalar.subi v48 c0_i32_23
  let c1_i32_24 : BitVec 32 := 1#32
  let v51 : BitVec 32 := Scalar.divsi v49 c1_i32_24
  let v52 : BitVec 32 := Scalar.muli v51 c1_i32_24
  let v53 : BitVec 32 := Scalar.addi c0_i32_23 v52
  let c1_i32_26 : BitVec 32 := 1#32
  let arg15 : BitVec 32 := Scf.iv v53 c1_i32_26 k0_t2
  let v107 : BitVec 32 := Scalar.muli c4_i32_50 arg15
  let c512_i32 : BitVec 32 := 512#32
  let v108 : BitVec 32 := Scalar.muli v107 c512_i32
  let v109 : BitVec 32 := v108
  let v137 : Index := Scalar.indexCast v109
  let c128_60 : Index := 128#32
  ![v137.toNat, 128]
def k0_cond2 (i : grid0.Coords) : BitVec 1 :=
  let arg1 : BitVec 32 := BitVec.ofNat 32 (i 1).val
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi arg1 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v66 : BitVec 32 := Scalar.maxsi v65 c0_i32_33
  let c3_i32 : BitVec 32 := 3#32
  let v67 : BitVec 32 := Scalar.minsi v66 c3_i32
  let c0_i32_34 : BitVec 32 := 0#32
  let v68 : BitVec 1 := Scalar.cmpi .ne v67 c0_i32_34
  v68

def k0_cond3 (i : grid0.Coords) : BitVec 1 :=
  let arg1 : BitVec 32 := BitVec.ofNat 32 (i 1).val
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi arg1 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v66 : BitVec 32 := Scalar.maxsi v65 c0_i32_33
  let c3_i32 : BitVec 32 := 3#32
  let v67 : BitVec 32 := Scalar.minsi v66 c3_i32
  let c1_i32_50 : BitVec 32 := 1#32
  let v107 : BitVec 32 := Scalar.subi v67 c1_i32_50
  let c0_i32_51 : BitVec 32 := 0#32
  let v108 : BitVec 1 := Scalar.cmpi .ne v107 c0_i32_51
  v108

def k0_cond4 (i : grid0.Coords) : BitVec 1 :=
  let arg1 : BitVec 32 := BitVec.ofNat 32 (i 1).val
  let c4_i32_27 : BitVec 32 := 4#32
  let c0_i32_28 : BitVec 32 := 0#32
  let v56 : BitVec 1 := Scalar.cmpi .eq c4_i32_27 c0_i32_28
  let c1_i32_29 : BitVec 32 := 1#32
  let v57 : BitVec 32 := Scalar.select v56 c1_i32_29 c4_i32_27
  let v58 : BitVec 32 := Scalar.remsi arg1 v57
  let c0_i32_31 : BitVec 32 := 0#32
  let v60 : BitVec 1 := Scalar.cmpi .slt v58 c0_i32_31
  let c0_i32_32 : BitVec 32 := 0#32
  let v61 : BitVec 1 := Scalar.cmpi .slt v57 c0_i32_32
  let v62 : BitVec 1 := Scalar.xori v60 v61
  let c0_i32_30 : BitVec 32 := 0#32
  let v59 : BitVec 1 := Scalar.cmpi .ne v58 c0_i32_30
  let v63 : BitVec 1 := Scalar.andi v62 v59
  let v64 : BitVec 32 := Scalar.addi v58 v57
  let v65 : BitVec 32 := Scalar.select v63 v64 v58
  let c0_i32_33 : BitVec 32 := 0#32
  let v66 : BitVec 32 := Scalar.maxsi v65 c0_i32_33
  let c3_i32 : BitVec 32 := 3#32
  let v67 : BitVec 32 := Scalar.minsi v66 c3_i32
  let c1_i32_50 : BitVec 32 := 1#32
  let v107 : BitVec 32 := Scalar.subi v67 c1_i32_50
  let c1_i32_52 : BitVec 32 := 1#32
  let v110 : BitVec 32 := Scalar.subi v107 c1_i32_52
  let c0_i32_53 : BitVec 32 := 0#32
  let v111 : BitVec 1 := Scalar.cmpi .ne v110 c0_i32_53
  v111

def k0_mult3 (i : grid0.Coords) : BitVec 32 :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  v131
def k0_off7 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v133 : Index := Scalar.indexCast v132
  let c0_62 : Index := 0#32
  ![v133.toNat, 0]
def k0_off8 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v136 : Index := Scalar.indexCast v132
  let c0_63 : Index := 0#32
  ![v136.toNat, 0]
def k0_off9 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v167 : Index := Scalar.indexCast v132
  let c128_72 : Index := 128#32
  ![v167.toNat, 128]
def k0_mult4 (i : grid0.Coords) : BitVec 32 :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  v131
def k0_off10 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v133 : Index := Scalar.indexCast v132
  let c0_62 : Index := 0#32
  ![v133.toNat, 0]
def k0_off11 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v136 : Index := Scalar.indexCast v132
  let c0_63 : Index := 0#32
  ![v136.toNat, 0]
def k0_off12 (i : grid0.Coords) : Fin 2 → Nat :=
  let c4_i32_61 : BitVec 32 := 4#32
  let arg1 : BitVec 32 := BitVec.ofNat 32 (i 1).val
  let c0_i32_55 : BitVec 32 := 0#32
  let v114 : BitVec 1 := Scalar.cmpi .sgt arg1 c0_i32_55
  let v115 : BitVec 32 := Scalar.extui v114
  let c0_i32_56 : BitVec 32 := 0#32
  let v116 : BitVec 1 := Scalar.cmpi .slt arg1 c0_i32_56
  let v117 : BitVec 32 := Scalar.extui v116
  let v118 : BitVec 32 := Scalar.subi v115 v117
  let c4_i32_54 : BitVec 32 := 4#32
  let c0_i32_57 : BitVec 32 := 0#32
  let v119 : BitVec 1 := Scalar.cmpi .sgt c4_i32_54 c0_i32_57
  let v120 : BitVec 32 := Scalar.extui v119
  let c0_i32_58 : BitVec 32 := 0#32
  let v121 : BitVec 1 := Scalar.cmpi .slt c4_i32_54 c0_i32_58
  let v122 : BitVec 32 := Scalar.extui v121
  let v123 : BitVec 32 := Scalar.subi v120 v122
  let v124 : BitVec 1 := Scalar.cmpi .ne v118 v123
  let v125 : BitVec 32 := Scalar.remsi arg1 c4_i32_54
  let c0_i32_59 : BitVec 32 := 0#32
  let v126 : BitVec 1 := Scalar.cmpi .ne v125 c0_i32_59
  let v127 : BitVec 1 := Scalar.andi v124 v126
  let v113 : BitVec 32 := Scalar.divsi arg1 c4_i32_54
  let c1_i32_60 : BitVec 32 := 1#32
  let v128 : BitVec 32 := Scalar.subi v113 c1_i32_60
  let v129 : BitVec 32 := Scalar.select v127 v128 v113
  let v130 : BitVec 32 := Scalar.muli c4_i32_61 v129
  let c512_i32 : BitVec 32 := 512#32
  let v131 : BitVec 32 := Scalar.muli v130 c512_i32
  let v132 : BitVec 32 := v131
  let v167 : Index := Scalar.indexCast v132
  let c128_72 : Index := 128#32
  ![v167.toNat, 128]
def k0_mult5 (i : grid0.Coords) : BitVec 32 :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  v128
def k0_off13 (i : grid0.Coords) : Fin 2 → Nat :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  let v129 : BitVec 32 := v128
  let v130 : Index := Scalar.indexCast v129
  let c0_60 : Index := 0#32
  ![v130.toNat, 0]
def k0_off14 (i : grid0.Coords) : Fin 2 → Nat :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  let v129 : BitVec 32 := v128
  let v133 : Index := Scalar.indexCast v129
  let c0_61 : Index := 0#32
  ![v133.toNat, 0]
def k0_off15 (i : grid0.Coords) : Fin 2 → Nat :=
  let c4_i32_59 : BitVec 32 := 4#32
  let arg1 : BitVec 32 := BitVec.ofNat 32 (i 1).val
  let c0_i32_53 : BitVec 32 := 0#32
  let v111 : BitVec 1 := Scalar.cmpi .sgt arg1 c0_i32_53
  let v112 : BitVec 32 := Scalar.extui v111
  let c0_i32_54 : BitVec 32 := 0#32
  let v113 : BitVec 1 := Scalar.cmpi .slt arg1 c0_i32_54
  let v114 : BitVec 32 := Scalar.extui v113
  let v115 : BitVec 32 := Scalar.subi v112 v114
  let c4_i32_52 : BitVec 32 := 4#32
  let c0_i32_55 : BitVec 32 := 0#32
  let v116 : BitVec 1 := Scalar.cmpi .sgt c4_i32_52 c0_i32_55
  let v117 : BitVec 32 := Scalar.extui v116
  let c0_i32_56 : BitVec 32 := 0#32
  let v118 : BitVec 1 := Scalar.cmpi .slt c4_i32_52 c0_i32_56
  let v119 : BitVec 32 := Scalar.extui v118
  let v120 : BitVec 32 := Scalar.subi v117 v119
  let v121 : BitVec 1 := Scalar.cmpi .ne v115 v120
  let v122 : BitVec 32 := Scalar.remsi arg1 c4_i32_52
  let c0_i32_57 : BitVec 32 := 0#32
  let v123 : BitVec 1 := Scalar.cmpi .ne v122 c0_i32_57
  let v124 : BitVec 1 := Scalar.andi v121 v123
  let v110 : BitVec 32 := Scalar.divsi arg1 c4_i32_52
  let c1_i32_58 : BitVec 32 := 1#32
  let v125 : BitVec 32 := Scalar.subi v110 c1_i32_58
  let v126 : BitVec 32 := Scalar.select v124 v125 v110
  let v127 : BitVec 32 := Scalar.muli c4_i32_59 v126
  let c512_i32 : BitVec 32 := 512#32
  let v128 : BitVec 32 := Scalar.muli v127 c512_i32
  let v129 : BitVec 32 := v128
  let v164 : Index := Scalar.indexCast v129
  let c128_71 : Index := 128#32
  ![v164.toNat, 128]
def k0_mult6 (i : grid0.Coords) : BitVec 32 :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  v125
def k0_off16 (i : grid0.Coords) : Fin 2 → Nat :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  let v126 : BitVec 32 := v125
  let v127 : Index := Scalar.indexCast v126
  let c0_58 : Index := 0#32
  ![v127.toNat, 0]
def k0_off17 (i : grid0.Coords) : Fin 2 → Nat :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  let v126 : BitVec 32 := v125
  let v130 : Index := Scalar.indexCast v126
  let c0_59 : Index := 0#32
  ![v130.toNat, 0]
def k0_off18 (i : grid0.Coords) : Fin 2 → Nat :=
  let c4_i32_57 : BitVec 32 := 4#32
  let arg1 : BitVec 32 := BitVec.ofNat 32 (i 1).val
  let c0_i32_51 : BitVec 32 := 0#32
  let v108 : BitVec 1 := Scalar.cmpi .sgt arg1 c0_i32_51
  let v109 : BitVec 32 := Scalar.extui v108
  let c0_i32_52 : BitVec 32 := 0#32
  let v110 : BitVec 1 := Scalar.cmpi .slt arg1 c0_i32_52
  let v111 : BitVec 32 := Scalar.extui v110
  let v112 : BitVec 32 := Scalar.subi v109 v111
  let c4_i32_50 : BitVec 32 := 4#32
  let c0_i32_53 : BitVec 32 := 0#32
  let v113 : BitVec 1 := Scalar.cmpi .sgt c4_i32_50 c0_i32_53
  let v114 : BitVec 32 := Scalar.extui v113
  let c0_i32_54 : BitVec 32 := 0#32
  let v115 : BitVec 1 := Scalar.cmpi .slt c4_i32_50 c0_i32_54
  let v116 : BitVec 32 := Scalar.extui v115
  let v117 : BitVec 32 := Scalar.subi v114 v116
  let v118 : BitVec 1 := Scalar.cmpi .ne v112 v117
  let v119 : BitVec 32 := Scalar.remsi arg1 c4_i32_50
  let c0_i32_55 : BitVec 32 := 0#32
  let v120 : BitVec 1 := Scalar.cmpi .ne v119 c0_i32_55
  let v121 : BitVec 1 := Scalar.andi v118 v120
  let v107 : BitVec 32 := Scalar.divsi arg1 c4_i32_50
  let c1_i32_56 : BitVec 32 := 1#32
  let v122 : BitVec 32 := Scalar.subi v107 c1_i32_56
  let v123 : BitVec 32 := Scalar.select v121 v122 v107
  let v124 : BitVec 32 := Scalar.muli c4_i32_57 v123
  let c512_i32 : BitVec 32 := 512#32
  let v125 : BitVec 32 := Scalar.muli v124 c512_i32
  let v126 : BitVec 32 := v125
  let v161 : Index := Scalar.indexCast v126
  let c128_69 : Index := 128#32
  ![v161.toNat, 128]
def k0_cond5 (i : grid0.Coords) : BitVec 1 :=
  let arg1 : BitVec 32 := BitVec.ofNat 32 (i 1).val
  let c15_i32 : BitVec 32 := 15#32
  let v104 : BitVec 1 := Scalar.cmpi .eq arg1 c15_i32
  let v105 : BitVec 32 := Scalar.extui v104
  let c0_i32_49 : BitVec 32 := 0#32
  let v106 : BitVec 1 := Scalar.cmpi .ne v105 c0_i32_49
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8192x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S8192x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Kernel2Ideal.lean ====
variable {F : FTy → Type} [FloatOps F] [Named F]
def κ : String → Option EReal := fun
  | "unscale" => some ((Real.log 2 : ℝ) : EReal)
  | _ => none
-- ==== Reference2Ideal.lean ====
abbrev S1x8192x8x96 : Shape := ⟨4, ![1, 8192, 8, 96]⟩
abbrev S1x8192x8x64 : Shape := ⟨4, ![1, 8192, 8, 64]⟩
abbrev S1x8192 : Shape := ⟨2, ![1, 8192]⟩
abbrev S1x8192x512 : Shape := ⟨3, ![1, 8192, 512]⟩
abbrev S1x8192x8x32 : Shape := ⟨4, ![1, 8192, 8, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x8x16 : Shape := ⟨4, ![1, 8192, 8, 16]⟩
abbrev S1x8x8192x8192 : Shape := ⟨4, ![1, 8, 8192, 8192]⟩
abbrev S8192 : Shape := ⟨1, ![8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S8x8192 : Shape := ⟨2, ![8, 8192]⟩
abbrev S1x8x8192x96 : Shape := ⟨4, ![1, 8, 8192, 96]⟩

abbrev nBuf : Space → Nat
  | .hbm => 156
  | .vmem => 0
  | .smem => 0
  | _ => 0

abbrev hbmTy0_0 (i : Nat) : BufTy := match i % 128 with
  | 0 => ⟨S1x8192x8x96, .f32⟩
  | 1 => ⟨S1x8192x8x96, .f32⟩
  | 2 => ⟨S1x8192x8x64, .f32⟩
  | 3 => ⟨S1x8192, .i32⟩
  | 4 => ⟨S1x8192x512, .f32⟩
  | 5 => ⟨S1x8192x8x64, .f32⟩
  | 6 => ⟨S1x8192x8x32, .f32⟩
  | 7 => ⟨S16, .f32⟩
  | 8 => ⟨S_, .f32⟩
  | 9 => ⟨S16, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S1x8192, .f32⟩
  | 18 => ⟨S1x8192x1, .f32⟩
  | 19 => ⟨S1x1x16, .f32⟩
  | 20 => ⟨S1x8192x16, .f32⟩
  | 21 => ⟨S1x8192x16, .f32⟩
  | 22 => ⟨S1x8192x16, .f32⟩
  | 23 => ⟨S1x8192x16, .f32⟩
  | 24 => ⟨S1x8192x1x16, .f32⟩
  | 25 => ⟨S1x8192x16, .f32⟩
  | 26 => ⟨S1x8192x1x16, .f32⟩
  | 27 => ⟨S1x8192x8x16, .f32⟩
  | 28 => ⟨S1x8192x8x16, .f32⟩
  | 29 => ⟨S1x8192x8x16, .f32⟩
  | 30 => ⟨S1x8192x8x16, .f32⟩
  | 31 => ⟨S1x8192x8x16, .f32⟩
  | 32 => ⟨S1x8192x8x16, .f32⟩
  | 33 => ⟨S1x8192x8x16, .f32⟩
  | 34 => ⟨S1x8192x8x16, .f32⟩
  | 35 => ⟨S1x8192x8x16, .f32⟩
  | 36 => ⟨S1x8192x8x16, .f32⟩
  | 37 => ⟨S1x8192x8x16, .f32⟩
  | 38 => ⟨S1x8192x8x16, .f32⟩
  | 39 => ⟨S1x8192x8x32, .f32⟩
  | 40 => ⟨S1x8192x8x96, .f32⟩
  | 41 => ⟨S1x8x8192x8192, .f32⟩
  | 42 => ⟨S_, .f32⟩
  | 43 => ⟨S1x8x8192x8192, .f32⟩
  | 44 => ⟨S1x8x8192x8192, .f32⟩
  | 45 => ⟨S8192, .i32⟩
  | 46 => ⟨S1x8192, .i32⟩
  | 47 => ⟨S8192, .i32⟩
  | 48 => ⟨S8192x1, .i32⟩
  | 49 => ⟨S8192x8192, .i32⟩
  | 50 => ⟨S8192x8192, .i32⟩
  | 51 => ⟨S8192x8192, .i1⟩
  | 52 => ⟨S1x1x8192x8192, .i1⟩
  | 53 => ⟨S_, .f32⟩
  | 54 => ⟨S_, .f32⟩
  | 55 => ⟨S1x8x8192x8192, .i1⟩
  | 56 => ⟨S1x8x8192x8192, .f32⟩
  | 57 => ⟨S1x8x8192x8192, .f32⟩
  | 58 => ⟨S_, .f32⟩
  | 59 => ⟨S1x8x8192x8192, .f32⟩
  | 60 => ⟨S_, .f32⟩
  | 61 => ⟨S1x8x8192, .f32⟩
  | 62 => ⟨S1x8x8192x1, .f32⟩
  | 63 => ⟨S1x8x8192x8192, .f32⟩
  | 64 => ⟨S1x8x8192x8192, .i1⟩
  | 65 => ⟨S1x8x8192x8192, .f32⟩
  | 66 => ⟨S_, .f32⟩
  | 67 => ⟨S1x8x8192, .f32⟩
  | 68 => ⟨S_, .f32⟩
  | 69 => ⟨S1x8x8192, .f32⟩
  | 70 => ⟨S1x8x8192, .f32⟩
  | 71 => ⟨S_, .f32⟩
  | 72 => ⟨S1x8x8192, .f32⟩
  | 73 => ⟨S1x8x8192, .i1⟩
  | 74 => ⟨S_, .f32⟩
  | 75 => ⟨S1x8x8192, .f32⟩
  | 76 => ⟨S1x8x8192, .i1⟩
  | 77 => ⟨S_, .f32⟩
  | 78 => ⟨S1x8x8192, .f32⟩
  | 79 => ⟨S_, .f32⟩
  | 80 => ⟨S1x8x8192, .f32⟩
  | 81 => ⟨S_, .f32⟩
  | 82 => ⟨S1x8x8192, .f32⟩
  | 83 => ⟨S1x8x8192, .f32⟩
  | 84 => ⟨S1x8x8192, .f32⟩
  | 85 => ⟨S1x8x8192x1, .f32⟩
  | 86 => ⟨S1x8x8192x8192, .f32⟩
  | 87 => ⟨S1x8x8192x8192, .f32⟩
  | 88 => ⟨S1x8x8192x8192, .f32⟩
  | 89 => ⟨S_, .f32⟩
  | 90 => ⟨S1x8x8192, .f32⟩
  | 91 => ⟨S1x8x8192x1, .f32⟩
  | 92 => ⟨S1x8x8192x8192, .f32⟩
  | 93 => ⟨S1x8x8192x8192, .f32⟩
  | 94 => ⟨S1x8x8192x1, .f32⟩
  | 95 => ⟨S_, .f32⟩
  | 96 => ⟨S1x8x8192x1, .f32⟩
  | 97 => ⟨S1x8x8192x1, .f32⟩
  | 98 => ⟨S1x8x64x8192, .f32⟩
  | 99 => ⟨S1x8192x8x64, .f32⟩
  | 100 => ⟨S1x8192x512, .f32⟩
  | 101 => ⟨S1x8192x8x64, .f32⟩
  | 102 => ⟨S1x8x64x8192, .f32⟩
  | 103 => ⟨S1x8x8192x8192, .f32⟩
  | 104 => ⟨S1x8x64x8192, .f32⟩
  | 105 => ⟨S1x8192x8x64, .f32⟩
  | 106 => ⟨S1x8x8192x8192, .f32⟩
  | 107 => ⟨S1x8x8192x8192, .f32⟩
  | 108 => ⟨S1x8x8192x8192, .f32⟩
  | 109 => ⟨S_, .f32⟩
  | 110 => ⟨S1x8x8192, .f32⟩
  | 111 => ⟨S1x8x8192x1, .f32⟩
  | 112 => ⟨S1x8x8192x1, .f32⟩
  | 113 => ⟨S1x8x8192x8192, .f32⟩
  | 114 => ⟨S1x8x8192x8192, .f32⟩
  | 115 => ⟨S_, .f32⟩
  | 116 => ⟨S8x8192, .f32⟩
  | 117 => ⟨S1x8x8192, .f32⟩
  | 118 => ⟨S1x8x8192x8192, .f32⟩
  | 119 => ⟨S1x8x8192x8192, .f32⟩
  | 120 => ⟨S1x8x8192x8192, .f32⟩
  | 121 => ⟨S_, .f32⟩
  | 122 => ⟨S1x8x8192x8192, .f32⟩
  | 123 => ⟨S1x8x8192x8192, .f32⟩
  | 124 => ⟨S_, .f32⟩
  | 125 => ⟨S1x8x8192x8192, .f32⟩
  | 126 => ⟨S1x8x8192x8192, .f32⟩
  | 127 => ⟨S1x8x8192x96, .f32⟩
  | _ => ⟨S1x8192x8x96, .f32⟩

abbrev hbmTy0_1 (i : Nat) : BufTy := match i % 128 with
  | 0 => ⟨S1x8192x8x96, .f32⟩
  | 1 => ⟨S1x8x8192x96, .f32⟩
  | 2 => ⟨S1x8192x8x96, .f32⟩
  | 3 => ⟨S1x8192x8x64, .f32⟩
  | 4 => ⟨S1x8192x8x32, .f32⟩
  | 5 => ⟨S1x8192x8x16, .f32⟩
  | 6 => ⟨S1x8192x8x16, .f32⟩
  | 7 => ⟨S1x8192x8x16, .f32⟩
  | 8 => ⟨S1x8192x8x16, .f32⟩
  | 9 => ⟨S1x8192x8x16, .f32⟩
  | 10 => ⟨S1x8192x8x16, .f32⟩
  | 11 => ⟨S1x8192x8x16, .f32⟩
  | 12 => ⟨S1x8192x8x16, .f32⟩
  | 13 => ⟨S1x8192x8x16, .f32⟩
  | 14 => ⟨S1x8192x8x16, .f32⟩
  | 15 => ⟨S1x8192x8x16, .f32⟩
  | 16 => ⟨S1x8192x8x16, .f32⟩
  | 17 => ⟨S1x8192x8x16, .f32⟩
  | 18 => ⟨S_, .f32⟩
  | 19 => ⟨S1x8192x8x32, .f32⟩
  | 20 => ⟨S_, .f32⟩
  | 21 => ⟨S1x8192x8x32, .f32⟩
  | 22 => ⟨S1x8192x8x32, .f32⟩
  | 23 => ⟨S_, .f32⟩
  | 24 => ⟨S1x8192x8x96, .f32⟩
  | 25 => ⟨S_, .f32⟩
  | 26 => ⟨S1x8192x8x96, .f32⟩
  | 27 => ⟨S1x8192x8x96, .f32⟩
  | _ => ⟨S1x8192x8x96, .f32⟩

abbrev hbmTy (i : Nat) : BufTy := match i / 128 with
  | 0 => hbmTy0_0 i
  | 1 => hbmTy0_1 i
  | _ => ⟨S1x8192x8x96, .f32⟩

abbrev bufTy : (tb : Table) → Fin (tcTables nBuf tb) → BufTy
  | .hbm, ⟨i, _⟩ => hbmTy i
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_2 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_call0_v0 : Ref sig .tc := ⟨.hbm, 54, rfl⟩
abbrev main_v44_1 : Ref sig .tc := ⟨.hbm, 55, rfl⟩
abbrev main_call0_v2 : Ref sig .tc := ⟨.hbm, 56, rfl⟩
abbrev main_v44_0 : Ref sig .tc := ⟨.hbm, 57, rfl⟩
abbrev main_call0_cst : Ref sig .tc := ⟨.hbm, 58, rfl⟩
abbrev main_v44_2 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_cst_9 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_12 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst_13 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_14 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_15 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_call1_cst : Ref sig .tc := ⟨.hbm, 121, rfl⟩
abbrev main_call1_v0 : Ref sig .tc := ⟨.hbm, 122, rfl⟩
abbrev main_v94 : Ref sig .tc := ⟨.hbm, 123, rfl⟩
abbrev main_cst_16 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_cst_17 : Ref sig .tc := ⟨.hbm, 146, rfl⟩
abbrev main_v116 : Ref sig .tc := ⟨.hbm, 147, rfl⟩
abbrev main_cst_18 : Ref sig .tc := ⟨.hbm, 148, rfl⟩
abbrev main_v117 : Ref sig .tc := ⟨.hbm, 149, rfl⟩
abbrev main_v118 : Ref sig .tc := ⟨.hbm, 150, rfl⟩
abbrev main_cst_19 : Ref sig .tc := ⟨.hbm, 151, rfl⟩
abbrev main_v119 : Ref sig .tc := ⟨.hbm, 152, rfl⟩
abbrev main_cst_20 : Ref sig .tc := ⟨.hbm, 153, rfl⟩
abbrev main_v120 : Ref sig .tc := ⟨.hbm, 154, rfl⟩
abbrev main_v121 : Ref sig .tc := ⟨.hbm, 155, rfl⟩

abbrev nD : Nat := 1
abbrev τ : Topo := Topo.v7x

variable {F : FTy → Type} [FloatOps F]
-- ==== Kernel3.lean ====
abbrev S1x8192x1024 : Shape := ⟨3, ![1, 8192, 1024]⟩
abbrev S1x8192 : Shape := ⟨2, ![1, 8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S8192x1024 : Shape := ⟨2, ![8192, 1024]⟩
abbrev S1024x384 : Shape := ⟨2, ![1024, 384]⟩
abbrev S_ : Shape := ⟨0, ![]⟩
abbrev S1024x64 : Shape := ⟨2, ![1024, 64]⟩
abbrev S1024x32 : Shape := ⟨2, ![1024, 32]⟩
abbrev S1024x2048 : Shape := ⟨2, ![1024, 2048]⟩
abbrev S1024x2560 : Shape := ⟨2, ![1024, 2560]⟩
abbrev S256x8x96 : Shape := ⟨3, ![256, 8, 96]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S128x1536 : Shape := ⟨2, ![128, 1536]⟩
abbrev S16 : Shape := ⟨1, ![16]⟩
abbrev S64 : Shape := ⟨1, ![64]⟩
abbrev S928 : Shape := ⟨1, ![928]⟩
abbrev S1024 : Shape := ⟨1, ![1024]⟩
abbrev S1x1024 : Shape := ⟨2, ![1, 1024]⟩
abbrev S1x256 : Shape := ⟨2, ![1, 256]⟩
abbrev S1x128 : Shape := ⟨2, ![1, 128]⟩
abbrev S16x1024 : Shape := ⟨2, ![16, 1024]⟩
abbrev S8192x1 : Shape := ⟨2, ![8192, 1]⟩
abbrev S8192x256 : Shape := ⟨2, ![8192, 256]⟩
abbrev S8192x128 : Shape := ⟨2, ![8192, 128]⟩
abbrev S8192x2048 : Shape := ⟨2, ![8192, 2048]⟩
abbrev S8192x512 : Shape := ⟨2, ![8192, 512]⟩
abbrev S16x512x512 : Shape := ⟨3, ![16, 512, 512]⟩
abbrev S1024x1024 : Shape := ⟨2, ![1024, 1024]⟩
abbrev S1024x1 : Shape := ⟨2, ![1024, 1]⟩
abbrev S1024x256 : Shape := ⟨2, ![1024, 256]⟩
abbrev S1024x128 : Shape := ⟨2, ![1024, 128]⟩
abbrev S1024x512 : Shape := ⟨2, ![1024, 512]⟩
abbrev S2x512x512 : Shape := ⟨3, ![2, 512, 512]⟩
abbrev S1024x1536 : Shape := ⟨2, ![1024, 1536]⟩
abbrev S512x512 : Shape := ⟨2, ![512, 512]⟩
abbrev S1x512x512 : Shape := ⟨3, ![1, 512, 512]⟩

abbrev nBuf : Space → Nat
  | .hbm => 99
  | .vmem => 24
  | .smem => 0
  | _ => 0

abbrev bufTy : (tb : Table) → Fin (tcTables nBuf tb) → BufTy
  | .hbm, ⟨0, _⟩ => ⟨S1x8192x1024, .f32⟩
  | .hbm, ⟨1, _⟩ => ⟨S1x8192, .i32⟩
  | .hbm, ⟨2, _⟩ => ⟨S1024x2464, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S8192x1024, .f32⟩
  | .hbm, ⟨8, _⟩ => ⟨S1024x2464, .bf16⟩
  | .hbm, ⟨9, _⟩ => ⟨S1024x384, .bf16⟩
  | .hbm, ⟨10, _⟩ => ⟨S_, .bf16⟩
  | .hbm, ⟨11, _⟩ => ⟨S1024x64, .bf16⟩
  | .hbm, ⟨12, _⟩ => ⟨S1024x32, .bf16⟩
  | .hbm, ⟨13, _⟩ => ⟨S_, .bf16⟩
  | .hbm, ⟨14, _⟩ => ⟨S1024x32, .bf16⟩
  | .hbm, ⟨15, _⟩ => ⟨S1024x2048, .bf16⟩
  | .hbm, ⟨16, _⟩ => ⟨S1024x2560, .bf16⟩
  | .hbm, ⟨17, _⟩ => ⟨S256x768, .bf16⟩
  | .hbm, ⟨18, _⟩ => ⟨S256x8x96, .bf16⟩
  | .hbm, ⟨19, _⟩ => ⟨S_, .i32⟩
  | .hbm, ⟨20, _⟩ => ⟨S_, .bf16⟩
  | .hbm, ⟨21, _⟩ => ⟨S256x8x128, .bf16⟩
  | .hbm, ⟨22, _⟩ => ⟨S256x1024, .bf16⟩
  | .hbm, ⟨23, _⟩ => ⟨S128x1024, .bf16⟩
  | .hbm, ⟨24, _⟩ => ⟨S128x8x128, .bf16⟩
  | .hbm, ⟨25, _⟩ => ⟨S128x8x64, .bf16⟩
  | .hbm, ⟨26, _⟩ => ⟨S128x512, .bf16⟩
  | .hbm, ⟨27, _⟩ => ⟨S128x8x64, .bf16⟩
  | .hbm, ⟨28, _⟩ => ⟨S_, .i32⟩
  | .hbm, ⟨29, _⟩ => ⟨S_, .bf16⟩
  | .hbm, ⟨30, _⟩ => ⟨S128x8x128, .bf16⟩
  | .hbm, ⟨31, _⟩ => ⟨S128x1024, .bf16⟩
  | .hbm, ⟨32, _⟩ => ⟨S128x8x64, .bf16⟩
  | .hbm, ⟨33, _⟩ => ⟨S128x512, .bf16⟩
  | .hbm, ⟨34, _⟩ => ⟨S128x1536, .bf16⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S_, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S928, .f32⟩
  | .hbm, ⟨49, _⟩ => ⟨S1024, .f32⟩
  | .hbm, ⟨50, _⟩ => ⟨S1024, .i32⟩
  | .hbm, ⟨51, _⟩ => ⟨S1x1024, .i32⟩
  | .hbm, ⟨52, _⟩ => ⟨S_, .i32⟩
  | .hbm, ⟨53, _⟩ => ⟨S1x1024, .i32⟩
  | .hbm, ⟨54, _⟩ => ⟨S1x1024, .i1⟩
  | .hbm, ⟨55, _⟩ => ⟨S_, .i32⟩
  | .hbm, ⟨56, _⟩ => ⟨S1x1024, .i32⟩
  | .hbm, ⟨57, _⟩ => ⟨S1x1024, .i1⟩
  | .hbm, ⟨58, _⟩ => ⟨S1x1024, .i1⟩
  | .hbm, ⟨59, _⟩ => ⟨S_, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S_, .i32⟩
  | .hbm, ⟨66, _⟩ => ⟨S1x1024, .i32⟩
  | .hbm, ⟨67, _⟩ => ⟨S1x1024, .i1⟩
  | .hbm, ⟨68, _⟩ => ⟨S_, .i32⟩
  | .hbm, ⟨69, _⟩ => ⟨S1x1024, .i32⟩
  | .hbm, ⟨70, _⟩ => ⟨S1x1024, .i1⟩
  | .hbm, ⟨71, _⟩ => ⟨S1x1024, .i1⟩
  | .hbm, ⟨72, _⟩ => ⟨S_, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x1024, .f32⟩
  | .hbm, ⟨80, _⟩ => ⟨S1x256, .f32⟩
  | .hbm, ⟨81, _⟩ => ⟨S_, .i32⟩
  | .hbm, ⟨82, _⟩ => ⟨S_, .f32⟩
  | .hbm, ⟨83, _⟩ => ⟨S1x1024, .f32⟩
  | .hbm, ⟨84, _⟩ => ⟨S1x128, .f32⟩
  | .hbm, ⟨85, _⟩ => ⟨S_, .i32⟩
  | .hbm, ⟨86, _⟩ => ⟨S_, .f32⟩
  | .hbm, ⟨87, _⟩ => ⟨S1x1024, .f32⟩
  | .hbm, ⟨88, _⟩ => ⟨S1x1024, .f32⟩
  | .hbm, ⟨89, _⟩ => ⟨S16x1024, .f32⟩
  | .hbm, ⟨90, _⟩ => ⟨S8192x1, .i32⟩
  | .hbm, ⟨91, _⟩ => ⟨S8192x256, .f32⟩
  | .hbm, ⟨92, _⟩ => ⟨S8192x128, .f32⟩
  | .hbm, ⟨93, _⟩ => ⟨S8192x2048, .bf16⟩
  | .hbm, ⟨94, _⟩ => ⟨S8192x1024, .bf16⟩
  | .hbm, ⟨95, _⟩ => ⟨S8192x1024, .bf16⟩
  | .hbm, ⟨96, _⟩ => ⟨S8192x512, .bf16⟩
  | .hbm, ⟨97, _⟩ => ⟨S16x512x512, .bf16⟩
  | .hbm, ⟨98, _⟩ => ⟨S8192x256, .f32⟩
  | .local _ .vmem, ⟨0, _⟩ => ⟨S1024x1024, .f32⟩
  | .local _ .vmem, ⟨1, _⟩ => ⟨S1024x1024, .f32⟩
  | .local _ .vmem, ⟨2, _⟩ => ⟨S1024x1, .i32⟩
  | .local _ .vmem, ⟨3, _⟩ => ⟨S1024x1, .i32⟩
  | .local _ .vmem, ⟨4, _⟩ => ⟨S1024x2560, .bf16⟩
  | .local _ .vmem, ⟨5, _⟩ => ⟨S256x1024, .bf16⟩
  | .local _ .vmem, ⟨6, _⟩ => ⟨S128x1536, .bf16⟩
  | .local _ .vmem, ⟨7, _⟩ => ⟨S16x1024, .f32⟩
  | .local _ .vmem, ⟨8, _⟩ => ⟨S1024x256, .f32⟩
  | .local _ .vmem, ⟨9, _⟩ => ⟨S1024x256, .f32⟩
  | .local _ .vmem, ⟨10, _⟩ => ⟨S1024x128, .f32⟩
  | .local _ .vmem, ⟨11, _⟩ => ⟨S1024x128, .f32⟩
  | .local _ .vmem, ⟨12, _⟩ => ⟨S1024x2048, .bf16⟩
  | .local _ .vmem, ⟨13, _⟩ => ⟨S1024x2048, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .bf16⟩
  | .local _ .vmem, ⟨18, _⟩ => ⟨S1024x512, .bf16⟩
  | .local _ .vmem, ⟨19, _⟩ => ⟨S1024x512, .bf16⟩
  | .local _ .vmem, ⟨20, _⟩ => ⟨S2x512x512, .bf16⟩
  | .local _ .vmem, ⟨21, _⟩ => ⟨S2x512x512, .bf16⟩
  | .local _ .vmem, ⟨22, _⟩ => ⟨S1024x256, .f32⟩
  | .local _ .vmem, ⟨23, _⟩ => ⟨S1024x256, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_1 : Ref sig .tc := ⟨.hbm, 28, rfl⟩
abbrev main_call1_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_7 : Ref sig .tc := ⟨.hbm, 52, rfl⟩
abbrev main_v34 : Ref sig .tc := ⟨.hbm, 53, rfl⟩
abbrev main_v35 : Ref sig .tc := ⟨.hbm, 54, rfl⟩
abbrev main_c_8 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_cst_10 : Ref sig .tc := ⟨.hbm, 60, rfl⟩
abbrev main_call2_v0 : Ref sig .tc := ⟨.hbm, 61, rfl⟩
abbrev main_call2_v1 : Ref sig .tc := ⟨.hbm, 62, rfl⟩
abbrev main_v39 : Ref sig .tc := ⟨.hbm, 63, rfl⟩
abbrev main_v40 : Ref sig .tc := ⟨.hbm, 64, rfl⟩
abbrev main_c_11 : Ref sig .tc := ⟨.hbm, 65, rfl⟩
abbrev main_v41 : Ref sig .tc := ⟨.hbm, 66, rfl⟩
abbrev main_v42 : Ref sig .tc := ⟨.hbm, 67, rfl⟩
abbrev main_c_12 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_13 : Ref sig .tc := ⟨.hbm, 72, rfl⟩
abbrev main_cst_14 : Ref sig .tc := ⟨.hbm, 73, rfl⟩
abbrev main_call3_v0 : Ref sig .tc := ⟨.hbm, 74, rfl⟩
abbrev main_call3_v1 : Ref sig .tc := ⟨.hbm, 75, rfl⟩
abbrev main_v46 : Ref sig .tc := ⟨.hbm, 76, rfl⟩
abbrev main_v47 : Ref sig .tc := ⟨.hbm, 77, rfl⟩
abbrev main_cst_15 : Ref sig .tc := ⟨.hbm, 78, rfl⟩
abbrev main_v48 : Ref sig .tc := ⟨.hbm, 79, rfl⟩
abbrev main_v49 : Ref sig .tc := ⟨.hbm, 80, rfl⟩
abbrev main_c_16 : Ref sig .tc := ⟨.hbm, 81, rfl⟩
abbrev main_call4_v0 : Ref sig .tc := ⟨.hbm, 82, rfl⟩
abbrev main_v50 : Ref sig .tc := ⟨.hbm, 83, rfl⟩
abbrev main_v51 : Ref sig .tc := ⟨.hbm, 84, rfl⟩
abbrev main_c_17 : Ref sig .tc := ⟨.hbm, 85, rfl⟩
abbrev main_call5_v0 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56_0 : Ref sig .tc := ⟨.hbm, 91, rfl⟩
abbrev main_v56_1 : Ref sig .tc := ⟨.hbm, 92, rfl⟩
abbrev main_v56_2 : Ref sig .tc := ⟨.hbm, 93, rfl⟩
abbrev main_v56_3 : Ref sig .tc := ⟨.hbm, 94, rfl⟩
abbrev main_v56_4 : Ref sig .tc := ⟨.hbm, 95, rfl⟩
abbrev main_v56_5 : Ref sig .tc := ⟨.hbm, 96, rfl⟩
abbrev main_v56_6 : Ref sig .tc := ⟨.hbm, 97, rfl⟩
abbrev main_v56_7 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S1x8192x1024 : Shape := ⟨3, ![1, 8192, 1024]⟩
abbrev S1x8192 : Shape := ⟨2, ![1, 8192]⟩
abbrev S1024x2464 : Shape := ⟨2, ![1024, 2464]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S1x8192x2464 : Shape := ⟨3, ![1, 8192, 2464]⟩
abbrev S1x8192x256 : Shape := ⟨3, ![1, 8192, 256]⟩
abbrev S1x8192x128 : Shape := ⟨3, ![1, 8192, 128]⟩
abbrev S1x8192x32 : Shape := ⟨3, ![1, 8192, 32]⟩
abbrev S1x8192x512 : Shape := ⟨3, ![1, 8192, 512]⟩
abbrev S_ : Shape := ⟨0, ![]⟩
abbrev S1x8192x1 : Shape := ⟨3, ![1, 8192, 1]⟩
abbrev S1x1x256 : Shape := ⟨3, ![1, 1, 256]⟩
abbrev S1x8192x768 : Shape := ⟨3, ![1, 8192, 768]⟩
abbrev S1x8192x8x96 : Shape := ⟨4, ![1, 8192, 8, 96]⟩
abbrev S1x8192x8x64 : Shape := ⟨4, ![1, 8192, 8, 64]⟩
abbrev S1x8192x8x32 : Shape := ⟨4, ![1, 8192, 8, 32]⟩
abbrev S16 : Shape := ⟨1, ![16]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x8x16 : Shape := ⟨4, ![1, 8192, 8, 16]⟩
abbrev S1x1x128 : Shape := ⟨3, ![1, 1, 128]⟩
abbrev S1x8192x8x128 : Shape := ⟨4, ![1, 8192, 8, 128]⟩
abbrev S1x8192x1x32 : Shape := ⟨4, ![1, 8192, 1, 32]⟩
abbrev S1x8192x2048 : Shape := ⟨3, ![1, 8192, 2048]⟩
abbrev S8192x256 : Shape := ⟨2, ![8192, 256]⟩
abbrev S8192x128 : Shape := ⟨2, ![8192, 128]⟩
abbrev S8192x2048 : Shape := ⟨2, ![8192, 2048]⟩
abbrev S8192x1024 : Shape := ⟨2, ![8192, 1024]⟩
abbrev S8192x512 : Shape := ⟨2, ![8192, 512]⟩

abbrev nBuf : Space → Nat
  | .hbm => 141
  | .vmem => 0
  | .smem => 0
  | _ => 0

abbrev hbmTy0_0 (i : Nat) : BufTy := match i % 128 with
  | 0 => ⟨S1x8192x1024, .f32⟩
  | 1 => ⟨S1x8192, .i32⟩
  | 2 => ⟨S1024x2464, .f32⟩
  | 3 => ⟨S256, .f32⟩
  | 4 => ⟨S256x768, .f32⟩
  | 5 => ⟨S128, .f32⟩
  | 6 => ⟨S128x1024, .f32⟩
  | 7 => ⟨S1x8192x2464, .f32⟩
  | 8 => ⟨S1x8192x256, .f32⟩
  | 9 => ⟨S1x8192x128, .f32⟩
  | 10 => ⟨S1x8192x32, .f32⟩
  | 11 => ⟨S1x8192x512, .f32⟩
  | 12 => ⟨S1x8192x512, .f32⟩
  | 13 => ⟨S1x8192x512, .f32⟩
  | 14 => ⟨S1x8192x512, .f32⟩
  | 15 => ⟨S1x8192x256, .f32⟩
  | 16 => ⟨S_, .f32⟩
  | 17 => ⟨S1x8192, .f32⟩
  | 18 => ⟨S1x8192x1, .f32⟩
  | 19 => ⟨S_, .f32⟩
  | 20 => ⟨S1x8192x1, .f32⟩
  | 21 => ⟨S1x8192x1, .f32⟩
  | 22 => ⟨S_, .f32⟩
  | 23 => ⟨S1x8192x1, .f32⟩
  | 24 => ⟨S1x8192x1, .f32⟩
  | 25 => ⟨S1x8192x1, .f32⟩
  | 26 => ⟨S1x8192x256, .f32⟩
  | 27 => ⟨S1x8192x256, .f32⟩
  | 28 => ⟨S1x1x256, .f32⟩
  | 29 => ⟨S1x8192x256, .f32⟩
  | 30 => ⟨S1x8192x256, .f32⟩
  | 31 => ⟨S1x8192x768, .f32⟩
  | 32 => ⟨S1x8192x8x96, .f32⟩
  | 33 => ⟨S1x8192x8x64, .f32⟩
  | 34 => ⟨S1x8192x8x32, .f32⟩
  | 35 => ⟨S16, .f32⟩
  | 36 => ⟨S_, .f32⟩
  | 37 => ⟨S16, .f32⟩
  | 38 => ⟨S16, .f32⟩
  | 39 => ⟨S_, .f32⟩
  | 40 => ⟨S16, .f32⟩
  | 41 => ⟨S16, .f32⟩
  | 42 => ⟨S_, .f32⟩
  | 43 => ⟨S16, .f32⟩
  | 44 => ⟨S16, .f32⟩
  | 45 => ⟨S1x8192, .f32⟩
  | 46 => ⟨S1x8192x1, .f32⟩
  | 47 => ⟨S1x1x16, .f32⟩
  | 48 => ⟨S1x8192x16, .f32⟩
  | 49 => ⟨S1x8192x16, .f32⟩
  | 50 => ⟨S1x8192x16, .f32⟩
  | 51 => ⟨S1x8192x16, .f32⟩
  | 52 => ⟨S1x8192x1x16, .f32⟩
  | 53 => ⟨S1x8192x16, .f32⟩
  | 54 => ⟨S1x8192x1x16, .f32⟩
  | 55 => ⟨S1x8192x8x16, .f32⟩
  | 56 => ⟨S1x8192x8x16, .f32⟩
  | 57 => ⟨S1x8192x8x16, .f32⟩
  | 58 => ⟨S1x8192x8x16, .f32⟩
  | 59 => ⟨S1x8192x8x16, .f32⟩
  | 60 => ⟨S1x8192x8x16, .f32⟩
  | 61 => ⟨S1x8192x8x16, .f32⟩
  | 62 => ⟨S1x8192x8x16, .f32⟩
  | 63 => ⟨S1x8192x8x16, .f32⟩
  | 64 => ⟨S1x8192x8x16, .f32⟩
  | 65 => ⟨S1x8192x8x16, .f32⟩
  | 66 => ⟨S1x8192x8x16, .f32⟩
  | 67 => ⟨S1x8192x8x32, .f32⟩
  | 68 => ⟨S1x8192x8x96, .f32⟩
  | 69 => ⟨S1x8192x128, .f32⟩
  | 70 => ⟨S_, .f32⟩
  | 71 => ⟨S1x8192, .f32⟩
  | 72 => ⟨S1x8192x1, .f32⟩
  | 73 => ⟨S_, .f32⟩
  | 74 => ⟨S1x8192x1, .f32⟩
  | 75 => ⟨S1x8192x1, .f32⟩
  | 76 => ⟨S_, .f32⟩
  | 77 => ⟨S1x8192x1, .f32⟩
  | 78 => ⟨S1x8192x1, .f32⟩
  | 79 => ⟨S1x8192x1, .f32⟩
  | 80 => ⟨S1x8192x128, .f32⟩
  | 81 => ⟨S1x8192x128, .f32⟩
  | 82 => ⟨S1x1x128, .f32⟩
  | 83 => ⟨S1x8192x128, .f32⟩
  | 84 => ⟨S1x8192x128, .f32⟩
  | 85 => ⟨S1x8192x1024, .f32⟩
  | 86 => ⟨S1x8192x8x128, .f32⟩
  | 87 => ⟨S1x8192x8x64, .f32⟩
  | 88 => ⟨S1x8192x8x64, .f32⟩
  | 89 => ⟨S1x8192x1x32, .f32⟩
  | 90 => ⟨S16, .f32⟩
  | 91 => ⟨S_, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S1x8192, .f32⟩
  | 101 => ⟨S1x8192x1, .f32⟩
  | 102 => ⟨S1x1x16, .f32⟩
  | 103 => ⟨S1x8192x16, .f32⟩
  | 104 => ⟨S1x8192x16, .f32⟩
  | 105 => ⟨S1x8192x16, .f32⟩
  | 106 => ⟨S1x8192x16, .f32⟩
  | 107 => ⟨S1x8192x1x16, .f32⟩
  | 108 => ⟨S1x8192x16, .f32⟩
  | 109 => ⟨S1x8192x1x16, .f32⟩
  | 110 => ⟨S1x8192x1x16, .f32⟩
  | 111 => ⟨S1x8192x1x16, .f32⟩
  | 112 => ⟨S1x8192x1x16, .f32⟩
  | 113 => ⟨S1x8192x1x16, .f32⟩
  | 114 => ⟨S1x8192x1x16, .f32⟩
  | 115 => ⟨S1x8192x1x16, .f32⟩
  | 116 => ⟨S1x8192x1x16, .f32⟩
  | 117 => ⟨S1x8192x1x16, .f32⟩
  | 118 => ⟨S1x8192x1x32, .f32⟩
  | 119 => ⟨S1x8192x8x32, .f32⟩
  | 120 => ⟨S1x8192x8x96, .f32⟩
  | 121 => ⟨S1x8192x2048, .f32⟩
  | 122 => ⟨S8192x256, .f32⟩
  | 123 => ⟨S8192x128, .f32⟩
  | 124 => ⟨S8192x2048, .f32⟩
  | 125 => ⟨S8192x2048, .bf16⟩
  | 126 => ⟨S_, .f32⟩
  | 127 => ⟨S1x8192x8x96, .f32⟩
  | _ => ⟨S1x8192x1024, .f32⟩

abbrev hbmTy0_1 (i : Nat) : BufTy := match i % 128 with
  | 0 => ⟨S1x8192x8x96, .f32⟩
  | 1 => ⟨S_, .i32⟩
  | 2 => ⟨S_, .f32⟩
  | 3 => ⟨S1x8192x8x128, .f32⟩
  | 4 => ⟨S8192x1024, .f32⟩
  | 5 => ⟨S8192x1024, .bf16⟩
  | 6 => ⟨S_, .i32⟩
  | 7 => ⟨S_, .f32⟩
  | 8 => ⟨S1x8192x8x128, .f32⟩
  | 9 => ⟨S8192x1024, .f32⟩
  | 10 => ⟨S8192x1024, .bf16⟩
  | 11 => ⟨S8192x512, .f32⟩
  | 12 => ⟨S8192x512, .bf16⟩
  | _ => ⟨S1x8192x1024, .f32⟩

abbrev hbmTy (i : Nat) : BufTy := match i / 128 with
  | 0 => hbmTy0_0 i
  | 1 => hbmTy0_1 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_5 : Ref sig .tc := ⟨.hbm, 70, rfl⟩
abbrev main_v57 : Ref sig .tc := ⟨.hbm, 71, rfl⟩
abbrev main_v58 : Ref sig .tc := ⟨.hbm, 72, rfl⟩
abbrev main_cst_6 : Ref sig .tc := ⟨.hbm, 73, rfl⟩
abbrev main_v59 : Ref sig .tc := ⟨.hbm, 74, rfl⟩
abbrev main_v60 : Ref sig .tc := ⟨.hbm, 75, rfl⟩
abbrev main_cst_7 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_8 : Ref sig .tc := ⟨.hbm, 91, rfl⟩
abbrev main_v75 : Ref sig .tc := ⟨.hbm, 92, rfl⟩
abbrev main_v76 : Ref sig .tc := ⟨.hbm, 93, rfl⟩
abbrev main_cst_9 : Ref sig .tc := ⟨.hbm, 94, rfl⟩
abbrev main_v77 : Ref sig .tc := ⟨.hbm, 95, rfl⟩
abbrev main_v78 : Ref sig .tc := ⟨.hbm, 96, rfl⟩
abbrev main_cst_10 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_11 : Ref sig .tc := ⟨.hbm, 126, rfl⟩
abbrev main_v107 : Ref sig .tc := ⟨.hbm, 127, rfl⟩
abbrev main_v108 : Ref sig .tc := ⟨.hbm, 128, rfl⟩
abbrev main_c : Ref sig .tc := ⟨.hbm, 129, rfl⟩
abbrev main_call0_v0 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_c_12 : Ref sig .tc := ⟨.hbm, 134, rfl⟩
abbrev main_call1_v0 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩

abbrev nD : Nat := 1
abbrev τ : Topo := Topo.v7x

variable {F : FTy → Type} [FloatOps F]
-- ==== Kernel4.lean ====
abbrev S1x8192x1024 : Shape := ⟨3, ![1, 8192, 1024]⟩
abbrev S1x8192x512 : Shape := ⟨3, ![1, 8192, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S8192x512 : Shape := ⟨2, ![8192, 512]⟩
abbrev S8192x2048 : Shape := ⟨2, ![8192, 2048]⟩
abbrev S_ : Shape := ⟨0, ![]⟩
abbrev S1x1024 : Shape := ⟨2, ![1, 1024]⟩
abbrev S1x512 : Shape := ⟨2, ![1, 512]⟩
abbrev S16x1024 : Shape := ⟨2, ![16, 1024]⟩
abbrev S128x128 : Shape := ⟨2, ![128, 128]⟩
abbrev S1x128x128 : Shape := ⟨3, ![1, 128, 128]⟩
abbrev S128x8 : Shape := ⟨2, ![128, 8]⟩
abbrev S128x8x64 : Shape := ⟨3, ![128, 8, 64]⟩
abbrev S128x512 : Shape := ⟨2, ![128, 512]⟩
abbrev S8192x1024 : Shape := ⟨2, ![8192, 1024]⟩
abbrev S512x1024 : Shape := ⟨2, ![512, 1024]⟩
abbrev S512x512 : Shape := ⟨2, ![512, 512]⟩
abbrev S512x2048 : Shape := ⟨2, ![512, 2048]⟩
abbrev S512x1 : Shape := ⟨2, ![512, 1]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 97
  | .vmem => 25
  | .smem => 0
  | _ => 0

abbrev bufTy : (tb : Table) → Fin (tcTables nBuf tb) → BufTy
  | .hbm, ⟨0, _⟩ => ⟨S1x8192x1024, .f32⟩
  | .hbm, ⟨1, _⟩ => ⟨S1x8192x512, .f32⟩
  | .hbm, ⟨2, _⟩ => ⟨S1x8192x512, .f32⟩
  | .hbm, ⟨3, _⟩ => ⟨S1x8192x512, .f32⟩
  | .hbm, ⟨4, _⟩ => ⟨S1x8192x512, .f32⟩
  | .hbm, ⟨5, _⟩ => ⟨S1x8192x512, .f32⟩
  | .hbm, ⟨6, _⟩ => ⟨S512, .f32⟩
  | .hbm, ⟨7, _⟩ => ⟨S512, .f32⟩
  | .hbm, ⟨8, _⟩ => ⟨S8x128x128, .f32⟩
  | .hbm, ⟨9, _⟩ => ⟨S8x128, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1x8192x1024, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x2048, .f32⟩
  | .hbm, ⟨19, _⟩ => ⟨S8192x2048, .bf16⟩
  | .hbm, ⟨20, _⟩ => ⟨S_, .f32⟩
  | .hbm, ⟨21, _⟩ => ⟨S1x1024, .f32⟩
  | .hbm, ⟨22, _⟩ => ⟨S1x512, .f32⟩
  | .hbm, ⟨23, _⟩ => ⟨S_, .i32⟩
  | .hbm, ⟨24, _⟩ => ⟨S_, .f32⟩
  | .hbm, ⟨25, _⟩ => ⟨S1x1024, .f32⟩
  | .hbm, ⟨26, _⟩ => ⟨S1x512, .f32⟩
  | .hbm, ⟨27, _⟩ => ⟨S_, .i32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S_, .i32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S_, .i32⟩
  | .hbm, ⟨36, _⟩ => ⟨S_, .f32⟩
  | .hbm, ⟨37, _⟩ => ⟨S1x1024, .f32⟩
  | .hbm, ⟨38, _⟩ => ⟨S16x1024, .f32⟩
  | .hbm, ⟨39, _⟩ => ⟨S_, .i1⟩
  | .hbm, ⟨40, _⟩ => ⟨S128x128, .i1⟩
  | .hbm, ⟨41, _⟩ => ⟨S128x128, .i32⟩
  | .hbm, ⟨42, _⟩ => ⟨S_, .i32⟩
  | .hbm, ⟨43, _⟩ => ⟨S128x128, .i32⟩
  | .hbm, ⟨44, _⟩ => ⟨S128x128, .i32⟩
  | .hbm, ⟨45, _⟩ => ⟨S128x128, .i32⟩
  | .hbm, ⟨46, _⟩ => ⟨S128x128, .i1⟩
  | .hbm, ⟨47, _⟩ => ⟨S_, .i1⟩
  | .hbm, ⟨48, _⟩ => ⟨S128x128, .i1⟩
  | .hbm, ⟨49, _⟩ => ⟨S128x128, .i1⟩
  | .hbm, ⟨50, _⟩ => ⟨S1x128x128, .i1⟩
  | .hbm, ⟨51, _⟩ => ⟨S_, .f32⟩
  | .hbm, ⟨52, _⟩ => ⟨S_, .f32⟩
  | .hbm, ⟨53, _⟩ => ⟨S8x128x128, .i1⟩
  | .hbm, ⟨54, _⟩ => ⟨S8x128x128, .f32⟩
  | .hbm, ⟨55, _⟩ => ⟨S8x128x128, .f32⟩
  | .hbm, ⟨56, _⟩ => ⟨S8x128x128, .bf16⟩
  | .hbm, ⟨57, _⟩ => ⟨S128x8, .f32⟩
  | .hbm, ⟨58, _⟩ => ⟨S128x8x64, .f32⟩
  | .hbm, ⟨59, _⟩ => ⟨S128x512, .f32⟩
  | .hbm, ⟨60, _⟩ => ⟨S8192x1024, .f32⟩
  | .hbm, ⟨61, _⟩ => ⟨S8192x1024, .f32⟩
  | .hbm, ⟨62, _⟩ => ⟨S8192x512, .f32⟩
  | .hbm, ⟨63, _⟩ => ⟨S1024x1024, .bf16⟩
  | .hbm, ⟨64, _⟩ => ⟨S8x128x128, .bf16⟩
  | .hbm, ⟨65, _⟩ => ⟨S8192x1024, .f32⟩
  | .hbm, ⟨66, _⟩ => ⟨S8192x512, .bf16⟩
  | .hbm, ⟨67, _⟩ => ⟨S8192x2048, .bf16⟩
  | .hbm, ⟨68, _⟩ => ⟨S1024x1024, .f32⟩
  | .hbm, ⟨69, _⟩ => ⟨S8x128x128, .f32⟩
  | .hbm, ⟨70, _⟩ => ⟨S16x1024, .f32⟩
  | .hbm, ⟨71, _⟩ => ⟨S1x1, .f32⟩
  | .hbm, ⟨72, _⟩ => ⟨S_, .f32⟩
  | .hbm, ⟨73, _⟩ => ⟨S1x8192x1024, .f32⟩
  | .hbm, ⟨74, _⟩ => ⟨S1x8192x512, .bf16⟩
  | .hbm, ⟨75, _⟩ => ⟨S1x8192x512, .f32⟩
  | .hbm, ⟨76, _⟩ => ⟨S8192x512, .bf16⟩
  | .hbm, ⟨77, _⟩ => ⟨S1x8192x512, .bf16⟩
  | .hbm, ⟨78, _⟩ => ⟨S1x8192x512, .f32⟩
  | .hbm, ⟨79, _⟩ => ⟨S8192x512, .bf16⟩
  | .hbm, ⟨80, _⟩ => ⟨S1x8192x512, .bf16⟩
  | .hbm, ⟨81, _⟩ => ⟨S1x8192x512, .f32⟩
  | .hbm, ⟨82, _⟩ => ⟨S8192x512, .bf16⟩
  | .hbm, ⟨83, _⟩ => ⟨S1x8192x512, .bf16⟩
  | .hbm, ⟨84, _⟩ => ⟨S1x8192x512, .f32⟩
  | .hbm, ⟨85, _⟩ => ⟨S8192x512, .bf16⟩
  | .hbm, ⟨86, _⟩ => ⟨S1x8192x512, .bf16⟩
  | .hbm, ⟨87, _⟩ => ⟨S1x8192x512, .f32⟩
  | .hbm, ⟨88, _⟩ => ⟨S1x512, .f32⟩
  | .hbm, ⟨89, _⟩ => ⟨S512, .f32⟩
  | .hbm, ⟨90, _⟩ => ⟨S1x512, .f32⟩
  | .hbm, ⟨91, _⟩ => ⟨S512, .f32⟩
  | .hbm, ⟨92, _⟩ => ⟨S8x128, .f32⟩
  | .hbm, ⟨93, _⟩ => ⟨S1x1024, .f32⟩
  | .hbm, ⟨94, _⟩ => ⟨S1024, .f32⟩
  | .hbm, ⟨95, _⟩ => ⟨S1x1024, .f32⟩
  | .hbm, ⟨96, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S16x1024, .f32⟩
  | .local _ .vmem, ⟨10, _⟩ => ⟨S8x128x128, .bf16⟩
  | .local _ .vmem, ⟨11, _⟩ => ⟨S8x128x128, .bf16⟩
  | .local _ .vmem, ⟨12, _⟩ => ⟨S128x512, .f32⟩
  | .local _ .vmem, ⟨13, _⟩ => ⟨S512x1024, .f32⟩
  | .local _ .vmem, ⟨14, _⟩ => ⟨S512x1024, .f32⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | .local _ .vmem, ⟨18, _⟩ => ⟨S512x2048, .bf16⟩
  | .local _ .vmem, ⟨19, _⟩ => ⟨S1024x1024, .f32⟩
  | .local _ .vmem, ⟨20, _⟩ => ⟨S8x128x128, .f32⟩
  | .local _ .vmem, ⟨21, _⟩ => ⟨S16x1024, .f32⟩
  | .local _ .vmem, ⟨22, _⟩ => ⟨S512x512, .f32⟩
  | .local _ .vmem, ⟨23, _⟩ => ⟨S512x512, .f32⟩
  | .local _ .vmem, ⟨24, _⟩ => ⟨S128x512, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_call0_v0 : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_call1_v0 : Ref sig .tc := ⟨.hbm, 28, rfl⟩
abbrev main_v10 : Ref sig .tc := ⟨.hbm, 29, rfl⟩
abbrev main_v11 : Ref sig .tc := ⟨.hbm, 30, rfl⟩
abbrev main_c_1 : Ref sig .tc := ⟨.hbm, 31, rfl⟩
abbrev main_call2_v0 : Ref sig .tc := ⟨.hbm, 32, rfl⟩
abbrev main_v12 : Ref sig .tc := ⟨.hbm, 33, rfl⟩
abbrev main_v13 : Ref sig .tc := ⟨.hbm, 34, rfl⟩
abbrev main_c_2 : Ref sig .tc := ⟨.hbm, 35, rfl⟩
abbrev main_call3_v0 : Ref sig .tc := ⟨.hbm, 36, rfl⟩
abbrev main_v14 : Ref sig .tc := ⟨.hbm, 37, rfl⟩
abbrev main_v15 : Ref sig .tc := ⟨.hbm, 38, rfl⟩
abbrev main_c_3 : Ref sig .tc := ⟨.hbm, 39, rfl⟩
abbrev main_v16 : Ref sig .tc := ⟨.hbm, 40, rfl⟩
abbrev main_call4_v0 : Ref sig .tc := ⟨.hbm, 41, rfl⟩
abbrev main_call4_c : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_c_0 : Ref sig .tc := ⟨.hbm, 47, rfl⟩
abbrev main_call4_v5 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_call5_v0 : Ref sig .tc := ⟨.hbm, 52, rfl⟩
abbrev main_call5_v1 : Ref sig .tc := ⟨.hbm, 53, rfl⟩
abbrev main_call5_v2 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29_0 : Ref sig .tc := ⟨.hbm, 65, rfl⟩
abbrev main_v29_1 : Ref sig .tc := ⟨.hbm, 66, rfl⟩
abbrev main_v29_2 : Ref sig .tc := ⟨.hbm, 67, rfl⟩
abbrev main_v29_3 : Ref sig .tc := ⟨.hbm, 68, rfl⟩
abbrev main_v29_4 : Ref sig .tc := ⟨.hbm, 69, rfl⟩
abbrev main_v29_5 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1024x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference4Ideal.lean ====
abbrev S1x8192x1024 : Shape := ⟨3, ![1, 8192, 1024]⟩
abbrev S1x8192x512 : Shape := ⟨3, ![1, 8192, 512]⟩
abbrev S512 : Shape := ⟨1, ![512]⟩
abbrev S8x128x128 : Shape := ⟨3, ![8, 128, 128]⟩
abbrev S8x128 : Shape := ⟨2, ![8, 128]⟩
abbrev S1024x1024 : Shape := ⟨2, ![1024, 1024]⟩
abbrev S1024 : Shape := ⟨1, ![1024]⟩
abbrev S_ : Shape := ⟨0, ![]⟩
abbrev S1x8192 : Shape := ⟨2, ![1, 8192]⟩
abbrev S1x8192x1 : Shape := ⟨3, ![1, 8192, 1]⟩
abbrev S1x1x512 : Shape := ⟨3, ![1, 1, 512]⟩
abbrev S1x64x128x8x64 : Shape := ⟨5, ![1, 64, 128, 8, 64]⟩
abbrev S128x128 : Shape := ⟨2, ![128, 128]⟩
abbrev S1x128x128 : Shape := ⟨3, ![1, 128, 128]⟩
abbrev S8x1x64x64x128 : Shape := ⟨5, ![8, 1, 64, 64, 128]⟩
abbrev S128x8 : Shape := ⟨2, ![128, 8]⟩
abbrev S1x1x128x8x1 : Shape := ⟨5, ![1, 1, 128, 8, 1]⟩
abbrev S1x1x1024 : Shape := ⟨3, ![1, 1, 1024]⟩
abbrev S1x1024 : Shape := ⟨2, ![1, 1024]⟩
abbrev S8192 : Shape := ⟨1, ![8192]⟩
abbrev S1x128x8 : Shape := ⟨3, ![1, 128, 8]⟩
abbrev S1x512 : Shape := ⟨2, ![1, 512]⟩

abbrev nBuf : Space → Nat
  | .hbm => 349
  | .vmem => 0
  | .smem => 0
  | _ => 0

abbrev hbmTy0_0 (i : Nat) : BufTy := match i % 128 with
  | 0 => ⟨S1x8192x1024, .f32⟩
  | 1 => ⟨S1x8192x512, .f32⟩
  | 2 => ⟨S1x8192x512, .f32⟩
  | 3 => ⟨S1x8192x512, .f32⟩
  | 4 => ⟨S1x8192x512, .f32⟩
  | 5 => ⟨S1x8192x512, .f32⟩
  | 6 => ⟨S512, .f32⟩
  | 7 => ⟨S512, .f32⟩
  | 8 => ⟨S8x128x128, .f32⟩
  | 9 => ⟨S8x128, .f32⟩
  | 10 => ⟨S1024x1024, .f32⟩
  | 11 => ⟨S1024, .f32⟩
  | 12 => ⟨S1024, .f32⟩
  | 13 => ⟨S1x8192x1024, .f32⟩
  | 14 => ⟨S_, .f32⟩
  | 15 => ⟨S1x8192x1024, .f32⟩
  | 16 => ⟨S1x8192x1024, .f32⟩
  | 17 => ⟨S1x8192x512, .f32⟩
  | 18 => ⟨S1x8192x512, .f32⟩
  | 19 => ⟨S_, .f32⟩
  | 20 => ⟨S1x8192x512, .f32⟩
  | 21 => ⟨S1x8192x512, .f32⟩
  | 22 => ⟨S_, .f32⟩
  | 23 => ⟨S1x8192x512, .f32⟩
  | 24 => ⟨S1x8192x512, .f32⟩
  | 25 => ⟨S_, .f32⟩
  | 26 => ⟨S1x8192x512, .f32⟩
  | 27 => ⟨S1x8192x512, .f32⟩
  | 28 => ⟨S1x8192x512, .f32⟩
  | 29 => ⟨S1x8192x512, .f32⟩
  | 30 => ⟨S1x8192x512, .f32⟩
  | 31 => ⟨S_, .f32⟩
  | 32 => ⟨S1x8192x512, .f32⟩
  | 33 => ⟨S1x8192x512, .f32⟩
  | 34 => ⟨S1x8192x512, .f32⟩
  | 35 => ⟨S_, .f32⟩
  | 36 => ⟨S1x8192x512, .f32⟩
  | 37 => ⟨S1x8192x512, .f32⟩
  | 38 => ⟨S1x8192x512, .f32⟩
  | 39 => ⟨S1x8192x512, .f32⟩
  | 40 => ⟨S1x8192x512, .f32⟩
  | 41 => ⟨S1x8192x512, .f32⟩
  | 42 => ⟨S1x8192x512, .f32⟩
  | 43 => ⟨S_, .f32⟩
  | 44 => ⟨S1x8192x512, .f32⟩
  | 45 => ⟨S1x8192x512, .f32⟩
  | 46 => ⟨S1x8192x512, .f32⟩
  | 47 => ⟨S_, .f32⟩
  | 48 => ⟨S1x8192x512, .f32⟩
  | 49 => ⟨S1x8192x512, .f32⟩
  | 50 => ⟨S1x8192x512, .f32⟩
  | 51 => ⟨S1x8192x512, .f32⟩
  | 52 => ⟨S1x8192x512, .f32⟩
  | 53 => ⟨S1x8192x512, .f32⟩
  | 54 => ⟨S1x8192x512, .f32⟩
  | 55 => ⟨S_, .f32⟩
  | 56 => ⟨S1x8192, .f32⟩
  | 57 => ⟨S1x8192x1, .f32⟩
  | 58 => ⟨S_, .f32⟩
  | 59 => ⟨S1x8192x1, .f32⟩
  | 60 => ⟨S1x8192x1, .f32⟩
  | 61 => ⟨S1x8192x512, .f32⟩
  | 62 => ⟨S1x8192x512, .f32⟩
  | 63 => ⟨S1x8192x512, .f32⟩
  | 64 => ⟨S_, .f32⟩
  | 65 => ⟨S1x8192x512, .f32⟩
  | 66 => ⟨S1x8192x512, .f32⟩
  | 67 => ⟨S_, .f32⟩
  | 68 => ⟨S1x8192, .f32⟩
  | 69 => ⟨S1x8192x1, .f32⟩
  | 70 => ⟨S_, .f32⟩
  | 71 => ⟨S1x8192x1, .f32⟩
  | 72 => ⟨S1x8192x1, .f32⟩
  | 73 => ⟨S1x8192x512, .f32⟩
  | 74 => ⟨S1x8192x512, .f32⟩
  | 75 => ⟨S_, .f32⟩
  | 76 => ⟨S1x8192x1, .f32⟩
  | 77 => ⟨S1x8192x1, .f32⟩
  | 78 => ⟨S1x8192x1, .f32⟩
  | 79 => ⟨S1x8192x1, .f32⟩
  | 80 => ⟨S_, .f32⟩
  | 81 => ⟨S1x8192x1, .f32⟩
  | 82 => ⟨S1x8192x1, .f32⟩
  | 83 => ⟨S1x8192x512, .f32⟩
  | 84 => ⟨S1x8192x512, .f32⟩
  | 85 => ⟨S1x1x512, .f32⟩
  | 86 => ⟨S1x8192x512, .f32⟩
  | 87 => ⟨S1x8192x512, .f32⟩
  | 88 => ⟨S1x1x512, .f32⟩
  | 89 => ⟨S1x8192x512, .f32⟩
  | 90 => ⟨S1x8192x512, .f32⟩
  | 91 => ⟨S1x64x128x8x64, .f32⟩
  | 92 => ⟨S_, .i1⟩
  | 93 => ⟨S128x128, .i1⟩
  | 94 => ⟨S128x128, .i32⟩
  | 95 => ⟨S_, .i32⟩
  | 96 => ⟨S128x128, .i32⟩
  | 97 => ⟨S128x128, .i32⟩
  | 98 => ⟨S128x128, .i32⟩
  | 99 => ⟨S128x128, .i1⟩
  | 100 => ⟨S_, .i1⟩
  | 101 => ⟨S128x128, .i1⟩
  | 102 => ⟨S128x128, .i1⟩
  | 103 => ⟨S1x128x128, .i1⟩
  | 104 => ⟨S_, .f32⟩
  | 105 => ⟨S_, .f32⟩
  | 106 => ⟨S8x128x128, .i1⟩
  | 107 => ⟨S8x128x128, .f32⟩
  | 108 => ⟨S8x128x128, .f32⟩
  | 109 => ⟨S_, .f32⟩
  | 110 => ⟨S8x128x128, .f32⟩
  | 111 => ⟨S8x1x64x64x128, .f32⟩
  | 112 => ⟨S1x64x128x8x64, .f32⟩
  | 113 => ⟨S128x8, .f32⟩
  | 114 => ⟨S1x1x128x8x1, .f32⟩
  | 115 => ⟨S1x64x128x8x64, .f32⟩
  | 116 => ⟨S1x64x128x8x64, .f32⟩
  | 117 => ⟨S1x8192x512, .f32⟩
  | 118 => ⟨S1x8192x512, .f32⟩
  | 119 => ⟨S1x8192x512, .f32⟩
  | 120 => ⟨S1x8192x512, .f32⟩
  | 121 => ⟨S_, .f32⟩
  | 122 => ⟨S1x8192x512, .f32⟩
  | 123 => ⟨S1x8192x512, .f32⟩
  | 124 => ⟨S_, .f32⟩
  | 125 => ⟨S1x8192x512, .f32⟩
  | 126 => ⟨S1x8192x512, .f32⟩
  | 127 => ⟨S_, .f32⟩
  | _ => ⟨S1x8192x1024, .f32⟩

abbrev hbmTy0_1 (i : Nat) : BufTy := match i % 128 with
  | 0 => ⟨S1x8192x512, .f32⟩
  | 1 => ⟨S1x8192x512, .f32⟩
  | 2 => ⟨S1x8192x512, .f32⟩
  | 3 => ⟨S1x8192x512, .f32⟩
  | 4 => ⟨S1x8192x512, .f32⟩
  | 5 => ⟨S1x8192x1024, .f32⟩
  | 6 => ⟨S1x8192x1024, .f32⟩
  | 7 => ⟨S1x8192x1024, .f32⟩
  | 8 => ⟨S_, .f32⟩
  | 9 => ⟨S1x8192, .f32⟩
  | 10 => ⟨S1x8192x1, .f32⟩
  | 11 => ⟨S_, .f32⟩
  | 12 => ⟨S1x8192x1, .f32⟩
  | 13 => ⟨S1x8192x1, .f32⟩
  | 14 => ⟨S1x8192x1024, .f32⟩
  | 15 => ⟨S1x8192x1024, .f32⟩
  | 16 => ⟨S1x8192x1024, .f32⟩
  | 17 => ⟨S_, .f32⟩
  | 18 => ⟨S1x8192x1024, .f32⟩
  | 19 => ⟨S1x8192x1024, .f32⟩
  | 20 => ⟨S_, .f32⟩
  | 21 => ⟨S1x8192, .f32⟩
  | 22 => ⟨S1x8192x1, .f32⟩
  | 23 => ⟨S_, .f32⟩
  | 24 => ⟨S1x8192x1, .f32⟩
  | 25 => ⟨S1x8192x1, .f32⟩
  | 26 => ⟨S1x8192x1024, .f32⟩
  | 27 => ⟨S1x8192x1024, .f32⟩
  | 28 => ⟨S_, .f32⟩
  | 29 => ⟨S1x8192x1, .f32⟩
  | 30 => ⟨S1x8192x1, .f32⟩
  | 31 => ⟨S1x8192x1, .f32⟩
  | 32 => ⟨S1x8192x1, .f32⟩
  | 33 => ⟨S_, .f32⟩
  | 34 => ⟨S1x8192x1, .f32⟩
  | 35 => ⟨S1x8192x1, .f32⟩
  | 36 => ⟨S1x8192x1024, .f32⟩
  | 37 => ⟨S1x8192x1024, .f32⟩
  | 38 => ⟨S1x1x1024, .f32⟩
  | 39 => ⟨S1x8192x1024, .f32⟩
  | 40 => ⟨S1x8192x1024, .f32⟩
  | 41 => ⟨S1x1x1024, .f32⟩
  | 42 => ⟨S1x8192x1024, .f32⟩
  | 43 => ⟨S1x8192x1024, .f32⟩
  | 44 => ⟨S1x8192x1024, .f32⟩
  | 45 => ⟨S1x8192x1024, .f32⟩
  | 46 => ⟨S_, .f32⟩
  | 47 => ⟨S1x8192x1024, .f32⟩
  | 48 => ⟨S1x8192x1024, .f32⟩
  | 49 => ⟨S_, .f32⟩
  | 50 => ⟨S1x8192, .f32⟩
  | 51 => ⟨S_, .f32⟩
  | 52 => ⟨S1x8192, .f32⟩
  | 53 => ⟨S1x8192, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S1x8192, .f32⟩
  | 62 => ⟨S_, .f32⟩
  | 63 => ⟨S1x8192, .f32⟩
  | 64 => ⟨S1x8192, .f32⟩
  | 65 => ⟨S1x8192x1024, .f32⟩
  | 66 => ⟨S1x8192x1024, .f32⟩
  | 67 => ⟨S_, .f32⟩
  | 68 => ⟨S1x1024, .f32⟩
  | 69 => ⟨S1x1x1024, .f32⟩
  | 70 => ⟨S_, .f32⟩
  | 71 => ⟨S1024, .f32⟩
  | 72 => ⟨S1x8192x1024, .f32⟩
  | 73 => ⟨S_, .f32⟩
  | 74 => ⟨S1x1024, .f32⟩
  | 75 => ⟨S1x1x1024, .f32⟩
  | 76 => ⟨S1x8192x1024, .f32⟩
  | 77 => ⟨S1x8192x1024, .f32⟩
  | 78 => ⟨S_, .f32⟩
  | 79 => ⟨S1024, .f32⟩
  | 80 => ⟨S1x8192x1024, .f32⟩
  | 81 => ⟨S_, .f32⟩
  | 82 => ⟨S1x8192, .f32⟩
  | 83 => ⟨S1x8192x1, .f32⟩
  | 84 => ⟨S1x8192x1024, .f32⟩
  | 85 => ⟨S1x8192x1024, .f32⟩
  | 86 => ⟨S1x8192x1, .f32⟩
  | 87 => ⟨S1x8192x1024, .f32⟩
  | 88 => ⟨S_, .f32⟩
  | 89 => ⟨S1x8192, .f32⟩
  | 90 => ⟨S1x8192x1, .f32⟩
  | 91 => ⟨S_, .f32⟩
  | 92 => ⟨S1x8192x1, .f32⟩
  | 93 => ⟨S1x8192x1, .f32⟩
  | 94 => ⟨S_, .f32⟩
  | 95 => ⟨S8192, .f32⟩
  | 96 => ⟨S1x8192, .f32⟩
  | 97 => ⟨S1x8192x1024, .f32⟩
  | 98 => ⟨S1x8192x1024, .f32⟩
  | 99 => ⟨S1x8192x1024, .f32⟩
  | 100 => ⟨S_, .f32⟩
  | 101 => ⟨S1x8192, .f32⟩
  | 102 => ⟨S1x8192x1, .f32⟩
  | 103 => ⟨S1x8192x1024, .f32⟩
  | 104 => ⟨S1x8192x1, .f32⟩
  | 105 => ⟨S_, .f32⟩
  | 106 => ⟨S1x8192x1, .f32⟩
  | 107 => ⟨S1x8192x1, .f32⟩
  | 108 => ⟨S_, .f32⟩
  | 109 => ⟨S8192, .f32⟩
  | 110 => ⟨S1x8192, .f32⟩
  | 111 => ⟨S1x8192x1024, .f32⟩
  | 112 => ⟨S1x8192x1024, .f32⟩
  | 113 => ⟨S1024x1024, .f32⟩
  | 114 => ⟨S1024x1024, .f32⟩
  | 115 => ⟨S1x8192x1024, .f32⟩
  | 116 => ⟨S1x8192x512, .f32⟩
  | 117 => ⟨S1x8192x512, .f32⟩
  | 118 => ⟨S1x8192x512, .f32⟩
  | 119 => ⟨S1x8192x512, .f32⟩
  | 120 => ⟨S1x8192x512, .f32⟩
  | 121 => ⟨S1x8192x512, .f32⟩
  | 122 => ⟨S1x8192x512, .f32⟩
  | 123 => ⟨S1x8192x512, .f32⟩
  | 124 => ⟨S1x8192x512, .f32⟩
  | 125 => ⟨S1x8192x512, .f32⟩
  | 126 => ⟨S1x64x128x8x64, .f32⟩
  | 127 => ⟨S_, .f32⟩
  | _ => ⟨S1x8192x1024, .f32⟩

abbrev hbmTy0_2 (i : Nat) : BufTy := match i % 128 with
  | 0 => ⟨S1x128x8, .f32⟩
  | 1 => ⟨S1x1x128x8x1, .f32⟩
  | 2 => ⟨S_, .f32⟩
  | 3 => ⟨S128x8, .f32⟩
  | 4 => ⟨S8x128, .f32⟩
  | 5 => ⟨S8x1x64x64x128, .f32⟩
  | 6 => ⟨S8x128x128, .f32⟩
  | 7 => ⟨S8x1x64x64x128, .f32⟩
  | 8 => ⟨S1x64x128x8x64, .f32⟩
  | 9 => ⟨S_, .f32⟩
  | 10 => ⟨S8x128x128, .f32⟩
  | 11 => ⟨S8x128x128, .f32⟩
  | 12 => ⟨S1x8192x512, .f32⟩
  | 13 => ⟨S_, .f32⟩
  | 14 => ⟨S1x512, .f32⟩
  | 15 => ⟨S1x1x512, .f32⟩
  | 16 => ⟨S_, .f32⟩
  | 17 => ⟨S512, .f32⟩
  | 18 => ⟨S1x8192x512, .f32⟩
  | 19 => ⟨S_, .f32⟩
  | 20 => ⟨S1x512, .f32⟩
  | 21 => ⟨S1x1x512, .f32⟩
  | 22 => ⟨S1x8192x512, .f32⟩
  | 23 => ⟨S1x8192x512, .f32⟩
  | 24 => ⟨S_, .f32⟩
  | 25 => ⟨S512, .f32⟩
  | 26 => ⟨S1x8192x512, .f32⟩
  | 27 => ⟨S_, .f32⟩
  | 28 => ⟨S1x8192, .f32⟩
  | 29 => ⟨S1x8192x1, .f32⟩
  | 30 => ⟨S1x8192x512, .f32⟩
  | 31 => ⟨S1x8192x512, .f32⟩
  | 32 => ⟨S1x8192x1, .f32⟩
  | 33 => ⟨S1x8192x512, .f32⟩
  | 34 => ⟨S_, .f32⟩
  | 35 => ⟨S1x8192, .f32⟩
  | 36 => ⟨S1x8192x1, .f32⟩
  | 37 => ⟨S_, .f32⟩
  | 38 => ⟨S1x8192x1, .f32⟩
  | 39 => ⟨S1x8192x1, .f32⟩
  | 40 => ⟨S_, .f32⟩
  | 41 => ⟨S8192, .f32⟩
  | 42 => ⟨S1x8192, .f32⟩
  | 43 => ⟨S1x8192x512, .f32⟩
  | 44 => ⟨S1x8192x512, .f32⟩
  | 45 => ⟨S1x8192x512, .f32⟩
  | 46 => ⟨S_, .f32⟩
  | 47 => ⟨S1x8192, .f32⟩
  | 48 => ⟨S1x8192x1, .f32⟩
  | 49 => ⟨S1x8192x512, .f32⟩
  | 50 => ⟨S1x8192x1, .f32⟩
  | 51 => ⟨S_, .f32⟩
  | 52 => ⟨S1x8192x1, .f32⟩
  | 53 => ⟨S1x8192x1, .f32⟩
  | 54 => ⟨S_, .f32⟩
  | 55 => ⟨S8192, .f32⟩
  | 56 => ⟨S1x8192, .f32⟩
  | 57 => ⟨S1x8192x512, .f32⟩
  | 58 => ⟨S1x8192x512, .f32⟩
  | 59 => ⟨S1x8192x512, .f32⟩
  | 60 => ⟨S1x8192x512, .f32⟩
  | 61 => ⟨S_, .f32⟩
  | 62 => ⟨S1x8192x512, .f32⟩
  | 63 => ⟨S1x8192x512, .f32⟩
  | 64 => ⟨S1x8192x512, .f32⟩
  | 65 => ⟨S_, .f32⟩
  | 66 => ⟨S1x8192x512, .f32⟩
  | 67 => ⟨S1x8192x512, .f32⟩
  | 68 => ⟨S1x8192x512, .f32⟩
  | 69 => ⟨S_, .f32⟩
  | 70 => ⟨S1x8192x512, .f32⟩
  | 71 => ⟨S1x8192x512, .f32⟩
  | 72 => ⟨S1x8192x512, .f32⟩
  | 73 => ⟨S1x8192x512, .f32⟩
  | 74 => ⟨S1x8192x512, .f32⟩
  | 75 => ⟨S_, .f32⟩
  | 76 => ⟨S1x8192x512, .f32⟩
  | 77 => ⟨S1x8192x512, .f32⟩
  | 78 => ⟨S1x8192x512, .f32⟩
  | 79 => ⟨S_, .f32⟩
  | 80 => ⟨S1x8192x512, .f32⟩
  | 81 => ⟨S1x8192x512, .f32⟩
  | 82 => ⟨S1x8192x512, .f32⟩
  | 83 => ⟨S_, .f32⟩
  | 84 => ⟨S1x8192x512, .f32⟩
  | 85 => ⟨S1x8192x512, .f32⟩
  | 86 => ⟨S1x8192x512, .f32⟩
  | 87 => ⟨S1x8192x512, .f32⟩
  | 88 => ⟨S1x8192x512, .f32⟩
  | 89 => ⟨S1x8192x512, .f32⟩
  | 90 => ⟨S1x8192x512, .f32⟩
  | 91 => ⟨S1x8192x512, .f32⟩
  | 92 => ⟨S1x8192x512, .f32⟩
  | _ => ⟨S1x8192x1024, .f32⟩

abbrev hbmTy (i : Nat) : BufTy := match i / 128 with
  | 0 => hbmTy0_0 i
  | 1 => hbmTy0_1 i
  | 2 => hbmTy0_2 i
  | _ => ⟨S1x8192x1024, .f32⟩

abbrev bufTy : (tb : Table) → Fin (tcTables nBuf tb) → BufTy
  | .hbm, ⟨i, _⟩ => hbmTy i
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v2_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v2_1 : Ref sig .tc := ⟨.hbm, 28, rfl⟩
abbrev main_v2_0 : Ref sig .tc := ⟨.hbm, 29, rfl⟩
abbrev main_v3 : Ref sig .tc := ⟨.hbm, 30, rfl⟩
abbrev main_cst_0 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst_1 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst_3 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_v24 : Ref sig .tc := ⟨.hbm, 56, rfl⟩
abbrev main_v25 : Ref sig .tc := ⟨.hbm, 57, rfl⟩
abbrev main_cst_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_cst_7 : Ref sig .tc := ⟨.hbm, 67, rfl⟩
abbrev main_v33 : Ref sig .tc := ⟨.hbm, 68, rfl⟩
abbrev main_v34 : Ref sig .tc := ⟨.hbm, 69, rfl⟩
abbrev main_cst_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_9 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_cst_10 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_c : Ref sig .tc := ⟨.hbm, 92, rfl⟩
abbrev main_v54 : Ref sig .tc := ⟨.hbm, 93, rfl⟩
abbrev main_call1_v0 : Ref sig .tc := ⟨.hbm, 94, rfl⟩
abbrev main_call1_c : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_call1_c_0 : Ref sig .tc := ⟨.hbm, 100, rfl⟩
abbrev main_call1_v5 : Ref sig .tc := ⟨.hbm, 101, rfl⟩
abbrev main_v55 : Ref sig .tc := ⟨.hbm, 102, rfl⟩
abbrev main_v56 : Ref sig .tc := ⟨.hbm, 103, rfl⟩
abbrev main_cst_11 : Ref sig .tc := ⟨.hbm, 104, rfl⟩
abbrev main_call2_v0 : Ref sig .tc := ⟨.hbm, 105, rfl⟩
abbrev main_v57_1 : Ref sig .tc := ⟨.hbm, 106, rfl⟩
abbrev main_call2_v2 : Ref sig .tc := ⟨.hbm, 107, rfl⟩
abbrev main_v57_0 : Ref sig .tc := ⟨.hbm, 108, rfl⟩
abbrev main_call2_cst : Ref sig .tc := ⟨.hbm, 109, rfl⟩
abbrev main_v57_2 : Ref sig .tc := ⟨.hbm, 110, rfl⟩
abbrev main_v58 : Ref sig .tc := ⟨.hbm, 111, rfl⟩
abbrev main_v59 : Ref sig .tc := ⟨.hbm, 112, rfl⟩
abbrev main_v60 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_call3_v0 : Ref sig .tc := ⟨.hbm, 119, rfl⟩
abbrev main_call3_v1 : Ref sig .tc := ⟨.hbm, 120, rfl⟩
abbrev main_call3_cst : Ref sig .tc := ⟨.hbm, 121, rfl⟩
abbrev main_call3_v2 : Ref sig .tc := ⟨.hbm, 122, rfl⟩
abbrev main_call3_v3 : Ref sig .tc := ⟨.hbm, 123, rfl⟩
abbrev main_call3_cst_0 : Ref sig .tc := ⟨.hbm, 124, rfl⟩
abbrev main_call3_v4 : Ref sig .tc := ⟨.hbm, 125, rfl⟩
abbrev main_v66_2 : Ref sig .tc := ⟨.hbm, 126, rfl⟩
abbrev main_call3_cst_1 : Ref sig .tc := ⟨.hbm, 127, rfl⟩
abbrev main_call3_v6 : Ref sig .tc := ⟨.hbm, 128, rfl⟩
abbrev main_call3_v7 : Ref sig .tc := ⟨.hbm, 129, rfl⟩
abbrev main_v66_1 : Ref sig .tc := ⟨.hbm, 130, rfl⟩
abbrev main_v66_0 : Ref sig .tc := ⟨.hbm, 131, rfl⟩
abbrev main_v67 : Ref sig .tc := ⟨.hbm, 132, rfl⟩
abbrev main_v68 : Ref sig .tc := ⟨.hbm, 133, rfl⟩
abbrev main_v69 : Ref sig .tc := ⟨.hbm, 134, rfl⟩
abbrev main_v70 : Ref sig .tc := ⟨.hbm, 135, rfl⟩
abbrev main_cst_12 : Ref sig .tc := ⟨.hbm, 136, rfl⟩
abbrev main_v71 : Ref sig .tc := ⟨.hbm, 137, rfl⟩
abbrev main_v72 : Ref sig .tc := ⟨.hbm, 138, rfl⟩
abbrev main_cst_13 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_cst_14 : Ref sig .tc := ⟨.hbm, 145, rfl⟩
abbrev main_v78 : Ref sig .tc := ⟨.hbm, 146, rfl⟩
abbrev main_v79 : Ref sig .tc := ⟨.hbm, 147, rfl⟩
abbrev main_cst_15 : Ref sig .tc := ⟨.hbm, 148, rfl⟩
abbrev main_v80 : Ref sig .tc := ⟨.hbm, 149, rfl⟩
abbrev main_v81 : Ref sig .tc := ⟨.hbm, 150, rfl⟩
abbrev main_cst_16 : Ref sig .tc := ⟨.hbm, 151, rfl⟩
abbrev main_v82 : Ref sig .tc := ⟨.hbm, 152, rfl⟩
abbrev main_v83 : Ref sig .tc := ⟨.hbm, 153, rfl⟩
abbrev main_v84 : Ref sig .tc := ⟨.hbm, 154, rfl⟩
abbrev main_v85 : Ref sig .tc := ⟨.hbm, 155, rfl⟩
abbrev main_cst_17 : Ref sig .tc := ⟨.hbm, 156, rfl⟩
abbrev main_v86 : Ref sig .tc := ⟨.hbm, 157, rfl⟩
abbrev main_v87 : Ref sig .tc := ⟨.hbm, 158, rfl⟩
abbrev main_v88 : Ref sig .tc := ⟨.hbm, 159, rfl⟩
abbrev main_v89 : Ref sig .tc := ⟨.hbm, 160, rfl⟩
abbrev main_cst_18 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_cst_19 : Ref sig .tc := ⟨.hbm, 174, rfl⟩
abbrev main_v102 : Ref sig .tc := ⟨.hbm, 175, rfl⟩
abbrev main_v103 : Ref sig .tc := ⟨.hbm, 176, rfl⟩
abbrev main_cst_20 : Ref sig .tc := ⟨.hbm, 177, rfl⟩
abbrev main_v104 : Ref sig .tc := ⟨.hbm, 178, rfl⟩
abbrev main_cst_21 : Ref sig .tc := ⟨.hbm, 179, rfl⟩
abbrev main_v105 : Ref sig .tc := ⟨.hbm, 180, rfl⟩
abbrev main_v106 : Ref sig .tc := ⟨.hbm, 181, rfl⟩
abbrev main_cst_22 : Ref sig .tc := ⟨.hbm, 182, rfl⟩
abbrev main_v107 : Ref sig .tc := ⟨.hbm, 183, rfl⟩
abbrev main_cst_23 : Ref sig .tc := ⟨.hbm, 184, rfl⟩
abbrev main_v108 : Ref sig .tc := ⟨.hbm, 185, rfl⟩
abbrev main_cst_24 : Ref sig .tc := ⟨.hbm, 186, rfl⟩
abbrev main_cst_25 : Ref sig .tc := ⟨.hbm, 187, rfl⟩
abbrev main_v109 : Ref sig .tc := ⟨.hbm, 188, rfl⟩
abbrev main_v110 : Ref sig .tc := ⟨.hbm, 189, rfl⟩
abbrev main_cst_26 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_cst_27 : Ref sig .tc := ⟨.hbm, 195, rfl⟩
abbrev main_v115 : Ref sig .tc := ⟨.hbm, 196, rfl⟩
abbrev main_v116 : Ref sig .tc := ⟨.hbm, 197, rfl⟩
abbrev main_cst_28 : Ref sig .tc := ⟨.hbm, 198, rfl⟩
abbrev main_v117 : Ref sig .tc := ⟨.hbm, 199, rfl⟩
abbrev main_v118 : Ref sig .tc := ⟨.hbm, 200, rfl⟩
abbrev main_cst_29 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_cst_30 : Ref sig .tc := ⟨.hbm, 206, rfl⟩
abbrev main_v123 : Ref sig .tc := ⟨.hbm, 207, rfl⟩
abbrev main_v124 : Ref sig .tc := ⟨.hbm, 208, rfl⟩
abbrev main_cst_31 : Ref sig .tc := ⟨.hbm, 209, rfl⟩
abbrev main_v125 : Ref sig .tc := ⟨.hbm, 210, rfl⟩
abbrev main_v126 : Ref sig .tc := ⟨.hbm, 211, rfl⟩
abbrev main_v127 : Ref sig .tc := ⟨.hbm, 212, rfl⟩
abbrev main_v128 : Ref sig .tc := ⟨.hbm, 213, rfl⟩
abbrev main_v129 : Ref sig .tc := ⟨.hbm, 214, rfl⟩
abbrev main_v130 : Ref sig .tc := ⟨.hbm, 215, rfl⟩
abbrev main_cst_32 : Ref sig .tc := ⟨.hbm, 216, rfl⟩
abbrev main_v131 : Ref sig .tc := ⟨.hbm, 217, rfl⟩
abbrev main_v132 : Ref sig .tc := ⟨.hbm, 218, rfl⟩
abbrev main_cst_33 : Ref sig .tc := ⟨.hbm, 219, rfl⟩
abbrev main_v133 : Ref sig .tc := ⟨.hbm, 220, rfl⟩
abbrev main_v134 : Ref sig .tc := ⟨.hbm, 221, rfl⟩
abbrev main_cst_34 : Ref sig .tc := ⟨.hbm, 222, rfl⟩
abbrev main_v135 : Ref sig .tc := ⟨.hbm, 223, rfl⟩
abbrev main_v136 : Ref sig .tc := ⟨.hbm, 224, rfl⟩
abbrev main_v137 : Ref sig .tc := ⟨.hbm, 225, rfl⟩
abbrev main_v138 : Ref sig .tc := ⟨.hbm, 226, rfl⟩
abbrev main_v139 : Ref sig .tc := ⟨.hbm, 227, rfl⟩
abbrev main_cst_35 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_cst_36 : Ref sig .tc := ⟨.hbm, 233, rfl⟩
abbrev main_v144 : Ref sig .tc := ⟨.hbm, 234, rfl⟩
abbrev main_v145 : Ref sig .tc := ⟨.hbm, 235, rfl⟩
abbrev main_cst_37 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_call4_v0 : Ref sig .tc := ⟨.hbm, 248, rfl⟩
abbrev main_call4_v1 : Ref sig .tc := ⟨.hbm, 249, rfl⟩
abbrev main_call4_v2 : Ref sig .tc := ⟨.hbm, 250, rfl⟩
abbrev main_v157 : Ref sig .tc := ⟨.hbm, 251, rfl⟩
abbrev main_v158 : Ref sig .tc := ⟨.hbm, 252, rfl⟩
abbrev main_v159 : Ref sig .tc := ⟨.hbm, 253, rfl⟩
abbrev main_v160 : Ref sig .tc := ⟨.hbm, 254, rfl⟩
abbrev main_cst_38 : Ref sig .tc := ⟨.hbm, 255, rfl⟩
abbrev main_v161 : Ref sig .tc := ⟨.hbm, 256, rfl⟩
abbrev main_v162 : Ref sig .tc := ⟨.hbm, 257, rfl⟩
abbrev main_cst_39 : Ref sig .tc := ⟨.hbm, 258, rfl⟩
abbrev main_v163 : Ref sig .tc := ⟨.hbm, 259, rfl⟩
abbrev main_v164 : Ref sig .tc := ⟨.hbm, 260, rfl⟩
abbrev main_v165 : Ref sig .tc := ⟨.hbm, 261, rfl⟩
abbrev main_v166 : Ref sig .tc := ⟨.hbm, 262, rfl⟩
abbrev main_v167 : Ref sig .tc := ⟨.hbm, 263, rfl⟩
abbrev main_v168 : Ref sig .tc := ⟨.hbm, 264, rfl⟩
abbrev main_call5_cst : Ref sig .tc := ⟨.hbm, 265, rfl⟩
abbrev main_call5_v0 : Ref sig .tc := ⟨.hbm, 266, rfl⟩
abbrev main_v169 : Ref sig .tc := ⟨.hbm, 267, rfl⟩
abbrev main_v170 : Ref sig .tc := ⟨.hbm, 268, rfl⟩
abbrev main_cst_40 : Ref sig .tc := ⟨.hbm, 269, rfl⟩
abbrev main_v171 : Ref sig .tc := ⟨.hbm, 270, rfl⟩
abbrev main_v172 : Ref sig .tc := ⟨.hbm, 271, rfl⟩
abbrev main_cst_41 : Ref sig .tc := ⟨.hbm, 272, rfl⟩
abbrev main_v173 : Ref sig .tc := ⟨.hbm, 273, rfl⟩
abbrev main_v174 : Ref sig .tc := ⟨.hbm, 274, rfl⟩
abbrev main_cst_42 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_cst_43 : Ref sig .tc := ⟨.hbm, 280, rfl⟩
abbrev main_v179 : Ref sig .tc := ⟨.hbm, 281, rfl⟩
abbrev main_v180 : Ref sig .tc := ⟨.hbm, 282, rfl⟩
abbrev main_cst_44 : Ref sig .tc := ⟨.hbm, 283, rfl⟩
abbrev main_v181 : Ref sig .tc := ⟨.hbm, 284, rfl⟩
abbrev main_v182 : Ref sig .tc := ⟨.hbm, 285, rfl⟩
abbrev main_v183 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_cst_45 : Ref sig .tc := ⟨.hbm, 290, rfl⟩
abbrev main_v187 : Ref sig .tc := ⟨.hbm, 291, rfl⟩
abbrev main_v188 : Ref sig .tc := ⟨.hbm, 292, rfl⟩
abbrev main_cst_46 : Ref sig .tc := ⟨.hbm, 293, rfl⟩
abbrev main_v189 : Ref sig .tc := ⟨.hbm, 294, rfl⟩
abbrev main_v190 : Ref sig .tc := ⟨.hbm, 295, rfl⟩
abbrev main_cst_47 : Ref sig .tc := ⟨.hbm, 296, rfl⟩
abbrev main_v191 : Ref sig .tc := ⟨.hbm, 297, rfl⟩
abbrev main_v192 : Ref sig .tc := ⟨.hbm, 298, rfl⟩
abbrev main_v193 : Ref sig .tc := ⟨.hbm, 299, rfl⟩
abbrev main_v194 : Ref sig .tc := ⟨.hbm, 300, rfl⟩
abbrev main_v195 : Ref sig .tc := ⟨.hbm, 301, rfl⟩
abbrev main_cst_48 : Ref sig .tc := ⟨.hbm, 302, rfl⟩
abbrev main_v196 : Ref sig .tc := ⟨.hbm, 303, rfl⟩
abbrev main_v197 : Ref sig .tc := ⟨.hbm, 304, rfl⟩
abbrev main_v198 : Ref sig .tc := ⟨.hbm, 305, rfl⟩
abbrev main_v199 : Ref sig .tc := ⟨.hbm, 306, rfl⟩
abbrev main_cst_49 : Ref sig .tc := ⟨.hbm, 307, rfl⟩
abbrev main_v200 : Ref sig .tc := ⟨.hbm, 308, rfl⟩
abbrev main_v201 : Ref sig .tc := ⟨.hbm, 309, rfl⟩
abbrev main_cst_50 : Ref sig .tc := ⟨.hbm, 310, rfl⟩
abbrev main_v202 : Ref sig .tc := ⟨.hbm, 311, rfl⟩
abbrev main_v203 : Ref sig .tc := ⟨.hbm, 312, rfl⟩
abbrev main_v204 : Ref sig .tc := ⟨.hbm, 313, rfl⟩
abbrev main_v205 : Ref sig .tc := ⟨.hbm, 314, rfl⟩
abbrev main_v206 : Ref sig .tc := ⟨.hbm, 315, rfl⟩
abbrev main_v207 : Ref sig .tc := ⟨.hbm, 316, rfl⟩
abbrev main_cst_51 : Ref sig .tc := ⟨.hbm, 317, rfl⟩
abbrev main_v208 : Ref sig .tc := ⟨.hbm, 318, rfl⟩
abbrev main_v209 : Ref sig .tc := ⟨.hbm, 319, rfl⟩
abbrev main_v210 : Ref sig .tc := ⟨.hbm, 320, rfl⟩
abbrev main_cst_52 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_cst_53 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_cst_54 : Ref sig .tc := ⟨.hbm, 331, rfl⟩
abbrev main_v219 : Ref sig .tc := ⟨.hbm, 332, rfl⟩
abbrev main_v220 : Ref sig .tc := ⟨.hbm, 333, rfl⟩
abbrev main_v221 : Ref sig .tc := ⟨.hbm, 334, rfl⟩
abbrev main_cst_55 : Ref sig .tc := ⟨.hbm, 335, rfl⟩
abbrev main_v222 : Ref sig .tc := ⟨.hbm, 336, rfl⟩
abbrev main_v223 : Ref sig .tc := ⟨.hbm, 337, rfl⟩
abbrev main_v224 : Ref sig .tc := ⟨.hbm, 338, rfl⟩
abbrev main_cst_56 : Ref sig .tc := ⟨.hbm, 339, rfl⟩
abbrev main_v225 : Ref sig .tc := ⟨.hbm, 340, rfl⟩
abbrev main_v226 : Ref sig .tc := ⟨.hbm, 341, rfl⟩
abbrev main_v227 : Ref sig .tc := ⟨.hbm, 342, rfl⟩
abbrev main_v228 : Ref sig .tc := ⟨.hbm, 343, rfl⟩
abbrev main_v229 : Ref sig .tc := ⟨.hbm, 344, rfl⟩
abbrev main_call6_v0 : Ref sig .tc := ⟨.hbm, 345, rfl⟩
abbrev main_call6_v1 : Ref sig .tc := ⟨.hbm, 346, rfl⟩
abbrev main_call6_v2 : Ref sig .tc := ⟨.hbm, 347, rfl⟩
abbrev main_v230 : Ref sig .tc := ⟨.hbm, 348, rfl⟩

abbrev nD : Nat := 1
abbrev τ : Topo := Topo.v7x

variable {F : FTy → Type} [FloatOps F]
-- ==== Kernel5.lean ====
abbrev S1x8192x8x96 : Shape := ⟨4, ![1, 8192, 8, 96]⟩
abbrev S1x8192x8x64 : Shape := ⟨4, ![1, 8192, 8, 64]⟩
abbrev S1x8192 : Shape := ⟨2, ![1, 8192]⟩
abbrev S1x8192x8x32 : Shape := ⟨4, ![1, 8192, 8, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x8x16 : Shape := ⟨4, ![1, 8192, 8, 16]⟩
abbrev S16x512x512 : Shape := ⟨3, ![16, 512, 512]⟩
abbrev S1x8192x8x128 : Shape := ⟨4, ![1, 8192, 8, 128]⟩
abbrev S8192x1024 : Shape := ⟨2, ![8192, 1024]⟩
abbrev S8192x512 : Shape := ⟨2, ![8192, 512]⟩
abbrev S4x16x2x512 : Shape := ⟨4, ![4, 16, 2, 512]⟩
abbrev S8192x256 : Shape := ⟨2, ![8192, 256]⟩
abbrev S16x128x512 : Shape := ⟨3, ![16, 128, 512]⟩
abbrev S8192x128 : Shape := ⟨2, ![8192, 128]⟩
abbrev S1x16x2x512 : Shape := ⟨4, ![1, 16, 2, 512]⟩
abbrev S16x8x512 : Shape := ⟨3, ![16, 8, 512]⟩
abbrev S16x2x128x512 : Shape := ⟨4, ![16, 2, 128, 512]⟩
abbrev S2x2048x512 : Shape := ⟨3, ![2, 2048, 512]⟩
abbrev S2048x128 : Shape := ⟨2, ![2048, 128]⟩
abbrev S512x128 : Shape := ⟨2, ![512, 128]⟩
abbrev S2048x512 : Shape := ⟨2, ![2048, 512]⟩
abbrev S1x2048x512 : Shape := ⟨3, ![1, 2048, 512]⟩
abbrev S1x1x512 : Shape := ⟨3, ![1, 1, 512]⟩
abbrev S1x512 : Shape := ⟨2, ![1, 512]⟩
abbrev S512 : Shape := ⟨1, ![512]⟩
abbrev S1x128x512 : Shape := ⟨3, ![1, 128, 512]⟩
abbrev S128x512 : Shape := ⟨2, ![128, 512]⟩
abbrev S512x512 : Shape := ⟨2, ![512, 512]⟩
abbrev S1x1x128x512 : Shape := ⟨4, ![1, 1, 128, 512]⟩
abbrev S1024x128 : Shape := ⟨2, ![1024, 128]⟩
abbrev S1024x512 : Shape := ⟨2, ![1024, 512]⟩
abbrev S1x1024x512 : Shape := ⟨3, ![1, 1024, 512]⟩
abbrev S1x512x512 : Shape := ⟨3, ![1, 512, 512]⟩
abbrev S1x2x512 : Shape := ⟨3, ![1, 2, 512]⟩
abbrev S2x512 : Shape := ⟨2, ![2, 512]⟩
abbrev S1x1x2x512 : Shape := ⟨4, ![1, 1, 2, 512]⟩
abbrev S1x8192x512 : Shape := ⟨3, ![1, 8192, 512]⟩

abbrev nBuf : Space → Nat
  | .hbm => 62
  | .vmem => 15
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192, .i32⟩
  | .hbm, ⟨4, _⟩ => ⟨S1x8192x8x64, .f32⟩
  | .hbm, ⟨5, _⟩ => ⟨S1x8192x8x32, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S1x8192, .f32⟩
  | .hbm, ⟨17, _⟩ => ⟨S1x8192x1, .f32⟩
  | .hbm, ⟨18, _⟩ => ⟨S1x1x16, .f32⟩
  | .hbm, ⟨19, _⟩ => ⟨S1x8192x16, .f32⟩
  | .hbm, ⟨20, _⟩ => ⟨S1x8192x16, .f32⟩
  | .hbm, ⟨21, _⟩ => ⟨S1x8192x16, .f32⟩
  | .hbm, ⟨22, _⟩ => ⟨S1x8192x16, .f32⟩
  | .hbm, ⟨23, _⟩ => ⟨S1x8192x1x16, .f32⟩
  | .hbm, ⟨24, _⟩ => ⟨S1x8192x16, .f32⟩
  | .hbm, ⟨25, _⟩ => ⟨S1x8192x1x16, .f32⟩
  | .hbm, ⟨26, _⟩ => ⟨S1x8192x8x16, .f32⟩
  | .hbm, ⟨27, _⟩ => ⟨S1x8192x8x16, .f32⟩
  | .hbm, ⟨28, _⟩ => ⟨S1x8192x8x16, .f32⟩
  | .hbm, ⟨29, _⟩ => ⟨S1x8192x8x16, .f32⟩
  | .hbm, ⟨30, _⟩ => ⟨S1x8192x8x16, .f32⟩
  | .hbm, ⟨31, _⟩ => ⟨S1x8192x8x16, .f32⟩
  | .hbm, ⟨32, _⟩ => ⟨S1x8192x8x16, .f32⟩
  | .hbm, ⟨33, _⟩ => ⟨S1x8192x8x16, .f32⟩
  | .hbm, ⟨34, _⟩ => ⟨S1x8192x8x16, .f32⟩
  | .hbm, ⟨35, _⟩ => ⟨S1x8192x8x16, .f32⟩
  | .hbm, ⟨36, _⟩ => ⟨S1x8192x8x16, .f32⟩
  | .hbm, ⟨37, _⟩ => ⟨S1x8192x8x16, .f32⟩
  | .hbm, ⟨38, _⟩ => ⟨S1x8192x8x32, .f32⟩
  | .hbm, ⟨39, _⟩ => ⟨S1x8192x8x96, .f32⟩
  | .hbm, ⟨40, _⟩ => ⟨S16x512x512, .f32⟩
  | .hbm, ⟨41, _⟩ => ⟨S16x512x512, .f32⟩
  | .hbm, ⟨42, _⟩ => ⟨S16x512x512, .bf16⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x8192x8x96, .f32⟩
  | .hbm, ⟨48, _⟩ => ⟨S1x8192x8x96, .f32⟩
  | .hbm, ⟨49, _⟩ => ⟨S_, .i32⟩
  | .hbm, ⟨50, _⟩ => ⟨S_, .f32⟩
  | .hbm, ⟨51, _⟩ => ⟨S1x8192x8x128, .f32⟩
  | .hbm, ⟨52, _⟩ => ⟨S8192x1024, .f32⟩
  | .hbm, ⟨53, _⟩ => ⟨S8192x1024, .bf16⟩
  | .hbm, ⟨54, _⟩ => ⟨S_, .i32⟩
  | .hbm, ⟨55, _⟩ => ⟨S_, .f32⟩
  | .hbm, ⟨56, _⟩ => ⟨S1x8192x8x128, .f32⟩
  | .hbm, ⟨57, _⟩ => ⟨S8192x1024, .f32⟩
  | .hbm, ⟨58, _⟩ => ⟨S8192x1024, .bf16⟩
  | .hbm, ⟨59, _⟩ => ⟨S8192x512, .f32⟩
  | .hbm, ⟨60, _⟩ => ⟨S4x16x2x512, .f32⟩
  | .hbm, ⟨61, _⟩ => ⟨S1x8192x512, .f32⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S16x128x512, .bf16⟩
  | .local _ .vmem, ⟨5, _⟩ => ⟨S16x128x512, .bf16⟩
  | .local _ .vmem, ⟨6, _⟩ => ⟨S8192x128, .f32⟩
  | .local _ .vmem, ⟨7, _⟩ => ⟨S8192x128, .f32⟩
  | .local _ .vmem, ⟨8, _⟩ => ⟨S1x16x2x512, .f32⟩
  | .local _ .vmem, ⟨9, _⟩ => ⟨S1x16x2x512, .f32⟩
  | .local _ .vmem, ⟨10, _⟩ => ⟨S16x8x512, .f32⟩
  | .local _ .vmem, ⟨11, _⟩ => ⟨S16x8x512, .f32⟩
  | .local _ .vmem, ⟨12, _⟩ => ⟨S16x2x128x512, .f32⟩
  | .local _ .vmem, ⟨13, _⟩ => ⟨S2x2048x512, .f32⟩
  | .local _ .vmem, ⟨14, _⟩ => ⟨S2x2048x512, .f32⟩
  | _, _ => ⟨S1x8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_c : Ref sig .tc := ⟨.hbm, 49, rfl⟩
abbrev main_call0_v0 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_c_4 : Ref sig .tc := ⟨.hbm, 54, rfl⟩
abbrev main_call1_v0 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46_0 : Ref sig .tc := ⟨.hbm, 59, rfl⟩
abbrev main_v46_1 : Ref sig .tc := ⟨.hbm, 60, rfl⟩
abbrev main_v47 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def k0_mult1 : BitVec 32 :=
  let c2048_i32 : BitVec 32 := 2048#32
  c2048_i32
def k0_mult2 : BitVec 32 :=
  let c0_i32 : BitVec 32 := 0#32
  c0_i32
@[reducible] def k0_t1_loop : Scf.Loop 32 :=
  let c0_i32_22 : BitVec 32 := 0#32
  let c12_i32 : BitVec 32 := 12#32
  let v34 : BitVec 32 := Scalar.addi c0_i32_22 c12_i32
  let c1_i32 : BitVec 32 := 1#32
  ⟨c0_i32_22, v34, c1_i32⟩
def k0_mult3 (arg12 : BitVec 32) (arg13 : BitVec 32) : BitVec 32 :=
  let c8_i32_79 : BitVec 32 := 8#32
  let v112 : BitVec 32 := Scalar.addi arg13 c8_i32_79
  let v113 : BitVec 1 := Scalar.cmpi .sgt v112 arg12
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let c512_i32_83 : BitVec 32 := 512#32
  let v119 : BitVec 32 := Scalar.muli v116 c512_i32_83
  v119

def k0_mult4 (arg12 : BitVec 32) (arg13 : BitVec 32) : BitVec 32 :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c512_i32_84 : BitVec 32 := 512#32
  let v121 : BitVec 32 := Scalar.muli v118 c512_i32_84
  v121
def k0_off1 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c512_i32_84 : BitVec 32 := 512#32
  let v121 : BitVec 32 := Scalar.muli v118 c512_i32_84
  let v122 : BitVec 32 := v121
  let v123 : Index := Scalar.indexCast v122
  let c0_85 : Index := 0#32
  ![v123.toNat, 0]
def k0_off2 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let c512_i32_83 : BitVec 32 := 512#32
  let v119 : BitVec 32 := Scalar.muli v116 c512_i32_83
  let v120 : BitVec 32 := v119
  let v126 : Index := Scalar.indexCast v120
  let c0_86 : Index := 0#32
  ![v126.toNat, 0]
def k0_off3 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c512_i32_84 : BitVec 32 := 512#32
  let v121 : BitVec 32 := Scalar.muli v118 c512_i32_84
  let v122 : BitVec 32 := v121
  let v133 : Index := Scalar.indexCast v122
  let c128_91 : Index := 128#32
  ![v133.toNat, 128]
def k0_off4 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let c512_i32_83 : BitVec 32 := 512#32
  let v119 : BitVec 32 := Scalar.muli v116 c512_i32_83
  let v120 : BitVec 32 := v119
  let v136 : Index := Scalar.indexCast v120
  let c128_92 : Index := 128#32
  ![v136.toNat, 128]
def k0_off5 (arg12 : BitVec 32) : Fin 3 → Nat :=
  let v145 : Index := Scalar.indexCast arg12
  let c0_100 : Index := 0#32
  let c0_101 : Index := 0#32
  ![v145.toNat, 0, 0]

def k0_off6 (arg13 : BitVec 32) : Fin 3 → Nat :=
  let v168 : Index := Scalar.indexCast arg13
  let c0_108 : Index := 0#32
  let c0_109 : Index := 0#32
  ![v168.toNat, 0, 0]
def k0_off7 (arg13 : BitVec 32) (c1_i32_111 : BitVec 32) : Fin 3 → Nat :=
  let v173 : BitVec 32 := Scalar.addi arg13 c1_i32_111
  let v174 : Index := Scalar.indexCast v173
  let c0_112 : Index := 0#32
  let c0_113 : Index := 0#32
  ![v174.toNat, 0, 0]
def k0_off8 (arg12 : BitVec 32) : Fin 4 → Nat :=
  let v194 : Index := Scalar.indexCast arg12
  let c0_122 : Index := 0#32
  let c0_123 : Index := 0#32
  let c0_124 : Index := 0#32
  ![v194.toNat, 0, 0, 0]
def k0_off9 (arg12 : BitVec 32) : Fin 3 → Nat :=
  let v210 : Index := Scalar.indexCast arg12
  let c1_133 : Index := 1#32
  let c0_134 : Index := 0#32
  ![v210.toNat, 1, 0]
def k0_off10 (arg12 : BitVec 32) : Fin 4 → Nat :=
  let v259 : Index := Scalar.indexCast arg12
  let c1_156 : Index := 1#32
  let c0_157 : Index := 0#32
  let c0_158 : Index := 0#32
  ![v259.toNat, 1, 0, 0]

def k0_chk2 (arg12 : BitVec 32) : Prop :=
  (∀ a, (k0_off5 arg12) a + S1x1x512.size a ≤ S16x8x512.size a) ∧
  (∀ a, (k0_off8 arg12) a + S1x1x128x512.size a ≤ S16x2x128x512.size a) ∧
  (∀ a, (k0_off9 arg12) a + S1x1x512.size a ≤ S16x8x512.size a) ∧
  (∀ a, (k0_off10 arg12) a + S1x1x128x512.size a ≤ S16x2x128x512.size a)
theorem k0_off5_inb : ∀ (arg12 : BitVec 32) (k0_hw2 : k0_chk2 arg12), ∀ a, (k0_off5 arg12) a + S1x1x512.size a ≤ S16x8x512.size a := fun arg12 k0_hw2 => k0_hw2.1
theorem k0_off8_inb : ∀ (arg12 : BitVec 32) (k0_hw2 : k0_chk2 arg12), ∀ a, (k0_off8 arg12) a + S1x1x128x512.size a ≤ S16x2x128x512.size a := fun arg12 k0_hw2 => k0_hw2.2.1
theorem k0_off9_inb : ∀ (arg12 : BitVec 32) (k0_hw2 : k0_chk2 arg12), ∀ a, (k0_off9 arg12) a + S1x1x512.size a ≤ S16x8x512.size a := fun arg12 k0_hw2 => k0_hw2.2.2.1
theorem k0_off10_inb : ∀ (arg12 : BitVec 32) (k0_hw2 : k0_chk2 arg12), ∀ a, (k0_off10 arg12) a + S1x1x128x512.size a ≤ S16x2x128x512.size a := fun arg12 k0_hw2 => k0_hw2.2.2.2

def k0_mult5 (arg12 : BitVec 32) (arg13 : BitVec 32) : BitVec 32 :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c8_i32_164 : BitVec 32 := 8#32
  let v273 : BitVec 32 := Scalar.addi v118 c8_i32_164
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v274 : BitVec 1 := Scalar.cmpi .sgt v273 v116
  let c1_i32_165 : BitVec 32 := 1#32
  let v275 : BitVec 32 := Scalar.addi v116 c1_i32_165
  let v276 : BitVec 32 := Scalar.select v274 v275 v116
  let c15_i32_166 : BitVec 32 := 15#32
  let v277 : BitVec 32 := Scalar.minsi v276 c15_i32_166
  let c512_i32_169 : BitVec 32 := 512#32
  let v280 : BitVec 32 := Scalar.muli v277 c512_i32_169
  v280
def k0_mult6 (arg12 : BitVec 32) (arg13 : BitVec 32) : BitVec 32 :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c8_i32_164 : BitVec 32 := 8#32
  let v273 : BitVec 32 := Scalar.addi v118 c8_i32_164
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v274 : BitVec 1 := Scalar.cmpi .sgt v273 v116
  let c0_i32_168 : BitVec 32 := 0#32
  let c4_i32_167 : BitVec 32 := 4#32
  let v278 : BitVec 32 := Scalar.addi v118 c4_i32_167
  let v279 : BitVec 32 := Scalar.select v274 c0_i32_168 v278
  let c512_i32_170 : BitVec 32 := 512#32
  let v282 : BitVec 32 := Scalar.muli v279 c512_i32_170
  v282
def k0_off11 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c8_i32_164 : BitVec 32 := 8#32
  let v273 : BitVec 32 := Scalar.addi v118 c8_i32_164
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v274 : BitVec 1 := Scalar.cmpi .sgt v273 v116
  let c0_i32_168 : BitVec 32 := 0#32
  let c4_i32_167 : BitVec 32 := 4#32
  let v278 : BitVec 32 := Scalar.addi v118 c4_i32_167
  let v279 : BitVec 32 := Scalar.select v274 c0_i32_168 v278
  let c512_i32_170 : BitVec 32 := 512#32
  let v282 : BitVec 32 := Scalar.muli v279 c512_i32_170
  let v283 : BitVec 32 := v282
  let v284 : Index := Scalar.indexCast v283
  let c0_171 : Index := 0#32
  ![v284.toNat, 0]
def k0_off12 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c8_i32_164 : BitVec 32 := 8#32
  let v273 : BitVec 32 := Scalar.addi v118 c8_i32_164
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v274 : BitVec 1 := Scalar.cmpi .sgt v273 v116
  let c1_i32_165 : BitVec 32 := 1#32
  let v275 : BitVec 32 := Scalar.addi v116 c1_i32_165
  let v276 : BitVec 32 := Scalar.select v274 v275 v116
  let c15_i32_166 : BitVec 32 := 15#32
  let v277 : BitVec 32 := Scalar.minsi v276 c15_i32_166
  let c512_i32_169 : BitVec 32 := 512#32
  let v280 : BitVec 32 := Scalar.muli v277 c512_i32_169
  let v281 : BitVec 32 := v280
  let v287 : Index := Scalar.indexCast v281
  let c0_172 : Index := 0#32
  ![v287.toNat, 0]
def k0_off13 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c8_i32_164 : BitVec 32 := 8#32
  let v273 : BitVec 32 := Scalar.addi v118 c8_i32_164
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v274 : BitVec 1 := Scalar.cmpi .sgt v273 v116
  let c0_i32_168 : BitVec 32 := 0#32
  let c4_i32_167 : BitVec 32 := 4#32
  let v278 : BitVec 32 := Scalar.addi v118 c4_i32_167
  let v279 : BitVec 32 := Scalar.select v274 c0_i32_168 v278
  let c512_i32_170 : BitVec 32 := 512#32
  let v282 : BitVec 32 := Scalar.muli v279 c512_i32_170
  let v283 : BitVec 32 := v282
  let v294 : Index := Scalar.indexCast v283
  let c128_177 : Index := 128#32
  ![v294.toNat, 128]
def k0_off14 (arg12 : BitVec 32) (arg13 : BitVec 32) : Fin 2 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let c8_i32_164 : BitVec 32 := 8#32
  let v273 : BitVec 32 := Scalar.addi v118 c8_i32_164
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v274 : BitVec 1 := Scalar.cmpi .sgt v273 v116
  let c1_i32_165 : BitVec 32 := 1#32
  let v275 : BitVec 32 := Scalar.addi v116 c1_i32_165
  let v276 : BitVec 32 := Scalar.select v274 v275 v116
  let c15_i32_166 : BitVec 32 := 15#32
  let v277 : BitVec 32 := Scalar.minsi v276 c15_i32_166
  let c512_i32_169 : BitVec 32 := 512#32
  let v280 : BitVec 32 := Scalar.muli v277 c512_i32_169
  let v281 : BitVec 32 := v280
  let v297 : Index := Scalar.indexCast v281
  let c128_178 : Index := 128#32
  ![v297.toNat, 128]
def k0_off15 (arg12 : BitVec 32) (arg13 : BitVec 32) : Fin 3 → Nat :=
  let c8_i32_79 : BitVec 32 := 8#32
  let v112 : BitVec 32 := Scalar.addi arg13 c8_i32_79
  let v113 : BitVec 1 := Scalar.cmpi .sgt v112 arg12
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v306 : Index := Scalar.indexCast v116
  let c0_186 : Index := 0#32
  let c0_187 : Index := 0#32
  ![v306.toNat, 0, 0]
def k0_off16 (arg12 : BitVec 32) (arg13 : BitVec 32) : Fin 3 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let v329 : Index := Scalar.indexCast v118
  let c0_194 : Index := 0#32
  let c0_195 : Index := 0#32
  ![v329.toNat, 0, 0]
def k0_off17 (arg12 : BitVec 32) (arg13 : BitVec 32) (c1_i32_197 : BitVec 32) : Fin 3 → Nat :=
  let c8_i32_79 : BitVec 32 := 8#32
  let v112 : BitVec 32 := Scalar.addi arg13 c8_i32_79
  let v113 : BitVec 1 := Scalar.cmpi .sgt v112 arg12
  let c0_i32_82 : BitVec 32 := 0#32
  let c4_i32_81 : BitVec 32 := 4#32
  let v117 : BitVec 32 := Scalar.addi arg13 c4_i32_81
  let v118 : BitVec 32 := Scalar.select v113 c0_i32_82 v117
  let v334 : BitVec 32 := Scalar.addi v118 c1_i32_197
  let v335 : Index := Scalar.indexCast v334
  let c0_198 : Index := 0#32
  let c0_199 : Index := 0#32
  ![v335.toNat, 0, 0]
def k0_off18 (arg12 : BitVec 32) (arg13 : BitVec 32) : Fin 4 → Nat :=
  let c8_i32_79 : BitVec 32 := 8#32
  let v112 : BitVec 32 := Scalar.addi arg13 c8_i32_79
  let v113 : BitVec 1 := Scalar.cmpi .sgt v112 arg12
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v355 : Index := Scalar.indexCast v116
  let c0_209 : Index := 0#32
  let c0_210 : Index := 0#32
  let c0_211 : Index := 0#32
  ![v355.toNat, 0, 0, 0]
def k0_off19 (arg12 : BitVec 32) (arg13 : BitVec 32) : Fin 3 → Nat :=
  let c8_i32_79 : BitVec 32 := 8#32
  let v112 : BitVec 32 := Scalar.addi arg13 c8_i32_79
  let v113 : BitVec 1 := Scalar.cmpi .sgt v112 arg12
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v371 : Index := Scalar.indexCast v116
  let c1_220 : Index := 1#32
  let c0_221 : Index := 0#32
  ![v371.toNat, 1, 0]
def k0_off20 (arg12 : BitVec 32) (arg13 : BitVec 32) : Fin 4 → Nat :=
  let c8_i32_79 : BitVec 32 := 8#32
  let v112 : BitVec 32 := Scalar.addi arg13 c8_i32_79
  let v113 : BitVec 1 := Scalar.cmpi .sgt v112 arg12
  let c1_i32_80 : BitVec 32 := 1#32
  let v114 : BitVec 32 := Scalar.addi arg12 c1_i32_80
  let v115 : BitVec 32 := Scalar.select v113 v114 arg12
  let c15_i32 : BitVec 32 := 15#32
  let v116 : BitVec 32 := Scalar.minsi v115 c15_i32
  let v420 : Index := Scalar.indexCast v116
  let c1_243 : Index := 1#32
  let c0_244 : Index := 0#32
  let c0_245 : Index := 0#32
  ![v420.toNat, 1, 0, 0]

def k0_chk1 (arg12 : BitVec 32) (arg13 : BitVec 32) : Prop :=
  (512 ∣ (k0_mult3 arg12 arg13).toNat) ∧
  (512 ∣ (k0_mult4 arg12 arg13).toNat) ∧
  (∀ a, (k0_off1 arg12 arg13) a + S2048x128.size a ≤ S8192x256.size a) ∧
  (∀ a, (k0_off2 arg12 arg13) a + S512x128.size a ≤ S8192x256.size a) ∧
  (∀ a, (k0_off3 arg12 arg13) a + S2048x128.size a ≤ S8192x256.size a) ∧
  (∀ a, (k0_off4 arg12 arg13) a + S512x128.size a ≤ S8192x256.size a) ∧
  (∀ a, (k0_off6 arg13) a + S1x128x512.size a ≤ S16x128x512.size a) ∧
  (∀ (r : Fin 3), ∀ a, (k0_off7 arg13 (BitVec.ofNat 32 (1 + r.val))) a + S1x128x512.size a ≤ S16x128x512.size a) ∧
  (512 ∣ (k0_mult5 arg12 arg13).toNat) ∧
  (512 ∣ (k0_mult6 arg12 arg13).toNat) ∧
  (∀ a, (k0_off11 arg12 arg13) a + S2048x128.size a ≤ S8192x256.size a) ∧
  (∀ a, (k0_off12 arg12 arg13) a + S512x128.size a ≤ S8192x256.size a) ∧
  (∀ a, (k0_off13 arg12 arg13) a + S2048x128.size a ≤ S8192x256.size a) ∧
  (∀ a, (k0_off14 arg12 arg13) a + S512x128.size a ≤ S8192x256.size a) ∧
  (∀ a, (k0_off15 arg12 arg13) a + S1x1x512.size a ≤ S16x8x512.size a) ∧
  (∀ a, (k0_off16 arg12 arg13) a + S1x128x512.size a ≤ S16x128x512.size a) ∧
  (∀ (r : Fin 3), ∀ a, (k0_off17 arg12 arg13 (BitVec.ofNat 32 (1 + r.val))) a + S1x128x512.size a ≤ S16x128x512.size a) ∧
  (∀ a, (k0_off18 arg12 arg13) a + S1x1x128x512.size a ≤ S16x2x128x512.size a) ∧
  (∀ a, (k0_off19 arg12 arg13) a + S1x1x512.size a ≤ S16x8x512.size a) ∧
  (∀ a, (k0_off20 arg12 arg13) a + S1x1x128x512.size a ≤ S16x2x128x512.size a)
theorem k0_mult3_dvd : ∀ (arg12 : BitVec 32) (arg13 : BitVec 32) (k0_hw1 : k0_chk1 arg12 arg13), 512 ∣ (k0_mult3 arg12 arg13).toNat := fun arg12 arg13 k0_hw1 => k0_hw1.1
theorem k0_mult4_dvd : ∀ (arg12 : BitVec 32) (arg13 : BitVec 32) (k0_hw1 : k0_chk1 arg12 arg13), 512 ∣ (k0_mult4 arg12 arg13).toNat := fun arg12 arg13 k0_hw1 => k0_hw1.2.1
theorem k0_off1_inb : ∀ (arg12 : BitVec 32) (arg13 : BitVec 32) (k0_hw1 : k0_chk1 arg12 arg13), ∀ a, (k0_off1 arg12 arg13) a + S2048x128.size a ≤ S8192x256.size a := fun arg12 arg13 k0_hw1 => k0_hw1.2.2.1
theorem k0_off2_inb : ∀ (arg12 : BitVec 32) (arg13 : BitVec 32) (k0_hw1 : k0_chk1 arg12 arg13), ∀ a, (k0_off2 arg12 arg13) a + S512x128.size a ≤ S8192x256.size a := fun arg12 arg13 k0_hw1 => k0_hw1.2.2.2.1
theorem k0_off3_inb : ∀ (arg12 : BitVec 32) (arg13 : BitVec 32) (k0_hw1 : k0_chk1 arg12 arg13), ∀ a, (k0_off3 arg12 arg13) a + S2048x128.size a ≤ S8192x256.size a := fun arg12 arg13 k0_hw1 => k0_hw1.2.2.2.2.1
theorem k0_off4_inb : ∀ (arg12 : BitVec 32) (arg13 : BitVec 32) (k0_hw1 : k0_chk1 arg12 arg13), ∀ a, (k0_off4 arg12 arg13) a + S512x128.size a ≤ S8192x256.size a := fun arg12 arg13 k0_hw1 => k0_hw1.2.2.2.2.2.1
theorem k0_off6_inb : ∀ (arg12 : BitVec 32) (arg13 : BitVec 32) (k0_hw1 : k0_chk1 arg12 arg13), ∀ a, (k0_off6 arg13) a + S1x128x512.size a ≤ S16x128x512.size a := fun arg12 arg13 k0_hw1 => k0_hw1.2.2.2.2.2.2.1
theorem k0_off7_inb : ∀ (arg12 : BitVec 32) (arg13 : BitVec 32) (k0_hw1 : k0_chk1 arg12 arg13), ∀ (r : Fin 3), ∀ a, (k0_off7 arg13 (BitVec.ofNat 32 (1 + r.val))) a + S1x128x512.size a ≤ S16x128x512.size a := fun arg12 arg13 k0_hw1 r => k0_hw1.2.2.2.2.2.2.2.1 r
theorem k0_mult5_dvd : ∀ (arg12 : BitVec 32) (arg13 : BitVec 32) (k0_hw1 : k0_chk1 arg12 arg13), 512 ∣ (k0_mult5 arg12 arg13).toNat := fun arg12 arg13 k0_hw1 => k0_hw1.2.2.2.2.2.2.2.2.1
theorem k0_mult6_dvd : ∀ (arg12 : BitVec 32) (arg13 : BitVec 32) (k0_hw1 : k0_chk1 arg12 arg13), 512 ∣ (k0_mult6 arg12 arg13).toNat := fun arg12 arg13 k0_hw1 => k0_hw1.2.2.2.2.2.2.2.2.2.1
theorem k0_off11_inb : ∀ (arg12 : BitVec 32) (arg13 : BitVec 32) (k0_hw1 : k0_chk1 arg12 arg13), ∀ a, (k0_off11 arg12 arg13) a + S2048x128.size a ≤ S8192x256.size a := fun arg12 arg13 k0_hw1 => k0_hw1.2.2.2.2.2.2.2.2.2.2.1
theorem k0_off12_inb : ∀ (arg12 : BitVec 32) (arg13 : BitVec 32) (k0_hw1 : k0_chk1 arg12 arg13), ∀ a, (k0_off12 arg12 arg13) a + S512x128.size a ≤ S8192x256.size a := fun arg12 arg13 k0_hw1 => k0_hw1.2.2.2.2.2.2.2.2.2.2.2.1
theorem k0_off13_inb : ∀ (arg12 : BitVec 32) (arg13 : BitVec 32) (k0_hw1 : k0_chk1 arg12 arg13), ∀ a, (k0_off13 arg12 arg13) a + S2048x128.size a ≤ S8192x256.size a := fun arg12 arg13 k0_hw1 => k0_hw1.2.2.2.2.2.2.2.2.2.2.2.2.1
theorem k0_off14_inb : ∀ (arg12 : BitVec 32) (arg13 : BitVec 32) (k0_hw1 : k0_chk1 arg12 arg13), ∀ a, (k0_off14 arg12 arg13) a + S512x128.size a ≤ S8192x256.size a := fun arg12 arg13 k0_hw1 => k0_hw1.2.2.2.2.2.2.2.2.2.2.2.2.2.1
theorem k0_off15_inb : ∀ (arg12 : BitVec 32) (arg13 : BitVec 32) (k0_hw1 : k0_chk1 arg12 arg13), ∀ a, (k0_off15 arg12 arg13) a + S1x1x512.size a ≤ S16x8x512.size a := fun arg12 arg13 k0_hw1 => k0_hw1.2.2.2.2.2.2.2.2.2.2.2.2.2.2.1
theorem k0_off16_inb : ∀ (arg12 : BitVec 32) (arg13 : BitVec 32) (k0_hw1 : k0_chk1 arg12 arg13), ∀ a, (k0_off16 arg12 arg13) a + S1x128x512.size a ≤ S16x128x512.size a := fun arg12 arg13 k0_hw1 => k0_hw1.2.2.2.2.2.2.2.2.2.2.2.2.2.2.2.1
theorem k0_off17_inb : ∀ (arg12 : BitVec 32) (arg13 : BitVec 32) (k0_hw1 : k0_chk1 arg12 arg13), ∀ (r : Fin 3), ∀ a, (k0_off17 arg12 arg13 (BitVec.ofNat 32 (1 + r.val))) a + S1x128x512.size a ≤ S16x128x512.size a := fun arg12 arg13 k0_hw1 r => k0_hw1.2.2.2.2.2.2.2.2.2.2.2.2.2.2.2.2.1 r
theorem k0_off18_inb : ∀ (arg12 : BitVec 32) (arg13 : BitVec 32) (k0_hw1 : k0_chk1 arg12 arg13), ∀ a, (k0_off18 arg12 arg13) a + S1x1x128x512.size a ≤ S16x2x128x512.size a := fun arg12 arg13 k0_hw1 => k0_hw1.2.2.2.2.2.2.2.2.2.2.2.2.2.2.2.2.2.1
theorem k0_off19_inb : ∀ (arg12 : BitVec 32) (arg13 : BitVec 32) (k0_hw1 : k0_chk1 arg12 arg13), ∀ a, (k0_off19 arg12 arg13) a + S1x1x512.size a ≤ S16x8x512.size a := fun arg12 arg13 k0_hw1 => k0_hw1.2.2.2.2.2.2.2.2.2.2.2.2.2.2.2.2.2.2.1
theorem k0_off20_inb : ∀ (arg12 : BitVec 32) (arg13 : BitVec 32) (k0_hw1 : k0_chk1 arg12 arg13), ∀ a, (k0_off20 arg12 arg13) a + S1x1x128x512.size a ≤ S16x2x128x512.size a := fun arg12 arg13 k0_hw1 => k0_hw1.2.2.2.2.2.2.2.2.2.2.2.2.2.2.2.2.2.2.2

def k0_mult7 : BitVec 32 :=
  let c1024_i32 : BitVec 32 := 1024#32
  c1024_i32
def k0_mult8 : BitVec 32 :=
  let c0_i32_23 : BitVec 32 := 0#32
  c0_i32_23
@[reducible] def k0_t2_loop : Scf.Loop 32 :=
  let c0_i32_37 : BitVec 32 := 0#32
  let c4_i32_38 : BitVec 32 := 4#32
  let v58 : BitVec 32 := Scalar.addi c0_i32_37 c4_i32_38
  let c1_i32_39 : BitVec 32 := 1#32
  ⟨c0_i32_37, v58, c1_i32_39⟩
def k0_mult9 (arg12 : BitVec 32) : BitVec 32 :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c512_i32_84 : BitVec 32 := 512#32
  let v121 : BitVec 32 := Scalar.muli v117 c512_i32_84
  v121

def k0_mult10 (arg12 : BitVec 32) (arg13 : BitVec 32) : BitVec 32 :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let c512_i32_85 : BitVec 32 := 512#32
  let v123 : BitVec 32 := Scalar.muli v120 c512_i32_85
  v123

def k0_off21 (arg12 : BitVec 32) (arg13 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let c512_i32_85 : BitVec 32 := 512#32
  let v123 : BitVec 32 := Scalar.muli v120 c512_i32_85
  let v124 : BitVec 32 := v123
  let v125 : Index := Scalar.indexCast v124
  let c0_86 : Index := 0#32
  ![v125.toNat, 0]
def k0_off22 (arg12 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c512_i32_84 : BitVec 32 := 512#32
  let v121 : BitVec 32 := Scalar.muli v117 c512_i32_84
  let v122 : BitVec 32 := v121
  let v128 : Index := Scalar.indexCast v122
  let c0_87 : Index := 0#32
  ![v128.toNat, 0]
def k0_off23 (arg12 : BitVec 32) (arg13 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let c512_i32_85 : BitVec 32 := 512#32
  let v123 : BitVec 32 := Scalar.muli v120 c512_i32_85
  let v124 : BitVec 32 := v123
  let v135 : Index := Scalar.indexCast v124
  let c128_92 : Index := 128#32
  ![v135.toNat, 128]
def k0_off24 (arg12 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c512_i32_84 : BitVec 32 := 512#32
  let v121 : BitVec 32 := Scalar.muli v117 c512_i32_84
  let v122 : BitVec 32 := v121
  let v138 : Index := Scalar.indexCast v122
  let c128_93 : Index := 128#32
  ![v138.toNat, 128]
def k0_off25 (arg12 : BitVec 32) : Fin 3 → Nat :=
  let v147 : Index := Scalar.indexCast arg12
  let c0_101 : Index := 0#32
  let c0_102 : Index := 0#32
  ![v147.toNat, 0, 0]
def k0_off26 (arg13 : BitVec 32) : Fin 3 → Nat :=
  let v170 : Index := Scalar.indexCast arg13
  let c0_109 : Index := 0#32
  let c0_110 : Index := 0#32
  ![v170.toNat, 0, 0]
def k0_off27 (arg13 : BitVec 32) : Fin 3 → Nat :=
  let c1_i32_112 : BitVec 32 := 1#32
  let v175 : BitVec 32 := Scalar.addi arg13 c1_i32_112
  let v176 : Index := Scalar.indexCast v175
  let c0_113 : Index := 0#32
  let c0_114 : Index := 0#32
  ![v176.toNat, 0, 0]
def k0_off28 (arg12 : BitVec 32) : Fin 4 → Nat :=
  let v182 : Index := Scalar.indexCast arg12
  let c0_116 : Index := 0#32
  let c0_117 : Index := 0#32
  let c0_118 : Index := 0#32
  ![v182.toNat, 0, 0, 0]
def k0_off29 (arg12 : BitVec 32) : Fin 3 → Nat :=
  let v198 : Index := Scalar.indexCast arg12
  let c1_127 : Index := 1#32
  let c0_128 : Index := 0#32
  ![v198.toNat, 1, 0]
def k0_off30 (arg12 : BitVec 32) : Fin 4 → Nat :=
  let v233 : Index := Scalar.indexCast arg12
  let c1_142 : Index := 1#32
  let c0_143 : Index := 0#32
  let c0_144 : Index := 0#32
  ![v233.toNat, 1, 0, 0]
def k0_mult11 (arg12 : BitVec 32) : BitVec 32 :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c4_i32_150 : BitVec 32 := 4#32
  let v247 : BitVec 32 := Scalar.remsi v117 c4_i32_150
  let c2_i32_151 : BitVec 32 := 2#32
  let v248 : BitVec 1 := Scalar.cmpi .eq v247 c2_i32_151
  let c1_i32_152 : BitVec 32 := 1#32
  let v249 : BitVec 32 := Scalar.addi v117 c1_i32_152
  let c3_i32_153 : BitVec 32 := 3#32
  let v250 : BitVec 32 := Scalar.addi v117 c3_i32_153
  let v251 : BitVec 32 := Scalar.select v248 v249 v250
  let c15_i32_154 : BitVec 32 := 15#32
  let v252 : BitVec 32 := Scalar.minsi v251 c15_i32_154
  let c512_i32_157 : BitVec 32 := 512#32
  let v256 : BitVec 32 := Scalar.muli v252 c512_i32_157
  v256
def k0_mult12 (arg12 : BitVec 32) (arg13 : BitVec 32) : BitVec 32 :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c4_i32_150 : BitVec 32 := 4#32
  let v247 : BitVec 32 := Scalar.remsi v117 c4_i32_150
  let c2_i32_151 : BitVec 32 := 2#32
  let v248 : BitVec 1 := Scalar.cmpi .eq v247 c2_i32_151
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let c4_i32_155 : BitVec 32 := 4#32
  let v253 : BitVec 32 := Scalar.addi v120 c4_i32_155
  let v254 : BitVec 32 := Scalar.select v248 v120 v253
  let c12_i32_156 : BitVec 32 := 12#32
  let v255 : BitVec 32 := Scalar.minsi v254 c12_i32_156
  let c512_i32_158 : BitVec 32 := 512#32
  let v258 : BitVec 32 := Scalar.muli v255 c512_i32_158
  v258
def k0_off31 (arg12 : BitVec 32) (arg13 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c4_i32_150 : BitVec 32 := 4#32
  let v247 : BitVec 32 := Scalar.remsi v117 c4_i32_150
  let c2_i32_151 : BitVec 32 := 2#32
  let v248 : BitVec 1 := Scalar.cmpi .eq v247 c2_i32_151
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let c4_i32_155 : BitVec 32 := 4#32
  let v253 : BitVec 32 := Scalar.addi v120 c4_i32_155
  let v254 : BitVec 32 := Scalar.select v248 v120 v253
  let c12_i32_156 : BitVec 32 := 12#32
  let v255 : BitVec 32 := Scalar.minsi v254 c12_i32_156
  let c512_i32_158 : BitVec 32 := 512#32
  let v258 : BitVec 32 := Scalar.muli v255 c512_i32_158
  let v259 : BitVec 32 := v258
  let v260 : Index := Scalar.indexCast v259
  let c0_159 : Index := 0#32
  ![v260.toNat, 0]
def k0_off32 (arg12 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c4_i32_150 : BitVec 32 := 4#32
  let v247 : BitVec 32 := Scalar.remsi v117 c4_i32_150
  let c2_i32_151 : BitVec 32 := 2#32
  let v248 : BitVec 1 := Scalar.cmpi .eq v247 c2_i32_151
  let c1_i32_152 : BitVec 32 := 1#32
  let v249 : BitVec 32 := Scalar.addi v117 c1_i32_152
  let c3_i32_153 : BitVec 32 := 3#32
  let v250 : BitVec 32 := Scalar.addi v117 c3_i32_153
  let v251 : BitVec 32 := Scalar.select v248 v249 v250
  let c15_i32_154 : BitVec 32 := 15#32
  let v252 : BitVec 32 := Scalar.minsi v251 c15_i32_154
  let c512_i32_157 : BitVec 32 := 512#32
  let v256 : BitVec 32 := Scalar.muli v252 c512_i32_157
  let v257 : BitVec 32 := v256
  let v263 : Index := Scalar.indexCast v257
  let c0_160 : Index := 0#32
  ![v263.toNat, 0]
def k0_off33 (arg12 : BitVec 32) (arg13 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c4_i32_150 : BitVec 32 := 4#32
  let v247 : BitVec 32 := Scalar.remsi v117 c4_i32_150
  let c2_i32_151 : BitVec 32 := 2#32
  let v248 : BitVec 1 := Scalar.cmpi .eq v247 c2_i32_151
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let c4_i32_155 : BitVec 32 := 4#32
  let v253 : BitVec 32 := Scalar.addi v120 c4_i32_155
  let v254 : BitVec 32 := Scalar.select v248 v120 v253
  let c12_i32_156 : BitVec 32 := 12#32
  let v255 : BitVec 32 := Scalar.minsi v254 c12_i32_156
  let c512_i32_158 : BitVec 32 := 512#32
  let v258 : BitVec 32 := Scalar.muli v255 c512_i32_158
  let v259 : BitVec 32 := v258
  let v270 : Index := Scalar.indexCast v259
  let c128_165 : Index := 128#32
  ![v270.toNat, 128]
def k0_off34 (arg12 : BitVec 32) : Fin 2 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let c4_i32_150 : BitVec 32 := 4#32
  let v247 : BitVec 32 := Scalar.remsi v117 c4_i32_150
  let c2_i32_151 : BitVec 32 := 2#32
  let v248 : BitVec 1 := Scalar.cmpi .eq v247 c2_i32_151
  let c1_i32_152 : BitVec 32 := 1#32
  let v249 : BitVec 32 := Scalar.addi v117 c1_i32_152
  let c3_i32_153 : BitVec 32 := 3#32
  let v250 : BitVec 32 := Scalar.addi v117 c3_i32_153
  let v251 : BitVec 32 := Scalar.select v248 v249 v250
  let c15_i32_154 : BitVec 32 := 15#32
  let v252 : BitVec 32 := Scalar.minsi v251 c15_i32_154
  let c512_i32_157 : BitVec 32 := 512#32
  let v256 : BitVec 32 := Scalar.muli v252 c512_i32_157
  let v257 : BitVec 32 := v256
  let v273 : Index := Scalar.indexCast v257
  let c128_166 : Index := 128#32
  ![v273.toNat, 128]
def k0_off35 (arg12 : BitVec 32) : Fin 3 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let v282 : Index := Scalar.indexCast v117
  let c0_174 : Index := 0#32
  let c0_175 : Index := 0#32
  ![v282.toNat, 0, 0]
def k0_off36 (arg12 : BitVec 32) (arg13 : BitVec 32) : Fin 3 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let v305 : Index := Scalar.indexCast v120
  let c0_182 : Index := 0#32
  let c0_183 : Index := 0#32
  ![v305.toNat, 0, 0]
def k0_off37 (arg12 : BitVec 32) (arg13 : BitVec 32) : Fin 3 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c4_i32_82 : BitVec 32 := 4#32
  let v118 : BitVec 32 := Scalar.addi arg13 c4_i32_82
  let v119 : BitVec 32 := Scalar.select v113 arg13 v118
  let c12_i32_83 : BitVec 32 := 12#32
  let v120 : BitVec 32 := Scalar.minsi v119 c12_i32_83
  let c1_i32_185 : BitVec 32 := 1#32
  let v310 : BitVec 32 := Scalar.addi v120 c1_i32_185
  let v311 : Index := Scalar.indexCast v310
  let c0_186 : Index := 0#32
  let c0_187 : Index := 0#32
  ![v311.toNat, 0, 0]

def k0_chk4 (arg12 : BitVec 32) (arg13 : BitVec 32) : Prop :=
  (512 ∣ (k0_mult10 arg12 arg13).toNat) ∧
  (∀ a, (k0_off21 arg12 arg13) a + S1024x128.size a ≤ S8192x256.size a) ∧
  (∀ a, (k0_off23 arg12 arg13) a + S1024x128.size a ≤ S8192x256.size a) ∧
  (∀ a, (k0_off26 arg13) a + S1x128x512.size a ≤ S16x128x512.size a) ∧
  (∀ a, (k0_off27 arg13) a + S1x128x512.size a ≤ S16x128x512.size a) ∧
  (512 ∣ (k0_mult12 arg12 arg13).toNat) ∧
  (∀ a, (k0_off31 arg12 arg13) a + S1024x128.size a ≤ S8192x256.size a) ∧
  (∀ a, (k0_off33 arg12 arg13) a + S1024x128.size a ≤ S8192x256.size a) ∧
  (∀ a, (k0_off36 arg12 arg13) a + S1x128x512.size a ≤ S16x128x512.size a) ∧
  (∀ a, (k0_off37 arg12 arg13) a + S1x128x512.size a ≤ S16x128x512.size a)
theorem k0_mult10_dvd : ∀ (arg12 : BitVec 32) (arg13 : BitVec 32) (k0_hw4 : k0_chk4 arg12 arg13), 512 ∣ (k0_mult10 arg12 arg13).toNat := fun arg12 arg13 k0_hw4 => k0_hw4.1
theorem k0_off21_inb : ∀ (arg12 : BitVec 32) (arg13 : BitVec 32) (k0_hw4 : k0_chk4 arg12 arg13), ∀ a, (k0_off21 arg12 arg13) a + S1024x128.size a ≤ S8192x256.size a := fun arg12 arg13 k0_hw4 => k0_hw4.2.1
theorem k0_off23_inb : ∀ (arg12 : BitVec 32) (arg13 : BitVec 32) (k0_hw4 : k0_chk4 arg12 arg13), ∀ a, (k0_off23 arg12 arg13) a + S1024x128.size a ≤ S8192x256.size a := fun arg12 arg13 k0_hw4 => k0_hw4.2.2.1
theorem k0_off26_inb : ∀ (arg12 : BitVec 32) (arg13 : BitVec 32) (k0_hw4 : k0_chk4 arg12 arg13), ∀ a, (k0_off26 arg13) a + S1x128x512.size a ≤ S16x128x512.size a := fun arg12 arg13 k0_hw4 => k0_hw4.2.2.2.1
theorem k0_off27_inb : ∀ (arg12 : BitVec 32) (arg13 : BitVec 32) (k0_hw4 : k0_chk4 arg12 arg13), ∀ a, (k0_off27 arg13) a + S1x128x512.size a ≤ S16x128x512.size a := fun arg12 arg13 k0_hw4 => k0_hw4.2.2.2.2.1
theorem k0_mult12_dvd : ∀ (arg12 : BitVec 32) (arg13 : BitVec 32) (k0_hw4 : k0_chk4 arg12 arg13), 512 ∣ (k0_mult12 arg12 arg13).toNat := fun arg12 arg13 k0_hw4 => k0_hw4.2.2.2.2.2.1
theorem k0_off31_inb : ∀ (arg12 : BitVec 32) (arg13 : BitVec 32) (k0_hw4 : k0_chk4 arg12 arg13), ∀ a, (k0_off31 arg12 arg13) a + S1024x128.size a ≤ S8192x256.size a := fun arg12 arg13 k0_hw4 => k0_hw4.2.2.2.2.2.2.1
theorem k0_off33_inb : ∀ (arg12 : BitVec 32) (arg13 : BitVec 32) (k0_hw4 : k0_chk4 arg12 arg13), ∀ a, (k0_off33 arg12 arg13) a + S1024x128.size a ≤ S8192x256.size a := fun arg12 arg13 k0_hw4 => k0_hw4.2.2.2.2.2.2.2.1
theorem k0_off36_inb : ∀ (arg12 : BitVec 32) (arg13 : BitVec 32) (k0_hw4 : k0_chk4 arg12 arg13), ∀ a, (k0_off36 arg12 arg13) a + S1x128x512.size a ≤ S16x128x512.size a := fun arg12 arg13 k0_hw4 => k0_hw4.2.2.2.2.2.2.2.2.1
theorem k0_off37_inb : ∀ (arg12 : BitVec 32) (arg13 : BitVec 32) (k0_hw4 : k0_chk4 arg12 arg13), ∀ a, (k0_off37 arg12 arg13) a + S1x128x512.size a ≤ S16x128x512.size a := fun arg12 arg13 k0_hw4 => k0_hw4.2.2.2.2.2.2.2.2.2

def k0_off38 (arg12 : BitVec 32) : Fin 4 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let v317 : Index := Scalar.indexCast v117
  let c0_189 : Index := 0#32
  let c0_190 : Index := 0#32
  let c0_191 : Index := 0#32
  ![v317.toNat, 0, 0, 0]
def k0_off39 (arg12 : BitVec 32) : Fin 3 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let v333 : Index := Scalar.indexCast v117
  let c1_200 : Index := 1#32
  let c0_201 : Index := 0#32
  ![v333.toNat, 1, 0]
def k0_off40 (arg12 : BitVec 32) : Fin 4 → Nat :=
  let c4_i32_79 : BitVec 32 := 4#32
  let v112 : BitVec 32 := Scalar.remsi arg12 c4_i32_79
  let c2_i32_80 : BitVec 32 := 2#32
  let v113 : BitVec 1 := Scalar.cmpi .eq v112 c2_i32_80
  let c1_i32_81 : BitVec 32 := 1#32
  let v114 : BitVec 32 := Scalar.addi arg12 c1_i32_81
  let c3_i32 : BitVec 32 := 3#32
  let v115 : BitVec 32 := Scalar.addi arg12 c3_i32
  let v116 : BitVec 32 := Scalar.select v113 v114 v115
  let c15_i32 : BitVec 32 := 15#32
  let v117 : BitVec 32 := Scalar.minsi v116 c15_i32
  let v368 : Index := Scalar.indexCast v117
  let c1_215 : Index := 1#32
  let c0_216 : Index := 0#32
  let c0_217 : Index := 0#32
  ![v368.toNat, 1, 0, 0]

def k0_chk3 (arg12 : BitVec 32) : Prop :=
  (512 ∣ (k0_mult9 arg12).toNat) ∧
  (∀ a, (k0_off22 arg12) a + S512x128.size a ≤ S8192x256.size a) ∧
  (∀ a, (k0_off24 arg12) a + S512x128.size a ≤ S8192x256.size a) ∧
  (∀ a, (k0_off25 arg12) a + S1x1x512.size a ≤ S16x8x512.size a) ∧
  (∀ a, (k0_off28 arg12) a + S1x1x128x512.size a ≤ S16x2x128x512.size a) ∧
  (∀ a, (k0_off29 arg12) a + S1x1x512.size a ≤ S16x8x512.size a) ∧
  (∀ a, (k0_off30 arg12) a + S1x1x128x512.size a ≤ S16x2x128x512.size a) ∧
  (512 ∣ (k0_mult11 arg12).toNat) ∧
  (∀ a, (k0_off32 arg12) a + S512x128.size a ≤ S8192x256.size a) ∧
  (∀ a, (k0_off34 arg12) a + S512x128.size a ≤ S8192x256.size a) ∧
  (∀ a, (k0_off35 arg12) a + S1x1x512.size a ≤ S16x8x512.size a) ∧
  (∀ a, (k0_off38 arg12) a + S1x1x128x512.size a ≤ S16x2x128x512.size a) ∧
  (∀ a, (k0_off39 arg12) a + S1x1x512.size a ≤ S16x8x512.size a) ∧
  (∀ a, (k0_off40 arg12) a + S1x1x128x512.size a ≤ S16x2x128x512.size a)
theorem k0_mult9_dvd : ∀ (arg12 : BitVec 32) (k0_hw3 : k0_chk3 arg12), 512 ∣ (k0_mult9 arg12).toNat := fun arg12 k0_hw3 => k0_hw3.1
theorem k0_off22_inb : ∀ (arg12 : BitVec 32) (k0_hw3 : k0_chk3 arg12), ∀ a, (k0_off22 arg12) a + S512x128.size a ≤ S8192x256.size a := fun arg12 k0_hw3 => k0_hw3.2.1
theorem k0_off24_inb : ∀ (arg12 : BitVec 32) (k0_hw3 : k0_chk3 arg12), ∀ a, (k0_off24 arg12) a + S512x128.size a ≤ S8192x256.size a := fun arg12 k0_hw3 => k0_hw3.2.2.1
theorem k0_off25_inb : ∀ (arg12 : BitVec 32) (k0_hw3 : k0_chk3 arg12), ∀ a, (k0_off25 arg12) a + S1x1x512.size a ≤ S16x8x512.size a := fun arg12 k0_hw3 => k0_hw3.2.2.2.1
theorem k0_off28_inb : ∀ (arg12 : BitVec 32) (k0_hw3 : k0_chk3 arg12), ∀ a, (k0_off28 arg12) a + S1x1x128x512.size a ≤ S16x2x128x512.size a := fun arg12 k0_hw3 => k0_hw3.2.2.2.2.1
theorem k0_off29_inb : ∀ (arg12 : BitVec 32) (k0_hw3 : k0_chk3 arg12), ∀ a, (k0_off29 arg12) a + S1x1x512.size a ≤ S16x8x512.size a := fun arg12 k0_hw3 => k0_hw3.2.2.2.2.2.1
theorem k0_off30_inb : ∀ (arg12 : BitVec 32) (k0_hw3 : k0_chk3 arg12), ∀ a, (k0_off30 arg12) a + S1x1x128x512.size a ≤ S16x2x128x512.size a := fun arg12 k0_hw3 => k0_hw3.2.2.2.2.2.2.1
theorem k0_mult11_dvd : ∀ (arg12 : BitVec 32) (k0_hw3 : k0_chk3 arg12), 512 ∣ (k0_mult11 arg12).toNat := fun arg12 k0_hw3 => k0_hw3.2.2.2.2.2.2.2.1
theorem k0_off32_inb : ∀ (arg12 : BitVec 32) (k0_hw3 : k0_chk3 arg12), ∀ a, (k0_off32 arg12) a + S512x128.size a ≤ S8192x256.size a := fun arg12 k0_hw3 => k0_hw3.2.2.2.2.2.2.2.2.1
theorem k0_off34_inb : ∀ (arg12 : BitVec 32) (k0_hw3 : k0_chk3 arg12), ∀ a, (k0_off34 arg12) a + S512x128.size a ≤ S8192x256.size a := fun arg12 k0_hw3 => k0_hw3.2.2.2.2.2.2.2.2.2.1
theorem k0_off35_inb : ∀ (arg12 : BitVec 32) (k0_hw3 : k0_chk3 arg12), ∀ a, (k0_off35 arg12) a + S1x1x512.size a ≤ S16x8x512.size a := fun arg12 k0_hw3 => k0_hw3.2.2.2.2.2.2.2.2.2.2.1
theorem k0_off38_inb : ∀ (arg12 : BitVec 32) (k0_hw3 : k0_chk3 arg12), ∀ a, (k0_off38 arg12) a + S1x1x128x512.size a ≤ S16x2x128x512.size a := fun arg12 k0_hw3 => k0_hw3.2.2.2.2.2.2.2.2.2.2.2.1
theorem k0_off39_inb : ∀ (arg12 : BitVec 32) (k0_hw3 : k0_chk3 arg12), ∀ a, (k0_off39 arg12) a + S1x1x512.size a ≤ S16x8x512.size a := fun arg12 k0_hw3 => k0_hw3.2.2.2.2.2.2.2.2.2.2.2.2.1
theorem k0_off40_inb : ∀ (arg12 : BitVec 32) (k0_hw3 : k0_chk3 arg12), ∀ a, (k0_off40 arg12) a + S1x1x128x512.size a ≤ S16x2x128x512.size a := fun arg12 k0_hw3 => k0_hw3.2.2.2.2.2.2.2.2.2.2.2.2.2

def k0_mult13 : BitVec 32 :=
  let c512_i32 : BitVec 32 := 512#32
  c512_i32
def k0_mult14 : BitVec 32 :=
  let c0_i32_40 : BitVec 32 := 0#32
  c0_i32_40
@[reducible] def k0_t3_loop : Scf.Loop 32 :=
  let c0_i32_55 : BitVec 32 := 0#32
  let c4_i32_56 : BitVec 32 := 4#32
  let v82 : BitVec 32 := Scalar.addi c0_i32_55 c4_i32_56
  let c1_i32_57 : BitVec 32 := 1#32
  ⟨c0_i32_55, v82, c1_i32_57⟩
def k0_mult15 (arg12 : BitVec 32) : BitVec 32 :=
  let c2_i32_79 : BitVec 32 := 2#32
  let v112 : BitVec 32 := Scalar.addi arg12 c2_i32_79
  let c15_i32 : BitVec 32 := 15#32
  let v113 : BitVec 32 := Scalar.minsi v112 c15_i32
  let c512_i32_81 : BitVec 32 := 512#32
  let v116 : BitVec 32 := Scalar.muli v113 c512_i32_81
  v116

def k0_mult16 (arg13 : BitVec 32) : BitVec 32 :=
  let c2_i32_80 : BitVec 32 := 2#32
  let v114 : BitVec 32 := Scalar.addi arg13 c2_i32_80
  let c14_i32 : BitVec 32 := 14#32
  let v115 : BitVec 32 := Scalar.minsi v114 c14_i32
  let c512_i32_82 : BitVec 32 := 512#32
  let v118 : BitVec 32 := Scalar.muli v115 c512_i32_82
  v118

def k0_off41 (arg13 : BitVec 32) : Fin 2 → Nat :=
  let c2_i32_80 : BitVec 32 := 2#32
  let v114 : BitVec 32 := Scalar.addi arg13 c2_i32_80
  let c14_i32 : BitVec 32 := 14#32
  let v115 : BitVec 32 := Scalar.minsi v114 c14_i32
  let c512_i32_82 : BitVec 32 := 512#32
  let v118 : BitVec 32 := Scalar.muli v115 c512_i32_82
  let v119 : BitVec 32 := v118
  let v120 : Index := Scalar.indexCast v119
  let c0_83 : Index := 0#32
  ![v120.toNat, 0]
def k0_off42 (arg12 : BitVec 32) : Fin 2 → Nat :=
  let c2_i32_79 : BitVec 32 := 2#32
  let v112 : BitVec 32 := Scalar.addi arg12 c2_i32_79
  let c15_i32 : BitVec 32 := 15#32
  let v113 : BitVec 32 := Scalar.minsi v112 c15_i32
  let c512_i32_81 : BitVec 32 := 512#32
  let v116 : BitVec 32 := Scalar.muli v113 c512_i32_81
  let v117 : BitVec 32 := v116
  let v123 : Index := Scalar.indexCast v117
  let c0_84 : Index := 0#32
  ![v123.toNat, 0]
def k0_off43 (arg13 : BitVec 32) : Fin 2 → Nat :=
  let c2_i32_80 : BitVec 32 := 2#32
  let v114 : BitVec 32 := Scalar.addi arg13 c2_i32_80
  let c14_i32 : BitVec 32 := 14#32
  let v115 : BitVec 32 := Scalar.minsi v114 c14_i32
  let c512_i32_82 : BitVec 32 := 512#32
  let v118 : BitVec 32 := Scalar.muli v115 c512_i32_82
  let v119 : BitVec 32 := v118
  let v130 : Index := Scalar.indexCast v119
  let c128_89 : Index := 128#32
  ![v130.toNat, 128]
def k0_off44 (arg12 : BitVec 32) : Fin 2 → Nat :=
  let c2_i32_79 : BitVec 32 := 2#32
  let v112 : BitVec 32 := Scalar.addi arg12 c2_i32_79
  let c15_i32 : BitVec 32 := 15#32
  let v113 : BitVec 32 := Scalar.minsi v112 c15_i32
  let c512_i32_81 : BitVec 32 := 512#32
  let v116 : BitVec 32 := Scalar.muli v113 c512_i32_81
  let v117 : BitVec 32 := v116
  let v133 : Index := Scalar.indexCast v117
  let c128_90 : Index := 128#32
  ![v133.toNat, 128]
def k0_off45 (arg12 : BitVec 32) : Fin 3 → Nat :=
  let v142 : Index := Scalar.indexCast arg12
  let c0_98 : Index := 0#32
  let c0_99 : Index := 0#32
  ![v142.toNat, 0, 0]
def k0_off46 (arg13 : BitVec 32) : Fin 3 → Nat :=
  let v165 : Index := Scalar.indexCast arg13
  let c0_106 : Index := 0#32
  let c0_107 : Index := 0#32
  ![v165.toNat, 0, 0]
def k0_off47 (arg12 : BitVec 32) : Fin 4 → Nat :=
  let v169 : Index := Scalar.indexCast arg12
  let c0_109 : Index := 0#32
  let c0_110 : Index := 0#32
  let c0_111 : Index := 0#32
  ![v169.toNat, 0, 0, 0]
def k0_off48 (arg12 : BitVec 32) : Fin 3 → Nat :=
  let v185 : Index := Scalar.indexCast arg12
  let c1_120 : Index := 1#32
  let c0_121 : Index := 0#32
  ![v185.toNat, 1, 0]
def k0_off49 (arg12 : BitVec 32) : Fin 4 → Nat :=
  let v212 : Index := Scalar.indexCast arg12
  let c1_131 : Index := 1#32
  let c0_132 : Index := 0#32
  let c0_133 : Index := 0#32
  ![v212.toNat, 1, 0, 0]
def k0_mult17 (arg12 : BitVec 32) : BitVec 32 :=
  let c2_i32_79 : BitVec 32 := 2#32
  let v112 : BitVec 32 := Scalar.addi arg12 c2_i32_79
  let c15_i32 : BitVec 32 := 15#32
  let v113 : BitVec 32 := Scalar.minsi v112 c15_i32
  let c2_i32_139 : BitVec 32 := 2#32
  let v226 : BitVec 32 := Scalar.addi v113 c2_i32_139
  let c15_i32_140 : BitVec 32 := 15#32
  let v227 : BitVec 32 := Scalar.minsi v226 c15_i32_140
  let c512_i32_143 : BitVec 32 := 512#32
  let v230 : BitVec 32 := Scalar.muli v227 c512_i32_143
  v230
def k0_mult18 (arg13 : BitVec 32) : BitVec 32 :=
  let c2_i32_80 : BitVec 32 := 2#32
  let v114 : BitVec 32 := Scalar.addi arg13 c2_i32_80
  let c14_i32 : BitVec 32 := 14#32
  let v115 : BitVec 32 := Scalar.minsi v114 c14_i32
  let c2_i32_141 : BitVec 32 := 2#32
  let v228 : BitVec 32 := Scalar.addi v115 c2_i32_141
  let c14_i32_142 : BitVec 32 := 14#32
  let v229 : BitVec 32 := Scalar.minsi v228 c14_i32_142
  let c512_i32_144 : BitVec 32 := 512#32
  let v232 : BitVec 32 := Scalar.muli v229 c512_i32_144
  v232
def k0_off50 (arg13 : BitVec 32) : Fin 2 → Nat :=
  let c2_i32_80 : BitVec 32 := 2#32
  let v114 : BitVec 32 := Scalar.addi arg13 c2_i32_80
  let c14_i32 : BitVec 32 := 14#32
  let v115 : BitVec 32 := Scalar.minsi v114 c14_i32
  let c2_i32_141 : BitVec 32 := 2#32
  let v228 : BitVec 32 := Scalar.addi v115 c2_i32_141
  let c14_i32_142 : BitVec 32 := 14#32
  let v229 : BitVec 32 := Scalar.minsi v228 c14_i32_142
  let c512_i32_144 : BitVec 32 := 512#32
  let v232 : BitVec 32 := Scalar.muli v229 c512_i32_144
  let v233 : BitVec 32 := v232
  let v234 : Index := Scalar.indexCast v233
  let c0_145 : Index := 0#32
  ![v234.toNat, 0]
def k0_off51 (arg12 : BitVec 32) : Fin 2 → Nat :=
  let c2_i32_79 : BitVec 32 := 2#32
  let v112 : BitVec 32 := Scalar.addi arg12 c2_i32_79
  let c15_i32 : BitVec 32 := 15#32
  let v113 : BitVec 32 := Scalar.minsi v112 c15_i32
  let c2_i32_139 : BitVec 32 := 2#32
  let v226 : BitVec 32 := Scalar.addi v113 c2_i32_139
  let c15_i32_140 : BitVec 32 := 15#32
  let v227 : BitVec 32 := Scalar.minsi v226 c15_i32_140
  let c512_i32_143 : BitVec 32 := 512#32
  let v230 : BitVec 32 := Scalar.muli v227 c512_i32_143
  let v231 : BitVec 32 := v230
  let v237 : Index := Scalar.indexCast v231
  let c0_146 : Index := 0#32
  ![v237.toNat, 0]
def k0_off52 (arg13 : BitVec 32) : Fin 2 → Nat :=
  let c2_i32_80 : BitVec 32 := 2#32
  let v114 : BitVec 32 := Scalar.addi arg13 c2_i32_80
  let c14_i32 : BitVec 32 := 14#32
  let v115 : BitVec 32 := Scalar.minsi v114 c14_i32
  let c2_i32_141 : BitVec 32 := 2#32
  let v228 : BitVec 32 := Scalar.addi v115 c2_i32_141
  let c14_i32_142 : BitVec 32 := 14#32
  let v229 : BitVec 32 := Scalar.minsi v228 c14_i32_142
  let c512_i32_144 : BitVec 32 := 512#32
  let v232 : BitVec 32 := Scalar.muli v229 c512_i32_144
  let v233 : BitVec 32 := v232
  let v244 : Index := Scalar.indexCast v233
  let c128_151 : Index := 128#32
  ![v244.toNat, 128]
def k0_off53 (arg12 : BitVec 32) : Fin 2 → Nat :=
  let c2_i32_79 : BitVec 32 := 2#32
  let v112 : BitVec 32 := Scalar.addi arg12 c2_i32_79
  let c15_i32 : BitVec 32 := 15#32
  let v113 : BitVec 32 := Scalar.minsi v112 c15_i32
  let c2_i32_139 : BitVec 32 := 2#32
  let v226 : BitVec 32 := Scalar.addi v113 c2_i32_139
  let c15_i32_140 : BitVec 32 := 15#32
  let v227 : BitVec 32 := Scalar.minsi v226 c15_i32_140
  let c512_i32_143 : BitVec 32 := 512#32
  let v230 : BitVec 32 := Scalar.muli v227 c512_i32_143
  let v231 : BitVec 32 := v230
  let v247 : Index := Scalar.indexCast v231
  let c128_152 : Index := 128#32
  ![v247.toNat, 128]
def k0_off54 (arg12 : BitVec 32) : Fin 3 → Nat :=
  let c2_i32_79 : BitVec 32 := 2#32
  let v112 : BitVec 32 := Scalar.addi arg12 c2_i32_79
  let c15_i32 : BitVec 32 := 15#32
  let v113 : BitVec 32 := Scalar.minsi v112 c15_i32
  let v256 : Index := Scalar.indexCast v113
  let c0_160 : Index := 0#32
  let c0_161 : Index := 0#32
  ![v256.toNat, 0, 0]
def k0_off55 (arg13 : BitVec 32) : Fin 3 → Nat :=
  let c2_i32_80 : BitVec 32 := 2#32
  let v114 : BitVec 32 := Scalar.addi arg13 c2_i32_80
  let c14_i32 : BitVec 32 := 14#32
  let v115 : BitVec 32 := Scalar.minsi v114 c14_i32
  let v279 : Index := Scalar.indexCast v115
  let c0_168 : Index := 0#32
  let c0_169 : Index := 0#32
  ![v279.toNat, 0, 0]

def k0_chk6 (arg13 : BitVec 32) : Prop :=
  (512 ∣ (k0_mult16 arg13).toNat) ∧
  (∀ a, (k0_off41 arg13) a + S512x128.size a ≤ S8192x256.size a) ∧
  (∀ a, (k0_off43 arg13) a + S512x128.size a ≤ S8192x256.size a) ∧
  (∀ a, (k0_off46 arg13) a + S1x128x512.size a ≤ S16x128x512.size a) ∧
  (512 ∣ (k0_mult18 arg13).toNat) ∧
  (∀ a, (k0_off50 arg13) a + S512x128.size a ≤ S8192x256.size a) ∧
  (∀ a, (k0_off52 arg13) a + S512x128.size a ≤ S8192x256.size a) ∧
  (∀ a, (k0_off55 arg13) a + S1x128x512.size a ≤ S16x128x512.size a)
theorem k0_mult16_dvd : ∀ (arg13 : BitVec 32) (k0_hw6 : k0_chk6 arg13), 512 ∣ (k0_mult16 arg13).toNat := fun arg13 k0_hw6 => k0_hw6.1
theorem k0_off41_inb : ∀ (arg13 : BitVec 32) (k0_hw6 : k0_chk6 arg13), ∀ a, (k0_off41 arg13) a + S512x128.size a ≤ S8192x256.size a := fun arg13 k0_hw6 => k0_hw6.2.1
theorem k0_off43_inb : ∀ (arg13 : BitVec 32) (k0_hw6 : k0_chk6 arg13), ∀ a, (k0_off43 arg13) a + S512x128.size a ≤ S8192x256.size a := fun arg13 k0_hw6 => k0_hw6.2.2.1
theorem k0_off46_inb : ∀ (arg13 : BitVec 32) (k0_hw6 : k0_chk6 arg13), ∀ a, (k0_off46 arg13) a + S1x128x512.size a ≤ S16x128x512.size a := fun arg13 k0_hw6 => k0_hw6.2.2.2.1
theorem k0_mult18_dvd : ∀ (arg13 : BitVec 32) (k0_hw6 : k0_chk6 arg13), 512 ∣ (k0_mult18 arg13).toNat := fun arg13 k0_hw6 => k0_hw6.2.2.2.2.1
theorem k0_off50_inb : ∀ (arg13 : BitVec 32) (k0_hw6 : k0_chk6 arg13), ∀ a, (k0_off50 arg13) a + S512x128.size a ≤ S8192x256.size a := fun arg13 k0_hw6 => k0_hw6.2.2.2.2.2.1
theorem k0_off52_inb : ∀ (arg13 : BitVec 32) (k0_hw6 : k0_chk6 arg13), ∀ a, (k0_off52 arg13) a + S512x128.size a ≤ S8192x256.size a := fun arg13 k0_hw6 => k0_hw6.2.2.2.2.2.2.1
theorem k0_off55_inb : ∀ (arg13 : BitVec 32) (k0_hw6 : k0_chk6 arg13), ∀ a, (k0_off55 arg13) a + S1x128x512.size a ≤ S16x128x512.size a := fun arg13 k0_hw6 => k0_hw6.2.2.2.2.2.2.2

def k0_off56 (arg12 : BitVec 32) : Fin 4 → Nat :=
  let c2_i32_79 : BitVec 32 := 2#32
  let v112 : BitVec 32 := Scalar.addi arg12 c2_i32_79
  let c15_i32 : BitVec 32 := 15#32
  let v113 : BitVec 32 := Scalar.minsi v112 c15_i32
  let v283 : Index := Scalar.indexCast v113
  let c0_171 : Index := 0#32
  let c0_172 : Index := 0#32
  let c0_173 : Index := 0#32
  ![v283.toNat, 0, 0, 0]
def k0_off57 (arg12 : BitVec 32) : Fin 3 → Nat :=
  let c2_i32_79 : BitVec 32 := 2#32
  let v112 : BitVec 32 := Scalar.addi arg12 c2_i32_79
  let c15_i32 : BitVec 32 := 15#32
  let v113 : BitVec 32 := Scalar.minsi v112 c15_i32
  let v299 : Index := Scalar.indexCast v113
  let c1_182 : Index := 1#32
  let c0_183 : Index := 0#32
  ![v299.toNat, 1, 0]
def k0_off58 (arg12 : BitVec 32) : Fin 4 → Nat :=
  let c2_i32_79 : BitVec 32 := 2#32
  let v112 : BitVec 32 := Scalar.addi arg12 c2_i32_79
  let c15_i32 : BitVec 32 := 15#32
  let v113 : BitVec 32 := Scalar.minsi v112 c15_i32
  let v326 : Index := Scalar.indexCast v113
  let c1_193 : Index := 1#32
  let c0_194 : Index := 0#32
  let c0_195 : Index := 0#32
  ![v326.toNat, 1, 0, 0]

def k0_chk5 (arg12 : BitVec 32) : Prop :=
  (512 ∣ (k0_mult15 arg12).toNat) ∧
  (∀ a, (k0_off42 arg12) a + S512x128.size a ≤ S8192x256.size a) ∧
  (∀ a, (k0_off44 arg12) a + S512x128.size a ≤ S8192x256.size a) ∧
  (∀ a, (k0_off45 arg12) a + S1x1x512.size a ≤ S16x8x512.size a) ∧
  (∀ a, (k0_off47 arg12) a + S1x1x128x512.size a ≤ S16x2x128x512.size a) ∧
  (∀ a, (k0_off48 arg12) a + S1x1x512.size a ≤ S16x8x512.size a) ∧
  (∀ a, (k0_off49 arg12) a + S1x1x128x512.size a ≤ S16x2x128x512.size a) ∧
  (512 ∣ (k0_mult17 arg12).toNat) ∧
  (∀ a, (k0_off51 arg12) a + S512x128.size a ≤ S8192x256.size a) ∧
  (∀ a, (k0_off53 arg12) a + S512x128.size a ≤ S8192x256.size a) ∧
  (∀ a, (k0_off54 arg12) a + S1x1x512.size a ≤ S16x8x512.size a) ∧
  (∀ a, (k0_off56 arg12) a + S1x1x128x512.size a ≤ S16x2x128x512.size a) ∧
  (∀ a, (k0_off57 arg12) a + S1x1x512.size a ≤ S16x8x512.size a) ∧
  (∀ a, (k0_off58 arg12) a + S1x1x128x512.size a ≤ S16x2x128x512.size a)
theorem k0_mult15_dvd : ∀ (arg12 : BitVec 32) (k0_hw5 : k0_chk5 arg12), 512 ∣ (k0_mult15 arg12).toNat := fun arg12 k0_hw5 => k0_hw5.1
theorem k0_off42_inb : ∀ (arg12 : BitVec 32) (k0_hw5 : k0_chk5 arg12), ∀ a, (k0_off42 arg12) a + S512x128.size a ≤ S8192x256.size a := fun arg12 k0_hw5 => k0_hw5.2.1
theorem k0_off44_inb : ∀ (arg12 : BitVec 32) (k0_hw5 : k0_chk5 arg12), ∀ a, (k0_off44 arg12) a + S512x128.size a ≤ S8192x256.size a := fun arg12 k0_hw5 => k0_hw5.2.2.1
theorem k0_off45_inb : ∀ (arg12 : BitVec 32) (k0_hw5 : k0_chk5 arg12), ∀ a, (k0_off45 arg12) a + S1x1x512.size a ≤ S16x8x512.size a := fun arg12 k0_hw5 => k0_hw5.2.2.2.1
theorem k0_off47_inb : ∀ (arg12 : BitVec 32) (k0_hw5 : k0_chk5 arg12), ∀ a, (k0_off47 arg12) a + S1x1x128x512.size a ≤ S16x2x128x512.size a := fun arg12 k0_hw5 => k0_hw5.2.2.2.2.1
theorem k0_off48_inb : ∀ (arg12 : BitVec 32) (k0_hw5 : k0_chk5 arg12), ∀ a, (k0_off48 arg12) a + S1x1x512.size a ≤ S16x8x512.size a := fun arg12 k0_hw5 => k0_hw5.2.2.2.2.2.1
theorem k0_off49_inb : ∀ (arg12 : BitVec 32) (k0_hw5 : k0_chk5 arg12), ∀ a, (k0_off49 arg12) a + S1x1x128x512.size a ≤ S16x2x128x512.size a := fun arg12 k0_hw5 => k0_hw5.2.2.2.2.2.2.1
theorem k0_mult17_dvd : ∀ (arg12 : BitVec 32) (k0_hw5 : k0_chk5 arg12), 512 ∣ (k0_mult17 arg12).toNat := fun arg12 k0_hw5 => k0_hw5.2.2.2.2.2.2.2.1
theorem k0_off51_inb : ∀ (arg12 : BitVec 32) (k0_hw5 : k0_chk5 arg12), ∀ a, (k0_off51 arg12) a + S512x128.size a ≤ S8192x256.size a := fun arg12 k0_hw5 => k0_hw5.2.2.2.2.2.2.2.2.1
theorem k0_off53_inb : ∀ (arg12 : BitVec 32) (k0_hw5 : k0_chk5 arg12), ∀ a, (k0_off53 arg12) a + S512x128.size a ≤ S8192x256.size a := fun arg12 k0_hw5 => k0_hw5.2.2.2.2.2.2.2.2.2.1
theorem k0_off54_inb : ∀ (arg12 : BitVec 32) (k0_hw5 : k0_chk5 arg12), ∀ a, (k0_off54 arg12) a + S1x1x512.size a ≤ S16x8x512.size a := fun arg12 k0_hw5 => k0_hw5.2.2.2.2.2.2.2.2.2.2.1
theorem k0_off56_inb : ∀ (arg12 : BitVec 32) (k0_hw5 : k0_chk5 arg12), ∀ a, (k0_off56 arg12) a + S1x1x128x512.size a ≤ S16x2x128x512.size a := fun arg12 k0_hw5 => k0_hw5.2.2.2.2.2.2.2.2.2.2.2.1
theorem k0_off57_inb : ∀ (arg12 : BitVec 32) (k0_hw5 : k0_chk5 arg12), ∀ a, (k0_off57 arg12) a + S1x1x512.size a ≤ S16x8x512.size a := fun arg12 k0_hw5 => k0_hw5.2.2.2.2.2.2.2.2.2.2.2.2.1
theorem k0_off58_inb : ∀ (arg12 : BitVec 32) (k0_hw5 : k0_chk5 arg12), ∀ a, (k0_off58 arg12) a + S1x1x128x512.size a ≤ S16x2x128x512.size a := fun arg12 k0_hw5 => k0_hw5.2.2.2.2.2.2.2.2.2.2.2.2.2

def k0_mult19 : BitVec 32 :=
  let c0_i32_58 : BitVec 32 := 0#32
  c0_i32_58
def k0_mult20 : BitVec 32 :=
  let c0_i32_59 : BitVec 32 := 0#32
  c0_i32_59
@[reducible] def k0_t4_loop : Scf.Loop 32 :=
  let c0_i32_74 : BitVec 32 := 0#32
  let c8_i32 : BitVec 32 := 8#32
  let v106 : BitVec 32 := Scalar.addi c0_i32_74 c8_i32
  let c1_i32_75 : BitVec 32 := 1#32
  ⟨c0_i32_74, v106, c1_i32_75⟩
def k0_mult21 (arg12 : BitVec 32) : BitVec 32 :=
  let c1_i32_79 : BitVec 32 := 1#32
  let v112 : BitVec 32 := Scalar.addi arg12 c1_i32_79
  let c15_i32 : BitVec 32 := 15#32
  let v113 : BitVec 32 := Scalar.minsi v112 c15_i32
  let c512_i32_82 : BitVec 32 := 512#32
  let v116 : BitVec 32 := Scalar.muli v113 c512_i32_82
  v116

def k0_mult22 (arg13 : BitVec 32) : BitVec 32 :=
  let c1_i32_80 : BitVec 32 := 1#32
  let v114 : BitVec 32 := Scalar.addi arg13 c1_i32_80
  let c15_i32_81 : BitVec 32 := 15#32
  let v115 : BitVec 32 := Scalar.minsi v114 c15_i32_81
  let c512_i32_83 : BitVec 32 := 512#32
  let v118 : BitVec 32 := Scalar.muli v115 c512_i32_83
  v118

def k0_off59 (arg13 : BitVec 32) : Fin 2 → Nat :=
  let c1_i32_80 : BitVec 32 := 1#32
  let v114 : BitVec 32 := Scalar.addi arg13 c1_i32_80
  let c15_i32_81 : BitVec 32 := 15#32
  let v115 : BitVec 32 := Scalar.minsi v114 c15_i32_81
  let c512_i32_83 : BitVec 32 := 512#32
  let v118 : BitVec 32 := Scalar.muli v115 c512_i32_83
  let v119 : BitVec 32 := v118
  let v120 : Index := Scalar.indexCast v119
  let c0_84 : Index := 0#32
  ![v120.toNat, 0]
def k0_off60 (arg12 : BitVec 32) : Fin 2 → Nat :=
  let c1_i32_79 : BitVec 32 := 1#32
  let v112 : BitVec 32 := Scalar.addi arg12 c1_i32_79
  let c15_i32 : BitVec 32 := 15#32
  let v113 : BitVec 32 := Scalar.minsi v112 c15_i32
  let c512_i32_82 : BitVec 32 := 512#32
  let v116 : BitVec 32 := Scalar.muli v113 c512_i32_82
  let v117 : BitVec 32 := v116
  let v123 : Index := Scalar.indexCast v117
  let c0_85 : Index := 0#32
  ![v123.toNat, 0]
def k0_off61 (arg13 : BitVec 32) : Fin 2 → Nat :=
  let c1_i32_80 : BitVec 32 := 1#32
  let v114 : BitVec 32 := Scalar.addi arg13 c1_i32_80
  let c15_i32_81 : BitVec 32 := 15#32
  let v115 : BitVec 32 := Scalar.minsi v114 c15_i32_81
  let c512_i32_83 : BitVec 32 := 512#32
  let v118 : BitVec 32 := Scalar.muli v115 c512_i32_83
  let v119 : BitVec 32 := v118
  let v130 : Index := Scalar.indexCast v119
  let c128_90 : Index := 128#32
  ![v130.toNat, 128]
def k0_off62 (arg12 : BitVec 32) : Fin 2 → Nat :=
  let c1_i32_79 : BitVec 32 := 1#32
  let v112 : BitVec 32 := Scalar.addi arg12 c1_i32_79
  let c15_i32 : BitVec 32 := 15#32
  let v113 : BitVec 32 := Scalar.minsi v112 c15_i32
  let c512_i32_82 : BitVec 32 := 512#32
  let v116 : BitVec 32 := Scalar.muli v113 c512_i32_82
  let v117 : BitVec 32 := v116
  let v133 : Index := Scalar.indexCast v117
  let c128_91 : Index := 128#32
  ![v133.toNat, 128]
def k0_off63 (arg12 : BitVec 32) : Fin 3 → Nat :=
  let v147 : Index := Scalar.indexCast arg12
  let c0_100 : Index := 0#32
  let c0_101 : Index := 0#32
  ![v147.toNat, 0, 0]
def k0_off64 (arg13 : BitVec 32) : Fin 3 → Nat :=
  let v170 : Index := Scalar.indexCast arg13
  let c0_108 : Index := 0#32
  let c0_109 : Index := 0#32
  ![v170.toNat, 0, 0]
def k0_off65 (arg12 : BitVec 32) : Fin 4 → Nat :=
  let v174 : Index := Scalar.indexCast arg12
  let c0_111 : Index := 0#32
  let c0_112 : Index := 0#32
  let c0_113 : Index := 0#32
  ![v174.toNat, 0, 0, 0]
def k0_off66 (arg12 : BitVec 32) : Fin 3 → Nat :=
  let v195 : Index := Scalar.indexCast arg12
  let c1_123 : Index := 1#32
  let c0_124 : Index := 0#32
  ![v195.toNat, 1, 0]
def k0_off67 (arg12 : BitVec 32) : Fin 4 → Nat :=
  let v222 : Index := Scalar.indexCast arg12
  let c1_134 : Index := 1#32
  let c0_135 : Index := 0#32
  let c0_136 : Index := 0#32
  ![v222.toNat, 1, 0, 0]
def k0_mult23 (arg12 : BitVec 32) : BitVec 32 :=
  let c1_i32_79 : BitVec 32 := 1#32
  let v112 : BitVec 32 := Scalar.addi arg12 c1_i32_79
  let c15_i32 : BitVec 32 := 15#32
  let v113 : BitVec 32 := Scalar.minsi v112 c15_i32
  let c1_i32_142 : BitVec 32 := 1#32
  let v236 : BitVec 32 := Scalar.addi v113 c1_i32_142
  let c15_i32_143 : BitVec 32 := 15#32
  let v237 : BitVec 32 := Scalar.minsi v236 c15_i32_143
  let c512_i32_146 : BitVec 32 := 512#32
  let v240 : BitVec 32 := Scalar.muli v237 c512_i32_146
  v240
def k0_mult24 (arg13 : BitVec 32) : BitVec 32 :=
  let c1_i32_80 : BitVec 32 := 1#32
  let v114 : BitVec 32 := Scalar.addi arg13 c1_i32_80
  let c15_i32_81 : BitVec 32 := 15#32
  let v115 : BitVec 32 := Scalar.minsi v114 c15_i32_81
  let c1_i32_144 : BitVec 32 := 1#32
  let v238 : BitVec 32 := Scalar.addi v115 c1_i32_144
  let c15_i32_145 : BitVec 32 := 15#32
  let v239 : BitVec 32 := Scalar.minsi v238 c15_i32_145
  let c512_i32_147 : BitVec 32 := 512#32
  let v242 : BitVec 32 := Scalar.muli v239 c512_i32_147
  v242
def k0_off68 (arg13 : BitVec 32) : Fin 2 → Nat :=
  let c1_i32_80 : BitVec 32 := 1#32
  let v114 : BitVec 32 := Scalar.addi arg13 c1_i32_80
  let c15_i32_81 : BitVec 32 := 15#32
  let v115 : BitVec 32 := Scalar.minsi v114 c15_i32_81
  let c1_i32_144 : BitVec 32 := 1#32
  let v238 : BitVec 32 := Scalar.addi v115 c1_i32_144
  let c15_i32_145 : BitVec 32 := 15#32
  let v239 : BitVec 32 := Scalar.minsi v238 c15_i32_145
  let c512_i32_147 : BitVec 32 := 512#32
  let v242 : BitVec 32 := Scalar.muli v239 c512_i32_147
  let v243 : BitVec 32 := v242
  let v244 : Index := Scalar.indexCast v243
  let c0_148 : Index := 0#32
  ![v244.toNat, 0]
def k0_off69 (arg12 : BitVec 32) : Fin 2 → Nat :=
  let c1_i32_79 : BitVec 32 := 1#32
  let v112 : BitVec 32 := Scalar.addi arg12 c1_i32_79
  let c15_i32 : BitVec 32 := 15#32
  let v113 : BitVec 32 := Scalar.minsi v112 c15_i32
  let c1_i32_142 : BitVec 32 := 1#32
  let v236 : BitVec 32 := Scalar.addi v113 c1_i32_142
  let c15_i32_143 : BitVec 32 := 15#32
  let v237 : BitVec 32 := Scalar.minsi v236 c15_i32_143
  let c512_i32_146 : BitVec 32 := 512#32
  let v240 : BitVec 32 := Scalar.muli v237 c512_i32_146
  let v241 : BitVec 32 := v240
  let v247 : Index := Scalar.indexCast v241
  let c0_149 : Index := 0#32
  ![v247.toNat, 0]
def k0_off70 (arg13 : BitVec 32) : Fin 2 → Nat :=
  let c1_i32_80 : BitVec 32 := 1#32
  let v114 : BitVec 32 := Scalar.addi arg13 c1_i32_80
  let c15_i32_81 : BitVec 32 := 15#32
  let v115 : BitVec 32 := Scalar.minsi v114 c15_i32_81
  let c1_i32_144 : BitVec 32 := 1#32
  let v238 : BitVec 32 := Scalar.addi v115 c1_i32_144
  let c15_i32_145 : BitVec 32 := 15#32
  let v239 : BitVec 32 := Scalar.minsi v238 c15_i32_145
  let c512_i32_147 : BitVec 32 := 512#32
  let v242 : BitVec 32 := Scalar.muli v239 c512_i32_147
  let v243 : BitVec 32 := v242
  let v254 : Index := Scalar.indexCast v243
  let c128_154 : Index := 128#32
  ![v254.toNat, 128]
def k0_off71 (arg12 : BitVec 32) : Fin 2 → Nat :=
  let c1_i32_79 : BitVec 32 := 1#32
  let v112 : BitVec 32 := Scalar.addi arg12 c1_i32_79
  let c15_i32 : BitVec 32 := 15#32
  let v113 : BitVec 32 := Scalar.minsi v112 c15_i32
  let c1_i32_142 : BitVec 32 := 1#32
  let v236 : BitVec 32 := Scalar.addi v113 c1_i32_142
  let c15_i32_143 : BitVec 32 := 15#32
  let v237 : BitVec 32 := Scalar.minsi v236 c15_i32_143
  let c512_i32_146 : BitVec 32 := 512#32
  let v240 : BitVec 32 := Scalar.muli v237 c512_i32_146
  let v241 : BitVec 32 := v240
  let v257 : Index := Scalar.indexCast v241
  let c128_155 : Index := 128#32
  ![v257.toNat, 128]
def k0_off72 (arg12 : BitVec 32) : Fin 3 → Nat :=
  let c1_i32_79 : BitVec 32 := 1#32
  let v112 : BitVec 32 := Scalar.addi arg12 c1_i32_79
  let c15_i32 : BitVec 32 := 15#32
  let v113 : BitVec 32 := Scalar.minsi v112 c15_i32
  let v271 : Index := Scalar.indexCast v113
  let c0_164 : Index := 0#32
  let c0_165 : Index := 0#32
  ![v271.toNat, 0, 0]
def k0_off73 (arg13 : BitVec 32) : Fin 3 → Nat :=
  let c1_i32_80 : BitVec 32 := 1#32
  let v114 : BitVec 32 := Scalar.addi arg13 c1_i32_80
  let c15_i32_81 : BitVec 32 := 15#32
  let v115 : BitVec 32 := Scalar.minsi v114 c15_i32_81
  let v294 : Index := Scalar.indexCast v115
  let c0_172 : Index := 0#32
  let c0_173 : Index := 0#32
  ![v294.toNat, 0, 0]

def k0_chk8 (arg13 : BitVec 32) : Prop :=
  (512 ∣ (k0_mult22 arg13).toNat) ∧
  (∀ a, (k0_off59 arg13) a + S512x128.size a ≤ S8192x256.size a) ∧
  (∀ a, (k0_off61 arg13) a + S512x128.size a ≤ S8192x256.size a) ∧
  (∀ a, (k0_off64 arg13) a + S1x128x512.size a ≤ S16x128x512.size a) ∧
  (512 ∣ (k0_mult24 arg13).toNat) ∧
  (∀ a, (k0_off68 arg13) a + S512x128.size a ≤ S8192x256.size a) ∧
  (∀ a, (k0_off70 arg13) a + S512x128.size a ≤ S8192x256.size a) ∧
  (∀ a, (k0_off73 arg13) a + S1x128x512.size a ≤ S16x128x512.size a)
theorem k0_mult22_dvd : ∀ (arg13 : BitVec 32) (k0_hw8 : k0_chk8 arg13), 512 ∣ (k0_mult22 arg13).toNat := fun arg13 k0_hw8 => k0_hw8.1
theorem k0_off59_inb : ∀ (arg13 : BitVec 32) (k0_hw8 : k0_chk8 arg13), ∀ a, (k0_off59 arg13) a + S512x128.size a ≤ S8192x256.size a := fun arg13 k0_hw8 => k0_hw8.2.1
theorem k0_off61_inb : ∀ (arg13 : BitVec 32) (k0_hw8 : k0_chk8 arg13), ∀ a, (k0_off61 arg13) a + S512x128.size a ≤ S8192x256.size a := fun arg13 k0_hw8 => k0_hw8.2.2.1
theorem k0_off64_inb : ∀ (arg13 : BitVec 32) (k0_hw8 : k0_chk8 arg13), ∀ a, (k0_off64 arg13) a + S1x128x512.size a ≤ S16x128x512.size a := fun arg13 k0_hw8 => k0_hw8.2.2.2.1
theorem k0_mult24_dvd : ∀ (arg13 : BitVec 32) (k0_hw8 : k0_chk8 arg13), 512 ∣ (k0_mult24 arg13).toNat := fun arg13 k0_hw8 => k0_hw8.2.2.2.2.1
theorem k0_off68_inb : ∀ (arg13 : BitVec 32) (k0_hw8 : k0_chk8 arg13), ∀ a, (k0_off68 arg13) a + S512x128.size a ≤ S8192x256.size a := fun arg13 k0_hw8 => k0_hw8.2.2.2.2.2.1
theorem k0_off70_inb : ∀ (arg13 : BitVec 32) (k0_hw8 : k0_chk8 arg13), ∀ a, (k0_off70 arg13) a + S512x128.size a ≤ S8192x256.size a := fun arg13 k0_hw8 => k0_hw8.2.2.2.2.2.2.1
theorem k0_off73_inb : ∀ (arg13 : BitVec 32) (k0_hw8 : k0_chk8 arg13), ∀ a, (k0_off73 arg13) a + S1x128x512.size a ≤ S16x128x512.size a := fun arg13 k0_hw8 => k0_hw8.2.2.2.2.2.2.2

def k0_off74 (arg12 : BitVec 32) : Fin 4 → Nat :=
  let c1_i32_79 : BitVec 32 := 1#32
  let v112 : BitVec 32 := Scalar.addi arg12 c1_i32_79
  let c15_i32 : BitVec 32 := 15#32
  let v113 : BitVec 32 := Scalar.minsi v112 c15_i32
  let v298 : Index := Scalar.indexCast v113
  let c0_175 : Index := 0#32
  let c0_176 : Index := 0#32
  let c0_177 : Index := 0#32
  ![v298.toNat, 0, 0, 0]
def k0_off75 (arg12 : BitVec 32) : Fin 3 → Nat :=
  let c1_i32_79 : BitVec 32 := 1#32
  let v112 : BitVec 32 := Scalar.addi arg12 c1_i32_79
  let c15_i32 : BitVec 32 := 15#32
  let v113 : BitVec 32 := Scalar.minsi v112 c15_i32
  let v319 : Index := Scalar.indexCast v113
  let c1_187 : Index := 1#32
  let c0_188 : Index := 0#32
  ![v319.toNat, 1, 0]
def k0_off76 (arg12 : BitVec 32) : Fin 4 → Nat :=
  let c1_i32_79 : BitVec 32 := 1#32
  let v112 : BitVec 32 := Scalar.addi arg12 c1_i32_79
  let c15_i32 : BitVec 32 := 15#32
  let v113 : BitVec 32 := Scalar.minsi v112 c15_i32
  let v346 : Index := Scalar.indexCast v113
  let c1_198 : Index := 1#32
  let c0_199 : Index := 0#32
  let c0_200 : Index := 0#32
  ![v346.toNat, 1, 0, 0]

def k0_chk7 (arg12 : BitVec 32) : Prop :=
  (512 ∣ (k0_mult21 arg12).toNat) ∧
  (∀ a, (k0_off60 arg12) a + S512x128.size a ≤ S8192x256.size a) ∧
  (∀ a, (k0_off62 arg12) a + S512x128.size a ≤ S8192x256.size a) ∧
  (∀ a, (k0_off63 arg12) a + S1x1x512.size a ≤ S16x8x512.size a) ∧
  (∀ a, (k0_off65 arg12) a + S1x1x128x512.size a ≤ S16x2x128x512.size a) ∧
  (∀ a, (k0_off66 arg12) a + S1x1x512.size a ≤ S16x8x512.size a) ∧
  (∀ a, (k0_off67 arg12) a + S1x1x128x512.size a ≤ S16x2x128x512.size a) ∧
  (512 ∣ (k0_mult23 arg12).toNat) ∧
  (∀ a, (k0_off69 arg12) a + S512x128.size a ≤ S8192x256.size a) ∧
  (∀ a, (k0_off71 arg12) a + S512x128.size a ≤ S8192x256.size a) ∧
  (∀ a, (k0_off72 arg12) a + S1x1x512.size a ≤ S16x8x512.size a) ∧
  (∀ a, (k0_off74 arg12) a + S1x1x128x512.size a ≤ S16x2x128x512.size a) ∧
  (∀ a, (k0_off75 arg12) a + S1x1x512.size a ≤ S16x8x512.size a) ∧
  (∀ a, (k0_off76 arg12) a + S1x1x128x512.size a ≤ S16x2x128x512.size a)
theorem k0_mult21_dvd : ∀ (arg12 : BitVec 32) (k0_hw7 : k0_chk7 arg12), 512 ∣ (k0_mult21 arg12).toNat := fun arg12 k0_hw7 => k0_hw7.1
theorem k0_off60_inb : ∀ (arg12 : BitVec 32) (k0_hw7 : k0_chk7 arg12), ∀ a, (k0_off60 arg12) a + S512x128.size a ≤ S8192x256.size a := fun arg12 k0_hw7 => k0_hw7.2.1
theorem k0_off62_inb : ∀ (arg12 : BitVec 32) (k0_hw7 : k0_chk7 arg12), ∀ a, (k0_off62 arg12) a + S512x128.size a ≤ S8192x256.size a := fun arg12 k0_hw7 => k0_hw7.2.2.1
theorem k0_off63_inb : ∀ (arg12 : BitVec 32) (k0_hw7 : k0_chk7 arg12), ∀ a, (k0_off63 arg12) a + S1x1x512.size a ≤ S16x8x512.size a := fun arg12 k0_hw7 => k0_hw7.2.2.2.1
theorem k0_off65_inb : ∀ (arg12 : BitVec 32) (k0_hw7 : k0_chk7 arg12), ∀ a, (k0_off65 arg12) a + S1x1x128x512.size a ≤ S16x2x128x512.size a := fun arg12 k0_hw7 => k0_hw7.2.2.2.2.1
theorem k0_off66_inb : ∀ (arg12 : BitVec 32) (k0_hw7 : k0_chk7 arg12), ∀ a, (k0_off66 arg12) a + S1x1x512.size a ≤ S16x8x512.size a := fun arg12 k0_hw7 => k0_hw7.2.2.2.2.2.1
theorem k0_off67_inb : ∀ (arg12 : BitVec 32) (k0_hw7 : k0_chk7 arg12), ∀ a, (k0_off67 arg12) a + S1x1x128x512.size a ≤ S16x2x128x512.size a := fun arg12 k0_hw7 => k0_hw7.2.2.2.2.2.2.1
theorem k0_mult23_dvd : ∀ (arg12 : BitVec 32) (k0_hw7 : k0_chk7 arg12), 512 ∣ (k0_mult23 arg12).toNat := fun arg12 k0_hw7 => k0_hw7.2.2.2.2.2.2.2.1
theorem k0_off69_inb : ∀ (arg12 : BitVec 32) (k0_hw7 : k0_chk7 arg12), ∀ a, (k0_off69 arg12) a + S512x128.size a ≤ S8192x256.size a := fun arg12 k0_hw7 => k0_hw7.2.2.2.2.2.2.2.2.1
theorem k0_off71_inb : ∀ (arg12 : BitVec 32) (k0_hw7 : k0_chk7 arg12), ∀ a, (k0_off71 arg12) a + S512x128.size a ≤ S8192x256.size a := fun arg12 k0_hw7 => k0_hw7.2.2.2.2.2.2.2.2.2.1
theorem k0_off72_inb : ∀ (arg12 : BitVec 32) (k0_hw7 : k0_chk7 arg12), ∀ a, (k0_off72 arg12) a + S1x1x512.size a ≤ S16x8x512.size a := fun arg12 k0_hw7 => k0_hw7.2.2.2.2.2.2.2.2.2.2.1
theorem k0_off74_inb : ∀ (arg12 : BitVec 32) (k0_hw7 : k0_chk7 arg12), ∀ a, (k0_off74 arg12) a + S1x1x128x512.size a ≤ S16x2x128x512.size a := fun arg12 k0_hw7 => k0_hw7.2.2.2.2.2.2.2.2.2.2.2.1
theorem k0_off75_inb : ∀ (arg12 : BitVec 32) (k0_hw7 : k0_chk7 arg12), ∀ a, (k0_off75 arg12) a + S1x1x512.size a ≤ S16x8x512.size a := fun arg12 k0_hw7 => k0_hw7.2.2.2.2.2.2.2.2.2.2.2.2.1
theorem k0_off76_inb : ∀ (arg12 : BitVec 32) (k0_hw7 : k0_chk7 arg12), ∀ a, (k0_off76 arg12) a + S1x1x128x512.size a ≤ S16x2x128x512.size a := fun arg12 k0_hw7 => k0_hw7.2.2.2.2.2.2.2.2.2.2.2.2.2

@[reducible] def k0_t5_loop : Scf.Loop 32 :=
  let c0_i32_76 : BitVec 32 := 0#32
  let c16_i32 : BitVec 32 := 16#32
  let v111 : BitVec 32 := Scalar.addi c0_i32_76 c16_i32
  let c1_i32_77 : BitVec 32 := 1#32
  ⟨c0_i32_76, v111, c1_i32_77⟩
def k0_mult25 (k0_t5 : Fin k0_t5_loop.trips) : BitVec 32 :=
  let c0_i32_76 : BitVec 32 := 0#32
  let c1_i32_77 : BitVec 32 := 1#32
  let arg11 : BitVec 32 := Scf.iv c0_i32_76 c1_i32_77 k0_t5
  let c512_i32_79 : BitVec 32 := 512#32
  let v112 : BitVec 32 := Scalar.muli arg11 c512_i32_79
  v112
def k0_off77 (k0_t5 : Fin k0_t5_loop.trips) : Fin 4 → Nat :=
  let c0_i32_76 : BitVec 32 := 0#32
  let c1_i32_77 : BitVec 32 := 1#32
  let arg11 : BitVec 32 := Scf.iv c0_i32_76 c1_i32_77 k0_t5
  let v114 : Index := Scalar.indexCast arg11
  let c0_80 : Index := 0#32
  let c0_81 : Index := 0#32
  let c0_82 : Index := 0#32
  ![v114.toNat, 0, 0, 0]
def k0_off78 (k0_t5 : Fin k0_t5_loop.trips) : Fin 3 → Nat :=
  let c0_i32_76 : BitVec 32 := 0#32
  let c1_i32_77 : BitVec 32 := 1#32
  let arg11 : BitVec 32 := Scf.iv c0_i32_76 c1_i32_77 k0_t5
  let v117 : Index := Scalar.indexCast arg11
  let c0_83 : Index := 0#32
  let c0_84 : Index := 0#32
  ![v117.toNat, 0, 0]
def k0_off79 (k0_t5 : Fin k0_t5_loop.trips) : Fin 4 → Nat :=
  let c0_i32_76 : BitVec 32 := 0#32
  let c1_i32_77 : BitVec 32 := 1#32
  let arg11 : BitVec 32 := Scf.iv c0_i32_76 c1_i32_77 k0_t5
  let v122 : Index := Scalar.indexCast arg11
  let c1_85 : Index := 1#32
  let c0_86 : Index := 0#32
  let c0_87 : Index := 0#32
  ![v122.toNat, 1, 0, 0]
def k0_off80 (k0_t5 : Fin k0_t5_loop.trips) : Fin 3 → Nat :=
  let c0_i32_76 : BitVec 32 := 0#32
  let c1_i32_77 : BitVec 32 := 1#32
  let arg11 : BitVec 32 := Scf.iv c0_i32_76 c1_i32_77 k0_t5
  let v125 : Index := Scalar.indexCast arg11
  let c1_88 : Index := 1#32
  let c0_89 : Index := 0#32
  ![v125.toNat, 1, 0]
def k0_off81 (k0_t5 : Fin k0_t5_loop.trips) : Fin 2 → Nat :=
  let c0_i32_76 : BitVec 32 := 0#32
  let c1_i32_77 : BitVec 32 := 1#32
  let arg11 : BitVec 32 := Scf.iv c0_i32_76 c1_i32_77 k0_t5
  let c512_i32_79 : BitVec 32 := 512#32
  let v112 : BitVec 32 := Scalar.muli arg11 c512_i32_79
  let v113 : BitVec 32 := v112
  let v132 : Index := Scalar.indexCast v113
  let c0_90 : Index := 0#32
  ![v132.toNat, 0]
def k0_off82 (k0_t5 : Fin k0_t5_loop.trips) : Fin 3 → Nat :=
  let c0_i32_76 : BitVec 32 := 0#32
  let c1_i32_77 : BitVec 32 := 1#32
  let arg11 : BitVec 32 := Scf.iv c0_i32_76 c1_i32_77 k0_t5
  let v134 : Index := Scalar.indexCast arg11
  let c0_91 : Index := 0#32
  let c0_92 : Index := 0#32
  ![v134.toNat, 0, 0]
def k0_off83 (k0_t5 : Fin k0_t5_loop.trips) : Fin 4 → Nat :=
  let c0_96 : Index := 0#32
  let c0_i32_76 : BitVec 32 := 0#32
  let c1_i32_77 : BitVec 32 := 1#32
  let arg11 : BitVec 32 := Scf.iv c0_i32_76 c1_i32_77 k0_t5
  let v144 : Index := Scalar.indexCast arg11
  let c0_97 : Index := 0#32
  let c0_98 : Index := 0#32
  ![0, v144.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S1x8192x8x96 : Shape := ⟨4, ![1, 8192, 8, 96]⟩
abbrev S1x8192x8x64 : Shape := ⟨4, ![1, 8192, 8, 64]⟩
abbrev S1x8192 : Shape := ⟨2, ![1, 8192]⟩
abbrev S1x8192x8x32 : Shape := ⟨4, ![1, 8192, 8, 32]⟩
abbrev S16 : Shape := ⟨1, ![16]⟩
abbrev S_ : Shape := ⟨0, ![]⟩
abbrev S1x8192x1 : Shape := ⟨3, ![1, 8192, 1]⟩
abbrev S1x1x16 : Shape := ⟨3, ![1, 1, 16]⟩
abbrev S1x8192x16 : Shape := ⟨3, ![1, 8192, 16]⟩
abbrev S1x8192x1x16 : Shape := ⟨4, ![1, 8192, 1, 16]⟩
abbrev S1x8192x8x16 : Shape := ⟨4, ![1, 8192, 8, 16]⟩
abbrev S1x8x8192x8192 : Shape := ⟨4, ![1, 8, 8192, 8192]⟩
abbrev S8192 : Shape := ⟨1, ![8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S1x8x8192 : Shape := ⟨3, ![1, 8, 8192]⟩
abbrev S1x8x8192x1 : Shape := ⟨4, ![1, 8, 8192, 1]⟩
abbrev S1x8x64x8192 : Shape := ⟨4, ![1, 8, 64, 8192]⟩
abbrev S1x8192x512 : Shape := ⟨3, ![1, 8192, 512]⟩

abbrev nBuf : Space → Nat
  | .hbm => 74
  | .vmem => 0
  | .smem => 0
  | _ => 0

abbrev bufTy : (tb : Table) → Fin (tcTables nBuf tb) → BufTy
  | .hbm, ⟨0, _⟩ => ⟨S1x8192x8x96, .f32⟩
  | .hbm, ⟨1, _⟩ => ⟨S1x8192x8x96, .f32⟩
  | .hbm, ⟨2, _⟩ => ⟨S1x8192x8x64, .f32⟩
  | .hbm, ⟨3, _⟩ => ⟨S1x8192, .i32⟩
  | .hbm, ⟨4, _⟩ => ⟨S1x8192x8x64, .f32⟩
  | .hbm, ⟨5, _⟩ => ⟨S1x8192x8x32, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S1x8192, .f32⟩
  | .hbm, ⟨17, _⟩ => ⟨S1x8192x1, .f32⟩
  | .hbm, ⟨18, _⟩ => ⟨S1x1x16, .f32⟩
  | .hbm, ⟨19, _⟩ => ⟨S1x8192x16, .f32⟩
  | .hbm, ⟨20, _⟩ => ⟨S1x8192x16, .f32⟩
  | .hbm, ⟨21, _⟩ => ⟨S1x8192x16, .f32⟩
  | .hbm, ⟨22, _⟩ => ⟨S1x8192x16, .f32⟩
  | .hbm, ⟨23, _⟩ => ⟨S1x8192x1x16, .f32⟩
  | .hbm, ⟨24, _⟩ => ⟨S1x8192x16, .f32⟩
  | .hbm, ⟨25, _⟩ => ⟨S1x8192x1x16, .f32⟩
  | .hbm, ⟨26, _⟩ => ⟨S1x8192x8x16, .f32⟩
  | .hbm, ⟨27, _⟩ => ⟨S1x8192x8x16, .f32⟩
  | .hbm, ⟨28, _⟩ => ⟨S1x8192x8x16, .f32⟩
  | .hbm, ⟨29, _⟩ => ⟨S1x8192x8x16, .f32⟩
  | .hbm, ⟨30, _⟩ => ⟨S1x8192x8x16, .f32⟩
  | .hbm, ⟨31, _⟩ => ⟨S1x8192x8x16, .f32⟩
  | .hbm, ⟨32, _⟩ => ⟨S1x8192x8x16, .f32⟩
  | .hbm, ⟨33, _⟩ => ⟨S1x8192x8x16, .f32⟩
  | .hbm, ⟨34, _⟩ => ⟨S1x8192x8x16, .f32⟩
  | .hbm, ⟨35, _⟩ => ⟨S1x8192x8x16, .f32⟩
  | .hbm, ⟨36, _⟩ => ⟨S1x8192x8x16, .f32⟩
  | .hbm, ⟨37, _⟩ => ⟨S1x8192x8x16, .f32⟩
  | .hbm, ⟨38, _⟩ => ⟨S1x8192x8x32, .f32⟩
  | .hbm, ⟨39, _⟩ => ⟨S1x8192x8x96, .f32⟩
  | .hbm, ⟨40, _⟩ => ⟨S1x8x8192x8192, .f32⟩
  | .hbm, ⟨41, _⟩ => ⟨S_, .f32⟩
  | .hbm, ⟨42, _⟩ => ⟨S1x8x8192x8192, .f32⟩
  | .hbm, ⟨43, _⟩ => ⟨S1x8x8192x8192, .f32⟩
  | .hbm, ⟨44, _⟩ => ⟨S8192, .i32⟩
  | .hbm, ⟨45, _⟩ => ⟨S1x8192, .i32⟩
  | .hbm, ⟨46, _⟩ => ⟨S8192, .i32⟩
  | .hbm, ⟨47, _⟩ => ⟨S8192x1, .i32⟩
  | .hbm, ⟨48, _⟩ => ⟨S8192x8192, .i32⟩
  | .hbm, ⟨49, _⟩ => ⟨S8192x8192, .i32⟩
  | .hbm, ⟨50, _⟩ => ⟨S8192x8192, .i1⟩
  | .hbm, ⟨51, _⟩ => ⟨S1x1x8192x8192, .i1⟩
  | .hbm, ⟨52, _⟩ => ⟨S_, .f32⟩
  | .hbm, ⟨53, _⟩ => ⟨S_, .f32⟩
  | .hbm, ⟨54, _⟩ => ⟨S1x8x8192x8192, .i1⟩
  | .hbm, ⟨55, _⟩ => ⟨S1x8x8192x8192, .f32⟩
  | .hbm, ⟨56, _⟩ => ⟨S1x8x8192x8192, .f32⟩
  | .hbm, ⟨57, _⟩ => ⟨S_, .f32⟩
  | .hbm, ⟨58, _⟩ => ⟨S1x8x8192, .f32⟩
  | .hbm, ⟨59, _⟩ => ⟨S_, .f32⟩
  | .hbm, ⟨60, _⟩ => ⟨S1x8x8192, .f32⟩
  | .hbm, ⟨61, _⟩ => ⟨S1x8x8192, .f32⟩
  | .hbm, ⟨62, _⟩ => ⟨S1x8x8192x1, .f32⟩
  | .hbm, ⟨63, _⟩ => ⟨S1x8x8192x8192, .f32⟩
  | .hbm, ⟨64, _⟩ => ⟨S1x8x8192x8192, .f32⟩
  | .hbm, ⟨65, _⟩ => ⟨S1x8x8192x8192, .f32⟩
  | .hbm, ⟨66, _⟩ => ⟨S_, .f32⟩
  | .hbm, ⟨67, _⟩ => ⟨S1x8x8192, .f32⟩
  | .hbm, ⟨68, _⟩ => ⟨S1x8x8192x1, .f32⟩
  | .hbm, ⟨69, _⟩ => ⟨S1x8x8192x8192, .f32⟩
  | .hbm, ⟨70, _⟩ => ⟨S1x8x8192x8192, .f32⟩
  | .hbm, ⟨71, _⟩ => ⟨S1x8x64x8192, .f32⟩
  | .hbm, ⟨72, _⟩ => ⟨S1x8192x8x64, .f32⟩
  | .hbm, ⟨73, _⟩ => ⟨S1x8192x512, .f32⟩
  | _, _ => ⟨S1x8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_cst_2 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_3 : Ref sig .tc := ⟨.hbm, 52, rfl⟩
abbrev main_call0_v0 : Ref sig .tc := ⟨.hbm, 53, rfl⟩
abbrev main_call0_v1 : Ref sig .tc := ⟨.hbm, 54, rfl⟩
abbrev main_call0_v2 : Ref sig .tc := ⟨.hbm, 55, rfl⟩
abbrev main_v44 : Ref sig .tc := ⟨.hbm, 56, rfl⟩
abbrev main_cst_4 : Ref sig .tc := ⟨.hbm, 57, rfl⟩
abbrev main_v45 : Ref sig .tc := ⟨.hbm, 58, rfl⟩
abbrev main_cst_5 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_6 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩

abbrev nD : Nat := 1
abbrev τ : Topo := Topo.v7x

variable {F : FTy → Type} [FloatOps F]
-- ==== Proof.Writes.lean ====
module

public import Idealize.ShloMosaic.Lib.Pipeline.ValueKit
public import Idealize.ShloMosaic.Lib.VecWindow
public import Idealize.ShloMosaic.Lib.Pipeline.ReadBack

/-! What a buffer reads after a list of stores into it, where the oldest of them, or what the buffer held before, fills the whole of it:
    one list of pieces, the newest first. -/

@[expose] public section

noncomputable section

namespace Cert.Writes

open Idealize.ShloMosaic

variable {Val : EltTy → Type} [∀ e, Nonempty (Val e)] {sig : RefSig} {κ : Kind} {sp : Space} {s : Shape} {e : EltTy}

/-- Over contents `X`, the stores read as they do over a store of `X`. -/
theorem read_over {m : Memref sig κ sp s e} (h : m.IsWhole) (X : s.Idx → Val e) {off : Fin s.rank → ℕ}
    (inb : ∀ a, off a + s.size a ≤ s.size a) (L : List (View.Piece Val s e)) (h0 : ∀ a, off a = 0) :
    m.view.read Val (m.view.writes Val (h.unread X) L) = View.canon (L ++ [⟨Rect.unit off s.size inb, X⟩]) := by
  induction L with
  | nil => exact (h.read_unread X).trans (View.canon_cons_unit_lit inb X [] h0).symm
  | cons p L ih =>
    funext y
    by_cases hy : y ∈ p.1.set
    · rw [← Rect.map_emb_univ, Finset.mem_map] at hy
      obtain ⟨x, -, rfl⟩ := hy
      exact (View.read_writes_cons_emb _ _ p.1 p.2 L x).trans (View.canon_cons_emb p.1 p.2 _ x).symm
    · refine (View.read_slice_write_of_not_mem p.1 _ p.2 _ (by rwa [Rect.map_emb_univ])).trans ?_
      rw [ih]
      exact (View.canon_cons_of_not_mem p _ hy).symm

/-- Once the oldest store fills the buffer, what it held does not matter. -/
theorem read_fill (v : View sig κ sp s e) (f : v.ty.Contents Val) (X : s.Idx → Val e) {off : Fin s.rank → ℕ}
    (inb : ∀ a, off a + s.size a ≤ s.size a) (L : List (View.Piece Val s e)) (h0 : ∀ a, off a = 0) :
    v.read Val (v.writes Val f (L ++ [⟨Rect.unit off s.size inb, X⟩])) = View.canon (L ++ [⟨Rect.unit off s.size inb, X⟩]) :=
  View.read_writes_eq_canon v f _ fun y => ⟨_, List.mem_append_right _ List.mem_cons_self,
    View.mem_set_unit_zero (funext h0) inb y⟩

end Cert.Writes

end
-- ==== Proof.Attn.Trip.lean ====
module

public import proofs.«01_k».proof.Proof.Gen.Kernel2Ideal.Frame
public import proofs.«01_k».proof.Proof.Gen.Kernel2Ideal.Skeleton
public import proofs.«01_k».proof.Proof.Gen.Kernel2Ideal.Loops
public import proofs.«01_k».proof.Proof.Writes

/-! One stretch of keys in the attention's backward call: what the loop's trip adds to the gradients of the queries, keys and values. -/

@[expose] public section

set_option maxRecDepth 16384

noncomputable section

namespace Cert.Kernel2Ideal.Attn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What a point has at hand before its sweep: its rows of the output's gradient (whole and by head), of the products with the output,
    of the log-sums and of the queries. -/
structure Pt (F : FTy → Type) where
  ct : FVec F S512x128 .bf16
  ct0 : FVec F S512x128 .bf16
  ct1 : FVec F S512x128 .bf16
  d0 : FVec F S1x512 .f32
  d1 : FVec F S1x512 .f32
  s0 : FVec F S1x512 .f32
  s1 : FVec F S1x512 .f32
  q0 : FVec F S512x128 .bf16
  q1 : FVec F S512x128 .bf16

/-- The sums: the two heads' query gradients of the point's rows, and the gradients of all keys and values. -/
structure Sums (F : FTy → Type) where
  dq0 : FVec F S512x128 .f32
  dq1 : FVec F S512x128 .f32
  dk : Vec F S8192x256 .f32
  dv : Vec F S8192x128 .f32

theorem off1_eq : ∀ (i : grid0.Coords) (t : Fin (k0_t1_loop i).trips), k0_off1 i t = ![2048 * t.val, 0] := by decide +kernel
theorem off2_eq : ∀ (i : grid0.Coords) (t : Fin (k0_t1_loop i).trips), k0_off2 i t = ![2048 * t.val, 0] := by decide +kernel
theorem off3_eq : ∀ (i : grid0.Coords) (t : Fin (k0_t1_loop i).trips), k0_off3 i t = ![2048 * t.val, 128] := by decide +kernel
instance (i : grid0.Coords) (t : Fin (k0_t1_loop i).trips) : ClosedOff (k0_off1 i t) := ⟨_, off1_eq i t⟩
instance (i : grid0.Coords) (t : Fin (k0_t1_loop i).trips) : ClosedOff (k0_off2 i t) := ⟨_, off2_eq i t⟩
instance (i : grid0.Coords) (t : Fin (k0_t1_loop i).trips) : ClosedOff (k0_off3 i t) := ⟨_, off3_eq i t⟩

theorem off7_eq : ∀ i : grid0.Coords, k0_off7 i = ![2048 * ((i 1).val / 4), 0] := by decide +kernel
theorem off8_eq : ∀ i : grid0.Coords, k0_off8 i = ![2048 * ((i 1).val / 4), 0] := by decide +kernel
theorem off9_eq : ∀ i : grid0.Coords, k0_off9 i = ![2048 * ((i 1).val / 4), 128] := by decide +kernel
theorem off10_eq : ∀ i : grid0.Coords, k0_off10 i = ![2048 * ((i 1).val / 4), 0] := by decide +kernel
theorem off11_eq : ∀ i : grid0.Coords, k0_off11 i = ![2048 * ((i 1).val / 4), 0] := by decide +kernel
theorem off12_eq : ∀ i : grid0.Coords, k0_off12 i = ![2048 * ((i 1).val / 4), 128] := by decide +kernel
theorem off13_eq : ∀ i : grid0.Coords, k0_off13 i = ![2048 * ((i 1).val / 4), 0] := by decide +kernel
theorem off14_eq : ∀ i : grid0.Coords, k0_off14 i = ![2048 * ((i 1).val / 4), 0] := by decide +kernel
theorem off15_eq : ∀ i : grid0.Coords, k0_off15 i = ![2048 * ((i 1).val / 4), 128] := by decide +kernel
theorem off16_eq : ∀ i : grid0.Coords, k0_off16 i = ![2048 * ((i 1).val / 4), 0] := by decide +kernel
theorem off17_eq : ∀ i : grid0.Coords, k0_off17 i = ![2048 * ((i 1).val / 4), 0] := by decide +kernel
theorem off18_eq : ∀ i : grid0.Coords, k0_off18 i = ![2048 * ((i 1).val / 4), 128] := by decide +kernel
instance (i : grid0.Coords) : ClosedOff (k0_off7 i) := ⟨_, off7_eq i⟩
instance (i : grid0.Coords) : ClosedOff (k0_off8 i) := ⟨_, off8_eq i⟩
instance (i : grid0.Coords) : ClosedOff (k0_off9 i) := ⟨_, off9_eq i⟩
instance (i : grid0.Coords) : ClosedOff (k0_off10 i) := ⟨_, off10_eq i⟩
instance (i : grid0.Coords) : ClosedOff (k0_off11 i) := ⟨_, off11_eq i⟩
instance (i : grid0.Coords) : ClosedOff (k0_off12 i) := ⟨_, off12_eq i⟩
instance (i : grid0.Coords) : ClosedOff (k0_off13 i) := ⟨_, off13_eq i⟩
instance (i : grid0.Coords) : ClosedOff (k0_off14 i) := ⟨_, off14_eq i⟩
instance (i : grid0.Coords) : ClosedOff (k0_off15 i) := ⟨_, off15_eq i⟩
instance (i : grid0.Coords) : ClosedOff (k0_off16 i) := ⟨_, off16_eq i⟩
instance (i : grid0.Coords) : ClosedOff (k0_off17 i) := ⟨_, off17_eq i⟩
instance (i : grid0.Coords) : ClosedOff (k0_off18 i) := ⟨_, off18_eq i⟩

/-- The remainder of the loop is empty. -/
theorem no_rest : ∀ i : grid0.Coords, (k0_t2_loop i).trips = 0 := by decide +kernel
theorem trips_eq : ∀ i : grid0.Coords, (k0_t1_loop i).trips = (i 1).val / 4 := by decide +kernel

section Trip
variable (i : grid0.Coords) (t : Fin (k0_t1_loop i).trips) (x : Pt F) (k : Vec F S8192x256 .bf16) (v : Vec F S8192x128 .bf16) (a : Sums F)

abbrev rows1 : Rect S8192x128 := Rect.unit (s := S8192x128) (k0_off1 i t) S2048x128.size (k0_off1_inb i t)
abbrev rows2 : Rect S8192x256 := Rect.unit (s := S8192x256) (k0_off2 i t) S2048x128.size (k0_off2_inb i t)
abbrev rows3 : Rect S8192x256 := Rect.unit (s := S8192x256) (k0_off3 i t) S2048x128.size (k0_off3_inb i t)
abbrev whole256 : Rect S8192x256 := Rect.unit (s := S8192x256) ![0, 0] S8192x256.size inb_S8192x256_S8192x256_0_0
abbrev whole128 : Rect S8192x128 := Rect.unit (s := S8192x128) ![0, 0] S8192x128.size inb_S8192x128_S8192x128_0_0

/-- The sums after one trip over 2048 keys. -/
def Sums.trip : Sums F where
  dq0 := k0_pay15 x.ct0 x.d0 x.s0 x.q0 a.dq0 (View.ld v (rows1 i t)) (View.ld k (rows2 i t))
  dq1 := k0_pay101 a.dq1 (k0_pay16 (View.ld k (rows3 i t))) (k0_pay19 x.ct1 x.d1 x.s1 x.q1 (View.ld v (rows1 i t)) (View.ld k (rows3 i t)))
  dk := View.canon
    [⟨rows3 i t, k0_pay100 x.q1 (k0_pay19 x.ct1 x.d1 x.s1 x.q1 (View.ld v (rows1 i t)) (View.ld k (rows3 i t))) (View.ld a.dk (rows3 i t))⟩,
     ⟨rows2 i t, k0_pay14 x.ct0 x.d0 x.s0 x.q0 (View.ld v (rows1 i t)) (View.ld k (rows2 i t)) (View.ld a.dk (rows2 i t))⟩,
     ⟨whole256, a.dk⟩]
  dv := View.canon
    [⟨rows1 i t, k0_pay102 (k0_pay12 x.ct x.s0 x.q0 (View.ld k (rows2 i t))) (k0_pay18 x.ct x.s1 x.q1 (View.ld k (rows3 i t))) (View.ld a.dv (rows1 i t))⟩,
     ⟨whole128, a.dv⟩]

/-- The sums after the last 2048 keys before the causal edge. -/
def Sums.last3 (h2 : k0_cond2 i = 1#1) (h3 : k0_cond3 i = 1#1) (h4 : k0_cond4 i = 1#1) : Sums F where
  dq0 := k0_pay37 a.dq0 (k0_pay32 (View.ld k (Rect.unit (s := S8192x256) (k0_off8 i) S2048x128.size (k0_off8_inb i h2 h3 h4)))) (k0_pay35 x.ct0 x.d0 x.s0 x.q0 (View.ld v (Rect.unit (s := S8192x128) (k0_off7 i) S2048x128.size (k0_off7_inb i h2 h3 h4))) (View.ld k (Rect.unit (s := S8192x256) (k0_off8 i) S2048x128.size (k0_off8_inb i h2 h3 h4))))
  dq1 := k0_pay43 x.ct1 x.d1 x.s1 x.q1 a.dq1 (k0_pay31 (View.ld v (Rect.unit (s := S8192x128) (k0_off7 i) S2048x128.size (k0_off7_inb i h2 h3 h4)))) (View.ld k (Rect.unit (s := S8192x256) (k0_off9 i) S2048x128.size (k0_off9_inb i h2 h3 h4)))
  dk := View.canon
    [⟨(Rect.unit (s := S8192x256) (k0_off9 i) S2048x128.size (k0_off9_inb i h2 h3 h4)), k0_pay42 x.ct1 x.d1 x.s1 x.q1 (k0_pay31 (View.ld v (Rect.unit (s := S8192x128) (k0_off7 i) S2048x128.size (k0_off7_inb i h2 h3 h4)))) (View.ld k (Rect.unit (s := S8192x256) (k0_off9 i) S2048x128.size (k0_off9_inb i h2 h3 h4))) (View.ld a.dk (Rect.unit (s := S8192x256) (k0_off9 i) S2048x128.size (k0_off9_inb i h2 h3 h4)))⟩,
     ⟨(Rect.unit (s := S8192x256) (k0_off8 i) S2048x128.size (k0_off8_inb i h2 h3 h4)), k0_pay36 x.q0 (k0_pay35 x.ct0 x.d0 x.s0 x.q0 (View.ld v (Rect.unit (s := S8192x128) (k0_off7 i) S2048x128.size (k0_off7_inb i h2 h3 h4))) (View.ld k (Rect.unit (s := S8192x256) (k0_off8 i) S2048x128.size (k0_off8_inb i h2 h3 h4)))) (View.ld a.dk (Rect.unit (s := S8192x256) (k0_off8 i) S2048x128.size (k0_off8_inb i h2 h3 h4)))⟩,
     ⟨whole256, a.dk⟩]
  dv := View.canon
    [⟨(Rect.unit (s := S8192x128) (k0_off7 i) S2048x128.size (k0_off7_inb i h2 h3 h4)), k0_pay107 (k0_pay34 x.ct x.s0 x.q0 (View.ld k (Rect.unit (s := S8192x256) (k0_off8 i) S2048x128.size (k0_off8_inb i h2 h3 h4)))) (k0_pay40 x.ct x.s1 x.q1 (View.ld k (Rect.unit (s := S8192x256) (k0_off9 i) S2048x128.size (k0_off9_inb i h2 h3 h4)))) (View.ld a.dv (Rect.unit (s := S8192x128) (k0_off7 i) S2048x128.size (k0_off7_inb i h2 h3 h4)))⟩,
     ⟨whole128, a.dv⟩]

/-- The sums after the last 1536 keys before the causal edge. -/
def Sums.last2 (h2 : k0_cond2 i = 1#1) (h3 : k0_cond3 i = 1#1) (h4 : ¬k0_cond4 i = 1#1) : Sums F where
  dq0 := k0_pay50 a.dq0 (k0_pay45 (View.ld k (Rect.unit (s := S8192x256) (k0_off11 i) S1536x128.size (k0_off11_inb i h2 h3 h4)))) (k0_pay48 x.ct0 x.d0 x.s0 x.q0 (View.ld v (Rect.unit (s := S8192x128) (k0_off10 i) S1536x128.size (k0_off10_inb i h2 h3 h4))) (View.ld k (Rect.unit (s := S8192x256) (k0_off11 i) S1536x128.size (k0_off11_inb i h2 h3 h4))))
  dq1 := k0_pay56 x.ct1 x.d1 x.s1 x.q1 a.dq1 (k0_pay44 (View.ld v (Rect.unit (s := S8192x128) (k0_off10 i) S1536x128.size (k0_off10_inb i h2 h3 h4)))) (View.ld k (Rect.unit (s := S8192x256) (k0_off12 i) S1536x128.size (k0_off12_inb i h2 h3 h4)))
  dk := View.canon
    [⟨(Rect.unit (s := S8192x256) (k0_off12 i) S1536x128.size (k0_off12_inb i h2 h3 h4)), k0_pay55 x.ct1 x.d1 x.s1 x.q1 (k0_pay44 (View.ld v (Rect.unit (s := S8192x128) (k0_off10 i) S1536x128.size (k0_off10_inb i h2 h3 h4)))) (View.ld k (Rect.unit (s := S8192x256) (k0_off12 i) S1536x128.size (k0_off12_inb i h2 h3 h4))) (View.ld a.dk (Rect.unit (s := S8192x256) (k0_off12 i) S1536x128.size (k0_off12_inb i h2 h3 h4)))⟩,
     ⟨(Rect.unit (s := S8192x256) (k0_off11 i) S1536x128.size (k0_off11_inb i h2 h3 h4)), k0_pay49 x.q0 (k0_pay48 x.ct0 x.d0 x.s0 x.q0 (View.ld v (Rect.unit (s := S8192x128) (k0_off10 i) S1536x128.size (k0_off10_inb i h2 h3 h4))) (View.ld k (Rect.unit (s := S8192x256) (k0_off11 i) S1536x128.size (k0_off11_inb i h2 h3 h4)))) (View.ld a.dk (Rect.unit (s := S8192x256) (k0_off11 i) S1536x128.size (k0_off11_inb i h2 h3 h4)))⟩,
     ⟨whole256, a.dk⟩]
  dv := View.canon
    [⟨(Rect.unit (s := S8192x128) (k0_off10 i) S1536x128.size (k0_off10_inb i h2 h3 h4)), k0_pay108 (k0_pay47 x.ct x.s0 x.q0 (View.ld k (Rect.unit (s := S8192x256) (k0_off11 i) S1536x128.size (k0_off11_inb i h2 h3 h4)))) (k0_pay53 x.ct x.s1 x.q1 (View.ld k (Rect.unit (s := S8192x256) (k0_off12 i) S1536x128.size (k0_off12_inb i h2 h3 h4)))) (View.ld a.dv (Rect.unit (s := S8192x128) (k0_off10 i) S1536x128.size (k0_off10_inb i h2 h3 h4)))⟩,
     ⟨whole128, a.dv⟩]

/-- The sums after the last 1024 keys before the causal edge. -/
def Sums.last1 (h2 : k0_cond2 i = 1#1) (h3 : ¬k0_cond3 i = 1#1) : Sums F where
  dq0 := k0_pay63 a.dq0 (k0_pay58 (View.ld k (Rect.unit (s := S8192x256) (k0_off14 i) S1024x128.size (k0_off14_inb i h2 h3)))) (k0_pay61 x.ct0 x.d0 x.s0 x.q0 (View.ld v (Rect.unit (s := S8192x128) (k0_off13 i) S1024x128.size (k0_off13_inb i h2 h3))) (View.ld k (Rect.unit (s := S8192x256) (k0_off14 i) S1024x128.size (k0_off14_inb i h2 h3))))
  dq1 := k0_pay69 x.ct1 x.d1 x.s1 x.q1 a.dq1 (k0_pay57 (View.ld v (Rect.unit (s := S8192x128) (k0_off13 i) S1024x128.size (k0_off13_inb i h2 h3)))) (View.ld k (Rect.unit (s := S8192x256) (k0_off15 i) S1024x128.size (k0_off15_inb i h2 h3)))
  dk := View.canon
    [⟨(Rect.unit (s := S8192x256) (k0_off15 i) S1024x128.size (k0_off15_inb i h2 h3)), k0_pay68 x.ct1 x.d1 x.s1 x.q1 (k0_pay57 (View.ld v (Rect.unit (s := S8192x128) (k0_off13 i) S1024x128.size (k0_off13_inb i h2 h3)))) (View.ld k (Rect.unit (s := S8192x256) (k0_off15 i) S1024x128.size (k0_off15_inb i h2 h3))) (View.ld a.dk (Rect.unit (s := S8192x256) (k0_off15 i) S1024x128.size (k0_off15_inb i h2 h3)))⟩,
     ⟨(Rect.unit (s := S8192x256) (k0_off14 i) S1024x128.size (k0_off14_inb i h2 h3)), k0_pay62 x.q0 (k0_pay61 x.ct0 x.d0 x.s0 x.q0 (View.ld v (Rect.unit (s := S8192x128) (k0_off13 i) S1024x128.size (k0_off13_inb i h2 h3))) (View.ld k (Rect.unit (s := S8192x256) (k0_off14 i) S1024x128.size (k0_off14_inb i h2 h3)))) (View.ld a.dk (Rect.unit (s := S8192x256) (k0_off14 i) S1024x128.size (k0_off14_inb i h2 h3)))⟩,
     ⟨whole256, a.dk⟩]
  dv := View.canon
    [⟨(Rect.unit (s := S8192x128) (k0_off13 i) S1024x128.size (k0_off13_inb i h2 h3)), k0_pay109 (k0_pay60 x.ct x.s0 x.q0 (View.ld k (Rect.unit (s := S8192x256) (k0_off14 i) S1024x128.size (k0_off14_inb i h2 h3)))) (k0_pay66 x.ct x.s1 x.q1 (View.ld k (Rect.unit (s := S8192x256) (k0_off15 i) S1024x128.size (k0_off15_inb i h2 h3)))) (View.ld a.dv (Rect.unit (s := S8192x128) (k0_off13 i) S1024x128.size (k0_off13_inb i h2 h3)))⟩,
     ⟨whole128, a.dv⟩]

/-- The sums after the last 512 keys before the causal edge. -/
def Sums.last0 (h2 : ¬k0_cond2 i = 1#1) : Sums F where
  dq0 := k0_pay76 a.dq0 (k0_pay71 (View.ld k (Rect.unit (s := S8192x256) (k0_off17 i) S512x128.size (k0_off17_inb i h2)))) (k0_pay74 x.ct0 x.d0 x.s0 x.q0 (View.ld v (Rect.unit (s := S8192x128) (k0_off16 i) S512x128.size (k0_off16_inb i h2))) (View.ld k (Rect.unit (s := S8192x256) (k0_off17 i) S512x128.size (k0_off17_inb i h2))))
  dq1 := k0_pay82 x.ct1 x.d1 x.s1 x.q1 a.dq1 (k0_pay70 (View.ld v (Rect.unit (s := S8192x128) (k0_off16 i) S512x128.size (k0_off16_inb i h2)))) (View.ld k (Rect.unit (s := S8192x256) (k0_off18 i) S512x128.size (k0_off18_inb i h2)))
  dk := View.canon
    [⟨(Rect.unit (s := S8192x256) (k0_off18 i) S512x128.size (k0_off18_inb i h2)), k0_pay81 x.ct1 x.d1 x.s1 x.q1 (k0_pay70 (View.ld v (Rect.unit (s := S8192x128) (k0_off16 i) S512x128.size (k0_off16_inb i h2)))) (View.ld k (Rect.unit (s := S8192x256) (k0_off18 i) S512x128.size (k0_off18_inb i h2))) (View.ld a.dk (Rect.unit (s := S8192x256) (k0_off18 i) S512x128.size (k0_off18_inb i h2)))⟩,
     ⟨(Rect.unit (s := S8192x256) (k0_off17 i) S512x128.size (k0_off17_inb i h2)), k0_pay75 x.q0 (k0_pay74 x.ct0 x.d0 x.s0 x.q0 (View.ld v (Rect.unit (s := S8192x128) (k0_off16 i) S512x128.size (k0_off16_inb i h2))) (View.ld k (Rect.unit (s := S8192x256) (k0_off17 i) S512x128.size (k0_off17_inb i h2)))) (View.ld a.dk (Rect.unit (s := S8192x256) (k0_off17 i) S512x128.size (k0_off17_inb i h2)))⟩,
     ⟨whole256, a.dk⟩]
  dv := View.canon
    [⟨(Rect.unit (s := S8192x128) (k0_off16 i) S512x128.size (k0_off16_inb i h2)), k0_pay110 (k0_pay73 x.ct x.s0 x.q0 (View.ld k (Rect.unit (s := S8192x256) (k0_off17 i) S512x128.size (k0_off17_inb i h2)))) (k0_pay79 x.ct x.s1 x.q1 (View.ld k (Rect.unit (s := S8192x256) (k0_off18 i) S512x128.size (k0_off18_inb i h2)))) (View.ld a.dv (Rect.unit (s := S8192x128) (k0_off16 i) S512x128.size (k0_off16_inb i h2)))⟩,
     ⟨whole128, a.dv⟩]

/-- The sums after the keys up to the causal edge, by the place of the point's rows in their 2048. -/
def Sums.last : Sums F :=
  if h2 : k0_cond2 i = 1#1 then
    if h3 : k0_cond3 i = 1#1 then
      if h4 : k0_cond4 i = 1#1 then a.last3 i x k v h2 h3 h4 else a.last2 i x k v h2 h3 h4
    else a.last1 i x k v h2 h3
  else a.last0 i x k v h2
end Trip

/-- The sums before trip `n`. -/
def Sums.trips (i : grid0.Coords) (x : Pt F) (k : Vec F S8192x256 .bf16) (v : Vec F S8192x128 .bf16) (a : Sums F) : ℕ → Sums F
  | 0 => a
  | n + 1 => if h : n < (k0_t1_loop i).trips then (a.trips i x k v n).trip i ⟨n, h⟩ x k v else a.trips i x k v n

theorem Sums.trips_succ (i : grid0.Coords) (x : Pt F) (k : Vec F S8192x256 .bf16) (v : Vec F S8192x128 .bf16) (a : Sums F) (t : Fin (k0_t1_loop i).trips) :
    a.trips i x k v (t.val + 1) = (a.trips i x k v t.val).trip i t x k v := dif_pos t.isLt

section Run
variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .f32) (harg6 : arg6.IsWhole)
  (arg7 : Memref sig .tc .vmem S1x1x2x512 .f32) (harg7 : arg7.IsWhole)
  (arg8 : Memref sig .tc .vmem S512x256 .f32) (harg8 : arg8.IsWhole)
  (arg9 : Memref sig .tc .vmem S16x1024 .f32) (harg9 : arg9.IsWhole)
  (arg10 : Memref sig .tc .vmem S512x256 .bf16) (harg10 : arg10.IsWhole)
  (arg11 : Memref sig .tc .vmem S8192x256 .bf16) (harg11 : arg11.IsWhole)
  (arg12 : Memref sig .tc .vmem S8192x128 .bf16) (harg12 : arg12.IsWhole)
  (arg13 : Memref sig .tc .vmem S8192x256 .f32) (harg13 : arg13.IsWhole)
  (arg14 : Memref sig .tc .vmem S8192x128 .f32) (harg14 : arg14.IsWhole)
  (k : Vec F S8192x256 .bf16) (v : Vec F S8192x128 .bf16)

/-- The keys and values as they are, and the gradient sums. -/
def held (a : Sums F) : sProp 𝕄 :=
  iprop(owns (c : Thread nD τ) arg3 fullShare k ∗ owns (c : Thread nD τ) arg4 fullShare v
    ∗ owns (c : Thread nD τ) arg13 fullShare a.dk ∗ owns (c : Thread nD τ) arg14 fullShare a.dv)

variable (arg1 : BitVec 32) (v7 v9 v10 : FVec F S512x128 .bf16) (v18 v21 v23 v25 : FVec F S1x512 .f32) (v27 v29 : FVec F S512x128 .bf16)
  (v30 v31 : FVec F S512x128 .f32) (c4 : BitVec 32)

set_option maxHeartbeats 2000000 in
/-- One trip. -/
theorem run_trip (t : Fin (k0_t1_loop i).trips) (a : Sums F) (E : Set ℕ) :
    held c arg3 arg4 arg13 arg14 k v a
    ⊢ wp frame (wpE (defs₀ (F := F)) Variants.none c none) E
        (k0_t1_body i arg2 harg2 arg3 harg3 arg4 harg4 arg5 harg5 arg6 harg6 arg7 harg7 arg8 harg8 arg9 harg9 arg10 harg10 arg11 harg11 arg12 harg12 arg13 harg13 arg14 harg14 arg1 v7 v9 v10 v18 v21 v23 v25 v27 v29 v30 v31 c4 t (a.dq0, a.dq1))
        (fun y => iprop(⌜y = ((a.trip i t ⟨v7, v9, v10, v18, v21, v23, v25, v27, v29⟩ k v).dq0, (a.trip i t ⟨v7, v9, v10, v18, v21, v23, v25, v27, v29⟩ k v).dq1)⌝
          ∗ held c arg3 arg4 arg13 arg14 k v (a.trip i t ⟨v7, v9, v10, v18, v21, v23, v25, v27, v29⟩ k v))) := by
  unfold k0_t1_body held owns
  simp only [k0_part1_eq_skeleton]
  iintro ⟨⟨%f3, %hf3, H3⟩, ⟨%f4, %hf4, H4⟩, ⟨%f13, %hf13, H13⟩, ⟨%f14, %hf14, H14⟩⟩
  obtain rfl := harg3.eq_unread hf3
  obtain rfl := harg4.eq_unread hf4
  obtain rfl := harg13.eq_unread hf13
  obtain rfl := harg14.eq_unread hf14
  sl_exec
  sl_step
  isplitr
  · ipureintro; frame_out; rfl
  isplitl [H3]
  · iexists _; isplitr; · ipureintro; exact harg3.read_unread _
    iexact H3
  isplitl [H4]
  · iexists _; isplitr; · ipureintro; exact harg4.read_unread _
    iexact H4
  isplitl [H13]
  · iexists _; isplitr
    swap; · iexact H13
    ipureintro; refine (Cert.Writes.read_over harg13 _ inb_S8192x256_S8192x256_0_0 [_, _] (by decide)).trans ?_
    frame_out [List.cons_append, List.nil_append, View.readCov_skip, View.readCov_fill]
    rfl
  iexists _; isplitr
  swap; · iexact H14
  ipureintro; refine (Cert.Writes.read_over harg14 _ inb_S8192x128_S8192x128_0_0 [_] (by decide)).trans ?_
  frame_out [List.cons_append, List.nil_append, View.readCov_skip, View.readCov_fill]
  rfl

/-- All trips. -/
theorem run_loop (a : Sums F) (E : Set ℕ) :
    held c arg3 arg4 arg13 arg14 k v a
    ⊢ wp frame (wpE (defs₀ (F := F)) Variants.none c none) E
        (Scf.Loop.for (k0_t1_loop i) (k0_t1_ok i) (a.dq0, a.dq1) (k0_t1_body i arg2 harg2 arg3 harg3 arg4 harg4 arg5 harg5 arg6 harg6 arg7 harg7 arg8 harg8 arg9 harg9 arg10 harg10 arg11 harg11 arg12 harg12 arg13 harg13 arg14 harg14 arg1 v7 v9 v10 v18 v21 v23 v25 v27 v29 v30 v31 c4))
        (fun y => iprop(⌜y = ((a.trips i ⟨v7, v9, v10, v18, v21, v23, v25, v27, v29⟩ k v (k0_t1_loop i).trips).dq0,
            (a.trips i ⟨v7, v9, v10, v18, v21, v23, v25, v27, v29⟩ k v (k0_t1_loop i).trips).dq1)⌝
          ∗ held c arg3 arg4 arg13 arg14 k v (a.trips i ⟨v7, v9, v10, v18, v21, v23, v25, v27, v29⟩ k v (k0_t1_loop i).trips))) := by
  refine entails_trans ?_ (Scf.wp_for frame (wpE (defs₀ (F := F)) Variants.none c none) E _ _ _ (k0_t1_ok i) (a.dq0, a.dq1) _
    (fun n y => iprop(⌜y = ((a.trips i ⟨v7, v9, v10, v18, v21, v23, v25, v27, v29⟩ k v n).dq0, (a.trips i ⟨v7, v9, v10, v18, v21, v23, v25, v27, v29⟩ k v n).dq1)⌝
          ∗ held c arg3 arg4 arg13 arg14 k v (a.trips i ⟨v7, v9, v10, v18, v21, v23, v25, v27, v29⟩ k v n))) ?_)
  · iintro H
    isplitl
    · isplitr
      · ipureintro; rfl
      iexact H
    iintro %y ⟨%hy, H⟩
    isplitr
    · ipureintro; exact hy
    iexact H
  intro t acc
  iintro ⟨%hacc, H⟩
  subst hacc
  rw [Sums.trips_succ]
  iapply run_trip (i := i) (t := t)
  iexact H

set_option maxHeartbeats 4000000 in
/-- The sweep over the keys: all trips, then the keys up to the causal edge; beside it the cosines are read. -/
theorem run_sweep (a : Sums F) (cs : Vec F S512x256 .f32) (E : Set ℕ) :
    iprop(held c arg3 arg4 arg13 arg14 k v a ∗ owns (c : Thread nD τ) arg8 fullShare cs)
    ⊢ wp frame (wpE (defs₀ (F := F)) Variants.none c none) E
        (k0_part12 i arg2 harg2 arg3 harg3 arg4 harg4 arg5 harg5 arg6 harg6 arg7 harg7 arg8 harg8 arg9 harg9 arg10 harg10 arg11 harg11 arg12 harg12 arg13 harg13 arg14 harg14 arg1 v7 v9 v10 v18 v21 v23 v25 v27 v29 a.dq0 a.dq1 c4)
        (fun y => iprop(⌜y = ⟨((a.trips i ⟨v7, v9, v10, v18, v21, v23, v25, v27, v29⟩ k v (k0_t1_loop i).trips).last i ⟨v7, v9, v10, v18, v21, v23, v25, v27, v29⟩ k v).dq0,
            ((a.trips i ⟨v7, v9, v10, v18, v21, v23, v25, v27, v29⟩ k v (k0_t1_loop i).trips).last i ⟨v7, v9, v10, v18, v21, v23, v25, v27, v29⟩ k v).dq1,
            View.ld cs (Rect.unit (s := S512x256) ![0, 0] S512x128.size inb_S512x256_S512x128_0_0)⟩⌝
          ∗ held c arg3 arg4 arg13 arg14 k v ((a.trips i ⟨v7, v9, v10, v18, v21, v23, v25, v27, v29⟩ k v (k0_t1_loop i).trips).last i ⟨v7, v9, v10, v18, v21, v23, v25, v27, v29⟩ k v)
          ∗ owns (c : Thread nD τ) arg8 fullShare cs)) := by
  rw [k0_part12_eq_skeleton]
  unfold k0_part12_skel
  dsimp only
  rw [wp_bind]
  iintro ⟨HA, HC⟩
  iapply (wp_wand_r frame (wpE (defs₀ (F := F)) Variants.none c none) E)
  isplitl [HA]
  · iapply run_loop
    iexact HA
  iintro %y ⟨%hy, HA⟩
  subst hy
  generalize a.trips i ⟨v7, v9, v10, v18, v21, v23, v25, v27, v29⟩ k v (k0_t1_loop i).trips = b
  have h0 := no_rest i
  unfold held owns
  simp only [k0_part3_eq_skeleton, k0_part4_eq_skeleton, k0_part5_eq_skeleton, k0_part6_eq_skeleton, k0_part7_eq_skeleton, k0_part8_eq_skeleton,
    k0_part9_eq_skeleton, k0_part10_eq_skeleton]
  icases HA with ⟨⟨%f3, %hf3, H3⟩, ⟨%f4, %hf4, H4⟩, ⟨%f13, %hf13, H13⟩, ⟨%f14, %hf14, H14⟩⟩
  icases HC with ⟨%f8, %hf8, H8⟩
  obtain rfl := harg3.eq_unread hf3
  obtain rfl := harg4.eq_unread hf4
  obtain rfl := harg8.eq_unread hf8
  obtain rfl := harg13.eq_unread hf13
  obtain rfl := harg14.eq_unread hf14
  unfold Sums.last
  by_cases h2 : k0_cond2 i = 1#1
  on_goal 1 => by_cases h3 : k0_cond3 i = 1#1
  on_goal 1 => by_cases h4 : k0_cond4 i = 1#1
  all_goals
    first
      | simp only [dif_neg h2]
      | simp only [dif_pos h2, dif_neg h3]
      | simp only [dif_pos h2, dif_pos h3, dif_neg h4]
      | simp only [dif_pos h2, dif_pos h3, dif_pos h4]
    sl_exec (disch := first | sl_exact h2 | sl_exact h3 | sl_exact h4)
    sl_step
    isplitr
    · ipureintro; frame_out; rfl
    isplitr [H8]
    · isplitl [H3]
      · iexists _; isplitr; · ipureintro; exact harg3.read_unread _
        iexact H3
      isplitl [H4]
      · iexists _; isplitr; · ipureintro; exact harg4.read_unread _
        iexact H4
      isplitl [H13]
      · iexists _; isplitr
        swap; · iexact H13
        ipureintro; refine (Cert.Writes.read_over harg13 _ inb_S8192x256_S8192x256_0_0 [_, _] (by decide)).trans ?_
        frame_out [List.cons_append, List.nil_append, View.readCov_skip, View.readCov_fill]
        rfl
      iexists _; isplitr
      swap; · iexact H14
      ipureintro; refine (Cert.Writes.read_over harg14 _ inb_S8192x128_S8192x128_0_0 [_] (by decide)).trans ?_
      frame_out [List.cons_append, List.nil_append, View.readCov_skip, View.readCov_fill]
      rfl
    iexists _; isplitr; · ipureintro; exact harg8.read_unread _
    iexact H8
end Run

end Cert.Kernel2Ideal.Attn

end
-- ==== Proof.Attn.Open.lean ====
module

public import proofs.«01_k».proof.Proof.Attn.Trip

/-! One point of the attention's backward call: what it leaves in the outputs and in the two sums kept from point to point. -/

@[expose] public section

set_option maxRecDepth 16384

noncomputable section

namespace Cert.Kernel2Ideal.Attn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The input blocks of a point. -/
structure In (F : FTy → Type) where
  q : Vec F S512x256 .bf16
  k : Vec F S8192x256 .bf16
  v : Vec F S8192x128 .bf16
  ct : Vec F S512x128 .bf16
  o : Vec F S512x128 .f32
  lse : Vec F S1x1x2x512 .f32
  cs : Vec F S512x256 .f32
  rows : Vec F S16x1024 .f32

/-- The pair's first point, where the sums begin at zero. -/
def first (i : grid0.Coords) : Prop := Scalar.cmpi .ne (Scalar.extui (Scalar.cmpi .eq (BitVec.ofNat 32 (i 1).val) 0#32) : BitVec 32) 0#32 = 1#1
instance (i : grid0.Coords) : Decidable (first i) := inferInstanceAs (Decidable (_ = _))
theorem first_iff : ∀ i : grid0.Coords, first i ↔ (i 1).val = 0 := by decide +kernel
theorem last_iff : ∀ i : grid0.Coords, k0_cond5 i = 1#1 ↔ (i 1).val = 15 := by decide +kernel

section Point
variable (i : grid0.Coords) (x : In F) (a : Sums F)

/-- What the point has at hand. -/
def In.pt : Pt F where
  ct := k0_pay86 x.ct
  ct0 := k0_pay88 x.ct
  ct1 := k0_pay89 x.ct
  d0 := k0_pay91 x.ct x.o
  d1 := k0_pay92 x.ct x.o
  s0 := k0_pay93 (View.ld x.lse (Rect.unit (s := S1x1x2x512) ![0, 0, 0, 0] S1x1x1x512.size inb_S1x1x2x512_S1x1x1x512_0_0_0_0))
  s1 := k0_pay94 (View.ld x.lse (Rect.unit (s := S1x1x2x512) ![0, 0, 1, 0] S1x1x1x512.size inb_S1x1x2x512_S1x1x1x512_0_0_1_0))
  q0 := k0_pay95 (View.ld x.q (Rect.unit (s := S512x256) ![0, 0] S512x128.size inb_S512x256_S512x128_0_0))
  q1 := k0_pay96 (View.ld x.q (Rect.unit (s := S512x256) ![0, 128] S512x128.size inb_S512x256_S512x128_0_128))

/-- The sums as the point's sweep begins, -/
def Sums.start : Sums F where
  dq0 := k0_pay97
  dq1 := k0_pay98
  dk := if first i then k0_pay83 else a.dk
  dv := if first i then k0_pay84 else a.dv

/-- and as it ends. -/
def Sums.point : Sums F := (((a.start i).trips i x.pt x.k x.v (k0_t1_loop i).trips).last i x.pt x.k x.v)

/-- The point's rows of the queries' gradient, turned back. -/
def dqOut : Vec F S512x256 .bf16 := View.canon
  [⟨(Rect.unit (s := S512x256) ![0, 128] S512x128.size inb_S512x256_S512x128_0_128), k0_pay6 a.dq1 (View.ld x.cs (Rect.unit (s := S512x256) ![0, 0] S512x128.size inb_S512x256_S512x128_0_0)) (View.ld x.cs (Rect.unit (s := S512x256) ![0, 128] S512x128.size inb_S512x256_S512x128_0_128)) (View.ld x.rows (Rect.unit (s := S16x1024) ![5, 0] S1x128.size inb_S16x1024_S1x128_5_0)) (View.ld x.rows (Rect.unit (s := S16x1024) ![6, 0] S1x128.size inb_S16x1024_S1x128_6_0))⟩,
   ⟨(Rect.unit (s := S512x256) ![0, 0] S512x128.size inb_S512x256_S512x128_0_0), k0_pay5 a.dq0 (View.ld x.cs (Rect.unit (s := S512x256) ![0, 0] S512x128.size inb_S512x256_S512x128_0_0)) (View.ld x.cs (Rect.unit (s := S512x256) ![0, 128] S512x128.size inb_S512x256_S512x128_0_128)) (View.ld x.rows (Rect.unit (s := S16x1024) ![5, 0] S1x128.size inb_S16x1024_S1x128_5_0)) (View.ld x.rows (Rect.unit (s := S16x1024) ![6, 0] S1x128.size inb_S16x1024_S1x128_6_0))⟩]

/-- The two heads' halves are all of a block of rows. -/
theorem halves_cover {Val : EltTy → Type} {e : EltTy} (p p' : S512x128.Idx → Val e) (y : S512x256.Idx) :
    ∃ r ∈ ([⟨(Rect.unit (s := S512x256) ![0, 128] S512x128.size inb_S512x256_S512x128_0_128), p⟩, ⟨(Rect.unit (s := S512x256) ![0, 0] S512x128.size inb_S512x256_S512x128_0_0), p'⟩] : List (View.Piece Val S512x256 e)), y ∈ r.1.set := by
  have h0 : (y 0).val < 512 := (y 0).isLt
  have h1 : (y 1).val < 256 := (y 1).isLt
  by_cases h : (y 1).val < 128
  · have hm : y ∈ ((Rect.unit (s := S512x256) ![0, 0] S512x128.size inb_S512x256_S512x128_0_0) : Rect S512x256).set := Rect.mem_set_unit.mpr fun a => match a with
      | ⟨0, _⟩ => ⟨Nat.zero_le _, by show (y 0).val < 0 + 512; omega⟩
      | ⟨1, _⟩ => ⟨Nat.zero_le _, by show (y 1).val < 0 + 128; omega⟩
    exact ⟨⟨_, p'⟩, .tail _ (.head _), hm⟩
  · have hm : y ∈ ((Rect.unit (s := S512x256) ![0, 128] S512x128.size inb_S512x256_S512x128_0_128) : Rect S512x256).set := Rect.mem_set_unit.mpr fun a => match a with
      | ⟨0, _⟩ => ⟨Nat.zero_le _, by show (y 0).val < 0 + 512; omega⟩
      | ⟨1, _⟩ => ⟨by show 128 ≤ (y 1).val; omega, by show (y 1).val < 128 + 128; omega⟩
    exact ⟨⟨_, p⟩, .head _, hm⟩
end Point

section Run
variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .f32) (harg6 : arg6.IsWhole)
  (arg7 : Memref sig .tc .vmem S1x1x2x512 .f32) (harg7 : arg7.IsWhole)
  (arg8 : Memref sig .tc .vmem S512x256 .f32) (harg8 : arg8.IsWhole)
  (arg9 : Memref sig .tc .vmem S16x1024 .f32) (harg9 : arg9.IsWhole)
  (arg10 : Memref sig .tc .vmem S512x256 .bf16) (harg10 : arg10.IsWhole)
  (arg11 : Memref sig .tc .vmem S8192x256 .bf16) (harg11 : arg11.IsWhole)
  (arg12 : Memref sig .tc .vmem S8192x128 .bf16) (harg12 : arg12.IsWhole)
  (arg13 : Memref sig .tc .vmem S8192x256 .f32) (harg13 : arg13.IsWhole)
  (arg14 : Memref sig .tc .vmem S8192x128 .f32) (harg14 : arg14.IsWhole)
  (x : In F) (a : Sums F)

/-- The sums' buffers. -/
def sums : sProp 𝕄 :=
  iprop(owns (c : Thread nD τ) arg13 fullShare a.dk ∗ owns (c : Thread nD τ) arg14 fullShare a.dv)

/-- The blocks the point's first lines read. -/
def near : sProp 𝕄 :=
  iprop(owns (c : Thread nD τ) arg2 fullShare x.q ∗ owns (c : Thread nD τ) arg5 fullShare x.ct
    ∗ owns (c : Thread nD τ) arg6 fullShare x.o ∗ owns (c : Thread nD τ) arg7 fullShare x.lse)

set_option maxHeartbeats 2000000 in
/-- The point's first lines. -/
theorem run_open (E : Set ℕ) :
    iprop(near c arg2 arg5 arg6 arg7 x ∗ sums c arg13 arg14 a)
    ⊢ wp frame (wpE (defs₀ (F := F)) Variants.none c none) E
        (k0_part11 i arg2 harg2 arg3 harg3 arg4 harg4 arg5 harg5 arg6 harg6 arg7 harg7 arg8 harg8 arg9 harg9 arg10 harg10 arg11 harg11 arg12 harg12 arg13 harg13 arg14 harg14)
        (fun y => iprop(⌜y = ⟨BitVec.ofNat 32 (i 1).val, x.pt.ct, x.pt.ct0, x.pt.ct1, x.pt.d0, x.pt.d1, x.pt.s0, x.pt.s1, x.pt.q0, x.pt.q1, (a.start i).dq0, (a.start i).dq1, 4#32⟩⌝
          ∗ near c arg2 arg5 arg6 arg7 x ∗ sums c arg13 arg14 (a.start i))) := by
  rw [k0_part11_eq_skeleton]
  unfold k0_part11_skel near sums owns Sums.start
  iintro ⟨⟨⟨%f2, %hf2, H2⟩, ⟨%f5, %hf5, H5⟩, ⟨%f6, %hf6, H6⟩, ⟨%f7, %hf7, H7⟩⟩, ⟨%f13, %hf13, H13⟩, ⟨%f14, %hf14, H14⟩⟩
  obtain rfl := harg2.eq_unread hf2
  obtain rfl := harg5.eq_unread hf5
  obtain rfl := harg6.eq_unread hf6
  obtain rfl := harg7.eq_unread hf7
  obtain rfl := harg13.eq_unread hf13
  obtain rfl := harg14.eq_unread hf14
  by_cases h1 : first i
  all_goals
    first
      | simp only [if_neg h1]
      | simp only [if_pos h1]
    sl_exec (disch := sl_exact h1)
    sl_step
    isplitr
    · ipureintro; frame_out; rfl
    isplitr [H13 H14]
    · isplitl [H2]
      · iexists _; isplitr; · ipureintro; exact harg2.read_unread _
        iexact H2
      isplitl [H5]
      · iexists _; isplitr; · ipureintro; exact harg5.read_unread _
        iexact H5
      isplitl [H6]
      · iexists _; isplitr; · ipureintro; exact harg6.read_unread _
        iexact H6
      iexists _; isplitr; · ipureintro; exact harg7.read_unread _
      iexact H7
    isplitl [H13]
    · iexists _; isplitr
      swap; · iexact H13
      ipureintro
      first
        | rw [harg13.read_unread]
        | exact View.read_writes_full _ _ inb_S8192x256_S8192x256_0_0 _ _
    iexists _; isplitr
    swap; · iexact H14
    ipureintro
    first
      | rw [harg14.read_unread]
      | exact View.read_writes_full _ _ inb_S8192x128_S8192x128_0_0 _ _

end Run

end Cert.Kernel2Ideal.Attn

end
-- ==== Proof.Attn.Body.lean ====
module

public import proofs.«01_k».proof.Proof.Attn.Open

/-! One whole point of the attention's backward call. -/

@[expose] public section

set_option maxRecDepth 16384

noncomputable section

namespace Cert.Kernel2Ideal.Attn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

section Run
variable (c : Dev nD) (i : grid0.Coords)
  (arg2 : Memref sig .tc .vmem S512x256 .bf16) (harg2 : arg2.IsWhole)
  (arg3 : Memref sig .tc .vmem S8192x256 .bf16) (harg3 : arg3.IsWhole)
  (arg4 : Memref sig .tc .vmem S8192x128 .bf16) (harg4 : arg4.IsWhole)
  (arg5 : Memref sig .tc .vmem S512x128 .bf16) (harg5 : arg5.IsWhole)
  (arg6 : Memref sig .tc .vmem S512x128 .f32) (harg6 : arg6.IsWhole)
  (arg7 : Memref sig .tc .vmem S1x1x2x512 .f32) (harg7 : arg7.IsWhole)
  (arg8 : Memref sig .tc .vmem S512x256 .f32) (harg8 : arg8.IsWhole)
  (arg9 : Memref sig .tc .vmem S16x1024 .f32) (harg9 : arg9.IsWhole)
  (arg10 : Memref sig .tc .vmem S512x256 .bf16) (harg10 : arg10.IsWhole)
  (arg11 : Memref sig .tc .vmem S8192x256 .bf16) (harg11 : arg11.IsWhole)
  (arg12 : Memref sig .tc .vmem S8192x128 .bf16) (harg12 : arg12.IsWhole)
  (arg13 : Memref sig .tc .vmem S8192x256 .f32) (harg13 : arg13.IsWhole)
  (arg14 : Memref sig .tc .vmem S8192x128 .f32) (harg14 : arg14.IsWhole)
  (x : In F) (a : Sums F)

/-- All the blocks a point reads. -/
def inputs : sProp 𝕄 :=
  iprop(owns (c : Thread nD τ) arg2 fullShare x.q
    ∗ owns (c : Thread nD τ) arg3 fullShare x.k
    ∗ owns (c : Thread nD τ) arg4 fullShare x.v
    ∗ owns (c : Thread nD τ) arg5 fullShare x.ct
    ∗ owns (c : Thread nD τ) arg6 fullShare x.o
    ∗ owns (c : Thread nD τ) arg7 fullShare x.lse
    ∗ owns (c : Thread nD τ) arg8 fullShare x.cs
    ∗ owns (c : Thread nD τ) arg9 fullShare x.rows)

set_option maxHeartbeats 4000000 in
/-- A whole point: the queries' gradient is written; the keys' and values' only at the pair's last point. -/
theorem run_point (b10 : Vec F S512x256 .bf16) (b11 : Vec F S8192x256 .bf16) (b12 : Vec F S8192x128 .bf16) (E : Set ℕ) (K : PUnit → sProp 𝕄) :
    iprop(inputs c arg2 arg3 arg4 arg5 arg6 arg7 arg8 arg9 x ∗ owns (c : Thread nD τ) arg10 fullShare b10
      ∗ owns (c : Thread nD τ) arg11 fullShare b11 ∗ owns (c : Thread nD τ) arg12 fullShare b12 ∗ sums c arg13 arg14 a
      ∗ (iprop(inputs c arg2 arg3 arg4 arg5 arg6 arg7 arg8 arg9 x ∗ owns (c : Thread nD τ) arg10 fullShare (dqOut x (a.point i x))
        ∗ owns (c : Thread nD τ) arg11 fullShare (if k0_cond5 i = 1#1 then k0_pay7 (a.point i x).dk else b11)
        ∗ owns (c : Thread nD τ) arg12 fullShare (if k0_cond5 i = 1#1 then k0_pay8 (a.point i x).dv else b12)
        ∗ sums c arg13 arg14 (a.point i x)) -∗ K ⟨⟩))
    ⊢ wp frame (wpE (defs₀ (F := F)) Variants.none c none) E
        (cc0_attn_bwd i arg2 harg2 arg3 harg3 arg4 harg4 arg5 harg5 arg6 harg6 arg7 harg7 arg8 harg8 arg9 harg9 arg10 harg10 arg11 harg11 arg12 harg12 arg13 harg13 arg14 harg14) K := by
  rw [cc0_attn_bwd_eq_skeleton]
  unfold cc0_attn_bwd_skel inputs
  dsimp only
  rw [wp_bind]
  iintro ⟨⟨H2, H3, H4, H5, H6, H7, H8, H9⟩, H10, H11, H12, HS, Hk⟩
  iapply (wp_wand_r frame (wpE (defs₀ (F := F)) Variants.none c none) E)
  isplitl [H2 H5 H6 H7 HS]
  · iapply (run_open (x := x) (a := a))
    unfold near
    isplitr [HS]
    · isplitl [H2]; · iexact H2
      isplitl [H5]; · iexact H5
      isplitl [H6]; · iexact H6
      iexact H7
    iexact HS
  iintro %y ⟨%hy, HN, HS⟩
  subst hy
  dsimp only
  rw [wp_bind]
  iapply (wp_wand_r frame (wpE (defs₀ (F := F)) Variants.none c none) E)
  isplitl [H3 H4 H8 HS]
  · iapply (run_sweep (k := x.k) (v := x.v) (a := a.start i) (cs := x.cs))
    unfold held sums
    icases HS with ⟨H13, H14⟩
    isplitr [H8]
    · isplitl [H3]; · iexact H3
      isplitl [H4]; · iexact H4
      isplitl [H13]; · iexact H13
      iexact H14
    iexact H8
  iintro %y ⟨%hy, HH, H8⟩
  subst hy
  dsimp only
  rw [show ((a.start i).trips i ⟨x.pt.ct, x.pt.ct0, x.pt.ct1, x.pt.d0, x.pt.d1, x.pt.s0, x.pt.s1, x.pt.q0, x.pt.q1⟩ x.k x.v (k0_t1_loop i).trips).last i
      ⟨x.pt.ct, x.pt.ct0, x.pt.ct1, x.pt.d0, x.pt.d1, x.pt.s0, x.pt.s1, x.pt.q0, x.pt.q1⟩ x.k x.v = a.point i x from rfl]
  unfold dqOut
  generalize a.point i x = b
  unfold held near sums owns
  icases HN with ⟨H2, H5, H6, H7⟩
  icases HH with ⟨H3, H4, ⟨%f13, %hf13, H13⟩, ⟨%f14, %hf14, H14⟩⟩
  icases H8 with ⟨%f8, %hf8, H8⟩
  icases H9 with ⟨%f9, %hf9, H9⟩
  icases H10 with ⟨%f10, %hf10, H10⟩
  icases H11 with ⟨%f11, %hf11, H11⟩
  icases H12 with ⟨%f12, %hf12, H12⟩
  obtain rfl := harg8.eq_unread hf8
  obtain rfl := harg9.eq_unread hf9
  obtain rfl := harg11.eq_unread hf11
  obtain rfl := harg12.eq_unread hf12
  obtain rfl := harg13.eq_unread hf13
  obtain rfl := harg14.eq_unread hf14
  by_cases h5 : k0_cond5 i = 1#1
  all_goals
    first
      | simp only [if_neg h5]
      | simp only [if_pos h5]
    sl_exec (disch := sl_exact h5)
    sl_step
    iapply Hk
    isplitr [H10 H11 H12 H13 H14]
    · isplitl [H2]; · iexact H2
      isplitl [H3]; · iexact H3
      isplitl [H4]; · iexact H4
      isplitl [H5]; · iexact H5
      isplitl [H6]; · iexact H6
      isplitl [H7]; · iexact H7
      isplitl [H8]
      · iexists _; isplitr; · ipureintro; exact harg8.read_unread _
        iexact H8
      iexists _; isplitr; · ipureintro; exact harg9.read_unread _
      iexact H9
    isplitl [H10]
    · iexists _; isplitr
      swap; · iexact H10
      ipureintro
      refine (View.read_writes_eq_canon _ _ _ (halves_cover _ _)).trans ?_
      frame_out
    isplitl [H11]
    · iexists _; isplitr
      swap; · iexact H11
      ipureintro
      first
        | rw [harg11.read_unread]
        | (refine (View.read_writes_full _ _ inb_S8192x256_S8192x256_0_0 _ _).trans ?_; frame_out <;> rfl)
    isplitl [H12]
    · iexists _; isplitr
      swap; · iexact H12
      ipureintro
      first
        | rw [harg12.read_unread]
        | (refine (View.read_writes_full _ _ inb_S8192x128_S8192x128_0_0 _ _).trans ?_; frame_out <;> rfl)
    isplitl [H13]
    · iexists _; isplitr; · ipureintro; exact harg13.read_unread _
      iexact H13
    iexists _; isplitr; · ipureintro; exact harg14.read_unread _
    iexact H14
end Run

end Cert.Kernel2Ideal.Attn

end
-- ==== Proof.Attn.Run.lean ====
module

public import proofs.«01_k».proof.Proof.Attn.Body
public import proofs.«01_k».proof.Proof.Gen.Kernel2Ideal.Points
public import proofs.«01_k».proof.Proof.Gen.Kernel2Ideal.Launch
public import Idealize.ShloMosaic.Lib.Claim

/-! The attention's backward call as a whole: what the outputs and the kept sums hold point by point, and the frame. -/

@[expose] public section

set_option maxRecDepth 16384

noncomputable section

namespace Cert.Kernel2Ideal.Attn

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The point's place within its pair. -/
theorem coords_1 (t : Fin cfg0.N) : (grid0.coords t 1).val = t.val % 16 := by
  have e : (grid0.coords t 1).val = t.val / 1 % 16 := Pipeline.Grid.coords_val t 1 (by decide) rfl
  rwa [Nat.div_one] at e

/-- The input blocks at a point. -/
def blocks (c : Dev nD) (t : Fin cfg0.N) : In F :=
  ⟨iblk m c 0 t, iblk m c 1 t, iblk m c 2 t, iblk m c 3 t, iblk m c 4 t, iblk m c 5 t, iblk m c 6 t, iblk m c 7 t⟩

/-- The sums after point `n`. -/
def sumsAt (c : Dev nD) : (n : ℕ) → n < cfg0.N → Sums F
  | 0, hn => Sums.point (grid0.coords ⟨0, hn⟩) (blocks m c ⟨0, hn⟩) ⟨k0_pay97, k0_pay98, k0_pay83, k0_pay84⟩
  | n + 1, hn => Sums.point (grid0.coords ⟨n + 1, hn⟩) (blocks m c ⟨n + 1, hn⟩) (sumsAt c n (Nat.lt_of_succ_lt hn))

/-- A pair's first point does not depend on what the sums' buffers held. -/
theorem point_first (i : grid0.Coords) (x : In F) (a b : Sums F) (h : first i) : a.point i x = b.point i x := by
  have e : a.start i = b.start i := by simp only [Sums.start, if_pos h]
  rw [Sums.point, Sums.point, e]

theorem sumsAt_first (c : Dev nD) (t : Fin cfg0.N) (h : t.val % 16 = 0) (a : Sums F) :
    a.point (grid0.coords t) (blocks m c t) = sumsAt m c t.val t.isLt := by
  have hf : first (grid0.coords t) := (first_iff _).mpr ((coords_1 t).trans h)
  obtain ⟨n, hn⟩ := t
  cases n with
  | zero => exact point_first _ _ _ _ hf
  | succ n => exact point_first _ _ _ _ hf

theorem sumsAt_later (c : Dev nD) (t : Fin cfg0.N) (h : ¬t.val % 16 = 0) :
    (sumsAt m c (t.val - 1) (Nat.lt_of_le_of_lt (Nat.sub_le _ _) t.isLt)).point (grid0.coords t) (blocks m c t) = sumsAt m c t.val t.isLt := by
  obtain ⟨n, hn⟩ := t
  cases n with
  | zero => exact absurd rfl h
  | succ n => rfl

/-- The sums' buffers at `a`, beside the generator's register. -/
def kept (c : Dev nD) (a : Sums F) : sProp 𝕄 :=
  iprop(sums c (Memref.whole cc0_scratch0) (Memref.whole cc0_scratch1) a ∗ ∃ r, prngReg c r)

/-- Between points the sums' buffers hold the sums so far; between pairs, anything. -/
def between (c : Dev nD) (s : Fin (cfg0.N + 1)) : sProp 𝕄 :=
  if h : s.val % 16 = 0 then Pipeline.ΦA spec0 c
  else kept c (sumsAt m c (s.val - 1) (Nat.lt_of_lt_of_le (Nat.sub_lt (Nat.pos_of_ne_zero fun e => h (by rw [e])) Nat.one_pos) (Nat.lt_succ_iff.mp s.isLt)))

/-- Forgetting the sums, -/
theorem kept_forget (c : Dev nD) (a : Sums F) : kept c a ⊢ (Pipeline.ΦA spec0 c : sProp 𝕄) := by
  unfold kept sums Pipeline.ΦA
  rw [scopedRest0_eq, owns_whole, owns_whole]
  iintro ⟨⟨H0, H1⟩, Hr⟩
  isplitr [Hr]
  · isplitl [H0]
    · iexists _; iexact H0
    iexists _; iexact H1
  iexact Hr

/-- and finding what the buffers hold. -/
theorem kept_find (c : Dev nD) : (Pipeline.ΦA spec0 c : sProp 𝕄) ⊢ iprop(∃ a, kept c a) := by
  unfold kept sums Pipeline.ΦA
  rw [scopedRest0_eq]
  iintro ⟨⟨⟨%f0, H0⟩, ⟨%f1, H1⟩⟩, Hr⟩
  iexists (⟨k0_pay97, k0_pay98, f0, f1⟩ : Sums F)
  rw [owns_whole, owns_whole]
  isplitr [Hr]
  · isplitl [H0]
    · iexact H0
    iexact H1
  iexact Hr

/-- The pipeline's data: the arrays as the region finds them, each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dqOut (blocks m c t) (sumsAt m c t.val t.isLt)
    | ⟨9, _⟩ => k0_pay7 (sumsAt m c t.val t.isLt).dk
    | ⟨10, _⟩ => k0_pay8 (sumsAt m c t.val t.isLt).dv
    | ⟨_ + 11, h⟩ => absurd h (Nat.not_lt.2 (Nat.le_add_left _ _))
  Φ s := between m c s
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = dqOut (blocks m c t) (sumsAt m c t.val t.isLt) := by dsimp only [dats]
theorem after_9 : (dats m 0 c).after 9 t = k0_pay7 (sumsAt m c t.val t.isLt).dk := by dsimp only [dats]
theorem after_10 : (dats m 0 c).after 10 t = k0_pay8 (sumsAt m c t.val t.isLt).dv := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d

theorem enter : (dats m 0 c).Φ t.castSucc ⊢ iprop(∃ a, ⌜a.point (grid0.coords t) (blocks m c t) = sumsAt m c t.val t.isLt⌝ ∗ kept c a) := by
  show between m c t.castSucc ⊢ _
  unfold between
  by_cases h : t.val % 16 = 0
  · rw [dif_pos (show t.castSucc.val % 16 = 0 from h)]
    refine (kept_find c).trans ?_
    iintro ⟨%a, H⟩
    iexists a
    isplitr
    · ipureintro; exact sumsAt_first m c t h a
    iexact H
  · rw [dif_neg (show ¬t.castSucc.val % 16 = 0 from h)]
    iintro H
    iexists _
    isplitr
    swap
    · iexact H
    ipureintro
    exact sumsAt_later m c t h

theorem leave : kept c (sumsAt m c t.val t.isLt) ⊢ (dats m 0 c).Φ t.succ := by
  show _ ⊢ between m c t.succ
  unfold between
  by_cases h : t.succ.val % 16 = 0
  · rw [dif_pos h]
    exact kept_forget c _
  · rw [dif_neg h]
    exact .rfl

theorem last_at : k0_cond5 (grid0.coords t) = 1#1 ↔ t.val % 16 = 15 := by rw [last_iff, coords_1]

/-- What is left in the two windows written at the pairs' last points. -/
theorem left_9 (d) : owns (c : Thread nD τ) (st0_9 t) fullShare (if k0_cond5 (grid0.coords t) = 1#1 then k0_pay7 (sumsAt m c t.val t.isLt).dk else (dats m 0 c).before 9 t d)
    ⊢ (dats m 0 c).leavesExact 9 t := by
  unfold Dat.leavesExact
  by_cases h : k0_cond5 (grid0.coords t) = 1#1
  · rw [if_pos h, show cfg0.idle 9 (cfg0.grid.coords t) = false from by show (!(k0_cond5 (grid0.coords t) == 1#1)) = false; rw [h]; rfl]
    dsimp only
    rw [after_9]
  · rw [if_neg h, show cfg0.idle 9 (cfg0.grid.coords t) = true from by show (!(k0_cond5 (grid0.coords t) == 1#1)) = true; rw [beq_false_of_ne h]; rfl,
      show (cfg0.win 9).flush t = false from Bool.eq_false_iff.mpr fun e => h ((last_at t).mpr ((flush0_9 t).mp e))]
    dsimp only
    iintro H
    iexists d
    iexact H
theorem left_10 (d) : owns (c : Thread nD τ) (st0_10 t) fullShare (if k0_cond5 (grid0.coords t) = 1#1 then k0_pay8 (sumsAt m c t.val t.isLt).dv else (dats m 0 c).before 10 t d)
    ⊢ (dats m 0 c).leavesExact 10 t := by
  unfold Dat.leavesExact
  by_cases h : k0_cond5 (grid0.coords t) = 1#1
  · rw [if_pos h, show cfg0.idle 10 (cfg0.grid.coords t) = false from by show (!(k0_cond5 (grid0.coords t) == 1#1)) = false; rw [h]; rfl]
    dsimp only
    rw [after_10]
  · rw [if_neg h, show cfg0.idle 10 (cfg0.grid.coords t) = true from by show (!(k0_cond5 (grid0.coords t) == 1#1)) = true; rw [beq_false_of_ne h]; rfl,
      show (cfg0.win 10).flush t = false from Bool.eq_false_iff.mpr fun e => h ((last_at t).mpr ((flush0_10 t).mp e))]
    dsimp only
    iintro H
    iexists d
    iexact H

/-- What the body is called with at a point, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (dats m 0 c).leavesExact 9 t ∗ (dats m 0 c).leavesExact 10 t)

set_option maxHeartbeats 3200000 in
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl,
    after_0, after_1, after_2, after_3, after_4, after_5, after_6, after_7, after_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave HΦ := (enter m c t) $$ HΦ
  icases HΦ with ⟨%a, %ha, HK⟩
  unfold kept
  icases HK with ⟨HS, Hr⟩
  iapply (run_point c (grid0.coords t) (x := blocks m c t) (a := a))
  rw [ha]
  unfold inputs
  isplitl [H0 H1 H2 H3 H4 H5 H6 H7]
  · unfold blocks
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  isplitl [H10]; · iexact H10
  isplitl [HS]; · iexact HS
  iintro ⟨⟨H0, H1, H2, H3, H4, H5, H6, H7⟩, H8, H9, H10, HS⟩
  isplitl [HS Hr]
  · iapply (leave m c t)
    unfold kept
    isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iapply (left_9 m c t d9); iexact H9
  iapply (left_10 m c t d10); iexact H10
end

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem between_0 (c : Dev nD) : Pipeline.ΦA spec0 c ⊢ (dats m 0 c).Φ 0 := by
  show _ ⊢ between m c 0
  unfold between
  rw [dif_pos (by rfl)]

theorem between_end (c : Dev nD) : (dats m 0 c).Φ (Fin.last cfg0.N) ⊢ (Pipeline.ΦA spec0 c : sProp 𝕄) := by
  show between m c (Fin.last cfg0.N) ⊢ _
  unfold between
  rw [dif_pos (show (Fin.last cfg0.N).val % 16 = 0 from by rw [Fin.val_last]; decide +kernel)]

set_option backward.isDefEq.respectTransparency.types false in
set_option maxHeartbeats 800000 in
/-- The launch: the arrays end at what the library computes from the data, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := between_0 m) (hout := between_end m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.Kernel2Ideal.Attn

end
-- ==== Proof.Norm.lean ====
module

public import Idealize.ShloMosaic.Lib.Pointwise

/-! The gradient of a root mean square norm at one entry of a row, as the product rule writes it and as it is usually computed. They agree
    where the row and the incoming gradient are real numbers. -/

@[expose] public section

set_option maxRecDepth 16384

noncomputable section

namespace Cert.Norm

open Idealize.ShloMosaic

/-- The small number added to the mean of the squares. -/
abbrev eps : EReal := Ideal.ofBits .f32 0x3727C5AC#32

theorem eps_eq : eps = ((10995116 * (2 ^ 40)⁻¹ : ℝ) : EReal) := by
  simp [eps, Ideal.ofBits, Ideal.ieee, -EReal.coe_mul]

theorem half_eq : Ideal.ofBits .f32 0xBF000000#32 = ((-(1 / 2) : ℝ) : EReal) := by
  simp [Ideal.ofBits, Ideal.ieee, -EReal.coe_mul, -EReal.coe_neg]
  norm_num

theorem neg_one_eq : Ideal.ofBits .f32 0xBF800000#32 = ((-1 : ℝ) : EReal) := by
  simp [Ideal.ofBits, Ideal.ieee, -EReal.coe_mul, -EReal.coe_neg]
  norm_num

theorem width_256 : Ideal.ofBits .f32 0x43800000#32 = ((256 : ℝ) : EReal) := by
  simp [Ideal.ofBits, Ideal.ieee, -EReal.coe_mul]
  norm_num

theorem width_128 : Ideal.ofBits .f32 0x43000000#32 = ((128 : ℝ) : EReal) := by
  simp [Ideal.ofBits, Ideal.ieee, -EReal.coe_mul]
  norm_num

/-- A value that is a real number. -/
def IsReal (e : EReal) : Prop := ∃ r : ℝ, e = (r : EReal)

theorem IsReal.mul {a b : EReal} (ha : IsReal a) (hb : IsReal b) : IsReal (a * b) := by
  obtain ⟨r, rfl⟩ := ha
  obtain ⟨q, rfl⟩ := hb
  exact ⟨r * q, (EReal.coe_mul r q).symm⟩

theorem IsReal.add {a b : EReal} (ha : IsReal a) (hb : IsReal b) : IsReal (a + b) := by
  obtain ⟨r, rfl⟩ := ha
  obtain ⟨q, rfl⟩ := hb
  exact ⟨r + q, (EReal.coe_add r q).symm⟩

theorem coe_sum {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

theorem IsReal.sum {ι : Type*} (S : Finset ι) {f : ι → EReal} (h : ∀ i, IsReal (f i)) : IsReal (∑ i ∈ S, f i) := by
  choose g hg using h
  exact ⟨∑ i ∈ S, g i, by simp only [hg, coe_sum]⟩

section
variable {n : ℕ} (N : EReal) (x d : Fin n → EReal) (j : Fin n)

/-- The mean of the squares of a row, plus the small number, and its reciprocal square root. -/
def square : EReal := Ideal.div (∑ k, x k * x k) N + eps
def scale : EReal := Ideal.rsqrt (square N x)

/-- The gradient by the product rule. -/
def rule : EReal :=
  let c := Ideal.div ((∑ k, x k * d k) * (Ideal.ofBits .f32 0xBF000000#32 * Ideal.div (scale N x) (square N x))) N
  d j * scale N x + x j * c + c * x j

/-- The gradient with the normalised row. -/
def grad : EReal := d j - x j * scale N x * Ideal.div (∑ k, d k * (x k * scale N x)) N

theorem grad_eq {w : ℝ} (hw : 0 < w) (hN : N = (w : EReal)) (hx : ∀ k, IsReal (x k)) (hd : ∀ k, IsReal (d k)) :
    scale N x * grad N x d j = rule N x d j := by
  choose a ha using hx
  choose p hp using hd
  obtain rfl : x = fun k => ((a k : ℝ) : EReal) := funext ha
  obtain rfl : d = fun k => ((p k : ℝ) : EReal) := funext hp
  subst hN
  have hU : 0 < (∑ k, a k * a k) * (1 / w) + 10995116 * (2 ^ 40)⁻¹ := by
    have : 0 ≤ ∑ k, a k * a k := Finset.sum_nonneg fun k _ => mul_self_nonneg _
    positivity
  generalize hu : (∑ k, a k * a k) * (1 / w) + 10995116 * (2 ^ 40)⁻¹ = u at hU
  have hsq : square (w : EReal) (fun k => ((a k : ℝ) : EReal)) = (u : EReal) := by
    unfold square
    rw [Ideal.div_coe hw.ne', eps_eq]
    simp only [← EReal.coe_mul, coe_sum, ← EReal.coe_add]
    rw [← hu]
  have hsc : scale (w : EReal) (fun k => ((a k : ℝ) : EReal)) = (((Real.sqrt u)⁻¹ : ℝ) : EReal) := by
    unfold scale
    rw [hsq, Ideal.rsqrt_coe, if_neg (not_lt.mpr hU.le), if_neg hU.ne']
  have hr : (Real.sqrt u)⁻¹ * (Real.sqrt u)⁻¹ = 1 / u := by
    rw [← mul_inv, Real.mul_self_sqrt hU.le, one_div]
  unfold rule grad
  simp only [hsq, hsc, half_eq, Ideal.div_coe hw.ne', Ideal.div_coe hU.ne', ← EReal.coe_mul, coe_sum, ← EReal.coe_add, ← EReal.coe_sub]
  rw [EReal.coe_eq_coe_iff]
  generalize (Real.sqrt u)⁻¹ = r at hr ⊢
  have h1 : ∑ k, p k * (a k * r) = r * ∑ k, a k * p k := by
    rw [Finset.mul_sum]
    exact Finset.sum_congr rfl fun k _ => by ring
  rw [h1]
  generalize ∑ k, a k * p k = S
  linear_combination (-(a j * r * S * (1 / w))) * hr

end

end Cert.Norm
-- ==== Proof.Finiteness.lean ====
module

public import proofs.«01_k».proof.Proof.Norm
public import Idealize.ShloMosaic.Lib.Pointwise

/-! A conjunction over all entries of an array holds at each of them; an entry below infinity is a real number. -/

@[expose] public section

noncomputable section

namespace Cert.Finiteness

open Idealize.ShloMosaic Cert.Norm

theorem and_one {a b : BitVec 1} (h : IntOp.andi a b = 1#1) : a = 1#1 ∧ b = 1#1 := by
  revert h
  unfold IntOp.andi
  revert a b
  decide

theorem foldl_one {ι : Type} (f : ι → BitVec 1) : ∀ (l : List ι) (a : BitVec 1),
    l.foldl (fun r n => IntOp.andi r (f n)) a = 1#1 → a = 1#1 ∧ ∀ n ∈ l, f n = 1#1
  | [], a, h => ⟨h, by simp⟩
  | x :: l, a, h => by
    have h1 := foldl_one f l _ h
    have h2 := and_one h1.1
    refine ⟨h2.1, fun n hn => ?_⟩
    rcases List.mem_cons.mp hn with rfl | hn
    · exact h2.2
    · exact h1.2 n hn

theorem reduce_one {s t u : Shape} {axes : List (Fin s.rank)} (x : s.Idx → BitVec 1) (v : u.Idx → BitVec 1)
    (h : s.ReducesTo axes t) (hu : 0 < u.numel) (j : t.Idx) (e : Host.reduce IntOp.andi x v h hu j = 1#1) (i : s.Idx) (hi : h.drop i = j) :
    x i = 1#1 := by
  have := (foldl_one (fun n => x (s.rowMajor.symm n)) _ _ e).2 (s.rowMajor i) (by
    simp [List.mem_filter, hi])
  simpa using this

theorem real_of_lt (a : EReal) (h : max a (-a) < ⊤) : IsReal a := by
  induction a with
  | bot => simp at h
  | top => simp at h
  | coe r => exact ⟨r, rfl⟩

end Cert.Finiteness
-- ==== Proof.Attn.Math.lean ====
module

public import proofs.«01_k».proof.Proof.Norm
public import proofs.«01_k».proof.Proof.Finiteness
public import Idealize.ShloMosaic.Lib.Pointwise

/-! The causal attention of one device and its gradients, over the real numbers. -/

@[expose] public section

noncomputable section

namespace Cert.Attention

open Idealize.ShloMosaic Cert.Norm

/-- The scores' scale. -/
def width : ℝ := (Ideal.ofBits .f32 0x3DD105EC#32).toReal

theorem width_eq : Ideal.ofBits .f32 0x3DD105EC#32 = (width : EReal) := by
  have h : IsReal (Ideal.ofBits .f32 0x3DD105EC#32) := ⟨_, by
    simp [Ideal.ofBits, Ideal.ieee, -EReal.coe_mul]
    rfl⟩
  obtain ⟨r, hr⟩ := h
  unfold width
  rw [hr, EReal.toReal_coe]

/-- A head's queries, keys and values, the output's cotangent and the rotation's angles. -/
structure Data where
  q : Fin 8192 → Fin 8 → Fin 96 → ℝ
  k : Fin 8192 → Fin 8 → Fin 96 → ℝ
  v : Fin 8192 → Fin 8 → Fin 64 → ℝ
  ct : Fin 8192 → Fin 8 → Fin 64 → ℝ
  angle : Fin 8192 → Fin 16 → ℝ

/-- The angle of a position, as both programs state it. -/
def turn (x3 : IVec ⟨2, ![1, 8192]⟩ 32) (s : Fin 8192) (f : Fin 16) : EReal :=
  FloatOps.sitofp (F := Ideal) .f32 (x3 (ix2 0 s)) * Ideal.div 1 (Ideal.pow (Ideal.ofBits .f32 0x461C4000#32)
    (Ideal.div (FloatOps.sitofp (F := Ideal) .f32 (BitVec.ofNat 32 f.val)) (Ideal.ofBits .f32 0x41800000#32)))

/-- The arguments are this data. -/
structure Holds (x0 x1 : FVec Ideal ⟨4, ![1, 8192, 8, 96]⟩ .f32) (x2 : FVec Ideal ⟨4, ![1, 8192, 8, 64]⟩ .f32) (x3 : IVec ⟨2, ![1, 8192]⟩ 32)
    (x4 : FVec Ideal ⟨3, ![1, 8192, 512]⟩ .f32) (D : Data) : Prop where
  q : ∀ s h e, x0 (ix4 0 s h e) = (D.q s h e : EReal)
  k : ∀ s h e, x1 (ix4 0 s h e) = (D.k s h e : EReal)
  v : ∀ s h e, x2 (ix4 0 s h e) = (D.v s h e : EReal)
  ct : ∀ (s : Fin 8192) (h : Fin 8) (e : Fin 64), x4 (ix3 0 s ⟨64 * h.val + e.val, by omega⟩) = (D.ct s h e : EReal)
  angle : ∀ s f, turn x3 s f = (D.angle s f : EReal)

variable (D : Data)

/-- The rotated queries. -/
def turned (s : Fin 8192) (h : Fin 8) (e : Fin 96) : ℝ :=
  if e.val < 64 then D.q s h e else
  if h1 : e.val - 64 < 16 then D.q s h ⟨64 + (e.val - 64), by omega⟩ * Real.cos (D.angle s ⟨e.val - 64, h1⟩) - D.q s h ⟨64 + (16 + (e.val - 64)), by omega⟩ * Real.sin (D.angle s ⟨e.val - 64, h1⟩)
  else D.q s h ⟨64 + (e.val - 64 - 16), by omega⟩ * Real.sin (D.angle s ⟨e.val - 64 - 16, by omega⟩) + D.q s h ⟨64 + (16 + (e.val - 64 - 16)), by omega⟩ * Real.cos (D.angle s ⟨e.val - 64 - 16, by omega⟩)

/-- The scores, and their exponentials up to the query. -/
def score (h : Fin 8) (s r : Fin 8192) : ℝ := (∑ e, turned D s h e * D.k r h e) * width
def power (h : Fin 8) (s r : Fin 8192) : ℝ := if r.val ≤ s.val then Real.exp (score D h s r) else 0
def total (h : Fin 8) (s : Fin 8192) : ℝ := ∑ r, power D h s r

/-- The probabilities, and the gradient of what they multiply. -/
def prob (h : Fin 8) (s r : Fin 8192) : ℝ := power D h s r / total D h s
def dprob (h : Fin 8) (s r : Fin 8192) : ℝ := ∑ e, D.ct s h e * D.v r h e

/-- The scores' gradient, with the scale. -/
def dscore (h : Fin 8) (s r : Fin 8192) : ℝ := prob D h s r * (dprob D h s r - ∑ t, prob D h s t * dprob D h s t) * width

/-- The gradients of the rotated queries, of the queries, of the keys and of the values. -/
def gturned (s : Fin 8192) (h : Fin 8) (e : Fin 96) : ℝ := ∑ r, dscore D h s r * D.k r h e
def gq (s : Fin 8192) (h : Fin 8) (e : Fin 96) : ℝ :=
  if e.val < 64 then gturned D s h e else
  if h1 : e.val - 64 < 16 then gturned D s h ⟨64 + (16 + (e.val - 64)), by omega⟩ * Real.sin (D.angle s ⟨e.val - 64, h1⟩) + gturned D s h ⟨64 + (e.val - 64), by omega⟩ * Real.cos (D.angle s ⟨e.val - 64, h1⟩)
  else gturned D s h ⟨64 + (16 + (e.val - 64 - 16)), by omega⟩ * Real.cos (D.angle s ⟨e.val - 64 - 16, by omega⟩) - gturned D s h ⟨64 + (e.val - 64 - 16), by omega⟩ * Real.sin (D.angle s ⟨e.val - 64 - 16, by omega⟩)
def gk (r : Fin 8192) (h : Fin 8) (e : Fin 96) : ℝ := ∑ s, dscore D h s r * turned D s h e
def gv (r : Fin 8192) (h : Fin 8) (e : Fin 64) : ℝ := ∑ s, D.ct s h e * prob D h s r

theorem power_nonneg (h : Fin 8) (s r : Fin 8192) : 0 ≤ power D h s r := by
  unfold power
  split
  · exact (Real.exp_pos _).le
  · exact le_rfl

theorem total_pos (h : Fin 8) (s : Fin 8192) : 0 < total D h s := by
  unfold total
  refine Finset.sum_pos' (fun r _ => power_nonneg D h s r) ⟨s, Finset.mem_univ _, ?_⟩
  unfold power
  rw [if_pos le_rfl]
  exact Real.exp_pos _

/-- A row's exponentials after its scores were lowered. -/
def lowered (M : ℝ) (h : Fin 8) (s r : Fin 8192) : ℝ := if r.val ≤ s.val then Real.exp (score D h s r - M) else 0

theorem lowered_eq (M : ℝ) (h : Fin 8) (s r : Fin 8192) : lowered D M h s r = Real.exp (-M) * power D h s r := by
  unfold lowered power
  split
  · rw [← Real.exp_add]
    congr 1
    ring
  · rw [mul_zero]

theorem sum_lowered (M : ℝ) (h : Fin 8) (s : Fin 8192) : ∑ r, lowered D M h s r = Real.exp (-M) * total D h s := by
  simp only [lowered_eq, total, Finset.mul_sum]

theorem sum_lowered_pos (M : ℝ) (h : Fin 8) (s : Fin 8192) : 0 < ∑ r, lowered D M h s r := by
  rw [sum_lowered]
  exact mul_pos (Real.exp_pos _) (total_pos D h s)

/-- The probabilities do not depend on it. -/
theorem prob_eq (M : ℝ) (h : Fin 8) (s r : Fin 8192) : lowered D M h s r / ∑ t, lowered D M h s t = prob D h s r := by
  rw [sum_lowered, lowered_eq, prob, mul_div_mul_left _ _ (Real.exp_pos _).ne']

/-- The probabilities to the base 2, from the logarithm of the row's sum. -/
theorem prob_base (M : ℝ) (h : Fin 8) (s r : Fin 8192) (hr : r.val ≤ s.val) :
    Real.rpow 2 ((∑ e, D.k r h e * (turned D s h e * (width / Real.log 2))) - (M + Real.log (∑ t, lowered D M h s t)) / Real.log 2) = prob D h s r := by
  have h2 : Real.log 2 ≠ 0 := (Real.log_pos one_lt_two).ne'
  have e1 : (∑ e, D.k r h e * (turned D s h e * (width / Real.log 2))) = score D h s r / Real.log 2 := by
    unfold score
    rw [Finset.sum_mul, Finset.sum_div]
    refine Finset.sum_congr rfl fun e _ => ?_
    ring
  rw [e1, ← sub_div, ← prob_eq D M]
  rw [Real.rpow_eq_pow, Real.rpow_def_of_pos two_pos, mul_div_cancel₀ _ h2, sub_add_eq_sub_sub, Real.exp_sub, Real.exp_log (sum_lowered_pos D M h s)]
  unfold lowered
  rw [if_pos hr]

theorem prob_after (h : Fin 8) (s r : Fin 8192) (hr : ¬r.val ≤ s.val) : prob D h s r = 0 := by
  unfold prob power
  rw [if_neg hr, zero_div]

/-- The sum the scores' gradients share, from the attention's output. -/
theorem shared (h : Fin 8) (s : Fin 8192) :
    ∑ e, D.ct s h e * ∑ r, D.v r h e * prob D h s r = ∑ t, prob D h s t * dprob D h s t := by
  simp only [dprob, Finset.mul_sum]
  rw [Finset.sum_comm]
  refine Finset.sum_congr rfl fun r _ => Finset.sum_congr rfl fun e _ => ?_
  ring

theorem div_real (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

theorem div_total (a b : ℝ) (hb : 0 < b) : Ideal.div (a : EReal) (b : EReal) = ((a / b : ℝ) : EReal) := div_real a b hb.ne'

theorem log_real (a : ℝ) (ha : 0 < a) : Ideal.log (a : EReal) = (Real.log a : EReal) := by
  rw [Ideal.log_coe, if_neg (not_le.mpr ha)]

theorem foldl_max {ι : Type} (f : ι → EReal) : ∀ (l : List ι) (a : EReal), a ≠ ⊤ → (∀ n ∈ l, f n ≠ ⊤) →
    l.foldl (fun r n => max r (f n)) a ≠ ⊤ ∧ a ≤ l.foldl (fun r n => max r (f n)) a ∧ ∀ n ∈ l, f n ≤ l.foldl (fun r n => max r (f n)) a
  | [], a, ha, _ => ⟨ha, le_rfl, by simp⟩
  | x :: l, a, ha, hf => by
    have hx := hf x (List.mem_cons_self ..)
    have h := foldl_max f l (max a (f x)) (by rcases max_choice a (f x) with e | e <;> rw [e] <;> assumption) fun n hn => hf n (List.mem_cons_of_mem _ hn)
    refine ⟨h.1, (le_max_left _ _).trans h.2.1, fun n hn => ?_⟩
    rcases List.mem_cons.mp hn with rfl | hn
    · exact (le_max_right _ _).trans h.2.1
    · exact h.2.2 n hn

/-- A row's largest entry is a real number when one of its entries is and none is infinite upwards. -/
theorem largest_real {s t u : Shape} {axes : List (Fin s.rank)} (x : s.Idx → EReal) (v : u.Idx → EReal) (h : s.ReducesTo axes t) (hu : 0 < u.numel) (j : t.Idx)
    (hv : ∀ i, v i ≠ ⊤) (hx : ∀ i, x i ≠ ⊤) (i : s.Idx) (hi : h.drop i = j) (hr : x i ≠ ⊥) : IsReal (Host.reduce (FloatOps.maximumf (F := Ideal) (φ := .f32)) x v h hu j) := by
  have hf := foldl_max (fun n => x (s.rowMajor.symm n)) ((List.finRange s.numel).filter fun n => h.drop (s.rowMajor.symm n) = j) (v (Shape.Idx.first hu)) (hv _) fun n _ => hx _
  have h2 := hf.2.2 (s.rowMajor i) (by simp [List.mem_filter, hi])
  simp only [Equiv.symm_apply_apply] at h2
  have hb : Host.reduce (FloatOps.maximumf (F := Ideal) (φ := .f32)) x v h hu j ≠ ⊥ := fun e => hr (le_bot_iff.mp (e ▸ h2))
  have ht : Host.reduce (FloatOps.maximumf (F := Ideal) (φ := .f32)) x v h hu j ≠ ⊤ := hf.1
  exact ⟨_, (EReal.coe_toReal ht hb).symm⟩

/-- A comparison of two positions. -/
theorem select_upto (r s : Fin 8192) (x y : EReal) :
    Scalar.select (IntOp.cmpi .sle (BitVec.ofNat 32 r.val) (BitVec.ofNat 32 s.val)) x y = if r.val ≤ s.val then x else y := by
  have w : ∀ a : Fin 8192, (BitVec.ofNat 32 a.val).toInt = a.val := fun a => by
    have := a.isLt
    rw [BitVec.toInt_eq_toNat_of_lt, BitVec.toNat_ofNat, Nat.mod_eq_of_lt (by omega)]
    rw [BitVec.toNat_ofNat, Nat.mod_eq_of_lt (by omega)]
    omega
  have e : (BitVec.ofNat 32 r.val).sle (BitVec.ofNat 32 s.val) = decide (r.val ≤ s.val) := by
    rw [BitVec.sle_eq_decide, w, w]
    congr 1
    simp only [eq_iff_iff, Int.ofNat_le]
  simp only [IntOp.cmpi, e, Scalar.select]
  by_cases h : r.val ≤ s.val <;> simp [h]

theorem neg_infinity : Ideal.ofBits .f32 0xFF800000#32 = ⊥ := by
  simp [Ideal.ofBits, Ideal.ieee]

/-- Rank 4, the first and the last axis summed away. -/
theorem ends {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (b : Fin n2) :
    Ideal.hostReduceAdd h v init (ix2 a b) = init + ∑ i : Fin n0, ∑ j : Fin n3, v (ix4 i a b j) := by
  refine congrArg (init + ·) ((Finset.sum_filter_eq_sum_of_fiber _ (fun k : Fin n0 × Fin n3 => ix4 k.1 a b k.2)
    (fun _ _ e => Prod.ext (congrFun e 0) (congrFun e 3)) (fun i => ?_) v).trans (Fintype.sum_prod_type _))
  constructor
  · intro e
    refine ⟨(i 0, i 3), funext fun c => Fin.ext ?_⟩
    match c with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext c
    match c with
    | ⟨0, _⟩ => exact Fin.ext rfl
    | ⟨1, _⟩ => exact Fin.ext rfl

/-- The masked scores' exponentials. -/
theorem exp_masked (M : ℝ) (h : Fin 8) (s r : Fin 8192) :
    Ideal.exp ((if r.val ≤ s.val then (score D h s r : EReal) else ⊥) - (M : EReal)) = (lowered D M h s r : EReal) := by
  unfold lowered
  split
  · rw [← EReal.coe_sub, Ideal.exp_coe]
  · rw [EReal.bot_sub, Ideal.exp_bot, EReal.coe_zero]

/-- A row's largest masked score is a real number. -/
theorem masked_largest (x : (⟨4, ![1, 8, 8192, 8192]⟩ : Shape).Idx → EReal) {u : Shape} (v : u.Idx → EReal) (hv : ∀ i, v i = ⊥)
    (hx : ∀ h s r, x (ix4 0 h s r) = if r.val ≤ s.val then (score D h s r : EReal) else ⊥)
    (hd : (⟨4, ![1, 8, 8192, 8192]⟩ : Shape).ReducesTo [3] ⟨3, ![1, 8, 8192]⟩) (hu : 0 < u.numel) :
    ∃ M : Fin 8 → Fin 8192 → ℝ, ∀ h s, Host.reduce (FloatOps.maximumf (F := Ideal) (φ := .f32)) x v hd hu (ix3 0 h s) = (M h s : EReal) := by
  have : ∀ h s, IsReal (Host.reduce (FloatOps.maximumf (F := Ideal) (φ := .f32)) x v hd hu (ix3 0 h s)) := fun h s => by
    refine largest_real x v hd hu (ix3 0 h s) (fun i => by rw [hv]; exact bot_ne_top) (fun i => ?_) (ix4 0 h s s) ?_ ?_
    · refine ne_of_eq_of_ne ((congrArg x ((eq_ix4 i).trans (congrArg (fun a : Fin 1 => ix4 a (i 1) (i 2) (i 3))
        (@Subsingleton.elim (Fin 1) _ (i 0) 0)))).trans (hx (i 1) (i 2) (i 3))) ?_
      split
      · exact EReal.coe_ne_top _
      · exact bot_ne_top
    · funext c
      match c with
      | ⟨0, _⟩ => exact Fin.ext rfl
      | ⟨1, _⟩ => exact Fin.ext rfl
      | ⟨2, _⟩ => exact Fin.ext rfl
    · rw [hx, if_pos le_rfl]
      exact EReal.coe_ne_bot _
  choose M hM using this
  exact ⟨M, hM⟩

/-- The scores' gradient as the reference's line has it. -/
theorem slope_eq {n : ℕ} (d e : Fin n → ℝ) (l : ℝ) (hl : 0 < l) (r : Fin n) :
    (d r / l + -∑ t, d t * (1 / (l * l)) * e t) * e r = e r / l * (d r - ∑ t, e t / l * d t) := by
  have : ∑ t, d t * (1 / (l * l)) * e t = (∑ t, e t / l * d t) / l := by
    rw [Finset.sum_div]
    refine Finset.sum_congr rfl fun t _ => ?_
    field_simp
  rw [this]
  field_simp
  ring

/-- Finite arguments are some data. -/
theorem exists_data (x0 x1 : FVec Ideal ⟨4, ![1, 8192, 8, 96]⟩ .f32) (x2 : FVec Ideal ⟨4, ![1, 8192, 8, 64]⟩ .f32) (x3 : IVec ⟨2, ![1, 8192]⟩ 32)
    (x4 : FVec Ideal ⟨3, ![1, 8192, 512]⟩ .f32) (h0 : ∀ i, IsReal (x0 i)) (h1 : ∀ i, IsReal (x1 i)) (h2 : ∀ i, IsReal (x2 i)) (h4 : ∀ i, IsReal (x4 i)) :
    ∃ D, Holds x0 x1 x2 x3 x4 D := by
  choose r0 h0 using h0
  choose r1 h1 using h1
  choose r2 h2 using h2
  choose r4 h4 using h4
  have ha : ∀ s f, IsReal (turn x3 s f) := fun s f => by
    unfold turn
    refine IsReal.mul ⟨((x3 (ix2 0 s)).toInt : ℝ), rfl⟩ ?_
    have e1 : Ideal.ofBits .f32 0x41800000#32 = ((16 : ℝ) : EReal) := by
      simp [Ideal.ofBits, Ideal.ieee, -EReal.coe_mul]
      norm_num
    have e2 : Ideal.ofBits .f32 0x461C4000#32 = ((10000 : ℝ) : EReal) := by
      simp [Ideal.ofBits, Ideal.ieee, -EReal.coe_mul]
      norm_num
    rw [e1, e2, ← EReal.coe_one]
    show IsReal (Ideal.div _ (Ideal.pow _ (Ideal.div (((BitVec.ofNat 32 f.val).toInt : ℝ) : EReal) _)))
    rw [div_real _ _ (by norm_num)]
    refine ⟨_, div_real _ _ (Real.rpow_pos_of_pos (by norm_num) _).ne'⟩
  choose ra ha using ha
  exact ⟨⟨fun s h e => r0 (ix4 0 s h e), fun s h e => r1 (ix4 0 s h e), fun s h e => r2 (ix4 0 s h e),
    fun s h e => r4 (ix3 0 s ⟨64 * h.val + e.val, by omega⟩), ra⟩, ⟨fun s h e => h0 _, fun s h e => h1 _, fun s h e => h2 _, fun s h e => h4 _, ha⟩⟩

end Cert.Attention
-- ==== Proof.Attn.Entry.lean ====
module

public import proofs.«01_k».proof.Proof.Attn.Run
public import proofs.«01_k».proof.Proof.Attn.Math
public import Idealize.ShloMosaic.Lib.Pointwise

/-! What the host line of the attention's backward call has put into the windows' arrays when the region starts. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

/-- The host line's pieces and the buffers each of them writes. -/
abbrev piece : ℕ → List (HloOp τ sig (Elt Ideal))
  | 0 => hostOps0
  | 1 => hostOps0_1
  | 2 => hostOps0_2
  | 3 => hostOps0_3
  | 4 => hostOps0_4
  | 5 => hostOps0_5
  | 6 => hostOps0_6
  | 7 => hostOps0_7
  | 8 => hostOps0_8
  | 9 => hostOps0_9
  | 10 => hostOps0_10
  | _ => []
abbrev written : ℕ → List (Ref sig .tc)
  | 0 => [main_v0, main_cst, main_v1, main_v2, main_cst_0, main_v3, main_v4, main_cst_1, main_v5, main_v6, main_cst_2, main_v7, main_cst_3, main_v8, main_v9, main_v10, main_v11, main_v12, main_v13, main_v14, main_v15, main_v16, main_v17, main_v18, main_v19, main_v20, main_c, main_v21, main_v22, main_c_4, main_v23, main_v24, main_v25, main_c_5, main_v26, main_v27, main_v28, main_c_6, main_v29, main_v30, main_c_7, main_v31, main_v32, main_v33, main_c_8, main_v34, main_v35, main_v36, main_cst_9, main_cst_10]
  | 1 => [main_call0_v0, main_call0_v1, main_v37]
  | 2 => [main_cst_11]
  | 3 => [main_call1_v0, main_v38]
  | 4 => [main_v39, main_v40, main_v41, main_v42, main_cst_12, main_v43, main_v44, main_cst_13, main_v45, main_v46, main_cst_14, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73, main_cst_15, main_v74, main_v75, main_v76, main_v77, main_v78, main_v79, main_v80, main_v81, main_v82, main_v83, main_cst_16]
  | 5 => [main_call2_v0, main_call2_v1, main_call2_v2, main_v84]
  | 6 => [main_cst_17, main_v85, main_v86, main_v87, main_v88, main_v89, main_cst_18, main_v90, main_v91, main_v92, main_v93, main_v94, main_v95, main_v96, main_cst_19, main_v97, main_v98, main_v99, main_v100, main_v101, main_v102, main_v103, main_cst_20, main_v104, main_v105, main_v106, main_c_21]
  | 7 => [main_call3_v0, main_v107]
  | 8 => [main_v108, main_v109, main_c_22]
  | 9 => [main_call4_v0, main_v110]
  | 10 => [main_v111, main_v112, main_v113, main_v114, main_v115, main_v116]
  | _ => []

/-- The contents after the first `k` pieces. -/
def upto (σ : Valuation τ sig (Elt Ideal)) : ℕ → Valuation τ sig (Elt Ideal)
  | 0 => σ
  | k + 1 => StableHlo.after (piece k) (upto σ k)

theorem upto_succ (σ : Valuation τ sig (Elt Ideal)) (k : ℕ) : upto σ (k + 1) = StableHlo.after (piece k) (upto σ k) := rfl

theorem piece_writes (k : ℕ) (hk : k < 11) :
    (piece k).Forall fun op => op.writes ⊆ ((written k).map (Proc.devRef (τ := τ) .tc)).toFinset := by
  interval_cases k <;>
  · simp only [piece, written, List.Forall, StableHlo.nullary_writes, StableHlo.unary_writes, StableHlo.binary_writes, StableHlo.ternary_writes,
      StableHlo.reshape_writes, StableHlo.nary_writes, Finset.singleton_subset_iff, List.mem_toFinset]
    repeat' apply And.intro
    all_goals exact List.mem_map_of_mem (by decide)

/-- A buffer that a stretch of pieces does not write keeps its contents through it. -/
theorem upto_keep (σ : Valuation τ sig (Elt Ideal)) (r : Ref sig .tc) (k d : ℕ) (hk : k + d ≤ 11) (h : ∀ i < d, r ∉ written (k + i)) :
    upto σ (k + d) (Proc.devRef .tc r) = upto σ k (Proc.devRef .tc r) := by
  induction d with
  | zero => rfl
  | succ d ih =>
    rw [← ih (by omega) fun i hi => h i (by omega)]
    exact StableHlo.after_of_writes_sub (piece (k + d)) _ (piece_writes (k + d) (by omega)) (h d (by omega))

variable (m : (ℓ : Loc nD τ sig) → Buf (Elt Ideal) ℓ) (c : Dev nD)

/-- What the device holds at launch. -/
abbrev launched : Valuation τ sig (Elt Ideal) := fun b => m (c, b)

theorem V0_eq : V0 m c = upto (launched m c) 11 := by
  unfold V0
  simp only [List.flatten_cons, List.flatten_nil, List.append_nil, StableHlo.after_append]
  rfl

/-- A window's array is what its producing piece left. -/
theorem V_eq (r : Ref sig .tc) (k d : ℕ) (hk : k + d = 11) (h : ∀ i < d, r ∉ written (k + i)) :
    V m c r = upto (launched m c) k (Proc.devRef .tc r) := by
  show V0 m c _ = _
  rw [V0_eq, ← hk]
  exact upto_keep _ r k d hk.le h

/-- An argument keeps its contents through the whole line. -/
theorem arg_eq (r : Ref sig .tc) (k : ℕ) (hk : k ≤ 11) (h : ∀ i < k, r ∉ written (0 + i)) :
    upto (launched m c) k (Proc.devRef .tc r) = m (c, Proc.devRef .tc r) := by
  have := upto_keep (launched m c) r 0 k (by omega) h
  rwa [Nat.zero_add] at this

theorem zero_word : (show EReal from FloatOps.sitofp (F := Ideal) .f32 0#32) = 0 := by
  show (((0#32 : BitVec 32).toInt : ℝ) : EReal) = 0
  simp

/-- The arguments hold the data. -/
abbrev Given (D : Data) : Prop := Holds (m (c, Proc.devRef .tc main_arg0)) (m (c, Proc.devRef .tc main_arg1)) (m (c, Proc.devRef .tc main_arg2))
  (m (c, Proc.devRef .tc main_arg3)) (m (c, Proc.devRef .tc main_arg4)) D

end Cert.Kernel2Ideal.Attn
-- ==== Proof.Attn.Scores.lean ====
module

public import proofs.«01_k».proof.Proof.Attn.Entry

/-! The rotated queries and the scores, as the host line leaves them. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

/-- The rotated lanes beside the others. -/
def joined (a : FVec Ideal S1x8192x8x64 .f32) (b : FVec Ideal S1x8192x8x32 .f32) : FVec Ideal S1x8192x8x96 .f32 :=
  concatenate S1x8192x8x96 3 [⟨S1x8192x8x64, a⟩, ⟨S1x8192x8x32, b⟩] concatenates_S1x8192x8x64_S1x8192x8x32_S1x8192x8x96_d3
def paired (a b : FVec Ideal S1x8192x8x16 .f32) : FVec Ideal S1x8192x8x32 .f32 :=
  concatenate S1x8192x8x32 3 [⟨S1x8192x8x16, a⟩, ⟨S1x8192x8x16, b⟩] concatenates_S1x8192x8x16_S1x8192x8x16_S1x8192x8x32_d3
def scored (q k : FVec Ideal S1x8192x8x96 .f32) : FVec Ideal S1x8x8192x8192 .f32 :=
  mulf (Host.dotGeneral dot_S1x8192x8x96_S1x8192x8x96_S1x8x8192x8192_3_3_1_1_02_02 none q k) (broadcastInDim S1x8x8192x8192 ![] bcast_S_S1x8x8192x8192 (constant S_ .f32 0x3DD105EC#32))

theorem joined_at (a : FVec Ideal S1x8192x8x64 .f32) (b : FVec Ideal S1x8192x8x32 .f32) (s : Fin 8192) (h : Fin 8) (e : Fin 96) :
    (show EReal from joined a b (ix4 0 s h e)) = if g : e.val < 64 then a (ix4 0 s h ⟨e.val, g⟩) else b (ix4 0 s h ⟨e.val - 64, by omega⟩) := by
  unfold joined
  pointwise

theorem paired_at (a b : FVec Ideal S1x8192x8x16 .f32) (s : Fin 8192) (h : Fin 8) (e : Fin 32) :
    (show EReal from paired a b (ix4 0 s h e)) = if g : e.val < 16 then a (ix4 0 s h ⟨e.val, g⟩) else b (ix4 0 s h ⟨e.val - 16, by omega⟩) := by
  unfold paired
  pointwise

theorem scored_at (q k : FVec Ideal S1x8192x8x96 .f32) (h : Fin 8) (s r : Fin 8192) :
    (show EReal from scored q k (ix4 0 h s r)) = (∑ e : Fin 96, (show EReal from q (ix4 0 s h e)) * k (ix4 0 r h e)) * Ideal.ofBits .f32 0x3DD105EC#32 := by
  unfold scored
  pointwise

variable {m c} {D : Data} (hD : Given m c D)
include hD

theorem v65_at (s : Fin 8192) (h : Fin 8) (f : Fin 16) : (show EReal from upto (launched m c) 5 (Proc.devRef .tc main_v65) (ix4 0 s h f)) =
    ((D.q s h ⟨64 + f.val, by omega⟩ * Real.cos (D.angle s f) - D.q s h ⟨64 + (16 + f.val), by omega⟩ * Real.sin (D.angle s f) : ℝ) : EReal) := by
  rw [upto_succ]
  simp only [piece, hostOps0_4]
  after_results_simp
  rw [arg_eq m c main_arg0 4 (by decide) (by decide), arg_eq m c main_arg3 4 (by decide) (by decide)]
  have hq := hD.q
  have ha := hD.angle
  unfold turn at ha
  generalize (m (c, Proc.devRef .tc main_arg0) : FVec Ideal S1x8192x8x96 .f32) = q at hq ⊢
  generalize (m (c, Proc.devRef .tc main_arg3) : IVec S1x8192 32) = p at ha ⊢
  pointwise [hq, ha]
  simp only [Ideal.cos_coe, Ideal.sin_coe, EReal.coe_sub, EReal.coe_mul]

theorem v70_at (s : Fin 8192) (h : Fin 8) (f : Fin 16) : (show EReal from upto (launched m c) 5 (Proc.devRef .tc main_v70) (ix4 0 s h f)) =
    ((D.q s h ⟨64 + f.val, by omega⟩ * Real.sin (D.angle s f) + D.q s h ⟨64 + (16 + f.val), by omega⟩ * Real.cos (D.angle s f) : ℝ) : EReal) := by
  rw [upto_succ]
  simp only [piece, hostOps0_4]
  after_results_simp
  rw [arg_eq m c main_arg0 4 (by decide) (by decide), arg_eq m c main_arg3 4 (by decide) (by decide)]
  have hq := hD.q
  have ha := hD.angle
  unfold turn at ha
  generalize (m (c, Proc.devRef .tc main_arg0) : FVec Ideal S1x8192x8x96 .f32) = q at hq ⊢
  generalize (m (c, Proc.devRef .tc main_arg3) : IVec S1x8192 32) = p at ha ⊢
  pointwise [hq, ha]
  simp only [Ideal.cos_coe, Ideal.sin_coe, EReal.coe_add, EReal.coe_mul]

theorem v40_at (s : Fin 8192) (h : Fin 8) (e : Fin 64) : (show EReal from upto (launched m c) 5 (Proc.devRef .tc main_v40) (ix4 0 s h e)) = (D.q s h ⟨e.val, by omega⟩ : EReal) := by
  rw [upto_succ]
  simp only [piece, hostOps0_4]
  after_results_simp
  rw [arg_eq m c main_arg0 4 (by decide) (by decide)]
  have hq := hD.q
  generalize (m (c, Proc.devRef .tc main_arg0) : FVec Ideal S1x8192x8x96 .f32) = q at hq ⊢
  pointwise [hq]

omit hD in
theorem v72_eq : upto (launched m c) 5 (Proc.devRef .tc main_v72) =
    joined (upto (launched m c) 5 (Proc.devRef .tc main_v40)) (paired (upto (launched m c) 5 (Proc.devRef .tc main_v65)) (upto (launched m c) 5 (Proc.devRef .tc main_v70))) := by
  rw [upto_succ]
  simp only [piece, hostOps0_4]
  after_results_simp
  refine congrArg₂ joined ?_ ?_
  · after_results_simp
  · after_results_simp
    refine congrArg₂ paired ?_ ?_ <;> after_results_simp

theorem v72_at (s : Fin 8192) (h : Fin 8) (e : Fin 96) : (show EReal from upto (launched m c) 5 (Proc.devRef .tc main_v72) (ix4 0 s h e)) = (turned D s h e : EReal) := by
  refine (congrFun v72_eq _).trans ((joined_at _ _ s h e).trans ?_)
  unfold turned
  split_ifs with h0 h1
  · exact v40_at hD s h _
  · refine (paired_at _ _ s h _).trans ?_
    rw [dif_pos h1]
    exact v65_at hD s h _
  · refine (paired_at _ _ s h _).trans ?_
    rw [dif_neg h1]
    exact v70_at hD s h _

omit hD in
theorem v75_eq : upto (launched m c) 5 (Proc.devRef .tc main_v75) =
    scored (upto (launched m c) 5 (Proc.devRef .tc main_v72)) (upto (launched m c) 4 (Proc.devRef .tc main_arg1)) := by
  rw [upto_succ]
  simp only [piece, hostOps0_4]
  after_results_simp
  rfl

theorem v75_at (h : Fin 8) (s r : Fin 8192) : (show EReal from upto (launched m c) 5 (Proc.devRef .tc main_v75) (ix4 0 h s r)) = (score D h s r : EReal) := by
  have ht := v72_at hD
  have hk := hD.k
  refine (congrFun v75_eq _).trans ?_
  rw [arg_eq m c main_arg1 4 (by decide) (by decide)]
  generalize (m (c, Proc.devRef .tc main_arg1) : FVec Ideal S1x8192x8x96 .f32) = k at hk ⊢
  generalize (upto (launched m c) 5 (Proc.devRef .tc main_v72) : FVec Ideal S1x8192x8x96 .f32) = t at ht ⊢
  refine (scored_at t k h s r).trans ?_
  rw [width_eq, score, EReal.coe_mul, ← coe_sum]
  simp only [ht, hk, EReal.coe_mul]

theorem v83_at (s r : Fin 8192) : upto (launched m c) 5 (Proc.devRef .tc main_v83) (ix4 0 0 s r) = IntOp.cmpi .sle (BitVec.ofNat 32 r.val) (BitVec.ofNat 32 s.val) := by
  rw [upto_succ]
  simp only [piece, hostOps0_4]
  after_results_simp
  pointwise

theorem v84_at (h : Fin 8) (s r : Fin 8192) : (show EReal from upto (launched m c) 6 (Proc.devRef .tc main_v84) (ix4 0 h s r)) = if r.val ≤ s.val then (score D h s r : EReal) else ⊥ := by
  have h75 := v75_at hD
  have h83 := v83_at hD
  have c16 : (show EReal from upto (launched m c) 5 (Proc.devRef .tc main_cst_16) ix0) = ⊥ := by
    rw [upto_succ]
    simp only [piece, hostOps0_4]
    after_results_simp
    exact neg_infinity
  show (show EReal from StableHlo.after (piece 5) (upto (launched m c) 5) (Proc.devRef .tc main_v84) (ix4 0 h s r)) = _
  generalize upto (launched m c) 5 = σ at h75 h83 c16 ⊢
  simp only [piece, hostOps0_5]
  after_results_simp
  simp only [StableHlo.TRef.ofBuf_toBuf]
  pointwise [StableHlo.TRef.ofBuf, StableHlo.TRef.toBuf, StableHlo.TRef.of]
  simp only [cast_eq]
  pointwise
  refine (congrArg₂ (Scalar.select _) (h75 h s r) c16).trans ?_
  rw [h83, select_upto]

end Cert.Kernel2Ideal.Attn
-- ==== Proof.Attn.Rows.lean ====
module

public import proofs.«01_k».proof.Proof.Attn.Scores

/-! The probabilities, the forward pass's result and the logarithms of the rows' sums, as the host line leaves them. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

/-- The lines of the softmax. -/
def grown (u : FVec Ideal S1x8x8192x8192 .f32) (w : FVec Ideal S1x8x8192 .f32) : FVec Ideal S1x8x8192x8192 .f32 :=
  Host.exp (subf u (broadcastInDim S1x8x8192x8192 ![0, 1, 2, 3] bcast_S1x8x8192x1_S1x8x8192x8192_0_1_2_3 (broadcastInDim S1x8x8192x1 ![0, 1, 2] bcast_S1x8x8192_S1x8x8192x1_0_1_2 w)))
def summed (u : FVec Ideal S1x8x8192x8192 .f32) : FVec Ideal S1x8x8192x1 .f32 :=
  broadcastInDim S1x8x8192x1 ![0, 1, 2] bcast_S1x8x8192_S1x8x8192x1_0_1_2 (Host.reduceAdd u (constant (F := Ideal) S_ .f32 0x00000000#32) reducesTo_S1x8x8192x8192_S1x8x8192_d3 h_S_)
def shares (u : FVec Ideal S1x8x8192x8192 .f32) (w : FVec Ideal S1x8x8192x1 .f32) : FVec Ideal S1x8x8192x8192 .f32 :=
  Host.divf u (broadcastInDim S1x8x8192x8192 ![0, 1, 2, 3] bcast_S1x8x8192x1_S1x8x8192x8192_0_1_2_3 w)
def mixed (v : FVec Ideal S1x8192x8x64 .f32) (u : FVec Ideal S1x8x8192x8192 .f32) : FVec Ideal S8192x512 .f32 :=
  shapeCast S8192x512 (transpose S1x8192x8x64 [0, 3, 1, 2] (Host.dotGeneral dot_S1x8192x8x64_S1x8x8192x8192_S1x8x64x8192_1_3_3_2_02_01 none v u : FVec Ideal S1x8x64x8192 .f32) transposes_S1x8x64x8192_S1x8192x8x64_0_3_1_2) shapeCasts_S1x8192x8x64_S8192x512
def logs (w : FVec Ideal S1x8x8192 .f32) (l : FVec Ideal S1x8x8192x1 .f32) : FVec Ideal S4x16x2x512 .f32 :=
  transpose S4x16x2x512 [0, 2, 1, 3] (shapeCast S4x2x16x512 (Host.divf (addf (broadcastInDim S1x8x8192x1 ![0, 1, 2] bcast_S1x8x8192_S1x8x8192x1_0_1_2 w) (Host.log l))
    (broadcastInDim S1x8x8192x1 ![] bcast_S_S1x8x8192x1 (Host.log (constant (F := Ideal) S_ .f32 0x40000000#32)))) shapeCasts_S1x8x8192x1_S4x2x16x512) transposes_S4x2x16x512_S4x16x2x512_0_2_1_3
def scaled (q : FVec Ideal S1x8192x8x96 .f32) : FVec Ideal S1x8192x8x96 .f32 :=
  mulf q (broadcastInDim S1x8192x8x96 ![] bcast_S_S1x8192x8x96 (Host.divf (constant (F := Ideal) S_ .f32 0x3DD105EC#32) (Host.log (constant (F := Ideal) S_ .f32 0x40000000#32))))

theorem grown_at (u : FVec Ideal S1x8x8192x8192 .f32) (w : FVec Ideal S1x8x8192 .f32) (h : Fin 8) (s r : Fin 8192) :
    (show EReal from grown u w (ix4 0 h s r)) = Ideal.exp ((show EReal from u (ix4 0 h s r)) - w (ix3 0 h s)) := by
  unfold grown
  pointwise
theorem summed_at (u : FVec Ideal S1x8x8192x8192 .f32) (h : Fin 8) (s : Fin 8192) :
    (show EReal from summed u (ix4 0 h s 0)) = ∑ r : Fin 8192, (show EReal from u (ix4 0 h s r)) := by
  unfold summed
  pointwise
theorem shares_at (u : FVec Ideal S1x8x8192x8192 .f32) (w : FVec Ideal S1x8x8192x1 .f32) (h : Fin 8) (s r : Fin 8192) :
    (show EReal from shares u w (ix4 0 h s r)) = Ideal.div (u (ix4 0 h s r)) (w (ix4 0 h s 0)) := by
  unfold shares
  pointwise
theorem mixed_at (v : FVec Ideal S1x8192x8x64 .f32) (u : FVec Ideal S1x8x8192x8192 .f32) (s : Fin 8192) (h : Fin 8) (e : Fin 64) :
    (show EReal from mixed v u (ix2 s ⟨64 * h.val + e.val, by omega⟩)) = ∑ r : Fin 8192, (show EReal from v (ix4 0 r h e)) * u (ix4 0 h s r) := by
  unfold mixed
  pointwise
theorem logs_at (w : FVec Ideal S1x8x8192 .f32) (l : FVec Ideal S1x8x8192x1 .f32) (p : Fin 4) (i : Fin 16) (g : Fin 2) (q : Fin 512) :
    (show EReal from logs w l (ix4 p i g q)) = Ideal.div ((show EReal from w (ix3 0 ⟨2 * p.val + g.val, by omega⟩ ⟨512 * i.val + q.val, by omega⟩)) +
      Ideal.log (l (ix4 0 ⟨2 * p.val + g.val, by omega⟩ ⟨512 * i.val + q.val, by omega⟩ 0))) (Ideal.log (Ideal.ofBits .f32 0x40000000#32)) := by
  unfold logs
  pointwise
  simp only [Nat.mul_comm p.val 2, Nat.mul_comm i.val 512]
theorem scaled_at (q : FVec Ideal S1x8192x8x96 .f32) (s : Fin 8192) (h : Fin 8) (e : Fin 96) :
    (show EReal from scaled q (ix4 0 s h e)) = (show EReal from q (ix4 0 s h e)) * Ideal.div (Ideal.ofBits .f32 0x3DD105EC#32) (Ideal.log (Ideal.ofBits .f32 0x40000000#32)) := by
  unfold scaled
  pointwise

theorem two_log : Ideal.log (Ideal.ofBits .f32 0x40000000#32) = (Real.log 2 : EReal) := by
  rw [show Ideal.ofBits .f32 0x40000000#32 = ((2 : ℝ) : EReal) from ?_, log_real 2 two_pos]
  simp [Ideal.ofBits, Ideal.ieee]
  rw [← EReal.coe_mul]
  norm_num

theorem v85_eq : upto (launched m c) 7 (Proc.devRef .tc main_v85) =
    Host.reduce (FloatOps.maximumf (F := Ideal) (φ := .f32)) (upto (launched m c) 6 (Proc.devRef .tc main_v84)) (constant (F := Ideal) S_ .f32 0xFF800000#32) reducesTo_S1x8x8192x8192_S1x8x8192_d3 h_S_ := by
  rw [upto_succ (launched m c) 6]
  simp only [piece, hostOps0_6]
  after_results_simp

theorem v89_eq : upto (launched m c) 7 (Proc.devRef .tc main_v89) = grown (upto (launched m c) 6 (Proc.devRef .tc main_v84)) (upto (launched m c) 7 (Proc.devRef .tc main_v85)) := by
  rw [upto_succ (launched m c) 6]
  simp only [piece, hostOps0_6]
  after_results_simp
  rfl

theorem v91_eq : upto (launched m c) 7 (Proc.devRef .tc main_v91) = summed (upto (launched m c) 7 (Proc.devRef .tc main_v89)) := by
  rw [upto_succ (launched m c) 6]
  simp only [piece, hostOps0_6]
  after_results_simp
  rfl

theorem v93_eq : upto (launched m c) 7 (Proc.devRef .tc main_v93) = shares (upto (launched m c) 7 (Proc.devRef .tc main_v89)) (upto (launched m c) 7 (Proc.devRef .tc main_v91)) := by
  rw [upto_succ (launched m c) 6]
  simp only [piece, hostOps0_6]
  after_results_simp
  rfl

theorem v96_eq : upto (launched m c) 7 (Proc.devRef .tc main_v96) = mixed (upto (launched m c) 6 (Proc.devRef .tc main_arg2)) (upto (launched m c) 7 (Proc.devRef .tc main_v93)) := by
  rw [upto_succ (launched m c) 6]
  simp only [piece, hostOps0_6]
  after_results_simp
  rfl

theorem v103_eq : upto (launched m c) 7 (Proc.devRef .tc main_v103) = logs (upto (launched m c) 7 (Proc.devRef .tc main_v85)) (upto (launched m c) 7 (Proc.devRef .tc main_v91)) := by
  rw [upto_succ (launched m c) 6]
  simp only [piece, hostOps0_6]
  after_results_simp
  rfl

theorem v106_eq : upto (launched m c) 7 (Proc.devRef .tc main_v106) = scaled (upto (launched m c) 6 (Proc.devRef .tc main_v72)) := by
  rw [upto_succ (launched m c) 6]
  simp only [piece, hostOps0_6]
  after_results_simp
  rfl

variable {m c} {D : Data} (hD : Given m c D)
include hD

theorem largest_at : ∃ M : Fin 8 → Fin 8192 → ℝ, ∀ h s, (show EReal from upto (launched m c) 7 (Proc.devRef .tc main_v85) (ix3 0 h s)) = (M h s : EReal) := by
  rw [v85_eq]
  exact masked_largest D _ _ (fun _ => neg_infinity) (v84_at hD) _ _

variable {M : Fin 8 → Fin 8192 → ℝ} (hM : ∀ h s, (show EReal from upto (launched m c) 7 (Proc.devRef .tc main_v85) (ix3 0 h s)) = (M h s : EReal))
include hM

theorem v89_at (h : Fin 8) (s r : Fin 8192) : (show EReal from upto (launched m c) 7 (Proc.devRef .tc main_v89) (ix4 0 h s r)) = (lowered D (M h s) h s r : EReal) := by
  have h84 := v84_at hD
  refine (congrFun (v89_eq m c) _).trans ?_
  generalize (upto (launched m c) 7 (Proc.devRef .tc main_v85) : FVec Ideal S1x8x8192 .f32) = w at hM ⊢
  generalize (upto (launched m c) 6 (Proc.devRef .tc main_v84) : FVec Ideal S1x8x8192x8192 .f32) = u at h84 ⊢
  refine (grown_at u w h s r).trans ?_
  rw [← exp_masked]
  simp only [h84, hM]

theorem v91_at (h : Fin 8) (s : Fin 8192) : (show EReal from upto (launched m c) 7 (Proc.devRef .tc main_v91) (ix4 0 h s 0)) = ((∑ r, lowered D (M h s) h s r : ℝ) : EReal) := by
  have h89 := v89_at hD hM
  refine (congrFun (v91_eq m c) _).trans ?_
  generalize (upto (launched m c) 7 (Proc.devRef .tc main_v89) : FVec Ideal S1x8x8192x8192 .f32) = u at h89 ⊢
  refine (summed_at u h s).trans ?_
  simp only [h89, coe_sum]

theorem v93_at (h : Fin 8) (s r : Fin 8192) : (show EReal from upto (launched m c) 7 (Proc.devRef .tc main_v93) (ix4 0 h s r)) = (prob D h s r : EReal) := by
  have h89 := v89_at hD hM
  have h91 := v91_at hD hM
  refine (congrFun (v93_eq m c) _).trans ?_
  generalize (upto (launched m c) 7 (Proc.devRef .tc main_v89) : FVec Ideal S1x8x8192x8192 .f32) = u at h89 ⊢
  generalize (upto (launched m c) 7 (Proc.devRef .tc main_v91) : FVec Ideal S1x8x8192x1 .f32) = w at h91 ⊢
  refine (shares_at u w h s r).trans ?_
  simp only [h89, h91]
  rw [div_total _ _ (sum_lowered_pos D (M h s) h s), prob_eq]

theorem o_at (s : Fin 8192) (h : Fin 8) (e : Fin 64) : (show EReal from V m c main_v96 (ix2 s ⟨64 * h.val + e.val, by omega⟩)) = ((∑ r, D.v r h e * prob D h s r : ℝ) : EReal) := by
  have h93 := v93_at hD hM
  have hv := hD.v
  refine (congrFun ((V_eq m c main_v96 7 4 rfl (by decide)).trans (v96_eq m c)) _).trans ?_
  rw [arg_eq m c main_arg2 6 (by decide) (by decide)]
  generalize (m (c, Proc.devRef .tc main_arg2) : FVec Ideal S1x8192x8x64 .f32) = v at hv ⊢
  generalize (upto (launched m c) 7 (Proc.devRef .tc main_v93) : FVec Ideal S1x8x8192x8192 .f32) = u at h93 ⊢
  refine (mixed_at v u s h e).trans ?_
  simp only [hv, h93, ← EReal.coe_mul, coe_sum]

theorem lse_at (p : Fin 4) (i : Fin 16) (g : Fin 2) (q : Fin 512) (h : Fin 8) (s : Fin 8192) (hh : h.val = 2 * p.val + g.val) (hs : s.val = 512 * i.val + q.val) :
    (show EReal from V m c main_v103 (ix4 p i g q)) = (((M h s + Real.log (∑ r, lowered D (M h s) h s r)) / Real.log 2 : ℝ) : EReal) := by
  have eh : (⟨2 * p.val + g.val, by omega⟩ : Fin 8) = h := Fin.ext hh.symm
  have es : (⟨512 * i.val + q.val, by omega⟩ : Fin 8192) = s := Fin.ext hs.symm
  have h91 := v91_at hD hM
  refine (congrFun ((V_eq m c main_v103 7 4 rfl (by decide)).trans (v103_eq m c)) _).trans ?_
  generalize (upto (launched m c) 7 (Proc.devRef .tc main_v85) : FVec Ideal S1x8x8192 .f32) = w at hM ⊢
  generalize (upto (launched m c) 7 (Proc.devRef .tc main_v91) : FVec Ideal S1x8x8192x1 .f32) = l at h91 ⊢
  refine (logs_at w l p i g q).trans ?_
  rw [eh, es]
  simp only [h91, hM]
  rw [log_real _ (sum_lowered_pos D _ _ _), two_log, ← EReal.coe_add, div_total _ _ (Real.log_pos one_lt_two)]

omit hM in
theorem v106_at (s : Fin 8192) (h : Fin 8) (e : Fin 96) : (show EReal from upto (launched m c) 7 (Proc.devRef .tc main_v106) (ix4 0 s h e)) = ((turned D s h e * (width / Real.log 2) : ℝ) : EReal) := by
  have h72 := v72_at hD
  refine (congrFun (v106_eq m c) _).trans ?_
  rw [upto_keep (launched m c) main_v72 5 1 (by decide) (by decide)]
  generalize (upto (launched m c) 5 (Proc.devRef .tc main_v72) : FVec Ideal S1x8192x8x96 .f32) = t at h72 ⊢
  refine (scaled_at t s h e).trans ?_
  simp only [h72]
  rw [two_log, width_eq, div_total _ _ (Real.log_pos one_lt_two), EReal.coe_mul]

end Cert.Kernel2Ideal.Attn
-- ==== Proof.Attn.Pads.lean ====
module

public import proofs.«01_k».proof.Proof.Attn.Rows

/-! The queries, keys and values with their empty lanes, as the host line leaves them. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

/-- Heads padded to 128 lanes and laid side by side. -/
def widened (x : FVec Ideal S1x8192x8x96 .f32) (z : FVec Ideal S_ .f32) : FVec Ideal S8192x1024 .f32 :=
  shapeCast S8192x1024 (pad S1x8192x8x128 ![0, 0, 0, 0] ![0, 0, 0, 32] ![0, 0, 0, 0] x z pads_S1x8192x8x96_S1x8192x8x128_000_000_000_0320 h_S_) shapeCasts_S1x8192x8x128_S8192x1024
def flat (x : FVec Ideal S1x8192x8x64 .f32) : FVec Ideal S8192x512 .f32 := shapeCast S8192x512 x shapeCasts_S1x8192x8x64_S8192x512
theorem flat_at (x : FVec Ideal S1x8192x8x64 .f32) (s : Fin 8192) (h : Fin 8) (e : Fin 64) :
    (show EReal from flat x (ix2 s ⟨64 * h.val + e.val, by omega⟩)) = x (ix4 0 s h e) := by
  unfold flat
  pointwise
theorem widened_at (x : FVec Ideal S1x8192x8x96 .f32) (z : FVec Ideal S_ .f32) (hz : ∀ i, (show EReal from z i) = 0) (s : Fin 8192) (h : Fin 8) (l : Fin 128) :
    (show EReal from widened x z (ix2 s ⟨128 * h.val + l.val, by omega⟩)) = if g : l.val < 96 then x (ix4 0 s h ⟨l.val, g⟩) else 0 := by
  unfold widened
  pointwise
  split
  · rfl
  · exact hz _

theorem v109_eq : V m c main_v109 = widened (upto (launched m c) 7 (Proc.devRef .tc main_v106)) (fun _ => FloatOps.sitofp (F := Ideal) .f32 0#32) := by
  have z : upto (launched m c) 7 (Proc.devRef .tc main_c_21) = constantI S_ 32 0#32 := by
    rw [upto_succ (launched m c) 6]
    simp only [piece, hostOps0_6]
    after_results_simp
  rw [V_eq m c main_v109 9 2 rfl (by decide), upto_succ (launched m c) 8]
  simp only [piece, hostOps0_8]
  after_results_simp
  rw [upto_succ (launched m c) 7]
  generalize upto (launched m c) 7 = σ at z ⊢
  simp only [piece, hostOps0_7]
  after_results_simp
  simp only [StableHlo.TRef.ofBuf_toBuf]
  simp only [StableHlo.TRef.ofBuf, StableHlo.TRef.toBuf, StableHlo.TRef.of, cast_eq]
  rw [z]
  rfl

theorem v112_eq : V m c main_v112 = widened (m (c, Proc.devRef .tc main_arg1)) (fun _ => FloatOps.sitofp (F := Ideal) .f32 0#32) := by
  have z : upto (launched m c) 9 (Proc.devRef .tc main_c_22) = constantI S_ 32 0#32 := by
    rw [upto_succ (launched m c) 8]
    simp only [piece, hostOps0_8]
    after_results_simp
  have a := arg_eq m c main_arg1 9 (by decide) (by decide)
  rw [V_eq m c main_v112 11 0 rfl (by decide), upto_succ (launched m c) 10]
  simp only [piece, hostOps0_10]
  after_results_simp
  rw [upto_succ (launched m c) 9]
  generalize upto (launched m c) 9 = σ at z a ⊢
  simp only [piece, hostOps0_9]
  after_results_simp
  simp only [StableHlo.TRef.ofBuf_toBuf]
  simp only [StableHlo.TRef.ofBuf, StableHlo.TRef.toBuf, StableHlo.TRef.of, cast_eq]
  rw [z, a]
  rfl

theorem v114_eq : V m c main_v114 = flat (m (c, Proc.devRef .tc main_arg2)) := by
  rw [V_eq m c main_v114 11 0 rfl (by decide), upto_succ (launched m c) 10]
  simp only [piece, hostOps0_10]
  after_results_simp
  rw [arg_eq m c main_arg2 10 (by decide) (by decide)]
  rfl

variable {m c} {D : Data} (hD : Given m c D)
include hD

theorem q_at (s : Fin 8192) (h : Fin 8) (l : Fin 128) : (show EReal from V m c main_v109 (ix2 s ⟨128 * h.val + l.val, by omega⟩)) =
    ((if g : l.val < 96 then turned D s h ⟨l.val, g⟩ * (width / Real.log 2) else 0 : ℝ) : EReal) := by
  have h106 := v106_at hD
  refine (congrFun (v109_eq m c) _).trans ?_
  generalize (upto (launched m c) 7 (Proc.devRef .tc main_v106) : FVec Ideal S1x8192x8x96 .f32) = u at h106 ⊢
  refine (widened_at u _ (fun _ => zero_word) s h l).trans ?_
  split_ifs
  · exact h106 _ _ _
  · rfl

theorem k_at (s : Fin 8192) (h : Fin 8) (l : Fin 128) : (show EReal from V m c main_v112 (ix2 s ⟨128 * h.val + l.val, by omega⟩)) =
    ((if g : l.val < 96 then D.k s h ⟨l.val, g⟩ else 0 : ℝ) : EReal) := by
  have hk := hD.k
  refine (congrFun (v112_eq m c) _).trans ?_
  generalize (m (c, Proc.devRef .tc main_arg1) : FVec Ideal S1x8192x8x96 .f32) = u at hk ⊢
  refine (widened_at u _ (fun _ => zero_word) s h l).trans ?_
  split_ifs
  · exact hk _ _ _
  · rfl

theorem v_at (s : Fin 8192) (h : Fin 8) (e : Fin 64) : (show EReal from V m c main_v114 (ix2 s ⟨64 * h.val + e.val, by omega⟩)) = (D.v s h e : EReal) := by
  have hv := hD.v
  refine (congrFun (v114_eq m c) _).trans ?_
  generalize (m (c, Proc.devRef .tc main_arg2) : FVec Ideal S1x8192x8x64 .f32) = u at hv ⊢
  exact (flat_at u s h e).trans (hv s h e)

theorem ct_at (s : Fin 8192) (h : Fin 8) (e : Fin 64) : (show EReal from V m c main_v116 (ix2 s ⟨64 * h.val + e.val, by omega⟩)) = (D.ct s h e : EReal) := by
  have hc := hD.ct
  rw [V_eq m c main_v116 11 0 rfl (by decide), upto_succ (launched m c) 10]
  simp only [piece, hostOps0_10]
  after_results_simp
  rw [arg_eq m c main_arg4 10 (by decide) (by decide)]
  generalize (m (c, Proc.devRef .tc main_arg4) : FVec Ideal S1x8192x512 .f32) = u at hc ⊢
  pointwise
  exact hc s h e

end Cert.Kernel2Ideal.Attn
-- ==== Proof.Attn.Blocks.lean ====
module

public import proofs.«01_k».proof.Proof.Attn.Pads

/-! The input blocks of a point, as the arrays they are cut from. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

theorem coords_0 (t : Fin cfg0.N) : (grid0.coords t 0).val = t.val / 16 := by
  revert t
  decide +kernel

theorem idx_q : ∀ t : Fin cfg0.N, win0_0.index t = ![t.val % 16, t.val / 16] := by decide +kernel
theorem idx_k : ∀ t : Fin cfg0.N, win0_1.index t = ![0, t.val / 16] := by decide +kernel
theorem idx_v : ∀ t : Fin cfg0.N, win0_2.index t = ![0, t.val / 16] := by decide +kernel
theorem idx_ct : ∀ t : Fin cfg0.N, win0_3.index t = ![t.val % 16, t.val / 16] := by decide +kernel
theorem idx_o : ∀ t : Fin cfg0.N, win0_4.index t = ![t.val % 16, t.val / 16] := by decide +kernel
theorem idx_lse : ∀ t : Fin cfg0.N, win0_5.index t = ![t.val / 16, t.val % 16, 0, 0] := by decide +kernel
theorem idx_cs : ∀ t : Fin cfg0.N, win0_6.index t = ![t.val % 16, 0] := by decide +kernel
theorem idx_rows : ∀ t : Fin cfg0.N, win0_7.index t = ![0, 0] := by decide +kernel
theorem idx_dq : ∀ t : Fin cfg0.N, win0_8.index t = ![t.val % 16, t.val / 16] := by decide +kernel
theorem idx_dk : ∀ t : Fin cfg0.N, win0_9.index t = ![0, t.val / 16] := by decide +kernel
theorem idx_dv : ∀ t : Fin cfg0.N, win0_10.index t = ![0, t.val / 16] := by decide +kernel

variable (t : Fin cfg0.N) {p : Fin 4} {i : Fin 16} (ht : t.val = 16 * p.val + i.val)
include ht

theorem pair_of : t.val / 16 = p.val := by have := i.isLt; omega
theorem place_of : t.val % 16 = i.val := by have := i.isLt; omega

theorem q_blk (q : Fin 512) (l : Fin 256) : (show EReal from (blocks m c t).q (ix2 q l)) = (show EReal from V m c main_v109 (ix2 ⟨512 * i.val + q.val, by omega⟩ ⟨256 * p.val + l.val, by omega⟩)) := by
  show (show EReal from iblk m c 0 t (ix2 q l)) = _
  blk_ext [iblk, idx_q t, pair_of t ht, place_of t ht]
theorem k_blk (r : Fin 8192) (l : Fin 256) : (show EReal from (blocks m c t).k (ix2 r l)) = (show EReal from V m c main_v112 (ix2 r ⟨256 * p.val + l.val, by omega⟩)) := by
  show (show EReal from iblk m c 1 t (ix2 r l)) = _
  blk_ext [iblk, idx_k t, pair_of t ht, place_of t ht]
theorem v_blk (r : Fin 8192) (l : Fin 128) : (show EReal from (blocks m c t).v (ix2 r l)) = (show EReal from V m c main_v114 (ix2 r ⟨128 * p.val + l.val, by omega⟩)) := by
  show (show EReal from iblk m c 2 t (ix2 r l)) = _
  blk_ext [iblk, idx_v t, pair_of t ht, place_of t ht]
theorem ct_blk (q : Fin 512) (l : Fin 128) : (show EReal from (blocks m c t).ct (ix2 q l)) = (show EReal from V m c main_v116 (ix2 ⟨512 * i.val + q.val, by omega⟩ ⟨128 * p.val + l.val, by omega⟩)) := by
  show (show EReal from iblk m c 3 t (ix2 q l)) = _
  blk_ext [iblk, idx_ct t, pair_of t ht, place_of t ht]
theorem o_blk (q : Fin 512) (l : Fin 128) : (show EReal from (blocks m c t).o (ix2 q l)) = (show EReal from V m c main_v96 (ix2 ⟨512 * i.val + q.val, by omega⟩ ⟨128 * p.val + l.val, by omega⟩)) := by
  show (show EReal from iblk m c 4 t (ix2 q l)) = _
  blk_ext [iblk, idx_o t, pair_of t ht, place_of t ht]
theorem lse_blk (g : Fin 2) (q : Fin 512) : (show EReal from (blocks m c t).lse (ix4 0 0 g q)) = (show EReal from V m c main_v103 (ix4 p i g q)) := by
  show (show EReal from iblk m c 5 t (ix4 0 0 g q)) = _
  blk_ext [iblk, idx_lse t, pair_of t ht, place_of t ht]
theorem cs_blk (q : Fin 512) (l : Fin 256) : (show EReal from (blocks m c t).cs (ix2 q l)) = (show EReal from V m c main_v18 (ix2 ⟨512 * i.val + q.val, by omega⟩ l)) := by
  show (show EReal from iblk m c 6 t (ix2 q l)) = _
  blk_ext [iblk, idx_cs t, pair_of t ht, place_of t ht]
omit ht in
theorem rows_blk (r : Fin 16) (l : Fin 1024) : (show EReal from (blocks m c t).rows (ix2 r l)) = (show EReal from V m c main_v39 (ix2 r l)) := by
  show (show EReal from iblk m c 7 t (ix2 r l)) = _
  blk_ext [iblk, idx_rows t]

end Cert.Kernel2Ideal.Attn
-- ==== Proof.Attn.Pay.lean ====
module

public import proofs.«01_k».proof.Proof.Attn.Trip
public import Idealize.ShloMosaic.Lib.Pointwise

/-! What a block of keys adds to the sums, element by element. -/

@[expose] public section

set_option maxRecDepth 16384

noncomputable section

namespace Cert.Kernel2Ideal.Attn

open Cert.Kernel2Ideal.Gen
open Idealize.ShloMosaic Idealize.ShloMosaic.TcCoe Idealize.ShloMosaic.Tactic Idealize.SL.Sem

/-- The probability of key `r` for query `q` of a block: the mask lets pass the keys up to `q + m`. -/
def weight {n : ℕ} (m : ℕ) (kb : Fin n → Fin 128 → EReal) (qv : Fin 512 → Fin 128 → EReal) (s : Fin 512 → EReal) (r : Fin n) (q : Fin 512) : EReal :=
  if r.val ≤ q.val + m then Ideal.exp2 (∑ l : Fin 128, kb r l * qv q l - s q) else 0

/-- The gradient of its score. -/
def slope {n : ℕ} (m : ℕ) (kb vb : Fin n → Fin 128 → EReal) (qv cv : Fin 512 → Fin 128 → EReal) (s d : Fin 512 → EReal) (r : Fin n) (q : Fin 512) : EReal :=
  weight m kb qv s r q * (∑ l : Fin 128, vb r l * cv q l - d q)

theorem word_toInt {a : ℕ} (ha : a < 8192) : (BitVec.ofNat 32 a).toInt = a := by
  rw [BitVec.toInt_eq_toNat_of_lt, BitVec.toNat_ofNat, Nat.mod_eq_of_lt (by omega)]
  rw [BitVec.toNat_ofNat, Nat.mod_eq_of_lt (by omega)]; omega

/-- The masks' comparisons, of words that are small. -/
theorem select_le {n : ℕ} (hn : n ≤ 2048) (r : Fin n) (q : Fin 512) {c : ℕ} (hc : c < 2048) (x y : EReal) :
    Scalar.select (IntOp.cmpi .sle (BitVec.ofNat 32 r.val) (IntOp.addi (BitVec.ofNat 32 q.val) (BitVec.ofNat 32 c))) x y = if r.val ≤ q.val + c then x else y := by
  have e : (BitVec.ofNat 32 r.val).sle (BitVec.ofNat 32 q.val + BitVec.ofNat 32 c) = decide (r.val ≤ q.val + c) := by
    have := r.isLt
    have := q.isLt
    rw [← BitVec.ofNat_add, BitVec.sle_eq_decide, word_toInt (by omega), word_toInt (by omega)]
    congr 1
    simp only [eq_iff_iff, Int.ofNat_le]
  simp only [IntOp.cmpi, IntOp.addi, e, Scalar.select]
  by_cases h : r.val ≤ q.val + c <;> simp [h]
theorem select_low (l : Fin 128) (x y : EReal) :
    Scalar.select (IntOp.cmpi .slt (BitVec.ofNat 32 l.val) 64#32) x y = if l.val < 64 then x else y := by
  have e : (BitVec.ofNat 32 l.val).slt (BitVec.ofNat 32 64) = decide (l.val < 64) := by
    have := l.isLt
    rw [BitVec.slt_eq_decide, word_toInt (by omega), word_toInt (by omega)]
    congr 1
    simp only [eq_iff_iff]; omega
  simp only [IntOp.cmpi, e, Scalar.select]
  by_cases h : l.val < 64 <;> simp [h]
theorem exp2_eq (x : EReal) : (FloatOps.exp2 (F := Ideal) (φ := .f32) x : EReal) = Ideal.exp2 x := rfl
theorem always (r : Fin 2048) (q : Fin 512) : (r.val ≤ q.val + 2048) = True := by simp only [eq_iff_iff, iff_true]; omega

variable (ct c0 q0 c1 q1 : FVec Ideal S512x128 .bf16) (d0 s0 d1 s1 : FVec Ideal S1x512 .f32) (dq : FVec Ideal S512x128 .f32)

/-- A block's entries, by rows and lanes. -/
abbrev rowsOf {n : ℕ} {φ : FTy} (v : FVec Ideal ⟨2, ![n, 128]⟩ φ) (r : Fin n) (l : Fin 128) : EReal := v (ix2 r l)
abbrev rowOf {φ : FTy} (v : FVec Ideal S1x512 φ) (q : Fin 512) : EReal := v (ix2 0 q)

section
variable (V K K1 : FVec Ideal S2048x128 .bf16) (old : FVec Ideal S2048x128 .f32)

set_option maxHeartbeats 1000000 in
theorem trip_dq0 (q : Fin 512) (l : Fin 128) : (show EReal from (k0_pay15 c0 d0 s0 q0 dq V K) (ix2 q l))
    = dq (ix2 q l) + ∑ r : Fin 2048, slope 2048 (rowsOf K) (rowsOf V) (rowsOf q0) (rowsOf c0) (rowOf s0) (rowOf d0) r q * K (ix2 r l) := by
  simp only [slope, weight, ite_mul, zero_mul, rowsOf, rowOf]
  pointwise [k0_pay9, k0_pay10, k0_pay11, k0_pay12, k0_pay13, k0_pay14, k0_pay15, k0_pay16, k0_pay17, k0_pay18, k0_pay19, k0_pay99, k0_pay100, k0_pay101, k0_pay102]
  simp only [exp2_eq, always, if_true, select_low]

set_option maxHeartbeats 1000000 in
theorem trip_dk0 (r : Fin 2048) (l : Fin 128) : (show EReal from (k0_pay14 c0 d0 s0 q0 V K old) (ix2 r l))
    = old (ix2 r l) + ∑ q : Fin 512, slope 2048 (rowsOf K) (rowsOf V) (rowsOf q0) (rowsOf c0) (rowOf s0) (rowOf d0) r q * q0 (ix2 q l) := by
  simp only [slope, weight, ite_mul, zero_mul, rowsOf, rowOf]
  pointwise [k0_pay9, k0_pay10, k0_pay11, k0_pay12, k0_pay13, k0_pay14, k0_pay15, k0_pay16, k0_pay17, k0_pay18, k0_pay19, k0_pay99, k0_pay100, k0_pay101, k0_pay102]
  simp only [exp2_eq, always, if_true, select_low]

set_option maxHeartbeats 1000000 in
theorem trip_dq1 (q : Fin 512) (l : Fin 128) : (show EReal from (k0_pay101 dq (k0_pay16 K) (k0_pay19 c1 d1 s1 q1 V K)) (ix2 q l))
    = dq (ix2 q l) + ∑ r : Fin 2048, slope 2048 (rowsOf K) (rowsOf V) (rowsOf q1) (rowsOf c1) (rowOf s1) (rowOf d1) r q * K (ix2 r l) := by
  simp only [slope, weight, ite_mul, zero_mul, rowsOf, rowOf]
  pointwise [k0_pay9, k0_pay10, k0_pay11, k0_pay12, k0_pay13, k0_pay14, k0_pay15, k0_pay16, k0_pay17, k0_pay18, k0_pay19, k0_pay99, k0_pay100, k0_pay101, k0_pay102]
  simp only [exp2_eq, always, if_true, select_low]

set_option maxHeartbeats 1000000 in
theorem trip_dk1 (r : Fin 2048) (l : Fin 128) : (show EReal from (k0_pay100 q1 (k0_pay19 c1 d1 s1 q1 V K) old) (ix2 r l))
    = old (ix2 r l) + ∑ q : Fin 512, slope 2048 (rowsOf K) (rowsOf V) (rowsOf q1) (rowsOf c1) (rowOf s1) (rowOf d1) r q * q1 (ix2 q l) := by
  simp only [slope, weight, ite_mul, zero_mul, rowsOf, rowOf]
  pointwise [k0_pay9, k0_pay10, k0_pay11, k0_pay12, k0_pay13, k0_pay14, k0_pay15, k0_pay16, k0_pay17, k0_pay18, k0_pay19, k0_pay99, k0_pay100, k0_pay101, k0_pay102]
  simp only [exp2_eq, always, if_true, select_low]

set_option maxHeartbeats 1000000 in
theorem trip_dv (r : Fin 2048) (l : Fin 128) : (show EReal from (k0_pay102 (k0_pay12 ct s0 q0 K) (k0_pay18 ct s1 q1 K1) old) (ix2 r l))
    = old (ix2 r l) + (if l.val < 64 then ∑ q : Fin 512, weight 2048 (rowsOf K) (rowsOf q0) (rowOf s0) r q * ct (ix2 q l) else ∑ q : Fin 512, weight 2048 (rowsOf K1) (rowsOf q1) (rowOf s1) r q * ct (ix2 q l)) := by
  simp only [slope, weight, ite_mul, zero_mul, rowsOf, rowOf]
  pointwise [k0_pay9, k0_pay10, k0_pay11, k0_pay12, k0_pay13, k0_pay14, k0_pay15, k0_pay16, k0_pay17, k0_pay18, k0_pay19, k0_pay99, k0_pay100, k0_pay101, k0_pay102]
  simp only [exp2_eq, always, if_true, select_low]
end

section
variable (V K K1 : FVec Ideal S2048x128 .bf16) (old : FVec Ideal S2048x128 .f32)

set_option maxHeartbeats 1000000 in
theorem last3_dq0 (q : Fin 512) (l : Fin 128) : (show EReal from (k0_pay37 dq (k0_pay32 K) (k0_pay35 c0 d0 s0 q0 V K)) (ix2 q l))
    = dq (ix2 q l) + ∑ r : Fin 2048, slope 1536 (rowsOf K) (rowsOf V) (rowsOf q0) (rowsOf c0) (rowOf s0) (rowOf d0) r q * K (ix2 r l) := by
  simp only [slope, weight, ite_mul, zero_mul, rowsOf, rowOf]
  pointwise [k0_pay31, k0_pay32, k0_pay33, k0_pay34, k0_pay35, k0_pay36, k0_pay37, k0_pay38, k0_pay39, k0_pay40, k0_pay41, k0_pay42, k0_pay43, k0_pay103, k0_pay104, k0_pay105, k0_pay106, k0_pay107, k0_pay108, k0_pay109, k0_pay110]
  simp only [exp2_eq, select_le (show 2048 ≤ 2048 by decide) _ _ (show 1536 < 2048 by decide), select_low, Nat.add_zero]

set_option maxHeartbeats 1000000 in
theorem last3_dk0 (r : Fin 2048) (l : Fin 128) : (show EReal from (k0_pay36 q0 (k0_pay35 c0 d0 s0 q0 V K) old) (ix2 r l))
    = old (ix2 r l) + ∑ q : Fin 512, slope 1536 (rowsOf K) (rowsOf V) (rowsOf q0) (rowsOf c0) (rowOf s0) (rowOf d0) r q * q0 (ix2 q l) := by
  simp only [slope, weight, ite_mul, zero_mul, rowsOf, rowOf]
  pointwise [k0_pay31, k0_pay32, k0_pay33, k0_pay34, k0_pay35, k0_pay36, k0_pay37, k0_pay38, k0_pay39, k0_pay40, k0_pay41, k0_pay42, k0_pay43, k0_pay103, k0_pay104, k0_pay105, k0_pay106, k0_pay107, k0_pay108, k0_pay109, k0_pay110]
  simp only [exp2_eq, select_le (show 2048 ≤ 2048 by decide) _ _ (show 1536 < 2048 by decide), select_low, Nat.add_zero]

set_option maxHeartbeats 1000000 in
theorem last3_dq1 (q : Fin 512) (l : Fin 128) : (show EReal from (k0_pay43 c1 d1 s1 q1 dq (k0_pay31 V) K) (ix2 q l))
    = dq (ix2 q l) + ∑ r : Fin 2048, slope 1536 (rowsOf K) (rowsOf V) (rowsOf q1) (rowsOf c1) (rowOf s1) (rowOf d1) r q * K (ix2 r l) := by
  simp only [slope, weight, ite_mul, zero_mul, rowsOf, rowOf]
  pointwise [k0_pay31, k0_pay32, k0_pay33, k0_pay34, k0_pay35, k0_pay36, k0_pay37, k0_pay38, k0_pay39, k0_pay40, k0_pay41, k0_pay42, k0_pay43, k0_pay103, k0_pay104, k0_pay105, k0_pay106, k0_pay107, k0_pay108, k0_pay109, k0_pay110]
  simp only [exp2_eq, select_le (show 2048 ≤ 2048 by decide) _ _ (show 1536 < 2048 by decide), select_low, Nat.add_zero]

set_option maxHeartbeats 1000000 in
theorem last3_dk1 (r : Fin 2048) (l : Fin 128) : (show EReal from (k0_pay42 c1 d1 s1 q1 (k0_pay31 V) K old) (ix2 r l))
    = old (ix2 r l) + ∑ q : Fin 512, slope 1536 (rowsOf K) (rowsOf V) (rowsOf q1) (rowsOf c1) (rowOf s1) (rowOf d1) r q * q1 (ix2 q l) := by
  simp only [slope, weight, ite_mul, zero_mul, rowsOf, rowOf]
  pointwise [k0_pay31, k0_pay32, k0_pay33, k0_pay34, k0_pay35, k0_pay36, k0_pay37, k0_pay38, k0_pay39, k0_pay40, k0_pay41, k0_pay42, k0_pay43, k0_pay103, k0_pay104, k0_pay105, k0_pay106, k0_pay107, k0_pay108, k0_pay109, k0_pay110]
  simp only [exp2_eq, select_le (show 2048 ≤ 2048 by decide) _ _ (show 1536 < 2048 by decide), select_low, Nat.add_zero]

set_option maxHeartbeats 1000000 in
theorem last3_dv (r : Fin 2048) (l : Fin 128) : (show EReal from (k0_pay107 (k0_pay34 ct s0 q0 K) (k0_pay40 ct s1 q1 K1) old) (ix2 r l))
    = old (ix2 r l) + (if l.val < 64 then ∑ q : Fin 512, weight 1536 (rowsOf K) (rowsOf q0) (rowOf s0) r q * ct (ix2 q l) else ∑ q : Fin 512, weight 1536 (rowsOf K1) (rowsOf q1) (rowOf s1) r q * ct (ix2 q l)) := by
  simp only [slope, weight, ite_mul, zero_mul, rowsOf, rowOf]
  pointwise [k0_pay31, k0_pay32, k0_pay33, k0_pay34, k0_pay35, k0_pay36, k0_pay37, k0_pay38, k0_pay39, k0_pay40, k0_pay41, k0_pay42, k0_pay43, k0_pay103, k0_pay104, k0_pay105, k0_pay106, k0_pay107, k0_pay108, k0_pay109, k0_pay110]
  simp only [exp2_eq, select_le (show 2048 ≤ 2048 by decide) _ _ (show 1536 < 2048 by decide), select_low, Nat.add_zero]
end

section
variable (V K K1 : FVec Ideal S1536x128 .bf16) (old : FVec Ideal S1536x128 .f32)

set_option maxHeartbeats 1000000 in
theorem last2_dq0 (q : Fin 512) (l : Fin 128) : (show EReal from (k0_pay50 dq (k0_pay45 K) (k0_pay48 c0 d0 s0 q0 V K)) (ix2 q l))
    = dq (ix2 q l) + ∑ r : Fin 1536, slope 1024 (rowsOf K) (rowsOf V) (rowsOf q0) (rowsOf c0) (rowOf s0) (rowOf d0) r q * K (ix2 r l) := by
  simp only [slope, weight, ite_mul, zero_mul, rowsOf, rowOf]
  pointwise [k0_pay44, k0_pay45, k0_pay46, k0_pay47, k0_pay48, k0_pay49, k0_pay50, k0_pay51, k0_pay52, k0_pay53, k0_pay54, k0_pay55, k0_pay56, k0_pay103, k0_pay104, k0_pay105, k0_pay106, k0_pay107, k0_pay108, k0_pay109, k0_pay110]
  simp only [exp2_eq, select_le (show 1536 ≤ 2048 by decide) _ _ (show 1024 < 2048 by decide), select_low, Nat.add_zero]

set_option maxHeartbeats 1000000 in
theorem last2_dk0 (r : Fin 1536) (l : Fin 128) : (show EReal from (k0_pay49 q0 (k0_pay48 c0 d0 s0 q0 V K) old) (ix2 r l))
    = old (ix2 r l) + ∑ q : Fin 512, slope 1024 (rowsOf K) (rowsOf V) (rowsOf q0) (rowsOf c0) (rowOf s0) (rowOf d0) r q * q0 (ix2 q l) := by
  simp only [slope, weight, ite_mul, zero_mul, rowsOf, rowOf]
  pointwise [k0_pay44, k0_pay45, k0_pay46, k0_pay47, k0_pay48, k0_pay49, k0_pay50, k0_pay51, k0_pay52, k0_pay53, k0_pay54, k0_pay55, k0_pay56, k0_pay103, k0_pay104, k0_pay105, k0_pay106, k0_pay107, k0_pay108, k0_pay109, k0_pay110]
  simp only [exp2_eq, select_le (show 1536 ≤ 2048 by decide) _ _ (show 1024 < 2048 by decide), select_low, Nat.add_zero]

set_option maxHeartbeats 1000000 in
theorem last2_dq1 (q : Fin 512) (l : Fin 128) : (show EReal from (k0_pay56 c1 d1 s1 q1 dq (k0_pay44 V) K) (ix2 q l))
    = dq (ix2 q l) + ∑ r : Fin 1536, slope 1024 (rowsOf K) (rowsOf V) (rowsOf q1) (rowsOf c1) (rowOf s1) (rowOf d1) r q * K (ix2 r l) := by
  simp only [slope, weight, ite_mul, zero_mul, rowsOf, rowOf]
  pointwise [k0_pay44, k0_pay45, k0_pay46, k0_pay47, k0_pay48, k0_pay49, k0_pay50, k0_pay51, k0_pay52, k0_pay53, k0_pay54, k0_pay55, k0_pay56, k0_pay103, k0_pay104, k0_pay105, k0_pay106, k0_pay107, k0_pay108, k0_pay109, k0_pay110]
  simp only [exp2_eq, select_le (show 1536 ≤ 2048 by decide) _ _ (show 1024 < 2048 by decide), select_low, Nat.add_zero]

set_option maxHeartbeats 1000000 in
theorem last2_dk1 (r : Fin 1536) (l : Fin 128) : (show EReal from (k0_pay55 c1 d1 s1 q1 (k0_pay44 V) K old) (ix2 r l))
    = old (ix2 r l) + ∑ q : Fin 512, slope 1024 (rowsOf K) (rowsOf V) (rowsOf q1) (rowsOf c1) (rowOf s1) (rowOf d1) r q * q1 (ix2 q l) := by
  simp only [slope, weight, ite_mul, zero_mul, rowsOf, rowOf]
  pointwise [k0_pay44, k0_pay45, k0_pay46, k0_pay47, k0_pay48, k0_pay49, k0_pay50, k0_pay51, k0_pay52, k0_pay53, k0_pay54, k0_pay55, k0_pay56, k0_pay103, k0_pay104, k0_pay105, k0_pay106, k0_pay107, k0_pay108, k0_pay109, k0_pay110]
  simp only [exp2_eq, select_le (show 1536 ≤ 2048 by decide) _ _ (show 1024 < 2048 by decide), select_low, Nat.add_zero]

set_option maxHeartbeats 1000000 in
theorem last2_dv (r : Fin 1536) (l : Fin 128) : (show EReal from (k0_pay108 (k0_pay47 ct s0 q0 K) (k0_pay53 ct s1 q1 K1) old) (ix2 r l))
    = old (ix2 r l) + (if l.val < 64 then ∑ q : Fin 512, weight 1024 (rowsOf K) (rowsOf q0) (rowOf s0) r q * ct (ix2 q l) else ∑ q : Fin 512, weight 1024 (rowsOf K1) (rowsOf q1) (rowOf s1) r q * ct (ix2 q l)) := by
  simp only [slope, weight, ite_mul, zero_mul, rowsOf, rowOf]
  pointwise [k0_pay44, k0_pay45, k0_pay46, k0_pay47, k0_pay48, k0_pay49, k0_pay50, k0_pay51, k0_pay52, k0_pay53, k0_pay54, k0_pay55, k0_pay56, k0_pay103, k0_pay104, k0_pay105, k0_pay106, k0_pay107, k0_pay108, k0_pay109, k0_pay110]
  simp only [exp2_eq, select_le (show 1536 ≤ 2048 by decide) _ _ (show 1024 < 2048 by decide), select_low, Nat.add_zero]
end

section
variable (V K K1 : FVec Ideal S1024x128 .bf16) (old : FVec Ideal S1024x128 .f32)

set_option maxHeartbeats 1000000 in
theorem last1_dq0 (q : Fin 512) (l : Fin 128) : (show EReal from (k0_pay63 dq (k0_pay58 K) (k0_pay61 c0 d0 s0 q0 V K)) (ix2 q l))
    = dq (ix2 q l) + ∑ r : Fin 1024, slope 512 (rowsOf K) (rowsOf V) (rowsOf q0) (rowsOf c0) (rowOf s0) (rowOf d0) r q * K (ix2 r l) := by
  simp only [slope, weight, ite_mul, zero_mul, rowsOf, rowOf]
  pointwise [k0_pay57, k0_pay58, k0_pay59, k0_pay60, k0_pay61, k0_pay62, k0_pay63, k0_pay64, k0_pay65, k0_pay66, k0_pay67, k0_pay68, k0_pay69, k0_pay103, k0_pay104, k0_pay105, k0_pay106, k0_pay107, k0_pay108, k0_pay109, k0_pay110]
  simp only [exp2_eq, select_le (show 1024 ≤ 2048 by decide) _ _ (show 512 < 2048 by decide), select_low, Nat.add_zero]

set_option maxHeartbeats 1000000 in
theorem last1_dk0 (r : Fin 1024) (l : Fin 128) : (show EReal from (k0_pay62 q0 (k0_pay61 c0 d0 s0 q0 V K) old) (ix2 r l))
    = old (ix2 r l) + ∑ q : Fin 512, slope 512 (rowsOf K) (rowsOf V) (rowsOf q0) (rowsOf c0) (rowOf s0) (rowOf d0) r q * q0 (ix2 q l) := by
  simp only [slope, weight, ite_mul, zero_mul, rowsOf, rowOf]
  pointwise [k0_pay57, k0_pay58, k0_pay59, k0_pay60, k0_pay61, k0_pay62, k0_pay63, k0_pay64, k0_pay65, k0_pay66, k0_pay67, k0_pay68, k0_pay69, k0_pay103, k0_pay104, k0_pay105, k0_pay106, k0_pay107, k0_pay108, k0_pay109, k0_pay110]
  simp only [exp2_eq, select_le (show 1024 ≤ 2048 by decide) _ _ (show 512 < 2048 by decide), select_low, Nat.add_zero]

set_option maxHeartbeats 1000000 in
theorem last1_dq1 (q : Fin 512) (l : Fin 128) : (show EReal from (k0_pay69 c1 d1 s1 q1 dq (k0_pay57 V) K) (ix2 q l))
    = dq (ix2 q l) + ∑ r : Fin 1024, slope 512 (rowsOf K) (rowsOf V) (rowsOf q1) (rowsOf c1) (rowOf s1) (rowOf d1) r q * K (ix2 r l) := by
  simp only [slope, weight, ite_mul, zero_mul, rowsOf, rowOf]
  pointwise [k0_pay57, k0_pay58, k0_pay59, k0_pay60, k0_pay61, k0_pay62, k0_pay63, k0_pay64, k0_pay65, k0_pay66, k0_pay67, k0_pay68, k0_pay69, k0_pay103, k0_pay104, k0_pay105, k0_pay106, k0_pay107, k0_pay108, k0_pay109, k0_pay110]
  simp only [exp2_eq, select_le (show 1024 ≤ 2048 by decide) _ _ (show 512 < 2048 by decide), select_low, Nat.add_zero]

set_option maxHeartbeats 1000000 in
theorem last1_dk1 (r : Fin 1024) (l : Fin 128) : (show EReal from (k0_pay68 c1 d1 s1 q1 (k0_pay57 V) K old) (ix2 r l))
    = old (ix2 r l) + ∑ q : Fin 512, slope 512 (rowsOf K) (rowsOf V) (rowsOf q1) (rowsOf c1) (rowOf s1) (rowOf d1) r q * q1 (ix2 q l) := by
  simp only [slope, weight, ite_mul, zero_mul, rowsOf, rowOf]
  pointwise [k0_pay57, k0_pay58, k0_pay59, k0_pay60, k0_pay61, k0_pay62, k0_pay63, k0_pay64, k0_pay65, k0_pay66, k0_pay67, k0_pay68, k0_pay69, k0_pay103, k0_pay104, k0_pay105, k0_pay106, k0_pay107, k0_pay108, k0_pay109, k0_pay110]
  simp only [exp2_eq, select_le (show 1024 ≤ 2048 by decide) _ _ (show 512 < 2048 by decide), select_low, Nat.add_zero]

set_option maxHeartbeats 1000000 in
theorem last1_dv (r : Fin 1024) (l : Fin 128) : (show EReal from (k0_pay109 (k0_pay60 ct s0 q0 K) (k0_pay66 ct s1 q1 K1) old) (ix2 r l))
    = old (ix2 r l) + (if l.val < 64 then ∑ q : Fin 512, weight 512 (rowsOf K) (rowsOf q0) (rowOf s0) r q * ct (ix2 q l) else ∑ q : Fin 512, weight 512 (rowsOf K1) (rowsOf q1) (rowOf s1) r q * ct (ix2 q l)) := by
  simp only [slope, weight, ite_mul, zero_mul, rowsOf, rowOf]
  pointwise [k0_pay57, k0_pay58, k0_pay59, k0_pay60, k0_pay61, k0_pay62, k0_pay63, k0_pay64, k0_pay65, k0_pay66, k0_pay67, k0_pay68, k0_pay69, k0_pay103, k0_pay104, k0_pay105, k0_pay106, k0_pay107, k0_pay108, k0_pay109, k0_pay110]
  simp only [exp2_eq, select_le (show 1024 ≤ 2048 by decide) _ _ (show 512 < 2048 by decide), select_low, Nat.add_zero]
end

section
variable (V K K1 : FVec Ideal S512x128 .bf16) (old : FVec Ideal S512x128 .f32)

set_option maxHeartbeats 1000000 in
theorem last0_dq0 (q : Fin 512) (l : Fin 128) : (show EReal from (k0_pay76 dq (k0_pay71 K) (k0_pay74 c0 d0 s0 q0 V K)) (ix2 q l))
    = dq (ix2 q l) + ∑ r : Fin 512, slope 0 (rowsOf K) (rowsOf V) (rowsOf q0) (rowsOf c0) (rowOf s0) (rowOf d0) r q * K (ix2 r l) := by
  simp only [slope, weight, ite_mul, zero_mul, rowsOf, rowOf]
  pointwise [k0_pay70, k0_pay71, k0_pay72, k0_pay73, k0_pay74, k0_pay75, k0_pay76, k0_pay77, k0_pay78, k0_pay79, k0_pay80, k0_pay81, k0_pay82, k0_pay103, k0_pay104, k0_pay105, k0_pay106, k0_pay107, k0_pay108, k0_pay109, k0_pay110]
  simp only [exp2_eq, select_le (show 512 ≤ 2048 by decide) _ _ (show 0 < 2048 by decide), select_low, Nat.add_zero]

set_option maxHeartbeats 1000000 in
theorem last0_dk0 (r : Fin 512) (l : Fin 128) : (show EReal from (k0_pay75 q0 (k0_pay74 c0 d0 s0 q0 V K) old) (ix2 r l))
    = old (ix2 r l) + ∑ q : Fin 512, slope 0 (rowsOf K) (rowsOf V) (rowsOf q0) (rowsOf c0) (rowOf s0) (rowOf d0) r q * q0 (ix2 q l) := by
  simp only [slope, weight, ite_mul, zero_mul, rowsOf, rowOf]
  pointwise [k0_pay70, k0_pay71, k0_pay72, k0_pay73, k0_pay74, k0_pay75, k0_pay76, k0_pay77, k0_pay78, k0_pay79, k0_pay80, k0_pay81, k0_pay82, k0_pay103, k0_pay104, k0_pay105, k0_pay106, k0_pay107, k0_pay108, k0_pay109, k0_pay110]
  simp only [exp2_eq, select_le (show 512 ≤ 2048 by decide) _ _ (show 0 < 2048 by decide), select_low, Nat.add_zero]

set_option maxHeartbeats 1000000 in
theorem last0_dq1 (q : Fin 512) (l : Fin 128) : (show EReal from (k0_pay82 c1 d1 s1 q1 dq (k0_pay70 V) K) (ix2 q l))
    = dq (ix2 q l) + ∑ r : Fin 512, slope 0 (rowsOf K) (rowsOf V) (rowsOf q1) (rowsOf c1) (rowOf s1) (rowOf d1) r q * K (ix2 r l) := by
  simp only [slope, weight, ite_mul, zero_mul, rowsOf, rowOf]
  pointwise [k0_pay70, k0_pay71, k0_pay72, k0_pay73, k0_pay74, k0_pay75, k0_pay76, k0_pay77, k0_pay78, k0_pay79, k0_pay80, k0_pay81, k0_pay82, k0_pay103, k0_pay104, k0_pay105, k0_pay106, k0_pay107, k0_pay108, k0_pay109, k0_pay110]
  simp only [exp2_eq, select_le (show 512 ≤ 2048 by decide) _ _ (show 0 < 2048 by decide), select_low, Nat.add_zero]

set_option maxHeartbeats 1000000 in
theorem last0_dk1 (r : Fin 512) (l : Fin 128) : (show EReal from (k0_pay81 c1 d1 s1 q1 (k0_pay70 V) K old) (ix2 r l))
    = old (ix2 r l) + ∑ q : Fin 512, slope 0 (rowsOf K) (rowsOf V) (rowsOf q1) (rowsOf c1) (rowOf s1) (rowOf d1) r q * q1 (ix2 q l) := by
  simp only [slope, weight, ite_mul, zero_mul, rowsOf, rowOf]
  pointwise [k0_pay70, k0_pay71, k0_pay72, k0_pay73, k0_pay74, k0_pay75, k0_pay76, k0_pay77, k0_pay78, k0_pay79, k0_pay80, k0_pay81, k0_pay82, k0_pay103, k0_pay104, k0_pay105, k0_pay106, k0_pay107, k0_pay108, k0_pay109, k0_pay110]
  simp only [exp2_eq, select_le (show 512 ≤ 2048 by decide) _ _ (show 0 < 2048 by decide), select_low, Nat.add_zero]

set_option maxHeartbeats 1000000 in
theorem last0_dv (r : Fin 512) (l : Fin 128) : (show EReal from (k0_pay110 (k0_pay73 ct s0 q0 K) (k0_pay79 ct s1 q1 K1) old) (ix2 r l))
    = old (ix2 r l) + (if l.val < 64 then ∑ q : Fin 512, weight 0 (rowsOf K) (rowsOf q0) (rowOf s0) r q * ct (ix2 q l) else ∑ q : Fin 512, weight 0 (rowsOf K1) (rowsOf q1) (rowOf s1) r q * ct (ix2 q l)) := by
  simp only [slope, weight, ite_mul, zero_mul, rowsOf, rowOf]
  pointwise [k0_pay70, k0_pay71, k0_pay72, k0_pay73, k0_pay74, k0_pay75, k0_pay76, k0_pay77, k0_pay78, k0_pay79, k0_pay80, k0_pay81, k0_pay82, k0_pay103, k0_pay104, k0_pay105, k0_pay106, k0_pay107, k0_pay108, k0_pay109, k0_pay110]
  simp only [exp2_eq, select_le (show 512 ≤ 2048 by decide) _ _ (show 0 < 2048 by decide), select_low, Nat.add_zero]
end

end Cert.Kernel2Ideal.Attn
-- ==== Proof.Attn.Sweep.lean ====
module

public import proofs.«01_k».proof.Proof.Attn.Open
public import proofs.«01_k».proof.Proof.Attn.Pay

/-! What a point of the grid adds to the sums: all keys up to its queries, element by element. -/

@[expose] public section

set_option maxRecDepth 16384

noncomputable section

namespace Cert.Kernel2Ideal.Attn

open Cert.Kernel2Ideal.Gen
open Idealize.ShloMosaic Idealize.ShloMosaic.TcCoe Idealize.ShloMosaic.Tactic Idealize.SL.Sem

/-- One of the two heads of a pair, for the queries of a point. -/
structure Side where
  q : Fin 512 → Fin 128 → EReal
  c : Fin 512 → Fin 128 → EReal
  s : Fin 512 → EReal
  d : Fin 512 → EReal
  K : Fin 8192 → Fin 128 → EReal
  V : Fin 8192 → Fin 128 → EReal

/-- The probability of key `r` for query `q`, the queries' first being `m`, and the gradient of its score. -/
def Side.prob (z : Side) (m : ℕ) (r : Fin 8192) (q : Fin 512) : EReal :=
  if r.val ≤ q.val + m then Ideal.exp2 (∑ l : Fin 128, z.K r l * z.q q l - z.s q) else 0
def Side.slope (z : Side) (m : ℕ) (r : Fin 8192) (q : Fin 512) : EReal :=
  z.prob m r q * (∑ l : Fin 128, z.V r l * z.c q l - z.d q)

/-- The sum over the keys from `lo` on, before `hi`. -/
def span (lo hi : ℕ) (f : Fin 8192 → EReal) : EReal := ∑ r, if lo ≤ r.val ∧ r.val < hi then f r else 0

theorem span_add {a b c : ℕ} (f : Fin 8192 → EReal) (h : a ≤ b) (h' : b ≤ c) : span a b f + span b c f = span a c f := by
  unfold span
  rw [← Finset.sum_add_distrib]
  refine Finset.sum_congr rfl fun r _ => ?_
  by_cases h1 : r.val < b
  · have h2 : ¬(b ≤ r.val ∧ r.val < c) := by omega
    by_cases h3 : a ≤ r.val
    · rw [if_pos ⟨h3, h1⟩, if_neg h2, if_pos ⟨h3, by omega⟩, add_zero]
    · rw [if_neg (fun e => h3 e.1), if_neg h2, if_neg (fun e => h3 e.1), add_zero]
  · have h2 : ¬(a ≤ r.val ∧ r.val < b) := by omega
    by_cases h3 : r.val < c
    · rw [if_neg h2, if_pos ⟨by omega, h3⟩, if_pos ⟨by omega, h3⟩, zero_add]
    · rw [if_neg h2, if_neg (fun e => h3 e.2), if_neg (fun e => h3 e.2), zero_add]

theorem span_block {n lo : ℕ} (h : lo + n ≤ 8192) (f : Fin 8192 → EReal) :
    ∑ r : Fin n, f ⟨lo + r.val, by omega⟩ = span lo (lo + n) f := by
  unfold span
  rw [← Finset.sum_filter]
  refine Finset.sum_bij (fun r _ => ⟨lo + r.val, by omega⟩) ?_ ?_ ?_ ?_
  · intro r _; simp
  · intro a _ b _ e; simp only [Fin.mk.injEq] at e; exact Fin.ext (by omega)
  · intro r hr
    simp only [Finset.mem_filter, Finset.mem_univ, true_and] at hr
    exact ⟨⟨r.val - lo, by omega⟩, Finset.mem_univ _, Fin.ext (by simp only; omega)⟩
  · intro r _; rfl

/-- The head of the pair, of a point's blocks. -/
def In.side (x : In Ideal) (h : Fin 2) : Side where
  q q l := x.q (ix2 q ⟨128 * h.val + l.val, by omega⟩)
  c q l := if (l.val < 64 ↔ h.val = 0) then x.ct (ix2 q l) else 0
  s q := x.lse (ix4 0 0 h q)
  d q := ∑ l : Fin 64, x.ct (ix2 q ⟨64 * h.val + l.val, by omega⟩) * x.o (ix2 q ⟨64 * h.val + l.val, by omega⟩)
  K r l := x.k (ix2 r ⟨128 * h.val + l.val, by omega⟩)
  V r l := x.v (ix2 r l)

/-- A head's sums. -/
def Sums.dqs (a : Sums Ideal) (h : Fin 2) (q : Fin 512) (l : Fin 128) : EReal := match h with | 0 => a.dq0 (ix2 q l) | 1 => a.dq1 (ix2 q l)
def Sums.dks (a : Sums Ideal) (h : Fin 2) (r : Fin 8192) (l : Fin 128) : EReal := a.dk (ix2 r ⟨128 * h.val + l.val, by omega⟩)
def Sums.dvs (a : Sums Ideal) (r : Fin 8192) (l : Fin 128) : EReal := a.dv (ix2 r l)

/-- The half of the pair that a lane of the values belongs to. -/
def half (l : Fin 128) : Fin 2 := if l.val < 64 then 0 else 1

/-- The sums `b` are the sums `a` advanced by the keys from `lo` on, before `hi`. -/
structure Adv (x : In Ideal) (m lo hi : ℕ) (a b : Sums Ideal) : Prop where
  dq : ∀ h q l, b.dqs h q l = a.dqs h q l + span lo hi fun r => (x.side h).slope m r q * (x.side h).K r l
  dk : ∀ h r l, b.dks h r l = a.dks h r l + if lo ≤ r.val ∧ r.val < hi then ∑ q, (x.side h).slope m r q * (x.side h).q q l else 0
  dv : ∀ r l, b.dvs r l = a.dvs r l + if lo ≤ r.val ∧ r.val < hi then ∑ q, (x.side (half l)).prob m r q * x.ct (ix2 q l) else 0

theorem ite_span {lo mid hi : ℕ} (h : lo ≤ mid) (h' : mid ≤ hi) (r : ℕ) (y : EReal) :
    ((if lo ≤ r ∧ r < mid then y else 0) + if mid ≤ r ∧ r < hi then y else 0) = if lo ≤ r ∧ r < hi then y else 0 := by
  by_cases h1 : r < mid
  · rw [if_neg (show ¬(mid ≤ r ∧ r < hi) by omega), add_zero]
    by_cases h2 : lo ≤ r
    · rw [if_pos ⟨h2, h1⟩, if_pos ⟨h2, by omega⟩]
    · rw [if_neg (fun e => h2 e.1), if_neg (fun e => h2 e.1)]
  · rw [if_neg (show ¬(lo ≤ r ∧ r < mid) by omega), zero_add]
    by_cases h2 : r < hi
    · rw [if_pos ⟨by omega, h2⟩, if_pos ⟨by omega, h2⟩]
    · rw [if_neg (fun e => h2 e.2), if_neg (fun e => h2 e.2)]

theorem Adv.trans {x : In Ideal} {m lo mid hi : ℕ} {a b c : Sums Ideal} (h : lo ≤ mid) (h' : mid ≤ hi) (p : Adv x m lo mid a b) (p' : Adv x m mid hi b c) :
    Adv x m lo hi a c where
  dq g q l := by rw [p'.dq, p.dq, add_assoc, span_add _ h h']
  dk g r l := by rw [p'.dk, p.dk, add_assoc, ite_span h h']
  dv r l := by rw [p'.dv, p.dv, add_assoc, ite_span h h']

theorem Adv.refl (x : In Ideal) (m : ℕ) (a : Sums Ideal) : Adv x m 0 0 a a where
  dq g q l := by simp [span]
  dk g r l := by simp
  dv r l := by simp

section Blocks
variable {e : EltTy} {Val : EltTy → Type} [∀ e, Nonempty (Val e)]

/-- A block read from an array. -/
theorem ld_at {R C n k : ℕ} (X : (⟨2, ![R, C]⟩ : Shape).Idx → Val e) {off : Fin 2 → ℕ} {r0 c0 : ℕ} (ho : off = ![r0, c0])
    (inb : ∀ a, off a + (⟨2, ![n, k]⟩ : Shape).size a ≤ (⟨2, ![R, C]⟩ : Shape).size a) (r : Fin n) (l : Fin k) (hr : r0 + r.val < R) (hl : c0 + l.val < C) :
    View.ld X (Rect.unit (s := ⟨2, ![R, C]⟩) off (⟨2, ![n, k]⟩ : Shape).size inb) (ix2 r l) = X (ix2 ⟨r0 + r.val, hr⟩ ⟨c0 + l.val, hl⟩) := by
  subst ho
  refine congrArg X (funext fun a => Fin.ext ?_)
  fin_cases a
  · show r0 + 1 * r.val = r0 + r.val
    rw [Nat.one_mul]
  · show c0 + 1 * l.val = c0 + l.val
    rw [Nat.one_mul]

/-- An array after a block of it was written. -/
theorem canon_at {R C n k : ℕ} {off : Fin 2 → ℕ} {r0 c0 : ℕ} (ho : off = ![r0, c0])
    (inb : ∀ a, off a + (⟨2, ![n, k]⟩ : Shape).size a ≤ (⟨2, ![R, C]⟩ : Shape).size a) (p : (⟨2, ![n, k]⟩ : Shape).Idx → Val e)
    (L : List (View.Piece Val ⟨2, ![R, C]⟩ e)) (r : Fin R) (l : Fin C) :
    View.canon (⟨Rect.unit (s := ⟨2, ![R, C]⟩) off (⟨2, ![n, k]⟩ : Shape).size inb, p⟩ :: L) (ix2 r l)
      = if h : (r0 ≤ r.val ∧ r.val < r0 + n) ∧ (c0 ≤ l.val ∧ l.val < c0 + k) then p (ix2 ⟨r.val - r0, by omega⟩ ⟨l.val - c0, by omega⟩) else View.canon L (ix2 r l) := by
  subst ho
  by_cases h : (r0 ≤ r.val ∧ r.val < r0 + n) ∧ (c0 ≤ l.val ∧ l.val < c0 + k)
  · rw [dif_pos h]
    have e : (ix2 r l : (⟨2, ![R, C]⟩ : Shape).Idx) = (Rect.unit (s := ⟨2, ![R, C]⟩) ![r0, c0] (⟨2, ![n, k]⟩ : Shape).size inb).emb (ix2 ⟨r.val - r0, by omega⟩ ⟨l.val - c0, by omega⟩) := by
      refine funext fun a => Fin.ext ?_
      fin_cases a
      · show r.val = r0 + 1 * (r.val - r0)
        omega
      · show l.val = c0 + 1 * (l.val - c0)
        omega
    rw [e]
    exact View.canon_cons_emb (Rect.unit (s := ⟨2, ![R, C]⟩) ![r0, c0] (⟨2, ![n, k]⟩ : Shape).size inb) p L _
  · rw [dif_neg h]
    refine View.canon_cons_of_not_mem (s := ⟨2, ![R, C]⟩) ⟨Rect.unit (s := ⟨2, ![R, C]⟩) ![r0, c0] (⟨2, ![n, k]⟩ : Shape).size inb, p⟩ L fun hm => h ?_
    have hm : ix2 r l ∈ (Rect.unit (s := ⟨2, ![R, C]⟩) ![r0, c0] (⟨2, ![n, k]⟩ : Shape).size inb).set := hm
    rw [Rect.mem_set_unit] at hm
    have h0 := hm 0
    have h1 := hm 1
    exact ⟨h0, h1⟩

/-- An array whose two halves of lanes had the same rows written. -/
theorem canon_halves {n r0 : ℕ} {off off' : Fin 2 → ℕ} (ho : off = ![r0, 128]) (ho' : off' = ![r0, 0])
    (inb : ∀ a, off a + (⟨2, ![n, 128]⟩ : Shape).size a ≤ S8192x256.size a) (inb' : ∀ a, off' a + (⟨2, ![n, 128]⟩ : Shape).size a ≤ S8192x256.size a)
    (inb0 : ∀ a, (![0, 0] : Fin 2 → ℕ) a + S8192x256.size a ≤ S8192x256.size a)
    (p1 p0 : (⟨2, ![n, 128]⟩ : Shape).Idx → Val e) (X : S8192x256.Idx → Val e) (h : Fin 2) (r : Fin 8192) (l : Fin 128) :
    View.canon [⟨Rect.unit (s := S8192x256) off (⟨2, ![n, 128]⟩ : Shape).size inb, p1⟩, ⟨Rect.unit (s := S8192x256) off' (⟨2, ![n, 128]⟩ : Shape).size inb', p0⟩,
        ⟨Rect.unit (s := S8192x256) ![0, 0] S8192x256.size inb0, X⟩] (ix2 r ⟨128 * h.val + l.val, by omega⟩)
      = if hr : r0 ≤ r.val ∧ r.val < r0 + n then (match h with | 0 => p0 (ix2 ⟨r.val - r0, by omega⟩ l) | 1 => p1 (ix2 ⟨r.val - r0, by omega⟩ l))
        else X (ix2 r ⟨128 * h.val + l.val, by omega⟩) := by
  have hX : ∀ j : Fin 256, View.canon [⟨Rect.unit (s := S8192x256) ![0, 0] S8192x256.size inb0, X⟩] (ix2 r j) = X (ix2 r j) := fun j => by
    rw [canon_at rfl inb0 X [] r j, dif_pos ⟨⟨Nat.zero_le _, by omega⟩, ⟨Nat.zero_le _, by omega⟩⟩]
    rfl
  rw [canon_at ho inb p1 _ r _, canon_at ho' inb' p0 _ r _, hX]
  by_cases hr : r0 ≤ r.val ∧ r.val < r0 + n
  · rw [dif_pos hr]
    fin_cases h
    · rw [dif_neg (by simp only [Fin.zero_eta]; intro e; have := e.2.1; simp at this; omega), dif_pos ⟨hr, by simp⟩]
      congr 2; exact Fin.ext (by simp)
    · rw [dif_pos ⟨hr, by simp; omega⟩]
      congr 2; exact Fin.ext (by simp)
  · rw [dif_neg hr, dif_neg (fun e => hr e.1), dif_neg (fun e => hr e.1)]

/-- An array that had rows written. -/
theorem canon_rows {n r0 : ℕ} {off : Fin 2 → ℕ} (ho : off = ![r0, 0])
    (inb : ∀ a, off a + (⟨2, ![n, 128]⟩ : Shape).size a ≤ S8192x128.size a)
    (inb0 : ∀ a, (![0, 0] : Fin 2 → ℕ) a + S8192x128.size a ≤ S8192x128.size a)
    (p : (⟨2, ![n, 128]⟩ : Shape).Idx → Val e) (X : S8192x128.Idx → Val e) (r : Fin 8192) (l : Fin 128) :
    View.canon [⟨Rect.unit (s := S8192x128) off (⟨2, ![n, 128]⟩ : Shape).size inb, p⟩, ⟨Rect.unit (s := S8192x128) ![0, 0] S8192x128.size inb0, X⟩] (ix2 r l)
      = if hr : r0 ≤ r.val ∧ r.val < r0 + n then p (ix2 ⟨r.val - r0, by omega⟩ l) else X (ix2 r l) := by
  have hX : View.canon [⟨Rect.unit (s := S8192x128) ![0, 0] S8192x128.size inb0, X⟩] (ix2 r l) = X (ix2 r l) := by
    rw [canon_at rfl inb0 X [] r l, dif_pos ⟨⟨Nat.zero_le _, by omega⟩, ⟨Nat.zero_le _, by omega⟩⟩]
    rfl
  rw [canon_at ho inb p _ r l, hX]
  by_cases hr : r0 ≤ r.val ∧ r.val < r0 + n
  · rw [dif_pos hr, dif_pos ⟨hr, Nat.zero_le _, by omega⟩]
    rfl
  · rw [dif_neg hr, dif_neg (fun e => hr e.1)]
end Blocks

section Point
variable (x : In Ideal)

theorem pt_q0 : rowsOf x.pt.q0 = (x.side 0).q := by
  funext q l
  simp only [rowsOf, In.pt, In.side]
  pointwise [k0_pay95]
theorem pt_q1 : rowsOf x.pt.q1 = (x.side 1).q := by
  funext q l
  simp only [rowsOf, In.pt, In.side]
  pointwise [k0_pay96]
theorem pt_c0 : rowsOf x.pt.ct0 = (x.side 0).c := by
  funext q l
  simp only [rowsOf, In.pt, In.side]
  pointwise [k0_pay88, k0_pay85, k0_pay86, k0_pay87]
  simp [select_low]
theorem pt_c1 : rowsOf x.pt.ct1 = (x.side 1).c := by
  funext q l
  simp only [rowsOf, In.pt, In.side]
  pointwise [k0_pay89, k0_pay85, k0_pay86, k0_pay87]
  by_cases h : l.val < 64 <;> simp [select_low, h] <;> omega
theorem pt_s0 : rowOf x.pt.s0 = (x.side 0).s := by
  funext q
  simp only [rowOf, In.pt, In.side]
  pointwise [k0_pay93]
theorem pt_s1 : rowOf x.pt.s1 = (x.side 1).s := by
  funext q
  simp only [rowOf, In.pt, In.side]
  pointwise [k0_pay94]
theorem pt_d0 : rowOf x.pt.d0 = (x.side 0).d := by
  funext q
  simp only [rowOf, In.pt, In.side]
  pointwise [k0_pay91, k0_pay90, k0_pay86]
theorem pt_d1 : rowOf x.pt.d1 = (x.side 1).d := by
  funext q
  simp only [rowOf, In.pt, In.side]
  pointwise [k0_pay92, k0_pay90, k0_pay86]
theorem pt_ct (q : Fin 512) (l : Fin 128) : (show EReal from x.pt.ct (ix2 q l)) = x.ct (ix2 q l) := by
  simp only [In.pt]
  pointwise [k0_pay86]
/-- A block of keys in the arrays. -/
structure Fits (z : Side) {n : ℕ} (lo m m' : ℕ) (h : lo + n ≤ 8192) (kb vb : Fin n → Fin 128 → EReal) : Prop where
  K : ∀ r l, kb r l = z.K ⟨lo + r.val, by omega⟩ l
  V : ∀ r l, vb r l = z.V ⟨lo + r.val, by omega⟩ l
  m : ∀ (r : Fin n) (q : Fin 512), r.val ≤ q.val + m' ↔ lo + r.val ≤ q.val + m

theorem Fits.weight {z : Side} {n lo m m' : ℕ} {h : lo + n ≤ 8192} {kb vb : Fin n → Fin 128 → EReal} (f : Fits z lo m m' h kb vb) (r : Fin n) (q : Fin 512) :
    weight m' kb z.q z.s r q = z.prob m ⟨lo + r.val, by omega⟩ q := by
  unfold Attn.weight Side.prob
  simp only [f.m r q, f.K]
theorem Fits.slope {z : Side} {n lo m m' : ℕ} {h : lo + n ≤ 8192} {kb vb : Fin n → Fin 128 → EReal} (f : Fits z lo m m' h kb vb) (r : Fin n) (q : Fin 512) :
    slope m' kb vb z.q z.c z.s z.d r q = z.slope m ⟨lo + r.val, by omega⟩ q := by
  unfold Attn.slope Side.slope
  simp only [f.weight r q, f.V]

variable {x}

/-- What a block of keys does, from the block's lemmas. -/
theorem Adv.of_block {n lo m m' : ℕ} (h : lo + n ≤ 8192) {kb : Fin 2 → Fin n → Fin 128 → EReal} {vb : Fin n → Fin 128 → EReal} {a b : Sums Ideal}
    (f : ∀ g, Fits (x.side g) lo m m' h (kb g) vb)
    (hdq : ∀ g q l, b.dqs g q l = a.dqs g q l + ∑ r : Fin n, slope m' (kb g) vb (x.side g).q (x.side g).c (x.side g).s (x.side g).d r q * kb g r l)
    (hdk : ∀ g r l, b.dks g r l = if hr : lo ≤ r.val ∧ r.val < lo + n then
        a.dks g r l + ∑ q : Fin 512, slope m' (kb g) vb (x.side g).q (x.side g).c (x.side g).s (x.side g).d ⟨r.val - lo, by omega⟩ q * (x.side g).q q l else a.dks g r l)
    (hdv : ∀ r l, b.dvs r l = if hr : lo ≤ r.val ∧ r.val < lo + n then
        a.dvs r l + ∑ q : Fin 512, weight m' (kb (half l)) (x.side (half l)).q (x.side (half l)).s ⟨r.val - lo, by omega⟩ q * x.ct (ix2 q l) else a.dvs r l) :
    Adv x m lo (lo + n) a b where
  dq g q l := by
    rw [hdq, ← span_block h]
    simp only [(f g).slope, (f g).K]
  dk g r l := by
    rw [hdk]
    by_cases hr : lo ≤ r.val ∧ r.val < lo + n
    · have e : (⟨lo + (r.val - lo), by omega⟩ : Fin 8192) = r := Fin.ext (by simp only; omega)
      simp only [dif_pos hr, if_pos hr, (f g).slope, e]
    · rw [dif_neg hr, if_neg hr, add_zero]
  dv r l := by
    rw [hdv]
    by_cases hr : lo ≤ r.val ∧ r.val < lo + n
    · have e : (⟨lo + (r.val - lo), by omega⟩ : Fin 8192) = r := Fin.ext (by simp only; omega)
      simp only [dif_pos hr, if_pos hr, (f (half l)).weight, e]
    · rw [dif_neg hr, if_neg hr, add_zero]

theorem ite_half (l : Fin 128) (y : Fin 2 → EReal) : (if l.val < 64 then y 0 else y 1) = y (half l) := by
  unfold half
  split <;> rfl

/-- What was in the rows that are written over. -/
theorem old_at {C n r0 c0 : ℕ} {e : EltTy} (X : (⟨2, ![8192, C]⟩ : Shape).Idx → Elt Ideal e) {off : Fin 2 → ℕ} (ho : off = ![r0, c0])
    (inb : ∀ a, off a + (⟨2, ![n, 128]⟩ : Shape).size a ≤ (⟨2, ![8192, C]⟩ : Shape).size a) (r : Fin 8192) (l : Fin 128) (hr : r0 ≤ r.val ∧ r.val < r0 + n) (hl : c0 + l.val < C) :
    View.ld X (Rect.unit (s := ⟨2, ![8192, C]⟩) off (⟨2, ![n, 128]⟩ : Shape).size inb) (ix2 ⟨r.val - r0, by omega⟩ l) = X (ix2 r ⟨c0 + l.val, hl⟩) := by
  rw [ld_at X ho inb ⟨r.val - r0, by omega⟩ l (by simp only; omega) hl]
  congr 2
  exact Fin.ext (by simp only; omega)

/-- The two halves' blocks of keys. -/
def twoBlocks {n : ℕ} (A B : Fin n → Fin 128 → EReal) (g : Fin 2) : Fin n → Fin 128 → EReal := match g with | 0 => A | 1 => B

/-- The same from what the body stores. -/
theorem Adv.of_pieces {n r0 m m' : ℕ} (h : r0 + n ≤ 8192) (hm : ∀ (r : Fin n) (q : Fin 512), r.val ≤ q.val + m' ↔ r0 + r.val ≤ q.val + m)
    {off1 off2 off3 : Fin 2 → ℕ} (ho1 : off1 = ![r0, 0]) (ho2 : off2 = ![r0, 0]) (ho3 : off3 = ![r0, 128])
    (inb1 : ∀ a, off1 a + (⟨2, ![n, 128]⟩ : Shape).size a ≤ S8192x128.size a) (inb2 : ∀ a, off2 a + (⟨2, ![n, 128]⟩ : Shape).size a ≤ S8192x256.size a)
    (inb3 : ∀ a, off3 a + (⟨2, ![n, 128]⟩ : Shape).size a ≤ S8192x256.size a)
    {V K0 K1 : FVec Ideal ⟨2, ![n, 128]⟩ .bf16} {old0 old1 oldv : FVec Ideal ⟨2, ![n, 128]⟩ .f32} {a : Sums Ideal}
    (hV : V = View.ld x.v (Rect.unit (s := S8192x128) off1 (⟨2, ![n, 128]⟩ : Shape).size inb1))
    (hK0 : K0 = View.ld x.k (Rect.unit (s := S8192x256) off2 (⟨2, ![n, 128]⟩ : Shape).size inb2))
    (hK1 : K1 = View.ld x.k (Rect.unit (s := S8192x256) off3 (⟨2, ![n, 128]⟩ : Shape).size inb3))
    (hold0 : old0 = View.ld a.dk (Rect.unit (s := S8192x256) off2 (⟨2, ![n, 128]⟩ : Shape).size inb2))
    (hold1 : old1 = View.ld a.dk (Rect.unit (s := S8192x256) off3 (⟨2, ![n, 128]⟩ : Shape).size inb3))
    (holdv : oldv = View.ld a.dv (Rect.unit (s := S8192x128) off1 (⟨2, ![n, 128]⟩ : Shape).size inb1))
    (p1 p0 pv : FVec Ideal ⟨2, ![n, 128]⟩ .f32)
    (dq0 dq1 : FVec Ideal S512x128 .f32)
    (hdq0 : ∀ (q : Fin 512) (l : Fin 128), (show EReal from dq0 (ix2 q l)) = a.dq0 (ix2 q l) + ∑ r : Fin n, slope m' (rowsOf K0) (rowsOf V) (rowsOf x.pt.q0) (rowsOf x.pt.ct0) (rowOf x.pt.s0) (rowOf x.pt.d0) r q * K0 (ix2 r l))
    (hdq1 : ∀ (q : Fin 512) (l : Fin 128), (show EReal from dq1 (ix2 q l)) = a.dq1 (ix2 q l) + ∑ r : Fin n, slope m' (rowsOf K1) (rowsOf V) (rowsOf x.pt.q1) (rowsOf x.pt.ct1) (rowOf x.pt.s1) (rowOf x.pt.d1) r q * K1 (ix2 r l))
    (hp0 : ∀ (r : Fin n) (l : Fin 128), (show EReal from p0 (ix2 r l)) = old0 (ix2 r l) + ∑ q : Fin 512, slope m' (rowsOf K0) (rowsOf V) (rowsOf x.pt.q0) (rowsOf x.pt.ct0) (rowOf x.pt.s0) (rowOf x.pt.d0) r q * x.pt.q0 (ix2 q l))
    (hp1 : ∀ (r : Fin n) (l : Fin 128), (show EReal from p1 (ix2 r l)) = old1 (ix2 r l) + ∑ q : Fin 512, slope m' (rowsOf K1) (rowsOf V) (rowsOf x.pt.q1) (rowsOf x.pt.ct1) (rowOf x.pt.s1) (rowOf x.pt.d1) r q * x.pt.q1 (ix2 q l))
    (hpv : ∀ (r : Fin n) (l : Fin 128), (show EReal from pv (ix2 r l)) = oldv (ix2 r l) + (if l.val < 64 then ∑ q : Fin 512, weight m' (rowsOf K0) (rowsOf x.pt.q0) (rowOf x.pt.s0) r q * x.pt.ct (ix2 q l)
      else ∑ q : Fin 512, weight m' (rowsOf K1) (rowsOf x.pt.q1) (rowOf x.pt.s1) r q * x.pt.ct (ix2 q l))) :
    Adv x m r0 (r0 + n) a
      { dq0 := dq0, dq1 := dq1
        dk := View.canon [⟨Rect.unit (s := S8192x256) off3 (⟨2, ![n, 128]⟩ : Shape).size inb3, p1⟩, ⟨Rect.unit (s := S8192x256) off2 (⟨2, ![n, 128]⟩ : Shape).size inb2, p0⟩, ⟨whole256, a.dk⟩]
        dv := View.canon [⟨Rect.unit (s := S8192x128) off1 (⟨2, ![n, 128]⟩ : Shape).size inb1, pv⟩, ⟨whole128, a.dv⟩] } := by
  subst hV hK0 hK1 hold0 hold1 holdv
  simp only [pt_q0, pt_q1, pt_c0, pt_c1, pt_s0, pt_s1, pt_d0, pt_d1] at hdq0 hdq1 hp0 hp1 hpv
  have hq0 : ∀ q l, (show EReal from x.pt.q0 (ix2 q l)) = (x.side 0).q q l := fun q l => congrFun (congrFun (pt_q0 x) q) l
  have hq1 : ∀ q l, (show EReal from x.pt.q1 (ix2 q l)) = (x.side 1).q q l := fun q l => congrFun (congrFun (pt_q1 x) q) l
  let kb : Fin 2 → Fin n → Fin 128 → EReal := twoBlocks (rowsOf (φ := .bf16) (View.ld x.k (Rect.unit (s := S8192x256) off2 (⟨2, ![n, 128]⟩ : Shape).size inb2)))
    (rowsOf (φ := .bf16) (View.ld x.k (Rect.unit (s := S8192x256) off3 (⟨2, ![n, 128]⟩ : Shape).size inb3)))
  refine Adv.of_block (kb := kb) (vb := rowsOf (φ := .bf16) (View.ld x.v (Rect.unit (s := S8192x128) off1 (⟨2, ![n, 128]⟩ : Shape).size inb1))) (m' := m') h ?_ ?_ ?_ ?_
  · intro g
    refine ⟨fun r l => ?_, fun r l => ?_, hm⟩
    · fin_cases g
      · exact (ld_at x.k ho2 inb2 r l (by omega) (by omega)).trans rfl
      · exact (ld_at x.k ho3 inb3 r l (by omega) (by omega)).trans rfl
    · exact (ld_at x.v ho1 inb1 r l (by omega) (by omega)).trans (by simp only [In.side]; congr 2; exact Fin.ext (by simp))
  · intro g q l
    fin_cases g
    · exact hdq0 q l
    · exact hdq1 q l
  · intro g r l
    refine (canon_halves ho3 ho2 inb3 inb2 _ p1 p0 a.dk g r l).trans ?_
    by_cases hr : r0 ≤ r.val ∧ r.val < r0 + n
    · rw [dif_pos hr, dif_pos hr]
      fin_cases g
      · refine (hp0 _ l).trans (congrArg₂ (· + ·) ?_ ?_)
        · exact (old_at a.dk ho2 inb2 r l hr (by omega)).trans rfl
        · exact Finset.sum_congr rfl fun q _ => congrArg _ (hq0 q l)
      · refine (hp1 _ l).trans (congrArg₂ (· + ·) ?_ ?_)
        · exact (old_at a.dk ho3 inb3 r l hr (by omega)).trans rfl
        · exact Finset.sum_congr rfl fun q _ => congrArg _ (hq1 q l)
    · rw [dif_neg hr, dif_neg hr]
      rfl
  · intro r l
    refine (canon_rows ho1 inb1 _ pv a.dv r l).trans ?_
    by_cases hr : r0 ≤ r.val ∧ r.val < r0 + n
    · rw [dif_pos hr, dif_pos hr]
      refine (hpv _ l).trans (congrArg₂ (· + ·) ?_ ?_)
      · exact (old_at a.dv ho1 inb1 r l hr (by omega)).trans (by simp only [Sums.dvs]; congr 2; exact Fin.ext (by simp))
      · refine Eq.trans ?_ (ite_half l fun g => ∑ q : Fin 512, weight m' (kb g) (x.side g).q (x.side g).s ⟨r.val - r0, by omega⟩ q * x.ct (ix2 q l))
        refine if_congr Iff.rfl ?_ ?_ <;> exact Finset.sum_congr rfl fun q _ => congrArg _ (pt_ct x q l)
    · rw [dif_neg hr, dif_neg hr]
      rfl

variable (i : grid0.Coords) (a : Sums Ideal)

theorem last3_at : ∀ i : grid0.Coords, k0_cond2 i = 1#1 → k0_cond3 i = 1#1 → k0_cond4 i = 1#1 → (i 1).val % 4 = 3 := by decide +kernel
theorem last2_at : ∀ i : grid0.Coords, k0_cond2 i = 1#1 → k0_cond3 i = 1#1 → ¬k0_cond4 i = 1#1 → (i 1).val % 4 = 2 := by decide +kernel
theorem last1_at : ∀ i : grid0.Coords, k0_cond2 i = 1#1 → ¬k0_cond3 i = 1#1 → (i 1).val % 4 = 1 := by decide +kernel
theorem last0_at : ∀ i : grid0.Coords, ¬k0_cond2 i = 1#1 → (i 1).val % 4 = 0 := by decide +kernel
theorem place_lt : (i 1).val < 16 := (i 1).isLt

end Point

end Cert.Kernel2Ideal.Attn

end
-- ==== Proof.Attn.Point.lean ====
module

public import proofs.«01_k».proof.Proof.Attn.Sweep

/-! What a point of the grid adds to the sums: all keys up to its queries, element by element. -/

@[expose] public section

set_option maxRecDepth 16384

noncomputable section

namespace Cert.Kernel2Ideal.Attn

open Cert.Kernel2Ideal.Gen
open Idealize.ShloMosaic Idealize.ShloMosaic.TcCoe Idealize.ShloMosaic.Tactic Idealize.SL.Sem

variable (x : In Ideal) (i : grid0.Coords) (a : Sums Ideal)

theorem trip_adv (t : Fin (k0_t1_loop i).trips) : Adv x (512 * (i 1).val) (2048 * t.val) (2048 * t.val + 2048) a (a.trip i t x.pt x.k x.v) := by
  have hi := place_lt i
  have ht : t.val < (i 1).val / 4 := (trips_eq i) ▸ t.isLt
  unfold Sums.trip rows1 rows2 rows3
  exact Adv.of_pieces (n := 2048) (r0 := 2048 * t.val) (m' := 2048) (by omega) (fun r q => by omega) (off1_eq i t) (off2_eq i t) (off3_eq i t) (k0_off1_inb i t) (k0_off2_inb i t) (k0_off3_inb i t)
    rfl rfl rfl rfl rfl rfl _ _ _ _ _ (fun q l => trip_dq0 _ _ _ _ _ _ _ q l) (fun q l => trip_dq1 _ _ _ _ _ _ _ q l)
    (fun r l => trip_dk0 _ _ _ _ _ _ _ r l) (fun r l => trip_dk1 _ _ _ _ _ _ _ r l) (fun r l => trip_dv _ _ _ _ _ _ _ _ r l)

theorem last3_adv (h2 : k0_cond2 i = 1#1) (h3 : k0_cond3 i = 1#1) (h4 : k0_cond4 i = 1#1) : Adv x (512 * (i 1).val) (2048 * ((i 1).val / 4)) (2048 * ((i 1).val / 4) + 2048) a (a.last3 i x.pt x.k x.v h2 h3 h4) := by
  have hi := place_lt i
  have hw : (i 1).val % 4 = 3 := last3_at i h2 h3 h4
  unfold Sums.last3
  exact Adv.of_pieces (n := 2048) (r0 := 2048 * ((i 1).val / 4)) (m' := 1536) (by omega) (fun r q => by omega) (off7_eq i) (off8_eq i) (off9_eq i) (k0_off7_inb i h2 h3 h4) (k0_off8_inb i h2 h3 h4) (k0_off9_inb i h2 h3 h4)
    rfl rfl rfl rfl rfl rfl _ _ _ _ _ (fun q l => last3_dq0 _ _ _ _ _ _ _ q l) (fun q l => last3_dq1 _ _ _ _ _ _ _ q l)
    (fun r l => last3_dk0 _ _ _ _ _ _ _ r l) (fun r l => last3_dk1 _ _ _ _ _ _ _ r l) (fun r l => last3_dv _ _ _ _ _ _ _ _ r l)

theorem last2_adv (h2 : k0_cond2 i = 1#1) (h3 : k0_cond3 i = 1#1) (h4 : ¬k0_cond4 i = 1#1) : Adv x (512 * (i 1).val) (2048 * ((i 1).val / 4)) (2048 * ((i 1).val / 4) + 1536) a (a.last2 i x.pt x.k x.v h2 h3 h4) := by
  have hi := place_lt i
  have hw : (i 1).val % 4 = 2 := last2_at i h2 h3 h4
  unfold Sums.last2
  exact Adv.of_pieces (n := 1536) (r0 := 2048 * ((i 1).val / 4)) (m' := 1024) (by omega) (fun r q => by omega) (off10_eq i) (off11_eq i) (off12_eq i) (k0_off10_inb i h2 h3 h4) (k0_off11_inb i h2 h3 h4) (k0_off12_inb i h2 h3 h4)
    rfl rfl rfl rfl rfl rfl _ _ _ _ _ (fun q l => last2_dq0 _ _ _ _ _ _ _ q l) (fun q l => last2_dq1 _ _ _ _ _ _ _ q l)
    (fun r l => last2_dk0 _ _ _ _ _ _ _ r l) (fun r l => last2_dk1 _ _ _ _ _ _ _ r l) (fun r l => last2_dv _ _ _ _ _ _ _ _ r l)

theorem last1_adv (h2 : k0_cond2 i = 1#1) (h3 : ¬k0_cond3 i = 1#1) : Adv x (512 * (i 1).val) (2048 * ((i 1).val / 4)) (2048 * ((i 1).val / 4) + 1024) a (a.last1 i x.pt x.k x.v h2 h3) := by
  have hi := place_lt i
  have hw : (i 1).val % 4 = 1 := last1_at i h2 h3
  unfold Sums.last1
  exact Adv.of_pieces (n := 1024) (r0 := 2048 * ((i 1).val / 4)) (m' := 512) (by omega) (fun r q => by omega) (off13_eq i) (off14_eq i) (off15_eq i) (k0_off13_inb i h2 h3) (k0_off14_inb i h2 h3) (k0_off15_inb i h2 h3)
    rfl rfl rfl rfl rfl rfl _ _ _ _ _ (fun q l => last1_dq0 _ _ _ _ _ _ _ q l) (fun q l => last1_dq1 _ _ _ _ _ _ _ q l)
    (fun r l => last1_dk0 _ _ _ _ _ _ _ r l) (fun r l => last1_dk1 _ _ _ _ _ _ _ r l) (fun r l => last1_dv _ _ _ _ _ _ _ _ r l)

theorem last0_adv (h2 : ¬k0_cond2 i = 1#1) : Adv x (512 * (i 1).val) (2048 * ((i 1).val / 4)) (2048 * ((i 1).val / 4) + 512) a (a.last0 i x.pt x.k x.v h2) := by
  have hi := place_lt i
  have hw : (i 1).val % 4 = 0 := last0_at i h2
  unfold Sums.last0
  exact Adv.of_pieces (n := 512) (r0 := 2048 * ((i 1).val / 4)) (m' := 0) (by omega) (fun r q => by omega) (off16_eq i) (off17_eq i) (off18_eq i) (k0_off16_inb i h2) (k0_off17_inb i h2) (k0_off18_inb i h2)
    rfl rfl rfl rfl rfl rfl _ _ _ _ _ (fun q l => last0_dq0 _ _ _ _ _ _ _ q l) (fun q l => last0_dq1 _ _ _ _ _ _ _ q l)
    (fun r l => last0_dk0 _ _ _ _ _ _ _ r l) (fun r l => last0_dk1 _ _ _ _ _ _ _ r l) (fun r l => last0_dv _ _ _ _ _ _ _ _ r l)

/-- All full blocks of keys before the point's queries. -/
theorem trips_adv (n : ℕ) (hn : n ≤ (k0_t1_loop i).trips) : Adv x (512 * (i 1).val) 0 (2048 * n) a (a.trips i x.pt x.k x.v n) := by
  induction n with
  | zero => exact Adv.refl x _ a
  | succ n ih =>
    have h := Sums.trips_succ i x.pt x.k x.v a ⟨n, hn⟩
    exact (ih (by omega)).trans (Nat.zero_le _) (by omega) (h ▸ trip_adv x i _ ⟨n, hn⟩)

/-- The last keys, up to the queries. -/
theorem last_adv : Adv x (512 * (i 1).val) (2048 * ((i 1).val / 4)) (512 * (i 1).val + 512) a (a.last i x.pt x.k x.v) := by
  unfold Sums.last
  by_cases h2 : k0_cond2 i = 1#1
  · rw [dif_pos h2]
    by_cases h3 : k0_cond3 i = 1#1
    · rw [dif_pos h3]
      by_cases h4 : k0_cond4 i = 1#1
      · rw [dif_pos h4, show 512 * (i 1).val + 512 = 2048 * ((i 1).val / 4) + 2048 by have := last3_at i h2 h3 h4; omega]
        exact last3_adv x i a h2 h3 h4
      · rw [dif_neg h4, show 512 * (i 1).val + 512 = 2048 * ((i 1).val / 4) + 1536 by have := last2_at i h2 h3 h4; omega]
        exact last2_adv x i a h2 h3 h4
    · rw [dif_neg h3, show 512 * (i 1).val + 512 = 2048 * ((i 1).val / 4) + 1024 by have := last1_at i h2 h3; omega]
      exact last1_adv x i a h2 h3
  · rw [dif_neg h2, show 512 * (i 1).val + 512 = 2048 * ((i 1).val / 4) + 512 by have := last0_at i h2; omega]
    exact last0_adv x i a h2

theorem point_adv : Adv x (512 * (i 1).val) 0 (512 * (i 1).val + 512) (a.start i) (a.point i x) := by
  have h := trips_adv x i (a.start i) _ le_rfl
  rw [trips_eq] at h
  unfold Sums.point
  rw [trips_eq]
  exact h.trans (Nat.zero_le _) (by omega) (last_adv x i _)

/-- A query has no probability of the keys after it. -/
theorem prob_after (z : Side) (m : ℕ) (r : Fin 8192) (q : Fin 512) (h : ¬r.val < m + 512) : z.prob m r q = 0 := if_neg (by omega)

theorem slope_after (z : Side) (m : ℕ) (r : Fin 8192) (q : Fin 512) (h : ¬r.val < m + 512) : z.slope m r q = 0 := by
  unfold Side.slope
  rw [prob_after z m r q h, zero_mul]

theorem point_dq (h : Fin 2) (q : Fin 512) (l : Fin 128) :
    (a.point i x).dqs h q l = ∑ r : Fin 8192, (x.side h).slope (512 * (i 1).val) r q * (x.side h).K r l := by
  rw [(point_adv x i a).dq]
  have e : (a.start i).dqs h q l = 0 := by
    fin_cases h <;> exact Ideal.ofBits_zero .f32
  rw [e, zero_add]
  refine Finset.sum_congr rfl fun r _ => ?_
  by_cases hr : r.val < 512 * (i 1).val + 512
  · rw [if_pos ⟨Nat.zero_le _, hr⟩]
  · rw [if_neg (fun e => hr e.2), slope_after _ _ _ _ hr, zero_mul]

/-- What the gradients of the keys and of the values start from at a point. -/
def keep (y : EReal) : EReal := if (i 1).val = 0 then 0 else y

theorem point_dk (h : Fin 2) (r : Fin 8192) (l : Fin 128) :
    (a.point i x).dks h r l = keep i (a.dks h r l) + ∑ q : Fin 512, (x.side h).slope (512 * (i 1).val) r q * (x.side h).q q l := by
  rw [(point_adv x i a).dk]
  congr 1
  · unfold keep
    by_cases hf : first i
    · rw [if_pos ((first_iff i).mp hf)]
      unfold Sums.start Sums.dks
      simp only [if_pos hf]
      exact Ideal.ofBits_zero .f32
    · rw [if_neg (fun e => hf ((first_iff i).mpr e))]
      unfold Sums.start Sums.dks
      simp only [if_neg hf]
  · by_cases hr : r.val < 512 * (i 1).val + 512
    · rw [if_pos ⟨Nat.zero_le _, hr⟩]
    · rw [if_neg (fun e => hr e.2)]
      exact (Finset.sum_eq_zero fun q _ => by rw [slope_after _ _ _ _ hr, zero_mul]).symm

theorem point_dv (r : Fin 8192) (l : Fin 128) :
    (a.point i x).dvs r l = keep i (a.dvs r l) + ∑ q : Fin 512, (x.side (half l)).prob (512 * (i 1).val) r q * x.ct (ix2 q l) := by
  rw [(point_adv x i a).dv]
  congr 1
  · unfold keep
    by_cases hf : first i
    · rw [if_pos ((first_iff i).mp hf)]
      unfold Sums.start Sums.dvs
      simp only [if_pos hf]
      exact Ideal.ofBits_zero .f32
    · rw [if_neg (fun e => hf ((first_iff i).mpr e))]
      unfold Sums.start Sums.dvs
      simp only [if_neg hf]
  · by_cases hr : r.val < 512 * (i 1).val + 512
    · rw [if_pos ⟨Nat.zero_le _, hr⟩]
    · rw [if_neg (fun e => hr e.2)]
      exact (Finset.sum_eq_zero fun q _ => by rw [prob_after _ _ _ _ hr, zero_mul]).symm

end Cert.Kernel2Ideal.Attn
-- ==== Proof.PadSums.lean ====
module

public import Idealize.ShloMosaic.Lib.Pointwise

/-! Sums over padded or rearranged lanes. -/

@[expose] public section

namespace Cert.PadSums

open Idealize.ShloMosaic

/-- Eight heads of 96 lanes, each padded to 128. -/
theorem heads (f : Fin 1024 → EReal) (F : Fin 8 → Fin 96 → EReal)
    (h : ∀ (e : Fin 1024) (hd : e.val % 128 < 96), f e = F ⟨e.val / 128, by omega⟩ ⟨e.val % 128, hd⟩)
    (h0 : ∀ e : Fin 1024, ¬ e.val % 128 < 96 → f e = 0) :
    ∑ e, f e = ∑ e : Fin 768, F ⟨e.val / 96, by omega⟩ ⟨e.val % 96, by omega⟩ := by
  rw [Fin.sum_univ_tiles 8 128 rfl f, Fin.sum_univ_tiles 8 96 rfl]
  refine Finset.sum_congr rfl fun a _ => ?_
  rw [Fin.sum_univ_two_halves 96 32 rfl,
    Finset.sum_eq_zero (s := Finset.univ) (f := fun k : Fin 32 => f ⟨a.val * 128 + (96 + k.val), _⟩)
      (fun k _ => h0 _ (by show ¬ (a.val * 128 + (96 + k.val)) % 128 < 96; omega)), add_zero]
  refine Finset.sum_congr rfl fun d _ => ?_
  have e1 : (a.val * 128 + d.val) % 128 = d.val := by omega
  have e2 : (a.val * 128 + d.val) / 128 = a.val := by omega
  have e3 : (a.val * 96 + d.val) % 96 = d.val := by omega
  have e4 : (a.val * 96 + d.val) / 96 = a.val := by omega
  refine (h _ (by show (a.val * 128 + d.val) % 128 < 96; omega)).trans ?_
  exact congrArg₂ F (Fin.ext (e2.trans e4.symm)) (Fin.ext (e1.trans e3.symm))

/-- Eight heads' keys padded from 64 to 128 lanes, and their values apart. -/
theorem keys_values (f : Fin 1024 → EReal) (g : Fin 512 → EReal) (F : Fin 1024 → EReal)
    (hf : ∀ e : Fin 1024, e.val % 128 < 64 → f e = F e) (h0 : ∀ e : Fin 1024, ¬ e.val % 128 < 64 → f e = 0)
    (hg : ∀ e : Fin 512, g e = F ⟨e.val / 64 * 128 + (64 + e.val % 64), by omega⟩) : ∑ e, f e + ∑ e, g e = ∑ e, F e := by
  rw [Fin.sum_univ_tiles 8 128 rfl f, Fin.sum_univ_tiles 8 64 rfl g, Fin.sum_univ_tiles 8 128 rfl F, ← Finset.sum_add_distrib]
  refine Finset.sum_congr rfl fun a _ => ?_
  rw [Fin.sum_univ_two_halves 64 64 rfl, Fin.sum_univ_two_halves (N := 128) 64 64 rfl fun t => F _,
    Finset.sum_eq_zero (s := Finset.univ) (f := fun k : Fin 64 => f ⟨a.val * 128 + (64 + k.val), _⟩)
      (fun k _ => h0 _ (by show ¬ (a.val * 128 + (64 + k.val)) % 128 < 64; omega)), add_zero]
  refine congrArg₂ (· + ·) (Finset.sum_congr rfl fun d _ => hf _ (by show (a.val * 128 + d.val) % 128 < 64; omega)) (Finset.sum_congr rfl fun d _ => ?_)
  refine (hg _).trans (congrArg F (Fin.ext ?_))
  show (a.val * 64 + d.val) / 64 * 128 + (64 + (a.val * 64 + d.val) % 64) = a.val * 128 + (64 + d.val)
  omega

/-- Sixteen blocks of 512 rows. -/
theorem rows (F : Fin 8192 → EReal) : ∑ t : Fin 16, ∑ i : Fin 512, F ⟨512 * t.val + i.val, by omega⟩ = ∑ s, F s := by
  rw [Fin.sum_univ_tiles 16 512 rfl F]
  exact Finset.sum_congr rfl fun a _ => Finset.sum_congr rfl fun i _ => congrArg F (Fin.ext (by show 512 * a.val + i.val = a.val * 512 + i.val; omega))

/-- The joint projection's columns: 384 of the latents, 32 rotary ones between 64 and 32 empty lanes, and 2048 gates. -/
theorem columns (g : Fin 512 → EReal) (k : Fin 2048 → EReal) (F : Fin 2464 → EReal)
    (h1 : ∀ j : Fin 384, g ⟨j.val, by omega⟩ = F ⟨j.val, by omega⟩) (h2 : ∀ j : Fin 64, g ⟨384 + j.val, by omega⟩ = 0)
    (h3 : ∀ j : Fin 32, g ⟨384 + (64 + j.val), by omega⟩ = F ⟨384 + j.val, by omega⟩) (h4 : ∀ j : Fin 32, g ⟨384 + (64 + (32 + j.val)), by omega⟩ = 0)
    (hk : ∀ j : Fin 2048, k j = F ⟨384 + (32 + j.val), by omega⟩) : ∑ j, k j + ∑ j, g j = ∑ j, F j := by
  have e1 : ∑ j, g j = ∑ j : Fin 384, F ⟨j.val, by omega⟩ + ∑ j : Fin 32, F ⟨384 + j.val, by omega⟩ := by
    rw [Fin.sum_univ_two_halves 384 128 rfl g, Fin.sum_univ_two_halves (N := 128) 64 64 rfl fun j => g ⟨384 + j.val, _⟩,
      Fin.sum_univ_two_halves (N := 64) 32 32 rfl fun j => g ⟨384 + (64 + j.val), _⟩]
    exact congrArg₂ (· + ·) (Finset.sum_congr rfl fun j _ => h1 j)
      ((congrArg₂ (· + ·) (Finset.sum_eq_zero fun j _ => h2 j) (congrArg₂ (· + ·) (Finset.sum_congr rfl fun j _ => h3 j)
        (Finset.sum_eq_zero fun j _ => h4 j))).trans (by rw [zero_add, add_zero]))
  rw [e1, Fin.sum_univ_two_halves 384 2080 rfl F, Fin.sum_univ_two_halves (N := 2080) 32 2048 rfl fun j => F ⟨384 + j.val, _⟩,
    Finset.sum_congr rfl fun j _ => hk j, add_comm, add_assoc]

end Cert.PadSums
-- ==== Proof.Attn.Value.lean ====
module

public import proofs.«01_k».proof.Proof.Attn.Blocks
public import proofs.«01_k».proof.Proof.Attn.Point
public import proofs.«01_k».proof.Proof.PadSums

/-! The sums after a pair's last point, and the queries' gradient of every point, as the data's. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

/-- The lanes that hold a head, and those that hold a half. -/
theorem lanes96 (f : Fin 96 → ℝ) : ∑ l : Fin 128, (if g : l.val < 96 then f ⟨l.val, g⟩ else 0) = ∑ e, f e := by
  refine (Fin.sum_univ_add (a := 96) (b := 32) _).trans ?_
  rw [Finset.sum_eq_zero (s := Finset.univ) (f := fun i : Fin 32 => _) fun i _ => dif_neg (by simp), add_zero]
  exact Finset.sum_congr rfl fun e _ => dif_pos e.isLt

theorem lanes64 (g : Fin 2) (f : Fin 128 → ℝ) : ∑ l : Fin 128, (if (l.val < 64 ↔ g.val = 0) then f l else 0) = ∑ e : Fin 64, f ⟨64 * g.val + e.val, by omega⟩ := by
  refine (Fin.sum_univ_add (a := 64) (b := 64) _).trans ?_
  match g with
  | 0 =>
    refine (congrArg (_ + ·) (Finset.sum_eq_zero fun i _ => if_neg fun h => absurd (h.mpr rfl) (by simp))).trans ((add_zero _).trans ?_)
    refine Finset.sum_congr rfl fun e _ => (if_pos (by simp)).trans (congrArg f (Fin.ext ?_))
    simp
  | 1 =>
    refine (congrArg (· + _) (Finset.sum_eq_zero fun i _ => if_neg (by simp))).trans ((zero_add _).trans ?_)
    refine Finset.sum_congr rfl fun e _ => (if_pos (by simp)).trans (congrArg f (Fin.ext ?_))
    show 64 + e.val = 64 * 1 + e.val
    omega

theorem upto_sum (G : Fin 16 → EReal) (S : (n : ℕ) → n < 16 → EReal) (h0 : S 0 (by decide) = G 0)
    (hs : ∀ n (h : n + 1 < 16), S (n + 1) h = S n (by omega) + G ⟨n + 1, h⟩) : S 15 (by decide) = ∑ j, G j := by
  have key : ∀ n (h : n < 16), S n h = ∑ j ∈ Finset.range (n + 1), (if g : j < 16 then G ⟨j, g⟩ else 0) := fun n => by
    induction n with
    | zero => intro h; rw [h0]; simp
    | succ n ih => intro h; rw [hs n h, ih, Finset.sum_range_succ _ (n + 1), dif_pos h]
  rw [key 15 (by decide), Finset.sum_range]
  exact Finset.sum_congr rfl fun j _ => dif_pos j.isLt

section
variable (D : Data)

/-- The operands of a head with their empty lanes, and the scores' gradient without the scale. -/
def qd (s : Fin 8192) (h : Fin 8) (l : Fin 128) : ℝ := if g : l.val < 96 then turned D s h ⟨l.val, g⟩ * (width / Real.log 2) else 0
def kd (r : Fin 8192) (h : Fin 8) (l : Fin 128) : ℝ := if g : l.val < 96 then D.k r h ⟨l.val, g⟩ else 0
def steep (h : Fin 8) (s r : Fin 8192) : ℝ := prob D h s r * (dprob D h s r - ∑ t, prob D h s t * dprob D h s t)

theorem qk_sum (h : Fin 8) (s r : Fin 8192) : ∑ l, kd D r h l * qd D s h l = ∑ e, D.k r h e * (turned D s h e * (width / Real.log 2)) := by
  rw [← lanes96]
  refine Finset.sum_congr rfl fun l _ => ?_
  unfold kd qd
  split_ifs
  · rfl
  · exact mul_zero _
end

/-- The lanes of the values and of their gradient, over both heads. -/
theorem lane_split (l : Fin 128) : l = ⟨64 * (half l).val + l.val % 64, by have := (half l).isLt; have := Nat.mod_lt l.val (show 0 < 64 by decide); omega⟩ := by
  refine Fin.ext ?_
  have := l.isLt
  unfold half
  split
  · show l.val = 64 * 0 + l.val % 64; omega
  · show l.val = 64 * 1 + l.val % 64; omega

def low (l : Fin 128) : Fin 64 := ⟨l.val % 64, Nat.mod_lt _ (by decide)⟩

/-- The head of a pair's half. -/
def headOf (p : Fin 4) (g : Fin 2) : Fin 8 := ⟨2 * p.val + g.val, by omega⟩
/-- The row of a place. -/
def rowOf' (i : Fin 16) (q : Fin 512) : Fin 8192 := ⟨512 * i.val + q.val, by omega⟩

variable {m c} {D : Data} (hD : Given m c D) {M : Fin 8 → Fin 8192 → ℝ} (hM : ∀ h s, (show EReal from upto (launched m c) 7 (Proc.devRef .tc main_v85) (ix3 0 h s)) = (M h s : EReal))
  (t : Fin cfg0.N) {p : Fin 4} {i : Fin 16} (ht : t.val = 16 * p.val + i.val)

include hD ht

theorem side_q (g : Fin 2) (q : Fin 512) (l : Fin 128) : ((blocks m c t).side g).q q l = (qd D (rowOf' i q) (headOf p g) l : EReal) := by
  have e : (⟨256 * p.val + (128 * g.val + l.val), by omega⟩ : Fin 1024) = ⟨128 * (headOf p g).val + l.val, by have := (headOf p g).isLt; omega⟩ := Fin.ext (by simp only [headOf]; omega)
  refine (q_blk m c t ht q ⟨128 * g.val + l.val, by omega⟩).trans ?_
  rw [e]
  exact q_at hD (rowOf' i q) (headOf p g) l

theorem side_K (g : Fin 2) (r : Fin 8192) (l : Fin 128) : ((blocks m c t).side g).K r l = (kd D r (headOf p g) l : EReal) := by
  have e : (⟨256 * p.val + (128 * g.val + l.val), by omega⟩ : Fin 1024) = ⟨128 * (headOf p g).val + l.val, by have := (headOf p g).isLt; omega⟩ := Fin.ext (by simp only [headOf]; omega)
  refine (k_blk m c t ht r ⟨128 * g.val + l.val, by omega⟩).trans ?_
  rw [e]
  exact k_at hD r (headOf p g) l

theorem ct_half (g : Fin 2) (q : Fin 512) (e : Fin 64) : (show EReal from (blocks m c t).ct (ix2 q ⟨64 * g.val + e.val, by omega⟩)) = (D.ct (rowOf' i q) (headOf p g) e : EReal) := by
  have e' : (⟨128 * p.val + (64 * g.val + e.val), by omega⟩ : Fin 512) = ⟨64 * (headOf p g).val + e.val, by have := (headOf p g).isLt; omega⟩ := Fin.ext (by simp only [headOf]; omega)
  refine (ct_blk m c t ht q ⟨64 * g.val + e.val, by omega⟩).trans ?_
  rw [e']
  exact ct_at hD (rowOf' i q) (headOf p g) e

theorem v_half (g : Fin 2) (r : Fin 8192) (e : Fin 64) : (show EReal from (blocks m c t).v (ix2 r ⟨64 * g.val + e.val, by omega⟩)) = (D.v r (headOf p g) e : EReal) := by
  have e' : (⟨128 * p.val + (64 * g.val + e.val), by omega⟩ : Fin 512) = ⟨64 * (headOf p g).val + e.val, by have := (headOf p g).isLt; omega⟩ := Fin.ext (by simp only [headOf]; omega)
  refine (v_blk m c t ht r ⟨64 * g.val + e.val, by omega⟩).trans ?_
  rw [e']
  exact v_at hD r (headOf p g) e

theorem ct_lane (q : Fin 512) (l : Fin 128) : (show EReal from (blocks m c t).ct (ix2 q l)) = (D.ct (rowOf' i q) (headOf p (half l)) (low l) : EReal) := by
  refine Eq.trans ?_ (ct_half hD t ht (half l) q (low l))
  exact congrArg (fun j => (show EReal from (blocks m c t).ct (ix2 q j))) (lane_split l)

theorem v_lane (r : Fin 8192) (l : Fin 128) : (show EReal from (blocks m c t).v (ix2 r l)) = (D.v r (headOf p (half l)) (low l) : EReal) := by
  refine Eq.trans ?_ (v_half hD t ht (half l) r (low l))
  exact congrArg (fun j => (show EReal from (blocks m c t).v (ix2 r j))) (lane_split l)

theorem side_vc (g : Fin 2) (q : Fin 512) (r : Fin 8192) : ∑ l, ((blocks m c t).side g).V r l * ((blocks m c t).side g).c q l = (dprob D (headOf p g) (rowOf' i q) r : EReal) := by
  have e : ∀ l : Fin 128, ((blocks m c t).side g).V r l * ((blocks m c t).side g).c q l =
      ((if (l.val < 64 ↔ g.val = 0) then D.v r (headOf p (half l)) (low l) * D.ct (rowOf' i q) (headOf p (half l)) (low l) else 0 : ℝ) : EReal) := fun l => by
    have a := v_lane hD t ht r l
    have b := ct_lane hD t ht q l
    simp only [In.side]
    split_ifs
    · rw [EReal.coe_mul]
      exact congrArg₂ (fun a b : EReal => a * b) a b
    · rw [mul_zero, EReal.coe_zero]
  rw [Finset.sum_congr rfl fun l _ => e l, coe_sum, lanes64 g (fun l => D.v r (headOf p (half l)) (low l) * D.ct (rowOf' i q) (headOf p (half l)) (low l))]
  refine congrArg _ (Finset.sum_congr rfl fun e _ => ?_)
  have h1 : half ⟨64 * g.val + e.val, by omega⟩ = g := by
    unfold half
    match g with
    | 0 => exact if_pos (by simp)
    | 1 => exact if_neg (by simp)
  have h2 : low ⟨64 * g.val + e.val, by omega⟩ = e := Fin.ext (by show (64 * g.val + e.val) % 64 = e.val; omega)
  rw [h1, h2, mul_comm]

include hM

theorem side_s (g : Fin 2) (q : Fin 512) : ((blocks m c t).side g).s q =
    (((M (headOf p g) (rowOf' i q) + Real.log (∑ r, lowered D (M (headOf p g) (rowOf' i q)) (headOf p g) (rowOf' i q) r)) / Real.log 2 : ℝ) : EReal) :=
  (lse_blk m c t ht g q).trans (lse_at hD hM p i g q (headOf p g) (rowOf' i q) rfl rfl)

theorem side_d (g : Fin 2) (q : Fin 512) : ((blocks m c t).side g).d q = ((∑ r, prob D (headOf p g) (rowOf' i q) r * dprob D (headOf p g) (rowOf' i q) r : ℝ) : EReal) := by
  show (∑ l : Fin 64, (show EReal from (blocks m c t).ct (ix2 q ⟨64 * g.val + l.val, by omega⟩)) * (show EReal from (blocks m c t).o (ix2 q ⟨64 * g.val + l.val, by omega⟩)) : EReal) = _
  refine Eq.trans ?_ ((coe_sum _ _).trans (congrArg _ (shared D (headOf p g) (rowOf' i q))))
  refine Finset.sum_congr rfl fun e _ => ?_
  rw [EReal.coe_mul]
  have e' : (⟨128 * p.val + (64 * g.val + e.val), by omega⟩ : Fin 512) = ⟨64 * (headOf p g).val + e.val, by have := (headOf p g).isLt; omega⟩ := Fin.ext (by simp only [headOf]; omega)
  refine congrArg₂ (fun a b : EReal => a * b) (ct_half hD t ht g q e) ((o_blk m c t ht q ⟨64 * g.val + e.val, by omega⟩).trans ?_)
  rw [e']
  exact o_at hD hM (rowOf' i q) (headOf p g) e

theorem side_prob (g : Fin 2) (r : Fin 8192) (q : Fin 512) : ((blocks m c t).side g).prob (512 * i.val) r q = (prob D (headOf p g) (rowOf' i q) r : EReal) := by
  unfold Side.prob
  by_cases h : r.val ≤ q.val + 512 * i.val
  · rw [if_pos h, side_s hD hM t ht]
    simp only [side_q hD t ht, side_K hD t ht, ← EReal.coe_mul, coe_sum]
    rw [← EReal.coe_sub, Ideal.exp2_coe, qk_sum]
    exact congrArg _ (prob_base D _ _ _ _ (by show r.val ≤ 512 * i.val + q.val; omega))
  · rw [if_neg h, Cert.Attention.prob_after D _ _ _ (by show ¬r.val ≤ 512 * i.val + q.val; omega), EReal.coe_zero]

theorem side_slope (g : Fin 2) (r : Fin 8192) (q : Fin 512) : ((blocks m c t).side g).slope (512 * i.val) r q = (steep D (headOf p g) (rowOf' i q) r : EReal) := by
  unfold Side.slope
  rw [side_prob hD hM t ht, side_vc hD t ht, side_d hD hM t ht, ← EReal.coe_sub, ← EReal.coe_mul]
  rfl

theorem place_eq : (grid0.coords t 1).val = i.val := (coords_1 t).trans (place_of t ht)

theorem dq_at (a : Sums Ideal) (g : Fin 2) (q : Fin 512) (l : Fin 128) : (a.point (grid0.coords t) (blocks m c t)).dqs g q l =
    ((∑ r, steep D (headOf p g) (rowOf' i q) r * kd D r (headOf p g) l : ℝ) : EReal) := by
  rw [point_dq, place_eq hD hM t ht]
  simp only [side_slope hD hM t ht, side_K hD t ht, ← EReal.coe_mul, coe_sum]

theorem dk_step (a : Sums Ideal) (g : Fin 2) (r : Fin 8192) (l : Fin 128) : (a.point (grid0.coords t) (blocks m c t)).dks g r l =
    (if i.val = 0 then 0 else a.dks g r l) + ∑ q, ((steep D (headOf p g) (rowOf' i q) r * qd D (rowOf' i q) (headOf p g) l : ℝ) : EReal) := by
  rw [point_dk, keep, place_eq hD hM t ht]
  simp only [side_slope hD hM t ht, side_q hD t ht, ← EReal.coe_mul]

theorem dv_step (a : Sums Ideal) (r : Fin 8192) (l : Fin 128) : (a.point (grid0.coords t) (blocks m c t)).dvs r l =
    (if i.val = 0 then 0 else a.dvs r l) + ∑ q, ((prob D (headOf p (half l)) (rowOf' i q) r * D.ct (rowOf' i q) (headOf p (half l)) (low l) : ℝ) : EReal) := by
  rw [point_dv, keep, place_eq hD hM t ht]
  refine congrArg _ (Finset.sum_congr rfl fun q _ => ?_)
  rw [side_prob hD hM t ht, EReal.coe_mul]
  exact congrArg (fun b : EReal => _ * b) (ct_lane hD t ht q l)

end Cert.Kernel2Ideal.Attn
-- ==== Proof.Attn.Tables.lean ====
module

public import proofs.«01_k».proof.Proof.Attn.Entry

/-! The table of cosines and sines, and the rotation's signs, as the host line leaves them. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

/-- A lane's frequency. -/
def freq (l : Fin 128) : EReal :=
  if h : 64 ≤ l.val ∧ l.val < 96 then Ideal.div 1 (Ideal.pow (Ideal.ofBits .f32 0x461C4000#32)
    (Ideal.div (FloatOps.sitofp (F := Ideal) .f32 (BitVec.ofNat 32 ((l.val - 64) % 16))) (Ideal.ofBits .f32 0x41800000#32))) else 0

theorem v15_at (s : Fin 8192) (l : Fin 128) : (show EReal from upto (launched m c) 1 (Proc.devRef .tc main_v15) (ix2 s l)) =
    FloatOps.sitofp (F := Ideal) .f32 ((m (c, Proc.devRef .tc main_arg3) : IVec S1x8192 32) (ix2 0 s)) * freq l := by
  rw [upto_succ]
  simp only [piece, hostOps0]
  after_results_simp
  pointwise
  after_results_simp
  rw [arg_eq m c main_arg3 0 (by decide) (by decide)]
  pointwise
  refine congrArg _ ?_
  unfold freq
  by_cases h0 : l.val < 64
  · rw [dif_pos h0, dif_neg (by omega)]
  · rw [dif_neg h0]
    by_cases h1 : l.val - 64 < 16
    · rw [dif_pos h1, dif_pos (by omega), Nat.mod_eq_of_lt h1]
    · rw [dif_neg h1]
      by_cases h2 : l.val - 64 - 16 < 16
      · rw [dif_pos h2, dif_pos (by omega), Nat.mod_eq_sub_mod (by omega), Nat.mod_eq_of_lt h2]
      · rw [dif_neg h2, dif_neg (by omega)]

theorem v18_cos (s : Fin 8192) (l : Fin 128) : (show EReal from V m c main_v18 (ix2 s ⟨l.val, by omega⟩)) =
    Ideal.cos (show EReal from upto (launched m c) 1 (Proc.devRef .tc main_v15) (ix2 s l)) := by
  rw [V_eq m c main_v18 1 10 rfl (by decide), upto_succ]
  simp only [piece, hostOps0]
  after_results_simp
  pointwise

theorem v18_sin (s : Fin 8192) (l : Fin 128) : (show EReal from V m c main_v18 (ix2 s ⟨128 + l.val, by omega⟩)) =
    Ideal.sin (show EReal from upto (launched m c) 1 (Proc.devRef .tc main_v15) (ix2 s l)) := by
  rw [V_eq m c main_v18 1 10 rfl (by decide), upto_succ]
  simp only [piece, hostOps0]
  after_results_simp
  pointwise

/-- A lane's angle. -/
def lane (D : Data) (s : Fin 8192) (l : Fin 128) : ℝ := if 64 ≤ l.val ∧ l.val < 96 then D.angle s ⟨(l.val - 64) % 16, Nat.mod_lt _ (by decide)⟩ else 0

variable {m c} {D : Data} (hD : Given m c D)
include hD

theorem lane_at (s : Fin 8192) (l : Fin 128) : (show EReal from upto (launched m c) 1 (Proc.devRef .tc main_v15) (ix2 s l)) = (lane D s l : EReal) := by
  rw [v15_at]
  unfold freq lane
  split_ifs
  · have ha := hD.angle s ⟨(l.val - 64) % 16, Nat.mod_lt _ (by decide)⟩
    unfold turn at ha
    exact ha
  · rw [mul_zero, EReal.coe_zero]

theorem cos_at (s : Fin 8192) (l : Fin 128) : (show EReal from V m c main_v18 (ix2 s ⟨l.val, by omega⟩)) = (Real.cos (lane D s l) : EReal) := by
  rw [v18_cos, lane_at hD, Ideal.cos_coe]

theorem sin_at (s : Fin 8192) (l : Fin 128) : (show EReal from V m c main_v18 (ix2 s ⟨128 + l.val, by omega⟩)) = (Real.sin (lane D s l) : EReal) := by
  rw [v18_sin, lane_at hD, Ideal.sin_coe]

end Cert.Kernel2Ideal.Attn
-- ==== Proof.Attn.Signs.lean ====
module

public import proofs.«01_k».proof.Proof.Attn.Entry

/-! The rotation's signs, as the host line leaves them. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

theorem minus_one : Ideal.ofBits .f32 0xBF800000#32 = -1 := by
  simp [Ideal.ofBits, Ideal.ieee]
  rw [← EReal.coe_mul]
  norm_num

theorem small_int (n : ℕ) (hn : n < 2 ^ 31) : (BitVec.ofNat 32 n).toInt = n := by
  rw [BitVec.toInt_eq_toNat_of_lt, BitVec.toNat_ofNat, Nat.mod_eq_of_lt (by omega)]
  rw [BitVec.toNat_ofNat, Nat.mod_eq_of_lt (by omega)]
  omega

/-- A row and a stretch of lanes, compared word by word. -/
theorem between_words (r : Fin 16) (l : Fin 1024) (a lo hi : ℕ) (ha : a < 2 ^ 31) (hlo : lo < 2 ^ 31) (hhi : hi < 2 ^ 31) :
    IntOp.andi (IntOp.andi (IntOp.cmpi .eq (BitVec.ofNat 32 r.val) (BitVec.ofNat 32 a)) (IntOp.cmpi .sge (BitVec.ofNat 32 l.val) (BitVec.ofNat 32 lo)))
      (IntOp.cmpi .slt (BitVec.ofNat 32 l.val) (BitVec.ofNat 32 hi)) = if r.val = a ∧ lo ≤ l.val ∧ l.val < hi then 1#1 else 0#1 := by
  have hr := r.isLt
  have hl := l.isLt
  have e1 : (BitVec.ofNat 32 r.val == BitVec.ofNat 32 a) = decide (r.val = a) := by
    rw [Bool.eq_iff_iff, beq_iff_eq, decide_eq_true_iff]
    constructor
    · intro h
      have := congrArg BitVec.toNat h
      rwa [BitVec.toNat_ofNat, BitVec.toNat_ofNat, Nat.mod_eq_of_lt (by omega), Nat.mod_eq_of_lt (by omega)] at this
    · rintro rfl
      rfl
  have e2 : (BitVec.ofNat 32 lo).sle (BitVec.ofNat 32 l.val) = decide (lo ≤ l.val) := by
    rw [BitVec.sle_eq_decide, small_int _ hlo, small_int _ (by omega)]
    simp only [Int.ofNat_le]
  have e3 : (BitVec.ofNat 32 l.val).slt (BitVec.ofNat 32 hi) = decide (l.val < hi) := by
    rw [BitVec.slt_eq_decide, small_int _ hhi, small_int _ (by omega)]
    simp only [Int.ofNat_lt]
  simp only [IntOp.cmpi, IntOp.andi, e1, e2, e3]
  by_cases h1 : r.val = a <;> by_cases h2 : lo ≤ l.val <;> by_cases h3 : l.val < hi <;> simp [h1, h2, h3]

theorem v36_at (r : Fin 16) (l : Fin 1024) : upto (launched m c) 1 (Proc.devRef .tc main_v36) (ix2 r l) = if r.val = 6 ∧ 80 ≤ l.val ∧ l.val < 96 then 1#1 else 0#1 := by
  rw [upto_succ]
  simp only [piece, hostOps0]
  after_results_simp
  pointwise
  exact between_words r l 6 80 96 (by decide) (by decide) (by decide)

theorem v28_at (r : Fin 16) (l : Fin 1024) : upto (launched m c) 1 (Proc.devRef .tc main_v28) (ix2 r l) = if r.val = 5 ∧ 64 ≤ l.val ∧ l.val < 80 then 1#1 else 0#1 := by
  rw [upto_succ]
  simp only [piece, hostOps0]
  after_results_simp
  pointwise
  exact between_words r l 5 64 80 (by decide) (by decide) (by decide)

theorem v37_at (r : Fin 16) (l : Fin 1024) : (show EReal from upto (launched m c) 2 (Proc.devRef .tc main_v37) (ix2 r l)) = Scalar.select (upto (launched m c) 1 (Proc.devRef .tc main_v36) (ix2 r l)) (1 : EReal) 0 := by
  rw [show (show EReal from upto (launched m c) 2 (Proc.devRef .tc main_v37) (ix2 r l)) = (show EReal from StableHlo.after (piece 1) (upto (launched m c) 1) (Proc.devRef .tc main_v37) (ix2 r l)) from rfl]
  generalize hσ : upto (launched m c) 1 = σ
  have c9 : (show EReal from σ (Proc.devRef .tc main_cst_9) ix0) = 1 := by
    rw [← hσ, upto_succ]
    simp only [piece, hostOps0]
    after_results_simp
    pointwise
  have c10 : (show EReal from σ (Proc.devRef .tc main_cst_10) ix0) = 0 := by
    rw [← hσ, upto_succ]
    simp only [piece, hostOps0]
    after_results_simp
    pointwise
  simp only [piece, hostOps0_1]
  after_results_simp
  simp only [StableHlo.TRef.ofBuf_toBuf]
  pointwise [StableHlo.TRef.ofBuf, StableHlo.TRef.toBuf, StableHlo.TRef.of]
  simp only [cast_eq]
  pointwise
  exact congrArg₂ (Scalar.select _) c9 c10

/-- The rotation's signs. -/
theorem v39_at (r : Fin 16) (l : Fin 1024) : (show EReal from V m c main_v39 (ix2 r l)) =
    if r.val = 5 ∧ 64 ≤ l.val ∧ l.val < 80 then -1 else if r.val = 6 ∧ 80 ≤ l.val ∧ l.val < 96 then 1 else 0 := by
  have h37 := v37_at m c r l
  have h28 : upto (launched m c) 3 (Proc.devRef .tc main_v28) (ix2 r l) = _ := (congrFun (upto_keep (launched m c) main_v28 1 2 (by decide) (by decide)) _).trans (v28_at m c r l)
  have k37 : (show EReal from upto (launched m c) 3 (Proc.devRef .tc main_v37) (ix2 r l)) = _ := (congrFun (upto_keep (launched m c) main_v37 2 1 (by decide) (by decide)) _).trans h37
  have c11 : (show EReal from upto (launched m c) 3 (Proc.devRef .tc main_cst_11) ix0) = -1 := by
    rw [upto_succ]
    simp only [piece, hostOps0_2]
    after_results_simp
    pointwise
    exact minus_one
  rw [v36_at] at k37
  rw [V_eq m c main_v39 5 6 rfl (by decide), upto_succ]
  simp only [piece, hostOps0_4]
  after_results_simp
  show (show EReal from StableHlo.after (piece 3) (upto (launched m c) 3) (Proc.devRef .tc main_v38) (ix2 r l)) = _
  generalize upto (launched m c) 3 = σ at h28 k37 c11 ⊢
  simp only [piece, hostOps0_3]
  after_results_simp
  simp only [StableHlo.TRef.ofBuf_toBuf]
  pointwise [StableHlo.TRef.ofBuf, StableHlo.TRef.toBuf, StableHlo.TRef.of]
  simp only [cast_eq]
  pointwise
  refine (congrArg₂ (Scalar.select _) c11 k37).trans ?_
  rw [h28]
  by_cases h : r.val = 5 ∧ 64 ≤ l.val ∧ l.val < 80
  · rw [if_pos h, if_pos h]; rfl
  · rw [if_neg h, if_neg h]
    by_cases h' : r.val = 6 ∧ 80 ≤ l.val ∧ l.val < 96
    · rw [if_pos h', if_pos h']; rfl
    · rw [if_neg h', if_neg h']; rfl

end Cert.Kernel2Ideal.Attn
-- ==== Proof.Attn.TurnBack.lean ====
module

public import proofs.«01_k».proof.Proof.Attn.Value
public import proofs.«01_k».proof.Proof.Attn.Tables
public import proofs.«01_k».proof.Proof.Attn.Signs

/-! A point's rows of the queries' gradient, turned back. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

theorem scale_eq : Ideal.ofBits FTy.f32 0x3DD105EC#32 = (width : EReal) := width_eq

/-- A place sixteen lanes back, and one sixteen lanes on, around the row's end. -/
def back (l : Fin 128) : Fin 128 := ⟨(l.val + 112) % 128, Nat.mod_lt _ (by decide)⟩
def on (l : Fin 128) : Fin 128 := ⟨(l.val + 16) % 128, Nat.mod_lt _ (by decide)⟩

theorem pay5_at (d : FVec Ideal S512x128 .f32) (cs sn : Vec Ideal S512x128 .f32) (r5 r6 : Vec Ideal S1x128 .f32) (q : Fin 512) (l : Fin 128) :
    (show EReal from k0_pay5 d cs sn r5 r6 (ix2 q l)) = d (ix2 q l) * (width : EReal) * cs (ix2 q l)
      + d (ix2 q (back l)) * (width : EReal) * (sn (ix2 q (back l)) * r5 (ix2 0 (back l)))
      + d (ix2 q (on l)) * (width : EReal) * (sn (ix2 q (on l)) * r6 (ix2 0 (on l))) := by
  unfold k0_pay5 k0_pay1 k0_pay3 k0_pay4 k0_pay2
  pointwise
  rw [scale_eq]
  have e1 : (⟨(l.val + 128 - 16) % 128, Nat.mod_lt _ (by decide)⟩ : Fin 128) = back l := Fin.ext (by show (l.val + 128 - 16) % 128 = (l.val + 112) % 128; omega)
  have e2 : (⟨(l.val + 128 - 112) % 128, Nat.mod_lt _ (by decide)⟩ : Fin 128) = on l := Fin.ext (by show (l.val + 128 - 112) % 128 = (l.val + 16) % 128; omega)
  simp only [e1, e2]

theorem pay6_eq (d : FVec Ideal S512x128 .f32) (cs sn : Vec Ideal S512x128 .f32) (r5 r6 : Vec Ideal S1x128 .f32) : k0_pay6 d cs sn r5 r6 = k0_pay5 d cs sn r5 r6 := rfl

section
variable (D : Data)
/-- A row of the rotated queries' gradient with its empty lanes, and the same turned back. -/
def level (s : Fin 8192) (h : Fin 8) (l : Fin 128) : ℝ := (∑ r, steep D h s r * kd D r h l) * width
def straight (s : Fin 8192) (h : Fin 8) (l : Fin 128) : ℝ := level D s h l * Real.cos (lane D s l)
  + level D s h (back l) * (Real.sin (lane D s (back l)) * (if 64 ≤ (back l).val ∧ (back l).val < 80 then -1 else 0))
  + level D s h (on l) * (Real.sin (lane D s (on l)) * (if 80 ≤ (on l).val ∧ (on l).val < 96 then 1 else 0))

theorem level_eq (s : Fin 8192) (h : Fin 8) (l : Fin 128) (e : Fin 96) (he : l.val = e.val) : level D s h l = gturned D s h e := by
  have hl : l.val < 96 := by omega
  have e' : (⟨l.val, hl⟩ : Fin 96) = e := Fin.ext he
  unfold level gturned dscore kd steep
  rw [Finset.sum_mul]
  refine Finset.sum_congr rfl fun r _ => ?_
  rw [dif_pos hl, e']
  ring

theorem lane_eq (s : Fin 8192) (l : Fin 128) (j : Fin 16) (h : l.val = 64 + j.val ∨ l.val = 80 + j.val) : lane D s l = D.angle s j := by
  unfold lane
  rw [if_pos (by omega)]
  exact congrArg (D.angle s) (Fin.ext (by show (l.val - 64) % 16 = j.val; omega))

theorem straight_eq (s : Fin 8192) (h : Fin 8) (l : Fin 128) (e : Fin 96) (he : l.val = e.val) : straight D s h l = gq D s h e := by
  unfold straight gq
  by_cases h0 : e.val < 64
  · rw [if_pos h0, level_eq D s h l e he, if_neg (by unfold back; simp only; omega), if_neg (by unfold on; simp only; omega)]
    have : lane D s l = 0 := if_neg (by omega)
    rw [this, Real.cos_zero]
    ring
  · rw [if_neg h0]
    by_cases h1 : e.val - 64 < 16
    · rw [dif_pos h1, if_neg (by unfold back; simp only; omega), if_pos (by unfold on; simp only; omega),
        level_eq D s h l ⟨64 + (e.val - 64), by omega⟩ (by simp only; omega), level_eq D s h (on l) ⟨64 + (16 + (e.val - 64)), by omega⟩ (by unfold on; simp only; omega),
        lane_eq D s l ⟨e.val - 64, h1⟩ (by simp only; omega), lane_eq D s (on l) ⟨e.val - 64, h1⟩ (by unfold on; simp only; omega)]
      ring
    · rw [dif_neg h1, if_pos (by unfold back; simp only; omega), if_neg (by unfold on; simp only; omega),
        level_eq D s h l ⟨64 + (16 + (e.val - 64 - 16)), by omega⟩ (by simp only; omega), level_eq D s h (back l) ⟨64 + (e.val - 64 - 16), by omega⟩ (by unfold back; simp only; omega),
        lane_eq D s l ⟨e.val - 64 - 16, by omega⟩ (by simp only; omega), lane_eq D s (back l) ⟨e.val - 64 - 16, by omega⟩ (by unfold back; simp only; omega)]
      ring
end

theorem sign_5 (l : Fin 128) : (show EReal from V m c main_v39 (ix2 ⟨5, by decide⟩ ⟨l.val, by omega⟩)) = ((if 64 ≤ l.val ∧ l.val < 80 then -1 else 0 : ℝ) : EReal) := by
  refine (v39_at m c _ _).trans ?_
  by_cases h : 64 ≤ l.val ∧ l.val < 80
  · rw [if_pos ⟨rfl, h⟩, if_pos h]
    simp
  · rw [if_neg fun e => h e.2, if_neg fun e => absurd e.1 (by decide), if_neg h]
    simp

theorem sign_6 (l : Fin 128) : (show EReal from V m c main_v39 (ix2 ⟨6, by decide⟩ ⟨l.val, by omega⟩)) = ((if 80 ≤ l.val ∧ l.val < 96 then 1 else 0 : ℝ) : EReal) := by
  refine (v39_at m c _ _).trans ?_
  by_cases h : 80 ≤ l.val ∧ l.val < 96
  · rw [if_neg fun e => absurd e.1 (by decide), if_pos ⟨rfl, h⟩, if_pos h]
    simp
  · rw [if_neg fun e => absurd e.1 (by decide), if_neg fun e => h e.2, if_neg h]
    simp

variable {m c} {D : Data} (hD : Given m c D) {M : Fin 8 → Fin 8192 → ℝ} (hM : ∀ h s, (show EReal from upto (launched m c) 7 (Proc.devRef .tc main_v85) (ix3 0 h s)) = (M h s : EReal))
  (t : Fin cfg0.N) {p : Fin 4} {i : Fin 16} (ht : t.val = 16 * p.val + i.val)
include hD hM ht

theorem dq_sums (g : Fin 2) (q : Fin 512) (l : Fin 128) : (sumsAt m c t.val t.isLt).dqs g q l = ((∑ r, steep D (headOf p g) (rowOf' i q) r * kd D r (headOf p g) l : ℝ) : EReal) := by
  by_cases h : t.val % 16 = 0
  · rw [← sumsAt_first m c t h ⟨k0_pay97 (F := Ideal), k0_pay98 (F := Ideal), k0_pay83 (F := Ideal), k0_pay84 (F := Ideal)⟩]
    exact dq_at hD hM t ht _ g q l
  · rw [← sumsAt_later m c t h]
    exact dq_at hD hM t ht _ g q l

omit hM in
theorem half_row (d : FVec Ideal S512x128 .f32) (h : Fin 8) (q : Fin 512) (l : Fin 128)
    (hd : ∀ l, (show EReal from d (ix2 q l)) = ((∑ r, steep D h (rowOf' i q) r * kd D r h l : ℝ) : EReal)) :
    (show EReal from k0_pay5 d (View.ld (blocks m c t).cs (Rect.unit (s := S512x256) ![0, 0] S512x128.size inb_S512x256_S512x128_0_0)) (View.ld (blocks m c t).cs (Rect.unit (s := S512x256) ![0, 128] S512x128.size inb_S512x256_S512x128_0_128)) (View.ld (blocks m c t).rows (Rect.unit (s := S16x1024) ![5, 0] S1x128.size inb_S16x1024_S1x128_5_0)) (View.ld (blocks m c t).rows (Rect.unit (s := S16x1024) ![6, 0] S1x128.size inb_S16x1024_S1x128_6_0)) (ix2 q l))
      = (straight D (rowOf' i q) h l : EReal) := by
  have hc : ∀ l : Fin 128, (show EReal from View.ld (blocks m c t).cs (Rect.unit (s := S512x256) ![0, 0] S512x128.size inb_S512x256_S512x128_0_0) (ix2 q l)) = (Real.cos (lane D (rowOf' i q) l) : EReal) := fun l => by
    refine (ld_at _ rfl _ q l (by omega) (by omega)).trans ?_
    refine Eq.trans ?_ (cos_at hD (rowOf' i q) l)
    refine Eq.trans ?_ (cs_blk m c t ht q ⟨l.val, by omega⟩)
    exact congrArg₂ (fun a b => (blocks m c t).cs (ix2 a b)) (Fin.ext (Nat.zero_add _)) (Fin.ext (Nat.zero_add _))
  have hs : ∀ l : Fin 128, (show EReal from View.ld (blocks m c t).cs (Rect.unit (s := S512x256) ![0, 128] S512x128.size inb_S512x256_S512x128_0_128) (ix2 q l)) = (Real.sin (lane D (rowOf' i q) l) : EReal) := fun l => by
    refine (ld_at _ rfl _ q l (by omega) (by omega)).trans ?_
    refine Eq.trans ?_ (sin_at hD (rowOf' i q) l)
    refine Eq.trans ?_ (cs_blk m c t ht q ⟨128 + l.val, by omega⟩)
    exact congrArg (fun a => (blocks m c t).cs (ix2 a ⟨128 + l.val, by omega⟩)) (Fin.ext (Nat.zero_add _))
  have h5 : ∀ l : Fin 128, (show EReal from View.ld (blocks m c t).rows (Rect.unit (s := S16x1024) ![5, 0] S1x128.size inb_S16x1024_S1x128_5_0) (ix2 0 l)) = ((if 64 ≤ l.val ∧ l.val < 80 then -1 else 0 : ℝ) : EReal) := fun l => by
    refine (ld_at _ rfl _ 0 l (by decide) (by omega)).trans ?_
    refine Eq.trans ?_ (sign_5 m c l)
    refine Eq.trans ?_ (rows_blk m c t ⟨5, by decide⟩ ⟨l.val, by omega⟩)
    exact congrArg₂ (fun a b => (blocks m c t).rows (ix2 a b)) (Fin.ext rfl) (Fin.ext (Nat.zero_add _))
  have h6 : ∀ l : Fin 128, (show EReal from View.ld (blocks m c t).rows (Rect.unit (s := S16x1024) ![6, 0] S1x128.size inb_S16x1024_S1x128_6_0) (ix2 0 l)) = ((if 80 ≤ l.val ∧ l.val < 96 then 1 else 0 : ℝ) : EReal) := fun l => by
    refine (ld_at _ rfl _ 0 l (by decide) (by omega)).trans ?_
    refine Eq.trans ?_ (sign_6 m c l)
    refine Eq.trans ?_ (rows_blk m c t ⟨6, by decide⟩ ⟨l.val, by omega⟩)
    exact congrArg₂ (fun a b => (blocks m c t).rows (ix2 a b)) (Fin.ext rfl) (Fin.ext (Nat.zero_add _))
  refine (pay5_at _ _ _ _ _ q l).trans ?_
  generalize View.ld (blocks m c t).cs (Rect.unit (s := S512x256) ![0, 0] S512x128.size inb_S512x256_S512x128_0_0) = x1 at hc ⊢
  generalize View.ld (blocks m c t).cs (Rect.unit (s := S512x256) ![0, 128] S512x128.size inb_S512x256_S512x128_0_128) = x2 at hs ⊢
  generalize View.ld (blocks m c t).rows (Rect.unit (s := S16x1024) ![5, 0] S1x128.size inb_S16x1024_S1x128_5_0) = x3 at h5 ⊢
  generalize View.ld (blocks m c t).rows (Rect.unit (s := S16x1024) ![6, 0] S1x128.size inb_S16x1024_S1x128_6_0) = x4 at h6 ⊢
  simp only [hc, hs, h5, h6, hd, ← EReal.coe_mul, ← EReal.coe_add]
  rfl

theorem dq_stored (g : Fin 2) (q : Fin 512) (l : Fin 128) (j : Fin 256) (hj : j.val = 128 * g.val + l.val) :
    (show EReal from dqOut (blocks m c t) (sumsAt m c t.val t.isLt) (ix2 q j)) = (straight D (rowOf' i q) (headOf p g) l : EReal) := by
  unfold dqOut
  have hd := fun l => dq_sums hD hM t ht g q l
  rw [canon_at rfl _ _ _ q j, canon_at rfl _ _ _ q j]
  match g with
  | 0 =>
    have hj' : j.val = l.val := by simpa using hj
    rw [dif_neg (by omega), dif_pos (by omega)]
    refine Eq.trans ?_ (half_row hD t ht _ (headOf p 0) q l hd)
    exact congrArg₂ (fun a b => k0_pay5 _ _ _ _ _ (ix2 a b)) (Fin.ext rfl) (Fin.ext (by show j.val - 0 = l.val; omega))
  | 1 =>
    have hj' : j.val = 128 + l.val := by simpa using hj
    rw [dif_pos (by omega)]
    refine Eq.trans ?_ (half_row hD t ht _ (headOf p 1) q l hd)
    exact congrArg₂ (fun a b => k0_pay5 _ _ _ _ _ (ix2 a b)) (Fin.ext rfl) (Fin.ext (by show j.val - 128 = l.val; omega))

end Cert.Kernel2Ideal.Attn
-- ==== Proof.Attn.Total.lean ====
module

public import proofs.«01_k».proof.Proof.Attn.Value

/-! The keys' and the values' gradients after a pair's last point. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

variable {m c} {D : Data} (hD : Given m c D) {M : Fin 8 → Fin 8192 → ℝ} (hM : ∀ h s, (show EReal from upto (launched m c) 7 (Proc.devRef .tc main_v85) (ix3 0 h s)) = (M h s : EReal))

/-- A row of the keys' gradient with its empty lanes. -/
def keyRow (D : Data) (r : Fin 8192) (h : Fin 8) (l : Fin 128) : ℝ := (∑ s, steep D h s r * qd D s h l) * Real.log 2

theorem keyRow_eq (D : Data) (r : Fin 8192) (h : Fin 8) (l : Fin 128) (e : Fin 96) (he : l.val = e.val) : keyRow D r h l = gk D r h e := by
  have hl : l.val < 96 := by omega
  have e' : (⟨l.val, hl⟩ : Fin 96) = e := Fin.ext he
  have hn : Real.log 2 ≠ 0 := ne_of_gt (Real.log_pos one_lt_two)
  unfold keyRow gk dscore qd steep
  rw [Finset.sum_mul]
  refine Finset.sum_congr rfl fun s _ => ?_
  rw [dif_pos hl, e']
  field_simp

/-- A pair's point. -/
def pointOf (p : Fin 4) (i : Fin 16) : Fin cfg0.N := ⟨16 * p.val + i.val, by show _ < 64; omega⟩

theorem upto_fin (G : Fin 16 → EReal) (S : Fin 16 → EReal) (h0 : S 0 = G 0)
    (hs : ∀ n (h : n + 1 < 16), S ⟨n + 1, h⟩ = S ⟨n, by omega⟩ + G ⟨n + 1, h⟩) : S 15 = ∑ j, G j :=
  upto_sum G (fun n h => S ⟨n, h⟩) h0 hs

include hD hM

theorem dk_total (p : Fin 4) (g : Fin 2) (r : Fin 8192) (l : Fin 128) :
    (sumsAt m c (pointOf p 15).val (pointOf p 15).isLt).dks g r l = ((∑ s, steep D (headOf p g) s r * qd D s (headOf p g) l : ℝ) : EReal) := by
  refine (upto_fin (fun i => ∑ q : Fin 512, ((steep D (headOf p g) (rowOf' i q) r * qd D (rowOf' i q) (headOf p g) l : ℝ) : EReal))
    (fun i => (sumsAt m c (pointOf p i).val (pointOf p i).isLt).dks g r l) ?_ fun n hn => ?_).trans ?_
  · show (sumsAt m c (pointOf p 0).val (pointOf p 0).isLt).dks g r l = _
    rw [← sumsAt_first m c (pointOf p 0) (by show (16 * p.val + 0) % 16 = 0; omega) ⟨k0_pay97 (F := Ideal), k0_pay98 (F := Ideal), k0_pay83 (F := Ideal), k0_pay84 (F := Ideal)⟩, dk_step hD hM (pointOf p 0) (p := p) (i := 0) rfl, if_pos (show (0 : Fin 16).val = 0 from rfl), zero_add]
  · show (sumsAt m c (pointOf p ⟨n + 1, hn⟩).val (pointOf p ⟨n + 1, hn⟩).isLt).dks g r l = _
    rw [← sumsAt_later m c (pointOf p ⟨n + 1, hn⟩) (by show ¬(16 * p.val + (n + 1)) % 16 = 0; omega), dk_step hD hM (pointOf p ⟨n + 1, hn⟩) (p := p) (i := ⟨n + 1, hn⟩) rfl, if_neg (Nat.succ_ne_zero n)]
    rfl
  · exact (PadSums.rows fun s => ((steep D (headOf p g) s r * qd D s (headOf p g) l : ℝ) : EReal)).trans (coe_sum _ _)

theorem dv_total (p : Fin 4) (r : Fin 8192) (l : Fin 128) :
    (sumsAt m c (pointOf p 15).val (pointOf p 15).isLt).dvs r l = ((∑ s, prob D (headOf p (half l)) s r * D.ct s (headOf p (half l)) (low l) : ℝ) : EReal) := by
  refine (upto_fin (fun i => ∑ q : Fin 512, ((prob D (headOf p (half l)) (rowOf' i q) r * D.ct (rowOf' i q) (headOf p (half l)) (low l) : ℝ) : EReal))
    (fun i => (sumsAt m c (pointOf p i).val (pointOf p i).isLt).dvs r l) ?_ fun n hn => ?_).trans ?_
  · show (sumsAt m c (pointOf p 0).val (pointOf p 0).isLt).dvs r l = _
    rw [← sumsAt_first m c (pointOf p 0) (by show (16 * p.val + 0) % 16 = 0; omega) ⟨k0_pay97 (F := Ideal), k0_pay98 (F := Ideal), k0_pay83 (F := Ideal), k0_pay84 (F := Ideal)⟩, dv_step hD hM (pointOf p 0) (p := p) (i := 0) rfl, if_pos (show (0 : Fin 16).val = 0 from rfl), zero_add]
  · show (sumsAt m c (pointOf p ⟨n + 1, hn⟩).val (pointOf p ⟨n + 1, hn⟩).isLt).dvs r l = _
    rw [← sumsAt_later m c (pointOf p ⟨n + 1, hn⟩) (by show ¬(16 * p.val + (n + 1)) % 16 = 0; omega), dv_step hD hM (pointOf p ⟨n + 1, hn⟩) (p := p) (i := ⟨n + 1, hn⟩) rfl, if_neg (Nat.succ_ne_zero n)]
    rfl
  · exact (PadSums.rows fun s => ((prob D (headOf p (half l)) s r * D.ct s (headOf p (half l)) (low l) : ℝ) : EReal)).trans (coe_sum _ _)

/-- The two gradients as they are stored. -/
theorem dk_stored (p : Fin 4) (g : Fin 2) (r : Fin 8192) (l : Fin 128) (j : Fin 256) (hj : j.val = 128 * g.val + l.val) :
    (show EReal from k0_pay7 (sumsAt m c (pointOf p 15).val (pointOf p 15).isLt).dk (ix2 r j)) = (keyRow D r (headOf p g) l : EReal) := by
  have ej : j = ⟨128 * g.val + l.val, by omega⟩ := Fin.ext hj
  rw [ej]
  have h := dk_total hD hM p g r l
  have u : (show EReal from Named.named (F := Ideal) (φ := FTy.f32) κ "unscale" 0x3F317218#32) = ((Real.log 2 : ℝ) : EReal) := rfl
  unfold k0_pay7
  pointwise
  refine (congrArg₂ (fun a b : EReal => a * b) h u).trans ?_
  rw [← EReal.coe_mul]
  rfl

theorem dv_stored (p : Fin 4) (r : Fin 8192) (l : Fin 128) :
    (show EReal from k0_pay8 (sumsAt m c (pointOf p 15).val (pointOf p 15).isLt).dv (ix2 r l)) = (gv D r (headOf p (half l)) (low l) : EReal) := by
  have h := dv_total hD hM p r l
  unfold k0_pay8
  pointwise
  refine h.trans (congrArg _ ?_)
  unfold gv
  exact Finset.sum_congr rfl fun s _ => mul_comm _ _

end Cert.Kernel2Ideal.Attn
-- ==== Proof.Attn.Arrays.lean ====
module

public import proofs.«01_k».proof.Proof.Attn.TurnBack
public import proofs.«01_k».proof.Proof.Attn.Total

/-! The region's three arrays. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

section
variable (D : Data)
/-- The arrays' entries: a head is 128 lanes of the first two, and 64 of the third. -/
def dqFlat (s : Fin 8192) (j : Fin 1024) : EReal := (straight D s ⟨j.val / 128, by omega⟩ ⟨j.val % 128, Nat.mod_lt _ (by decide)⟩ : ℝ)
def dkFlat (r : Fin 8192) (j : Fin 1024) : EReal := (keyRow D r ⟨j.val / 128, by omega⟩ ⟨j.val % 128, Nat.mod_lt _ (by decide)⟩ : ℝ)
def dvFlat (r : Fin 8192) (j : Fin 512) : EReal := (gv D r ⟨j.val / 64, by omega⟩ ⟨j.val % 64, Nat.mod_lt _ (by decide)⟩ : ℝ)
end

variable {m c} {D : Data} (hD : Given m c D) {M : Fin 8 → Fin 8192 → ℝ} (hM : ∀ h s, (show EReal from upto (launched m c) 7 (Proc.devRef .tc main_v85) (ix3 0 h s)) = (M h s : EReal))
include hD hM

theorem array_dq : (dats m 0 c).arrAt 8 (cfgs 0).N = fun y => dqFlat D (y 0) (y 1) := by
  refine (dats m 0 c).arrAt_eq_of_covers 8 _ (by decide +kernel) fun t _ y => ?_
  blk_simp
  rw [after_8]
  obtain ⟨q, j, rfl⟩ : ∃ (q : Fin 512) (j : Fin 256), y = ix2 q j := ⟨y 0, y 1, eq_ix2 y⟩
  have hN : t.val < 64 := t.isLt
  have hj := j.isLt
  refine (dq_stored hD hM t (p := ⟨t.val / 16, by omega⟩) (i := ⟨t.val % 16, by omega⟩) (by simp only; omega) ⟨j.val / 128, by omega⟩ q ⟨j.val % 128, by omega⟩ j (by simp only; omega)).trans ?_
  have e : (straight D (rowOf' ⟨t.val % 16, by omega⟩ q) (headOf ⟨t.val / 16, by omega⟩ ⟨j.val / 128, by omega⟩) ⟨j.val % 128, by omega⟩ : EReal)
      = dqFlat D (rowOf' ⟨t.val % 16, by omega⟩ q) ⟨256 * (t.val / 16) + j.val, by omega⟩ := by
    unfold dqFlat
    refine congrArg (fun x : ℝ => (x : EReal)) (congrArg₂ (straight D _) (Fin.ext ?_) (Fin.ext ?_))
    · simp only [headOf]; omega
    · simp only; omega
  rw [e]
  refine congrArg₂ (dqFlat D) (Fin.ext ?_) (Fin.ext ?_)
  all_goals (blk_simp [idx_dq t, rowOf']; first | done | (dsimp only; omega))

theorem array_dk : (dats m 0 c).arrAt 9 (cfgs 0).N = fun y => dkFlat D (y 0) (y 1) := by
  refine (dats m 0 c).arrAt_eq_of_covers 9 _ (by decide +kernel) fun t hf y => ?_
  have h15 : t.val % 16 = 15 := (flush0_9 t).mp hf
  have hN : t.val < 64 := t.isLt
  have ht : t = pointOf ⟨t.val / 16, by omega⟩ 15 := Fin.ext (by show t.val = 16 * (t.val / 16) + 15; omega)
  blk_simp
  rw [after_9]
  obtain ⟨r, j, rfl⟩ : ∃ (r : Fin 8192) (j : Fin 256), y = ix2 r j := ⟨y 0, y 1, eq_ix2 y⟩
  have hj := j.isLt
  have h := dk_stored hD hM ⟨t.val / 16, by omega⟩ ⟨j.val / 128, by omega⟩ r ⟨j.val % 128, by omega⟩ j (by simp only; omega)
  rw [← ht] at h
  refine h.trans ?_
  have e : (keyRow D r (headOf ⟨t.val / 16, by omega⟩ ⟨j.val / 128, by omega⟩) ⟨j.val % 128, by omega⟩ : EReal)
      = dkFlat D r ⟨256 * (t.val / 16) + j.val, by omega⟩ := by
    unfold dkFlat
    refine congrArg (fun x : ℝ => (x : EReal)) (congrArg₂ (keyRow D _) (Fin.ext ?_) (Fin.ext ?_))
    · simp only [headOf]; omega
    · simp only; omega
  rw [e]
  refine congrArg₂ (dkFlat D) (Fin.ext ?_) (Fin.ext ?_)
  all_goals (blk_simp [idx_dk t]; first | done | (dsimp only; omega))

theorem array_dv : (dats m 0 c).arrAt 10 (cfgs 0).N = fun y => dvFlat D (y 0) (y 1) := by
  refine (dats m 0 c).arrAt_eq_of_covers 10 _ (by decide +kernel) fun t hf y => ?_
  have h15 : t.val % 16 = 15 := (flush0_10 t).mp hf
  have hN : t.val < 64 := t.isLt
  have ht : t = pointOf ⟨t.val / 16, by omega⟩ 15 := Fin.ext (by show t.val = 16 * (t.val / 16) + 15; omega)
  blk_simp
  rw [after_10]
  obtain ⟨r, j, rfl⟩ : ∃ (r : Fin 8192) (j : Fin 128), y = ix2 r j := ⟨y 0, y 1, eq_ix2 y⟩
  have hj := j.isLt
  have h := dv_stored hD hM ⟨t.val / 16, by omega⟩ r j
  rw [← ht] at h
  refine h.trans ?_
  have e : (gv D r (headOf ⟨t.val / 16, by omega⟩ (half j)) (low j) : EReal) = dvFlat D r ⟨128 * (t.val / 16) + j.val, by omega⟩ := by
    have hh := congrArg Fin.val (lane_split j)
    have hb := (half j).isLt
    simp only at hh
    unfold dvFlat
    refine congrArg (fun x : ℝ => (x : EReal)) (congrArg₂ (gv D _) (Fin.ext ?_) (Fin.ext ?_))
    · simp only [headOf]; omega
    · simp only [low]; omega
  rw [e]
  refine congrArg₂ (dvFlat D) (Fin.ext ?_) (Fin.ext ?_)
  all_goals (blk_simp [idx_dv t]; first | done | (dsimp only; omega))

end Cert.Kernel2Ideal.Attn
-- ==== Proof.Attn.Results.lean ====
module

public import proofs.«01_k».proof.Proof.Attn.Arrays

/-! The three results, which the host's last lines cut out of the three arrays. -/

@[expose] public section

set_option maxRecDepth 16384

noncomputable section

namespace Cert.Kernel2Ideal.Attn

open Cert.Kernel2Ideal.Gen Cert.Norm Cert.Attention
open Idealize.ShloMosaic Idealize.ShloMosaic.TcCoe Idealize.ShloMosaic.Tactic Idealize.SL.Sem

variable (m : (ℓ : Loc nD τ sig) → Buf (Elt Ideal) ℓ) (c : Dev nD)

/-- What a buffer holds after the whole call. -/
abbrev left (r : Ref sig .tc) : Buf (Elt Ideal) ((c.tc : Thread nD τ).loc r) :=
  Pipeline.afterTail₀ cfgs (dats m) 0 (V0 m) [hostOps1] c r

/-- The contents when the region ends. -/
abbrev ended : Valuation τ sig (Elt Ideal) :=
  Pipeline.withArrays (cfgs 0).spec c (V0 m c) fun w => (dats m 0 c).arrAt w (cfgs 0).N

theorem left_eq (r : Ref sig .tc) : left m c r = StableHlo.after hostOps1 (ended m c) (Proc.devRef .tc r) := by
  show StableHlo.after ([hostOps1].flatten) _ _ = _
  rw [List.flatten_cons, List.flatten_nil, List.append_nil]

theorem ended_dq : ended m c (Proc.devRef .tc main_v117_0) = (dats m 0 c).arrAt 8 (cfgs 0).N :=
  Pipeline.withArrays_arr _ launch0.win.arr_inj c _ _ 8
theorem ended_dk : ended m c (Proc.devRef .tc main_v117_1) = (dats m 0 c).arrAt 9 (cfgs 0).N :=
  Pipeline.withArrays_arr _ launch0.win.arr_inj c _ _ 9
theorem ended_dv : ended m c (Proc.devRef .tc main_v117_2) = (dats m 0 c).arrAt 10 (cfgs 0).N :=
  Pipeline.withArrays_arr _ launch0.win.arr_inj c _ _ 10

variable {m c} {D : Data} (hD : Given m c D) {M : Fin 8 → Fin 8192 → ℝ} (hM : ∀ h s, (show EReal from upto (launched m c) 7 (Proc.devRef .tc main_v85) (ix3 0 h s)) = (M h s : EReal))
include hD hM

set_option maxHeartbeats 1000000 in
theorem v120_at (s : Fin 8192) (h : Fin 8) (e : Fin 96) : (show EReal from left m c main_v120 (ix4 0 s h e)) = (gq D s h e : EReal) := by
  rw [left_eq]
  simp only [hostOps1]
  after_results_simp
  pointwise
  refine (congrFun ((ended_dq m c).trans (array_dq hD hM)) _).trans ?_
  show dqFlat D s ⟨h.val * 128 + e.val, by omega⟩ = _
  unfold dqFlat
  have e1 : (⟨(h.val * 128 + e.val) / 128, by omega⟩ : Fin 8) = h := Fin.ext (by simp only; omega)
  have e2 : (⟨(h.val * 128 + e.val) % 128, Nat.mod_lt _ (by decide)⟩ : Fin 128) = ⟨e.val, by omega⟩ := Fin.ext (by simp only; omega)
  rw [e1, e2]
  exact congrArg _ (straight_eq D s h ⟨e.val, by omega⟩ e rfl)

set_option maxHeartbeats 1000000 in
theorem v123_at (s : Fin 8192) (h : Fin 8) (e : Fin 96) : (show EReal from left m c main_v123 (ix4 0 s h e)) = (gk D s h e : EReal) := by
  rw [left_eq]
  simp only [hostOps1]
  after_results_simp
  pointwise
  refine (congrFun ((ended_dk m c).trans (array_dk hD hM)) _).trans ?_
  show dkFlat D s ⟨h.val * 128 + e.val, by omega⟩ = _
  unfold dkFlat
  have e1 : (⟨(h.val * 128 + e.val) / 128, by omega⟩ : Fin 8) = h := Fin.ext (by simp only; omega)
  have e2 : (⟨(h.val * 128 + e.val) % 128, Nat.mod_lt _ (by decide)⟩ : Fin 128) = ⟨e.val, by omega⟩ := Fin.ext (by simp only; omega)
  rw [e1, e2]
  exact congrArg _ (keyRow_eq D s h ⟨e.val, by omega⟩ e rfl)

set_option maxHeartbeats 1000000 in
theorem v125_at (s : Fin 8192) (h : Fin 8) (e : Fin 64) : (show EReal from left m c main_v125 (ix4 0 s h e)) = (gv D s h e : EReal) := by
  rw [left_eq]
  simp only [hostOps1]
  after_results_simp
  pointwise
  refine (congrFun ((ended_dv m c).trans (array_dv hD hM)) _).trans ?_
  show dvFlat D s ⟨h.val * 64 + e.val, by omega⟩ = _
  unfold dvFlat
  have e1 : (⟨(h.val * 64 + e.val) / 64, by omega⟩ : Fin 8) = h := Fin.ext (by simp only; omega)
  have e2 : (⟨(h.val * 64 + e.val) % 64, Nat.mod_lt _ (by decide)⟩ : Fin 64) = ⟨e.val, by omega⟩ := Fin.ext (by simp only; omega)
  rw [e1, e2]

end Cert.Kernel2Ideal.Attn
-- ==== Proof.Attn.Reference.lean ====
module

public import proofs.«01_k».proof.Proof.Gen.Reference2Ideal.Read
public import proofs.«01_k».proof.Proof.Attn.Math

/-! The reference's three gradients, element by element. -/

@[expose] public section

set_option maxRecDepth 16384

noncomputable section

namespace Cert.Reference2Ideal.Attn

open Cert.Reference2Ideal.Read Cert.Norm Cert.Attention
open Idealize.ShloMosaic Idealize.ShloMosaic.TcCoe Idealize.ShloMosaic.Tactic Idealize.SL.Sem

/-- The line from the masked scores to their exponentials. -/
theorem exp_line (u : FVec Ideal S1x8x8192x8192 .f32) (b w : FVec Ideal S1x8x8192 .f32) (h : Fin 8) (s r : Fin 8192) :
    (Host.exp (subf u (broadcastInDim S1x8x8192x8192 ![0, 1, 2, 3] Gen.bcast_S1x8x8192x1_S1x8x8192x8192_0_1_2_3
      (broadcastInDim S1x8x8192x1 ![0, 1, 2] Gen.bcast_S1x8x8192_S1x8x8192x1_0_1_2 (maximumf b w))))) (ix4 0 h s r) =
    Ideal.exp ((show EReal from u (ix4 0 h s r)) - max (show EReal from b (ix3 0 h s)) (w (ix3 0 h s))) := by
  pointwise

variable {x0 x1 : FVec Ideal S1x8192x8x96 .f32} {x2 : FVec Ideal S1x8192x8x64 .f32} {x3 : IVec S1x8192 32} {x4 : FVec Ideal S1x8192x512 .f32}
  {D : Data} (hD : Holds x0 x1 x2 x3 x4 D)
include hD

theorem v14_at (s : Fin 8192) (f : Fin 16) : (val_main_v14 (F := Ideal) x3) (ix3 0 s f) = (D.angle s f : EReal) := by
  refine Eq.trans ?_ (hD.angle s f)
  pointwise [val_main_v2, val_main_v3, val_main_v4, val_main_v5, val_main_v6, val_main_v7, val_main_v8, val_main_v9, val_main_v10, val_main_v11, val_main_v12, val_main_v13, val_main_v14,
    val_main_cst, val_main_cst_0, val_main_cst_1]
  rfl

theorem v16_at (s : Fin 8192) (f : Fin 16) : (val_main_v16 (F := Ideal) x3) (ix4 0 s 0 f) = (Real.cos (D.angle s f) : EReal) := by
  pointwise [val_main_v15, val_main_v16, v14_at hD]
  rfl

theorem v18_at (s : Fin 8192) (f : Fin 16) : (val_main_v18 (F := Ideal) x3) (ix4 0 s 0 f) = (Real.sin (D.angle s f) : EReal) := by
  pointwise [val_main_v17, val_main_v18, v14_at hD]
  rfl

theorem v32_at (s : Fin 8192) (h : Fin 8) (e : Fin 96) : (val_main_v32 (F := Ideal) x0 x3) (ix4 0 s h e) = (turned D s h e : EReal) := by
  pointwise [val_main_v0, val_main_v1, val_main_v19, val_main_v20, val_main_v21, val_main_v22, val_main_v23, val_main_v24, val_main_v25, val_main_v26, val_main_v27, val_main_v28, val_main_v29, val_main_v30, val_main_v31, val_main_v32, v16_at hD, v18_at hD, hD.q]
  unfold turned
  split_ifs <;> simp only [EReal.coe_mul, EReal.coe_sub, EReal.coe_add]

theorem v35_at (h : Fin 8) (s r : Fin 8192) : (val_main_v35 (F := Ideal) x0 x1 x3) (ix4 0 h s r) = (score D h s r : EReal) := by
  pointwise [val_main_v33, val_main_v34, val_main_v35, val_main_cst_2, v32_at hD, hD.k]
  rw [width_eq]
  simp only [← EReal.coe_mul, coe_sum]
  rfl

theorem v44_at (h : Fin 8) (s r : Fin 8192) : (val_main_v44_0 (F := Ideal) x0 x1 x3) (ix4 0 h s r) = if r.val ≤ s.val then (score D h s r : EReal) else ⊥ := by
  pointwise [val_main_v36, val_main_v37, val_main_v38, val_main_v39, val_main_v40, val_main_v41, val_main_v42, val_main_v43, val_main_v44_1, val_main_v44_0, val_main_cst_3, val_main_call0_v0, val_main_call0_v2, v35_at hD]
  rw [select_upto]
  exact congrArg (ite _ _) neg_infinity

theorem v45_real : ∃ M : Fin 8 → Fin 8192 → ℝ, ∀ h s, (val_main_v45 (F := Ideal) x0 x1 x3) (ix3 0 h s) = (M h s : EReal) :=
  masked_largest D _ _ (fun _ => neg_infinity) (v44_at hD) _ _

theorem v78_at (h : Fin 8) (s r : Fin 8192) : (val_main_v78 (F := Ideal) x2 x4) (ix4 0 h s r) = (dprob D h s r : EReal) := by
  have ct : ∀ e : Fin 64, x4 (ix3 0 s ⟨h.val * 64 + e.val, by omega⟩) = (D.ct s h e : EReal) := fun e => by
    rw [← hD.ct]
    exact congrArg (fun j => x4 (ix3 0 s j)) (Fin.ext (by simp only; omega))
  pointwise [val_main_v76, val_main_v77, val_main_v78, hD.v]
  simp only [ct, ← EReal.coe_mul, coe_sum]
  rfl

variable {M : Fin 8 → Fin 8192 → ℝ} (hM : ∀ h s, (val_main_v45 (F := Ideal) x0 x1 x3) (ix3 0 h s) = (M h s : EReal))
include hM

theorem v65_at (h : Fin 8) (s r : Fin 8192) : (val_main_v65 (F := Ideal) x0 x1 x3) (ix4 0 h s r) = (lowered D (M h s) h s r : EReal) :=
  (exp_line _ _ _ h s r).trans <| by
    rw [v44_at hD, hM, ← exp_masked, show val_main_v51 (F := Ideal) (ix3 0 h s) = ⊥ from neg_infinity, max_eq_right bot_le]

theorem v67_at (h : Fin 8) (s : Fin 8192) : (val_main_v67 (F := Ideal) x0 x1 x3) (ix4 0 h s 0) = ((∑ r, lowered D (M h s) h s r : ℝ) : EReal) := by
  pointwise [val_main_v66, val_main_v67, val_main_cst_12, v65_at hD hM]
  exact coe_sum _ _

theorem v69_at (h : Fin 8) (s r : Fin 8192) : (val_main_v69 (F := Ideal) x0 x1 x3) (ix4 0 h s r) = (prob D h s r : EReal) := by
  pointwise [val_main_v68, val_main_v69, v65_at hD hM, v67_at hD hM]
  rw [div_total _ _ (sum_lowered_pos D (M h s) h s), prob_eq]

theorem v80_at (r : Fin 8192) (h : Fin 8) (e : Fin 64) : (val_main_v80 (F := Ideal) x0 x1 x3 x4) (ix4 0 r h e) = (gv D r h e : EReal) := by
  have ct : ∀ s : Fin 8192, x4 (ix3 0 s ⟨h.val * 64 + e.val, by omega⟩) = (D.ct s h e : EReal) := fun s => by
    rw [← hD.ct]
    exact congrArg (fun j => x4 (ix3 0 s j)) (Fin.ext (by simp only; omega))
  pointwise [val_main_v76, val_main_v77, val_main_v79, val_main_v80, v69_at hD hM]
  simp only [ct, ← EReal.coe_mul, coe_sum]
  rfl

theorem v84_at (h : Fin 8) (s : Fin 8192) : (val_main_v84 (F := Ideal) x0 x1 x2 x3 x4) (ix3 0 h s) =
    ((∑ t, dprob D h s t * (1 / ((∑ r, lowered D (M h s) h s r) * (∑ r, lowered D (M h s) h s r))) * lowered D (M h s) h s t : ℝ) : EReal) := by
  pointwise [val_main_v70, val_main_v71, val_main_v72, val_main_v81, val_main_v82, val_main_v83, val_main_v84, val_main_cst_13, val_main_cst_14, v65_at hD hM, v67_at hD hM, v78_at hD]
  have p := sum_lowered_pos D (M h s) h s
  rw [← EReal.coe_mul, ← EReal.coe_one, div_total _ _ (mul_pos p p)]
  simp only [← EReal.coe_mul, coe_sum]

theorem v90_at (h : Fin 8) (s : Fin 8192) : (val_main_v90 (F := Ideal) x0 x1 x2 x3 x4) (ix3 0 h s) =
    ((-∑ t, dprob D h s t * (1 / ((∑ r, lowered D (M h s) h s r) * (∑ r, lowered D (M h s) h s r))) * lowered D (M h s) h s t : ℝ) : EReal) := by
  pointwise [val_main_v89, val_main_v90]
  refine (ends _ _ _ h s).trans ?_
  rw [Fin.sum_univ_one, Fin.sum_univ_one]
  pointwise [val_main_v85, val_main_v86, val_main_cst_15, v84_at hD hM]
  rw [EReal.coe_neg]

theorem v96_at (h : Fin 8) (s r : Fin 8192) : (val_main_v96 (F := Ideal) x0 x1 x2 x3 x4) (ix4 0 h s r) = (dscore D h s r : EReal) := by
  pointwise [val_main_v36, val_main_v37, val_main_v38, val_main_v39, val_main_v40, val_main_v41, val_main_v42, val_main_v43, val_main_v44_1, val_main_v87, val_main_v88, val_main_v91, val_main_v92, val_main_v93, val_main_v94, val_main_v95, val_main_v96, val_main_cst_16, val_main_call1_v0, val_main_call1_cst, v65_at hD hM, v67_at hD hM, v78_at hD, v90_at hD hM]
  rw [select_upto, div_total _ _ (sum_lowered_pos D (M h s) h s), width_eq, ← EReal.coe_add, ← EReal.coe_mul,
    slope_eq (dprob D h s) (lowered D (M h s) h s) _ (sum_lowered_pos D (M h s) h s) r]
  simp only [prob_eq]
  split_ifs with le
  · rw [← EReal.coe_mul]
    rfl
  · rw [dscore, prob_after D h s r le, zero_mul, zero_mul, EReal.coe_zero]

theorem v98_at (r : Fin 8192) (h : Fin 8) (e : Fin 96) : (val_main_v98 (F := Ideal) x0 x1 x2 x3 x4) (ix4 0 r h e) = (gk D r h e : EReal) := by
  pointwise [val_main_v97, val_main_v98, v96_at hD hM, v32_at hD]
  simp only [← EReal.coe_mul, coe_sum]
  rfl

theorem v100_at (s : Fin 8192) (h : Fin 8) (e : Fin 96) : (val_main_v100 (F := Ideal) x0 x1 x2 x3 x4) (ix4 0 s h e) = (gturned D s h e : EReal) := by
  pointwise [val_main_v99, val_main_v100, v96_at hD hM, hD.k]
  simp only [← EReal.coe_mul, coe_sum]
  rfl

set_option maxHeartbeats 1000000 in
theorem v121_at (s : Fin 8192) (h : Fin 8) (e : Fin 96) : (val_main_v121 (F := Ideal) x0 x1 x2 x3 x4) (ix4 0 s h e) = (gq D s h e : EReal) := by
  have z17 : ∀ i, val_main_cst_17 (F := Ideal) i = 0 := fun _ => Ideal.ofBits_zero .f32
  have z18 : ∀ i, val_main_cst_18 (F := Ideal) i = 0 := fun _ => Ideal.ofBits_zero .f32
  have z19 : ∀ i, val_main_cst_19 (F := Ideal) i = 0 := fun _ => Ideal.ofBits_zero .f32
  have z20 : ∀ i, val_main_cst_20 (F := Ideal) i = 0 := fun _ => Ideal.ofBits_zero .f32
  have g := v100_at hD hM
  unfold val_main_v121 val_main_v119 val_main_v120 val_main_v118 val_main_v116 val_main_v117 val_main_v112 val_main_v115 val_main_v106 val_main_v111 val_main_v108 val_main_v114 val_main_v109 val_main_v103 val_main_v104 val_main_v102 val_main_v101
  generalize val_main_v100 (F := Ideal) x0 x1 x2 x3 x4 = w at g ⊢
  pointwise [val_main_v105, val_main_v107, val_main_v110, val_main_v113, v16_at hD, v18_at hD, g, z17, z18, z19, z20]
  have el := e.isLt
  unfold gq
  by_cases h0 : e.val < 64
  · have n1 : ¬(64 ≤ e.val ∧ e.val - 64 < 32) := by omega
    simp only [h0, n1, if_true, dite_true, dite_false, zero_add]
  · have n1 : 64 ≤ e.val ∧ e.val - 64 < 32 := by omega
    by_cases h1 : e.val - 64 < 16
    · have n2 : ¬(16 ≤ e.val - 64 ∧ e.val - 64 - 16 < 16) := by omega
      simp only [h0, n1, n2, h1, if_false, dite_true, dite_false, and_self, zero_add, add_zero, EReal.coe_add, EReal.coe_mul]
    · have n2 : 16 ≤ e.val - 64 ∧ e.val - 64 - 16 < 16 := by omega
      simp only [h0, n1, n2, h1, if_false, dite_true, dite_false, and_self, zero_add, add_zero, ← EReal.coe_neg, ← EReal.coe_mul, ← EReal.coe_add, neg_mul, sub_eq_add_neg]

end Cert.Reference2Ideal.Attn
-- ==== Proof.BwdPre.Body.lean ====
module

public import proofs.«01_k».proof.Proof.Gen.KernelIdeal.Frame
public import proofs.«01_k».proof.Proof.Gen.KernelIdeal.Skeleton
public import proofs.«01_k».proof.Proof.Writes

/-! The backward call's body at one point of its grid: what its blocks are, what it leaves in each output's buffer, and the proof that it
    leaves that, at the first point (which clears the accumulators first) and at a later one (which adds to them). -/

@[expose] public section

set_option maxRecDepth 16384

noncomputable section

namespace Cert.KernelIdeal.BwdPre

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The input blocks of one point. -/
structure In (F : FTy → Type) where
  x : Vec F S512x1024 .f32
  dres : Vec F S512x1024 .f32
  cq : Vec F S512x256 .f32
  ckv : Vec F S512x128 .f32
  cs : Vec F S512x256 .f32
  dq : Vec F S512x1024 .bf16
  dk : Vec F S512x1024 .bf16
  dv : Vec F S512x512 .bf16
  dgate : Vec F S512x2048 .bf16
  win : Vec F S1024x2560 .bf16
  wuq : Vec F S256x1024 .bf16
  wkv : Vec F S128x1536 .bf16
  pv : Vec F S16x1024 .f32
  gv : Vec F S16x1024 .f32

/-- What the four accumulated outputs hold. -/
structure Acc (F : FTy → Type) where
  gwin : Vec F S1024x2560 .f32
  gwuq : Vec F S256x1024 .f32
  gwkv : Vec F S128x1536 .f32
  vec : Vec F S16x1024 .f32

section Terms
variable (b : In F) (a : Acc F)

/-- Rows of the packed vectors: the gains of the two norms and the signs of the rotary lanes. -/
abbrev qgain : Vec F S1x256 .f32 := View.ld b.pv (Rect.unit (s := S16x1024) ![0, 0] S1x256.size inb_S16x1024_S1x256_0_0)
abbrev kvgain : Vec F S1x128 .f32 := View.ld b.pv (Rect.unit (s := S16x1024) ![1, 0] S1x128.size inb_S16x1024_S1x128_1_0)
abbrev sign1 : Vec F S1x128 .f32 := View.ld b.pv (Rect.unit (s := S16x1024) ![5, 0] S1x128.size inb_S16x1024_S1x128_5_0)
abbrev sign2 : Vec F S1x128 .f32 := View.ld b.pv (Rect.unit (s := S16x1024) ![6, 0] S1x128.size inb_S16x1024_S1x128_6_0)
abbrev cosine : Vec F S512x128 .f32 := View.ld b.cs (Rect.unit (s := S512x256) ![0, 0] S512x128.size inb_S512x256_S512x128_0_0)
abbrev sine : Vec F S512x128 .f32 := View.ld b.cs (Rect.unit (s := S512x256) ![0, 128] S512x128.size inb_S512x256_S512x128_0_128)

/-- The gradients of the query latents, of the key and value latents, and of all latent columns side by side. -/
def dcq : FVec F S512x256 .f32 := k0_pay20 (k0_pay11 (qgain b)) (k0_pay13 b.dq) (k0_pay14 b.cq) (k0_pay15 b.cq) b.wuq
def dckv : FVec F S512x128 .f32 := k0_pay29 (k0_pay12 (kvgain b)) (k0_pay22 b.dk b.dv) b.ckv b.wkv
def dlat : FVec F S512x512 .bf16 :=
  k0_pay30 (dcq b) (k0_pay21 b.dk) (k0_pay24 b.ckv) (dckv b) (cosine b) (sine b) (sign1 b) (sign2 b)

/-- The accumulators' branch: taken at the first point only. -/
abbrev cond0_0 (i : grid0.Coords) : Prop := (Scalar.cmpi .ne (Scalar.extui (Scalar.cmpi .eq (BitVec.ofNat 32 (i 0).val) 0#32)) 0#32) = 1#1

/-- What the point leaves in the five outputs, the last four over what they held. -/
def gxOut : Vec F S512x1024 .f32 :=
  k0_pay2 (k0_pay10 b.dgate (View.ld b.win (Rect.unit (s := S1024x2560) ![0, 512] S1024x2048.size inb_S1024x2560_S1024x2048_0_512)))
    (dlat b) b.dres (View.ld b.win (Rect.unit (s := S1024x2560) ![0, 0] S1024x512.size inb_S1024x2560_S1024x512_0_0))
def gwinOut : Vec F S1024x2560 .f32 := View.canon
  [⟨Rect.unit ![0, 0] S1024x512.size inb_S1024x2560_S1024x512_0_0, k0_pay1 (k0_pay7 b.x) (dlat b)
      (View.ld a.gwin (Rect.unit (s := S1024x2560) ![0, 0] S1024x512.size inb_S1024x2560_S1024x512_0_0))⟩,
   ⟨Rect.unit ![0, 512] S1024x2048.size inb_S1024x2560_S1024x2048_0_512, k0_pay9 b.x b.dgate
      (View.ld a.gwin (Rect.unit (s := S1024x2560) ![0, 512] S1024x2048.size inb_S1024x2560_S1024x2048_0_512))⟩,
   ⟨Rect.unit ![0, 0] S1024x2560.size inb_S1024x2560_S1024x2560_0_0, a.gwin⟩]
def gwuqOut : Vec F S256x1024 .f32 := k0_pay18 (k0_pay11 (qgain b)) (k0_pay13 b.dq) (k0_pay14 b.cq) (k0_pay15 b.cq) a.gwuq
def gwkvOut : Vec F S128x1536 .f32 := k0_pay27 (k0_pay12 (kvgain b)) (k0_pay22 b.dk b.dv) b.ckv a.gwkv
def vecOut : Vec F S16x1024 .f32 := View.canon
  [⟨Rect.unit ![1, 0] S1x128.size inb_S16x1024_S1x128_1_0, k0_pay28 (k0_pay22 b.dk b.dv) b.ckv b.wkv
      (View.ld a.vec (Rect.unit (s := S16x1024) ![1, 0] S1x128.size inb_S16x1024_S1x128_1_0))⟩,
   ⟨Rect.unit ![0, 0] S1x256.size inb_S16x1024_S1x256_0_0, k0_pay19 (k0_pay13 b.dq) (k0_pay14 b.cq) (k0_pay15 b.cq) b.wuq
      (View.ld a.vec (Rect.unit (s := S16x1024) ![0, 0] S1x256.size inb_S16x1024_S1x256_0_0))⟩,
   ⟨Rect.unit ![0, 0] S16x1024.size inb_S16x1024_S16x1024_0_0, a.vec⟩]

def Acc.next : Acc F := ⟨gwinOut b a, gwuqOut b a, gwkvOut b a, vecOut b a⟩

/-- What the first point starts from: zeros, and the vector handed through. -/
def Acc.start : Acc F := ⟨k0_pay3, k0_pay4, k0_pay5, k0_pay6 b.gv⟩
end Terms

section Run
variable (c : Dev nD) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x256 .f32) (harg3 : arg3.IsWhole)
  (arg4 : Memref sig .tc .vmem S512x128 .f32) (harg4 : arg4.IsWhole)
  (arg5 : Memref sig .tc .vmem S512x256 .f32) (harg5 : arg5.IsWhole)
  (arg6 : Memref sig .tc .vmem S512x1024 .bf16) (harg6 : arg6.IsWhole)
  (arg7 : Memref sig .tc .vmem S512x1024 .bf16) (harg7 : arg7.IsWhole)
  (arg8 : Memref sig .tc .vmem S512x512 .bf16) (harg8 : arg8.IsWhole)
  (arg9 : Memref sig .tc .vmem S512x2048 .bf16) (harg9 : arg9.IsWhole)
  (arg10 : Memref sig .tc .vmem S1024x2560 .bf16) (harg10 : arg10.IsWhole)
  (arg11 : Memref sig .tc .vmem S256x1024 .bf16) (harg11 : arg11.IsWhole)
  (arg12 : Memref sig .tc .vmem S128x1536 .bf16) (harg12 : arg12.IsWhole)
  (arg13 : Memref sig .tc .vmem S16x1024 .f32) (harg13 : arg13.IsWhole)
  (arg14 : Memref sig .tc .vmem S16x1024 .f32) (harg14 : arg14.IsWhole)
  (arg15 : Memref sig .tc .vmem S512x1024 .f32) (harg15 : arg15.IsWhole)
  (arg16 : Memref sig .tc .vmem S1024x2560 .f32) (harg16 : arg16.IsWhole)
  (arg17 : Memref sig .tc .vmem S256x1024 .f32) (harg17 : arg17.IsWhole)
  (arg18 : Memref sig .tc .vmem S128x1536 .f32) (harg18 : arg18.IsWhole)
  (arg19 : Memref sig .tc .vmem S16x1024 .f32) (harg19 : arg19.IsWhole)
  (b : In F)

/-- The input buffers at their blocks. -/
def inputs : sProp 𝕄 :=
  iprop(owns (c : Thread nD τ) arg1 fullShare b.x ∗ owns (c : Thread nD τ) arg2 fullShare b.dres ∗ owns (c : Thread nD τ) arg3 fullShare b.cq ∗ owns (c : Thread nD τ) arg4 fullShare b.ckv ∗ owns (c : Thread nD τ) arg5 fullShare b.cs ∗ owns (c : Thread nD τ) arg6 fullShare b.dq ∗ owns (c : Thread nD τ) arg7 fullShare b.dk ∗ owns (c : Thread nD τ) arg8 fullShare b.dv ∗ owns (c : Thread nD τ) arg9 fullShare b.dgate ∗ owns (c : Thread nD τ) arg10 fullShare b.win ∗ owns (c : Thread nD τ) arg11 fullShare b.wuq ∗ owns (c : Thread nD τ) arg12 fullShare b.wkv ∗ owns (c : Thread nD τ) arg13 fullShare b.pv ∗ owns (c : Thread nD τ) arg14 fullShare b.gv)

/-- The output buffers after the point. -/
def outputs (a : Acc F) : sProp 𝕄 :=
  iprop(owns (c : Thread nD τ) arg15 fullShare (gxOut b) ∗ owns (c : Thread nD τ) arg16 fullShare (a.next b).gwin ∗ owns (c : Thread nD τ) arg17 fullShare (a.next b).gwuq ∗ owns (c : Thread nD τ) arg18 fullShare (a.next b).gwkv ∗ owns (c : Thread nD τ) arg19 fullShare (a.next b).vec)

set_option maxHeartbeats 2000000 in
/-- The first point: whatever the output buffers held. -/
theorem run_first (hc : cond0_0 i) (E : Set ℕ) (K : PUnit → sProp 𝕄) :
    iprop(inputs c arg1 arg2 arg3 arg4 arg5 arg6 arg7 arg8 arg9 arg10 arg11 arg12 arg13 arg14 b ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
      ∗ (iprop(inputs c arg1 arg2 arg3 arg4 arg5 arg6 arg7 arg8 arg9 arg10 arg11 arg12 arg13 arg14 b ∗ outputs c arg15 arg16 arg17 arg18 arg19 b (Acc.start b)) -∗ K ⟨⟩))
    ⊢ wp frame (wpE (defs₀ (F := F)) Variants.none c none) E (cc0_bwd_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bwd_pre_eq_skeleton]; unfold cc0_bwd_pre_skel
  simp only [k0_part1_eq_skeleton, k0_part2_eq_skeleton, k0_part3_eq_skeleton, k0_part4_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%d15, %f15, -, H15⟩, ⟨%d16, %f16, -, H16⟩, ⟨%d17, %f17, -, H17⟩, ⟨%d18, %f18, -, H18⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  sl_exec (disch := first | sl_exact hc)
  sl_step
  iapply Hk
  isplitr [H14 H15 H16 H17 H18]
  ·
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; isplitr; · ipureintro; exact harg14.read_unread _
    iexact H13
  isplitl [H14]
  · iexists _; isplitr
    swap; · iexact H14
    ipureintro; refine (View.read_writes_full _ _ inb_S512x1024_S512x1024_0_0 _ _).trans ?_
    frame_out
    rfl
  isplitl [H15]
  · iexists _; isplitr
    swap; · iexact H15
    ipureintro; refine (Cert.Writes.read_fill _ _ _ inb_S1024x2560_S1024x2560_0_0 [_, _] (by decide)).trans ?_
    frame_out [List.cons_append, List.nil_append, View.readCov_skip, View.readCov_fill]
    rfl
  isplitl [H16]
  · iexists _; isplitr
    swap; · iexact H16
    ipureintro; refine (View.read_writes_full _ _ inb_S256x1024_S256x1024_0_0 _ _).trans ?_
    frame_out
    rfl
  isplitl [H17]
  · iexists _; isplitr
    swap; · iexact H17
    ipureintro; refine (View.read_writes_full _ _ inb_S128x1536_S128x1536_0_0 _ _).trans ?_
    frame_out
    rfl
  iexists _; isplitr
  swap; · iexact H18
  ipureintro; refine (Cert.Writes.read_fill _ _ _ inb_S16x1024_S16x1024_0_0 [_, _] (by decide)).trans ?_
  frame_out [List.cons_append, List.nil_append, View.readCov_skip, View.readCov_fill]
  rfl

set_option maxHeartbeats 2000000 in
/-- A later point: the accumulators at what the point before left. -/
theorem run_later (a : Acc F) (hc : ¬cond0_0 i) (E : Set ℕ) (K : PUnit → sProp 𝕄) :
    iprop(inputs c arg1 arg2 arg3 arg4 arg5 arg6 arg7 arg8 arg9 arg10 arg11 arg12 arg13 arg14 b ∗ (∃ d, owns (c : Thread nD τ) arg15 fullShare d) ∗ owns (c : Thread nD τ) arg16 fullShare a.gwin ∗ owns (c : Thread nD τ) arg17 fullShare a.gwuq ∗ owns (c : Thread nD τ) arg18 fullShare a.gwkv ∗ owns (c : Thread nD τ) arg19 fullShare a.vec
      ∗ (iprop(inputs c arg1 arg2 arg3 arg4 arg5 arg6 arg7 arg8 arg9 arg10 arg11 arg12 arg13 arg14 b ∗ outputs c arg15 arg16 arg17 arg18 arg19 b a) -∗ K ⟨⟩))
    ⊢ wp frame (wpE (defs₀ (F := F)) Variants.none c none) E (cc0_bwd_pre i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_bwd_pre_eq_skeleton]; unfold cc0_bwd_pre_skel
  simp only [k0_part1_eq_skeleton, k0_part2_eq_skeleton, k0_part3_eq_skeleton, k0_part4_eq_skeleton]
  unfold inputs outputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩⟩, ⟨%d14, %f14, -, H14⟩, ⟨%f15, %hf15, H15⟩, ⟨%f16, %hf16, H16⟩, ⟨%f17, %hf17, H17⟩, ⟨%f18, %hf18, H18⟩, Hk⟩
  obtain rfl := harg1.eq_unread hf0
  obtain rfl := harg2.eq_unread hf1
  obtain rfl := harg3.eq_unread hf2
  obtain rfl := harg4.eq_unread hf3
  obtain rfl := harg5.eq_unread hf4
  obtain rfl := harg6.eq_unread hf5
  obtain rfl := harg7.eq_unread hf6
  obtain rfl := harg8.eq_unread hf7
  obtain rfl := harg9.eq_unread hf8
  obtain rfl := harg10.eq_unread hf9
  obtain rfl := harg11.eq_unread hf10
  obtain rfl := harg12.eq_unread hf11
  obtain rfl := harg13.eq_unread hf12
  obtain rfl := harg14.eq_unread hf13
  obtain rfl := harg16.eq_unread hf15
  obtain rfl := harg17.eq_unread hf16
  obtain rfl := harg18.eq_unread hf17
  obtain rfl := harg19.eq_unread hf18
  sl_exec (disch := first | sl_exact hc)
  sl_step
  iapply Hk
  isplitr [H14 H15 H16 H17 H18]
  ·
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexists _; isplitr; · ipureintro; exact harg14.read_unread _
    iexact H13
  isplitl [H14]
  · iexists _; isplitr
    swap; · iexact H14
    ipureintro; refine (View.read_writes_full _ _ inb_S512x1024_S512x1024_0_0 _ _).trans ?_
    frame_out
    rfl
  isplitl [H15]
  · iexists _; isplitr
    swap; · iexact H15
    ipureintro; refine (Cert.Writes.read_over harg16 _ inb_S1024x2560_S1024x2560_0_0 [_, _] (by decide)).trans ?_
    frame_out [List.cons_append, List.nil_append]
    rfl
  isplitl [H16]
  · iexists _; isplitr
    swap; · iexact H16
    ipureintro; refine (View.read_writes_full _ _ inb_S256x1024_S256x1024_0_0 _ _).trans ?_
    frame_out
    rfl
  isplitl [H17]
  · iexists _; isplitr
    swap; · iexact H17
    ipureintro; refine (View.read_writes_full _ _ inb_S128x1536_S128x1536_0_0 _ _).trans ?_
    frame_out
    rfl
  iexists _; isplitr
  swap; · iexact H18
  ipureintro; refine (Cert.Writes.read_over harg19 _ inb_S16x1024_S16x1024_0_0 [_, _] (by decide)).trans ?_
  frame_out [List.cons_append, List.nil_append]
  rfl

end Run

end Cert.KernelIdeal.BwdPre

end
-- ==== Proof.BwdPre.Pay.lean ====
module

public import proofs.«01_k».proof.Proof.BwdPre.Body
public import proofs.«01_k».proof.Proof.Norm
public import Idealize.ShloMosaic.Lib.Pointwise

@[expose] public section

set_option maxRecDepth 16384

noncomputable section

namespace Cert.KernelIdeal.BwdPre

open Cert.KernelIdeal.Gen Cert.Norm
open Idealize.ShloMosaic Idealize.ShloMosaic.TcCoe Idealize.ShloMosaic.Tactic Idealize.SL.Sem

variable (b : In Ideal) (a : Acc Ideal)

/-- The two norms' widths. -/
abbrev nWide : EReal := Ideal.ofBits .f32 0x43800000#32
abbrev nNarrow : EReal := Ideal.ofBits .f32 0x43000000#32

/-- A point's rows of the latents, and of the gradients of the normalised latents before their gains. -/
def qrow (i : Fin 512) (k : Fin 256) : EReal := b.cq (ix2 i k)
def kvrow (i : Fin 512) (k : Fin 128) : EReal := b.ckv (ix2 i k)
def dyqrow (i : Fin 512) (k : Fin 256) : EReal := ∑ e : Fin 1024, b.dq (ix2 i e) * b.wuq (ix2 k e)
def dykvrow (i : Fin 512) (k : Fin 128) : EReal :=
  ∑ e : Fin 1024, b.dk (ix2 i e) * b.wkv (ix2 k ⟨e.val, by omega⟩) + ∑ e : Fin 512, b.dv (ix2 i e) * b.wkv (ix2 k ⟨1024 + e.val, by omega⟩)
/-- The heads' key gradients of one lane, summed. -/
def headrow (i : Fin 512) (l : Fin 128) : EReal := ∑ h : Fin 8, b.dk (ix2 i ⟨h.val * 128 + l.val, by omega⟩)

set_option maxHeartbeats 1000000 in
theorem dcq_at (i : Fin 512) (j : Fin 256) :
    (show EReal from dcq b (ix2 i j)) = scale nWide (qrow b i) * grad nWide (qrow b i) (fun k => dyqrow b i k * b.pv (ix2 0 ⟨k.val, by omega⟩)) j := by
  simp only [scale, grad, square, qrow, dyqrow]
  pointwise [dcq, k0_pay20, k0_pay11, k0_pay13, k0_pay14, k0_pay15, k0_pay16, k0_pay17, qgain]

set_option maxHeartbeats 1000000 in
theorem dckv_at (i : Fin 512) (j : Fin 128) :
    (show EReal from dckv b (ix2 i j)) = grad nNarrow (kvrow b i) (fun k => dykvrow b i k * b.pv (ix2 1 ⟨k.val, by omega⟩)) j := by
  simp only [scale, grad, square, kvrow, dykvrow]
  pointwise [dckv, k0_pay29, k0_pay12, k0_pay22, k0_pay21, k0_pay24, k0_pay23, k0_pay25, k0_pay26, k0_pay27, kvgain]

set_option maxHeartbeats 1000000 in
theorem gx_at (i : Fin 512) (j : Fin 1024) :
    (show EReal from gxOut b (ix2 i j)) = Ideal.ofBits .f32 0x3F9837F0#32 * b.dres (ix2 i j) + ∑ x : Fin 2048, b.dgate (ix2 i x) * b.win (ix2 j ⟨512 + x.val, by omega⟩) + ∑ x : Fin 512, dlat b (ix2 i x) * b.win (ix2 j ⟨x.val, by omega⟩) := by
  pointwise [gxOut, k0_pay2, k0_pay10, k0_pay8]

set_option maxHeartbeats 1000000 in
theorem dlat_q (i : Fin 512) (j : Fin 256) :
    (show EReal from dlat b (ix2 i ⟨j.val, by omega⟩)) = dcq b (ix2 i j) := by
  pointwise [dlat, k0_pay30, k0_pay21, k0_pay24, k0_pay23, cosine, sine, sign1, sign2]

set_option maxHeartbeats 1000000 in
theorem dlat_kv (i : Fin 512) (j : Fin 128) :
    (show EReal from dlat b (ix2 i ⟨256 + j.val, by omega⟩)) = scale nNarrow (kvrow b i) * dckv b (ix2 i j) := by
  simp only [scale, square, kvrow]
  pointwise [dlat, k0_pay30, k0_pay21, k0_pay24, k0_pay23, cosine, sine, sign1, sign2]

set_option maxHeartbeats 1000000 in
theorem dlat_rope (i : Fin 512) (j : Fin 128) :
    (show EReal from dlat b (ix2 i ⟨384 + j.val, by omega⟩)) = headrow b i j * b.cs (ix2 i ⟨j.val, by omega⟩)
      + headrow b i ⟨(j.val + 128 - 16) % 128, by omega⟩ * (b.cs (ix2 i ⟨128 + (j.val + 128 - 16) % 128, by omega⟩) * b.pv (ix2 5 ⟨(j.val + 128 - 16) % 128, by omega⟩))
      + headrow b i ⟨(j.val + 128 - 112) % 128, by omega⟩ * (b.cs (ix2 i ⟨128 + (j.val + 128 - 112) % 128, by omega⟩) * b.pv (ix2 6 ⟨(j.val + 128 - 112) % 128, by omega⟩)) := by
  pointwise [dlat, k0_pay30, k0_pay21, k0_pay24, k0_pay23, cosine, sine, sign1, sign2]
  have h1 : ¬ 384 + j.val < 256 := by omega
  have h2 : ¬ 384 + j.val - 256 < 128 := by omega
  have h3 : 384 + j.val - 256 - 128 = j.val := by omega
  simp only [dif_neg h1, dif_neg h2, h3]
  simp [headrow, Fin.sum_univ_eight]

set_option maxHeartbeats 1000000 in
theorem gwuq_at (j : Fin 256) (e : Fin 1024) :
    (show EReal from gwuqOut b a (ix2 j e)) = a.gwuq (ix2 j e) + ∑ i : Fin 512, qrow b i j * scale nWide (qrow b i) * b.pv (ix2 0 ⟨j.val, by omega⟩) * b.dq (ix2 i e) := by
  simp only [scale, square, qrow]
  pointwise [gwuqOut, k0_pay18, k0_pay11, k0_pay13, k0_pay14, k0_pay15, k0_pay16, qgain]

set_option maxHeartbeats 1000000 in
theorem gwkv_key (j : Fin 128) (e : Fin 1024) :
    (show EReal from gwkvOut b a (ix2 j ⟨e.val, by omega⟩)) = a.gwkv (ix2 j ⟨e.val, by omega⟩) + ∑ i : Fin 512, kvrow b i j * scale nNarrow (kvrow b i) * b.pv (ix2 1 ⟨j.val, by omega⟩) * b.dk (ix2 i e) := by
  simp only [scale, square, kvrow]
  pointwise [gwkvOut, k0_pay27, k0_pay12, k0_pay22, k0_pay21, k0_pay24, k0_pay23, k0_pay25, k0_pay26, kvgain]

set_option maxHeartbeats 1000000 in
theorem gwkv_value (j : Fin 128) (e : Fin 512) :
    (show EReal from gwkvOut b a (ix2 j ⟨1024 + e.val, by omega⟩)) = a.gwkv (ix2 j ⟨1024 + e.val, by omega⟩) + ∑ i : Fin 512, kvrow b i j * scale nNarrow (kvrow b i) * b.pv (ix2 1 ⟨j.val, by omega⟩) * b.dv (ix2 i e) := by
  simp only [scale, square, kvrow]
  pointwise [gwkvOut, k0_pay27, k0_pay12, k0_pay22, k0_pay21, k0_pay24, k0_pay23, k0_pay25, k0_pay26, kvgain]

set_option maxHeartbeats 1000000 in
theorem vec_q (j : Fin 256) :
    (show EReal from vecOut b a (ix2 0 ⟨j.val, by omega⟩)) = a.vec (ix2 0 ⟨j.val, by omega⟩) + ∑ i : Fin 512, dyqrow b i j * (qrow b i j * scale nWide (qrow b i)) := by
  unfold vecOut
  simp only [scale, square, qrow, dyqrow]
  refine (View.canon_cons_of_not_mem _ _ fun h => ?_).trans ?_
  · have := Rect.mem_set_unit (inb := inb_S16x1024_S1x128_1_0) |>.mp h (0 : Fin 2)
    simp at this
  refine Eq.trans (congrArg (View.canon _) (a₂ := (Rect.unit (s := S16x1024) ![0, 0] S1x256.size inb_S16x1024_S1x256_0_0).emb (ix2 0 j)) ?_) ?_
  · funext q
    refine Fin.ext ?_
    rw [Rect.emb_apply]
    fin_cases q
    · simp
    · simp
  refine (View.canon_cons_emb _ _ _ _).trans ?_
  pointwise [k0_pay19, k0_pay13, k0_pay14, k0_pay15, k0_pay16, k0_pay17]

set_option maxHeartbeats 1000000 in
theorem vec_kv (j : Fin 128) :
    (show EReal from vecOut b a (ix2 1 ⟨j.val, by omega⟩)) = a.vec (ix2 1 ⟨j.val, by omega⟩) + ∑ i : Fin 512, dykvrow b i j * (kvrow b i j * scale nNarrow (kvrow b i)) := by
  unfold vecOut
  simp only [scale, square, kvrow, dykvrow]
  refine Eq.trans (congrArg (View.canon _) (a₂ := (Rect.unit (s := S16x1024) ![1, 0] S1x128.size inb_S16x1024_S1x128_1_0).emb (ix2 0 j)) ?_) ?_
  · funext q
    refine Fin.ext ?_
    rw [Rect.emb_apply]
    fin_cases q
    · simp
    · simp
  refine (View.canon_cons_emb _ _ _ _).trans ?_
  pointwise [k0_pay28, k0_pay22, k0_pay21, k0_pay23, k0_pay24, k0_pay25, k0_pay26]

set_option maxHeartbeats 1000000 in
theorem gwin_lo (k : Fin 1024) (l : Fin 512) :
    (show EReal from gwinOut b a (ix2 k ⟨l.val, by omega⟩)) = a.gwin (ix2 k ⟨l.val, by omega⟩) + ∑ i : Fin 512, b.x (ix2 i k) * dlat b (ix2 i l) := by
  unfold gwinOut
  refine Eq.trans (congrArg (View.canon _) (a₂ := (Rect.unit (s := S1024x2560) ![0, 0] S1024x512.size inb_S1024x2560_S1024x512_0_0).emb (ix2 k l)) ?_) ?_
  · funext q
    refine Fin.ext ?_
    rw [Rect.emb_apply]
    fin_cases q
    · simp
    · simp
  refine (View.canon_cons_emb _ _ _ _).trans ?_
  pointwise [k0_pay1, k0_pay7]

set_option maxHeartbeats 1000000 in
theorem gwin_hi (k : Fin 1024) (l : Fin 2048) :
    (show EReal from gwinOut b a (ix2 k ⟨512 + l.val, by omega⟩)) = a.gwin (ix2 k ⟨512 + l.val, by omega⟩) + ∑ i : Fin 512, b.x (ix2 i k) * b.dgate (ix2 i l) := by
  unfold gwinOut
  refine (View.canon_cons_of_not_mem _ _ fun h => ?_).trans ?_
  · have := Rect.mem_set_unit (inb := inb_S1024x2560_S1024x512_0_0) |>.mp h (1 : Fin 2)
    simp at this
  refine Eq.trans (congrArg (View.canon _) (a₂ := (Rect.unit (s := S1024x2560) ![0, 512] S1024x2048.size inb_S1024x2560_S1024x2048_0_512).emb (ix2 k l)) ?_) ?_
  · funext q
    refine Fin.ext ?_
    rw [Rect.emb_apply]
    fin_cases q
    · simp
    · simp
  refine (View.canon_cons_emb _ _ _ _).trans ?_
  pointwise [k0_pay9, k0_pay7, k0_pay8]

end Cert.KernelIdeal.BwdPre
-- ==== Proof.BwdPre.Math.lean ====
module

public import proofs.«01_k».proof.Proof.Norm

/-! The six gradients of the backward call before the attention, over the entries of its arguments. -/

@[expose] public section

set_option maxRecDepth 16384

noncomputable section

namespace Cert.BwdPreMath

open Idealize.ShloMosaic Cert.Norm

/-- The arguments, entry by entry: the input rows, the joint projection, the two gains and up-projections, the gradient of the residual, the
    gradients of the heads' queries, keys and values, those of the four gates side by side, and the rotary angles. -/
structure Data where
  x : Fin 8192 → Fin 1024 → EReal
  w : Fin 1024 → Fin 2464 → EReal
  qg : Fin 256 → EReal
  uq : Fin 256 → Fin 768 → EReal
  kg : Fin 128 → EReal
  uk : Fin 128 → Fin 1024 → EReal
  dres : Fin 8192 → Fin 1024 → EReal
  dq : Fin 8192 → Fin 8 → Fin 96 → EReal
  dk : Fin 8192 → Fin 8 → Fin 96 → EReal
  dv : Fin 8192 → Fin 8 → Fin 64 → EReal
  gate : Fin 8192 → Fin 2048 → EReal
  angle : Fin 8192 → Fin 16 → EReal

/-- The data of the argument arrays. -/
def Data.of (x0 : FVec Ideal ⟨3, ![1, 8192, 1024]⟩ .f32) (x1 : IVec ⟨2, ![1, 8192]⟩ 32) (x2 : FVec Ideal ⟨2, ![1024, 2464]⟩ .f32)
    (x3 : FVec Ideal ⟨1, ![256]⟩ .f32) (x4 : FVec Ideal ⟨2, ![256, 768]⟩ .f32) (x5 : FVec Ideal ⟨1, ![128]⟩ .f32)
    (x6 : FVec Ideal ⟨2, ![128, 1024]⟩ .f32) (x7 : FVec Ideal ⟨3, ![1, 8192, 1024]⟩ .f32) (x8 x9 : FVec Ideal ⟨4, ![1, 8192, 8, 96]⟩ .f32)
    (x10 : FVec Ideal ⟨4, ![1, 8192, 8, 64]⟩ .f32) (x11 x12 x13 x14 : FVec Ideal ⟨3, ![1, 8192, 512]⟩ .f32) : Data where
  x s k := x0 (ix3 0 s k)
  w k j := x2 (ix2 k j)
  qg j := x3 (ix1 j)
  uq j e := x4 (ix2 j e)
  kg j := x5 (ix1 j)
  uk j e := x6 (ix2 j e)
  dres s j := x7 (ix3 0 s j)
  dq s h e := x8 (ix4 0 s h e)
  dk s h e := x9 (ix4 0 s h e)
  dv s h e := x10 (ix4 0 s h e)
  gate s k :=
    if h : k.val < 512 then x11 (ix3 0 s ⟨k.val, by omega⟩) else
    if h : k.val - 512 < 512 then x12 (ix3 0 s ⟨k.val - 512, by omega⟩) else
    if h : k.val - 512 - 512 < 512 then x13 (ix3 0 s ⟨k.val - 512 - 512, by omega⟩) else
    x14 (ix3 0 s ⟨k.val - 512 - 512 - 512, by omega⟩)
  angle s f := FloatOps.sitofp (F := Ideal) .f32 (x1 (ix2 0 s)) * Ideal.div 1 (Ideal.pow (Ideal.ofBits .f32 0x461C4000#32)
    (Ideal.div (FloatOps.sitofp (F := Ideal) .f32 (BitVec.ofNat 32 f.val)) (Ideal.ofBits .f32 0x41800000#32)))

/-- The two norms' widths. -/
abbrev wide : EReal := Ideal.ofBits .f32 0x43800000#32
abbrev narrow : EReal := Ideal.ofBits .f32 0x43000000#32

variable (D : Data) (s : Fin 8192)

/-- The latents before their norms. -/
def cq (j : Fin 256) : EReal := ∑ k, D.x s k * D.w k ⟨j.val, by omega⟩
def ckv (j : Fin 128) : EReal := ∑ k, D.x s k * D.w k ⟨256 + j.val, by omega⟩

/-- The gradient of the heads' keys (without their rotary lanes) and values, as the up-projection lays them out. -/
def dkv (e : Fin 1024) : EReal :=
  if h : e.val % 128 < 64 then D.dk s ⟨e.val / 128, by omega⟩ ⟨e.val % 128, by omega⟩
  else D.dv s ⟨e.val / 128, by omega⟩ ⟨e.val % 128 - 64, by omega⟩

/-- The gradients of the normalised latents. -/
def dyq (j : Fin 256) : EReal := ∑ e : Fin 768, D.dq s ⟨e.val / 96, by omega⟩ ⟨e.val % 96, by omega⟩ * D.uq j e
def dykv (j : Fin 128) : EReal := ∑ e : Fin 1024, dkv D s e * D.uk j e

/-- The gradient of the shared key's rotary lane before its rotation: the heads' gradients summed, and turned back. -/
def heads (l : Fin 96) : EReal := ∑ h : Fin 8, D.dk s h l
def rope (j : Fin 32) : EReal :=
  if h : j.val < 16 then heads D s ⟨64 + (16 + j.val), by omega⟩ * Ideal.sin (D.angle s ⟨j.val, h⟩)
    + heads D s ⟨64 + j.val, by omega⟩ * Ideal.cos (D.angle s ⟨j.val, h⟩)
  else heads D s ⟨64 + j.val, by omega⟩ * Ideal.cos (D.angle s ⟨j.val - 16, by omega⟩)
    + -heads D s ⟨64 + (j.val - 16), by omega⟩ * Ideal.sin (D.angle s ⟨j.val - 16, by omega⟩)

/-- The gradients of the latents and of all columns of the joint projection's product. -/
def dcq (j : Fin 256) : EReal := rule wide (cq D s) (fun k => dyq D s k * D.qg k) j
def dckv (j : Fin 128) : EReal := rule narrow (ckv D s) (fun k => dykv D s k * D.kg k) j
def cols (k : Fin 2464) : EReal :=
  if h : k.val < 256 then dcq D s ⟨k.val, h⟩ else
  if h : k.val - 256 < 128 then dckv D s ⟨k.val - 256, h⟩ else
  if h : k.val - 256 - 128 < 32 then rope D s ⟨k.val - 256 - 128, h⟩ else
  D.gate s ⟨k.val - 256 - 128 - 32, by omega⟩

/-- The normalised latents, and with their gains. -/
def nq (j : Fin 256) : EReal := cq D s j * scale wide (cq D s)
def nkv (j : Fin 128) : EReal := ckv D s j * scale narrow (ckv D s)

/-- The six gradients. -/
def gx (j : Fin 1024) : EReal := Ideal.ofBits .f32 0x3F9837F0#32 * D.dres s j + ∑ k, cols D s k * D.w j k
def gin (k : Fin 1024) (j : Fin 2464) : EReal := ∑ s, cols D s j * D.x s k
def gqnorm (j : Fin 256) : EReal := ∑ s, nq D s j * dyq D s j
def guq (j : Fin 256) (e : Fin 768) : EReal :=
  ∑ s, D.dq s ⟨e.val / 96, by omega⟩ ⟨e.val % 96, by omega⟩ * (nq D s j * D.qg j)
def gkvnorm (j : Fin 128) : EReal := ∑ s, nkv D s j * dykv D s j
def gukv (j : Fin 128) (e : Fin 1024) : EReal := ∑ s, dkv D s e * (nkv D s j * D.kg j)

end Cert.BwdPreMath
-- ==== Proof.BwdPre.Point.lean ====
module

public import proofs.«01_k».proof.Proof.BwdPre.Pay
public import proofs.«01_k».proof.Proof.BwdPre.Math
public import proofs.«01_k».proof.Proof.PadSums

/-! What one point of the backward call computes, in the problem's own terms: the blocks hold 512 rows of the data, in padded layouts. -/

@[expose] public section

set_option maxRecDepth 16384

noncomputable section

namespace Cert.BwdPreMath

open Cert.Norm Idealize.ShloMosaic

/-- The arguments that the norms' gradients need to be real numbers. -/
structure Finite (D : Data) : Prop where
  x : ∀ s k, IsReal (D.x s k)
  w : ∀ k j, IsReal (D.w k j)
  qg : ∀ j, IsReal (D.qg j)
  uq : ∀ j e, IsReal (D.uq j e)
  kg : ∀ j, IsReal (D.kg j)
  uk : ∀ j e, IsReal (D.uk j e)
  dq : ∀ s h l, IsReal (D.dq s h l)
  dk : ∀ s h l, IsReal (D.dk s h l)
  dv : ∀ s h l, IsReal (D.dv s h l)

variable {D : Data} (hD : Finite D) (s : Fin 8192)
include hD

theorem Finite.dcq_eq (j : Fin 256) :
    scale wide (cq D s) * grad wide (cq D s) (fun k => dyq D s k * D.qg k) j = dcq D s j :=
  grad_eq _ _ _ j (by norm_num) width_256 (fun k => IsReal.sum _ fun _ => (hD.x _ _).mul (hD.w _ _))
    fun k => (IsReal.sum _ fun _ => (hD.dq _ _ _).mul (hD.uq _ _)).mul (hD.qg _)

theorem Finite.dkv (e : Fin 1024) : IsReal (BwdPreMath.dkv D s e) := by
  unfold BwdPreMath.dkv
  split
  · exact hD.dk _ _ _
  · exact hD.dv _ _ _

theorem Finite.dckv_eq (j : Fin 128) :
    scale narrow (ckv D s) * grad narrow (ckv D s) (fun k => dykv D s k * D.kg k) j = dckv D s j :=
  grad_eq _ _ _ j (by norm_num) width_128 (fun k => IsReal.sum _ fun _ => (hD.x _ _).mul (hD.w _ _))
    fun k => (IsReal.sum _ fun e => (hD.dkv s e).mul (hD.uk k e)).mul (hD.kg _)

end Cert.BwdPreMath

namespace Cert.KernelIdeal.BwdPre

open Cert.KernelIdeal.Gen Cert.Norm
open Idealize.ShloMosaic Idealize.ShloMosaic.TcCoe Idealize.SL.Sem

/-- The blocks `b` hold the rows `ρ` of the data `D`. -/
structure Blocks (D : BwdPreMath.Data) (ρ : Fin 512 → Fin 8192) (b : In Ideal) : Prop where
  x : ∀ (i : Fin 512) (k : Fin 1024), (show EReal from b.x (ix2 i k)) = D.x (ρ i) k
  dres : ∀ (i : Fin 512) (k : Fin 1024), (show EReal from b.dres (ix2 i k)) = D.dres (ρ i) k
  cq : ∀ (i : Fin 512) (j : Fin 256), (show EReal from b.cq (ix2 i j)) = BwdPreMath.cq D (ρ i) j
  ckv : ∀ (i : Fin 512) (j : Fin 128), (show EReal from b.ckv (ix2 i j)) = BwdPreMath.ckv D (ρ i) j
  cos_lo : ∀ (i : Fin 512) (f : Fin 16), (show EReal from b.cs (ix2 i ⟨64 + f.val, by omega⟩)) = Ideal.cos (D.angle (ρ i) f)
  cos_hi : ∀ (i : Fin 512) (f : Fin 16), (show EReal from b.cs (ix2 i ⟨80 + f.val, by omega⟩)) = Ideal.cos (D.angle (ρ i) f)
  sin_lo : ∀ (i : Fin 512) (f : Fin 16), (show EReal from b.cs (ix2 i ⟨192 + f.val, by omega⟩)) = Ideal.sin (D.angle (ρ i) f)
  sin_hi : ∀ (i : Fin 512) (f : Fin 16), (show EReal from b.cs (ix2 i ⟨208 + f.val, by omega⟩)) = Ideal.sin (D.angle (ρ i) f)
  dq : ∀ (i : Fin 512) (l : Fin 1024), (show EReal from b.dq (ix2 i l)) =
    if h : l.val % 128 < 96 then D.dq (ρ i) ⟨l.val / 128, by omega⟩ ⟨l.val % 128, h⟩ else 0
  dk : ∀ (i : Fin 512) (l : Fin 1024), (show EReal from b.dk (ix2 i l)) =
    if h : l.val % 128 < 96 then D.dk (ρ i) ⟨l.val / 128, by omega⟩ ⟨l.val % 128, h⟩ else 0
  dv : ∀ (i : Fin 512) (l : Fin 512), (show EReal from b.dv (ix2 i l)) = D.dv (ρ i) ⟨l.val / 64, by omega⟩ ⟨l.val % 64, by omega⟩
  gate : ∀ (i : Fin 512) (l : Fin 2048), (show EReal from b.dgate (ix2 i l)) = D.gate (ρ i) l
  win : ∀ (k : Fin 1024) (l : Fin 2560), (show EReal from b.win (ix2 k l)) =
    if h : l.val < 384 then D.w k ⟨l.val, by omega⟩ else
    if l.val - 384 < 64 then 0 else
    if h : l.val - 384 - 64 < 32 then D.w k ⟨384 + (l.val - 384 - 64), by omega⟩ else
    if l.val - 384 - 64 - 32 < 32 then 0 else D.w k ⟨416 + (l.val - 384 - 64 - 32 - 32), by omega⟩
  wuq : ∀ (j : Fin 256) (l : Fin 1024), (show EReal from b.wuq (ix2 j l)) =
    if h : l.val % 128 < 96 then D.uq j ⟨l.val / 128 * 96 + l.val % 128, by omega⟩ else 0
  key : ∀ (j : Fin 128) (l : Fin 1024), (show EReal from b.wkv (ix2 j ⟨l.val, by omega⟩)) = if l.val % 128 < 64 then D.uk j l else 0
  value : ∀ (j : Fin 128) (l : Fin 512), (show EReal from b.wkv (ix2 j ⟨1024 + l.val, by omega⟩)) =
    D.uk j ⟨l.val / 64 * 128 + (64 + l.val % 64), by omega⟩
  qg : ∀ j : Fin 256, (show EReal from b.pv (ix2 0 ⟨j.val, by omega⟩)) = D.qg j
  kg : ∀ j : Fin 128, (show EReal from b.pv (ix2 1 ⟨j.val, by omega⟩)) = D.kg j
  sign1 : ∀ l : Fin 128, (show EReal from b.pv (ix2 5 ⟨l.val, by omega⟩)) = if 64 ≤ l.val ∧ l.val < 80 then -1 else 0
  sign2 : ∀ l : Fin 128, (show EReal from b.pv (ix2 6 ⟨l.val, by omega⟩)) = if 80 ≤ l.val ∧ l.val < 96 then 1 else 0
  gv : ∀ (i : Fin 16) (l : Fin 1024), (show EReal from b.gv (ix2 i l)) = 0

namespace Blocks

variable {D : BwdPreMath.Data} {ρ : Fin 512 → Fin 8192} {b : In Ideal} (B : Blocks D ρ b) (i : Fin 512)
include B

theorem qrow_eq : qrow b i = BwdPreMath.cq D (ρ i) := funext fun j => B.cq i j
theorem kvrow_eq : kvrow b i = BwdPreMath.ckv D (ρ i) := funext fun j => B.ckv i j

theorem dyqrow_eq (k : Fin 256) : dyqrow b i k = BwdPreMath.dyq D (ρ i) k := by
  refine (PadSums.heads _ (fun h l => D.dq (ρ i) h l * D.uq k ⟨h.val * 96 + l.val, by omega⟩) (fun e hd => ?_) fun e hd => ?_).trans ?_
  · exact congrArg₂ (· * ·) ((B.dq i e).trans (dif_pos hd)) ((B.wuq k e).trans (dif_pos hd))
  · exact (congrArg₂ (· * ·) ((B.dq i e).trans (dif_neg hd)) rfl).trans (zero_mul _)
  · refine Finset.sum_congr rfl fun e _ => congrArg₂ (· * ·) rfl (congrArg (D.uq k) (Fin.ext ?_))
    show e.val / 96 * 96 + e.val % 96 = e.val
    omega

theorem dykvrow_eq (k : Fin 128) : dykvrow b i k = BwdPreMath.dykv D (ρ i) k := by
  refine PadSums.keys_values _ _ (fun e => BwdPreMath.dkv D (ρ i) e * D.uk k e) (fun e hd => ?_) (fun e hd => ?_) fun e => ?_
  · refine congrArg₂ (· * ·) ((B.dk i e).trans ?_) ((B.key k e).trans (if_pos hd))
    rw [dif_pos (show e.val % 128 < 96 by omega), BwdPreMath.dkv, dif_pos hd]
  · exact (congrArg₂ (· * ·) rfl ((B.key k e).trans (if_neg hd))).trans (mul_zero _)
  · refine congrArg₂ (· * ·) ((B.dv i e).trans ?_) (B.value k e)
    rw [BwdPreMath.dkv, dif_neg (show ¬ (e.val / 64 * 128 + (64 + e.val % 64)) % 128 < 64 by omega)]
    refine congrArg₂ (D.dv (ρ i)) (Fin.ext ?_) (Fin.ext ?_)
    · show e.val / 64 = (e.val / 64 * 128 + (64 + e.val % 64)) / 128; omega
    · show e.val % 64 = (e.val / 64 * 128 + (64 + e.val % 64)) % 128 - 64; omega

theorem dkv_key (e : Fin 1024) (hd : e.val % 128 < 64) : (show EReal from b.dk (ix2 i e)) = BwdPreMath.dkv D (ρ i) e := by
  rw [BwdPreMath.dkv, dif_pos hd]
  exact (B.dk i e).trans (dif_pos (by omega))

theorem dkv_value (e : Fin 1024) (hd : ¬ e.val % 128 < 64) :
    (show EReal from b.dv (ix2 i ⟨e.val / 128 * 64 + (e.val % 128 - 64), by omega⟩)) = BwdPreMath.dkv D (ρ i) e := by
  rw [BwdPreMath.dkv, dif_neg hd]
  refine (B.dv i _).trans (congrArg₂ (D.dv (ρ i)) (Fin.ext ?_) (Fin.ext ?_))
  · show (e.val / 128 * 64 + (e.val % 128 - 64)) / 64 = e.val / 128; omega
  · show (e.val / 128 * 64 + (e.val % 128 - 64)) % 64 = e.val % 128 - 64; omega

theorem headrow_eq (l : Fin 96) : headrow b i ⟨l.val, by omega⟩ = BwdPreMath.heads D (ρ i) l := by
  refine Finset.sum_congr rfl fun h _ => (B.dk i _).trans ?_
  have e1 : (h.val * 128 + l.val) % 128 = l.val := by omega
  rw [dif_pos (show (h.val * 128 + l.val) % 128 < 96 by omega)]
  refine congrArg₂ (D.dk (ρ i)) (Fin.ext ?_) (Fin.ext e1)
  show (h.val * 128 + l.val) / 128 = h.val
  omega

theorem rope_eq (j : Fin 32) : (show EReal from dlat b (ix2 i ⟨384 + (64 + j.val), by omega⟩)) = BwdPreMath.rope D (ρ i) j := by
  refine (dlat_rope b i ⟨64 + j.val, by omega⟩).trans ?_
  by_cases h : j.val < 16
  · have e1 : (64 + j.val + 128 - 16) % 128 = 48 + j.val := by omega
    have e2 : (64 + j.val + 128 - 112) % 128 = 80 + j.val := by omega
    have e3 : 128 + (80 + j.val) = 208 + j.val := by omega
    simp only [e1, e2, e3]
    rw [BwdPreMath.rope, dif_pos h]
    have p1 := (B.sign1 ⟨48 + j.val, by omega⟩).trans (if_neg (by show ¬ (64 ≤ 48 + j.val ∧ 48 + j.val < 80); omega))
    have p2 := (B.sign2 ⟨80 + j.val, by omega⟩).trans (if_pos (by show 80 ≤ 80 + j.val ∧ 80 + j.val < 96; omega))
    have p3 := B.cos_lo i ⟨j.val, h⟩
    have p4 := B.sin_hi i ⟨j.val, h⟩
    have p5 := B.headrow_eq i ⟨64 + j.val, by omega⟩
    have p6 := B.headrow_eq i ⟨80 + j.val, by omega⟩
    have e4 : 64 + (16 + j.val) = 80 + j.val := by omega
    simp only [e4]
    dsimp only at p1 p2 p3 p4 p5 p6
    rw [p1, p2, p3, p4, p5, p6, mul_zero, mul_zero, add_zero, mul_one, add_comm]
  · have e1 : (64 + j.val + 128 - 16) % 128 = 64 + (j.val - 16) := by omega
    have e2 : (64 + j.val + 128 - 112) % 128 = 96 + (j.val - 16) := by omega
    have e3 : 128 + (64 + (j.val - 16)) = 192 + (j.val - 16) := by omega
    have e5 : (⟨64 + j.val, by omega⟩ : Fin 256) = ⟨80 + (j.val - 16), by omega⟩ := Fin.ext (by show 64 + j.val = 80 + (j.val - 16); omega)
    simp only [e1, e2, e3, e5]
    rw [BwdPreMath.rope, dif_neg h]
    have p1 := (B.sign1 ⟨64 + (j.val - 16), by omega⟩).trans (if_pos (by show 64 ≤ 64 + (j.val - 16) ∧ 64 + (j.val - 16) < 80; omega))
    have p2 := (B.sign2 ⟨96 + (j.val - 16), by omega⟩).trans (if_neg (by show ¬ (80 ≤ 96 + (j.val - 16) ∧ 96 + (j.val - 16) < 96); omega))
    have p3 := B.cos_hi i ⟨j.val - 16, by omega⟩
    have p4 := B.sin_lo i ⟨j.val - 16, by omega⟩
    have p5 := B.headrow_eq i ⟨64 + j.val, by omega⟩
    have p6 := B.headrow_eq i ⟨64 + (j.val - 16), by omega⟩
    dsimp only at p1 p2 p3 p4 p5 p6
    rw [p1, p2, p3, p4, p5, p6, mul_zero, mul_zero, add_zero, mul_neg_one, mul_neg, EReal.neg_mul]

variable (hD : BwdPreMath.Finite D)
include hD

theorem dcq_eq (j : Fin 256) : (show EReal from dlat b (ix2 i ⟨j.val, by omega⟩)) = BwdPreMath.dcq D (ρ i) j := by
  refine (dlat_q b i j).trans ((dcq_at b i j).trans ?_)
  rw [B.qrow_eq i, show (fun k : Fin 256 => dyqrow b i k * b.pv (ix2 0 ⟨k.val, by omega⟩)) = fun k => BwdPreMath.dyq D (ρ i) k * D.qg k from
    funext fun k => congrArg₂ (· * ·) (B.dyqrow_eq i k) (B.qg k)]
  exact hD.dcq_eq (ρ i) j

theorem dckv_eq (j : Fin 128) : (show EReal from dlat b (ix2 i ⟨256 + j.val, by omega⟩)) = BwdPreMath.dckv D (ρ i) j := by
  refine (dlat_kv b i j).trans ((congrArg (_ * ·) (dckv_at b i j)).trans ?_)
  rw [B.kvrow_eq i, show (fun k : Fin 128 => dykvrow b i k * b.pv (ix2 1 ⟨k.val, by omega⟩)) = fun k => BwdPreMath.dykv D (ρ i) k * D.kg k from
    funext fun k => congrArg₂ (· * ·) (B.dykvrow_eq i k) (B.kg k)]
  exact hD.dckv_eq (ρ i) j

/-- The latent columns' lanes, -/
theorem lat_lo (j : Fin 384) : (show EReal from dlat b (ix2 i ⟨j.val, by omega⟩)) = BwdPreMath.cols D (ρ i) ⟨j.val, by omega⟩ := by
  rw [BwdPreMath.cols]
  by_cases h : j.val < 256
  · rw [dif_pos h]; exact B.dcq_eq i hD ⟨j.val, h⟩
  · have h2 : j.val - 256 < 128 := by omega
    rw [dif_neg h, dif_pos h2, ← B.dckv_eq i hD ⟨j.val - 256, h2⟩]
    exact congrArg (fun l => (show EReal from dlat b (ix2 i l))) (Fin.ext (by show j.val = 256 + (j.val - 256); omega))

omit hD in
/-- the rotary ones, -/
theorem lat_rope (j : Fin 32) : (show EReal from dlat b (ix2 i ⟨384 + (64 + j.val), by omega⟩)) = BwdPreMath.cols D (ρ i) ⟨384 + j.val, by omega⟩ := by
  have h1 : ¬ 384 + j.val < 256 := by omega
  have h2 : ¬ 384 + j.val - 256 < 128 := by omega
  have h3 : 384 + j.val - 256 - 128 < 32 := by omega
  rw [BwdPreMath.cols, dif_neg h1, dif_neg h2, dif_pos h3, B.rope_eq i j]
  exact congrArg (BwdPreMath.rope D (ρ i)) (Fin.ext (by show j.val = 384 + j.val - 256 - 128; omega))

omit hD in
/-- and the gates' lanes. -/
theorem gate_cols (j : Fin 2048) : (show EReal from b.dgate (ix2 i j)) = BwdPreMath.cols D (ρ i) ⟨384 + (32 + j.val), by omega⟩ := by
  have h1 : ¬ 384 + (32 + j.val) < 256 := by omega
  have h2 : ¬ 384 + (32 + j.val) - 256 < 128 := by omega
  have h3 : ¬ 384 + (32 + j.val) - 256 - 128 < 32 := by omega
  rw [BwdPreMath.cols, dif_neg h1, dif_neg h2, dif_neg h3, B.gate i j]
  exact congrArg (D.gate (ρ i)) (Fin.ext (by show j.val = 384 + (32 + j.val) - 256 - 128 - 32; omega))

theorem gx_eq (j : Fin 1024) : (show EReal from gxOut b (ix2 i j)) = BwdPreMath.gx D (ρ i) j := by
  refine (gx_at b i j).trans ?_
  rw [BwdPreMath.gx, add_assoc]
  refine congrArg₂ (· + ·) (congrArg₂ (· * ·) rfl (B.dres i j)) ?_
  refine PadSums.columns _ _ (fun k => BwdPreMath.cols D (ρ i) k * D.w j k) (fun k => ?_) (fun k => ?_) (fun k => ?_) (fun k => ?_) fun k => ?_
  · exact congrArg₂ (· * ·) (B.lat_lo i hD k) ((B.win j _).trans (dif_pos (by show k.val < 384; omega)))
  · refine (congrArg₂ (· * ·) rfl ((B.win j _).trans ?_)).trans (mul_zero _)
    have h1 : ¬ 384 + k.val < 384 := by omega
    have h2 : 384 + k.val - 384 < 64 := by omega
    dsimp only
    rw [dif_neg h1, if_pos h2]
  · refine congrArg₂ (· * ·) (B.lat_rope i k) ((B.win j _).trans ?_)
    have h1 : ¬ 384 + (64 + k.val) < 384 := by omega
    have h2 : ¬ 384 + (64 + k.val) - 384 < 64 := by omega
    have h3 : 384 + (64 + k.val) - 384 - 64 < 32 := by omega
    dsimp only
    rw [dif_neg h1, if_neg h2, dif_pos h3]
    exact congrArg (D.w j) (Fin.ext (by show 384 + (384 + (64 + k.val) - 384 - 64) = 384 + k.val; omega))
  · refine (congrArg₂ (· * ·) rfl ((B.win j _).trans ?_)).trans (mul_zero _)
    have h1 : ¬ 384 + (64 + (32 + k.val)) < 384 := by omega
    have h2 : ¬ 384 + (64 + (32 + k.val)) - 384 < 64 := by omega
    have h3 : ¬ 384 + (64 + (32 + k.val)) - 384 - 64 < 32 := by omega
    have h4 : 384 + (64 + (32 + k.val)) - 384 - 64 - 32 < 32 := by omega
    dsimp only
    rw [dif_neg h1, if_neg h2, dif_neg h3, if_pos h4]
  · refine congrArg₂ (· * ·) (B.gate_cols i k) ((B.win j _).trans ?_)
    have h1 : ¬ 512 + k.val < 384 := by omega
    have h2 : ¬ 512 + k.val - 384 < 64 := by omega
    have h3 : ¬ 512 + k.val - 384 - 64 < 32 := by omega
    have h4 : ¬ 512 + k.val - 384 - 64 - 32 < 32 := by omega
    dsimp only
    rw [dif_neg h1, if_neg h2, dif_neg h3, if_neg h4]
    exact congrArg (D.w j) (Fin.ext (by show 416 + (512 + k.val - 384 - 64 - 32 - 32) = 384 + (32 + k.val); omega))

end Blocks

end Cert.KernelIdeal.BwdPre
-- ==== Proof.BwdPre.Precondition.lean ====
module

public import proofs.«01_k».proof.Proof.BwdPre.Point
public import proofs.«01_k».proof.Proof.Finiteness
public import proofs.«01_k».proof.Proof.Gen.Pre_finite
public import proofs.«01_k».proof.Pre_finite

/-! The precondition says that the entries of the arguments it names are real numbers. -/

@[expose] public section

set_option maxRecDepth 16384

noncomputable section

namespace Cert.Pre_finite

open Idealize.ShloMosaic Cert.Norm Cert.Finiteness

theorem entry_real {s : Shape} {axes : List (Fin s.rank)} (x : FVec Ideal s .f32) (hb : S_.BroadcastsInDim s (![] : Fin 0 → Fin s.rank))
    (h : s.ReducesTo axes S_) (hu : 0 < S_.numel) (j : S_.Idx)
    (e : Host.reduce IntOp.andi (cmpf .olt (Host.absf x) (broadcastInDim s ![] hb (constant (F := Ideal) S_ .f32 0x7F800000#32))) (constantI S_ 1 1#1) h hu j = 1#1)
    (i : s.Idx) : IsReal (x i) := by
  have h1 := reduce_one _ _ h hu j e i (funext fun a => a.elim0)
  pointwise at h1
  have h2 : Ideal.ofBits FTy.f32 2139095040#32 = ⊤ := by
    simp [Ideal.ofBits, Ideal.ieee]
  rw [h2] at h1
  have h3 := of_decide_eq_true (p := FloatOps.absf (F := Ideal) (φ := .f32) (x i) < (⊤ : EReal)) (by
    cases hh : decide (FloatOps.absf (F := Ideal) (φ := .f32) (x i) < (⊤ : EReal)) with
    | true => rfl
    | false => rw [hh] at h1; exact absurd h1 (by decide))
  exact real_of_lt _ h3

set_option maxHeartbeats 1000000 in
theorem finite [Facts] (x0 : FVec Ideal ⟨3, ![1, 8192, 1024]⟩ .f32) (x1 : IVec ⟨2, ![1, 8192]⟩ 32) (x2 : FVec Ideal ⟨2, ![1024, 2464]⟩ .f32)
    (x3 : FVec Ideal ⟨1, ![256]⟩ .f32) (x4 : FVec Ideal ⟨2, ![256, 768]⟩ .f32) (x5 : FVec Ideal ⟨1, ![128]⟩ .f32)
    (x6 : FVec Ideal ⟨2, ![128, 1024]⟩ .f32) (x7 : FVec Ideal ⟨3, ![1, 8192, 1024]⟩ .f32) (x8 x9 : FVec Ideal ⟨4, ![1, 8192, 8, 96]⟩ .f32)
    (x10 : FVec Ideal ⟨4, ![1, 8192, 8, 64]⟩ .f32) (x11 x12 x13 x14 : FVec Ideal ⟨3, ![1, 8192, 512]⟩ .f32)
    (h : fn (F := Ideal) x0 x1 x2 x3 x4 x5 x6 x7 x8 x9 x10 x11 x12 x13 x14 = fun _ => 1#1) :
    BwdPreMath.Finite (BwdPreMath.Data.of x0 x1 x2 x3 x4 x5 x6 x7 x8 x9 x10 x11 x12 x13 x14) := by
  have e := congrFun h ix0
  unfold fn fn_part1 fn_part2 at e
  obtain ⟨e, h10⟩ := and_one e
  obtain ⟨e, h9⟩ := and_one e
  obtain ⟨e, h8⟩ := and_one e
  obtain ⟨e, h6⟩ := and_one e
  obtain ⟨e, h5⟩ := and_one e
  obtain ⟨e, h4⟩ := and_one e
  obtain ⟨e, h3⟩ := and_one e
  obtain ⟨h0, h2⟩ := and_one e
  exact ⟨fun s k => entry_real x0 _ _ _ _ h0 _, fun k j => entry_real x2 _ _ _ _ h2 _, fun j => entry_real x3 _ _ _ _ h3 _,
    fun j e => entry_real x4 _ _ _ _ h4 _, fun j => entry_real x5 _ _ _ _ h5 _, fun j e => entry_real x6 _ _ _ _ h6 _,
    fun s h l => entry_real x8 _ _ _ _ h8 _, fun s h l => entry_real x9 _ _ _ _ h9 _, fun s h l => entry_real x10 _ _ _ _ h10 _⟩

end Cert.Pre_finite
-- ==== Proof.Attn.Precondition.lean ====
module

public import proofs.«01_k».proof.Proof.Attn.Math
public import proofs.«01_k».proof.Proof.BwdPre.Precondition
public import proofs.«01_k».proof.Proof.Gen.Pre_attn_finite
public import proofs.«01_k».proof.Pre_attn_finite

/-! The attention's precondition says that the entries of the float arguments are real numbers. -/

@[expose] public section

set_option maxRecDepth 16384

noncomputable section

namespace Cert.Pre_attn_finite

open Idealize.ShloMosaic Cert.Norm Cert.Finiteness Cert.Attention

set_option maxHeartbeats 1000000 in
theorem data [Facts] (x0 x1 : FVec Ideal ⟨4, ![1, 8192, 8, 96]⟩ .f32) (x2 : FVec Ideal ⟨4, ![1, 8192, 8, 64]⟩ .f32)
    (x3 : IVec ⟨2, ![1, 8192]⟩ 32) (x4 : FVec Ideal ⟨3, ![1, 8192, 512]⟩ .f32)
    (h : fn (F := Ideal) x0 x1 x2 x3 x4 = fun _ => 1#1) : ∃ D, Holds x0 x1 x2 x3 x4 D := by
  have e := congrFun h ix0
  unfold fn fn_part1 at e
  obtain ⟨e, h4⟩ := and_one e
  obtain ⟨e, h2⟩ := and_one e
  obtain ⟨h0, h1⟩ := and_one e
  exact exists_data x0 x1 x2 x3 x4 (Pre_finite.entry_real x0 _ _ _ _ h0) (Pre_finite.entry_real x1 _ _ _ _ h1)
    (Pre_finite.entry_real x2 _ _ _ _ h2) (Pre_finite.entry_real x4 _ _ _ _ h4)

end Cert.Pre_attn_finite
-- ==== Proof.Attn.Algebraic.lean ====
module

public import proofs.«01_k».proof.Defs
public import proofs.«01_k».proof.Proof.Attn.Results
public import proofs.«01_k».proof.Proof.Attn.Reference
public import proofs.«01_k».proof.Proof.Attn.Precondition
public import proofs.«01_k».proof.Proof.Gen.Reference2Ideal
public import proofs.«01_k».proof.Proof.Gen.Reference2Ideal.Run
public import proofs.«01_k».proof.Proof.Gen.Reference2Ideal.Read
public import Idealize.ShloMosaic.Lib.Claim

/-! The three results of the attention's backward call are those of the reference. -/

@[expose] public section

set_option maxRecDepth 16384

noncomputable section

namespace Cert.Attn

open Cert.Attention
open Idealize.ShloMosaic Idealize.SL.Sem

section

variable (m : (ℓ : Loc Kernel2Ideal.nD Kernel2Ideal.τ Kernel2Ideal.sig) → Buf (Elt Ideal) ℓ)
  (m' : (ℓ : Loc Reference2Ideal.nD Reference2Ideal.τ Reference2Ideal.sig) → Buf (Elt Ideal) ℓ) (c : Dev Reference2Ideal.nD)

/-- The reference's launch contents. -/
abbrev given (r : Ref Reference2Ideal.sig .tc) : Buf (Elt Ideal) ((c.tc : Thread Reference2Ideal.nD Reference2Ideal.τ).loc r) :=
  StableHlo.launchContents m' c (Proc.devRef .tc r)

variable {D : Data} (hD : Kernel2Ideal.Attn.Given m c D)
  (hD' : Holds (given m' c Reference2Ideal.main_arg0) (given m' c Reference2Ideal.main_arg1) (given m' c Reference2Ideal.main_arg2) (given m' c Reference2Ideal.main_arg3) (given m' c Reference2Ideal.main_arg4) D)
include hD hD'

theorem dq_eq : Reference2Ideal.Read.val_main_v121 (F := Ideal) (given m' c Reference2Ideal.main_arg0) (given m' c Reference2Ideal.main_arg1) (given m' c Reference2Ideal.main_arg2) (given m' c Reference2Ideal.main_arg3) (given m' c Reference2Ideal.main_arg4) = Kernel2Ideal.Attn.left m c Kernel2Ideal.main_v120 := by
  funext y
  obtain ⟨s, h, e, rfl⟩ : ∃ (s : Fin 8192) (h : Fin 8) (e : Fin 96), y = ix4 0 s h e :=
    ⟨y 1, y 2, y 3, (eq_ix4 y).trans (congrArg (fun i : Fin 1 => ix4 i (y 1) (y 2) (y 3)) (@Subsingleton.elim (Fin 1) _ (y 0) 0))⟩
  obtain ⟨M, hM⟩ := Kernel2Ideal.Attn.largest_at hD
  obtain ⟨M', hM'⟩ := Reference2Ideal.Attn.v45_real hD'
  exact (Reference2Ideal.Attn.v121_at hD' hM' s h e).trans (Kernel2Ideal.Attn.v120_at hD hM s h e).symm

theorem dk_eq : Reference2Ideal.Read.val_main_v98 (F := Ideal) (given m' c Reference2Ideal.main_arg0) (given m' c Reference2Ideal.main_arg1) (given m' c Reference2Ideal.main_arg2) (given m' c Reference2Ideal.main_arg3) (given m' c Reference2Ideal.main_arg4) = Kernel2Ideal.Attn.left m c Kernel2Ideal.main_v123 := by
  funext y
  obtain ⟨s, h, e, rfl⟩ : ∃ (s : Fin 8192) (h : Fin 8) (e : Fin 96), y = ix4 0 s h e :=
    ⟨y 1, y 2, y 3, (eq_ix4 y).trans (congrArg (fun i : Fin 1 => ix4 i (y 1) (y 2) (y 3)) (@Subsingleton.elim (Fin 1) _ (y 0) 0))⟩
  obtain ⟨M, hM⟩ := Kernel2Ideal.Attn.largest_at hD
  obtain ⟨M', hM'⟩ := Reference2Ideal.Attn.v45_real hD'
  exact (Reference2Ideal.Attn.v98_at hD' hM' s h e).trans (Kernel2Ideal.Attn.v123_at hD hM s h e).symm

theorem dv_eq : Reference2Ideal.Read.val_main_v80 (F := Ideal) (given m' c Reference2Ideal.main_arg0) (given m' c Reference2Ideal.main_arg1) (given m' c Reference2Ideal.main_arg3) (given m' c Reference2Ideal.main_arg4) = Kernel2Ideal.Attn.left m c Kernel2Ideal.main_v125 := by
  funext y
  obtain ⟨s, h, e, rfl⟩ : ∃ (s : Fin 8192) (h : Fin 8) (e : Fin 64), y = ix4 0 s h e :=
    ⟨y 1, y 2, y 3, (eq_ix4 y).trans (congrArg (fun i : Fin 1 => ix4 i (y 1) (y 2) (y 3)) (@Subsingleton.elim (Fin 1) _ (y 0) 0))⟩
  obtain ⟨M, hM⟩ := Kernel2Ideal.Attn.largest_at hD
  obtain ⟨M', hM'⟩ := Reference2Ideal.Attn.v45_real hD'
  exact (Reference2Ideal.Attn.v80_at hD' hM' s h e).trans (Kernel2Ideal.Attn.v125_at hD hM s h e).symm

end

set_option maxHeartbeats 2000000 in
theorem algebraic : Cert.algebraic_Kernel2Ideal_Reference2Ideal_pre_attn_finite (hKernel2Ideal := Cert.Kernel2Ideal.Gen.facts)
    (hReference2Ideal := Cert.Reference2Ideal.Gen.facts) (hPre_attn_finite := Cert.Pre_attn_finite.Gen.facts) := by
  pair_intro
  · run_from (Cert.Kernel2Ideal.Attn.run_main m g)
    · exact Kernel2Ideal.Gen.W_main_arg0 m (Kernel2Ideal.Attn.dats m) _
    · exact Kernel2Ideal.Gen.W_main_arg1 m (Kernel2Ideal.Attn.dats m) _
    · exact Kernel2Ideal.Gen.W_main_arg2 m (Kernel2Ideal.Attn.dats m) _
    · exact Kernel2Ideal.Gen.W_main_arg3 m (Kernel2Ideal.Attn.dats m) _
    · exact Kernel2Ideal.Gen.W_main_arg4 m (Kernel2Ideal.Attn.dats m) _
  · have hD : ∀ c, ∃ D, Kernel2Ideal.Attn.Given m c D ∧ Holds (given m' c Reference2Ideal.main_arg0) (given m' c Reference2Ideal.main_arg1) (given m' c Reference2Ideal.main_arg2) (given m' c Reference2Ideal.main_arg3) (given m' c Reference2Ideal.main_arg4) D := fun c => by
      obtain ⟨D, h⟩ := @Pre_attn_finite.data Cert.Pre_attn_finite.Gen.facts _ _ _ _ _ (hpre c)
      obtain ⟨h0, h1, h2, h3, h4⟩ := hagree c
      refine ⟨D, h, ?_⟩
      show Holds (m' (c.tc.loc Reference2Ideal.main_arg0)) (m' (c.tc.loc Reference2Ideal.main_arg1)) (m' (c.tc.loc Reference2Ideal.main_arg2)) (m' (c.tc.loc Reference2Ideal.main_arg3)) (m' (c.tc.loc Reference2Ideal.main_arg4)) D
      rw [h0, h1, h2, h3, h4]
      exact h
    clear hagree
    choose D hD hD' using hD
    run_from (Cert.Reference2Ideal.Value.run m' g')
    · exact dq_eq m m' _ (hD _) (hD' _)
    · exact dk_eq m m' _ (hD _) (hD' _)
    · exact dv_eq m m' _ (hD _) (hD' _)

end Cert.Attn
-- ==== Proof.BwdPre.Run.lean ====
module

public import proofs.«01_k».proof.Proof.BwdPre.Body
public import proofs.«01_k».proof.Proof.Gen.KernelIdeal.Points
public import proofs.«01_k».proof.Proof.Gen.KernelIdeal.Launch
public import Idealize.ShloMosaic.Lib.Claim

/-! The backward call's whole run: what the outputs hold point by point, and the frame. -/

@[expose] public section

set_option maxRecDepth 16384

noncomputable section

namespace Cert.KernelIdeal.BwdPre

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The branch is the first point's. -/
theorem first_iff : ∀ t : Fin cfg0.N, cond0_0 (grid0.coords t) ↔ t.val = 0 :=
  fun t => by
    have ht : t.val < 16 := Nat.lt_of_lt_of_eq t.isLt N_0
    have e0 : (grid0.coords t 0).val = t.val / 1 % 16 := Pipeline.Grid.coords_val t 0 (by decide) rfl
    have e1 : (grid0.coords t 0).val = t.val := by omega
    simp only [cond0_0, e1]
    word_cmp

/-- The input blocks at a point. -/
def blocks (c : Dev nD) (t : Fin cfg0.N) : In F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t⟩

/-- What the accumulated outputs hold after point `n`. -/
def accAt (c : Dev nD) : (n : ℕ) → n < cfg0.N → Acc F
  | 0, hn => (Acc.start (blocks m c ⟨0, hn⟩)).next (blocks m c ⟨0, hn⟩)
  | n + 1, hn => (accAt c n (Nat.lt_of_succ_lt hn)).next (blocks m c ⟨n + 1, hn⟩)

theorem accAt_first (c : Dev nD) (t : Fin cfg0.N) (h : t.val = 0) :
    accAt m c t.val t.isLt = (Acc.start (blocks m c t)).next (blocks m c t) := by
  obtain ⟨n, hn⟩ := t
  cases n with
  | zero => rfl
  | succ n => exact absurd h (Nat.succ_ne_zero n)

theorem accAt_later (c : Dev nD) (t : Fin cfg0.N) (h : ¬t.val = 0) :
    accAt m c t.val t.isLt = (accAt m c (t.val - 1) (Nat.lt_of_le_of_lt (Nat.sub_le _ _) t.isLt)).next (blocks m c t) := by
  obtain ⟨n, hn⟩ := t
  cases n with
  | zero => exact absurd rfl h
  | succ n => rfl

/-- The pipeline's data: the arrays as the region finds them, each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => gxOut (blocks m c t)
    | ⟨15, _⟩ => (accAt m c t.val t.isLt).gwin
    | ⟨16, _⟩ => (accAt m c t.val t.isLt).gwuq
    | ⟨17, _⟩ => (accAt m c t.val t.isLt).gwkv
    | ⟨18, _⟩ => (accAt m c t.val t.isLt).vec
    | ⟨_ + 19, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

section
variable (c : Dev nD) (t : Fin cfg0.N)
theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = iblk m c 10 t := by dsimp only [dats]
theorem after_11 : (dats m 0 c).after 11 t = iblk m c 11 t := by dsimp only [dats]
theorem after_12 : (dats m 0 c).after 12 t = iblk m c 12 t := by dsimp only [dats]
theorem after_13 : (dats m 0 c).after 13 t = iblk m c 13 t := by dsimp only [dats]
theorem after_14 : (dats m 0 c).after 14 t = gxOut (blocks m c t) := by dsimp only [dats]
theorem after_15 : (dats m 0 c).after 15 t = (accAt m c t.val t.isLt).gwin := by dsimp only [dats]
theorem after_16 : (dats m 0 c).after 16 t = (accAt m c t.val t.isLt).gwuq := by dsimp only [dats]
theorem after_17 : (dats m 0 c).after 17 t = (accAt m c t.val t.isLt).gwkv := by dsimp only [dats]
theorem after_18 : (dats m 0 c).after 18 t = (accAt m c t.val t.isLt).vec := by dsimp only [dats]
theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d
theorem before_6 (d) : (dats m 0 c).before 6 t d = iblk m c 6 t := before0_6_of m (dats m 0 c) (A_eq m c 6) (after_6 m c) t d
theorem before_7 (d) : (dats m 0 c).before 7 t d = iblk m c 7 t := before0_7_of m (dats m 0 c) (A_eq m c 7) (after_7 m c) t d
theorem before_8 (d) : (dats m 0 c).before 8 t d = iblk m c 8 t := before0_8_of m (dats m 0 c) (A_eq m c 8) (after_8 m c) t d
theorem before_9 (d) : (dats m 0 c).before 9 t d = iblk m c 9 t := before0_9_of m (dats m 0 c) (A_eq m c 9) (after_9 m c) t d
theorem before_10 (d) : (dats m 0 c).before 10 t d = iblk m c 10 t := before0_10_of m (dats m 0 c) (A_eq m c 10) (after_10 m c) t d
theorem before_11 (d) : (dats m 0 c).before 11 t d = iblk m c 11 t := before0_11_of m (dats m 0 c) (A_eq m c 11) (after_11 m c) t d
theorem before_12 (d) : (dats m 0 c).before 12 t d = iblk m c 12 t := before0_12_of m (dats m 0 c) (A_eq m c 12) (after_12 m c) t d
theorem before_13 (d) : (dats m 0 c).before 13 t d = iblk m c 13 t := before0_13_of m (dats m 0 c) (A_eq m c 13) (after_13 m c) t d

/-- An accumulated output keeps its buffer from point to point. -/
theorem kept (w : Fin cfg0.W) (hw : (cfg0.win w).isOut = true) (hf : ∀ t : Fin cfg0.N, (cfg0.win w).flush t = true → t.val = 15)
    (h : ¬t.val = 0) (d) (h1 : ∀ i, cfg0.idle w i = false) (h2 : ∀ (i : cfg0.grid.Coords) a, (cfg0.win w).clip i a = none) :
    (dats m 0 c).before w t d = (dats m 0 c).after w ⟨t.val - 1, Nat.lt_of_le_of_lt (Nat.sub_le _ _) t.isLt⟩ := by
  have hN : t.val < 16 := lt_of_lt_of_eq t.isLt (show cfg0.N = 16 from N_0)
  exact Dat.before_out_kept (dats m 0 c) w hw t h (Bool.eq_false_iff.mpr fun h => by have := hf _ h; dsimp only at this; omega) h1 h2 d
theorem before_15 (h : ¬t.val = 0) (d) :
    (dats m 0 c).before 15 t d = (accAt m c (t.val - 1) (Nat.lt_of_le_of_lt (Nat.sub_le _ _) t.isLt)).gwin :=
  (kept m c t 15 rfl (fun t h => by have := (flush0_15 t).mp h; have : t.val < 16 := Nat.lt_of_lt_of_eq t.isLt N_0; omega) h d (fun _ => rfl) (fun _ _ => rfl)).trans (after_15 m c _)
theorem before_16 (h : ¬t.val = 0) (d) :
    (dats m 0 c).before 16 t d = (accAt m c (t.val - 1) (Nat.lt_of_le_of_lt (Nat.sub_le _ _) t.isLt)).gwuq :=
  (kept m c t 16 rfl (fun t h => by have := (flush0_16 t).mp h; have : t.val < 16 := Nat.lt_of_lt_of_eq t.isLt N_0; omega) h d (fun _ => rfl) (fun _ _ => rfl)).trans (after_16 m c _)
theorem before_17 (h : ¬t.val = 0) (d) :
    (dats m 0 c).before 17 t d = (accAt m c (t.val - 1) (Nat.lt_of_le_of_lt (Nat.sub_le _ _) t.isLt)).gwkv :=
  (kept m c t 17 rfl (fun t h => by have := (flush0_17 t).mp h; have : t.val < 16 := Nat.lt_of_lt_of_eq t.isLt N_0; omega) h d (fun _ => rfl) (fun _ _ => rfl)).trans (after_17 m c _)
theorem before_18 (h : ¬t.val = 0) (d) :
    (dats m 0 c).before 18 t d = (accAt m c (t.val - 1) (Nat.lt_of_le_of_lt (Nat.sub_le _ _) t.isLt)).vec :=
  (kept m c t 18 rfl (fun t h => by have := (flush0_18 t).mp h; have : t.val < 16 := Nat.lt_of_lt_of_eq t.isLt N_0; omega) h d (fun _ => rfl) (fun _ _ => rfl)).trans (after_18 m c _)

/-- What the body is called with at a point, -/
def bodyPre : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d)))

/-- and what it returns. -/
def bodyPost : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t))

set_option maxHeartbeats 3200000 in
theorem sound_body :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15, after_16, after_17, after_18]
  by_cases h0 : t.val = 0
  · rw [accAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_first c (grid0.coords t) _ _ _ _ _ _ _ _ _ _ _ _ _ _ _ _ _ _ _ _ _ _ _ _ _ _ _ _ _ _ _ _ _ _ _ _ _ _ (blocks m c t) ((first_iff t).mpr h0) Set.univ _)
    unfold inputs outputs blocks
    isplitr [HΦ Ho H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexists _; iexact H14
    isplitl [H15]; · iexists _; iexact H15
    isplitl [H16]; · iexists _; iexact H16
    isplitl [H17]; · iexists _; iexact H17
    isplitl [H18]; · iexists _; iexact H18
    iintro ⟨⟨H0, H1, H2, H3, H4, H5, H6, H7, H8, H9, H10, H11, H12, H13⟩, H14, H15, H16, H17, H18⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

  · rw [accAt_later m c t h0]
    simp only [before_15 m c t h0, before_16 m c t h0, before_17 m c t h0, before_18 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (run_later c (grid0.coords t) _ _ _ _ _ _ _ _ _ _ _ _ _ _ _ _ _ _ _ _ _ _ _ _ _ _ _ _ _ _ _ _ _ _ _ _ _ _ (blocks m c t) (accAt m c (t.val - 1) (Nat.lt_of_le_of_lt (Nat.sub_le _ _) t.isLt)) (fun h => h0 ((first_iff t).mp h)) Set.univ _)
    unfold inputs outputs blocks
    isplitr [HΦ Ho H14 H15 H16 H17 H18]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    isplitl [H14]; · iexists _; iexact H14
    isplitl [H15]; · iexact H15
    isplitl [H16]; · iexact H16
    isplitl [H17]; · iexact H17
    isplitl [H18]; · iexact H18
    iintro ⟨⟨H0, H1, H2, H3, H4, H5, H6, H7, H8, H9, H10, H11, H12, H13⟩, H14, H15, H16, H17, H18⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

end

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays end at what the library computes from the data, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

end Cert.KernelIdeal.BwdPre

end
-- ==== Proof.BwdPre.Entry.lean ====
module

public import proofs.«01_k».proof.Proof.BwdPre.Run
public import proofs.«01_k».proof.Proof.BwdPre.Math
public import Idealize.ShloMosaic.Lib.Pointwise

/-! What the host line of the backward call has put into the windows' arrays when the region starts. -/

@[expose] public section

set_option maxRecDepth 16384

noncomputable section

namespace Cert.KernelIdeal.BwdPre

open Cert.KernelIdeal.Gen Cert.Norm
open Idealize.ShloMosaic Idealize.ShloMosaic.TcCoe Idealize.ShloMosaic.Tactic Idealize.SL.Sem

/-- The host line's pieces and the buffers each of them writes. -/
abbrev piece : ℕ → List (HloOp τ sig (Elt Ideal))
  | 0 => hostOps0
  | 1 => hostOps0_1
  | 2 => hostOps0_2
  | 3 => hostOps0_3
  | 4 => hostOps0_4
  | 5 => hostOps0_5
  | 6 => hostOps0_6
  | 7 => hostOps0_7
  | 8 => hostOps0_8
  | 9 => hostOps0_9
  | 10 => hostOps0_10
  | 11 => hostOps0_11
  | 12 => hostOps0_12
  | 13 => hostOps0_13
  | 14 => hostOps0_14
  | 15 => hostOps0_15
  | 16 => hostOps0_16
  | _ => []
abbrev written : ℕ → List (Ref sig .tc)
  | 0 => [main_v0, main_v1, main_v2, main_cst, main_v3, main_v4, main_cst_0, main_v5, main_v6, main_v7, main_v8, main_v9, main_c]
  | 1 => [main_call0_v0, main_v10]
  | 2 => [main_v11, main_v12, main_v13, main_v14, main_v15, main_v16, main_c_1]
  | 3 => [main_call1_v0, main_v17]
  | 4 => [main_v18, main_v19, main_v20, main_v21, main_v22, main_cst_2, main_v23, main_v24, main_cst_3, main_v25, main_v26, main_cst_4, main_v27, main_v28, main_cst_5, main_v29, main_cst_6, main_v30, main_v31, main_v32, main_v33, main_v34, main_v35, main_v36, main_v37, main_v38, main_v39, main_c_7, main_v40, main_v41, main_c_8, main_v42, main_v43, main_v44, main_cst_9, main_cst_10]
  | 5 => [main_call2_v0, main_call2_v1, main_v45]
  | 6 => [main_v46, main_c_11, main_v47, main_v48, main_c_12, main_v49, main_v50, main_v51, main_cst_13, main_cst_14]
  | 7 => [main_call3_v0, main_call3_v1, main_v52]
  | 8 => [main_v53, main_v54, main_v55, main_v56, main_cst_15, main_v57, main_v58, main_c_16]
  | 9 => [main_call4_v0, main_v59]
  | 10 => [main_v60, main_c_17]
  | 11 => [main_call5_v0, main_v61]
  | 12 => [main_v62, main_v63, main_v64, main_v65, main_v66, main_v67, main_v68, main_v69, main_c_18]
  | 13 => [main_call6_v0, main_v70]
  | 14 => [main_v71, main_v72, main_v73, main_v74, main_c_19]
  | 15 => [main_call7_v0, main_v75]
  | 16 => [main_v76, main_v77, main_v78, main_v79, main_v80, main_v81, main_v82, main_v83, main_v84, main_cst_20, main_v85, main_v86]
  | _ => []

/-- The contents after the first `k` pieces. -/
def upto (σ : Valuation τ sig (Elt Ideal)) : ℕ → Valuation τ sig (Elt Ideal)
  | 0 => σ
  | k + 1 => StableHlo.after (piece k) (upto σ k)

theorem upto_succ (σ : Valuation τ sig (Elt Ideal)) (k : ℕ) : upto σ (k + 1) = StableHlo.after (piece k) (upto σ k) := rfl

theorem piece_writes (k : ℕ) (hk : k < 17) :
    (piece k).Forall fun op => op.writes ⊆ ((written k).map (Proc.devRef (τ := τ) .tc)).toFinset := by
  interval_cases k <;>
  · simp only [piece, written, List.Forall, StableHlo.nullary_writes, StableHlo.unary_writes, StableHlo.binary_writes, StableHlo.ternary_writes,
      StableHlo.reshape_writes, StableHlo.nary_writes, Finset.singleton_subset_iff, List.mem_toFinset]
    repeat' apply And.intro
    all_goals exact List.mem_map_of_mem (by decide)

/-- A buffer that a stretch of pieces does not write keeps its contents through it. -/
theorem upto_keep (σ : Valuation τ sig (Elt Ideal)) (r : Ref sig .tc) (k d : ℕ) (hk : k + d ≤ 17) (h : ∀ i < d, r ∉ written (k + i)) :
    upto σ (k + d) (Proc.devRef .tc r) = upto σ k (Proc.devRef .tc r) := by
  induction d with
  | zero => rfl
  | succ d ih =>
    rw [← ih (by omega) fun i hi => h i (by omega)]
    exact StableHlo.after_of_writes_sub (piece (k + d)) _ (piece_writes (k + d) (by omega)) (h d (by omega))

variable (m : (ℓ : Loc nD τ sig) → Buf (Elt Ideal) ℓ) (c : Dev nD)

/-- What the device holds at launch. -/
abbrev held : Valuation τ sig (Elt Ideal) := fun b => m (c, b)

theorem V0_eq : V0 m c = upto (held m c) 17 := by
  unfold V0
  simp only [List.flatten_cons, List.flatten_nil, List.append_nil, StableHlo.after_append]
  rfl

/-- A window's array is what its producing piece left. -/
theorem V_eq (r : Ref sig .tc) (k d : ℕ) (hk : k + d = 17) (h : ∀ i < d, r ∉ written (k + i)) :
    V m c r = upto (held m c) k (Proc.devRef .tc r) := by
  show V0 m c _ = _
  rw [V0_eq, ← hk]
  exact upto_keep _ r k d hk.le h

/-- An argument keeps its contents through the whole line. -/
theorem arg_eq (r : Ref sig .tc) (k : ℕ) (hk : k ≤ 17) (h : ∀ i < k, r ∉ written (0 + i)) :
    upto (held m c) k (Proc.devRef .tc r) = m (c, Proc.devRef .tc r) := by
  have := upto_keep (held m c) r 0 k (by omega) h
  rwa [Nat.zero_add] at this

/-- The arguments' data. -/
abbrev data : BwdPreMath.Data := BwdPreMath.Data.of (m (c, Proc.tc.devRef main_arg0)) (m (c, Proc.tc.devRef main_arg1))
  (m (c, Proc.tc.devRef main_arg2)) (m (c, Proc.tc.devRef main_arg3)) (m (c, Proc.tc.devRef main_arg4)) (m (c, Proc.tc.devRef main_arg5))
  (m (c, Proc.tc.devRef main_arg6)) (m (c, Proc.tc.devRef main_arg7)) (m (c, Proc.tc.devRef main_arg8)) (m (c, Proc.tc.devRef main_arg9))
  (m (c, Proc.tc.devRef main_arg10)) (m (c, Proc.tc.devRef main_arg11)) (m (c, Proc.tc.devRef main_arg12))
  (m (c, Proc.tc.devRef main_arg13)) (m (c, Proc.tc.devRef main_arg14))

theorem int_zero : (show EReal from FloatOps.sitofp (F := Ideal) .bf16 0#32) = 0 := by
  show (((0#32 : BitVec 32).toInt : ℝ) : EReal) = 0
  simp

set_option maxHeartbeats 1000000 in
theorem pad_half (x : FVec Ideal S128x8x64 .bf16) (z : FVec Ideal S_ .bf16) (hz : ∀ i, (show EReal from z i) = 0) (s : Fin 128) (a : Fin 8) (b : Fin 128) : (show EReal from pad S128x8x128 ![0, 0, 0] ![0, 0, 64] ![0, 0, 0] x z pads_S128x8x64_S128x8x128_000_000_0640 h_S_ (ix3 s a b)) = if h : b.val < 64 then x (ix3 s a ⟨b.val, h⟩) else 0 := by
  pointwise
  split <;> first | rfl | exact hz _

set_option maxHeartbeats 1000000 in
theorem pad_wide (x : FVec Ideal S8192x8x96 .bf16) (z : FVec Ideal S_ .bf16) (hz : ∀ i, (show EReal from z i) = 0) (s : Fin 8192) (a : Fin 8) (b : Fin 128) : (show EReal from pad S8192x8x128 ![0, 0, 0] ![0, 0, 32] ![0, 0, 0] x z pads_S8192x8x96_S8192x8x128_000_000_0320 h_S_ (ix3 s a b)) = if h : b.val < 96 then x (ix3 s a ⟨b.val, h⟩) else 0 := by
  pointwise
  split <;> first | rfl | exact hz _

set_option maxHeartbeats 1000000 in
theorem v0_at (s : Fin 8192) (k : Fin 1024) : (show EReal from V m c main_v0 (ix2 s k)) = (data m c).x s k := by
  rw [V_eq m c main_v0 1 16 rfl (by decide), upto_succ]
  simp only [piece, hostOps0]
  after_results_simp
  pointwise
  rfl

set_option maxHeartbeats 1000000 in
theorem v86_at (s : Fin 8192) (k : Fin 1024) : (show EReal from V m c main_v86 (ix2 s k)) = (data m c).dres s k := by
  rw [V_eq m c main_v86 17 0 rfl (by decide), upto_succ]
  simp only [piece, hostOps0_16]
  after_results_simp
  pointwise
  rw [arg_eq m c main_arg7 16 (by decide) (by decide)]
  rfl

set_option maxHeartbeats 1000000 in
theorem v65_at (s : Fin 8192) (j : Fin 256) : (show EReal from V m c main_v65 (ix2 s j)) = BwdPreMath.cq (data m c) s j := by
  rw [V_eq m c main_v65 13 4 rfl (by decide), upto_succ]
  simp only [piece, hostOps0_12]
  after_results_simp
  pointwise
  rw [show upto (held m c) 12 (Proc.devRef .tc main_v0) = upto (held m c) 1 (Proc.devRef .tc main_v0) from upto_keep _ main_v0 1 11 (by decide) (by decide)]
  rw [arg_eq m c main_arg2 12 (by decide) (by decide)]
  rw [show upto (held m c) 1 = _ from upto_succ (held m c) 0]
  simp only [piece, hostOps0]
  after_results_simp
  pointwise
  rfl

set_option maxHeartbeats 1000000 in
theorem v66_at (s : Fin 8192) (j : Fin 128) : (show EReal from V m c main_v66 (ix2 s j)) = BwdPreMath.ckv (data m c) s j := by
  rw [V_eq m c main_v66 13 4 rfl (by decide), upto_succ]
  simp only [piece, hostOps0_12]
  after_results_simp
  pointwise
  rw [show upto (held m c) 12 (Proc.devRef .tc main_v0) = upto (held m c) 1 (Proc.devRef .tc main_v0) from upto_keep _ main_v0 1 11 (by decide) (by decide)]
  rw [arg_eq m c main_arg2 12 (by decide) (by decide)]
  rw [show upto (held m c) 1 = _ from upto_succ (held m c) 0]
  simp only [piece, hostOps0]
  after_results_simp
  pointwise
  rfl

set_option maxHeartbeats 1000000 in
theorem v71_at (s : Fin 8192) (l : Fin 1024) : (show EReal from V m c main_v71 (ix2 s l)) = if h : l.val % 128 < 96 then (data m c).dq s ⟨l.val / 128, by omega⟩ ⟨l.val % 128, h⟩ else 0 := by
  rw [V_eq m c main_v71 15 2 rfl (by decide), upto_succ]
  simp only [piece, hostOps0_14]
  after_results_simp
  pointwise
  refine (congrFun (congrFun (upto_succ (held m c) 13) _) _).trans ?_
  simp only [piece, hostOps0_13]
  after_results_simp
  simp only [StableHlo.TRef.ofBuf_toBuf]
  pointwise [StableHlo.TRef.ofBuf, StableHlo.TRef.toBuf, StableHlo.TRef.of]
  simp only [cast_eq]
  refine (pad_wide _ _ (fun _ => int_zero) _ _ _).trans ?_
  by_cases h : l.val % 128 < 96
  · simp only [dif_pos h, if_pos h]
    refine (congrFun (congrFun (upto_succ (held m c) 12) _) _).trans ?_
    simp only [piece, hostOps0_12]
    after_results_simp
    pointwise
    refine (congrFun (arg_eq m c main_arg8 12 (by decide) (by decide)) _).trans ?_
    refine congrArg (m (c, Proc.tc.devRef main_arg8)) (congrArg₂ (ix4 0 s) (Fin.ext ?_) (Fin.ext ?_))
    · show (l.val / 128 * 96 + l.val % 128) / 96 = l.val / 128; omega
    · show (l.val / 128 * 96 + l.val % 128) % 96 = l.val % 128; omega
  · simp only [dif_neg h, if_neg h]

set_option maxHeartbeats 1000000 in
theorem v76_at (s : Fin 8192) (l : Fin 1024) : (show EReal from V m c main_v76 (ix2 s l)) = if h : l.val % 128 < 96 then (data m c).dk s ⟨l.val / 128, by omega⟩ ⟨l.val % 128, h⟩ else 0 := by
  rw [V_eq m c main_v76 17 0 rfl (by decide), upto_succ]
  simp only [piece, hostOps0_16]
  after_results_simp
  pointwise
  refine (congrFun (congrFun (upto_succ (held m c) 15) _) _).trans ?_
  simp only [piece, hostOps0_15]
  after_results_simp
  simp only [StableHlo.TRef.ofBuf_toBuf]
  pointwise [StableHlo.TRef.ofBuf, StableHlo.TRef.toBuf, StableHlo.TRef.of]
  simp only [cast_eq]
  refine (pad_wide _ _ (fun _ => int_zero) _ _ _).trans ?_
  by_cases h : l.val % 128 < 96
  · simp only [dif_pos h, if_pos h]
    refine (congrFun (congrFun (upto_succ (held m c) 14) _) _).trans ?_
    simp only [piece, hostOps0_14]
    after_results_simp
    pointwise
    refine (congrFun (arg_eq m c main_arg9 14 (by decide) (by decide)) _).trans ?_
    refine congrArg (m (c, Proc.tc.devRef main_arg9)) (congrArg₂ (ix4 0 s) (Fin.ext ?_) (Fin.ext ?_))
    · show (l.val / 128 * 96 + l.val % 128) / 96 = l.val / 128; omega
    · show (l.val / 128 * 96 + l.val % 128) % 96 = l.val % 128; omega
  · simp only [dif_neg h, if_neg h]

set_option maxHeartbeats 1000000 in
theorem v78_at (s : Fin 8192) (l : Fin 512) : (show EReal from V m c main_v78 (ix2 s l)) = (data m c).dv s ⟨l.val / 64, by omega⟩ ⟨l.val % 64, by omega⟩ := by
  rw [V_eq m c main_v78 17 0 rfl (by decide), upto_succ]
  simp only [piece, hostOps0_16]
  after_results_simp
  pointwise
  rw [arg_eq m c main_arg10 16 (by decide) (by decide)]
  rfl

set_option maxHeartbeats 1000000 in
theorem v84_at (s : Fin 8192) (l : Fin 2048) : (show EReal from V m c main_v84 (ix2 s l)) = (data m c).gate s l := by
  rw [V_eq m c main_v84 17 0 rfl (by decide), upto_succ]
  simp only [piece, hostOps0_16]
  after_results_simp
  pointwise
  after_results_simp
  pointwise
  rw [arg_eq m c main_arg11 16 (by decide) (by decide)]
  rw [arg_eq m c main_arg12 16 (by decide) (by decide)]
  rw [arg_eq m c main_arg13 16 (by decide) (by decide)]
  rw [arg_eq m c main_arg14 16 (by decide) (by decide)]
  rfl

set_option maxHeartbeats 1000000 in
theorem v85_at (i : Fin 16) (l : Fin 1024) : (show EReal from V m c main_v85 (ix2 i l)) = 0 := by
  rw [V_eq m c main_v85 17 0 rfl (by decide), upto_succ]
  simp only [piece, hostOps0_16]
  after_results_simp
  pointwise

set_option maxHeartbeats 1000000 in
theorem v7_at (k : Fin 1024) (l : Fin 2560) : (show EReal from V m c main_v7 (ix2 k l)) =
    if h : l.val < 384 then (data m c).w k ⟨l.val, by omega⟩ else
    if l.val - 384 < 64 then 0 else
    if h : l.val - 384 - 64 < 32 then (data m c).w k ⟨384 + (l.val - 384 - 64), by omega⟩ else
    if l.val - 384 - 64 - 32 < 32 then 0 else (data m c).w k ⟨416 + (l.val - 384 - 64 - 32 - 32), by omega⟩ := by
  rw [V_eq m c main_v7 1 16 rfl (by decide), upto_succ]
  simp only [piece, hostOps0]
  after_results_simp
  pointwise
  after_results_simp
  pointwise
  rfl

set_option maxHeartbeats 1000000 in
theorem v11_at (j : Fin 256) (l : Fin 1024) : (show EReal from V m c main_v11 (ix2 j l)) = if h : l.val % 128 < 96 then (data m c).uq j ⟨l.val / 128 * 96 + l.val % 128, by omega⟩ else 0 := by
  rw [V_eq m c main_v11 3 14 rfl (by decide), upto_succ]
  simp only [piece, hostOps0_2]
  after_results_simp
  pointwise
  rw [show upto (held m c) 2 = _ from upto_succ (held m c) 1]
  simp only [piece, hostOps0_1]
  after_results_simp
  rw [show upto (held m c) 1 = _ from upto_succ (held m c) 0]
  simp only [piece, hostOps0]
  after_results_simp
  simp only [StableHlo.TRef.ofBuf_toBuf]
  pointwise [StableHlo.TRef.ofBuf, StableHlo.TRef.toBuf, StableHlo.TRef.of, cast_eq]
  by_cases h : l.val % 128 < 96
  · have h1 : l.val / 128 < 8 ∧ l.val % 128 < 96 := by omega
    simp only [dif_pos h, dif_pos h1]
    exact congrFun (arg_eq m c main_arg4 0 (by decide) (by decide)) _
  · have h1 : ¬ (l.val / 128 < 8 ∧ l.val % 128 < 96) := by omega
    simp only [dif_neg h, dif_neg h1]
    exact int_zero

set_option maxHeartbeats 1000000 in
theorem v21_key (j : Fin 128) (l : Fin 1024) : (show EReal from V m c main_v21 (ix2 j ⟨l.val, by omega⟩)) = if l.val % 128 < 64 then (data m c).uk j l else 0 := by
  rw [V_eq m c main_v21 5 12 rfl (by decide), upto_succ]
  simp only [piece, hostOps0_4]
  after_results_simp
  pointwise
  refine (congrFun (congrFun (upto_succ (held m c) 3) _) _).trans ?_
  simp only [piece, hostOps0_3]
  after_results_simp
  simp only [StableHlo.TRef.ofBuf_toBuf]
  pointwise [StableHlo.TRef.ofBuf, StableHlo.TRef.toBuf, StableHlo.TRef.of]
  simp only [cast_eq]
  refine (pad_half _ _ (fun _ => int_zero) _ _ _).trans ?_
  by_cases h : l.val % 128 < 64
  · simp only [dif_pos h, if_pos h]
    refine (congrFun (congrFun (upto_succ (held m c) 2) _) _).trans ?_
    simp only [piece, hostOps0_2]
    after_results_simp
    pointwise
    refine (congrFun (arg_eq m c main_arg6 2 (by decide) (by decide)) _).trans ?_
    refine congrArg (m (c, Proc.tc.devRef main_arg6)) (congrArg (ix2 j) (Fin.ext ?_))
    show l.val / 128 * 128 + l.val % 128 = l.val; omega
  · simp only [dif_neg h, if_neg h]

set_option maxHeartbeats 1000000 in
theorem v21_value (j : Fin 128) (l : Fin 512) : (show EReal from V m c main_v21 (ix2 j ⟨1024 + l.val, by omega⟩)) = (data m c).uk j ⟨l.val / 64 * 128 + (64 + l.val % 64), by omega⟩ := by
  rw [V_eq m c main_v21 5 12 rfl (by decide), upto_succ]
  simp only [piece, hostOps0_4]
  after_results_simp
  pointwise
  refine (congrFun (show upto (held m c) 4 (Proc.devRef .tc main_v13) = upto (held m c) 3 (Proc.devRef .tc main_v13) from upto_keep _ main_v13 3 1 (by decide) (by decide)) _).trans ?_
  refine (congrFun (congrFun (upto_succ (held m c) 2) _) _).trans ?_
  simp only [piece, hostOps0_2]
  after_results_simp
  pointwise
  rw [arg_eq m c main_arg6 2 (by decide) (by decide)]
  first | rfl | done

set_option maxHeartbeats 1000000 in
theorem v37_lo (s : Fin 8192) (f : Fin 16) : (show EReal from upto (held m c) 5 (Proc.devRef .tc main_v37) (ix2 s ⟨64 + f.val, by omega⟩)) = (data m c).angle s f := by
  rw [show upto (held m c) 5 = _ from upto_succ (held m c) 4]
  simp only [piece, hostOps0_4]
  after_results_simp
  pointwise
  after_results_simp
  pointwise
  rw [arg_eq m c main_arg1 4 (by decide) (by decide)]
  rfl

set_option maxHeartbeats 1000000 in
theorem v37_hi (s : Fin 8192) (f : Fin 16) : (show EReal from upto (held m c) 5 (Proc.devRef .tc main_v37) (ix2 s ⟨80 + f.val, by omega⟩)) = (data m c).angle s f := by
  rw [show upto (held m c) 5 = _ from upto_succ (held m c) 4]
  simp only [piece, hostOps0_4]
  after_results_simp
  pointwise
  after_results_simp
  pointwise
  rw [arg_eq m c main_arg1 4 (by decide) (by decide)]
  have h1 : ¬ 80 + f.val < 64 := by omega
  have h2 : ¬ 80 + f.val - 64 < 16 := by omega
  have h3 : 80 + f.val - 64 - 16 < 16 := by omega
  have h4 : 80 + f.val - 64 - 16 = f.val := by omega
  simp only [dif_neg h1, dif_neg h2, dif_pos h3, h4, dif_pos f.isLt]
  rfl

set_option maxHeartbeats 1000000 in
theorem v56_cos_lo (s : Fin 8192) (f : Fin 16) : (show EReal from V m c main_v56 (ix2 s ⟨64 + f.val, by omega⟩)) = Ideal.cos ((data m c).angle s f) := by
  rw [V_eq m c main_v56 9 8 rfl (by decide), upto_succ]
  simp only [piece, hostOps0_8]
  after_results_simp
  pointwise
  have h1 : 64 + f.val < 128 := by omega
  simp only [dif_pos h1]
  refine congrArg Ideal.cos ((congrFun (upto_keep (held m c) main_v37 5 3 (by decide) (by decide)) _).trans (Eq.trans (congrArg _ ?_) (v37_lo m c s f)))
  exact congrArg (ix2 s) (Fin.ext (show 64 + f.val = 64 + f.val by omega))

set_option maxHeartbeats 1000000 in
theorem v56_cos_hi (s : Fin 8192) (f : Fin 16) : (show EReal from V m c main_v56 (ix2 s ⟨80 + f.val, by omega⟩)) = Ideal.cos ((data m c).angle s f) := by
  rw [V_eq m c main_v56 9 8 rfl (by decide), upto_succ]
  simp only [piece, hostOps0_8]
  after_results_simp
  pointwise
  have h1 : 80 + f.val < 128 := by omega
  simp only [dif_pos h1]
  refine congrArg Ideal.cos ((congrFun (upto_keep (held m c) main_v37 5 3 (by decide) (by decide)) _).trans (Eq.trans (congrArg _ ?_) (v37_hi m c s f)))
  exact congrArg (ix2 s) (Fin.ext (show 80 + f.val = 80 + f.val by omega))

set_option maxHeartbeats 1000000 in
theorem v56_sin_lo (s : Fin 8192) (f : Fin 16) : (show EReal from V m c main_v56 (ix2 s ⟨192 + f.val, by omega⟩)) = Ideal.sin ((data m c).angle s f) := by
  rw [V_eq m c main_v56 9 8 rfl (by decide), upto_succ]
  simp only [piece, hostOps0_8]
  after_results_simp
  pointwise
  have h1 : ¬ 192 + f.val < 128 := by omega
  simp only [dif_neg h1]
  refine congrArg Ideal.sin ((congrFun (upto_keep (held m c) main_v37 5 3 (by decide) (by decide)) _).trans (Eq.trans (congrArg _ ?_) (v37_lo m c s f)))
  exact congrArg (ix2 s) (Fin.ext (show 192 + f.val - 128 = 64 + f.val by omega))

set_option maxHeartbeats 1000000 in
theorem v56_sin_hi (s : Fin 8192) (f : Fin 16) : (show EReal from V m c main_v56 (ix2 s ⟨208 + f.val, by omega⟩)) = Ideal.sin ((data m c).angle s f) := by
  rw [V_eq m c main_v56 9 8 rfl (by decide), upto_succ]
  simp only [piece, hostOps0_8]
  after_results_simp
  pointwise
  have h1 : ¬ 208 + f.val < 128 := by omega
  simp only [dif_neg h1]
  refine congrArg Ideal.sin ((congrFun (upto_keep (held m c) main_v37 5 3 (by decide) (by decide)) _).trans (Eq.trans (congrArg _ ?_) (v37_hi m c s f)))
  exact congrArg (ix2 s) (Fin.ext (show 208 + f.val - 128 = 80 + f.val by omega))

set_option maxHeartbeats 1000000 in
theorem v62_0 (j : Fin 256) : (show EReal from V m c main_v62 (ix2 0 ⟨j.val, by omega⟩)) = (data m c).qg j := by
  rw [V_eq m c main_v62 13 4 rfl (by decide), upto_succ]
  simp only [piece, hostOps0_12]
  after_results_simp
  pointwise
  refine (congrFun (show upto (held m c) 12 (Proc.devRef .tc main_v59) = upto (held m c) 10 (Proc.devRef .tc main_v59) from upto_keep _ main_v59 10 2 (by decide) (by decide)) _).trans ?_
  rw [show upto (held m c) 10 = _ from upto_succ (held m c) 9]
  simp only [piece, hostOps0_9]
  after_results_simp
  rw [show upto (held m c) 9 = _ from upto_succ (held m c) 8]
  simp only [piece, hostOps0_8]
  after_results_simp
  simp only [StableHlo.TRef.ofBuf_toBuf]
  pointwise [StableHlo.TRef.ofBuf, StableHlo.TRef.toBuf, StableHlo.TRef.of, cast_eq]
  rw [arg_eq m c main_arg3 8 (by decide) (by decide)]
  first | rfl | done

set_option maxHeartbeats 1000000 in
theorem v62_1 (j : Fin 128) : (show EReal from V m c main_v62 (ix2 1 ⟨j.val, by omega⟩)) = (data m c).kg j := by
  rw [V_eq m c main_v62 13 4 rfl (by decide), upto_succ]
  simp only [piece, hostOps0_12]
  after_results_simp
  pointwise
  rw [show upto (held m c) 12 = _ from upto_succ (held m c) 11]
  simp only [piece, hostOps0_11]
  after_results_simp
  rw [show upto (held m c) 11 = _ from upto_succ (held m c) 10]
  simp only [piece, hostOps0_10]
  after_results_simp
  simp only [StableHlo.TRef.ofBuf_toBuf]
  pointwise [StableHlo.TRef.ofBuf, StableHlo.TRef.toBuf, StableHlo.TRef.of, cast_eq]
  rw [arg_eq m c main_arg5 10 (by decide) (by decide)]
  first | rfl | done

set_option maxHeartbeats 1000000 in
theorem v62_5 (l : Fin 128) : (show EReal from V m c main_v62 (ix2 5 ⟨l.val, by omega⟩)) = if 64 ≤ l.val ∧ l.val < 80 then -1 else 0 := by
  rw [V_eq m c main_v62 13 4 rfl (by decide), upto_succ]
  simp only [piece, hostOps0_12]
  after_results_simp
  pointwise
  refine (congrFun (show upto (held m c) 12 (Proc.devRef .tc main_v46) = upto (held m c) 7 (Proc.devRef .tc main_v46) from upto_keep _ main_v46 7 5 (by decide) (by decide)) _).trans ?_
  rw [show upto (held m c) 7 = _ from upto_succ (held m c) 6]
  simp only [piece, hostOps0_6]
  after_results_simp
  pointwise
  rw [show upto (held m c) 6 = _ from upto_succ (held m c) 5]
  simp only [piece, hostOps0_5]
  after_results_simp
  rw [show upto (held m c) 5 = _ from upto_succ (held m c) 4]
  simp only [piece, hostOps0_4]
  after_results_simp
  simp only [StableHlo.TRef.ofBuf_toBuf]
  pointwise [StableHlo.TRef.ofBuf, StableHlo.TRef.toBuf, StableHlo.TRef.of, cast_eq]
  simp only [id]
  pointwise
  have key : ∀ l : Fin 128, IntOp.andi (IntOp.cmpi .sge (BitVec.ofNat 32 l.val) 64#32) (IntOp.cmpi .slt (BitVec.ofNat 32 l.val) 80#32) = if 64 ≤ l.val ∧ l.val < 80 then 1#1 else 0#1 := by decide +kernel
  rw [key l]
  split <;> simp [Scalar.select, Norm.neg_one_eq]

set_option maxHeartbeats 1000000 in
theorem v62_6 (l : Fin 128) : (show EReal from V m c main_v62 (ix2 6 ⟨l.val, by omega⟩)) = if 80 ≤ l.val ∧ l.val < 96 then 1 else 0 := by
  rw [V_eq m c main_v62 13 4 rfl (by decide), upto_succ]
  simp only [piece, hostOps0_12]
  after_results_simp
  pointwise
  refine (congrFun (show upto (held m c) 12 (Proc.devRef .tc main_v53) = upto (held m c) 9 (Proc.devRef .tc main_v53) from upto_keep _ main_v53 9 3 (by decide) (by decide)) _).trans ?_
  rw [show upto (held m c) 9 = _ from upto_succ (held m c) 8]
  simp only [piece, hostOps0_8]
  after_results_simp
  pointwise
  rw [show upto (held m c) 8 = _ from upto_succ (held m c) 7]
  simp only [piece, hostOps0_7]
  after_results_simp
  rw [show upto (held m c) 7 = _ from upto_succ (held m c) 6]
  simp only [piece, hostOps0_6]
  after_results_simp
  rw [show upto (held m c) 6 (Proc.devRef .tc main_v39) = upto (held m c) 5 (Proc.devRef .tc main_v39) from upto_keep _ main_v39 5 1 (by decide) (by decide)]
  rw [show upto (held m c) 5 = _ from upto_succ (held m c) 4]
  simp only [piece, hostOps0_4]
  after_results_simp
  simp only [StableHlo.TRef.ofBuf_toBuf]
  pointwise [StableHlo.TRef.ofBuf, StableHlo.TRef.toBuf, StableHlo.TRef.of, cast_eq]
  simp only [id]
  pointwise
  have key : ∀ l : Fin 128, IntOp.andi (IntOp.cmpi .sge (BitVec.ofNat 32 l.val) 80#32) (IntOp.cmpi .slt (BitVec.ofNat 32 l.val) 96#32) = if 80 ≤ l.val ∧ l.val < 96 then 1#1 else 0#1 := by decide +kernel
  rw [key l]
  split <;> simp [Scalar.select]

end Cert.KernelIdeal.BwdPre
-- ==== Proof.BwdPre.Rows.lean ====
module

public import proofs.«01_k».proof.Proof.BwdPre.Entry
public import proofs.«01_k».proof.Proof.BwdPre.Point

/-! The blocks of every point hold its 512 rows of the data; what the accumulated outputs hold in the end. -/

@[expose] public section

set_option maxRecDepth 16384

noncomputable section

namespace Cert.KernelIdeal.BwdPre

open Cert.KernelIdeal.Gen Cert.Norm
open Idealize.ShloMosaic Idealize.ShloMosaic.TcCoe Idealize.ShloMosaic.Tactic Idealize.SL.Sem

/-- The windows' index maps. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] ∧ win0_8.index t = ![t.val, 0] ∧ win0_14.index t = ![t.val, 0] :=
  (by decide +kernel : ∀ t : Fin grid0.N, _)
theorem idx_whole : ∀ t : Fin cfg0.N, win0_9.index t = ![0, 0] ∧ win0_10.index t = ![0, 0] ∧ win0_11.index t = ![0, 0] ∧ win0_12.index t = ![0, 0] ∧ win0_13.index t = ![0, 0] ∧ win0_15.index t = ![0, 0] ∧ win0_16.index t = ![0, 0] ∧ win0_17.index t = ![0, 0] ∧ win0_18.index t = ![0, 0] :=
  (by decide +kernel : ∀ t : Fin grid0.N, _)

/-- The rows of a point. -/
def row (t : Fin cfg0.N) (i : Fin 512) : Fin 8192 :=
  ⟨512 * t.val + i.val, by have := lt_of_lt_of_eq t.isLt (show cfg0.N = 16 from N_0); omega⟩

variable (m : (ℓ : Loc nD τ sig) → Buf (Elt Ideal) ℓ) (c : Dev nD) (t : Fin cfg0.N)

theorem in_0 (i : Fin 512) (k : Fin 1024) : (show EReal from iblk m c 0 t (ix2 i k)) = (show EReal from V m c main_v0 (ix2 (row t i) k)) := by
  blk_ext [iblk, idx t, row]
theorem in_1 (i : Fin 512) (k : Fin 1024) : (show EReal from iblk m c 1 t (ix2 i k)) = (show EReal from V m c main_v86 (ix2 (row t i) k)) := by
  blk_ext [iblk, idx t, row]
theorem in_2 (i : Fin 512) (k : Fin 256) : (show EReal from iblk m c 2 t (ix2 i k)) = (show EReal from V m c main_v65 (ix2 (row t i) k)) := by
  blk_ext [iblk, idx t, row]
theorem in_3 (i : Fin 512) (k : Fin 128) : (show EReal from iblk m c 3 t (ix2 i k)) = (show EReal from V m c main_v66 (ix2 (row t i) k)) := by
  blk_ext [iblk, idx t, row]
theorem in_4 (i : Fin 512) (k : Fin 256) : (show EReal from iblk m c 4 t (ix2 i k)) = (show EReal from V m c main_v56 (ix2 (row t i) k)) := by
  blk_ext [iblk, idx t, row]
theorem in_5 (i : Fin 512) (k : Fin 1024) : (show EReal from iblk m c 5 t (ix2 i k)) = (show EReal from V m c main_v71 (ix2 (row t i) k)) := by
  blk_ext [iblk, idx t, row]
theorem in_6 (i : Fin 512) (k : Fin 1024) : (show EReal from iblk m c 6 t (ix2 i k)) = (show EReal from V m c main_v76 (ix2 (row t i) k)) := by
  blk_ext [iblk, idx t, row]
theorem in_7 (i : Fin 512) (k : Fin 512) : (show EReal from iblk m c 7 t (ix2 i k)) = (show EReal from V m c main_v78 (ix2 (row t i) k)) := by
  blk_ext [iblk, idx t, row]
theorem in_8 (i : Fin 512) (k : Fin 2048) : (show EReal from iblk m c 8 t (ix2 i k)) = (show EReal from V m c main_v84 (ix2 (row t i) k)) := by
  blk_ext [iblk, idx t, row]
theorem in_9 (i : Fin 1024) (k : Fin 2560) : (show EReal from iblk m c 9 t (ix2 i k)) = (show EReal from V m c main_v7 (ix2 i k)) := by
  blk_ext [iblk, idx_whole t]
theorem in_10 (i : Fin 256) (k : Fin 1024) : (show EReal from iblk m c 10 t (ix2 i k)) = (show EReal from V m c main_v11 (ix2 i k)) := by
  blk_ext [iblk, idx_whole t]
theorem in_11 (i : Fin 128) (k : Fin 1536) : (show EReal from iblk m c 11 t (ix2 i k)) = (show EReal from V m c main_v21 (ix2 i k)) := by
  blk_ext [iblk, idx_whole t]
theorem in_12 (i : Fin 16) (k : Fin 1024) : (show EReal from iblk m c 12 t (ix2 i k)) = (show EReal from V m c main_v62 (ix2 i k)) := by
  blk_ext [iblk, idx_whole t]
theorem in_13 (i : Fin 16) (k : Fin 1024) : (show EReal from iblk m c 13 t (ix2 i k)) = (show EReal from V m c main_v85 (ix2 i k)) := by
  blk_ext [iblk, idx_whole t]

set_option maxHeartbeats 4000000 in
/-- The blocks of a point hold its rows. -/
theorem blocks_hold : Blocks (data m c) (row t) (blocks m c t) where
  x i k := (in_0 m c t i k).trans (v0_at m c _ k)
  dres i k := (in_1 m c t i k).trans (v86_at m c _ k)
  cq i j := (in_2 m c t i j).trans (v65_at m c _ j)
  ckv i j := (in_3 m c t i j).trans (v66_at m c _ j)
  cos_lo i f := (in_4 m c t i _).trans (v56_cos_lo m c _ f)
  cos_hi i f := (in_4 m c t i _).trans (v56_cos_hi m c _ f)
  sin_lo i f := (in_4 m c t i _).trans (v56_sin_lo m c _ f)
  sin_hi i f := (in_4 m c t i _).trans (v56_sin_hi m c _ f)
  dq i l := (in_5 m c t i l).trans (v71_at m c _ l)
  dk i l := (in_6 m c t i l).trans (v76_at m c _ l)
  dv i l := (in_7 m c t i l).trans (v78_at m c _ l)
  gate i l := (in_8 m c t i l).trans (v84_at m c _ l)
  win k l := (in_9 m c t k l).trans (v7_at m c k l)
  wuq j l := (in_10 m c t j l).trans (v11_at m c j l)
  key j l := (in_11 m c t j _).trans (v21_key m c j l)
  value j l := (in_11 m c t j _).trans (v21_value m c j l)
  qg j := (in_12 m c t 0 _).trans (v62_0 m c j)
  kg j := (in_12 m c t 1 _).trans (v62_1 m c j)
  sign1 l := (in_12 m c t 5 _).trans (v62_5 m c l)
  sign2 l := (in_12 m c t 6 _).trans (v62_6 m c l)
  gv i l := (in_13 m c t i l).trans (v85_at m c i l)

/-- A quantity that every point adds to, from zero: the sum over the points. -/
theorem accAt_sum (f : Acc Ideal → EReal) (g : In Ideal → EReal) (hf : ∀ a b, f (Acc.next b a) = f a + g b)
    (h0 : ∀ t, f (Acc.start (blocks m c t)) = 0) :
    ∀ (n : ℕ) (hn : n < cfg0.N), f (accAt m c n hn) = ∑ t : Fin (n + 1), g (blocks m c ⟨t.val, by omega⟩)
  | 0, hn => by
    show f (Acc.next (blocks m c ⟨0, hn⟩) (Acc.start (blocks m c ⟨0, hn⟩))) = _
    rw [hf, h0, zero_add, Fin.sum_univ_one]
    rfl
  | n + 1, hn => by
    show f (Acc.next (blocks m c ⟨n + 1, hn⟩) (accAt m c n (Nat.lt_of_succ_lt hn))) = _
    rw [hf, accAt_sum f g hf h0 n (Nat.lt_of_succ_lt hn), Fin.sum_univ_castSucc (n := n + 1)]
    rfl

/-- After the last point, where a point adds the sum over its rows of `F`: the sum over all rows. -/
theorem accAt_last (f : Acc Ideal → EReal) (g : In Ideal → EReal) (F : Fin 8192 → EReal) (hf : ∀ a b, f (Acc.next b a) = f a + g b)
    (h0 : ∀ t, f (Acc.start (blocks m c t)) = 0) (hg : ∀ t, g (blocks m c t) = ∑ i, F (row t i)) (h : 15 < cfg0.N) :
    f (accAt m c 15 h) = ∑ s, F s := by
  rw [accAt_sum m c f g hf h0, ← PadSums.rows F]
  exact Finset.sum_congr rfl fun t _ => hg _

end Cert.KernelIdeal.BwdPre
-- ==== Proof.BwdPre.Final.lean ====
module

public import proofs.«01_k».proof.Proof.BwdPre.Rows
public import proofs.«01_k».proof.Proof.BwdPre.Pay

/-! What the five result arrays of the backward call hold after the last point. -/

@[expose] public section

set_option maxRecDepth 16384

noncomputable section

namespace Cert.KernelIdeal.BwdPre

open Cert.KernelIdeal.Gen Cert.Norm
open Idealize.ShloMosaic Idealize.ShloMosaic.TcCoe Idealize.ShloMosaic.Tactic Idealize.SL.Sem

variable (m : (ℓ : Loc nD τ sig) → Buf (Elt Ideal) ℓ) (c : Dev nD)

theorem last_lt : 15 < cfg0.N := by rw [show cfg0.N = 16 from N_0]; omega

/-- The last point. -/
def lastPt : Fin cfg0.N := ⟨15, last_lt⟩

/-- The accumulators after the last point. -/
abbrev total : Acc Ideal := accAt m c 15 last_lt

set_option maxHeartbeats 1000000 in
theorem array_gx (hD : BwdPreMath.Finite (data m c)) :
    (dats m 0 c).arrAt 14 (cfgs 0).N = fun y => BwdPreMath.gx (data m c) (y 0) (y 1) := by
  refine (dats m 0 c).arrAt_eq_of_covers 14 _ (by decide +kernel) fun t _ y => ?_
  blk_simp
  rw [after_14]
  obtain ⟨i, j, rfl⟩ : ∃ (i : Fin 512) (j : Fin 1024), y = ix2 i j := ⟨y 0, y 1, eq_ix2 y⟩
  refine ((blocks_hold m c t).gx_eq i hD j).trans ?_
  refine congrArg₂ (BwdPreMath.gx (data m c)) (Fin.ext ?_) (Fin.ext ?_)
  all_goals (blk_simp [idx t, row]; first | done | (show 512 * t.val + i.val = t.val * 512 + i.val; omega))

set_option maxHeartbeats 1000000 in
theorem array_gwin : (dats m 0 c).arrAt 15 (cfgs 0).N = (total m c).gwin := by
  refine (dats m 0 c).arrAt_eq_of_after_last 15 lastPt (by decide +kernel) _ fun j => ?_
  blk_simp
  rw [after_15]
  show (total m c).gwin _ = _
  blk_ext [idx_whole lastPt]

set_option maxHeartbeats 1000000 in
theorem array_gwuq : (dats m 0 c).arrAt 16 (cfgs 0).N = (total m c).gwuq := by
  refine (dats m 0 c).arrAt_eq_of_after_last 16 lastPt (by decide +kernel) _ fun j => ?_
  blk_simp
  rw [after_16]
  show (total m c).gwuq _ = _
  blk_ext [idx_whole lastPt]

set_option maxHeartbeats 1000000 in
theorem array_gwkv : (dats m 0 c).arrAt 17 (cfgs 0).N = (total m c).gwkv := by
  refine (dats m 0 c).arrAt_eq_of_after_last 17 lastPt (by decide +kernel) _ fun j => ?_
  blk_simp
  rw [after_17]
  show (total m c).gwkv _ = _
  blk_ext [idx_whole lastPt]

set_option maxHeartbeats 1000000 in
theorem array_vec : (dats m 0 c).arrAt 18 (cfgs 0).N = (total m c).vec := by
  refine (dats m 0 c).arrAt_eq_of_after_last 18 lastPt (by decide +kernel) _ fun j => ?_
  blk_simp
  rw [after_18]
  show (total m c).vec _ = _
  blk_ext [idx_whole lastPt]

set_option maxHeartbeats 1000000 in
theorem total_low (k : Fin 1024) (l : Fin 512) (F : Fin 8192 → EReal)
    (hF : ∀ t i, (show EReal from dlat (blocks m c t) (ix2 i l)) = F (row t i)) :
    (show EReal from (total m c).gwin (ix2 k ⟨l.val, by omega⟩)) = ∑ s, (data m c).x s k * F s := by
  refine accAt_last m c (fun a => a.gwin (ix2 k ⟨l.val, by omega⟩)) (fun b => ∑ i : Fin 512, b.x (ix2 i k) * dlat b (ix2 i l))
    (fun s => (data m c).x s k * F s) ?_ (fun t => ?_) (fun t => ?_) last_lt
  · intro a b
    exact gwin_lo b a k l
  · pointwise [Acc.start, k0_pay3]
  · exact Finset.sum_congr rfl fun i _ => congrArg₂ (· * ·) ((blocks_hold m c t).x i k) (hF t i)

set_option maxHeartbeats 1000000 in
theorem total_high (k : Fin 1024) (l : Fin 2048) (F : Fin 8192 → EReal)
    (hF : ∀ t i, (show EReal from (blocks m c t).dgate (ix2 i l)) = F (row t i)) :
    (show EReal from (total m c).gwin (ix2 k ⟨512 + l.val, by omega⟩)) = ∑ s, (data m c).x s k * F s := by
  refine accAt_last m c (fun a => a.gwin (ix2 k ⟨512 + l.val, by omega⟩)) (fun b => ∑ i : Fin 512, b.x (ix2 i k) * b.dgate (ix2 i l))
    (fun s => (data m c).x s k * F s) ?_ (fun t => ?_) (fun t => ?_) last_lt
  · intro a b
    exact gwin_hi b a k l
  · pointwise [Acc.start, k0_pay3]
  · exact Finset.sum_congr rfl fun i _ => congrArg₂ (· * ·) ((blocks_hold m c t).x i k) (hF t i)

theorem total_gwin_lo (hD : BwdPreMath.Finite (data m c)) (k : Fin 1024) (j : Fin 384) :
    (show EReal from (total m c).gwin (ix2 k ⟨j.val, by omega⟩)) = BwdPreMath.gin (data m c) k ⟨j.val, by omega⟩ :=
  (total_low m c k ⟨j.val, by omega⟩ (fun s => BwdPreMath.cols (data m c) s ⟨j.val, by omega⟩) fun t i => (blocks_hold m c t).lat_lo i hD j).trans
    (Finset.sum_congr rfl fun s _ => mul_comm _ _)

theorem total_gwin_rope (k : Fin 1024) (j : Fin 32) :
    (show EReal from (total m c).gwin (ix2 k ⟨384 + (64 + j.val), by omega⟩)) = BwdPreMath.gin (data m c) k ⟨384 + j.val, by omega⟩ :=
  (total_low m c k ⟨384 + (64 + j.val), by omega⟩ (fun s => BwdPreMath.cols (data m c) s ⟨384 + j.val, by omega⟩) fun t i =>
    (blocks_hold m c t).lat_rope i j).trans (Finset.sum_congr rfl fun s _ => mul_comm _ _)

theorem total_gwin_gate (k : Fin 1024) (j : Fin 2048) :
    (show EReal from (total m c).gwin (ix2 k ⟨512 + j.val, by omega⟩)) = BwdPreMath.gin (data m c) k ⟨384 + (32 + j.val), by omega⟩ :=
  (total_high m c k j (fun s => BwdPreMath.cols (data m c) s ⟨384 + (32 + j.val), by omega⟩) fun t i =>
    (blocks_hold m c t).gate_cols i j).trans (Finset.sum_congr rfl fun s _ => mul_comm _ _)

set_option maxHeartbeats 1000000 in
theorem total_gwuq (j : Fin 256) (e : Fin 768) :
    (show EReal from (total m c).gwuq (ix2 j ⟨e.val / 96 * 128 + e.val % 96, by omega⟩)) = BwdPreMath.guq (data m c) j e := by
  refine accAt_last m c (fun a => a.gwuq (ix2 j ⟨e.val / 96 * 128 + e.val % 96, by omega⟩))
    (fun b => ∑ i : Fin 512, qrow b i j * scale nWide (qrow b i) * b.pv (ix2 0 ⟨j.val, by omega⟩) * b.dq (ix2 i ⟨e.val / 96 * 128 + e.val % 96, by omega⟩))
    (fun s => (data m c).dq s ⟨e.val / 96, by omega⟩ ⟨e.val % 96, by omega⟩ * (BwdPreMath.nq (data m c) s j * (data m c).qg j))
    (fun a b => gwuq_at b a j _) (fun t => ?_) (fun t => ?_) last_lt
  · pointwise [Acc.start, k0_pay4]
  · refine Finset.sum_congr rfl fun i _ => ?_
    have B := blocks_hold m c t
    rw [B.qrow_eq i]
    refine (congrArg₂ (· * ·) (congrArg₂ (· * ·) rfl (B.qg j)) ((B.dq i _).trans ((dif_pos ?_).trans ?_))).trans (mul_comm _ _)
    · show (e.val / 96 * 128 + e.val % 96) % 128 < 96
      omega
    · exact congrArg₂ ((data m c).dq (row t i)) (Fin.ext (by show (e.val / 96 * 128 + e.val % 96) / 128 = e.val / 96; omega))
        (Fin.ext (by show (e.val / 96 * 128 + e.val % 96) % 128 = e.val % 96; omega))

set_option maxHeartbeats 1000000 in
theorem total_gwkv_key (j : Fin 128) (e : Fin 1024) (hd : e.val % 128 < 64) :
    (show EReal from (total m c).gwkv (ix2 j ⟨e.val, by omega⟩)) = BwdPreMath.gukv (data m c) j e := by
  refine accAt_last m c (fun a => a.gwkv (ix2 j ⟨e.val, by omega⟩))
    (fun b => ∑ i : Fin 512, kvrow b i j * scale nNarrow (kvrow b i) * b.pv (ix2 1 ⟨j.val, by omega⟩) * b.dk (ix2 i e))
    (fun s => BwdPreMath.dkv (data m c) s e * (BwdPreMath.nkv (data m c) s j * (data m c).kg j))
    (fun a b => gwkv_key b a j e) (fun t => ?_) (fun t => ?_) last_lt
  · pointwise [Acc.start, k0_pay5]
  · refine Finset.sum_congr rfl fun i _ => ?_
    have B := blocks_hold m c t
    rw [B.kvrow_eq i]
    exact (congrArg₂ (· * ·) (congrArg₂ (· * ·) rfl (B.kg j)) (B.dkv_key i e hd)).trans (mul_comm _ _)

set_option maxHeartbeats 1000000 in
theorem total_gwkv_value (j : Fin 128) (e : Fin 1024) (hd : ¬ e.val % 128 < 64) :
    (show EReal from (total m c).gwkv (ix2 j ⟨1024 + (e.val / 128 * 64 + (e.val % 128 - 64)), by omega⟩)) = BwdPreMath.gukv (data m c) j e := by
  refine accAt_last m c (fun a => a.gwkv (ix2 j ⟨1024 + (e.val / 128 * 64 + (e.val % 128 - 64)), by omega⟩))
    (fun b => ∑ i : Fin 512, kvrow b i j * scale nNarrow (kvrow b i) * b.pv (ix2 1 ⟨j.val, by omega⟩) * b.dv (ix2 i ⟨e.val / 128 * 64 + (e.val % 128 - 64), by omega⟩))
    (fun s => BwdPreMath.dkv (data m c) s e * (BwdPreMath.nkv (data m c) s j * (data m c).kg j))
    (fun a b => gwkv_value b a j ⟨e.val / 128 * 64 + (e.val % 128 - 64), by omega⟩) (fun t => ?_) (fun t => ?_) last_lt
  · pointwise [Acc.start, k0_pay5]
  · refine Finset.sum_congr rfl fun i _ => ?_
    have B := blocks_hold m c t
    rw [B.kvrow_eq i]
    exact (congrArg₂ (· * ·) (congrArg₂ (· * ·) rfl (B.kg j)) (B.dkv_value i e hd)).trans (mul_comm _ _)

theorem start_vec (t : Fin cfg0.N) (r : Fin 16) (l : Fin 1024) : (show EReal from (Acc.start (blocks m c t)).vec (ix2 r l)) = 0 := by
  refine Eq.trans ?_ ((blocks_hold m c t).gv r l)
  pointwise [Acc.start, k0_pay6]

set_option maxHeartbeats 1000000 in
theorem total_vec_q (j : Fin 256) :
    (show EReal from (total m c).vec (ix2 0 ⟨j.val, by omega⟩)) = BwdPreMath.gqnorm (data m c) j := by
  refine (accAt_last m c (fun a => a.vec (ix2 0 ⟨j.val, by omega⟩))
    (fun b => ∑ i : Fin 512, dyqrow b i j * (qrow b i j * scale nWide (qrow b i)))
    (fun s => BwdPreMath.dyq (data m c) s j * BwdPreMath.nq (data m c) s j)
    (fun a b => vec_q b a j) (fun t => start_vec m c t 0 _) (fun t => ?_) last_lt).trans ?_
  · refine Finset.sum_congr rfl fun i _ => ?_
    have B := blocks_hold m c t
    rw [B.qrow_eq i]
    exact congrArg₂ (· * ·) (B.dyqrow_eq i j) rfl
  · exact Finset.sum_congr rfl fun s _ => mul_comm _ _

set_option maxHeartbeats 1000000 in
theorem total_vec_kv (j : Fin 128) :
    (show EReal from (total m c).vec (ix2 1 ⟨j.val, by omega⟩)) = BwdPreMath.gkvnorm (data m c) j := by
  refine (accAt_last m c (fun a => a.vec (ix2 1 ⟨j.val, by omega⟩))
    (fun b => ∑ i : Fin 512, dykvrow b i j * (kvrow b i j * scale nNarrow (kvrow b i)))
    (fun s => BwdPreMath.dykv (data m c) s j * BwdPreMath.nkv (data m c) s j)
    (fun a b => vec_kv b a j) (fun t => start_vec m c t 1 _) (fun t => ?_) last_lt).trans ?_
  · refine Finset.sum_congr rfl fun i _ => ?_
    have B := blocks_hold m c t
    rw [B.kvrow_eq i]
    exact congrArg₂ (· * ·) (B.dykvrow_eq i j) rfl
  · exact Finset.sum_congr rfl fun s _ => mul_comm _ _

end Cert.KernelIdeal.BwdPre
-- ==== Proof.BwdPre.Results.lean ====
module

public import proofs.«01_k».proof.Proof.BwdPre.Final

/-! The six results, which the host line after the region cuts out of the five arrays. -/

@[expose] public section

set_option maxRecDepth 16384

noncomputable section

namespace Cert.KernelIdeal.BwdPre

open Cert.KernelIdeal.Gen Cert.Norm
open Idealize.ShloMosaic Idealize.ShloMosaic.TcCoe Idealize.ShloMosaic.Tactic Idealize.SL.Sem

variable (m : (ℓ : Loc nD τ sig) → Buf (Elt Ideal) ℓ) (c : Dev nD)

/-- What a buffer holds after the whole call. -/
abbrev left (r : Ref sig .tc) : Buf (Elt Ideal) ((c.tc : Thread nD τ).loc r) :=
  Pipeline.afterTail₀ cfgs (dats m) 0 (V0 m) [hostOps1] c r

/-- The contents when the region ends. -/
abbrev ended : Valuation τ sig (Elt Ideal) :=
  Pipeline.withArrays (cfgs 0).spec c (V0 m c) fun w => (dats m 0 c).arrAt w (cfgs 0).N

theorem left_eq (r : Ref sig .tc) : left m c r = StableHlo.after hostOps1 (ended m c) (Proc.devRef .tc r) := by
  show StableHlo.after ([hostOps1].flatten) _ _ = _
  rw [List.flatten_cons, List.flatten_nil, List.append_nil]

theorem ended_gx : ended m c (Proc.devRef .tc main_v87_0) = (dats m 0 c).arrAt 14 (cfgs 0).N :=
  Pipeline.withArrays_arr _ launch0.win.arr_inj c _ _ 14
theorem ended_gwin : ended m c (Proc.devRef .tc main_v87_1) = (dats m 0 c).arrAt 15 (cfgs 0).N :=
  Pipeline.withArrays_arr _ launch0.win.arr_inj c _ _ 15
theorem ended_gwuq : ended m c (Proc.devRef .tc main_v87_2) = (dats m 0 c).arrAt 16 (cfgs 0).N :=
  Pipeline.withArrays_arr _ launch0.win.arr_inj c _ _ 16
theorem ended_gwkv : ended m c (Proc.devRef .tc main_v87_3) = (dats m 0 c).arrAt 17 (cfgs 0).N :=
  Pipeline.withArrays_arr _ launch0.win.arr_inj c _ _ 17
theorem ended_vec : ended m c (Proc.devRef .tc main_v87_4) = (dats m 0 c).arrAt 18 (cfgs 0).N :=
  Pipeline.withArrays_arr _ launch0.win.arr_inj c _ _ 18

set_option maxHeartbeats 1000000 in
theorem gx_at' (hD : BwdPreMath.Finite (data m c)) (s : Fin 8192) (j : Fin 1024) :
    (show EReal from left m c main_v102 (ix3 0 s j)) = BwdPreMath.gx (data m c) s j := by
  rw [left_eq]
  simp only [hostOps1]
  after_results_simp
  pointwise
  rw [ended_gx, array_gx m c hD]
  rfl

set_option maxHeartbeats 1000000 in
theorem gin_at (hD : BwdPreMath.Finite (data m c)) (k : Fin 1024) (j : Fin 2464) :
    (show EReal from left m c main_v91 (ix2 k j)) = BwdPreMath.gin (data m c) k j := by
  rw [left_eq]
  simp only [hostOps1]
  after_results_simp
  pointwise
  after_results_simp
  rw [ended_gwin, array_gwin m c]
  by_cases h1 : j.val < 384
  · simp only [dif_pos h1]
    pointwise
    exact total_gwin_lo m c hD k ⟨j.val, h1⟩
  · simp only [dif_neg h1]
    by_cases h2 : j.val - 384 < 32
    · simp only [dif_pos h2]
      pointwise
      refine Eq.trans ?_ ((total_gwin_rope m c k ⟨j.val - 384, h2⟩).trans (congrArg (BwdPreMath.gin (data m c) k) (Fin.ext ?_)))
      · blk_ext
      · show 384 + (j.val - 384) = j.val
        omega
    · simp only [dif_neg h2]
      pointwise
      refine Eq.trans ?_ ((total_gwin_gate m c k ⟨j.val - 384 - 32, by omega⟩).trans (congrArg (BwdPreMath.gin (data m c) k) (Fin.ext ?_)))
      · blk_ext
      · show 384 + (32 + (j.val - 384 - 32)) = j.val
        omega

set_option maxHeartbeats 1000000 in
theorem guq_at (j : Fin 256) (e : Fin 768) : (show EReal from left m c main_v94 (ix2 j e)) = BwdPreMath.guq (data m c) j e := by
  rw [left_eq]
  simp only [hostOps1]
  after_results_simp
  pointwise
  rw [ended_gwuq, array_gwuq m c]
  exact total_gwuq m c j e

set_option maxHeartbeats 1000000 in
theorem gukv_at (j : Fin 128) (e : Fin 1024) : (show EReal from left m c main_v101 (ix2 j e)) = BwdPreMath.gukv (data m c) j e := by
  rw [left_eq]
  simp only [hostOps1]
  after_results_simp
  pointwise
  after_results_simp
  pointwise
  have E := (ended_gwkv m c).trans (array_gwkv m c)
  by_cases hd : e.val % 128 < 64
  · refine (dif_pos hd).trans ((congrFun E _).trans (Eq.trans ?_ (total_gwkv_key m c j e hd)))
    exact congrArg (fun l : Fin 1536 => (show EReal from (total m c).gwkv (ix2 j l))) (Fin.ext (by show e.val / 128 * 128 + e.val % 128 = e.val; omega))
  · exact (dif_neg hd).trans ((congrFun E _).trans (total_gwkv_value m c j e hd))

set_option maxHeartbeats 1000000 in
theorem gqnorm_at (j : Fin 256) : (show EReal from left m c main_v104 (ix1 j)) = BwdPreMath.gqnorm (data m c) j := by
  rw [left_eq]
  simp only [hostOps1]
  after_results_simp
  pointwise
  rw [ended_vec, array_vec m c]
  exact total_vec_q m c j

set_option maxHeartbeats 1000000 in
theorem gkvnorm_at (j : Fin 128) : (show EReal from left m c main_v106 (ix1 j)) = BwdPreMath.gkvnorm (data m c) j := by
  rw [left_eq]
  simp only [hostOps1]
  after_results_simp
  pointwise
  rw [ended_vec, array_vec m c]
  exact total_vec_kv m c j

end Cert.KernelIdeal.BwdPre
-- ==== Proof.HostSums.lean ====
module

public import Idealize.ShloMosaic.Lib.Pointwise

/-! A host sum over two axes of an array, the first of them the leading one, read at an index of its result. -/

@[expose] public section

set_option maxRecDepth 16384

noncomputable section

namespace Cert.HostSums

open Idealize.ShloMosaic

section Rank3
variable {n0 n1 n2 : Nat}

/-- Rank 3, the outer two axes summed away. -/
theorem outer (h : (⟨3, ![n0, n1, n2]⟩ : Shape).ReducesTo [0, 2] ⟨1, ![n1]⟩) (v : (⟨3, ![n0, n1, n2]⟩ : Shape).Idx → EReal)
    (init : EReal) (s : Fin n1) :
    Ideal.hostReduceAdd h v init (ix1 s) = init + ∑ a : Fin n0, ∑ c : Fin n2, v (ix3 a s c) := by
  refine congrArg (init + ·) ((Finset.sum_filter_eq_sum_of_fiber _ (fun k : Fin n0 × Fin n2 => ix3 k.1 s k.2)
    (fun _ _ e => Prod.ext (congrFun e 0) (congrFun e 2)) (fun i => ?_) v).trans (Fintype.sum_prod_type _))
  constructor
  · intro e
    refine ⟨(i 0, i 2), funext fun a => Fin.ext ?_⟩
    match a with
    | ⟨0, _⟩ => rfl
    | ⟨1, _⟩ => exact (congrArg Fin.val (congrFun e 0)).symm
    | ⟨2, _⟩ => rfl
  · rintro ⟨k, rfl⟩
    funext b
    match b with
    | ⟨0, _⟩ => exact Fin.ext rfl

/-- Rank 3, the leading two axes summed away. -/
theorem leading (h : (⟨3, ![n0, n1, n2]⟩ : Shape).ReducesTo [0, 1] ⟨1, ![n2]⟩) (v : (⟨3, ![n0, n1, n2]⟩ : Shape).Idx → EReal)
    (init : EReal) (j : Fin n2) :
    Ideal.hostReduceAdd h v init (ix1 j) = init + ∑ a : Fin n0, ∑ b : Fin n1, v (ix3 a b j) := by
  refine congrArg (init + ·) ((Finset.sum_filter_eq_sum_of_fiber _ (fun k : Fin n0 × Fin n1 => ix3 k.1 k.2 j)
    (fun _ _ e => Prod.ext (congrFun e 0) (congrFun e 1)) (fun i => ?_) v).trans (Fintype.sum_prod_type _))
  constructor
  · intro e
    refine ⟨(i 0, i 1), funext fun a => Fin.ext ?_⟩
    match a with
    | ⟨0, _⟩ => rfl
    | ⟨1, _⟩ => rfl
    | ⟨2, _⟩ => exact (congrArg Fin.val (congrFun e 0)).symm
  · rintro ⟨k, rfl⟩
    funext b
    match b with
    | ⟨0, _⟩ => exact Fin.ext rfl

end Rank3

section Rank4
variable {n0 n1 n2 n3 : Nat}

/-- Rank 4, the first and the third axis summed away. -/
theorem alternate (h : (⟨4, ![n0, n1, n2, n3]⟩ : Shape).ReducesTo [0, 2] ⟨2, ![n1, n3]⟩)
    (v : (⟨4, ![n0, n1, n2, n3]⟩ : Shape).Idx → EReal) (init : EReal) (s : Fin n1) (j : Fin n3) :
    Ideal.hostReduceAdd h v init (ix2 s j) = init + ∑ a : Fin n0, ∑ c : Fin n2, v (ix4 a s c j) := by
  refine congrArg (init + ·) ((Finset.sum_filter_eq_sum_of_fiber _ (fun k : Fin n0 × Fin n2 => ix4 k.1 s k.2 j)
    (fun _ _ e => Prod.ext (congrFun e 0) (congrFun e 2)) (fun i => ?_) v).trans (Fintype.sum_prod_type _))
  constructor
  · intro e
    refine ⟨(i 0, i 2), funext fun a => Fin.ext ?_⟩
    match a with
    | ⟨0, _⟩ => rfl
    | ⟨1, _⟩ => exact (congrArg Fin.val (congrFun e 0)).symm
    | ⟨2, _⟩ => rfl
    | ⟨3, _⟩ => exact (congrArg Fin.val (congrFun e 1)).symm
  · rintro ⟨k, rfl⟩
    funext b
    match b with
    | ⟨0, _⟩ => exact Fin.ext rfl
    | ⟨1, _⟩ => exact Fin.ext rfl

end Rank4

end Cert.HostSums
-- ==== Proof.BwdPre.Reference.lean ====
module

public import proofs.«01_k».proof.Proof.Gen.ReferenceIdeal.Read
public import Idealize.ShloMosaic.Lib.Pointwise
public import proofs.«01_k».proof.Proof.BwdPre.Math
public import proofs.«01_k».proof.Proof.HostSums

/-! The reference's six results, read at an index: the gradients over the entries of the arguments. -/

@[expose] public section

set_option maxRecDepth 16384

noncomputable section

namespace Cert.ReferenceIdeal.BwdPre

open Cert.ReferenceIdeal.Read Cert.HostSums Cert.Norm
open Idealize.ShloMosaic Idealize.ShloMosaic.TcCoe Idealize.ShloMosaic.Tactic Idealize.SL.Sem

variable (x0 : FVec Ideal S1x8192x1024 .f32) (x1 : IVec S1x8192 32) (x2 : FVec Ideal S1024x2464 .f32) (x3 : FVec Ideal S256 .f32)
  (x4 : FVec Ideal S256x768 .f32) (x5 : FVec Ideal S128 .f32) (x6 : FVec Ideal S128x1024 .f32) (x7 : FVec Ideal S1x8192x1024 .f32)
  (x8 x9 : FVec Ideal S1x8192x8x96 .f32) (x10 : FVec Ideal S1x8192x8x64 .f32) (x11 x12 x13 x14 : FVec Ideal S1x8192x512 .f32)

/-- The arguments' data. -/
abbrev D : BwdPreMath.Data := BwdPreMath.Data.of x0 x1 x2 x3 x4 x5 x6 x7 x8 x9 x10 x11 x12 x13 x14

theorem v1_at (s : Fin 8192) (j : Fin 256) : (val_main_v1 (F := Ideal) x0 x2) (ix3 0 s j) = BwdPreMath.cq (D x0 x1 x2 x3 x4 x5 x6 x7 x8 x9 x10 x11 x12 x13 x14) s j := by
  pointwise [val_main_v0, val_main_v1]
  rfl

theorem v2_at (s : Fin 8192) (j : Fin 128) : (val_main_v2 (F := Ideal) x0 x2) (ix3 0 s j) = BwdPreMath.ckv (D x0 x1 x2 x3 x4 x5 x6 x7 x8 x9 x10 x11 x12 x13 x14) s j := by
  pointwise [val_main_v0, val_main_v2]
  rfl

theorem v14_at (s : Fin 8192) : (val_main_v14 (F := Ideal) x0 x2) (ix3 0 s 0) = square BwdPreMath.wide (BwdPreMath.cq (D x0 x1 x2 x3 x4 x5 x6 x7 x8 x9 x10 x11 x12 x13 x14) s) := by
  pointwise [val_main_v8, val_main_v9, val_main_v10, val_main_v11, val_main_v12, val_main_v13, val_main_v14, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, v1_at x0 x1 x2 x3 x4 x5 x6 x7 x8 x9 x10 x11 x12 x13 x14]
  rfl

theorem v15_at (s : Fin 8192) : (val_main_v15 (F := Ideal) x0 x2) (ix3 0 s 0) = scale BwdPreMath.wide (BwdPreMath.cq (D x0 x1 x2 x3 x4 x5 x6 x7 x8 x9 x10 x11 x12 x13 x14) s) := by
  pointwise [val_main_v15, v14_at x0 x1 x2 x3 x4 x5 x6 x7 x8 x9 x10 x11 x12 x13 x14]
  rfl

theorem v32_at (s : Fin 8192) : (val_main_v32 (F := Ideal) x0 x2) (ix3 0 s 0) = square BwdPreMath.narrow (BwdPreMath.ckv (D x0 x1 x2 x3 x4 x5 x6 x7 x8 x9 x10 x11 x12 x13 x14) s) := by
  pointwise [val_main_v26, val_main_v27, val_main_v28, val_main_v29, val_main_v30, val_main_v31, val_main_v32, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, v2_at x0 x1 x2 x3 x4 x5 x6 x7 x8 x9 x10 x11 x12 x13 x14]
  rfl

theorem v33_at (s : Fin 8192) : (val_main_v33 (F := Ideal) x0 x2) (ix3 0 s 0) = scale BwdPreMath.narrow (BwdPreMath.ckv (D x0 x1 x2 x3 x4 x5 x6 x7 x8 x9 x10 x11 x12 x13 x14) s) := by
  pointwise [val_main_v33, v32_at x0 x1 x2 x3 x4 x5 x6 x7 x8 x9 x10 x11 x12 x13 x14]
  rfl

theorem v20_at (s : Fin 8192) (j : Fin 256) : (val_main_v20 (F := Ideal) x0 x2) (ix3 0 s j) = BwdPreMath.nq (D x0 x1 x2 x3 x4 x5 x6 x7 x8 x9 x10 x11 x12 x13 x14) s j := by
  pointwise [val_main_v19, val_main_v20, v1_at x0 x1 x2 x3 x4 x5 x6 x7 x8 x9 x10 x11 x12 x13 x14, v15_at x0 x1 x2 x3 x4 x5 x6 x7 x8 x9 x10 x11 x12 x13 x14]
  rfl

theorem v38_at (s : Fin 8192) (j : Fin 128) : (val_main_v38 (F := Ideal) x0 x2) (ix3 0 s j) = BwdPreMath.nkv (D x0 x1 x2 x3 x4 x5 x6 x7 x8 x9 x10 x11 x12 x13 x14) s j := by
  pointwise [val_main_v37, val_main_v38, v2_at x0 x1 x2 x3 x4 x5 x6 x7 x8 x9 x10 x11 x12 x13 x14, v33_at x0 x1 x2 x3 x4 x5 x6 x7 x8 x9 x10 x11 x12 x13 x14]
  rfl

theorem v59_at (s : Fin 8192) (j : Fin 16) : (val_main_v59 (F := Ideal) x1) (ix3 0 s j) = ((D x0 x1 x2 x3 x4 x5 x6 x7 x8 x9 x10 x11 x12 x13 x14)).angle s j := by
  pointwise [val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  rfl

theorem v128_at (s : Fin 8192) (j : Fin 256) : (val_main_v128 (F := Ideal) x4 x8) (ix3 0 s j) = BwdPreMath.dyq (D x0 x1 x2 x3 x4 x5 x6 x7 x8 x9 x10 x11 x12 x13 x14) s j := by
  pointwise [val_main_v125, val_main_v128]
  rfl

theorem v96_at (s : Fin 8192) (j : Fin 32) : (val_main_v96 (F := Ideal) x1 x9) (ix3 0 s j) = BwdPreMath.rope (D x0 x1 x2 x3 x4 x5 x6 x7 x8 x9 x10 x11 x12 x13 x14) s j := by
  pointwise [val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, alternate, v59_at x0 x1 x2 x3 x4 x5 x6 x7 x8 x9 x10 x11 x12 x13 x14]
  simp only [Fin.sum_univ_one]
  unfold BwdPreMath.rope
  by_cases h : j.val < 16
  · have h1 : ¬(16 ≤ j.val ∧ j.val - 16 < 16) := by omega
    simp only [dif_neg h1, dif_pos h, zero_add]
    rfl
  · have h1 : 16 ≤ j.val ∧ j.val - 16 < 16 := by omega
    have hj : 64 + (16 + (j.val - 16)) = 64 + j.val := by omega
    simp only [dif_pos h1, dif_neg h, add_zero, hj]
    rfl

theorem v100_at (s : Fin 8192) (e : Fin 1024) : (val_main_v100 (F := Ideal) x9 x10) (ix3 0 s e) = BwdPreMath.dkv (D x0 x1 x2 x3 x4 x5 x6 x7 x8 x9 x10 x11 x12 x13 x14) s e := by
  pointwise [val_main_v97, val_main_v98, val_main_v99, val_main_v100, val_main_v79, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27]
  have he : e.val / 128 < 8 := by omega
  unfold BwdPreMath.dkv
  by_cases h : e.val % 128 < 64
  · have h1 : ¬(e.val / 128 < 8 ∧ 64 ≤ e.val % 128 ∧ e.val % 128 - 64 < 64) := by omega
    have h2 : e.val / 128 < 8 ∧ e.val % 128 < 64 := ⟨he, h⟩
    simp only [dif_neg h1, dif_pos h2, dif_pos h, zero_add]
    rfl
  · have h1 : e.val / 128 < 8 ∧ 64 ≤ e.val % 128 ∧ e.val % 128 - 64 < 64 := by omega
    have h2 : ¬(e.val / 128 < 8 ∧ e.val % 128 < 64) := by omega
    simp only [dif_pos h1, dif_neg h2, dif_neg h, add_zero]
    rfl

theorem v103_at (s : Fin 8192) (j : Fin 128) : (val_main_v103 (F := Ideal) x6 x9 x10) (ix3 0 s j) = BwdPreMath.dykv (D x0 x1 x2 x3 x4 x5 x6 x7 x8 x9 x10 x11 x12 x13 x14) s j := by
  pointwise [val_main_v103, v100_at x0 x1 x2 x3 x4 x5 x6 x7 x8 x9 x10 x11 x12 x13 x14]
  rfl

theorem v149_at (s : Fin 8192) (j : Fin 256) : (val_main_v149 (F := Ideal) x0 x2 x3 x4 x8) (ix3 0 s j) = BwdPreMath.dcq (D x0 x1 x2 x3 x4 x5 x6 x7 x8 x9 x10 x11 x12 x13 x14) s j := by
  pointwise [val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v16, val_main_v17, val_main_v18, val_main_v21, val_main_v22, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, outer, v1_at x0 x1 x2 x3 x4 x5 x6 x7 x8 x9 x10 x11 x12 x13 x14, v128_at x0 x1 x2 x3 x4 x5 x6 x7 x8 x9 x10 x11 x12 x13 x14]
  simp only [Fin.sum_univ_one]
  simp only [v15_at x0 x1 x2 x3 x4 x5 x6 x7 x8 x9 x10 x11 x12 x13 x14, v14_at x0 x1 x2 x3 x4 x5 x6 x7 x8 x9 x10 x11 x12 x13 x14]
  rfl

theorem v124_at (s : Fin 8192) (j : Fin 128) : (val_main_v124 (F := Ideal) x0 x2 x5 x6 x9 x10) (ix3 0 s j) = BwdPreMath.dckv (D x0 x1 x2 x3 x4 x5 x6 x7 x8 x9 x10 x11 x12 x13 x14) s j := by
  pointwise [val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v34, val_main_v35, val_main_v36, val_main_v39, val_main_v40, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, outer, v2_at x0 x1 x2 x3 x4 x5 x6 x7 x8 x9 x10 x11 x12 x13 x14, v103_at x0 x1 x2 x3 x4 x5 x6 x7 x8 x9 x10 x11 x12 x13 x14]
  simp only [Fin.sum_univ_one]
  simp only [v33_at x0 x1 x2 x3 x4 x5 x6 x7 x8 x9 x10 x11 x12 x13 x14, v32_at x0 x1 x2 x3 x4 x5 x6 x7 x8 x9 x10 x11 x12 x13 x14]
  rfl

theorem v150_at (s : Fin 8192) (k : Fin 2464) : (val_main_v150 (F := Ideal) x0 x1 x2 x3 x4 x5 x6 x8 x9 x10 x11 x12 x13 x14) (ix3 0 s k) = BwdPreMath.cols (D x0 x1 x2 x3 x4 x5 x6 x7 x8 x9 x10 x11 x12 x13 x14) s k := by
  pointwise [val_main_v150, v149_at x0 x1 x2 x3 x4 x5 x6 x7 x8 x9 x10 x11 x12 x13 x14, v124_at x0 x1 x2 x3 x4 x5 x6 x7 x8 x9 x10 x11 x12 x13 x14, v96_at x0 x1 x2 x3 x4 x5 x6 x7 x8 x9 x10 x11 x12 x13 x14]
  rfl

theorem v154_at (s : Fin 8192) (j : Fin 1024) : (val_main_v154 (F := Ideal) x0 x1 x2 x3 x4 x5 x6 x7 x8 x9 x10 x11 x12 x13 x14) (ix3 0 s j) = BwdPreMath.gx (D x0 x1 x2 x3 x4 x5 x6 x7 x8 x9 x10 x11 x12 x13 x14) s j := by
  pointwise [val_main_v153, val_main_v154, val_main_v78, val_main_v75, val_main_v76, val_main_v77, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, v150_at x0 x1 x2 x3 x4 x5 x6 x7 x8 x9 x10 x11 x12 x13 x14]
  rfl

theorem v152_at (k : Fin 1024) (j : Fin 2464) : (val_main_v152 (F := Ideal) x0 x1 x2 x3 x4 x5 x6 x8 x9 x10 x11 x12 x13 x14) (ix2 k j) = BwdPreMath.gin (D x0 x1 x2 x3 x4 x5 x6 x7 x8 x9 x10 x11 x12 x13 x14) k j := by
  pointwise [val_main_v151, val_main_v152]
  simp only [Fin.sum_univ_one]
  pointwise [v150_at x0 x1 x2 x3 x4 x5 x6 x7 x8 x9 x10 x11 x12 x13 x14]
  rfl

theorem v134_at (j : Fin 256) : (val_main_v134 (F := Ideal) x0 x2 x4 x8) (ix1 j) = BwdPreMath.gqnorm (D x0 x1 x2 x3 x4 x5 x6 x7 x8 x9 x10 x11 x12 x13 x14) j := by
  pointwise [val_main_v129, val_main_v130, val_main_v131, val_main_v132, val_main_v133, val_main_v134, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, leading, v20_at x0 x1 x2 x3 x4 x5 x6 x7 x8 x9 x10 x11 x12 x13 x14, v128_at x0 x1 x2 x3 x4 x5 x6 x7 x8 x9 x10 x11 x12 x13 x14]
  simp only [Fin.sum_univ_one]
  rfl

theorem v109_at (j : Fin 128) : (val_main_v109 (F := Ideal) x0 x2 x6 x9 x10) (ix1 j) = BwdPreMath.gkvnorm (D x0 x1 x2 x3 x4 x5 x6 x7 x8 x9 x10 x11 x12 x13 x14) j := by
  pointwise [val_main_v104, val_main_v105, val_main_v106, val_main_v107, val_main_v108, val_main_v109, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, val_main_cst_26, val_main_cst_27, leading, v38_at x0 x1 x2 x3 x4 x5 x6 x7 x8 x9 x10 x11 x12 x13 x14, v103_at x0 x1 x2 x3 x4 x5 x6 x7 x8 x9 x10 x11 x12 x13 x14]
  simp only [Fin.sum_univ_one]
  rfl

theorem v127_at (j : Fin 256) (e : Fin 768) : (val_main_v127 (F := Ideal) x0 x2 x3 x8) (ix2 j e) = BwdPreMath.guq (D x0 x1 x2 x3 x4 x5 x6 x7 x8 x9 x10 x11 x12 x13 x14) j e := by
  pointwise [val_main_v125, val_main_v126, val_main_v127, val_main_v21, val_main_v22, val_main_v23]
  simp only [Fin.sum_univ_one]
  pointwise [v20_at x0 x1 x2 x3 x4 x5 x6 x7 x8 x9 x10 x11 x12 x13 x14]
  rfl

theorem v102_at (j : Fin 128) (e : Fin 1024) : (val_main_v102 (F := Ideal) x0 x2 x5 x9 x10) (ix2 j e) = BwdPreMath.gukv (D x0 x1 x2 x3 x4 x5 x6 x7 x8 x9 x10 x11 x12 x13 x14) j e := by
  pointwise [val_main_v101, val_main_v102, val_main_v39, val_main_v40, val_main_v41]
  simp only [Fin.sum_univ_one]
  pointwise [v38_at x0 x1 x2 x3 x4 x5 x6 x7 x8 x9 x10 x11 x12 x13 x14, v100_at x0 x1 x2 x3 x4 x5 x6 x7 x8 x9 x10 x11 x12 x13 x14]
  rfl
-- ==== Proof.BwdPre.Algebraic.lean ====
module

public import proofs.«01_k».proof.Defs
public import proofs.«01_k».proof.Proof.BwdPre.Results
public import proofs.«01_k».proof.Proof.BwdPre.Reference
public import proofs.«01_k».proof.Proof.BwdPre.Precondition
public import proofs.«01_k».proof.Proof.Gen.ReferenceIdeal
public import proofs.«01_k».proof.Proof.Gen.ReferenceIdeal.Run
public import proofs.«01_k».proof.Proof.Gen.ReferenceIdeal.Read
public import Idealize.ShloMosaic.Lib.Claim

/-! The six results of the backward call of the projections are those of the reference. -/

@[expose] public section

set_option maxRecDepth 16384

noncomputable section

namespace Cert.BwdPre

open Idealize.ShloMosaic Idealize.SL.Sem

section

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev ReferenceIdeal.nD)

/-- The reference's launch contents. -/
abbrev given (r : Ref ReferenceIdeal.sig .tc) : Buf (Elt Ideal) ((c.tc : Thread ReferenceIdeal.nD ReferenceIdeal.τ).loc r) :=
  StableHlo.launchContents m' c (Proc.devRef .tc r)

/-- Both programs start from the same arguments. -/
def Agree : Prop := BwdPreMath.Data.of (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) = KernelIdeal.BwdPre.data m c

variable (hA : Agree m m' c) (hD : BwdPreMath.Finite (KernelIdeal.BwdPre.data m c))
include hA

include hD in
theorem gx_eq : ReferenceIdeal.Read.val_main_v154 (F := Ideal) (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) = KernelIdeal.BwdPre.left m c KernelIdeal.main_v102 := by
  funext y
  obtain ⟨s, j, rfl⟩ : ∃ (s : Fin 8192) (j : Fin 1024), y = ix3 0 s j :=
    ⟨y 1, y 2, (eq_ix3 y).trans (congrArg (fun i : Fin 1 => ix3 i (y 1) (y 2)) (@Subsingleton.elim (Fin 1) _ (y 0) 0))⟩
  refine (ReferenceIdeal.BwdPre.v154_at (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) s j).trans ?_
  exact (congrArg (fun d => BwdPreMath.gx d s j) hA).trans (KernelIdeal.BwdPre.gx_at' m c hD s j).symm

include hD in
theorem gin_eq : ReferenceIdeal.Read.val_main_v152 (F := Ideal) (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) = KernelIdeal.BwdPre.left m c KernelIdeal.main_v91 := by
  funext y
  obtain ⟨i, j, rfl⟩ : ∃ (i : Fin 1024) (j : Fin 2464), y = ix2 i j := ⟨y 0, y 1, eq_ix2 y⟩
  refine (ReferenceIdeal.BwdPre.v152_at (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) i j).trans ?_
  exact (congrArg (fun d => BwdPreMath.gin d i j) hA).trans (KernelIdeal.BwdPre.gin_at m c hD i j).symm

theorem gqnorm_eq : ReferenceIdeal.Read.val_main_v134 (F := Ideal) (given m' c ReferenceIdeal.main_arg0) (given m' c ReferenceIdeal.main_arg2) (given m' c ReferenceIdeal.main_arg4) (given m' c ReferenceIdeal.main_arg8) = KernelIdeal.BwdPre.left m c KernelIdeal.main_v104 := by
  funext y
  obtain ⟨j, rfl⟩ : ∃ j : Fin 256, y = ix1 j := ⟨y 0, eq_ix1 y⟩
  refine (ReferenceIdeal.BwdPre.v134_at (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) j).trans ?_
  exact (congrArg (fun d => BwdPreMath.gqnorm d j) hA).trans (KernelIdeal.BwdPre.gqnorm_at m c j).symm

theorem guq_eq : ReferenceIdeal.Read.val_main_v127 (F := Ideal) (given m' c ReferenceIdeal.main_arg0) (given m' c ReferenceIdeal.main_arg2) (given m' c ReferenceIdeal.main_arg3) (given m' c ReferenceIdeal.main_arg8) = KernelIdeal.BwdPre.left m c KernelIdeal.main_v94 := by
  funext y
  obtain ⟨i, j, rfl⟩ : ∃ (i : Fin 256) (j : Fin 768), y = ix2 i j := ⟨y 0, y 1, eq_ix2 y⟩
  refine (ReferenceIdeal.BwdPre.v127_at (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) i j).trans ?_
  exact (congrArg (fun d => BwdPreMath.guq d i j) hA).trans (KernelIdeal.BwdPre.guq_at m c i j).symm

theorem gkvnorm_eq : ReferenceIdeal.Read.val_main_v109 (F := Ideal) (given m' c ReferenceIdeal.main_arg0) (given m' c ReferenceIdeal.main_arg2) (given m' c ReferenceIdeal.main_arg6) (given m' c ReferenceIdeal.main_arg9) (given m' c ReferenceIdeal.main_arg10) = KernelIdeal.BwdPre.left m c KernelIdeal.main_v106 := by
  funext y
  obtain ⟨j, rfl⟩ : ∃ j : Fin 128, y = ix1 j := ⟨y 0, eq_ix1 y⟩
  refine (ReferenceIdeal.BwdPre.v109_at (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) j).trans ?_
  exact (congrArg (fun d => BwdPreMath.gkvnorm d j) hA).trans (KernelIdeal.BwdPre.gkvnorm_at m c j).symm

theorem gukv_eq : ReferenceIdeal.Read.val_main_v102 (F := Ideal) (given m' c ReferenceIdeal.main_arg0) (given m' c ReferenceIdeal.main_arg2) (given m' c ReferenceIdeal.main_arg5) (given m' c ReferenceIdeal.main_arg9) (given m' c ReferenceIdeal.main_arg10) = KernelIdeal.BwdPre.left m c KernelIdeal.main_v101 := by
  funext y
  obtain ⟨i, j, rfl⟩ : ∃ (i : Fin 128) (j : Fin 1024), y = ix2 i j := ⟨y 0, y 1, eq_ix2 y⟩
  refine (ReferenceIdeal.BwdPre.v102_at (given m' c ReferenceIdeal.main_arg0) (given m' c ReferenceIdeal.main_arg1) (given m' c ReferenceIdeal.main_arg2) (given m' c ReferenceIdeal.main_arg3) (given m' c ReferenceIdeal.main_arg4) (given m' c ReferenceIdeal.main_arg5) (given m' c ReferenceIdeal.main_arg6) (given m' c ReferenceIdeal.main_arg7) (given m' c ReferenceIdeal.main_arg8) (given m' c ReferenceIdeal.main_arg9) (given m' c ReferenceIdeal.main_arg10) (given m' c ReferenceIdeal.main_arg11) (given m' c ReferenceIdeal.main_arg12) (given m' c ReferenceIdeal.main_arg13) (given m' c ReferenceIdeal.main_arg14) i j).trans ?_
  exact (congrArg (fun d => BwdPreMath.gukv d i j) hA).trans (KernelIdeal.BwdPre.gukv_at m c i j).symm

end

theorem agree (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev ReferenceIdeal.nD)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4))
    (h5 : m' (c.tc.loc ReferenceIdeal.main_arg5) = m (c.tc.loc KernelIdeal.main_arg5))
    (h6 : m' (c.tc.loc ReferenceIdeal.main_arg6) = m (c.tc.loc KernelIdeal.main_arg6))
    (h7 : m' (c.tc.loc ReferenceIdeal.main_arg7) = m (c.tc.loc KernelIdeal.main_arg7))
    (h8 : m' (c.tc.loc ReferenceIdeal.main_arg8) = m (c.tc.loc KernelIdeal.main_arg8))
    (h9 : m' (c.tc.loc ReferenceIdeal.main_arg9) = m (c.tc.loc KernelIdeal.main_arg9))
    (h10 : m' (c.tc.loc ReferenceIdeal.main_arg10) = m (c.tc.loc KernelIdeal.main_arg10))
    (h11 : m' (c.tc.loc ReferenceIdeal.main_arg11) = m (c.tc.loc KernelIdeal.main_arg11))
    (h12 : m' (c.tc.loc ReferenceIdeal.main_arg12) = m (c.tc.loc KernelIdeal.main_arg12))
    (h13 : m' (c.tc.loc ReferenceIdeal.main_arg13) = m (c.tc.loc KernelIdeal.main_arg13))
    (h14 : m' (c.tc.loc ReferenceIdeal.main_arg14) = m (c.tc.loc KernelIdeal.main_arg14))
    : Agree m m' c := by
  unfold Agree given KernelIdeal.BwdPre.data
  show BwdPreMath.Data.of (m' (c.tc.loc ReferenceIdeal.main_arg0)) (m' (c.tc.loc ReferenceIdeal.main_arg1)) (m' (c.tc.loc ReferenceIdeal.main_arg2)) (m' (c.tc.loc ReferenceIdeal.main_arg3)) (m' (c.tc.loc ReferenceIdeal.main_arg4)) (m' (c.tc.loc ReferenceIdeal.main_arg5)) (m' (c.tc.loc ReferenceIdeal.main_arg6)) (m' (c.tc.loc ReferenceIdeal.main_arg7)) (m' (c.tc.loc ReferenceIdeal.main_arg8)) (m' (c.tc.loc ReferenceIdeal.main_arg9)) (m' (c.tc.loc ReferenceIdeal.main_arg10)) (m' (c.tc.loc ReferenceIdeal.main_arg11)) (m' (c.tc.loc ReferenceIdeal.main_arg12)) (m' (c.tc.loc ReferenceIdeal.main_arg13)) (m' (c.tc.loc ReferenceIdeal.main_arg14)) = _
  rw [h0, h1, h2, h3, h4, h5, h6, h7, h8, h9, h10, h11, h12, h13, h14]

set_option maxHeartbeats 2000000 in
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from (Cert.KernelIdeal.BwdPre.run_main m g)
    · exact KernelIdeal.Gen.W_main_arg0 m (KernelIdeal.BwdPre.dats m) _
    · exact KernelIdeal.Gen.W_main_arg1 m (KernelIdeal.BwdPre.dats m) _
    · exact KernelIdeal.Gen.W_main_arg2 m (KernelIdeal.BwdPre.dats m) _
    · exact KernelIdeal.Gen.W_main_arg3 m (KernelIdeal.BwdPre.dats m) _
    · exact KernelIdeal.Gen.W_main_arg4 m (KernelIdeal.BwdPre.dats m) _
    · exact KernelIdeal.Gen.W_main_arg5 m (KernelIdeal.BwdPre.dats m) _
    · exact KernelIdeal.Gen.W_main_arg6 m (KernelIdeal.BwdPre.dats m) _
    · exact KernelIdeal.Gen.W_main_arg7 m (KernelIdeal.BwdPre.dats m) _
    · exact KernelIdeal.Gen.W_main_arg8 m (KernelIdeal.BwdPre.dats m) _
    · exact KernelIdeal.Gen.W_main_arg9 m (KernelIdeal.BwdPre.dats m) _
    · exact KernelIdeal.Gen.W_main_arg10 m (KernelIdeal.BwdPre.dats m) _
    · exact KernelIdeal.Gen.W_main_arg11 m (KernelIdeal.BwdPre.dats m) _
    · exact KernelIdeal.Gen.W_main_arg12 m (KernelIdeal.BwdPre.dats m) _
    · exact KernelIdeal.Gen.W_main_arg13 m (KernelIdeal.BwdPre.dats m) _
    · exact KernelIdeal.Gen.W_main_arg14 m (KernelIdeal.BwdPre.dats m) _
  · have hA : ∀ c, Agree m m' c := fun c => by
      obtain ⟨h0, h1, h2, h3, h4, h5, h6, h7, h8, h9, h10, h11, h12, h13, h14⟩ := hagree c
      exact agree m m' c h0 h1 h2 h3 h4 h5 h6 h7 h8 h9 h10 h11 h12 h13 h14
    have hD : ∀ c, BwdPreMath.Finite (KernelIdeal.BwdPre.data m c) := fun c =>
      @Pre_finite.finite Cert.Pre_finite.Gen.facts _ _ _ _ _ _ _ _ _ _ _ _ _ _ _ (hpre c)
    clear hagree
    run_from (Cert.ReferenceIdeal.Value.run m' g')
    · exact gx_eq m m' _ (hA _) (hD _)
    · exact gin_eq m m' _ (hA _) (hD _)
    · exact gqnorm_eq m m' _ (hA _)
    · exact guq_eq m m' _ (hA _)
    · exact gkvnorm_eq m m' _ (hA _)
    · exact gukv_eq m m' _ (hA _)

end Cert.BwdPre
-- ==== Proof.FwdPre.Math.lean ====
module

public import proofs.«01_k».proof.Proof.BwdPre.Math

/-! The arrays of the forward call before the attention, over the entries of its arguments. -/

@[expose] public section

set_option maxRecDepth 16384

noncomputable section

namespace Cert.FwdPreMath

open Idealize.ShloMosaic Cert.Norm Cert.BwdPreMath

/-- The data of the argument arrays; the gradients that the backward call is also given do not occur here. -/
def given (x0 : FVec Ideal ⟨3, ![1, 8192, 1024]⟩ .f32) (x1 : IVec ⟨2, ![1, 8192]⟩ 32) (x2 : FVec Ideal ⟨2, ![1024, 2464]⟩ .f32)
    (x3 : FVec Ideal ⟨1, ![256]⟩ .f32) (x4 : FVec Ideal ⟨2, ![256, 768]⟩ .f32) (x5 : FVec Ideal ⟨1, ![128]⟩ .f32)
    (x6 : FVec Ideal ⟨2, ![128, 1024]⟩ .f32) : Data where
  x s k := x0 (ix3 0 s k)
  w k j := x2 (ix2 k j)
  qg j := x3 (ix1 j)
  uq j e := x4 (ix2 j e)
  kg j := x5 (ix1 j)
  uk j e := x6 (ix2 j e)
  dres _ _ := 0
  dq _ _ _ := 0
  dk _ _ _ := 0
  dv _ _ _ := 0
  gate _ _ := 0
  angle s f := FloatOps.sitofp (F := Ideal) .f32 (x1 (ix2 0 s)) * Ideal.div 1 (Ideal.pow (Ideal.ofBits .f32 0x461C4000#32)
    (Ideal.div (FloatOps.sitofp (F := Ideal) .f32 (BitVec.ofNat 32 f.val)) (Ideal.ofBits .f32 0x41800000#32)))

/-- The scale of the scores, to the base 2. -/
abbrev unit : EReal := Ideal.ofBits .f32 0x3E16C740#32

/-- The rotation of a rotary part by its sixteen angles. -/
def rot (a : Fin 16 → EReal) (u : Fin 32 → EReal) (r : Fin 32) : EReal :=
  if h : r.val < 16 then u r * Ideal.cos (a ⟨r.val, h⟩) - u ⟨16 + r.val, by omega⟩ * Ideal.sin (a ⟨r.val, h⟩)
  else u r * Ideal.cos (a ⟨r.val - 16, by omega⟩) + u ⟨r.val - 16, by omega⟩ * Ideal.sin (a ⟨r.val - 16, by omega⟩)

variable (D : Data) (s : Fin 8192)

/-- The up-projections of the normalised latents, the shared rotary key before its rotation and the gates. -/
def query (e : Fin 768) : EReal := ∑ j, nq D s j * D.qg j * D.uq j e
def keys (e : Fin 1024) : EReal := ∑ j, nkv D s j * D.kg j * D.uk j e
def shared (r : Fin 32) : EReal := ∑ k, D.x s k * D.w k ⟨384 + r.val, by omega⟩
def gates (l : Fin 2048) : EReal := ∑ k, D.x s k * D.w k ⟨416 + l.val, by omega⟩

/-- A head's query and key, lane by lane. -/
def qhead (h : Fin 8) (l : Fin 96) : EReal :=
  if l.val < 64 then query D s ⟨h.val * 96 + l.val, by omega⟩
  else rot (D.angle s) (fun r => query D s ⟨h.val * 96 + (64 + r.val), by omega⟩) ⟨l.val - 64, by omega⟩
def khead (h : Fin 8) (l : Fin 96) : EReal :=
  if l.val < 64 then keys D s ⟨h.val * 128 + l.val, by omega⟩
  else rot (D.angle s) (shared D s) ⟨l.val - 64, by omega⟩

/-- The arrays of queries, keys and values: 128 lanes a head for the first two. -/
def qarr (l : Fin 1024) : EReal := if h : l.val % 128 < 96 then qhead D s ⟨l.val / 128, by omega⟩ ⟨l.val % 128, h⟩ * unit else 0
def karr (l : Fin 1024) : EReal := if h : l.val % 128 < 96 then khead D s ⟨l.val / 128, by omega⟩ ⟨l.val % 128, h⟩ else 0
def varr (l : Fin 512) : EReal := keys D s ⟨l.val / 64 * 128 + (64 + l.val % 64), by omega⟩

/-- A head's 128 lanes turned by two moves along the lanes. -/
def turn (t c s1 s2 : Fin 128 → EReal) (l : Fin 128) : EReal :=
  t l * c l + t ⟨(l.val + 128 - 112) % 128, by omega⟩ * s1 l + t ⟨(l.val + 128 - 16) % 128, by omega⟩ * s2 l

/-- The tables of cosines and of sines with their signs, zero outside the lanes of their half. -/
structure Tables (a : Fin 16 → EReal) (c s1 s2 : Fin 128 → EReal) : Prop where
  plain : ∀ l : Fin 128, l.val < 64 → c l = 1
  lo : ∀ f : Fin 16, c ⟨64 + f.val, by omega⟩ = Ideal.cos (a f)
  hi : ∀ f : Fin 16, c ⟨80 + f.val, by omega⟩ = Ideal.cos (a f)
  minus : ∀ f : Fin 16, s1 ⟨64 + f.val, by omega⟩ = Ideal.sin (a f) * -1
  plus : ∀ f : Fin 16, s2 ⟨80 + f.val, by omega⟩ = Ideal.sin (a f)
  minus_zero : ∀ l : Fin 128, ¬ (64 ≤ l.val ∧ l.val < 80) → s1 l = 0
  plus_zero : ∀ l : Fin 128, ¬ (80 ≤ l.val ∧ l.val < 96) → s2 l = 0

/-- The turned lanes are the rotation, where the last 32 lanes are zero. -/
theorem turn_eq {a : Fin 16 → EReal} {t c s1 s2 : Fin 128 → EReal} (T : Tables a c s1 s2) (ht : ∀ l : Fin 128, 96 ≤ l.val → t l = 0)
    (l : Fin 128) : turn t c s1 s2 l = if l.val < 64 then t l else
      if h : l.val < 96 then rot a (fun r => t ⟨64 + r.val, by omega⟩) ⟨l.val - 64, by omega⟩ else 0 := by
  obtain ⟨l, hl⟩ := l
  unfold turn
  by_cases h1 : l < 64
  · rw [if_pos h1, T.plain ⟨l, hl⟩ h1, T.minus_zero ⟨l, hl⟩ (by simp only; omega), T.plus_zero ⟨l, hl⟩ (by simp only; omega)]
    simp
  rw [if_neg h1]
  by_cases h2 : l < 96
  · rw [dif_pos h2]
    unfold rot
    by_cases h3 : l < 80
    · obtain ⟨f, rfl⟩ : ∃ f : Fin 16, l = 64 + f.val := ⟨⟨l - 64, by omega⟩, by simp only; omega⟩
      have e1 : (64 + f.val + 128 - 112) % 128 = 80 + f.val := by omega
      have e2 : 64 + f.val - 64 = f.val := by omega
      rw [T.lo, T.minus, T.plus_zero _ (by simp only; omega)]
      simp only [e1, e2, dif_pos f.isLt, mul_zero, add_zero, show 64 + (16 + f.val) = 80 + f.val by omega]
      rw [mul_neg_one, mul_neg, sub_eq_add_neg]
    · obtain ⟨f, rfl⟩ : ∃ f : Fin 16, l = 80 + f.val := ⟨⟨l - 80, by omega⟩, by simp only; omega⟩
      have e1 : (80 + f.val + 128 - 16) % 128 = 64 + f.val := by omega
      have e2 : 80 + f.val - 64 = 16 + f.val := by omega
      rw [T.hi, T.plus, T.minus_zero _ (by simp only; omega)]
      simp only [e1, e2, dif_neg (show ¬ 16 + f.val < 16 by omega), mul_zero, add_zero, show 64 + (16 + f.val) = 80 + f.val by omega,
        show 16 + f.val - 16 = f.val by omega]
  · rw [dif_neg h2, ht ⟨l, hl⟩ (by simp only; omega), T.minus_zero ⟨l, hl⟩ (by simp only; omega), T.plus_zero ⟨l, hl⟩ (by simp only; omega)]
    simp

end Cert.FwdPreMath
-- ==== Proof.FwdPre.Entry.lean ====
module

public import proofs.«01_k».proof.Proof.Gen.Kernel3Ideal.Value
public import proofs.«01_k».proof.Proof.FwdPre.Math
public import proofs.«01_k».proof.Proof.Norm
public import Idealize.ShloMosaic.Lib.Pointwise

/-! What the host line of the forward call has put into the windows' arrays when the region starts. -/

@[expose] public section

set_option maxRecDepth 16384

noncomputable section

namespace Cert.Kernel3Ideal.FwdPre

open Cert.Kernel3Ideal.Gen Cert.Norm
open Idealize.ShloMosaic Idealize.ShloMosaic.TcCoe Idealize.ShloMosaic.Tactic Idealize.SL.Sem

/-- The host line's pieces and the buffers each of them writes. -/
abbrev piece : ℕ → List (HloOp τ sig (Elt Ideal))
  | 0 => hostOps0
  | 1 => hostOps0_1
  | 2 => hostOps0_2
  | 3 => hostOps0_3
  | 4 => hostOps0_4
  | 5 => hostOps0_5
  | 6 => hostOps0_6
  | 7 => hostOps0_7
  | 8 => hostOps0_8
  | 9 => hostOps0_9
  | 10 => hostOps0_10
  | 11 => hostOps0_11
  | 12 => hostOps0_12
  | _ => []
abbrev written : ℕ → List (Ref sig .tc)
  | 0 => [main_v0, main_v1, main_v2, main_cst, main_v3, main_v4, main_cst_0, main_v5, main_v6, main_v7, main_v8, main_v9, main_c]
  | 1 => [main_call0_v0, main_v10]
  | 2 => [main_v11, main_v12, main_v13, main_v14, main_v15, main_v16, main_c_1]
  | 3 => [main_call1_v0, main_v17]
  | 4 => [main_v18, main_v19, main_v20, main_v21, main_v22, main_cst_2, main_v23, main_v24, main_cst_3, main_v25, main_v26, main_cst_4, main_v27, main_v28, main_cst_5, main_v29, main_cst_6, main_v30, main_v31, main_v32, main_v33, main_c_7, main_v34, main_v35, main_c_8, main_v36, main_v37, main_v38, main_cst_9, main_cst_10]
  | 5 => [main_call2_v0, main_call2_v1, main_v39]
  | 6 => [main_v40, main_c_11, main_v41, main_v42, main_c_12, main_v43, main_v44, main_v45, main_cst_13, main_cst_14]
  | 7 => [main_call3_v0, main_call3_v1, main_v46]
  | 8 => [main_v47, main_cst_15, main_v48, main_v49, main_c_16]
  | 9 => [main_call4_v0, main_v50]
  | 10 => [main_v51, main_c_17]
  | 11 => [main_call5_v0, main_v52]
  | 12 => [main_v53, main_v54, main_v55]
  | _ => []

/-- The contents after the first `k` pieces. -/
def upto (σ : Valuation τ sig (Elt Ideal)) : ℕ → Valuation τ sig (Elt Ideal)
  | 0 => σ
  | k + 1 => StableHlo.after (piece k) (upto σ k)

theorem upto_succ (σ : Valuation τ sig (Elt Ideal)) (k : ℕ) : upto σ (k + 1) = StableHlo.after (piece k) (upto σ k) := rfl

theorem piece_writes (k : ℕ) (hk : k < 13) :
    (piece k).Forall fun op => op.writes ⊆ ((written k).map (Proc.devRef (τ := τ) .tc)).toFinset := by
  interval_cases k <;>
  · simp only [piece, written, List.Forall, StableHlo.nullary_writes, StableHlo.unary_writes, StableHlo.binary_writes, StableHlo.ternary_writes,
      StableHlo.reshape_writes, StableHlo.nary_writes, Finset.singleton_subset_iff, List.mem_toFinset]
    repeat' apply And.intro
    all_goals exact List.mem_map_of_mem (by decide)

/-- A buffer that a stretch of pieces does not write keeps its contents through it. -/
theorem upto_keep (σ : Valuation τ sig (Elt Ideal)) (r : Ref sig .tc) (k d : ℕ) (hk : k + d ≤ 13) (h : ∀ i < d, r ∉ written (k + i)) :
    upto σ (k + d) (Proc.devRef .tc r) = upto σ k (Proc.devRef .tc r) := by
  induction d with
  | zero => rfl
  | succ d ih =>
    rw [← ih (by omega) fun i hi => h i (by omega)]
    exact StableHlo.after_of_writes_sub (piece (k + d)) _ (piece_writes (k + d) (by omega)) (h d (by omega))

variable (m : (ℓ : Loc nD τ sig) → Buf (Elt Ideal) ℓ) (c : Dev nD)

/-- What the device holds at launch. -/
abbrev held : Valuation τ sig (Elt Ideal) := fun b => m (c, b)

/-- What the device holds when the call starts. -/
abbrev V0 : Valuation τ sig (Elt Ideal) := StableHlo.after (List.flatten [hostOps0, hostOps0_1, hostOps0_2, hostOps0_3, hostOps0_4, hostOps0_5, hostOps0_6, hostOps0_7, hostOps0_8, hostOps0_9, hostOps0_10, hostOps0_11, hostOps0_12]) (held m c)

theorem V0_eq : V0 m c = upto (held m c) 13 := by
  unfold V0
  simp only [List.flatten_cons, List.flatten_nil, List.append_nil, StableHlo.after_append]
  rfl

/-- A window's array is what its producing piece left. -/
theorem V_eq (r : Ref sig .tc) (k d : ℕ) (hk : k + d = 13) (h : ∀ i < d, r ∉ written (k + i)) :
    V m c r = upto (held m c) k (Proc.devRef .tc r) := by
  show V0 m c _ = _
  rw [V0_eq, ← hk]
  exact upto_keep _ r k d hk.le h

/-- An argument keeps its contents through the whole line. -/
theorem arg_eq (r : Ref sig .tc) (k : ℕ) (hk : k ≤ 13) (h : ∀ i < k, r ∉ written (0 + i)) :
    upto (held m c) k (Proc.devRef .tc r) = m (c, Proc.devRef .tc r) := by
  have := upto_keep (held m c) r 0 k (by omega) h
  rwa [Nat.zero_add] at this

/-- The arguments' data. -/
abbrev data : BwdPreMath.Data := FwdPreMath.given (m (c, Proc.tc.devRef main_arg0)) (m (c, Proc.tc.devRef main_arg1))
  (m (c, Proc.tc.devRef main_arg2)) (m (c, Proc.tc.devRef main_arg3)) (m (c, Proc.tc.devRef main_arg4)) (m (c, Proc.tc.devRef main_arg5))
  (m (c, Proc.tc.devRef main_arg6))

theorem int_zero : (show EReal from FloatOps.sitofp (F := Ideal) .bf16 0#32) = 0 := by
  show (((0#32 : BitVec 32).toInt : ℝ) : EReal) = 0
  simp

set_option maxHeartbeats 1000000 in
theorem pad_half (x : FVec Ideal S128x8x64 .bf16) (z : FVec Ideal S_ .bf16) (hz : ∀ i, (show EReal from z i) = 0) (s : Fin 128) (a : Fin 8) (b : Fin 128) : (show EReal from pad S128x8x128 ![0, 0, 0] ![0, 0, 64] ![0, 0, 0] x z pads_S128x8x64_S128x8x128_000_000_0640 h_S_ (ix3 s a b)) = if h : b.val < 64 then x (ix3 s a ⟨b.val, h⟩) else 0 := by
  pointwise
  split <;> first | rfl | exact hz _

set_option maxHeartbeats 1000000 in
theorem v0_at (s : Fin 8192) (k : Fin 1024) : (show EReal from V m c main_v0 (ix2 s k)) = (data m c).x s k := by
  rw [V_eq m c main_v0 1 12 rfl (by decide), upto_succ]
  simp only [piece, hostOps0]
  after_results_simp
  pointwise
  rfl

set_option maxHeartbeats 1000000 in
theorem v7_at (k : Fin 1024) (l : Fin 2560) : (show EReal from V m c main_v7 (ix2 k l)) =
    if h : l.val < 384 then (data m c).w k ⟨l.val, by omega⟩ else
    if l.val - 384 < 64 then 0 else
    if h : l.val - 384 - 64 < 32 then (data m c).w k ⟨384 + (l.val - 384 - 64), by omega⟩ else
    if l.val - 384 - 64 - 32 < 32 then 0 else (data m c).w k ⟨416 + (l.val - 384 - 64 - 32 - 32), by omega⟩ := by
  rw [V_eq m c main_v7 1 12 rfl (by decide), upto_succ]
  simp only [piece, hostOps0]
  after_results_simp
  pointwise
  after_results_simp
  pointwise
  rfl

set_option maxHeartbeats 1000000 in
theorem v11_at (j : Fin 256) (l : Fin 1024) : (show EReal from V m c main_v11 (ix2 j l)) = if h : l.val % 128 < 96 then (data m c).uq j ⟨l.val / 128 * 96 + l.val % 128, by omega⟩ else 0 := by
  rw [V_eq m c main_v11 3 10 rfl (by decide), upto_succ]
  simp only [piece, hostOps0_2]
  after_results_simp
  pointwise
  rw [show upto (held m c) 2 = _ from upto_succ (held m c) 1]
  simp only [piece, hostOps0_1]
  after_results_simp
  rw [show upto (held m c) 1 = _ from upto_succ (held m c) 0]
  simp only [piece, hostOps0]
  after_results_simp
  simp only [StableHlo.TRef.ofBuf_toBuf]
  pointwise [StableHlo.TRef.ofBuf, StableHlo.TRef.toBuf, StableHlo.TRef.of, cast_eq]
  by_cases h : l.val % 128 < 96
  · have h1 : l.val / 128 < 8 ∧ l.val % 128 < 96 := by omega
    simp only [dif_pos h, dif_pos h1]
    exact congrFun (arg_eq m c main_arg4 0 (by decide) (by decide)) _
  · have h1 : ¬ (l.val / 128 < 8 ∧ l.val % 128 < 96) := by omega
    simp only [dif_neg h, dif_neg h1]
    exact int_zero

set_option maxHeartbeats 1000000 in
theorem v21_key (j : Fin 128) (l : Fin 1024) : (show EReal from V m c main_v21 (ix2 j ⟨l.val, by omega⟩)) = if l.val % 128 < 64 then (data m c).uk j l else 0 := by
  rw [V_eq m c main_v21 5 8 rfl (by decide), upto_succ]
  simp only [piece, hostOps0_4]
  after_results_simp
  pointwise
  refine (congrFun (congrFun (upto_succ (held m c) 3) _) _).trans ?_
  simp only [piece, hostOps0_3]
  after_results_simp
  simp only [StableHlo.TRef.ofBuf_toBuf]
  pointwise [StableHlo.TRef.ofBuf, StableHlo.TRef.toBuf, StableHlo.TRef.of]
  simp only [cast_eq]
  refine (pad_half _ _ (fun _ => int_zero) _ _ _).trans ?_
  by_cases h : l.val % 128 < 64
  · simp only [dif_pos h, if_pos h]
    refine (congrFun (congrFun (upto_succ (held m c) 2) _) _).trans ?_
    simp only [piece, hostOps0_2]
    after_results_simp
    pointwise
    refine (congrFun (arg_eq m c main_arg6 2 (by decide) (by decide)) _).trans ?_
    refine congrArg (m (c, Proc.tc.devRef main_arg6)) (congrArg (ix2 j) (Fin.ext ?_))
    show l.val / 128 * 128 + l.val % 128 = l.val; omega
  · simp only [dif_neg h, if_neg h]

set_option maxHeartbeats 1000000 in
theorem v21_value (j : Fin 128) (l : Fin 512) : (show EReal from V m c main_v21 (ix2 j ⟨1024 + l.val, by omega⟩)) = (data m c).uk j ⟨l.val / 64 * 128 + (64 + l.val % 64), by omega⟩ := by
  rw [V_eq m c main_v21 5 8 rfl (by decide), upto_succ]
  simp only [piece, hostOps0_4]
  after_results_simp
  pointwise
  refine (congrFun (show upto (held m c) 4 (Proc.devRef .tc main_v13) = upto (held m c) 3 (Proc.devRef .tc main_v13) from upto_keep _ main_v13 3 1 (by decide) (by decide)) _).trans ?_
  refine (congrFun (congrFun (upto_succ (held m c) 2) _) _).trans ?_
  simp only [piece, hostOps0_2]
  after_results_simp
  pointwise
  rw [arg_eq m c main_arg6 2 (by decide) (by decide)]
  first | rfl | done

set_option maxHeartbeats 1000000 in
theorem v55_at (s : Fin 8192) : (show BitVec 32 from V m c main_v55 (ix2 s 0)) = m (c, Proc.tc.devRef main_arg1) (ix2 0 s) := by
  rw [V_eq m c main_v55 13 0 rfl (by decide), upto_succ]
  simp only [piece, hostOps0_12]
  after_results_simp
  pointwise
  rw [arg_eq m c main_arg1 12 (by decide) (by decide)]
  first | rfl | done

set_option maxHeartbeats 1000000 in
theorem v54_0 (j : Fin 256) : (show EReal from V m c main_v54 (ix2 0 ⟨j.val, by omega⟩)) = (data m c).qg j := by
  rw [V_eq m c main_v54 13 0 rfl (by decide), upto_succ]
  simp only [piece, hostOps0_12]
  after_results_simp
  pointwise
  refine (congrFun (show upto (held m c) 12 (Proc.devRef .tc main_v50) = upto (held m c) 10 (Proc.devRef .tc main_v50) from upto_keep _ main_v50 10 2 (by decide) (by decide)) _).trans ?_
  rw [show upto (held m c) 10 = _ from upto_succ (held m c) 9]
  simp only [piece, hostOps0_9]
  after_results_simp
  rw [show upto (held m c) 9 = _ from upto_succ (held m c) 8]
  simp only [piece, hostOps0_8]
  after_results_simp
  simp only [StableHlo.TRef.ofBuf_toBuf]
  pointwise [StableHlo.TRef.ofBuf, StableHlo.TRef.toBuf, StableHlo.TRef.of, cast_eq]
  rw [arg_eq m c main_arg3 8 (by decide) (by decide)]
  first | rfl | done

set_option maxHeartbeats 1000000 in
theorem v54_1 (j : Fin 128) : (show EReal from V m c main_v54 (ix2 1 ⟨j.val, by omega⟩)) = (data m c).kg j := by
  rw [V_eq m c main_v54 13 0 rfl (by decide), upto_succ]
  simp only [piece, hostOps0_12]
  after_results_simp
  pointwise
  rw [show upto (held m c) 12 = _ from upto_succ (held m c) 11]
  simp only [piece, hostOps0_11]
  after_results_simp
  rw [show upto (held m c) 11 = _ from upto_succ (held m c) 10]
  simp only [piece, hostOps0_10]
  after_results_simp
  simp only [StableHlo.TRef.ofBuf_toBuf]
  pointwise [StableHlo.TRef.ofBuf, StableHlo.TRef.toBuf, StableHlo.TRef.of, cast_eq]
  rw [arg_eq m c main_arg5 10 (by decide) (by decide)]
  first | rfl | done

set_option maxHeartbeats 1000000 in
theorem v54_5 (l : Fin 128) : (show EReal from V m c main_v54 (ix2 5 ⟨l.val, by omega⟩)) = if 64 ≤ l.val ∧ l.val < 80 then -1 else 0 := by
  rw [V_eq m c main_v54 13 0 rfl (by decide), upto_succ]
  simp only [piece, hostOps0_12]
  after_results_simp
  pointwise
  refine (congrFun (show upto (held m c) 12 (Proc.devRef .tc main_v40) = upto (held m c) 7 (Proc.devRef .tc main_v40) from upto_keep _ main_v40 7 5 (by decide) (by decide)) _).trans ?_
  rw [show upto (held m c) 7 = _ from upto_succ (held m c) 6]
  simp only [piece, hostOps0_6]
  after_results_simp
  pointwise
  rw [show upto (held m c) 6 = _ from upto_succ (held m c) 5]
  simp only [piece, hostOps0_5]
  after_results_simp
  rw [show upto (held m c) 5 = _ from upto_succ (held m c) 4]
  simp only [piece, hostOps0_4]
  after_results_simp
  simp only [StableHlo.TRef.ofBuf_toBuf]
  pointwise [StableHlo.TRef.ofBuf, StableHlo.TRef.toBuf, StableHlo.TRef.of, cast_eq]
  simp only [id]
  pointwise
  have key : ∀ l : Fin 128, IntOp.andi (IntOp.cmpi .sge (BitVec.ofNat 32 l.val) 64#32) (IntOp.cmpi .slt (BitVec.ofNat 32 l.val) 80#32) = if 64 ≤ l.val ∧ l.val < 80 then 1#1 else 0#1 := by decide +kernel
  rw [key l]
  split <;> simp [Scalar.select, Norm.neg_one_eq]

set_option maxHeartbeats 1000000 in
theorem v54_6 (l : Fin 128) : (show EReal from V m c main_v54 (ix2 6 ⟨l.val, by omega⟩)) = if 80 ≤ l.val ∧ l.val < 96 then 1 else 0 := by
  rw [V_eq m c main_v54 13 0 rfl (by decide), upto_succ]
  simp only [piece, hostOps0_12]
  after_results_simp
  pointwise
  refine (congrFun (show upto (held m c) 12 (Proc.devRef .tc main_v47) = upto (held m c) 9 (Proc.devRef .tc main_v47) from upto_keep _ main_v47 9 3 (by decide) (by decide)) _).trans ?_
  rw [show upto (held m c) 9 = _ from upto_succ (held m c) 8]
  simp only [piece, hostOps0_8]
  after_results_simp
  pointwise
  rw [show upto (held m c) 8 = _ from upto_succ (held m c) 7]
  simp only [piece, hostOps0_7]
  after_results_simp
  rw [show upto (held m c) 7 = _ from upto_succ (held m c) 6]
  simp only [piece, hostOps0_6]
  after_results_simp
  rw [show upto (held m c) 6 (Proc.devRef .tc main_v33) = upto (held m c) 5 (Proc.devRef .tc main_v33) from upto_keep _ main_v33 5 1 (by decide) (by decide)]
  rw [show upto (held m c) 5 = _ from upto_succ (held m c) 4]
  simp only [piece, hostOps0_4]
  after_results_simp
  simp only [StableHlo.TRef.ofBuf_toBuf]
  pointwise [StableHlo.TRef.ofBuf, StableHlo.TRef.toBuf, StableHlo.TRef.of, cast_eq]
  simp only [id]
  pointwise
  have key : ∀ l : Fin 128, IntOp.andi (IntOp.cmpi .sge (BitVec.ofNat 32 l.val) 80#32) (IntOp.cmpi .slt (BitVec.ofNat 32 l.val) 96#32) = if 80 ≤ l.val ∧ l.val < 96 then 1#1 else 0#1 := by decide +kernel
  rw [key l]
  split <;> simp [Scalar.select]

/-- The rotary frequency of a lane. -/
def freq (f : Fin 16) : EReal := Ideal.div 1 (Ideal.pow (Ideal.ofBits .f32 0x461C4000#32) (Ideal.div (FloatOps.sitofp (F := Ideal) .f32 (BitVec.ofNat 32 f.val)) (Ideal.ofBits .f32 0x41800000#32)))

set_option maxHeartbeats 1000000 in
theorem v54_4 (l : Fin 128) (h : l.val < 64) : (show EReal from V m c main_v54 (ix2 4 ⟨l.val, by omega⟩)) = 0 := by
  rw [V_eq m c main_v54 13 0 rfl (by decide), upto_succ]
  simp only [piece, hostOps0_12]
  after_results_simp
  pointwise
  refine (congrFun (show upto (held m c) 12 (Proc.devRef .tc main_v31) = upto (held m c) 5 (Proc.devRef .tc main_v31) from upto_keep _ main_v31 5 7 (by decide) (by decide)) _).trans ?_
  rw [show upto (held m c) 5 = _ from upto_succ (held m c) 4]
  simp only [piece, hostOps0_4]
  after_results_simp
  pointwise
  rw [dif_pos h]
  after_results_simp
  pointwise

set_option maxHeartbeats 1000000 in
theorem v54_4_lo (f : Fin 16) : (show EReal from V m c main_v54 (ix2 4 ⟨64 + f.val, by omega⟩)) = freq f := by
  rw [V_eq m c main_v54 13 0 rfl (by decide), upto_succ]
  simp only [piece, hostOps0_12]
  after_results_simp
  pointwise
  refine (congrFun (show upto (held m c) 12 (Proc.devRef .tc main_v31) = upto (held m c) 5 (Proc.devRef .tc main_v31) from upto_keep _ main_v31 5 7 (by decide) (by decide)) _).trans ?_
  rw [show upto (held m c) 5 = _ from upto_succ (held m c) 4]
  simp only [piece, hostOps0_4]
  after_results_simp
  pointwise
  after_results_simp
  pointwise
  rfl

set_option maxHeartbeats 1000000 in
theorem v54_4_hi (f : Fin 16) : (show EReal from V m c main_v54 (ix2 4 ⟨80 + f.val, by omega⟩)) = freq f := by
  rw [V_eq m c main_v54 13 0 rfl (by decide), upto_succ]
  simp only [piece, hostOps0_12]
  after_results_simp
  pointwise
  refine (congrFun (show upto (held m c) 12 (Proc.devRef .tc main_v31) = upto (held m c) 5 (Proc.devRef .tc main_v31) from upto_keep _ main_v31 5 7 (by decide) (by decide)) _).trans ?_
  rw [show upto (held m c) 5 = _ from upto_succ (held m c) 4]
  simp only [piece, hostOps0_4]
  after_results_simp
  pointwise
  have h1 : ¬ 80 + f.val < 64 := by omega
  have h2 : ¬ 80 + f.val - 64 < 16 := by omega
  have h3 : 80 + f.val - 64 - 16 < 16 := by omega
  have h4 : 80 + f.val - 64 - 16 = f.val := by omega
  simp only [dif_neg h1, dif_neg h2, dif_pos h3, h4, dif_pos f.isLt]
  after_results_simp
  pointwise
  rfl

end Cert.Kernel3Ideal.FwdPre
-- ==== Proof.FwdPre.Pay.lean ====
module

public import proofs.«01_k».proof.Proof.Gen.Kernel3Ideal.Value
public import proofs.«01_k».proof.Proof.FwdPre.Math
public import Idealize.ShloMosaic.Lib.Pointwise

/-! What one point of the forward call computes, in the problem's own terms: its blocks hold 1024 rows of the data, the weights in padded layouts. -/

@[expose] public section

set_option maxRecDepth 16384

noncomputable section

namespace Cert.Kernel3Ideal.FwdPre

open Cert.Kernel3Ideal.Gen Cert.Norm
open Idealize.ShloMosaic Idealize.ShloMosaic.TcCoe Idealize.ShloMosaic.Tactic Idealize.SL.Sem

/-- The blocks hold the rows `ρ` of the data `D`. -/
structure Blocks (D : BwdPreMath.Data) (ρ : Fin 1024 → Fin 8192) (x0 : Vec Ideal S1024x1024 .f32) (x1 : Vec Ideal S1024x1 .i32)
    (x2 : Vec Ideal S1024x2560 .bf16) (x3 : Vec Ideal S256x1024 .bf16) (x4 : Vec Ideal S128x1536 .bf16) (x5 : Vec Ideal S16x1024 .f32) : Prop where
  x : ∀ (i : Fin 1024) (k : Fin 1024), (show EReal from x0 (ix2 i k)) = D.x (ρ i) k
  win : ∀ (k : Fin 1024) (l : Fin 2560), (show EReal from x2 (ix2 k l)) =
    if h : l.val < 384 then D.w k ⟨l.val, by omega⟩ else
    if l.val - 384 < 64 then 0 else
    if h : l.val - 384 - 64 < 32 then D.w k ⟨384 + (l.val - 384 - 64), by omega⟩ else
    if l.val - 384 - 64 - 32 < 32 then 0 else D.w k ⟨416 + (l.val - 384 - 64 - 32 - 32), by omega⟩
  wuq : ∀ (j : Fin 256) (l : Fin 1024), (show EReal from x3 (ix2 j l)) =
    if h : l.val % 128 < 96 then D.uq j ⟨l.val / 128 * 96 + l.val % 128, by omega⟩ else 0
  key : ∀ (j : Fin 128) (l : Fin 1024), (show EReal from x4 (ix2 j ⟨l.val, by omega⟩)) = if l.val % 128 < 64 then D.uk j l else 0
  value : ∀ (j : Fin 128) (l : Fin 512), (show EReal from x4 (ix2 j ⟨1024 + l.val, by omega⟩)) =
    D.uk j ⟨l.val / 64 * 128 + (64 + l.val % 64), by omega⟩
  qg : ∀ j : Fin 256, (show EReal from x5 (ix2 0 ⟨j.val, by omega⟩)) = D.qg j
  kg : ∀ j : Fin 128, (show EReal from x5 (ix2 1 ⟨j.val, by omega⟩)) = D.kg j
  sign1 : ∀ l : Fin 128, (show EReal from x5 (ix2 5 ⟨l.val, by omega⟩)) = if 64 ≤ l.val ∧ l.val < 80 then -1 else 0
  sign2 : ∀ l : Fin 128, (show EReal from x5 (ix2 6 ⟨l.val, by omega⟩)) = if 80 ≤ l.val ∧ l.val < 96 then 1 else 0
  still : ∀ l : Fin 128, l.val < 64 → (show EReal from x5 (ix2 4 ⟨l.val, by omega⟩)) = 0
  lo : ∀ (i : Fin 1024) (f : Fin 16), FloatOps.sitofp (F := Ideal) .f32 (show BitVec 32 from x1 (ix2 i 0)) * (show EReal from x5 (ix2 4 ⟨64 + f.val, by omega⟩)) = D.angle (ρ i) f
  hi : ∀ (i : Fin 1024) (f : Fin 16), FloatOps.sitofp (F := Ideal) .f32 (show BitVec 32 from x1 (ix2 i 0)) * (show EReal from x5 (ix2 4 ⟨80 + f.val, by omega⟩)) = D.angle (ρ i) f

namespace Blocks

variable {D : BwdPreMath.Data} {ρ : Fin 1024 → Fin 8192} {x0 : Vec Ideal S1024x1024 .f32} {x1 : Vec Ideal S1024x1 .i32}
  {x2 : Vec Ideal S1024x2560 .bf16} {x3 : Vec Ideal S256x1024 .bf16} {x4 : Vec Ideal S128x1536 .bf16} {x5 : Vec Ideal S16x1024 .f32}
  (B : Blocks D ρ x0 x1 x2 x3 x4 x5) (i : Fin 1024)
include B

set_option maxHeartbeats 1000000 in
theorem cq (j : Fin 256) : (show EReal from k0_pay9 (View.ld x0 r0_0) (View.ld x2 r0_1) (ix2 i j)) = BwdPreMath.cq D (ρ i) j := by
  pointwise [k0_pay9, k0_pay8, k0_pay7]
  refine Finset.sum_congr rfl fun k _ => congrArg₂ (· * ·) (B.x i k) ((B.win k ⟨j.val, by omega⟩).trans ?_)
  exact dif_pos (show j.val < 384 by omega)

set_option maxHeartbeats 1000000 in
theorem ckv (j : Fin 128) : (show EReal from k0_pay10 (View.ld x0 r0_0) (View.ld x2 r0_1) (ix2 i j)) = BwdPreMath.ckv D (ρ i) j := by
  pointwise [k0_pay10, k0_pay8, k0_pay7]
  refine Finset.sum_congr rfl fun k _ => congrArg₂ (· * ·) (B.x i k) ((B.win k ⟨256 + j.val, by omega⟩).trans ?_)
  exact dif_pos (show 256 + j.val < 384 by omega)

/-- The lanes of the shared key before its rotation. -/
def lanes (D : BwdPreMath.Data) (s : Fin 8192) (l : Fin 128) : EReal :=
  if h : 64 ≤ l.val ∧ l.val < 96 then FwdPreMath.shared D s ⟨l.val - 64, by omega⟩ else 0

set_option maxHeartbeats 1000000 in
theorem kr (l : Fin 128) : (show EReal from k0_pay11 (View.ld x0 r0_0) (View.ld x2 r0_1) (ix2 i l)) = lanes D (ρ i) l := by
  pointwise [k0_pay11, k0_pay8, k0_pay7]
  unfold lanes
  by_cases h : 64 ≤ l.val ∧ l.val < 96
  · rw [dif_pos h]
    refine Finset.sum_congr rfl fun k _ => congrArg₂ (· * ·) (B.x i k) ((B.win k ⟨384 + l.val, by omega⟩).trans ?_)
    simp only [dif_neg (show ¬ 384 + l.val < 384 by omega), if_neg (show ¬ 384 + l.val - 384 < 64 by omega),
      dif_pos (show 384 + l.val - 384 - 64 < 32 by omega)]
    exact congrArg (D.w k) (Fin.ext (show 384 + (384 + l.val - 384 - 64) = 384 + (l.val - 64) by omega))
  · rw [dif_neg h]
    refine Finset.sum_eq_zero fun k _ => (congrArg₂ (· * ·) rfl ((B.win k ⟨384 + l.val, by omega⟩).trans ?_)).trans (mul_zero (show EReal from x0 (ix2 i k)))
    simp only [dif_neg (show ¬ 384 + l.val < 384 by omega)]
    by_cases h2 : l.val < 64
    · rw [if_pos (show 384 + l.val - 384 < 64 by omega)]
    · rw [if_neg (show ¬ 384 + l.val - 384 < 64 by omega), dif_neg (show ¬ 384 + l.val - 384 - 64 < 32 by omega),
        if_pos (show 384 + l.val - 384 - 64 - 32 < 32 by omega)]

set_option maxHeartbeats 1000000 in
theorem gate (l : Fin 2048) : (show EReal from k0_pay6 (k0_pay7 (View.ld x0 r0_0)) (View.ld x2 r0_25) (ix2 i l)) = FwdPreMath.gates D (ρ i) l := by
  pointwise [k0_pay6, k0_pay7]
  refine Finset.sum_congr rfl fun k _ => congrArg₂ (· * ·) (B.x i k) ((B.win k ⟨512 + l.val, by omega⟩).trans ?_)
  simp only [dif_neg (show ¬ 512 + l.val < 384 by omega), if_neg (show ¬ 512 + l.val - 384 < 64 by omega),
    dif_neg (show ¬ 512 + l.val - 384 - 64 < 32 by omega), if_neg (show ¬ 512 + l.val - 384 - 64 - 32 < 32 by omega)]
  exact congrArg (D.w k) (Fin.ext (show 416 + (512 + l.val - 384 - 64 - 32 - 32) = 416 + l.val by omega))

set_option maxHeartbeats 1000000 in
/-- The up-projected queries, 128 lanes a head. -/
theorem up (e : Fin 1024) : (show EReal from k0_pay46 x0 x1 x2 x3 x4 x5 (ix2 i e)) =
    if h : e.val % 128 < 96 then FwdPreMath.query D (ρ i) ⟨e.val / 128 * 96 + e.val % 128, by omega⟩ else 0 := by
  have hq : ∀ k : Fin 256, (show EReal from k0_pay41 x0 x1 x2 x3 x4 x5 (ix2 i k)) = BwdPreMath.cq D (ρ i) k := B.cq i
  have hs : (show EReal from k0_pay45 x0 x1 x2 x3 x4 x5 (ix1 i)) = ∑ k : Fin 256, BwdPreMath.cq D (ρ i) k * BwdPreMath.cq D (ρ i) k := by
    pointwise [k0_pay45, k0_pay17]
    exact Finset.sum_congr rfl fun k _ => congrArg₂ (· * ·) (B.cq i k) (B.cq i k)
  have key : (show EReal from k0_pay46 x0 x1 x2 x3 x4 x5 (ix2 i e)) = ∑ j : Fin 256, BwdPreMath.nq D (ρ i) j * D.qg j * (show EReal from x3 (ix2 j e)) := by
    pointwise [k0_pay46, k0_pay18]
    refine Finset.sum_congr rfl fun j _ => congrArg₂ (· * ·) (congrArg₂ (· * ·) (congrArg₂ (· * ·) (hq j) ?_) (B.qg j)) rfl
    exact congrArg (fun s => Ideal.rsqrt (Ideal.div s BwdPreMath.wide + eps)) hs
  rw [key]
  by_cases h : e.val % 128 < 96
  · rw [dif_pos h]
    exact Finset.sum_congr rfl fun j _ => congrArg₂ (· * ·) rfl ((B.wuq j e).trans (dif_pos h))
  · rw [dif_neg h]
    exact Finset.sum_eq_zero fun j _ => (congrArg₂ (· * ·) rfl ((B.wuq j e).trans (dif_neg h))).trans (mul_zero _)

set_option maxHeartbeats 1000000 in
theorem kv_sum (e : Fin 1536) : (show EReal from k0_pay47 x0 x1 x2 x3 x4 x5 (ix2 i e)) =
    ∑ j : Fin 128, BwdPreMath.nkv D (ρ i) j * D.kg j * (show EReal from x4 (ix2 j e)) := by
  have hs : ∑ k : Fin 128, (show EReal from k0_pay10 (View.ld x0 r0_0) (View.ld x2 r0_1) (ix2 i k)) * (show EReal from k0_pay10 (View.ld x0 r0_0) (View.ld x2 r0_1) (ix2 i k))
      = ∑ k : Fin 128, BwdPreMath.ckv D (ρ i) k * BwdPreMath.ckv D (ρ i) k :=
    Finset.sum_congr rfl fun k _ => congrArg₂ (· * ·) (B.ckv i k) (B.ckv i k)
  pointwise [k0_pay47, k0_pay19]
  refine Finset.sum_congr rfl fun j _ => congrArg₂ (· * ·) (congrArg₂ (· * ·) (congrArg₂ (· * ·) (B.ckv i j) ?_) (B.kg j)) rfl
  exact congrArg (fun s => Ideal.rsqrt (Ideal.div s BwdPreMath.narrow + eps)) hs

theorem kv_key (e : Fin 1024) : (show EReal from k0_pay47 x0 x1 x2 x3 x4 x5 (ix2 i ⟨e.val, by omega⟩)) =
    if e.val % 128 < 64 then FwdPreMath.keys D (ρ i) e else 0 := by
  rw [B.kv_sum]
  by_cases h : e.val % 128 < 64
  · rw [if_pos h]
    exact Finset.sum_congr rfl fun j _ => congrArg₂ (· * ·) rfl ((B.key j e).trans (if_pos h))
  · rw [if_neg h]
    exact Finset.sum_eq_zero fun j _ => (congrArg₂ (· * ·) rfl ((B.key j e).trans (if_neg h))).trans (mul_zero _)

theorem kv_value (e : Fin 512) : (show EReal from k0_pay47 x0 x1 x2 x3 x4 x5 (ix2 i ⟨1024 + e.val, by omega⟩)) = FwdPreMath.varr D (ρ i) e := by
  rw [B.kv_sum]
  exact Finset.sum_congr rfl fun j _ => congrArg₂ (· * ·) rfl (B.value j e)

set_option maxHeartbeats 1000000 in
/-- The point's tables of cosines and sines. -/
theorem tables : FwdPreMath.Tables (D.angle (ρ i)) (fun l => (show EReal from k0_pay42 x0 x1 x2 x3 x4 x5 (ix2 i l)))
    (fun l => (show EReal from k0_pay43 x0 x1 x2 x3 x4 x5 (ix2 i l))) (fun l => (show EReal from k0_pay44 x0 x1 x2 x3 x4 x5 (ix2 i l))) := by
  have hc : ∀ l : Fin 128, (show EReal from k0_pay42 x0 x1 x2 x3 x4 x5 (ix2 i l)) =
      Ideal.cos (FloatOps.sitofp (F := Ideal) .f32 (show BitVec 32 from x1 (ix2 i 0)) * (show EReal from x5 (ix2 4 ⟨l.val, by omega⟩))) := fun l => by
    pointwise [k0_pay42, k0_pay13, k0_pay12]
    first | rfl | done
  have h1 : ∀ l : Fin 128, (show EReal from k0_pay43 x0 x1 x2 x3 x4 x5 (ix2 i l)) =
      Ideal.sin (FloatOps.sitofp (F := Ideal) .f32 (show BitVec 32 from x1 (ix2 i 0)) * (show EReal from x5 (ix2 4 ⟨l.val, by omega⟩))) * (show EReal from x5 (ix2 5 ⟨l.val, by omega⟩)) := fun l => by
    pointwise [k0_pay43, k0_pay15, k0_pay14, k0_pay12]
    first | rfl | done
  have h2 : ∀ l : Fin 128, (show EReal from k0_pay44 x0 x1 x2 x3 x4 x5 (ix2 i l)) =
      Ideal.sin (FloatOps.sitofp (F := Ideal) .f32 (show BitVec 32 from x1 (ix2 i 0)) * (show EReal from x5 (ix2 4 ⟨l.val, by omega⟩))) * (show EReal from x5 (ix2 6 ⟨l.val, by omega⟩)) := fun l => by
    pointwise [k0_pay44, k0_pay16, k0_pay14, k0_pay12]
    first | rfl | done
  refine ⟨fun l h => (hc l).trans ?_, fun f => (hc _).trans (congrArg Ideal.cos (B.lo i f)), fun f => (hc _).trans (congrArg Ideal.cos (B.hi i f)),
    fun f => (h1 _).trans (congrArg₂ (· * ·) (congrArg Ideal.sin (B.lo i f)) ((B.sign1 ⟨64 + f.val, by omega⟩).trans (if_pos ⟨by simp only; omega, by simp only; omega⟩))),
    fun f => (h2 _).trans ((congrArg₂ (· * ·) (congrArg Ideal.sin (B.hi i f)) ((B.sign2 ⟨80 + f.val, by omega⟩).trans (if_pos ⟨by simp only; omega, by simp only; omega⟩))).trans (mul_one _)),
    fun l h => (h1 _).trans ((congrArg₂ (· * ·) rfl ((B.sign1 l).trans (if_neg h))).trans (mul_zero _)),
    fun l h => (h2 _).trans ((congrArg₂ (· * ·) rfl ((B.sign2 l).trans (if_neg h))).trans (mul_zero _))⟩
  refine (congrArg (fun e => Ideal.cos (FloatOps.sitofp (F := Ideal) .f32 (show BitVec 32 from x1 (ix2 i 0)) * e)) (B.still l h)).trans ?_
  refine (congrArg Ideal.cos (mul_zero _)).trans ?_
  show ((Real.cos 0 : ℝ) : EReal) = 1
  rw [Real.cos_zero]
  rfl

/-- The shared key's lanes after their rotation. -/
theorem krr (l : Fin 128) : (show EReal from k0_pay48 x0 x1 x2 x3 x4 x5 (ix2 i l)) =
    if h : 64 ≤ l.val ∧ l.val < 96 then FwdPreMath.rot (D.angle (ρ i)) (FwdPreMath.shared D (ρ i)) ⟨l.val - 64, by omega⟩ else 0 := by
  have e : (show EReal from k0_pay48 x0 x1 x2 x3 x4 x5 (ix2 i l)) = FwdPreMath.turn (lanes D (ρ i)) (fun l => (show EReal from k0_pay42 x0 x1 x2 x3 x4 x5 (ix2 i l)))
      (fun l => (show EReal from k0_pay43 x0 x1 x2 x3 x4 x5 (ix2 i l))) (fun l => (show EReal from k0_pay44 x0 x1 x2 x3 x4 x5 (ix2 i l))) l := by
    rw [← show (fun l => (show EReal from k0_pay11 (View.ld x0 r0_0) (View.ld x2 r0_1) (ix2 i l))) = lanes D (ρ i) from funext (B.kr i)]
    unfold FwdPreMath.turn
    pointwise [k0_pay48, k0_pay20]
    first | rfl | done
  rw [e, FwdPreMath.turn_eq (B.tables i) fun l hl => dif_neg (by omega)]
  have hl : ∀ r : Fin 32, lanes D (ρ i) ⟨64 + r.val, by omega⟩ = FwdPreMath.shared D (ρ i) r := fun r =>
    (dif_pos (show 64 ≤ 64 + r.val ∧ 64 + r.val < 96 by omega)).trans (congrArg _ (Fin.ext (show 64 + r.val - 64 = r.val by omega)))
  simp only [hl]
  by_cases h1 : l.val < 64
  · rw [if_pos h1, dif_neg (by omega)]
    exact dif_neg (by omega)
  · rw [if_neg h1]
    by_cases h2 : l.val < 96
    · rw [dif_pos h2, dif_pos ⟨by omega, h2⟩]
    · rw [dif_neg h2, dif_neg (by omega)]

/-- A head's lanes of the queries, turned and scaled. -/
theorem turned (h : Fin 8) (l : Fin 128) :
    FwdPreMath.turn (fun l => (show EReal from k0_pay46 x0 x1 x2 x3 x4 x5 (ix2 i ⟨128 * h.val + l.val, by omega⟩))) (fun l => (show EReal from k0_pay42 x0 x1 x2 x3 x4 x5 (ix2 i l)))
      (fun l => (show EReal from k0_pay43 x0 x1 x2 x3 x4 x5 (ix2 i l))) (fun l => (show EReal from k0_pay44 x0 x1 x2 x3 x4 x5 (ix2 i l))) l * FwdPreMath.unit =
    FwdPreMath.qarr D (ρ i) ⟨128 * h.val + l.val, by omega⟩ := by
  have e1 : (128 * h.val + l.val) % 128 = l.val := by omega
  have e2 : (128 * h.val + l.val) / 128 = h.val := by omega
  have hup : ∀ (l : Fin 128) (hl : l.val < 96), (show EReal from k0_pay46 x0 x1 x2 x3 x4 x5 (ix2 i ⟨128 * h.val + l.val, by omega⟩)) =
      FwdPreMath.query D (ρ i) ⟨h.val * 96 + l.val, by omega⟩ := fun l hl => by
    refine (B.up i _).trans ((dif_pos (show (128 * h.val + l.val) % 128 < 96 by omega)).trans (congrArg _ (Fin.ext ?_)))
    show (128 * h.val + l.val) / 128 * 96 + (128 * h.val + l.val) % 128 = h.val * 96 + l.val
    omega
  rw [FwdPreMath.turn_eq (B.tables i) fun l hl => (B.up i _).trans (dif_neg (show ¬ (128 * h.val + l.val) % 128 < 96 by omega))]
  unfold FwdPreMath.qarr FwdPreMath.qhead
  simp only [e1, e2]
  by_cases h1 : l.val < 64
  · rw [if_pos h1, dif_pos (show l.val < 96 by omega), if_pos h1]
    exact congrArg (· * FwdPreMath.unit) (hup l (by omega))
  · rw [if_neg h1]
    by_cases h2 : l.val < 96
    · rw [dif_pos h2, dif_pos h2, if_neg h1]
      refine congrArg (fun u => FwdPreMath.rot (D.angle (ρ i)) u ⟨l.val - 64, by omega⟩ * FwdPreMath.unit) (funext fun r => hup ⟨64 + r.val, by omega⟩ (by simp only; omega))
    · rw [dif_neg h2, dif_neg h2, zero_mul]

/-- A head's lanes of the keys. -/
theorem joined (h : Fin 8) (l : Fin 128) :
    (show EReal from k0_pay47 x0 x1 x2 x3 x4 x5 (ix2 i ⟨128 * h.val + l.val, by omega⟩)) + (show EReal from k0_pay48 x0 x1 x2 x3 x4 x5 (ix2 i l)) =
    FwdPreMath.karr D (ρ i) ⟨128 * h.val + l.val, by omega⟩ := by
  have e1 : (128 * h.val + l.val) % 128 = l.val := by omega
  have e2 : (128 * h.val + l.val) / 128 = h.val := by omega
  refine (congrArg₂ (· + ·) (B.kv_key i ⟨128 * h.val + l.val, by omega⟩) (B.krr i l)).trans ?_
  unfold FwdPreMath.karr FwdPreMath.khead
  simp only [e1, e2]
  by_cases h1 : l.val < 64
  · rw [if_pos h1, dif_neg (by omega), dif_pos (by omega), if_pos h1, add_zero]
    exact congrArg _ (Fin.ext (show 128 * h.val + l.val = h.val * 128 + l.val by omega))
  · rw [if_neg h1, zero_add]
    by_cases h2 : l.val < 96
    · rw [dif_pos ⟨by omega, h2⟩, dif_pos h2, if_neg h1]
    · rw [dif_neg (by omega), dif_neg h2]

end Blocks

end Cert.Kernel3Ideal.FwdPre
-- ==== Proof.FwdPre.Out.lean ====
module

public import proofs.«01_k».proof.Proof.FwdPre.Pay

/-! The blocks that one point of the forward call leaves in its outputs. -/

@[expose] public section

set_option maxRecDepth 16384

noncomputable section

namespace Cert.Kernel3Ideal.FwdPre

open Cert.Kernel3Ideal.Gen Cert.Norm
open Idealize.ShloMosaic Idealize.ShloMosaic.TcCoe Idealize.ShloMosaic.Tactic Idealize.SL.Sem

variable {D : BwdPreMath.Data} {ρ : Fin 1024 → Fin 8192} {x0 : Vec Ideal S1024x1024 .f32} {x1 : Vec Ideal S1024x1 .i32}
  {x2 : Vec Ideal S1024x2560 .bf16} {x3 : Vec Ideal S256x1024 .bf16} {x4 : Vec Ideal S128x1536 .bf16} {x5 : Vec Ideal S16x1024 .f32}

/-- A head's lanes of the queries as the point computes them. -/
abbrev lane (x0 : Vec Ideal S1024x1024 .f32) (x1 : Vec Ideal S1024x1 .i32) (x2 : Vec Ideal S1024x2560 .bf16) (x3 : Vec Ideal S256x1024 .bf16)
    (x4 : Vec Ideal S128x1536 .bf16) (x5 : Vec Ideal S16x1024 .f32) (h : Fin 8) (i : Fin 1024) (l : Fin 128) : EReal :=
  FwdPreMath.turn (fun l => (show EReal from k0_pay46 x0 x1 x2 x3 x4 x5 (ix2 i ⟨128 * h.val + l.val, by omega⟩))) (fun l => (show EReal from k0_pay42 x0 x1 x2 x3 x4 x5 (ix2 i l)))
    (fun l => (show EReal from k0_pay43 x0 x1 x2 x3 x4 x5 (ix2 i l))) (fun l => (show EReal from k0_pay44 x0 x1 x2 x3 x4 x5 (ix2 i l))) l * FwdPreMath.unit

set_option maxHeartbeats 2000000 in
theorem q_0 (i : Fin 1024) (l : Fin 128) : (show EReal from (k0_pay23 (k0_pay43 x0 x1 x2 x3 x4 x5) (k0_pay44 x0 x1 x2 x3 x4 x5) (k0_pay21 (k0_pay41 x0 x1 x2 x3 x4 x5) (k0_pay45 x0 x1 x2 x3 x4 x5) (View.ld x5 r0_10) (View.ld x3 r0_11)) (k0_pay22 (k0_pay41 x0 x1 x2 x3 x4 x5) (k0_pay42 x0 x1 x2 x3 x4 x5) (k0_pay45 x0 x1 x2 x3 x4 x5) (View.ld x5 r0_10) (View.ld x3 r0_11))) (ix2 i l)) = lane x0 x1 x2 x3 x4 x5 0 i l := by
  unfold lane FwdPreMath.turn
  pointwise [k0_pay23, k0_pay21, k0_pay22, k0_pay46, k0_pay18]
  first | rfl | done

theorem k_0 (i : Fin 1024) (l : Fin 128) : (show EReal from (k0_pay24 (k0_pay47 x0 x1 x2 x3 x4 x5) (k0_pay48 x0 x1 x2 x3 x4 x5)) (ix2 i l)) =
    (show EReal from k0_pay47 x0 x1 x2 x3 x4 x5 (ix2 i ⟨128 * (0 : Fin 8).val + l.val, by omega⟩)) + (show EReal from k0_pay48 x0 x1 x2 x3 x4 x5 (ix2 i l)) := by
  pointwise [k0_pay24]
  first | rfl | done

set_option maxHeartbeats 2000000 in
theorem q_1 (i : Fin 1024) (l : Fin 128) : (show EReal from (k0_pay25 (k0_pay42 x0 x1 x2 x3 x4 x5) (k0_pay43 x0 x1 x2 x3 x4 x5) (k0_pay44 x0 x1 x2 x3 x4 x5) (k0_pay46 x0 x1 x2 x3 x4 x5)) (ix2 i l)) = lane x0 x1 x2 x3 x4 x5 1 i l := by
  unfold lane FwdPreMath.turn
  pointwise [k0_pay25]
  first | rfl | done

theorem k_1 (i : Fin 1024) (l : Fin 128) : (show EReal from (k0_pay26 (k0_pay47 x0 x1 x2 x3 x4 x5) (k0_pay48 x0 x1 x2 x3 x4 x5)) (ix2 i l)) =
    (show EReal from k0_pay47 x0 x1 x2 x3 x4 x5 (ix2 i ⟨128 * (1 : Fin 8).val + l.val, by omega⟩)) + (show EReal from k0_pay48 x0 x1 x2 x3 x4 x5 (ix2 i l)) := by
  pointwise [k0_pay26]
  first | rfl | done

set_option maxHeartbeats 2000000 in
theorem q_2 (i : Fin 1024) (l : Fin 128) : (show EReal from (k0_pay29 (k0_pay27 (k0_pay42 x0 x1 x2 x3 x4 x5) (k0_pay43 x0 x1 x2 x3 x4 x5) (k0_pay44 x0 x1 x2 x3 x4 x5) (k0_pay46 x0 x1 x2 x3 x4 x5)) (k0_pay28 (F := Ideal))) (ix2 i l)) = lane x0 x1 x2 x3 x4 x5 2 i l := by
  unfold lane FwdPreMath.turn
  pointwise [k0_pay29, k0_pay27, k0_pay28]
  first | rfl | done

theorem k_2 (i : Fin 1024) (l : Fin 128) : (show EReal from (k0_pay30 (k0_pay47 x0 x1 x2 x3 x4 x5) (k0_pay48 x0 x1 x2 x3 x4 x5)) (ix2 i l)) =
    (show EReal from k0_pay47 x0 x1 x2 x3 x4 x5 (ix2 i ⟨128 * (2 : Fin 8).val + l.val, by omega⟩)) + (show EReal from k0_pay48 x0 x1 x2 x3 x4 x5 (ix2 i l)) := by
  pointwise [k0_pay30]
  first | rfl | done

set_option maxHeartbeats 2000000 in
theorem q_3 (i : Fin 1024) (l : Fin 128) : (show EReal from (k0_pay31 (k0_pay42 x0 x1 x2 x3 x4 x5) (k0_pay43 x0 x1 x2 x3 x4 x5) (k0_pay44 x0 x1 x2 x3 x4 x5) (k0_pay46 x0 x1 x2 x3 x4 x5)) (ix2 i l)) = lane x0 x1 x2 x3 x4 x5 3 i l := by
  unfold lane FwdPreMath.turn
  pointwise [k0_pay31]
  first | rfl | done

theorem k_3 (i : Fin 1024) (l : Fin 128) : (show EReal from (k0_pay32 (k0_pay47 x0 x1 x2 x3 x4 x5) (k0_pay48 x0 x1 x2 x3 x4 x5)) (ix2 i l)) =
    (show EReal from k0_pay47 x0 x1 x2 x3 x4 x5 (ix2 i ⟨128 * (3 : Fin 8).val + l.val, by omega⟩)) + (show EReal from k0_pay48 x0 x1 x2 x3 x4 x5 (ix2 i l)) := by
  pointwise [k0_pay32]
  first | rfl | done

set_option maxHeartbeats 2000000 in
theorem q_4 (i : Fin 1024) (l : Fin 128) : (show EReal from (k0_pay33 (k0_pay42 x0 x1 x2 x3 x4 x5) (k0_pay43 x0 x1 x2 x3 x4 x5) (k0_pay44 x0 x1 x2 x3 x4 x5) (k0_pay46 x0 x1 x2 x3 x4 x5)) (ix2 i l)) = lane x0 x1 x2 x3 x4 x5 4 i l := by
  unfold lane FwdPreMath.turn
  pointwise [k0_pay33]
  first | rfl | done

theorem k_4 (i : Fin 1024) (l : Fin 128) : (show EReal from (k0_pay34 (k0_pay47 x0 x1 x2 x3 x4 x5) (k0_pay48 x0 x1 x2 x3 x4 x5)) (ix2 i l)) =
    (show EReal from k0_pay47 x0 x1 x2 x3 x4 x5 (ix2 i ⟨128 * (4 : Fin 8).val + l.val, by omega⟩)) + (show EReal from k0_pay48 x0 x1 x2 x3 x4 x5 (ix2 i l)) := by
  pointwise [k0_pay34]
  first | rfl | done

set_option maxHeartbeats 2000000 in
theorem q_5 (i : Fin 1024) (l : Fin 128) : (show EReal from (k0_pay35 (k0_pay42 x0 x1 x2 x3 x4 x5) (k0_pay43 x0 x1 x2 x3 x4 x5) (k0_pay44 x0 x1 x2 x3 x4 x5) (k0_pay46 x0 x1 x2 x3 x4 x5)) (ix2 i l)) = lane x0 x1 x2 x3 x4 x5 5 i l := by
  unfold lane FwdPreMath.turn
  pointwise [k0_pay35]
  first | rfl | done

theorem k_5 (i : Fin 1024) (l : Fin 128) : (show EReal from (k0_pay36 (k0_pay47 x0 x1 x2 x3 x4 x5) (k0_pay48 x0 x1 x2 x3 x4 x5)) (ix2 i l)) =
    (show EReal from k0_pay47 x0 x1 x2 x3 x4 x5 (ix2 i ⟨128 * (5 : Fin 8).val + l.val, by omega⟩)) + (show EReal from k0_pay48 x0 x1 x2 x3 x4 x5 (ix2 i l)) := by
  pointwise [k0_pay36]
  first | rfl | done

set_option maxHeartbeats 2000000 in
theorem q_6 (i : Fin 1024) (l : Fin 128) : (show EReal from (k0_pay37 (k0_pay42 x0 x1 x2 x3 x4 x5) (k0_pay43 x0 x1 x2 x3 x4 x5) (k0_pay44 x0 x1 x2 x3 x4 x5) (k0_pay46 x0 x1 x2 x3 x4 x5)) (ix2 i l)) = lane x0 x1 x2 x3 x4 x5 6 i l := by
  unfold lane FwdPreMath.turn
  pointwise [k0_pay37]
  first | rfl | done

theorem k_6 (i : Fin 1024) (l : Fin 128) : (show EReal from (k0_pay38 (k0_pay47 x0 x1 x2 x3 x4 x5) (k0_pay48 x0 x1 x2 x3 x4 x5)) (ix2 i l)) =
    (show EReal from k0_pay47 x0 x1 x2 x3 x4 x5 (ix2 i ⟨128 * (6 : Fin 8).val + l.val, by omega⟩)) + (show EReal from k0_pay48 x0 x1 x2 x3 x4 x5 (ix2 i l)) := by
  pointwise [k0_pay38]
  first | rfl | done

set_option maxHeartbeats 2000000 in
theorem q_7 (i : Fin 1024) (l : Fin 128) : (show EReal from (k0_pay1 (k0_pay44 x0 x1 x2 x3 x4 x5) (k0_pay39 (k0_pay46 x0 x1 x2 x3 x4 x5)) (k0_pay40 (k0_pay42 x0 x1 x2 x3 x4 x5) (k0_pay43 x0 x1 x2 x3 x4 x5) (k0_pay46 x0 x1 x2 x3 x4 x5)) 16#32) (ix2 i l)) = lane x0 x1 x2 x3 x4 x5 7 i l := by
  unfold lane FwdPreMath.turn
  pointwise [k0_pay1, k0_pay39, k0_pay40]
  first | rfl | done

theorem k_7 (i : Fin 1024) (l : Fin 128) : (show EReal from (k0_pay2 (k0_pay47 x0 x1 x2 x3 x4 x5) (k0_pay48 x0 x1 x2 x3 x4 x5)) (ix2 i l)) =
    (show EReal from k0_pay47 x0 x1 x2 x3 x4 x5 (ix2 i ⟨128 * (7 : Fin 8).val + l.val, by omega⟩)) + (show EReal from k0_pay48 x0 x1 x2 x3 x4 x5 (ix2 i l)) := by
  pointwise [k0_pay2]
  first | rfl | done

namespace Blocks

variable (B : Blocks D ρ x0 x1 x2 x3 x4 x5)
include B

theorem left_cq (y : S1024x256.Idx) : (show EReal from out0_6 x0 x1 x2 x3 x4 x5 y) = BwdPreMath.cq D (ρ (y 0)) (y 1) := by
  unfold out0_6
  refine View.canon_apply_of_pieces (show Vec Ideal S1024x256 .f32 from fun y => (BwdPreMath.cq D (ρ (y 0)) (y 1) : EReal)) _ ?_ y (cover0_6 _ y)
  intro pc hpc
  rcases List.mem_cons.mp hpc with rfl | hpc
  · intro x
    obtain ⟨i, l, rfl⟩ : ∃ (i : Fin 1024) (l : Fin 256), x = ix2 i l := ⟨x 0, x 1, eq_ix2 x⟩
    refine (B.cq i l).trans (congrArg₂ (fun a b => BwdPreMath.cq D (ρ a) b) (Fin.ext ?_) (Fin.ext ?_))
    · show i.val = 0 + 1 * i.val
      omega
    · show l.val = 0 + 1 * l.val
      omega
  nomatch hpc

theorem left_ckv (y : S1024x128.Idx) : (show EReal from out0_7 x0 x1 x2 x3 x4 x5 y) = BwdPreMath.ckv D (ρ (y 0)) (y 1) := by
  unfold out0_7
  refine View.canon_apply_of_pieces (show Vec Ideal S1024x128 .f32 from fun y => (BwdPreMath.ckv D (ρ (y 0)) (y 1) : EReal)) _ ?_ y (cover0_7 _ y)
  intro pc hpc
  rcases List.mem_cons.mp hpc with rfl | hpc
  · intro x
    obtain ⟨i, l, rfl⟩ : ∃ (i : Fin 1024) (l : Fin 128), x = ix2 i l := ⟨x 0, x 1, eq_ix2 x⟩
    refine (B.ckv i l).trans (congrArg₂ (fun a b => BwdPreMath.ckv D (ρ a) b) (Fin.ext ?_) (Fin.ext ?_))
    · show i.val = 0 + 1 * i.val
      omega
    · show l.val = 0 + 1 * l.val
      omega
  nomatch hpc

theorem left_gate (y : S1024x2048.Idx) : (show EReal from out0_8 x0 x1 x2 x3 x4 x5 y) = FwdPreMath.gates D (ρ (y 0)) (y 1) := by
  unfold out0_8
  refine View.canon_apply_of_pieces (show Vec Ideal S1024x2048 .bf16 from fun y => (FwdPreMath.gates D (ρ (y 0)) (y 1) : EReal)) _ ?_ y (cover0_8 _ y)
  intro pc hpc
  rcases List.mem_cons.mp hpc with rfl | hpc
  · intro x
    obtain ⟨i, l, rfl⟩ : ∃ (i : Fin 1024) (l : Fin 2048), x = ix2 i l := ⟨x 0, x 1, eq_ix2 x⟩
    refine (B.gate i l).trans (congrArg₂ (fun a b => FwdPreMath.gates D (ρ a) b) (Fin.ext ?_) (Fin.ext ?_))
    · show i.val = 0 + 1 * i.val
      omega
    · show l.val = 0 + 1 * l.val
      omega
  nomatch hpc

theorem v_piece (i : Fin 1024) (l : Fin 512) : (show EReal from k0_pay3 (k0_pay47 x0 x1 x2 x3 x4 x5) (ix2 i l)) = FwdPreMath.varr D (ρ i) l := by
  refine Eq.trans ?_ (B.kv_value i l)
  pointwise [k0_pay3]
  first | rfl | done

theorem left_v (y : S1024x512.Idx) : (show EReal from out0_11 x0 x1 x2 x3 x4 x5 y) = FwdPreMath.varr D (ρ (y 0)) (y 1) := by
  unfold out0_11
  refine View.canon_apply_of_pieces (show Vec Ideal S1024x512 .bf16 from fun y => (FwdPreMath.varr D (ρ (y 0)) (y 1) : EReal)) _ ?_ y (cover0_11 _ y)
  intro pc hpc
  rcases List.mem_cons.mp hpc with rfl | hpc
  · intro x
    obtain ⟨i, l, rfl⟩ : ∃ (i : Fin 1024) (l : Fin 512), x = ix2 i l := ⟨x 0, x 1, eq_ix2 x⟩
    refine (B.v_piece i l).trans (congrArg₂ (fun a b => FwdPreMath.varr D (ρ a) b) (Fin.ext ?_) (Fin.ext ?_))
    · show i.val = 0 + 1 * i.val
      omega
    · show l.val = 0 + 1 * l.val
      omega
  nomatch hpc

set_option maxHeartbeats 2000000 in
theorem left_q (y : S1024x1024.Idx) : (show EReal from out0_9 x0 x1 x2 x3 x4 x5 y) = FwdPreMath.qarr D (ρ (y 0)) (y 1) := by
  unfold out0_9
  refine View.canon_apply_of_pieces (show Vec Ideal S1024x1024 .bf16 from fun y => (FwdPreMath.qarr D (ρ (y 0)) (y 1) : EReal)) _ ?_ y (cover0_9 _ _ _ _ _ _ _ _ y)
  intro pc hpc
  rcases List.mem_cons.mp hpc with rfl | hpc
  · intro x
    obtain ⟨i, l, rfl⟩ : ∃ (i : Fin 1024) (l : Fin 128), x = ix2 i l := ⟨x 0, x 1, eq_ix2 x⟩
    refine ((q_7 i l).trans (B.turned i 7 l)).trans (congrArg₂ (fun a b => FwdPreMath.qarr D (ρ a) b) (Fin.ext ?_) (Fin.ext ?_))
    · show i.val = 0 + 1 * i.val
      omega
    · show 128 * 7 + l.val = 896 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((q_6 i l).trans (B.turned i 6 l)).trans (congrArg₂ (fun a b => FwdPreMath.qarr D (ρ a) b) (Fin.ext ?_) (Fin.ext ?_))
    · show i.val = 0 + 1 * i.val
      omega
    · show 128 * 6 + l.val = 768 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((q_5 i l).trans (B.turned i 5 l)).trans (congrArg₂ (fun a b => FwdPreMath.qarr D (ρ a) b) (Fin.ext ?_) (Fin.ext ?_))
    · show i.val = 0 + 1 * i.val
      omega
    · show 128 * 5 + l.val = 640 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((q_4 i l).trans (B.turned i 4 l)).trans (congrArg₂ (fun a b => FwdPreMath.qarr D (ρ a) b) (Fin.ext ?_) (Fin.ext ?_))
    · show i.val = 0 + 1 * i.val
      omega
    · show 128 * 4 + l.val = 512 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((q_3 i l).trans (B.turned i 3 l)).trans (congrArg₂ (fun a b => FwdPreMath.qarr D (ρ a) b) (Fin.ext ?_) (Fin.ext ?_))
    · show i.val = 0 + 1 * i.val
      omega
    · show 128 * 3 + l.val = 384 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((q_2 i l).trans (B.turned i 2 l)).trans (congrArg₂ (fun a b => FwdPreMath.qarr D (ρ a) b) (Fin.ext ?_) (Fin.ext ?_))
    · show i.val = 0 + 1 * i.val
      omega
    · show 128 * 2 + l.val = 256 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((q_1 i l).trans (B.turned i 1 l)).trans (congrArg₂ (fun a b => FwdPreMath.qarr D (ρ a) b) (Fin.ext ?_) (Fin.ext ?_))
    · show i.val = 0 + 1 * i.val
      omega
    · show 128 * 1 + l.val = 128 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((q_0 i l).trans (B.turned i 0 l)).trans (congrArg₂ (fun a b => FwdPreMath.qarr D (ρ a) b) (Fin.ext ?_) (Fin.ext ?_))
    · show i.val = 0 + 1 * i.val
      omega
    · show 128 * 0 + l.val = 0 + 1 * l.val
      omega
  nomatch hpc

set_option maxHeartbeats 2000000 in
theorem left_k (y : S1024x1024.Idx) : (show EReal from out0_10 x0 x1 x2 x3 x4 x5 y) = FwdPreMath.karr D (ρ (y 0)) (y 1) := by
  unfold out0_10
  refine View.canon_apply_of_pieces (show Vec Ideal S1024x1024 .bf16 from fun y => (FwdPreMath.karr D (ρ (y 0)) (y 1) : EReal)) _ ?_ y (cover0_10 _ _ _ _ _ _ _ _ y)
  intro pc hpc
  rcases List.mem_cons.mp hpc with rfl | hpc
  · intro x
    obtain ⟨i, l, rfl⟩ : ∃ (i : Fin 1024) (l : Fin 128), x = ix2 i l := ⟨x 0, x 1, eq_ix2 x⟩
    refine ((k_7 i l).trans (B.joined i 7 l)).trans (congrArg₂ (fun a b => FwdPreMath.karr D (ρ a) b) (Fin.ext ?_) (Fin.ext ?_))
    · show i.val = 0 + 1 * i.val
      omega
    · show 128 * 7 + l.val = 896 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((k_6 i l).trans (B.joined i 6 l)).trans (congrArg₂ (fun a b => FwdPreMath.karr D (ρ a) b) (Fin.ext ?_) (Fin.ext ?_))
    · show i.val = 0 + 1 * i.val
      omega
    · show 128 * 6 + l.val = 768 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((k_5 i l).trans (B.joined i 5 l)).trans (congrArg₂ (fun a b => FwdPreMath.karr D (ρ a) b) (Fin.ext ?_) (Fin.ext ?_))
    · show i.val = 0 + 1 * i.val
      omega
    · show 128 * 5 + l.val = 640 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((k_4 i l).trans (B.joined i 4 l)).trans (congrArg₂ (fun a b => FwdPreMath.karr D (ρ a) b) (Fin.ext ?_) (Fin.ext ?_))
    · show i.val = 0 + 1 * i.val
      omega
    · show 128 * 4 + l.val = 512 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((k_3 i l).trans (B.joined i 3 l)).trans (congrArg₂ (fun a b => FwdPreMath.karr D (ρ a) b) (Fin.ext ?_) (Fin.ext ?_))
    · show i.val = 0 + 1 * i.val
      omega
    · show 128 * 3 + l.val = 384 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((k_2 i l).trans (B.joined i 2 l)).trans (congrArg₂ (fun a b => FwdPreMath.karr D (ρ a) b) (Fin.ext ?_) (Fin.ext ?_))
    · show i.val = 0 + 1 * i.val
      omega
    · show 128 * 2 + l.val = 256 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((k_1 i l).trans (B.joined i 1 l)).trans (congrArg₂ (fun a b => FwdPreMath.karr D (ρ a) b) (Fin.ext ?_) (Fin.ext ?_))
    · show i.val = 0 + 1 * i.val
      omega
    · show 128 * 1 + l.val = 128 + 1 * l.val
      omega
  rcases List.mem_cons.mp hpc with rfl | hpc
  · intro x
    obtain ⟨i, l, rfl⟩ : ∃ (i : Fin 1024) (l : Fin 128), x = ix2 i l := ⟨x 0, x 1, eq_ix2 x⟩
    refine ((k_0 i l).trans (B.joined i 0 l)).trans (congrArg₂ (fun a b => FwdPreMath.karr D (ρ a) b) (Fin.ext ?_) (Fin.ext ?_))
    · show i.val = 0 + 1 * i.val
      omega
    · show 128 * 0 + l.val = 0 + 1 * l.val
      omega
  nomatch hpc

end Blocks

end Cert.Kernel3Ideal.FwdPre
-- ==== Proof.FwdPre.Arrays.lean ====
module

public import proofs.«01_k».proof.Proof.FwdPre.Entry
public import proofs.«01_k».proof.Proof.FwdPre.Out
public import Idealize.ShloMosaic.Lib.Pipeline.ValueKit

/-! The blocks of every point hold its 1024 rows of the data; what the six result arrays hold in the end. -/

@[expose] public section

set_option maxRecDepth 16384

noncomputable section

namespace Cert.Kernel3Ideal.FwdPre

open Cert.Kernel3Ideal.Gen Cert.Norm
open Idealize.ShloMosaic Idealize.ShloMosaic.TcCoe Idealize.ShloMosaic.Tactic Idealize.SL.Sem

/-- The windows' index maps. -/
theorem idx : ∀ t : Fin cfg0.N, win0_0.index t = ![t.val, 0] ∧ win0_1.index t = ![t.val, 0] ∧ win0_6.index t = ![t.val, 0] ∧ win0_7.index t = ![t.val, 0] ∧ win0_8.index t = ![t.val, 0] ∧ win0_9.index t = ![t.val, 0] ∧ win0_10.index t = ![t.val, 0] ∧ win0_11.index t = ![t.val, 0] :=
  (by decide +kernel : ∀ t : Fin grid0.N, _)
theorem idx_whole : ∀ t : Fin cfg0.N, win0_2.index t = ![0, 0] ∧ win0_3.index t = ![0, 0] ∧ win0_4.index t = ![0, 0] ∧ win0_5.index t = ![0, 0] :=
  (by decide +kernel : ∀ t : Fin grid0.N, _)

/-- The rows of a point. -/
def row (t : Fin cfg0.N) (i : Fin 1024) : Fin 8192 :=
  ⟨1024 * t.val + i.val, by have := lt_of_lt_of_eq t.isLt (show cfg0.N = 8 from N_0); omega⟩

variable (m : (ℓ : Loc nD τ sig) → Buf (Elt Ideal) ℓ) (c : Dev nD) (t : Fin cfg0.N)

theorem in_0 (i : Fin 1024) (k : Fin 1024) : (show EReal from iblk m c 0 t (ix2 i k)) = (show EReal from V m c main_v0 (ix2 (row t i) k)) := by
  blk_ext [iblk, idx t, row]
theorem in_1 (i : Fin 1024) : (show BitVec 32 from iblk m c 1 t (ix2 i 0)) = (show BitVec 32 from V m c main_v55 (ix2 (row t i) 0)) := by
  blk_ext [iblk, idx t, row]
theorem in_2 (i : Fin 1024) (k : Fin 2560) : (show EReal from iblk m c 2 t (ix2 i k)) = (show EReal from V m c main_v7 (ix2 i k)) := by
  blk_ext [iblk, idx_whole t]
theorem in_3 (i : Fin 256) (k : Fin 1024) : (show EReal from iblk m c 3 t (ix2 i k)) = (show EReal from V m c main_v11 (ix2 i k)) := by
  blk_ext [iblk, idx_whole t]
theorem in_4 (i : Fin 128) (k : Fin 1536) : (show EReal from iblk m c 4 t (ix2 i k)) = (show EReal from V m c main_v21 (ix2 i k)) := by
  blk_ext [iblk, idx_whole t]
theorem in_5 (i : Fin 16) (k : Fin 1024) : (show EReal from iblk m c 5 t (ix2 i k)) = (show EReal from V m c main_v54 (ix2 i k)) := by
  blk_ext [iblk, idx_whole t]

/-- A row's position times a frequency is its angle. -/
theorem angle_of (i : Fin 1024) (f : Fin 16) (e : EReal) (he : e = freq f) :
    FloatOps.sitofp (F := Ideal) .f32 (show BitVec 32 from iblk m c 1 t (ix2 i 0)) * e = (data m c).angle (row t i) f := by
  rw [he, in_1, v55_at]
  rfl

/-- The blocks of a point hold its rows. -/
theorem blocks_hold : Blocks (data m c) (row t) (iblk m c 0 t) (iblk m c 1 t) (iblk m c 2 t) (iblk m c 3 t) (iblk m c 4 t) (iblk m c 5 t) where
  x i k := (in_0 m c t i k).trans (v0_at m c _ k)
  win k l := (in_2 m c t k l).trans (v7_at m c k l)
  wuq j l := (in_3 m c t j l).trans (v11_at m c j l)
  key j l := (in_4 m c t j _).trans (v21_key m c j l)
  value j l := (in_4 m c t j _).trans (v21_value m c j l)
  qg j := (in_5 m c t 0 _).trans (v54_0 m c j)
  kg j := (in_5 m c t 1 _).trans (v54_1 m c j)
  sign1 l := (in_5 m c t 5 _).trans (v54_5 m c l)
  sign2 l := (in_5 m c t 6 _).trans (v54_6 m c l)
  still l h := (in_5 m c t 4 _).trans (v54_4 m c l h)
  lo i f := angle_of m c t i f _ ((in_5 m c t 4 _).trans (v54_4_lo m c f))
  hi i f := angle_of m c t i f _ ((in_5 m c t 4 _).trans (v54_4_hi m c f))

set_option maxHeartbeats 1000000 in
theorem array_cq : (dats m 0 c).arrAt 6 (cfgs 0).N = fun y => (BwdPreMath.cq (data m c) (y 0) (y 1) : EReal) := by
  refine (dats m 0 c).arrAt_eq_of_covers 6 _ (by decide +kernel) fun t _ y => ?_
  blk_simp
  rw [after0_6]
  obtain ⟨i, j, rfl⟩ : ∃ (i : Fin 1024) (j : Fin 256), y = ix2 i j := ⟨y 0, y 1, eq_ix2 y⟩
  refine ((blocks_hold m c t).left_cq (ix2 i j)).trans ?_
  refine congrArg₂ (BwdPreMath.cq (data m c)) (Fin.ext ?_) (Fin.ext ?_)
  all_goals (blk_simp [idx t, row]; first | done | (show 1024 * t.val + i.val = t.val * 1024 + i.val; omega))

set_option maxHeartbeats 1000000 in
theorem array_ckv : (dats m 0 c).arrAt 7 (cfgs 0).N = fun y => (BwdPreMath.ckv (data m c) (y 0) (y 1) : EReal) := by
  refine (dats m 0 c).arrAt_eq_of_covers 7 _ (by decide +kernel) fun t _ y => ?_
  blk_simp
  rw [after0_7]
  obtain ⟨i, j, rfl⟩ : ∃ (i : Fin 1024) (j : Fin 128), y = ix2 i j := ⟨y 0, y 1, eq_ix2 y⟩
  refine ((blocks_hold m c t).left_ckv (ix2 i j)).trans ?_
  refine congrArg₂ (BwdPreMath.ckv (data m c)) (Fin.ext ?_) (Fin.ext ?_)
  all_goals (blk_simp [idx t, row]; first | done | (show 1024 * t.val + i.val = t.val * 1024 + i.val; omega))

set_option maxHeartbeats 1000000 in
theorem array_gate : (dats m 0 c).arrAt 8 (cfgs 0).N = fun y => (FwdPreMath.gates (data m c) (y 0) (y 1) : EReal) := by
  refine (dats m 0 c).arrAt_eq_of_covers 8 _ (by decide +kernel) fun t _ y => ?_
  blk_simp
  rw [after0_8]
  obtain ⟨i, j, rfl⟩ : ∃ (i : Fin 1024) (j : Fin 2048), y = ix2 i j := ⟨y 0, y 1, eq_ix2 y⟩
  refine ((blocks_hold m c t).left_gate (ix2 i j)).trans ?_
  refine congrArg₂ (FwdPreMath.gates (data m c)) (Fin.ext ?_) (Fin.ext ?_)
  all_goals (blk_simp [idx t, row]; first | done | (show 1024 * t.val + i.val = t.val * 1024 + i.val; omega))

set_option maxHeartbeats 1000000 in
theorem array_q : (dats m 0 c).arrAt 9 (cfgs 0).N = fun y => (FwdPreMath.qarr (data m c) (y 0) (y 1) : EReal) := by
  refine (dats m 0 c).arrAt_eq_of_covers 9 _ (by decide +kernel) fun t _ y => ?_
  blk_simp
  rw [after0_9]
  obtain ⟨i, j, rfl⟩ : ∃ (i : Fin 1024) (j : Fin 1024), y = ix2 i j := ⟨y 0, y 1, eq_ix2 y⟩
  refine ((blocks_hold m c t).left_q (ix2 i j)).trans ?_
  refine congrArg₂ (FwdPreMath.qarr (data m c)) (Fin.ext ?_) (Fin.ext ?_)
  all_goals (blk_simp [idx t, row]; first | done | (show 1024 * t.val + i.val = t.val * 1024 + i.val; omega))

set_option maxHeartbeats 1000000 in
theorem array_k : (dats m 0 c).arrAt 10 (cfgs 0).N = fun y => (FwdPreMath.karr (data m c) (y 0) (y 1) : EReal) := by
  refine (dats m 0 c).arrAt_eq_of_covers 10 _ (by decide +kernel) fun t _ y => ?_
  blk_simp
  rw [after0_10]
  obtain ⟨i, j, rfl⟩ : ∃ (i : Fin 1024) (j : Fin 1024), y = ix2 i j := ⟨y 0, y 1, eq_ix2 y⟩
  refine ((blocks_hold m c t).left_k (ix2 i j)).trans ?_
  refine congrArg₂ (FwdPreMath.karr (data m c)) (Fin.ext ?_) (Fin.ext ?_)
  all_goals (blk_simp [idx t, row]; first | done | (show 1024 * t.val + i.val = t.val * 1024 + i.val; omega))

set_option maxHeartbeats 1000000 in
theorem array_v : (dats m 0 c).arrAt 11 (cfgs 0).N = fun y => (FwdPreMath.varr (data m c) (y 0) (y 1) : EReal) := by
  refine (dats m 0 c).arrAt_eq_of_covers 11 _ (by decide +kernel) fun t _ y => ?_
  blk_simp
  rw [after0_11]
  obtain ⟨i, j, rfl⟩ : ∃ (i : Fin 1024) (j : Fin 512), y = ix2 i j := ⟨y 0, y 1, eq_ix2 y⟩
  refine ((blocks_hold m c t).left_v (ix2 i j)).trans ?_
  refine congrArg₂ (FwdPreMath.varr (data m c)) (Fin.ext ?_) (Fin.ext ?_)
  all_goals (blk_simp [idx t, row]; first | done | (show 1024 * t.val + i.val = t.val * 1024 + i.val; omega))

end Cert.Kernel3Ideal.FwdPre
-- ==== Proof.FwdPre.Reference.lean ====
module

public import proofs.«01_k».proof.Proof.Gen.Reference3Ideal.Read
public import Idealize.ShloMosaic.Lib.Pointwise
public import proofs.«01_k».proof.Proof.FwdPre.Math

/-! The reference's six results of the forward call, read at an index. -/

@[expose] public section

set_option maxRecDepth 16384

noncomputable section

namespace Cert.Reference3Ideal.FwdPre

open Cert.Reference3Ideal.Read Cert.Norm
open Idealize.ShloMosaic Idealize.ShloMosaic.TcCoe Idealize.ShloMosaic.Tactic Idealize.SL.Sem

variable (x0 : FVec Ideal S1x8192x1024 .f32) (x1 : IVec S1x8192 32) (x2 : FVec Ideal S1024x2464 .f32) (x3 : FVec Ideal S256 .f32)
  (x4 : FVec Ideal S256x768 .f32) (x5 : FVec Ideal S128 .f32) (x6 : FVec Ideal S128x1024 .f32)

/-- The padding value is zero. -/
theorem int_zero : (show EReal from FloatOps.sitofp (F := Ideal) .f32 0#32) = 0 := by
  show ((((0#32 : BitVec 32).toInt : ℝ)) : EReal) = 0
  simp

/-- The arguments' data. -/
abbrev D : BwdPreMath.Data := FwdPreMath.given x0 x1 x2 x3 x4 x5 x6

theorem v1_at (s : Fin 8192) (j : Fin 256) : (show EReal from (val_main_v1 (F := Ideal) x0 x2) (ix3 0 s j)) = BwdPreMath.cq (D x0 x1 x2 x3 x4 x5 x6) s j := by
  pointwise [val_main_v0, val_main_v1]
  first | rfl | done

theorem v2_at (s : Fin 8192) (j : Fin 128) : (show EReal from (val_main_v2 (F := Ideal) x0 x2) (ix3 0 s j)) = BwdPreMath.ckv (D x0 x1 x2 x3 x4 x5 x6) s j := by
  pointwise [val_main_v0, val_main_v2]
  first | rfl | done

theorem v3_at (s : Fin 8192) (r : Fin 32) : (show EReal from (val_main_v3 (F := Ideal) x0 x2) (ix3 0 s r)) = FwdPreMath.shared (D x0 x1 x2 x3 x4 x5 x6) s r := by
  pointwise [val_main_v0, val_main_v3]
  first | rfl | done

theorem v14_at (s : Fin 8192) : (show EReal from (val_main_v14 (F := Ideal) x0 x2) (ix3 0 s 0)) = square BwdPreMath.wide (BwdPreMath.cq (D x0 x1 x2 x3 x4 x5 x6) s) := by
  pointwise [val_main_v8, val_main_v9, val_main_v10, val_main_v11, val_main_v12, val_main_v13, val_main_v14, val_main_cst, val_main_cst_0, val_main_cst_1, val_main_cst_2, val_main_cst_3, val_main_cst_4, val_main_cst_5, val_main_cst_6, val_main_cst_7, val_main_cst_8, val_main_cst_9, val_main_cst_10, val_main_cst_11, v1_at x0 x1 x2 x3 x4 x5 x6]
  first | rfl | done

theorem v20_at (s : Fin 8192) (j : Fin 256) : (show EReal from (val_main_v20 (F := Ideal) x0 x2 x3) (ix3 0 s j)) = BwdPreMath.nq (D x0 x1 x2 x3 x4 x5 x6) s j * ((D x0 x1 x2 x3 x4 x5 x6)).qg j := by
  pointwise [val_main_v15, val_main_v16, val_main_v17, val_main_v18, val_main_v19, val_main_v20, v1_at x0 x1 x2 x3 x4 x5 x6, v14_at x0 x1 x2 x3 x4 x5 x6]
  first | rfl | done

theorem v21_at (s : Fin 8192) (e : Fin 768) : (show EReal from (val_main_v21 (F := Ideal) x0 x2 x3 x4) (ix3 0 s e)) = FwdPreMath.query (D x0 x1 x2 x3 x4 x5 x6) s e := by
  pointwise [val_main_v21, v20_at x0 x1 x2 x3 x4 x5 x6]
  first | rfl | done

theorem v22_at (s : Fin 8192) (h : Fin 8) (l : Fin 96) : (show EReal from (val_main_v22 (F := Ideal) x0 x2 x3 x4) (ix4 0 s h l)) = FwdPreMath.query (D x0 x1 x2 x3 x4 x5 x6) s ⟨h.val * 96 + l.val, by omega⟩ := by
  pointwise [val_main_v22, v21_at x0 x1 x2 x3 x4 x5 x6]
  first | rfl | done

theorem v37_at (s : Fin 8192) (f : Fin 16) : (show EReal from (val_main_v37 (F := Ideal) x1) (ix3 0 s f)) = ((D x0 x1 x2 x3 x4 x5 x6)).angle s f := by
  pointwise [val_main_v25, val_main_v26, val_main_v27, val_main_v28, val_main_v29, val_main_v30, val_main_v31, val_main_v32, val_main_v33, val_main_v34, val_main_v35, val_main_v36, val_main_v37, val_main_cst, val_main_cst_0, val_main_cst_1, val_main_cst_2, val_main_cst_3, val_main_cst_4, val_main_cst_5, val_main_cst_6, val_main_cst_7, val_main_cst_8, val_main_cst_9, val_main_cst_10, val_main_cst_11]
  first | rfl | done

set_option maxHeartbeats 1000000 in
theorem v54_at (s : Fin 8192) (h : Fin 8) (r : Fin 32) : (show EReal from (val_main_v54 (F := Ideal) x0 x1 x2 x3 x4) (ix4 0 s h r)) = FwdPreMath.rot (((D x0 x1 x2 x3 x4 x5 x6)).angle s) (fun r => FwdPreMath.query (D x0 x1 x2 x3 x4 x5 x6) s ⟨h.val * 96 + (64 + r.val), by omega⟩) r := by
  pointwise [val_main_v24, val_main_v38, val_main_v39, val_main_v40, val_main_v41, val_main_v42, val_main_v43, val_main_v44, val_main_v45, val_main_v46, val_main_v47, val_main_v48, val_main_v49, val_main_v50, val_main_v51, val_main_v52, val_main_v53, val_main_v54, v22_at x0 x1 x2 x3 x4 x5 x6, v37_at x0 x1 x2 x3 x4 x5 x6]
  unfold FwdPreMath.rot
  by_cases h16 : r.val < 16
  · have h1 : ¬(16 ≤ r.val ∧ r.val - 16 < 16) := by omega
    simp only [dif_pos h16]
    first | rfl | done
  · have h1 : 16 ≤ r.val ∧ r.val - 16 < 16 := by omega
    have hr : 16 + (r.val - 16) = r.val := by omega
    have hr2 : 64 + (16 + (r.val - 16)) = 64 + r.val := by omega
    simp only [dif_neg h16, hr, hr2]
    exact add_comm _ _

set_option maxHeartbeats 1000000 in
theorem v55_at (s : Fin 8192) (h : Fin 8) (l : Fin 96) : (show EReal from (val_main_v55 (F := Ideal) x0 x1 x2 x3 x4) (ix4 0 s h l)) = FwdPreMath.qhead (D x0 x1 x2 x3 x4 x5 x6) s h l := by
  pointwise [val_main_v23, val_main_v55, v22_at x0 x1 x2 x3 x4 x5 x6, v54_at x0 x1 x2 x3 x4 x5 x6]
  unfold FwdPreMath.qhead
  first | rfl | done

theorem v62_at (s : Fin 8192) : (show EReal from (val_main_v62 (F := Ideal) x0 x2) (ix3 0 s 0)) = square BwdPreMath.narrow (BwdPreMath.ckv (D x0 x1 x2 x3 x4 x5 x6) s) := by
  pointwise [val_main_v56, val_main_v57, val_main_v58, val_main_v59, val_main_v60, val_main_v61, val_main_v62, val_main_cst, val_main_cst_0, val_main_cst_1, val_main_cst_2, val_main_cst_3, val_main_cst_4, val_main_cst_5, val_main_cst_6, val_main_cst_7, val_main_cst_8, val_main_cst_9, val_main_cst_10, val_main_cst_11, v2_at x0 x1 x2 x3 x4 x5 x6]
  first | rfl | done

theorem v68_at (s : Fin 8192) (j : Fin 128) : (show EReal from (val_main_v68 (F := Ideal) x0 x2 x5) (ix3 0 s j)) = BwdPreMath.nkv (D x0 x1 x2 x3 x4 x5 x6) s j * ((D x0 x1 x2 x3 x4 x5 x6)).kg j := by
  pointwise [val_main_v63, val_main_v64, val_main_v65, val_main_v66, val_main_v67, val_main_v68, v2_at x0 x1 x2 x3 x4 x5 x6, v62_at x0 x1 x2 x3 x4 x5 x6]
  first | rfl | done

theorem v69_at (s : Fin 8192) (e : Fin 1024) : (show EReal from (val_main_v69 (F := Ideal) x0 x2 x5 x6) (ix3 0 s e)) = FwdPreMath.keys (D x0 x1 x2 x3 x4 x5 x6) s e := by
  pointwise [val_main_v69, v68_at x0 x1 x2 x3 x4 x5 x6]
  first | rfl | done

theorem v70_at (s : Fin 8192) (h : Fin 8) (l : Fin 128) : (show EReal from (val_main_v70 (F := Ideal) x0 x2 x5 x6) (ix4 0 s h l)) = FwdPreMath.keys (D x0 x1 x2 x3 x4 x5 x6) s ⟨h.val * 128 + l.val, by omega⟩ := by
  pointwise [val_main_v70, v69_at x0 x1 x2 x3 x4 x5 x6]
  first | rfl | done

theorem v86_at (s : Fin 8192) (f : Fin 16) : (show EReal from (val_main_v86 (F := Ideal) x1) (ix3 0 s f)) = ((D x0 x1 x2 x3 x4 x5 x6)).angle s f := by
  pointwise [val_main_v74, val_main_v75, val_main_v76, val_main_v77, val_main_v78, val_main_v79, val_main_v80, val_main_v81, val_main_v82, val_main_v83, val_main_v84, val_main_v85, val_main_v86, val_main_cst, val_main_cst_0, val_main_cst_1, val_main_cst_2, val_main_cst_3, val_main_cst_4, val_main_cst_5, val_main_cst_6, val_main_cst_7, val_main_cst_8, val_main_cst_9, val_main_cst_10, val_main_cst_11]
  first | rfl | done

set_option maxHeartbeats 1000000 in
theorem v99_at (s : Fin 8192) (r : Fin 32) : (show EReal from (val_main_v99 (F := Ideal) x0 x1 x2) (ix4 0 s 0 r)) = FwdPreMath.rot (((D x0 x1 x2 x3 x4 x5 x6)).angle s) (FwdPreMath.shared (D x0 x1 x2 x3 x4 x5 x6) s) r := by
  pointwise [val_main_v73, val_main_v87, val_main_v88, val_main_v89, val_main_v90, val_main_v91, val_main_v92, val_main_v93, val_main_v94, val_main_v95, val_main_v96, val_main_v97, val_main_v98, val_main_v99, v3_at x0 x1 x2 x3 x4 x5 x6, v86_at x0 x1 x2 x3 x4 x5 x6]
  unfold FwdPreMath.rot
  by_cases h16 : r.val < 16
  · have h1 : ¬(16 ≤ r.val ∧ r.val - 16 < 16) := by omega
    simp only [dif_pos h16]
    first | rfl | done
  · have h1 : 16 ≤ r.val ∧ r.val - 16 < 16 := by omega
    have hr : 16 + (r.val - 16) = r.val := by omega
    have hr2 : 64 + (16 + (r.val - 16)) = 64 + r.val := by omega
    simp only [dif_neg h16, hr, hr2]
    exact add_comm _ _

set_option maxHeartbeats 1000000 in
theorem v101_at (s : Fin 8192) (h : Fin 8) (l : Fin 96) : (show EReal from (val_main_v101 (F := Ideal) x0 x1 x2 x5 x6) (ix4 0 s h l)) = FwdPreMath.khead (D x0 x1 x2 x3 x4 x5 x6) s h l := by
  pointwise [val_main_v71, val_main_v100, val_main_v101, v70_at x0 x1 x2 x3 x4 x5 x6, v99_at x0 x1 x2 x3 x4 x5 x6]
  unfold FwdPreMath.khead
  first | rfl | done

theorem v103_at (s : Fin 8192) (j : Fin 256) : (show EReal from (val_main_v103 (F := Ideal) x0 x2) (ix2 s j)) = BwdPreMath.cq (D x0 x1 x2 x3 x4 x5 x6) s j := by
  pointwise [val_main_v103, v1_at x0 x1 x2 x3 x4 x5 x6]
  first | rfl | done

theorem v104_at (s : Fin 8192) (j : Fin 128) : (show EReal from (val_main_v104 (F := Ideal) x0 x2) (ix2 s j)) = BwdPreMath.ckv (D x0 x1 x2 x3 x4 x5 x6) s j := by
  pointwise [val_main_v104, v2_at x0 x1 x2 x3 x4 x5 x6]
  first | rfl | done

set_option maxHeartbeats 1000000 in
theorem v106_at (s : Fin 8192) (l : Fin 2048) : (show EReal from (val_main_v106 (F := Ideal) x0 x2) (ix2 s l)) = FwdPreMath.gates (D x0 x1 x2 x3 x4 x5 x6) s l := by
  pointwise [val_main_v0, val_main_v4, val_main_v5, val_main_v6, val_main_v7, val_main_v102, val_main_v105, val_main_v106]
  unfold FwdPreMath.gates
  by_cases h1 : l.val < 512
  · rw [dif_pos h1]
    rfl
  rw [dif_neg h1]
  by_cases h2 : l.val - 512 < 512
  · rw [dif_pos h2]
    exact Finset.sum_congr rfl fun k _ => congrArg (fun e => x0 (ix3 0 s k) * x2 (ix2 k e)) (Fin.ext (show 928 + (l.val - 512) = 416 + l.val by omega))
  rw [dif_neg h2]
  by_cases h3 : l.val - 512 - 512 < 512
  · rw [dif_pos h3]
    exact Finset.sum_congr rfl fun k _ => congrArg (fun e => x0 (ix3 0 s k) * x2 (ix2 k e)) (Fin.ext (show 1440 + (l.val - 512 - 512) = 416 + l.val by omega))
  rw [dif_neg h3]
  exact Finset.sum_congr rfl fun k _ => congrArg (fun e => x0 (ix3 0 s k) * x2 (ix2 k e)) (Fin.ext (show 1952 + (l.val - 512 - 512 - 512) = 416 + l.val by omega))

set_option maxHeartbeats 1000000 in
theorem v111_at (s : Fin 8192) (l : Fin 1024) : (show EReal from (val_main_v111 (F := Ideal) x0 x1 x2 x3 x4) (ix2 s l)) = FwdPreMath.qarr (D x0 x1 x2 x3 x4 x5 x6) s l := by
  pointwise [val_main_c, val_main_call0_v0, val_main_v107, val_main_v108, val_main_v109, val_main_v110, val_main_v111, val_main_cst_11, v55_at x0 x1 x2 x3 x4 x5 x6]
  unfold FwdPreMath.qarr
  by_cases h : l.val % 128 < 96
  · rw [dif_pos h, dif_pos ⟨by omega, h⟩]
  · rw [dif_neg h, dif_neg (by omega)]
    exact int_zero

set_option maxHeartbeats 1000000 in
theorem v114_at (s : Fin 8192) (l : Fin 1024) : (show EReal from (val_main_v114 (F := Ideal) x0 x1 x2 x5 x6) (ix2 s l)) = FwdPreMath.karr (D x0 x1 x2 x3 x4 x5 x6) s l := by
  pointwise [val_main_c_12, val_main_call1_v0, val_main_v112, val_main_v113, val_main_v114, v101_at x0 x1 x2 x3 x4 x5 x6]
  unfold FwdPreMath.karr
  by_cases h : l.val % 128 < 96
  · rw [dif_pos h, dif_pos ⟨by omega, h⟩]
  · rw [dif_neg h, dif_neg (by omega)]
    exact int_zero

set_option maxHeartbeats 1000000 in
theorem v116_at (s : Fin 8192) (l : Fin 512) : (show EReal from (val_main_v116 (F := Ideal) x0 x2 x5 x6) (ix2 s l)) = FwdPreMath.varr (D x0 x1 x2 x3 x4 x5 x6) s l := by
  pointwise [val_main_v72, val_main_v115, val_main_v116, v70_at x0 x1 x2 x3 x4 x5 x6]
  unfold FwdPreMath.varr
  first | rfl | done

end Cert.Reference3Ideal.FwdPre
-- ==== Proof.FwdPre.Algebraic.lean ====
module

public import proofs.«01_k».proof.Defs
public import proofs.«01_k».proof.Proof.FwdPre.Arrays
public import proofs.«01_k».proof.Proof.FwdPre.Reference
public import proofs.«01_k».proof.Proof.Gen.Reference3Ideal
public import proofs.«01_k».proof.Proof.Gen.Reference3Ideal.Run
public import proofs.«01_k».proof.Proof.Gen.Reference3Ideal.Read
public import Idealize.ShloMosaic.Lib.Claim

/-! The six arrays of the forward call are those of the reference. -/

@[expose] public section

set_option maxRecDepth 16384

noncomputable section

namespace Cert.FwdPre

open Idealize.ShloMosaic Idealize.SL.Sem

section

variable (m : (ℓ : Loc Kernel3Ideal.nD Kernel3Ideal.τ Kernel3Ideal.sig) → Buf (Elt Ideal) ℓ)
  (m' : (ℓ : Loc Reference3Ideal.nD Reference3Ideal.τ Reference3Ideal.sig) → Buf (Elt Ideal) ℓ) (c : Dev Reference3Ideal.nD)

/-- The reference's launch contents. -/
abbrev given (r : Ref Reference3Ideal.sig .tc) : Buf (Elt Ideal) ((c.tc : Thread Reference3Ideal.nD Reference3Ideal.τ).loc r) :=
  StableHlo.launchContents m' c (Proc.devRef .tc r)

/-- Both programs start from the same arguments. -/
def Agree : Prop := FwdPreMath.given (given m' c Reference3Ideal.main_arg0) (given m' c Reference3Ideal.main_arg1) (given m' c Reference3Ideal.main_arg2) (given m' c Reference3Ideal.main_arg3) (given m' c Reference3Ideal.main_arg4) (given m' c Reference3Ideal.main_arg5) (given m' c Reference3Ideal.main_arg6) = Kernel3Ideal.FwdPre.data m c

variable (hA : Agree m m' c)
include hA

theorem cq_eq : Reference3Ideal.Read.val_main_v103 (F := Ideal) (given m' c Reference3Ideal.main_arg0) (given m' c Reference3Ideal.main_arg2) = (Kernel3Ideal.Gen.dats m 0 c).arrAt 6 Kernel3Ideal.cfg0.N := by
  refine Eq.trans ?_ (Kernel3Ideal.FwdPre.array_cq m c).symm
  funext y
  obtain ⟨s, j, rfl⟩ : ∃ (s : Fin 8192) (j : Fin 256), y = ix2 s j := ⟨y 0, y 1, eq_ix2 y⟩
  exact (Reference3Ideal.FwdPre.v103_at (given m' c Reference3Ideal.main_arg0) (given m' c Reference3Ideal.main_arg1) (given m' c Reference3Ideal.main_arg2) (given m' c Reference3Ideal.main_arg3) (given m' c Reference3Ideal.main_arg4) (given m' c Reference3Ideal.main_arg5) (given m' c Reference3Ideal.main_arg6) s j).trans (congrArg (fun d => BwdPreMath.cq d s j) hA)

theorem ckv_eq : Reference3Ideal.Read.val_main_v104 (F := Ideal) (given m' c Reference3Ideal.main_arg0) (given m' c Reference3Ideal.main_arg2) = (Kernel3Ideal.Gen.dats m 0 c).arrAt 7 Kernel3Ideal.cfg0.N := by
  refine Eq.trans ?_ (Kernel3Ideal.FwdPre.array_ckv m c).symm
  funext y
  obtain ⟨s, j, rfl⟩ : ∃ (s : Fin 8192) (j : Fin 128), y = ix2 s j := ⟨y 0, y 1, eq_ix2 y⟩
  exact (Reference3Ideal.FwdPre.v104_at (given m' c Reference3Ideal.main_arg0) (given m' c Reference3Ideal.main_arg1) (given m' c Reference3Ideal.main_arg2) (given m' c Reference3Ideal.main_arg3) (given m' c Reference3Ideal.main_arg4) (given m' c Reference3Ideal.main_arg5) (given m' c Reference3Ideal.main_arg6) s j).trans (congrArg (fun d => BwdPreMath.ckv d s j) hA)

theorem gate_eq : Reference3Ideal.Read.val_main_v106 (F := Ideal) (given m' c Reference3Ideal.main_arg0) (given m' c Reference3Ideal.main_arg2) = (Kernel3Ideal.Gen.dats m 0 c).arrAt 8 Kernel3Ideal.cfg0.N := by
  refine Eq.trans ?_ (Kernel3Ideal.FwdPre.array_gate m c).symm
  funext y
  obtain ⟨s, j, rfl⟩ : ∃ (s : Fin 8192) (j : Fin 2048), y = ix2 s j := ⟨y 0, y 1, eq_ix2 y⟩
  exact (Reference3Ideal.FwdPre.v106_at (given m' c Reference3Ideal.main_arg0) (given m' c Reference3Ideal.main_arg1) (given m' c Reference3Ideal.main_arg2) (given m' c Reference3Ideal.main_arg3) (given m' c Reference3Ideal.main_arg4) (given m' c Reference3Ideal.main_arg5) (given m' c Reference3Ideal.main_arg6) s j).trans (congrArg (fun d => FwdPreMath.gates d s j) hA)

theorem q_eq : Reference3Ideal.Read.val_main_v111 (F := Ideal) (given m' c Reference3Ideal.main_arg0) (given m' c Reference3Ideal.main_arg1) (given m' c Reference3Ideal.main_arg2) (given m' c Reference3Ideal.main_arg3) (given m' c Reference3Ideal.main_arg4) = (Kernel3Ideal.Gen.dats m 0 c).arrAt 9 Kernel3Ideal.cfg0.N := by
  refine Eq.trans ?_ (Kernel3Ideal.FwdPre.array_q m c).symm
  funext y
  obtain ⟨s, j, rfl⟩ : ∃ (s : Fin 8192) (j : Fin 1024), y = ix2 s j := ⟨y 0, y 1, eq_ix2 y⟩
  exact (Reference3Ideal.FwdPre.v111_at (given m' c Reference3Ideal.main_arg0) (given m' c Reference3Ideal.main_arg1) (given m' c Reference3Ideal.main_arg2) (given m' c Reference3Ideal.main_arg3) (given m' c Reference3Ideal.main_arg4) (given m' c Reference3Ideal.main_arg5) (given m' c Reference3Ideal.main_arg6) s j).trans (congrArg (fun d => FwdPreMath.qarr d s j) hA)

theorem k_eq : Reference3Ideal.Read.val_main_v114 (F := Ideal) (given m' c Reference3Ideal.main_arg0) (given m' c Reference3Ideal.main_arg1) (given m' c Reference3Ideal.main_arg2) (given m' c Reference3Ideal.main_arg5) (given m' c Reference3Ideal.main_arg6) = (Kernel3Ideal.Gen.dats m 0 c).arrAt 10 Kernel3Ideal.cfg0.N := by
  refine Eq.trans ?_ (Kernel3Ideal.FwdPre.array_k m c).symm
  funext y
  obtain ⟨s, j, rfl⟩ : ∃ (s : Fin 8192) (j : Fin 1024), y = ix2 s j := ⟨y 0, y 1, eq_ix2 y⟩
  exact (Reference3Ideal.FwdPre.v114_at (given m' c Reference3Ideal.main_arg0) (given m' c Reference3Ideal.main_arg1) (given m' c Reference3Ideal.main_arg2) (given m' c Reference3Ideal.main_arg3) (given m' c Reference3Ideal.main_arg4) (given m' c Reference3Ideal.main_arg5) (given m' c Reference3Ideal.main_arg6) s j).trans (congrArg (fun d => FwdPreMath.karr d s j) hA)

theorem v_eq : Reference3Ideal.Read.val_main_v116 (F := Ideal) (given m' c Reference3Ideal.main_arg0) (given m' c Reference3Ideal.main_arg2) (given m' c Reference3Ideal.main_arg5) (given m' c Reference3Ideal.main_arg6) = (Kernel3Ideal.Gen.dats m 0 c).arrAt 11 Kernel3Ideal.cfg0.N := by
  refine Eq.trans ?_ (Kernel3Ideal.FwdPre.array_v m c).symm
  funext y
  obtain ⟨s, j, rfl⟩ : ∃ (s : Fin 8192) (j : Fin 512), y = ix2 s j := ⟨y 0, y 1, eq_ix2 y⟩
  exact (Reference3Ideal.FwdPre.v116_at (given m' c Reference3Ideal.main_arg0) (given m' c Reference3Ideal.main_arg1) (given m' c Reference3Ideal.main_arg2) (given m' c Reference3Ideal.main_arg3) (given m' c Reference3Ideal.main_arg4) (given m' c Reference3Ideal.main_arg5) (given m' c Reference3Ideal.main_arg6) s j).trans (congrArg (fun d => FwdPreMath.varr d s j) hA)

end

theorem agree (m : (ℓ : Loc Kernel3Ideal.nD Kernel3Ideal.τ Kernel3Ideal.sig) → Buf (Elt Ideal) ℓ)
    (m' : (ℓ : Loc Reference3Ideal.nD Reference3Ideal.τ Reference3Ideal.sig) → Buf (Elt Ideal) ℓ) (c : Dev Reference3Ideal.nD)
    (h0 : m' (c.tc.loc Reference3Ideal.main_arg0) = m (c.tc.loc Kernel3Ideal.main_arg0))
    (h1 : m' (c.tc.loc Reference3Ideal.main_arg1) = m (c.tc.loc Kernel3Ideal.main_arg1))
    (h2 : m' (c.tc.loc Reference3Ideal.main_arg2) = m (c.tc.loc Kernel3Ideal.main_arg2))
    (h3 : m' (c.tc.loc Reference3Ideal.main_arg3) = m (c.tc.loc Kernel3Ideal.main_arg3))
    (h4 : m' (c.tc.loc Reference3Ideal.main_arg4) = m (c.tc.loc Kernel3Ideal.main_arg4))
    (h5 : m' (c.tc.loc Reference3Ideal.main_arg5) = m (c.tc.loc Kernel3Ideal.main_arg5))
    (h6 : m' (c.tc.loc Reference3Ideal.main_arg6) = m (c.tc.loc Kernel3Ideal.main_arg6))
    : Agree m m' c := by
  unfold Agree given Kernel3Ideal.FwdPre.data
  show FwdPreMath.given (m' (c.tc.loc Reference3Ideal.main_arg0)) (m' (c.tc.loc Reference3Ideal.main_arg1)) (m' (c.tc.loc Reference3Ideal.main_arg2)) (m' (c.tc.loc Reference3Ideal.main_arg3)) (m' (c.tc.loc Reference3Ideal.main_arg4)) (m' (c.tc.loc Reference3Ideal.main_arg5)) (m' (c.tc.loc Reference3Ideal.main_arg6)) = _
  rw [h0, h1, h2, h3, h4, h5, h6]

set_option maxHeartbeats 2000000 in
theorem algebraic : Cert.algebraic_Kernel3Ideal_Reference3Ideal (hKernel3Ideal := Cert.Kernel3Ideal.Gen.facts)
    (hReference3Ideal := Cert.Reference3Ideal.Gen.facts) := by
  pair_intro
  · run_from (Cert.Kernel3Ideal.Value.run_blocks m g)
  · have hA : ∀ c, Agree m m' c := fun c => by
      obtain ⟨h0, h1, h2, h3, h4, h5, h6⟩ := hagree c
      exact agree m m' c h0 h1 h2 h3 h4 h5 h6
    clear hagree
    run_from (Cert.Reference3Ideal.Value.run m' g')
    · exact cq_eq m m' _ (hA _)
    · exact ckv_eq m m' _ (hA _)
    · exact gate_eq m m' _ (hA _)
    · exact q_eq m m' _ (hA _)
    · exact k_eq m m' _ (hA _)
    · exact v_eq m m' _ (hA _)

end Cert.FwdPre
-- ==== Proof.Post.Keep.lean ====
module

public import proofs.«01_k».proof.Proof.Gen.Kernel4Ideal.Skeleton
public import Idealize.ShloMosaic.Lib.Exec.Geometry
public import Idealize.ShloMosaic.Lib.Pipeline.FrameSuffix
public import Idealize.ShloMosaic.Lib.Tactic

/-! Programs that keep a set of buffers, whatever these hold: the rules by which the loads, the stores and their sequences do. -/

@[expose] public section

noncomputable section

namespace Cert.Kernel4Ideal.Post

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program of the body. -/
abbrev Body (F : FTy → Type) [FloatOps F] (α : Type) : Type 1 := Prog (TpuEff nD τ sig (Elt F) Λ₀ .tc) α

/-- The buffer is held, at some contents. -/
def held {s : Shape} {e : EltTy} (c : Dev nD) (a : Memref sig .tc .vmem s e) : sProp 𝕄 :=
  iprop(∃ X, owns (c : Thread nD τ) a fullShare X)

/-- The program gives back `R` as it takes it. -/
def Keeps (c : Dev nD) (R : sProp 𝕄) {α : Type} (p : Body F α) : Prop :=
  R ⊢ wp frame (wpE (defs₀ (F := F)) Variants.none c none) Set.univ p (fun _ => R)

/-- `R` holds the buffer. -/
def Has (c : Dev nD) (R : sProp 𝕄) {s : Shape} {e : EltTy} (a : Memref sig .tc .vmem s e) : Prop :=
  R ⊢ iprop(held c a ∗ (held c a -∗ R))

variable (c : Dev nD) (R : sProp (MT nD τ sig Unit (Elt F) ℕ (UR sig nD τ) ℕ))

theorem keeps_pure {α : Type} (x : α) : Keeps (F := F) c R (pure x) := by
  unfold Keeps
  exact le_wp_ret frame (wpE (defs₀ (F := F)) Variants.none c none) Set.univ x fun _ => R

theorem keeps_bind {α β : Type} {p : Body F α} {k : α → Body F β} (hp : Keeps c R p) (hk : ∀ x, Keeps c R (k x)) : Keeps c R (p >>= k) := by
  unfold Keeps at *
  rw [wp_bind]
  exact hp.trans (wp_mono _ _ _ hk)

theorem keeps_dite {α : Type} {q : Prop} [Decidable q] {p : q → Body F α} {p' : ¬q → Body F α} (h : ∀ x, Keeps c R (p x)) (h' : ∀ x, Keeps c R (p' x)) :
    Keeps c R (if x : q then p x else p' x) := by
  by_cases x : q
  · rw [dif_pos x]; exact h x
  · rw [dif_neg x]; exact h' x

theorem keeps_load {s : Shape} {e : EltTy} {a : Memref sig .tc .vmem s e} {r : LoadRect s} {hl : a.view.LoadsAt r} (ha : Has c R a) :
    Keeps (F := F) c R (Prog.lift (.load a r hl)) := by
  unfold Keeps
  refine BIBase.Entails.trans ha ?_
  unfold held owns
  iintro ⟨⟨%X, %f, %hf, H⟩, Hk⟩
  iapply (wp_load Variants.none (c : Thread nD τ) none Set.univ (m := a) (View.setOn_subset_set _ _)) $$ H
  iintro H
  iapply (le_wp_ret frame (wpE (defs₀ (F := F)) Variants.none c none) Set.univ _ (fun _ => R))
  iapply Hk
  iexists X
  iexists f
  isplitr
  · ipureintro; exact hf
  iexact H

theorem keeps_store {s : Shape} {e : EltTy} {a : Memref sig .tc .vmem s e} {r : Rect s} {w : r.shape.Idx → Elt F e} {M : Finset r.shape.Idx}
    {hx : (a.access r).Stores M} {hm : M = Finset.univ ∨ ∀ b, r.stride b = 1} (ha : Has c R a) :
    Keeps (F := F) c R (Prog.lift (.store a r w M hx hm)) := by
  unfold Keeps
  refine BIBase.Entails.trans ha ?_
  unfold held owns
  iintro ⟨⟨%X, %f, %hf, H⟩, Hk⟩
  iapply (wp_store Variants.none (c : Thread nD τ) none Set.univ (m := a) (r := r) (w := w) (Mk := M) (hx := hx) (hm := hm) (f := f)
    (((a.access r).setOn_subset_set M).trans (a.view.set_slice_subset r))) $$ H
  iintro H
  iapply (le_wp_ret frame (wpE (defs₀ (F := F)) Variants.none c none) Set.univ _ (fun _ => R))
  iapply Hk
  iexists (a.view.read (Elt F) ((a.access r).write (Elt F) f w M))
  iexists ((a.access r).write (Elt F) f w M)
  isplitr
  · ipureintro; rfl
  iexact H

end Cert.Kernel4Ideal.Post

end
-- ==== Proof.Post.Body.lean ====
module

public import proofs.«01_k».proof.Proof.Post.Keep

/-! A point of the gate's call keeps every buffer it works on. -/

@[expose] public section

set_option maxRecDepth 65536

noncomputable section

namespace Cert.Kernel4Ideal.Post

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (R : sProp (MT nD τ sig Unit (Elt F) ℕ (UR sig nD τ) ℕ)) (i : grid0.Coords)
  (arg1 : Memref sig .tc .vmem S512x1024 .f32) (harg1 : arg1.IsWhole)
  (arg2 : Memref sig .tc .vmem S512x1024 .f32) (harg2 : arg2.IsWhole)
  (arg3 : Memref sig .tc .vmem S512x512 .f32) (harg3 : arg3.IsWhole)
  (arg4 : Memref sig .tc .vmem S512x2048 .bf16) (harg4 : arg4.IsWhole)
  (arg5 : Memref sig .tc .vmem S1024x1024 .bf16) (harg5 : arg5.IsWhole)
  (arg6 : Memref sig .tc .vmem S16x1024 .f32) (harg6 : arg6.IsWhole)
  (arg7 : Memref sig .tc .vmem S8x128x128 .bf16) (harg7 : arg7.IsWhole)
  (arg8 : Memref sig .tc .vmem S8x128x128 .bf16) (harg8 : arg8.IsWhole)
  (arg9 : Memref sig .tc .vmem S128x512 .f32) (harg9 : arg9.IsWhole)
  (arg10 : Memref sig .tc .vmem S512x1024 .f32) (harg10 : arg10.IsWhole)
  (arg11 : Memref sig .tc .vmem S512x512 .bf16) (harg11 : arg11.IsWhole)
  (arg12 : Memref sig .tc .vmem S512x2048 .bf16) (harg12 : arg12.IsWhole)
  (arg13 : Memref sig .tc .vmem S1024x1024 .f32) (harg13 : arg13.IsWhole)
  (arg14 : Memref sig .tc .vmem S8x128x128 .f32) (harg14 : arg14.IsWhole)
  (arg15 : Memref sig .tc .vmem S16x1024 .f32) (harg15 : arg15.IsWhole)
  (arg16 : Memref sig .tc .vmem S512x512 .f32) (harg16 : arg16.IsWhole)
  (arg17 : Memref sig .tc .vmem S512x512 .f32) (harg17 : arg17.IsWhole)
  (arg18 : Memref sig .tc .vmem S128x512 .f32) (harg18 : arg18.IsWhole)

set_option maxHeartbeats 1600000 in
theorem keeps_post (o1 : Has c R arg1) (o2 : Has c R arg2) (o3 : Has c R arg3) (o4 : Has c R arg4) (o5 : Has c R arg5) (o6 : Has c R arg6) (o7 : Has c R arg7) (o8 : Has c R arg8) (o9 : Has c R arg9) (o10 : Has c R arg10) (o11 : Has c R arg11) (o12 : Has c R arg12) (o13 : Has c R arg13) (o14 : Has c R arg14) (o15 : Has c R arg15) (o16 : Has c R arg16) (o17 : Has c R arg17) (o18 : Has c R arg18) :
    Keeps (F := F) c R (cc0_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  rw [cc0_post_eq_skeleton]
  unfold cc0_post_skel
  dsimp only
  repeat' first
    | with_reducible exact keeps_pure c R _
    | with_reducible exact keeps_load c R (by assumption)
    | with_reducible exact keeps_store c R (by assumption)
    | with_reducible refine keeps_dite c R (fun _ => ?_) (fun _ => ?_)
    | with_reducible refine keeps_bind c R ?_ (fun _ => ?_)
    | (with_reducible rw [k0_part1_eq_skeleton]; unfold k0_part1_skel; try dsimp only)
    | (with_reducible rw [k0_part2_eq_skeleton]; unfold k0_part2_skel; try dsimp only)
    | (with_reducible rw [k0_part3_eq_skeleton]; unfold k0_part3_skel; try dsimp only)
    | (with_reducible rw [k0_part4_eq_skeleton]; unfold k0_part4_skel; try dsimp only)
    | (with_reducible rw [k0_part5_eq_skeleton]; unfold k0_part5_skel; try dsimp only)
    | (with_reducible rw [k0_part6_eq_skeleton]; unfold k0_part6_skel; try dsimp only)
    | (with_reducible rw [k0_part7_eq_skeleton]; unfold k0_part7_skel; try dsimp only)
    | (with_reducible rw [k0_part8_eq_skeleton]; unfold k0_part8_skel; try dsimp only)
    | (with_reducible rw [k0_part9_eq_skeleton]; unfold k0_part9_skel; try dsimp only)
    | (with_reducible rw [k0_part10_eq_skeleton]; unfold k0_part10_skel; try dsimp only)
    | (with_reducible rw [k0_part11_eq_skeleton]; unfold k0_part11_skel; try dsimp only)
    | (with_reducible rw [k0_part12_eq_skeleton]; unfold k0_part12_skel; try dsimp only)
    | (with_reducible rw [k0_part13_eq_skeleton]; unfold k0_part13_skel; try dsimp only)
    | (with_reducible rw [k0_part14_eq_skeleton]; unfold k0_part14_skel; try dsimp only)
    | (with_reducible rw [k0_part15_eq_skeleton]; unfold k0_part15_skel; try dsimp only)
    | (with_reducible rw [k0_part16_eq_skeleton]; unfold k0_part16_skel; try dsimp only)
    | (with_reducible rw [k0_part17_eq_skeleton]; unfold k0_part17_skel; try dsimp only)
    | (with_reducible rw [k0_part18_eq_skeleton]; unfold k0_part18_skel; try dsimp only)
    | (with_reducible rw [k0_part19_eq_skeleton]; unfold k0_part19_skel; try dsimp only)
    | (with_reducible rw [k0_part20_eq_skeleton]; unfold k0_part20_skel; try dsimp only)
    | (with_reducible rw [k0_part21_eq_skeleton]; unfold k0_part21_skel; try dsimp only)
    | (with_reducible rw [k0_part22_eq_skeleton]; unfold k0_part22_skel; try dsimp only)
    | (with_reducible rw [k0_part23_eq_skeleton]; unfold k0_part23_skel; try dsimp only)
    | (with_reducible rw [k0_part24_eq_skeleton]; unfold k0_part24_skel; try dsimp only)
    | (with_reducible rw [k0_part25_eq_skeleton]; unfold k0_part25_skel; try dsimp only)
    | (with_reducible rw [k0_part26_eq_skeleton]; unfold k0_part26_skel; try dsimp only)
    | (with_reducible rw [k0_part27_eq_skeleton]; unfold k0_part27_skel; try dsimp only)
    | (with_reducible rw [k0_part28_eq_skeleton]; unfold k0_part28_skel; try dsimp only)
    | (with_reducible rw [k0_part29_eq_skeleton]; unfold k0_part29_skel; try dsimp only)
    | (with_reducible rw [k0_part30_eq_skeleton]; unfold k0_part30_skel; try dsimp only)
    | (with_reducible rw [k0_part31_eq_skeleton]; unfold k0_part31_skel; try dsimp only)
    | (with_reducible rw [k0_part32_eq_skeleton]; unfold k0_part32_skel; try dsimp only)
    | (with_reducible rw [k0_part33_eq_skeleton]; unfold k0_part33_skel; try dsimp only)
    | (with_reducible rw [k0_part34_eq_skeleton]; unfold k0_part34_skel; try dsimp only)
    | (with_reducible rw [k0_part35_eq_skeleton]; unfold k0_part35_skel; try dsimp only)
    | (with_reducible rw [k0_part36_eq_skeleton]; unfold k0_part36_skel; try dsimp only)
    | (with_reducible rw [k0_part37_eq_skeleton]; unfold k0_part37_skel; try dsimp only)

end Cert.Kernel4Ideal.Post

end
-- ==== Proof.Post.Run.lean ====
module

public import proofs.«01_k».proof.Proof.Post.Body
public import proofs.«01_k».proof.Proof.Gen.Kernel4Ideal.Frame
public import Idealize.ShloMosaic.Lib.Claim

/-! The gate's call runs through and leaves its arguments as it finds them, whatever its windows and its scratch buffers hold. -/

@[expose] public section

set_option maxRecDepth 16384

noncomputable section

namespace Cert.Kernel4Ideal.Post

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable {c : Dev nD} {s : Shape} {e : EltTy} {a : Memref sig .tc .vmem s e}

theorem has_self (c : Dev nD) (a : Memref sig .tc .vmem s e) : Has (F := F) c (held c a) a := by
  unfold Has
  iintro H
  isplitl [H]; · iexact H
  iintro H
  iexact H

theorem has_left {P S : sProp (MT nD τ sig Unit (Elt F) ℕ (UR sig nD τ) ℕ)} (h : Has c P a) : Has c iprop(P ∗ S) a := by
  unfold Has at *
  iintro ⟨HP, HS⟩
  ihave HP := h $$ HP
  icases HP with ⟨Ha, Hk⟩
  isplitl [Ha]; · iexact Ha
  iintro Ha
  isplitr [HS]
  · iapply Hk; iexact Ha
  iexact HS

theorem has_right {P S : sProp (MT nD τ sig Unit (Elt F) ℕ (UR sig nD τ) ℕ)} (h : Has c P a) : Has c iprop(S ∗ P) a := by
  unfold Has at *
  iintro ⟨HS, HP⟩
  ihave HP := h $$ HP
  icases HP with ⟨Ha, Hk⟩
  isplitl [Ha]; · iexact Ha
  iintro Ha
  isplitl [HS]; · iexact HS
  iapply Hk; iexact Ha
end

/-- The pipeline's data; of what the windows are left at nothing is asked. -/
def dats (_ : Fin 1) (c : Dev nD) : Dat τ (Elt F) Unit ℕ (UR sig nD τ) ℕ cfg0 c where
  A w := V m c (Pipeline.arrRef spec0 w)
  after _ _ _ := Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

/-- The body's buffers at a point, beside the generator's register and the debts. -/
def around (c : Dev nD) (t : Fin cfg0.N) : sProp (MT nD τ sig Unit (Elt F) ℕ (UR sig nD τ) ℕ) :=
  iprop(((held c (Memref.whole cc0_scratch0) ∗ held c (Memref.whole cc0_scratch1) ∗ held c (Memref.whole cc0_scratch2)) ∗ ∃ r, prngReg c r)
    ∗ (dats m 0 c).owesAt () t.castSucc ∗ held c (win0_0.stage (cfg0.slots t 0)) ∗ held c (win0_1.stage (cfg0.slots t 1)) ∗ held c (win0_2.stage (cfg0.slots t 2)) ∗ held c (win0_3.stage (cfg0.slots t 3)) ∗ held c (win0_4.stage (cfg0.slots t 4)) ∗ held c (win0_5.stage (cfg0.slots t 5)) ∗ held c (win0_6.stage (cfg0.slots t 6)) ∗ held c (win0_7.stage (cfg0.slots t 7)) ∗ held c (win0_8.stage (cfg0.slots t 8)) ∗ held c (win0_9.stage (cfg0.slots t 9)) ∗ held c (win0_10.stage (cfg0.slots t 10)) ∗ held c (win0_11.stage (cfg0.slots t 11)) ∗ held c (win0_12.stage (cfg0.slots t 12)) ∗ held c (win0_13.stage (cfg0.slots t 13)) ∗ held c (win0_14.stage (cfg0.slots t 14)))

theorem keeps_around (c : Dev nD) (t : Fin cfg0.N) : Keeps (F := F) c (around m c t) (bodyAt0 t) := by
  unfold bodyAt0
  apply keeps_post
  all_goals unfold around
  · exact has_right (has_right (has_left (has_self c _)))
  · exact has_right (has_right (has_right (has_left (has_self c _))))
  · exact has_right (has_right (has_right (has_right (has_left (has_self c _)))))
  · exact has_right (has_right (has_right (has_right (has_right (has_left (has_self c _))))))
  · exact has_right (has_right (has_right (has_right (has_right (has_right (has_left (has_self c _)))))))
  · exact has_right (has_right (has_right (has_right (has_right (has_right (has_right (has_left (has_self c _))))))))
  · exact has_right (has_right (has_right (has_right (has_right (has_right (has_right (has_right (has_left (has_self c _)))))))))
  · exact has_right (has_right (has_right (has_right (has_right (has_right (has_right (has_right (has_right (has_left (has_self c _))))))))))
  · exact has_right (has_right (has_right (has_right (has_right (has_right (has_right (has_right (has_right (has_right (has_left (has_self c _)))))))))))
  · exact has_right (has_right (has_right (has_right (has_right (has_right (has_right (has_right (has_right (has_right (has_right (has_left (has_self c _))))))))))))
  · exact has_right (has_right (has_right (has_right (has_right (has_right (has_right (has_right (has_right (has_right (has_right (has_right (has_left (has_self c _)))))))))))))
  · exact has_right (has_right (has_right (has_right (has_right (has_right (has_right (has_right (has_right (has_right (has_right (has_right (has_right (has_left (has_self c _))))))))))))))
  · exact has_right (has_right (has_right (has_right (has_right (has_right (has_right (has_right (has_right (has_right (has_right (has_right (has_right (has_right (has_left (has_self c _)))))))))))))))
  · exact has_right (has_right (has_right (has_right (has_right (has_right (has_right (has_right (has_right (has_right (has_right (has_right (has_right (has_right (has_right (has_left (has_self c _))))))))))))))))
  · exact has_right (has_right (has_right (has_right (has_right (has_right (has_right (has_right (has_right (has_right (has_right (has_right (has_right (has_right (has_right (has_right (has_self c _))))))))))))))))
  · exact has_left (has_left (has_left (has_self c _)))
  · exact has_left (has_left (has_right (has_left (has_self c _))))
  · exact has_left (has_left (has_right (has_right (has_self c _))))

theorem scratch_eq (c : Dev nD) : (Pipeline.ΦA spec0 c : sProp (MT nD τ sig Unit (Elt F) ℕ (UR sig nD τ) ℕ))
    = iprop((held c (Memref.whole cc0_scratch0) ∗ held c (Memref.whole cc0_scratch1) ∗ held c (Memref.whole cc0_scratch2)) ∗ ∃ r, prngReg c r) := by
  unfold Pipeline.ΦA held
  rw [scopedRest0_eq]
  simp only [owns_whole]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ (fun _ => true) := fun t => by
  have h := keeps_around m c t
  unfold Keeps around at h
  rw [defs₀_row]
  simp only [bigSep_W0]
  rw [← scratch_eq c] at h
  unfold held at h
  exact h

/-- The buffers that the lines after the call write. -/
def written : Finset (Ref sig .tc) := {main_v30, main_v31, main_v32, main_v33, main_v34, main_v35, main_v36, main_v37, main_v38, main_v39, main_v40, main_v41, main_v42, main_v43, main_v44, main_v45, main_v46, main_v47, main_v48, main_v49, main_v50, main_v51, main_v52, main_v53, main_v54, main_v55}

theorem writes_written : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl
  all_goals intro b hb; simp only [StableHlo.unary_writes, StableHlo.reshape_writes, Finset.mem_singleton] at hb; cases Proc.devRef_injective _ hb; decide

set_option backward.isDefEq.respectTransparency.types false in
set_option maxHeartbeats 800000 in
/-- The launch, with what the windows' arrays end at left open. -/
theorem run_main : θ_run defs (onTc (τ := τ) (main (F := F))) (s₀ m ρ)
    (fun r => Pipeline.RDat.FramePostR cfg0 (fun c => (dats m 0 c).toRForget (fun _ => true)) written (fun c b => V0 m c (Proc.devRef .tc b)) r ∧ r.2.sem = fun _ => 0) :=
  Pipeline.θ_run_frame_around_T_forget (Q' := _) cfgs (dats m) (0 : Fin 1) launch0 defs₀ Variants.none (fun _ => true) written m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_written) (hmain := hmain m Variants.none) (hA := A_eq m) (hΦ := fun _ _ => rfl)

theorem outside (b : Ref sig .tc) (hs : b.isScoped = false) (ha : ∀ w, (spec0 w).arr.view.ref ≠ b) (hb : b ∉ written) :
    b ∈ Pipeline.restRefs sig spec0 \ written :=
  Finset.mem_sdiff.mpr ⟨Pipeline.mem_restRefs_of b hs ha, hb⟩

/-- Every argument ends as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun r h => ⟨fun c => ⟨((h.1 c).2 main_arg0 (outside main_arg0 (by decide) (by decide) (by decide))).trans (V_main_arg0 m c),
      ((h.1 c).2 main_arg1 (outside main_arg1 (by decide) (by decide) (by decide))).trans (V_main_arg1 m c),
      ((h.1 c).2 main_arg2 (outside main_arg2 (by decide) (by decide) (by decide))).trans (V_main_arg2 m c),
      ((h.1 c).2 main_arg3 (outside main_arg3 (by decide) (by decide) (by decide))).trans (V_main_arg3 m c),
      ((h.1 c).2 main_arg4 (outside main_arg4 (by decide) (by decide) (by decide))).trans (V_main_arg4 m c),
      ((h.1 c).2 main_arg5 (outside main_arg5 (by decide) (by decide) (by decide))).trans (V_main_arg5 m c),
      ((h.1 c).2 main_arg6 (outside main_arg6 (by decide) (by decide) (by decide))).trans (V_main_arg6 m c),
      ((h.1 c).2 main_arg7 (outside main_arg7 (by decide) (by decide) (by decide))).trans (V_main_arg7 m c),
      ((h.1 c).2 main_arg8 (outside main_arg8 (by decide) (by decide) (by decide))).trans (V_main_arg8 m c),
      ((h.1 c).2 main_arg9 (outside main_arg9 (by decide) (by decide) (by decide))).trans (V_main_arg9 m c),
      ((h.1 c).2 main_arg10 (outside main_arg10 (by decide) (by decide) (by decide))).trans (V_main_arg10 m c),
      ((h.1 c).2 main_arg11 (outside main_arg11 (by decide) (by decide) (by decide))).trans (V_main_arg11 m c),
      ((h.1 c).2 main_arg12 (outside main_arg12 (by decide) (by decide) (by decide))).trans (V_main_arg12 m c),
      ((h.1 c).2 main_arg13 (outside main_arg13 (by decide) (by decide) (by decide))).trans (V_main_arg13 m c)⟩, h.2⟩) (run_main m ρ)

end Cert.Kernel4Ideal.Post

end
-- ==== Proof.AttnFwd.Keep.lean ====
module

public import proofs.«01_k».proof.Proof.Gen.Kernel5Ideal.Skeleton
public import Idealize.ShloMosaic.Lib.Exec.Geometry
public import Idealize.ShloMosaic.Lib.Pipeline.FrameSuffix
public import Idealize.ShloMosaic.Lib.Tactic

/-! Programs that keep a set of buffers, whatever these hold, and return what is said of them: the rules, by the program's first step. -/

@[expose] public section

noncomputable section

namespace Cert.Kernel5Ideal.AttnFwd

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- A program of the body. -/
abbrev Body (F : FTy → Type) [FloatOps F] (α : Type) : Type 1 := Prog (TpuEff nD τ sig (Elt F) Λ₀ .tc) α

/-- The buffer is held, at some contents. -/
def held {s : Shape} {e : EltTy} (c : Dev nD) (a : Memref sig .tc .vmem s e) : sProp 𝕄 :=
  iprop(∃ X, owns (c : Thread nD τ) a fullShare X)

/-- The program gives back `R` as it takes it, and what it returns is in `Q`. -/
def Keeps (c : Dev nD) (R : sProp 𝕄) {α : Type} (p : Body F α) (Q : α → Prop) : Prop :=
  R ⊢ wp frame (wpE (defs₀ (F := F)) Variants.none c none) Set.univ p (fun x => iprop(⌜Q x⌝ ∗ R))

/-- `R` holds the buffer. -/
def Has (c : Dev nD) (R : sProp 𝕄) {s : Shape} {e : EltTy} (a : Memref sig .tc .vmem s e) : Prop :=
  R ⊢ iprop(held c a ∗ (held c a -∗ R))

variable (c : Dev nD) (R : sProp (MT nD τ sig Unit (Elt F) ℕ (UR sig nD τ) ℕ))

theorem keeps_pure {α : Type} {x : α} {Q : α → Prop} (h : Q x) : Keeps (F := F) c R (pure x) Q := by
  unfold Keeps
  refine BIBase.Entails.trans ?_ (le_wp_ret frame (wpE (defs₀ (F := F)) Variants.none c none) Set.univ x fun x => iprop(⌜Q x⌝ ∗ R))
  iintro H
  isplitr
  · ipureintro; exact h
  iexact H

theorem keeps_bind {α β : Type} {p : Body F α} {k : α → Body F β} {P : α → Prop} {Q : β → Prop} (hp : Keeps c R p P)
    (hk : ∀ x, P x → Keeps c R (k x) Q) : Keeps c R (p >>= k) Q := by
  unfold Keeps at *
  rw [wp_bind]
  refine hp.trans (wp_mono _ _ _ fun x => ?_)
  iintro ⟨%h, H⟩
  iapply (hk x h)
  iexact H

theorem keeps_ret {α β : Type} {x : α} {k : α → Body F β} {Q : β → Prop} (h : Keeps c R (k x) Q) : Keeps (F := F) c R (pure x >>= k) Q := h

theorem keeps_assoc {α β γ : Type} {p : Body F α} {q : α → Body F β} {k : β → Body F γ} {Q : γ → Prop} (h : Keeps c R (p >>= fun x => q x >>= k) Q) :
    Keeps (F := F) c R ((p >>= q) >>= k) Q := by
  rw [bind_assoc]; exact h

theorem keeps_load {α : Type} {s : Shape} {e : EltTy} {a : Memref sig .tc .vmem s e} {r : LoadRect s} {hl : a.view.LoadsAt r}
    {k : _ → Body F α} {Q : α → Prop} (ha : Has c R a) (h : ∀ x, Keeps c R (k x) Q) : Keeps (F := F) c R (Prog.lift (.load a r hl) >>= k) Q := by
  refine keeps_bind c R (P := fun _ => True) ?_ fun x _ => h x
  unfold Keeps
  refine BIBase.Entails.trans ha ?_
  unfold held owns
  iintro ⟨⟨%X, %f, %hf, H⟩, Hk⟩
  iapply (wp_load Variants.none (c : Thread nD τ) none Set.univ (m := a) (View.setOn_subset_set _ _)) $$ H
  iintro H
  iapply (le_wp_ret frame (wpE (defs₀ (F := F)) Variants.none c none) Set.univ _ (fun _ => iprop(⌜True⌝ ∗ R)))
  isplitr
  · ipureintro; trivial
  iapply Hk
  iexists X
  iexists f
  isplitr
  · ipureintro; exact hf
  iexact H

theorem keeps_store {α : Type} {s : Shape} {e : EltTy} {a : Memref sig .tc .vmem s e} {r : Rect s} {w : r.shape.Idx → Elt F e} {M : Finset r.shape.Idx}
    {hx : (a.access r).Stores M} {hm : M = Finset.univ ∨ ∀ b, r.stride b = 1} {k : PUnit → Body F α} {Q : α → Prop}
    (ha : Has c R a) (h : ∀ x, Keeps c R (k x) Q) : Keeps (F := F) c R (Prog.lift (.store a r w M hx hm) >>= k) Q := by
  refine keeps_bind c R (P := fun _ => True) ?_ fun x _ => h x
  unfold Keeps
  refine BIBase.Entails.trans ha ?_
  unfold held owns
  iintro ⟨⟨%X, %f, %hf, H⟩, Hk⟩
  iapply (wp_store Variants.none (c : Thread nD τ) none Set.univ (m := a) (r := r) (w := w) (Mk := M) (hx := hx) (hm := hm) (f := f)
    (((a.access r).setOn_subset_set M).trans (a.view.set_slice_subset r))) $$ H
  iintro H
  iapply (le_wp_ret frame (wpE (defs₀ (F := F)) Variants.none c none) Set.univ _ (fun _ => iprop(⌜True⌝ ∗ R)))
  isplitr
  · ipureintro; trivial
  iapply Hk
  iexists (a.view.read (Elt F) ((a.access r).write (Elt F) f w M))
  iexists ((a.access r).write (Elt F) f w M)
  isplitr
  · ipureintro; rfl
  iexact H

theorem keeps_assume {α : Type} {P : Prop} {d : Decidable P} {k : PLift P → Body F α} {Q : α → Prop} (hP : P) (h : ∀ x, Keeps c R (k x) Q) :
    Keeps (F := F) c R (Prog.lift (TpuEff.assume P d) >>= k) Q := by
  unfold Keeps at *
  exact (h ⟨hP⟩).trans (wp_assume Variants.none (c : Thread nD τ) none Set.univ hP)

theorem keeps_for {α σ : Type} {L : Scf.Loop 32} {hok : Scf.OK L.lb L.ub L.st} {x : σ} {body : Fin L.trips → σ → Body F σ} {k : σ → Body F α} {Q : α → Prop}
    (J : ℕ → σ → Prop) (h0 : J 0 x) (hb : ∀ (t : Fin L.trips) (a : σ), J t.val a → Keeps c R (body t a) (J (t.val + 1)))
    (hk : ∀ a, Keeps c R (k a) Q) : Keeps (F := F) c R (Scf.Loop.for L hok x body >>= k) Q := by
  refine keeps_bind c R (P := J L.trips) ?_ fun a _ => hk a
  unfold Keeps
  refine entails_trans ?_ (Scf.wp_for frame (wpE (defs₀ (F := F)) Variants.none c none) Set.univ _ _ _ hok x body
    (fun n a => iprop(⌜J n a⌝ ∗ R)) ?_)
  · iintro H
    isplitl
    · isplitr
      · ipureintro; exact h0
      iexact H
    iintro %y ⟨%hy, H⟩
    isplitr
    · ipureintro; exact hy
    iexact H
  intro t a
  iintro ⟨%ha, H⟩
  have h := hb t a ha
  unfold Keeps at h
  iapply h
  iexact H

end Cert.Kernel5Ideal.AttnFwd

end
-- ==== Proof.AttnFwd.Body.lean ====
module

public import proofs.«01_k».proof.Proof.AttnFwd.Keep

/-! A point of the attention's forward call keeps every buffer it works on: the rows that its loops carry stay within the arrays. -/

@[expose] public section

set_option maxRecDepth 65536

noncomputable section

namespace Cert.Kernel5Ideal.AttnFwd

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The next query block and key blocks, in stretches of four. -/
def wide (x : BitVec 32 × BitVec 32) : BitVec 32 × BitVec 32 :=
  (Scalar.minsi (Scalar.select (Scalar.cmpi .sgt (Scalar.addi x.2 8#32) x.1) (Scalar.addi x.1 1#32) x.1) 15#32,
    Scalar.select (Scalar.cmpi .sgt (Scalar.addi x.2 8#32) x.1) 0#32 (Scalar.addi x.2 4#32))

/-- In pairs. -/
def pair (x : BitVec 32 × BitVec 32) : BitVec 32 × BitVec 32 :=
  (Scalar.minsi (Scalar.select (Scalar.cmpi .eq (Scalar.remsi x.1 4#32) 2#32) (Scalar.addi x.1 1#32) (Scalar.addi x.1 3#32)) 15#32,
    Scalar.minsi (Scalar.select (Scalar.cmpi .eq (Scalar.remsi x.1 4#32) 2#32) x.2 (Scalar.addi x.2 4#32)) 12#32)

/-- One by one below the diagonal. -/
def single (x : BitVec 32 × BitVec 32) : BitVec 32 × BitVec 32 :=
  (Scalar.minsi (Scalar.addi x.1 2#32) 15#32, Scalar.minsi (Scalar.addi x.2 2#32) 14#32)

/-- Along the diagonal. -/
def diagonal (x : BitVec 32 × BitVec 32) : BitVec 32 × BitVec 32 :=
  (Scalar.minsi (Scalar.addi x.1 1#32) 15#32, Scalar.minsi (Scalar.addi x.2 1#32) 15#32)

/-- What a loop carries before its trip `n`, a trip taking two steps. -/
def carried (step : BitVec 32 × BitVec 32 → BitVec 32 × BitVec 32) (x : BitVec 32 × BitVec 32) : ℕ → BitVec 32 × BitVec 32
  | 0 => x
  | n + 1 => step (step (carried step x n))

theorem within1 : ∀ t : Fin k0_t1_loop.trips, k0_chk2 (carried wide (4#32, 0#32) t.val).1 ∧ k0_chk1 (carried wide (4#32, 0#32) t.val).1 (carried wide (4#32, 0#32) t.val).2 := by decide +kernel
theorem within2 : ∀ t : Fin k0_t2_loop.trips, k0_chk4 (carried pair (2#32, 0#32) t.val).1 (carried pair (2#32, 0#32) t.val).2 ∧ k0_chk3 (carried pair (2#32, 0#32) t.val).1 := by decide +kernel
theorem within3 : ∀ t : Fin k0_t3_loop.trips, k0_chk6 (carried single (1#32, 0#32) t.val).2 ∧ k0_chk5 (carried single (1#32, 0#32) t.val).1 := by decide +kernel
theorem within4 : ∀ t : Fin k0_t4_loop.trips, k0_chk8 (carried diagonal (0#32, 0#32) t.val).2 ∧ k0_chk7 (carried diagonal (0#32, 0#32) t.val).1 := by decide +kernel

variable (c : Dev nD) (R : sProp (MT nD τ sig Unit (Elt F) ℕ (UR sig nD τ) ℕ)) (i : grid0.Coords)
  (arg1 : Memref sig .tc .vmem S8192x256 .bf16) (harg1 : arg1.IsWhole)
  (arg2 : Memref sig .tc .vmem S8192x256 .bf16) (harg2 : arg2.IsWhole)
  (arg3 : Memref sig .tc .vmem S16x128x512 .bf16) (harg3 : arg3.IsWhole)
  (arg4 : Memref sig .tc .vmem S8192x128 .f32) (harg4 : arg4.IsWhole)
  (arg5 : Memref sig .tc .vmem S1x16x2x512 .f32) (harg5 : arg5.IsWhole)
  (arg6 : Memref sig .tc .vmem S16x8x512 .f32) (harg6 : arg6.IsWhole)
  (arg7 : Memref sig .tc .vmem S16x8x512 .f32) (harg7 : arg7.IsWhole)
  (arg8 : Memref sig .tc .vmem S16x2x128x512 .f32) (harg8 : arg8.IsWhole)
  (arg9 : Memref sig .tc .vmem S2x2048x512 .f32) (harg9 : arg9.IsWhole)
  (arg10 : Memref sig .tc .vmem S2x2048x512 .f32) (harg10 : arg10.IsWhole)

set_option maxHeartbeats 1600000 in
theorem keeps_trip1 (o1 : Has c R arg1) (o2 : Has c R arg2) (o3 : Has c R arg3) (o4 : Has c R arg4) (o5 : Has c R arg5) (o6 : Has c R arg6) (o7 : Has c R arg7) (o8 : Has c R arg8) (o9 : Has c R arg9) (o10 : Has c R arg10) (v30 : FVec F S2048x512 .f32) (t : Fin k0_t1_loop.trips) (a : BitVec 32 × BitVec 32)
    (ha : a = carried wide (4#32, 0#32) t.val) : Keeps (F := F) c R (k0_t1_body i arg1 harg1 arg2 harg2 arg3 harg3 arg4 harg4 arg5 harg5 arg6 harg6 arg7 harg7 arg8 harg8 arg9 harg9 arg10 harg10 v30 t a) (fun a => a = carried wide (4#32, 0#32) (t.val + 1)) := by
  have hw := within1 t
  rw [← ha] at hw
  obtain ⟨hw, hw'⟩ := hw
  unfold carried
  rw [← ha]
  obtain ⟨a, b⟩ := a
  dsimp only at hw hw'
  unfold k0_t1_body
  dsimp only
  repeat' first
    | with_reducible refine keeps_load c R (by assumption) (fun _ => ?_)
    | with_reducible refine keeps_store c R (by assumption) (fun _ => ?_)
    | with_reducible refine keeps_assume c R (by assumption) (fun _ => ?_)
    | with_reducible refine keeps_ret c R ?_
    | with_reducible refine keeps_assoc c R ?_
    | (with_reducible rw [k0_part1_eq_skeleton]; unfold k0_part1_skel; try dsimp only)
    | (with_reducible rw [k0_part2_eq_skeleton]; unfold k0_part2_skel; try dsimp only)
    | (with_reducible rw [k0_part3_eq_skeleton]; unfold k0_part3_skel; try dsimp only)
    | (with_reducible rw [k0_part4_eq_skeleton]; unfold k0_part4_skel; try dsimp only)
    | (with_reducible rw [k0_part5_eq_skeleton]; unfold k0_part5_skel; try dsimp only)
    | (with_reducible rw [k0_part6_eq_skeleton]; unfold k0_part6_skel; try dsimp only)
    | (with_reducible rw [k0_part7_eq_skeleton]; unfold k0_part7_skel; try dsimp only)
    | (with_reducible rw [k0_part8_eq_skeleton]; unfold k0_part8_skel; try dsimp only)
  exact keeps_pure c R rfl

set_option maxHeartbeats 1600000 in
theorem keeps_trip2 (o1 : Has c R arg1) (o2 : Has c R arg2) (o3 : Has c R arg3) (o4 : Has c R arg4) (o5 : Has c R arg5) (o6 : Has c R arg6) (o7 : Has c R arg7) (o8 : Has c R arg8) (o9 : Has c R arg9) (o10 : Has c R arg10) (v30 : FVec F S2048x512 .f32) (t : Fin k0_t2_loop.trips) (a : BitVec 32 × BitVec 32)
    (ha : a = carried pair (2#32, 0#32) t.val) : Keeps (F := F) c R (k0_t2_body i arg1 harg1 arg2 harg2 arg3 harg3 arg4 harg4 arg5 harg5 arg6 harg6 arg7 harg7 arg8 harg8 arg9 harg9 arg10 harg10 v30 t a) (fun a => a = carried pair (2#32, 0#32) (t.val + 1)) := by
  have hw := within2 t
  rw [← ha] at hw
  obtain ⟨hw, hw'⟩ := hw
  unfold carried
  rw [← ha]
  obtain ⟨a, b⟩ := a
  dsimp only at hw hw'
  unfold k0_t2_body
  dsimp only
  repeat' first
    | with_reducible refine keeps_load c R (by assumption) (fun _ => ?_)
    | with_reducible refine keeps_store c R (by assumption) (fun _ => ?_)
    | with_reducible refine keeps_assume c R (by assumption) (fun _ => ?_)
    | with_reducible refine keeps_ret c R ?_
    | with_reducible refine keeps_assoc c R ?_
    | (with_reducible rw [k0_part9_eq_skeleton]; unfold k0_part9_skel; try dsimp only)
    | (with_reducible rw [k0_part10_eq_skeleton]; unfold k0_part10_skel; try dsimp only)
    | (with_reducible rw [k0_part11_eq_skeleton]; unfold k0_part11_skel; try dsimp only)
    | (with_reducible rw [k0_part12_eq_skeleton]; unfold k0_part12_skel; try dsimp only)
    | (with_reducible rw [k0_part13_eq_skeleton]; unfold k0_part13_skel; try dsimp only)
    | (with_reducible rw [k0_part14_eq_skeleton]; unfold k0_part14_skel; try dsimp only)
    | (with_reducible rw [k0_part15_eq_skeleton]; unfold k0_part15_skel; try dsimp only)
  exact keeps_pure c R rfl

set_option maxHeartbeats 1600000 in
theorem keeps_trip3 (o1 : Has c R arg1) (o2 : Has c R arg2) (o3 : Has c R arg3) (o4 : Has c R arg4) (o5 : Has c R arg5) (o6 : Has c R arg6) (o7 : Has c R arg7) (o8 : Has c R arg8) (o9 : Has c R arg9) (o10 : Has c R arg10) (c512_i32 : BitVec 32) (t : Fin k0_t3_loop.trips) (a : BitVec 32 × BitVec 32)
    (ha : a = carried single (1#32, 0#32) t.val) : Keeps (F := F) c R (k0_t3_body i arg1 harg1 arg2 harg2 arg3 harg3 arg4 harg4 arg5 harg5 arg6 harg6 arg7 harg7 arg8 harg8 arg9 harg9 arg10 harg10 c512_i32 t a) (fun a => a = carried single (1#32, 0#32) (t.val + 1)) := by
  have hw := within3 t
  rw [← ha] at hw
  obtain ⟨hw, hw'⟩ := hw
  unfold carried
  rw [← ha]
  obtain ⟨a, b⟩ := a
  dsimp only at hw hw'
  unfold k0_t3_body
  dsimp only
  repeat' first
    | with_reducible refine keeps_load c R (by assumption) (fun _ => ?_)
    | with_reducible refine keeps_store c R (by assumption) (fun _ => ?_)
    | with_reducible refine keeps_assume c R (by assumption) (fun _ => ?_)
    | with_reducible refine keeps_ret c R ?_
    | with_reducible refine keeps_assoc c R ?_
    | (with_reducible rw [k0_part16_eq_skeleton]; unfold k0_part16_skel; try dsimp only)
    | (with_reducible rw [k0_part17_eq_skeleton]; unfold k0_part17_skel; try dsimp only)
    | (with_reducible rw [k0_part18_eq_skeleton]; unfold k0_part18_skel; try dsimp only)
    | (with_reducible rw [k0_part19_eq_skeleton]; unfold k0_part19_skel; try dsimp only)
    | (with_reducible rw [k0_part20_eq_skeleton]; unfold k0_part20_skel; try dsimp only)
    | (with_reducible rw [k0_part21_eq_skeleton]; unfold k0_part21_skel; try dsimp only)
  exact keeps_pure c R rfl

set_option maxHeartbeats 1600000 in
theorem keeps_trip4 (o1 : Has c R arg1) (o2 : Has c R arg2) (o3 : Has c R arg3) (o4 : Has c R arg4) (o5 : Has c R arg5) (o6 : Has c R arg6) (o7 : Has c R arg7) (o8 : Has c R arg8) (o9 : Has c R arg9) (o10 : Has c R arg10)  (t : Fin k0_t4_loop.trips) (a : BitVec 32 × BitVec 32)
    (ha : a = carried diagonal (0#32, 0#32) t.val) : Keeps (F := F) c R (k0_t4_body i arg1 harg1 arg2 harg2 arg3 harg3 arg4 harg4 arg5 harg5 arg6 harg6 arg7 harg7 arg8 harg8 arg9 harg9 arg10 harg10  t a) (fun a => a = carried diagonal (0#32, 0#32) (t.val + 1)) := by
  have hw := within4 t
  rw [← ha] at hw
  obtain ⟨hw, hw'⟩ := hw
  unfold carried
  rw [← ha]
  obtain ⟨a, b⟩ := a
  dsimp only at hw hw'
  unfold k0_t4_body
  dsimp only
  repeat' first
    | with_reducible refine keeps_load c R (by assumption) (fun _ => ?_)
    | with_reducible refine keeps_store c R (by assumption) (fun _ => ?_)
    | with_reducible refine keeps_assume c R (by assumption) (fun _ => ?_)
    | with_reducible refine keeps_ret c R ?_
    | with_reducible refine keeps_assoc c R ?_
    | (with_reducible rw [k0_part22_eq_skeleton]; unfold k0_part22_skel; try dsimp only)
    | (with_reducible rw [k0_part23_eq_skeleton]; unfold k0_part23_skel; try dsimp only)
    | (with_reducible rw [k0_part24_eq_skeleton]; unfold k0_part24_skel; try dsimp only)
    | (with_reducible rw [k0_part25_eq_skeleton]; unfold k0_part25_skel; try dsimp only)
    | (with_reducible rw [k0_part26_eq_skeleton]; unfold k0_part26_skel; try dsimp only)
    | (with_reducible rw [k0_part27_eq_skeleton]; unfold k0_part27_skel; try dsimp only)
  exact keeps_pure c R rfl

set_option maxHeartbeats 1600000 in
theorem keeps_trip5 (o1 : Has c R arg1) (o2 : Has c R arg2) (o3 : Has c R arg3) (o4 : Has c R arg4) (o5 : Has c R arg5) (o6 : Has c R arg6) (o7 : Has c R arg7) (o8 : Has c R arg8) (o9 : Has c R arg9) (o10 : Has c R arg10)  (t : Fin k0_t5_loop.trips) (a : Unit) : Keeps (F := F) c R (k0_t5_body i arg1 harg1 arg2 harg2 arg3 harg3 arg4 harg4 arg5 harg5 arg6 harg6 arg7 harg7 arg8 harg8 arg9 harg9 arg10 harg10  t a) (fun _ => True) := by
  unfold k0_t5_body
  dsimp only
  repeat' first
    | with_reducible refine keeps_load c R (by assumption) (fun _ => ?_)
    | with_reducible refine keeps_store c R (by assumption) (fun _ => ?_)
    | with_reducible refine keeps_assume c R (by assumption) (fun _ => ?_)
    | with_reducible refine keeps_ret c R ?_
    | with_reducible refine keeps_assoc c R ?_
  exact keeps_pure c R trivial

set_option maxHeartbeats 1600000 in
theorem keeps_attn (o1 : Has c R arg1) (o2 : Has c R arg2) (o3 : Has c R arg3) (o4 : Has c R arg4) (o5 : Has c R arg5) (o6 : Has c R arg6) (o7 : Has c R arg7) (o8 : Has c R arg8) (o9 : Has c R arg9) (o10 : Has c R arg10) : Keeps (F := F) c R (cc0_attn_fwd i arg1 harg1 arg2 harg2 arg3 harg3 arg4 harg4 arg5 harg5 arg6 harg6 arg7 harg7 arg8 harg8 arg9 harg9 arg10 harg10) (fun _ => True) := by
  rw [cc0_attn_fwd_eq_skeleton]
  unfold cc0_attn_fwd_skel
  dsimp only
  repeat' first
    | with_reducible refine keeps_load c R (by assumption) (fun _ => ?_)
    | with_reducible refine keeps_store c R (by assumption) (fun _ => ?_)
    | with_reducible refine keeps_assume c R (by assumption) (fun _ => ?_)
    | with_reducible refine keeps_ret c R ?_
    | with_reducible refine keeps_assoc c R ?_
    | with_reducible refine keeps_for c R (L := k0_t1_loop) (fun n a => a = carried wide (4#32, 0#32) n) rfl (fun t a ha => keeps_trip1 (o1 := o1) (o2 := o2) (o3 := o3) (o4 := o4) (o5 := o5) (o6 := o6) (o7 := o7) (o8 := o8) (o9 := o9) (o10 := o10) (ha := ha) ..) (fun _ => ?_)
    | with_reducible refine keeps_for c R (L := k0_t2_loop) (fun n a => a = carried pair (2#32, 0#32) n) rfl (fun t a ha => keeps_trip2 (o1 := o1) (o2 := o2) (o3 := o3) (o4 := o4) (o5 := o5) (o6 := o6) (o7 := o7) (o8 := o8) (o9 := o9) (o10 := o10) (ha := ha) ..) (fun _ => ?_)
    | with_reducible refine keeps_for c R (L := k0_t3_loop) (fun n a => a = carried single (1#32, 0#32) n) rfl (fun t a ha => keeps_trip3 (o1 := o1) (o2 := o2) (o3 := o3) (o4 := o4) (o5 := o5) (o6 := o6) (o7 := o7) (o8 := o8) (o9 := o9) (o10 := o10) (ha := ha) ..) (fun _ => ?_)
    | with_reducible refine keeps_for c R (L := k0_t4_loop) (fun n a => a = carried diagonal (0#32, 0#32) n) rfl (fun t a ha => keeps_trip4 (o1 := o1) (o2 := o2) (o3 := o3) (o4 := o4) (o5 := o5) (o6 := o6) (o7 := o7) (o8 := o8) (o9 := o9) (o10 := o10) (ha := ha) ..) (fun _ => ?_)
    | with_reducible refine keeps_for c R (L := k0_t5_loop) (fun _ _ => True) trivial (fun t a ha => keeps_trip5 (o1 := o1) (o2 := o2) (o3 := o3) (o4 := o4) (o5 := o5) (o6 := o6) (o7 := o7) (o8 := o8) (o9 := o9) (o10 := o10) ..) (fun _ => ?_)
    | (with_reducible rw [k0_part28_eq_skeleton]; unfold k0_part28_skel; try dsimp only)
    | (with_reducible rw [k0_part29_eq_skeleton]; unfold k0_part29_skel; try dsimp only)
    | (with_reducible rw [k0_part30_eq_skeleton]; unfold k0_part30_skel; try dsimp only)
  exact keeps_pure c R trivial

end Cert.Kernel5Ideal.AttnFwd

end
-- ==== Proof.AttnFwd.Run.lean ====
module

public import proofs.«01_k».proof.Proof.AttnFwd.Body
public import proofs.«01_k».proof.Proof.Gen.Kernel5Ideal.Frame
public import Idealize.ShloMosaic.Lib.Claim

/-! The attention's forward call runs through and leaves its arguments as it finds them, whatever its windows and its scratch buffers hold. -/

@[expose] public section

set_option maxRecDepth 16384

noncomputable section

namespace Cert.Kernel5Ideal.AttnFwd

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section
variable {c : Dev nD} {s : Shape} {e : EltTy} {a : Memref sig .tc .vmem s e}

theorem has_self (c : Dev nD) (a : Memref sig .tc .vmem s e) : Has (F := F) c (held c a) a := by
  unfold Has
  iintro H
  isplitl [H]; · iexact H
  iintro H
  iexact H

theorem has_left {P S : sProp (MT nD τ sig Unit (Elt F) ℕ (UR sig nD τ) ℕ)} (h : Has c P a) : Has c iprop(P ∗ S) a := by
  unfold Has at *
  iintro ⟨HP, HS⟩
  ihave HP := h $$ HP
  icases HP with ⟨Ha, Hk⟩
  isplitl [Ha]; · iexact Ha
  iintro Ha
  isplitr [HS]
  · iapply Hk; iexact Ha
  iexact HS

theorem has_right {P S : sProp (MT nD τ sig Unit (Elt F) ℕ (UR sig nD τ) ℕ)} (h : Has c P a) : Has c iprop(S ∗ P) a := by
  unfold Has at *
  iintro ⟨HS, HP⟩
  ihave HP := h $$ HP
  icases HP with ⟨Ha, Hk⟩
  isplitl [Ha]; · iexact Ha
  iintro Ha
  isplitl [HS]; · iexact HS
  iapply Hk; iexact Ha
end

/-- The pipeline's data; of what the windows are left at nothing is asked. -/
def dats (_ : Fin 1) (c : Dev nD) : Dat τ (Elt F) Unit ℕ (UR sig nD τ) ℕ cfg0 c where
  A w := V m c (Pipeline.arrRef spec0 w)
  after _ _ _ := Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

/-- The body's buffers at a point, beside the generator's register and the debts. -/
def around (c : Dev nD) (t : Fin cfg0.N) : sProp (MT nD τ sig Unit (Elt F) ℕ (UR sig nD τ) ℕ) :=
  iprop(((held c (Memref.whole cc0_scratch0) ∗ held c (Memref.whole cc0_scratch1) ∗ held c (Memref.whole cc0_scratch2) ∗ held c (Memref.whole cc0_scratch3) ∗ held c (Memref.whole cc0_scratch4)) ∗ ∃ r, prngReg c r)
    ∗ (dats m 0 c).owesAt () t.castSucc ∗ held c (win0_0.stage (cfg0.slots t 0)) ∗ held c (win0_1.stage (cfg0.slots t 1)) ∗ held c (win0_2.stage (cfg0.slots t 2)) ∗ held c (win0_3.stage (cfg0.slots t 3)) ∗ held c (win0_4.stage (cfg0.slots t 4)))

theorem keeps_around (c : Dev nD) (t : Fin cfg0.N) : Keeps (F := F) c (around m c t) (bodyAt0 t) (fun _ => True) := by
  unfold bodyAt0
  apply keeps_attn
  all_goals unfold around
  · exact has_right (has_right (has_left (has_self c _)))
  · exact has_right (has_right (has_right (has_left (has_self c _))))
  · exact has_right (has_right (has_right (has_right (has_left (has_self c _)))))
  · exact has_right (has_right (has_right (has_right (has_right (has_left (has_self c _))))))
  · exact has_right (has_right (has_right (has_right (has_right (has_right (has_self c _))))))
  · exact has_left (has_left (has_left (has_self c _)))
  · exact has_left (has_left (has_right (has_left (has_self c _))))
  · exact has_left (has_left (has_right (has_right (has_left (has_self c _)))))
  · exact has_left (has_left (has_right (has_right (has_right (has_left (has_self c _))))))
  · exact has_left (has_left (has_right (has_right (has_right (has_right (has_self c _))))))

theorem scratch_eq (c : Dev nD) : (Pipeline.ΦA spec0 c : sProp (MT nD τ sig Unit (Elt F) ℕ (UR sig nD τ) ℕ))
    = iprop((held c (Memref.whole cc0_scratch0) ∗ held c (Memref.whole cc0_scratch1) ∗ held c (Memref.whole cc0_scratch2) ∗ held c (Memref.whole cc0_scratch3) ∗ held c (Memref.whole cc0_scratch4)) ∗ ∃ r, prngReg c r) := by
  unfold Pipeline.ΦA held
  rw [scopedRest0_eq]
  simp only [owns_whole]

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ (fun _ => true) := fun t => by
  have h := keeps_around m c t
  unfold Keeps around at h
  rw [defs₀_row]
  simp only [bigSep_W0]
  rw [← scratch_eq c] at h
  unfold held at h
  refine h.trans (wp_mono _ _ _ fun _ => ?_)
  iintro ⟨-, H⟩
  iexact H

/-- The buffers that the lines after the call write. -/
def written : Finset (Ref sig .tc) := {main_v47}

theorem writes_written : ∀ ops ∈ ([hostOps1] : List (List (HloOp τ sig (Elt F)))), ∀ op ∈ ops,
    ∀ b : Ref sig .tc, Proc.devRef .tc b ∈ op.writes → b ∈ written := by
  intro ops hops op hop
  simp only [List.mem_cons, List.mem_nil_iff, or_false] at hops
  rcases hops with rfl
  simp only [hostOps1, List.mem_cons, List.mem_nil_iff, or_false] at hop
  subst hop
  intro b hb; simp only [StableHlo.reshape_writes, Finset.mem_singleton] at hb; cases Proc.devRef_injective _ hb; decide

set_option backward.isDefEq.respectTransparency.types false in
set_option maxHeartbeats 800000 in
/-- The launch, with what the windows' arrays end at left open. -/
theorem run_main : θ_run defs (onTc (τ := τ) (main (F := F))) (s₀ m ρ)
    (fun r => Pipeline.RDat.FramePostR cfg0 (fun c => (dats m 0 c).toRForget (fun _ => true)) written (fun c b => V0 m c (Proc.devRef .tc b)) r ∧ r.2.sem = fun _ => 0) :=
  Pipeline.θ_run_frame_around_T_forget (Q' := _) cfgs (dats m) (0 : Fin 1) launch0 defs₀ Variants.none (fun _ => true) written m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hT := writes_written) (hmain := hmain m Variants.none) (hA := A_eq m) (hΦ := fun _ _ => rfl)

theorem outside (b : Ref sig .tc) (hs : b.isScoped = false) (ha : ∀ w, (spec0 w).arr.view.ref ≠ b) (hb : b ∉ written) :
    b ∈ Pipeline.restRefs sig spec0 \ written :=
  Finset.mem_sdiff.mpr ⟨Pipeline.mem_restRefs_of b hs ha, hb⟩

/-- Every argument ends as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨((h.1 c).2 main_arg0 (outside main_arg0 (by decide) (by decide) (by decide))).trans (V_main_arg0 m c),
      ((h.1 c).2 main_arg1 (outside main_arg1 (by decide) (by decide) (by decide))).trans (V_main_arg1 m c),
      ((h.1 c).2 main_arg2 (outside main_arg2 (by decide) (by decide) (by decide))).trans (V_main_arg2 m c),
      ((h.1 c).2 main_arg3 (outside main_arg3 (by decide) (by decide) (by decide))).trans (V_main_arg3 m c)⟩, h.2⟩) (run_main m ρ)

end Cert.Kernel5Ideal.AttnFwd

end
-- ==== Proof.lean ====
module

public import proofs.«01_k».proof.Defs
public import proofs.«01_k».proof.Proof.Gen.Kernel
public import proofs.«01_k».proof.Proof.Gen.Kernel2
public import proofs.«01_k».proof.Proof.Gen.Reference2Ideal.Run
public import proofs.«01_k».proof.Proof.Gen.Reference2Ideal.Read
public import proofs.«01_k».proof.Proof.Attn.Run
public import proofs.«01_k».proof.Proof.Attn.Algebraic
public import proofs.«01_k».proof.Proof.BwdPre.Algebraic
public import proofs.«01_k».proof.Proof.Gen.Kernel3
public import proofs.«01_k».proof.Proof.Gen.Kernel3Ideal.Frame
public import proofs.«01_k».proof.Proof.Gen.Kernel3Ideal.Value
public import proofs.«01_k».proof.Proof.FwdPre.Algebraic
public import proofs.«01_k».proof.Proof.Gen.Reference3Ideal.Run
public import proofs.«01_k».proof.Proof.Gen.Reference3Ideal.Read
public import proofs.«01_k».proof.Proof.Gen.Kernel4
public import proofs.«01_k».proof.Proof.Post.Run
public import proofs.«01_k».proof.Proof.Gen.Reference4Ideal.Run
public import proofs.«01_k».proof.Proof.Gen.Reference4Ideal.Read
public import proofs.«01_k».proof.Proof.Gen.Kernel5
public import proofs.«01_k».proof.Proof.AttnFwd.Run
public import proofs.«01_k».proof.Proof.Gen.Reference5Ideal.Run
public import proofs.«01_k».proof.Proof.Gen.Reference5Ideal.Read
public import Idealize.ShloMosaic.Lib.Quiescent

/-! The certificate: the frames of the five calls' programs and, of three, the equality of their results with the references'. -/

@[expose] public section

noncomputable section

namespace Cert.Proof

open Idealize.ShloMosaic Idealize.SL.Sem

/-- The kernel and its idealization have the same text: one run serves both. -/
theorem frame_kernel : Cert.quiescent_Kernel (hKernel := Cert.Kernel.Gen.facts) := fun m ρ _ =>
  cast (by sl_kernel_rfl)
    (θ_run_and (Cert.KernelIdeal.Gen.frame_of (F := Bits) m ρ (Cert.KernelIdeal.BwdPre.dats m) (Cert.KernelIdeal.BwdPre.A_eq m) (Cert.KernelIdeal.BwdPre.run_main m ρ))
      ((θ_run Cert.KernelIdeal.defs _ _).mono (fun _ h => h.2) (Cert.KernelIdeal.BwdPre.run_main_quiescent m ρ)))

theorem frame_ideal : Cert.quiescent_KernelIdeal (hKernelIdeal := Cert.KernelIdeal.Gen.facts) := fun m ρ _ =>
  θ_run_and (Cert.KernelIdeal.Gen.frame_of m ρ (Cert.KernelIdeal.BwdPre.dats m) (Cert.KernelIdeal.BwdPre.A_eq m) (Cert.KernelIdeal.BwdPre.run_main m ρ))
    ((θ_run Cert.KernelIdeal.defs _ _).mono (fun _ h => h.2) (Cert.KernelIdeal.BwdPre.run_main_quiescent m ρ))

theorem frame_reference : Cert.quiescent_ReferenceIdeal (hReferenceIdeal := Cert.ReferenceIdeal.Gen.facts) := fun m ρ _ =>
  (θ_run Cert.ReferenceIdeal.defs _ _).mono (fun _ h => ⟨fun c => (h c).2.2.2.2.2.2, sem_eq_zero_of_no_sems rfl _⟩)
    (Cert.ReferenceIdeal.Value.run m ρ)

/-- Over float words a named constant is the word that the kernel has. -/
instance wordsNamed : Named Bits where
  named _ _ {φ} bits := Scalar.ofBits φ bits

/-- The attention's kernel is its idealization with the named constant read as its word. -/
theorem frame_kernel2 : Cert.quiescent_Kernel2 (hKernel2 := Cert.Kernel2.Gen.facts) := fun m ρ _ =>
  cast (by sl_kernel_rfl)
    (θ_run_and (Cert.Kernel2Ideal.Gen.frame_of (F := Bits) m ρ (Cert.Kernel2Ideal.Attn.dats m) (Cert.Kernel2Ideal.Attn.A_eq m) (Cert.Kernel2Ideal.Attn.run_main m ρ))
      ((θ_run Cert.Kernel2Ideal.defs _ _).mono (fun _ h => h.2) (Cert.Kernel2Ideal.Attn.run_main_quiescent m ρ)))

theorem frame_ideal2 : Cert.quiescent_Kernel2Ideal (hKernel2Ideal := Cert.Kernel2Ideal.Gen.facts) := fun m ρ _ =>
  θ_run_and (Cert.Kernel2Ideal.Gen.frame_of m ρ (Cert.Kernel2Ideal.Attn.dats m) (Cert.Kernel2Ideal.Attn.A_eq m) (Cert.Kernel2Ideal.Attn.run_main m ρ))
    ((θ_run Cert.Kernel2Ideal.defs _ _).mono (fun _ h => h.2) (Cert.Kernel2Ideal.Attn.run_main_quiescent m ρ))

theorem frame_reference2 : Cert.quiescent_Reference2Ideal (hReference2Ideal := Cert.Reference2Ideal.Gen.facts) := fun m ρ _ =>
  (θ_run Cert.Reference2Ideal.defs _ _).mono (fun _ h => ⟨fun c => (h c).2.2.2, sem_eq_zero_of_no_sems rfl _⟩)
    (Cert.Reference2Ideal.Value.run m ρ)

/-- The kernel's factor `log 2` and its word. -/
theorem preserves2 : Cert.preserves_Kernel2_Kernel2Ideal :=
  IdealRules.named_const.statement Cert.Kernel2Ideal.κ "unscale" .f32 0x3F317218#32 ((Real.log 2 : ℝ) : EReal) rfl

theorem frame_kernel3 : Cert.quiescent_Kernel3 (hKernel3 := Cert.Kernel3.Gen.facts) := fun m ρ _ =>
  cast (by sl_kernel_rfl) (Cert.Kernel3Ideal.Gen.frame (F := Bits) m ρ)

theorem frame_ideal3 : Cert.quiescent_Kernel3Ideal (hKernel3Ideal := Cert.Kernel3Ideal.Gen.facts) := fun m ρ _ =>
  Cert.Kernel3Ideal.Gen.frame m ρ

theorem frame_reference3 : Cert.quiescent_Reference3Ideal (hReference3Ideal := Cert.Reference3Ideal.Gen.facts) := fun m ρ _ =>
  (θ_run Cert.Reference3Ideal.defs _ _).mono (fun _ h => ⟨fun c => (h c).2.2.2.2.2.2, sem_eq_zero_of_no_sems rfl _⟩)
    (Cert.Reference3Ideal.Value.run m ρ)

theorem frame_kernel4 : Cert.quiescent_Kernel4 (hKernel4 := Cert.Kernel4.Gen.facts) := fun m ρ _ =>
  cast (by sl_kernel_rfl) (Cert.Kernel4Ideal.Post.frame (F := Bits) m ρ)

theorem frame_ideal4 : Cert.quiescent_Kernel4Ideal (hKernel4Ideal := Cert.Kernel4Ideal.Gen.facts) := fun m ρ _ =>
  Cert.Kernel4Ideal.Post.frame m ρ

theorem frame_reference4 : Cert.quiescent_Reference4Ideal (hReference4Ideal := Cert.Reference4Ideal.Gen.facts) := fun m ρ _ =>
  (θ_run Cert.Reference4Ideal.defs _ _).mono (fun _ h => ⟨fun c => (h c).2.2.2.2.2.2.2.2.2.2.2.2.2.2, sem_eq_zero_of_no_sems rfl _⟩)
    (Cert.Reference4Ideal.Value.run m ρ)

theorem frame_kernel5 : Cert.quiescent_Kernel5 (hKernel5 := Cert.Kernel5.Gen.facts) := fun m ρ _ =>
  cast (by sl_kernel_rfl) (Cert.Kernel5Ideal.AttnFwd.frame (F := Bits) m ρ)

theorem frame_ideal5 : Cert.quiescent_Kernel5Ideal (hKernel5Ideal := Cert.Kernel5Ideal.Gen.facts) := fun m ρ _ =>
  Cert.Kernel5Ideal.AttnFwd.frame m ρ

theorem frame_reference5 : Cert.quiescent_Reference5Ideal (hReference5Ideal := Cert.Reference5Ideal.Gen.facts) := fun m ρ _ =>
  (θ_run Cert.Reference5Ideal.defs _ _).mono (fun _ h => ⟨fun c => (h c).2, sem_eq_zero_of_no_sems rfl _⟩)
    (Cert.Reference5Ideal.Value.run m ρ)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts, Cert.Pre_attn_finite.Gen.facts,
  frame_kernel, frame_ideal, fun m ρ _ => frame_ideal m ρ trivial, frame_reference, fun m ρ _ => frame_reference m ρ trivial,
  frame_kernel2, frame_ideal2, fun m ρ _ => frame_ideal2 m ρ trivial, frame_reference2, fun m ρ _ => frame_reference2 m ρ trivial,
  frame_kernel3, frame_ideal3, frame_reference3, frame_kernel4, frame_ideal4, frame_reference4,
  frame_kernel5, frame_ideal5, frame_reference5, trivial, Cert.BwdPre.algebraic, preserves2, Cert.Attn.algebraic, trivial, Cert.FwdPre.algebraic, trivial, trivial⟩

end Cert.Proof

end
